-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwRefIdeal (m : (ℓ : Loc Cert.DwRefIdeal.nD Cert.DwRefIdeal.τ Cert.DwRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_InA (m : (ℓ : Loc Cert.InA.nD Cert.InA.τ Cert.InA.sig) → Buf (Elt Bits) ℓ) : Prop :=
  True

def Pre_InAIdeal (m : (ℓ : Loc Cert.InAIdeal.nD Cert.InAIdeal.τ Cert.InAIdeal.sig) → Buf (Elt Ideal) ℓ) : Prop :=
  True

def Pre_InARefIdeal (m : (ℓ : Loc Cert.InARefIdeal.nD Cert.InARefIdeal.τ Cert.InARefIdeal.sig) → Buf (Elt Ideal) ℓ) : Prop :=
  True

def Pre_InB (m : (ℓ : Loc Cert.InB.nD Cert.InB.τ Cert.InB.sig) → Buf (Elt Bits) ℓ) : Prop :=
  True

def Pre_InBIdeal (m : (ℓ : Loc Cert.InBIdeal.nD Cert.InBIdeal.τ Cert.InBIdeal.sig) → Buf (Elt Ideal) ℓ) : Prop :=
  True

def Pre_InBRefIdeal (m : (ℓ : Loc Cert.InBRefIdeal.nD Cert.InBRefIdeal.τ Cert.InBRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchRefIdeal (m : (ℓ : Loc Cert.BranchRefIdeal.nD Cert.BranchRefIdeal.τ Cert.BranchRefIdeal.sig) → Buf (Elt Ideal) ℓ) : Prop :=
  True

def Pre_DwBranch (m : (ℓ : Loc Cert.DwBranch.nD Cert.DwBranch.τ Cert.DwBranch.sig) → Buf (Elt Bits) ℓ) : Prop :=
  True

def Pre_DwBranchIdeal (m : (ℓ : Loc Cert.DwBranchIdeal.nD Cert.DwBranchIdeal.τ Cert.DwBranchIdeal.sig) → Buf (Elt Ideal) ℓ) : Prop :=
  True

def Pre_DwBranchRefIdeal (m : (ℓ : Loc Cert.DwBranchRefIdeal.nD Cert.DwBranchRefIdeal.τ Cert.DwBranchRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_Pre (m : (ℓ : Loc Cert.Pre.nD Cert.Pre.τ Cert.Pre.sig) → Buf (Elt Bits) ℓ) : Prop :=
  True

def Pre_PreIdeal (m : (ℓ : Loc Cert.PreIdeal.nD Cert.PreIdeal.τ Cert.PreIdeal.sig) → Buf (Elt Ideal) ℓ) : Prop :=
  True

def Pre_PreRefIdeal (m : (ℓ : Loc Cert.PreRefIdeal.nD Cert.PreRefIdeal.τ Cert.PreRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownIdeal_finite_down [hPre_finite_down : Cert.Pre_finite_down.Facts] (m : (ℓ : Loc Cert.DownIdeal.nD Cert.DownIdeal.τ Cert.DownIdeal.sig) → Buf (Elt Ideal) ℓ) : Prop :=
  ∀ c : Dev Cert.DownIdeal.nD,
    (Cert.Pre_finite_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3))).1 = (fun _ => 1#1)
    ∧ (Cert.Pre_finite_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3))).2.1 = (fun _ => 1#1)
    ∧ (Cert.Pre_finite_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3))).2.2 = (fun _ => 1#1)

def Pre_DownRefIdeal (m : (ℓ : Loc Cert.DownRefIdeal.nD Cert.DownRefIdeal.τ Cert.DownRefIdeal.sig) → Buf (Elt Ideal) ℓ) : Prop :=
  True

def Pre_DownRefIdeal_finite_down [hPre_finite_down : Cert.Pre_finite_down.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_finite_down.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3))).1 = (fun _ => 1#1)
    ∧ (Cert.Pre_finite_down.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3))).2.1 = (fun _ => 1#1)
    ∧ (Cert.Pre_finite_down.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3))).2.2 = (fun _ => 1#1)

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamBranch (m : (ℓ : Loc Cert.AdamBranch.nD Cert.AdamBranch.τ Cert.AdamBranch.sig) → Buf (Elt Bits) ℓ) : Prop :=
  True

def Pre_AdamBranchIdeal (m : (ℓ : Loc Cert.AdamBranchIdeal.nD Cert.AdamBranchIdeal.τ Cert.AdamBranchIdeal.sig) → Buf (Elt Ideal) ℓ) : Prop :=
  True

def Pre_AdamBranchRefIdeal (m : (ℓ : Loc Cert.AdamBranchRefIdeal.nD Cert.AdamBranchRefIdeal.τ Cert.AdamBranchRefIdeal.sig) → Buf (Elt Ideal) ℓ) : Prop :=
  True

def Pre_AdamFfn (m : (ℓ : Loc Cert.AdamFfn.nD Cert.AdamFfn.τ Cert.AdamFfn.sig) → Buf (Elt Bits) ℓ) : Prop :=
  True

def Pre_AdamFfnIdeal (m : (ℓ : Loc Cert.AdamFfnIdeal.nD Cert.AdamFfnIdeal.τ Cert.AdamFfnIdeal.sig) → Buf (Elt Ideal) ℓ) : Prop :=
  True

def Pre_AdamFfnRefIdeal (m : (ℓ : Loc Cert.AdamFfnRefIdeal.nD Cert.AdamFfnRefIdeal.τ Cert.AdamFfnRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4)
      ∧ r.2.mem ((c.tc : Thread Cert.Gate.nD Cert.Gate.τ).loc Cert.Gate.main_arg5) = m ((c.tc : Thread Cert.Gate.nD Cert.Gate.τ).loc Cert.Gate.main_arg5)
      ∧ r.2.mem ((c.tc : Thread Cert.Gate.nD Cert.Gate.τ).loc Cert.Gate.main_arg6) = m ((c.tc : Thread Cert.Gate.nD Cert.Gate.τ).loc Cert.Gate.main_arg6)
      ∧ r.2.mem ((c.tc : Thread Cert.Gate.nD Cert.Gate.τ).loc Cert.Gate.main_arg7) = m ((c.tc : Thread Cert.Gate.nD Cert.Gate.τ).loc Cert.Gate.main_arg7)
      ∧ r.2.mem ((c.tc : Thread Cert.Gate.nD Cert.Gate.τ).loc Cert.Gate.main_arg8) = m ((c.tc : Thread Cert.Gate.nD Cert.Gate.τ).loc Cert.Gate.main_arg8))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
      ∧ r.2.mem ((c.tc : Thread Cert.GateIdeal.nD Cert.GateIdeal.τ).loc Cert.GateIdeal.main_arg6) = m ((c.tc : Thread Cert.GateIdeal.nD Cert.GateIdeal.τ).loc Cert.GateIdeal.main_arg6)
      ∧ r.2.mem ((c.tc : Thread Cert.GateIdeal.nD Cert.GateIdeal.τ).loc Cert.GateIdeal.main_arg7) = m ((c.tc : Thread Cert.GateIdeal.nD Cert.GateIdeal.τ).loc Cert.GateIdeal.main_arg7)
      ∧ r.2.mem ((c.tc : Thread Cert.GateIdeal.nD Cert.GateIdeal.τ).loc Cert.GateIdeal.main_arg8) = m ((c.tc : Thread Cert.GateIdeal.nD Cert.GateIdeal.τ).loc Cert.GateIdeal.main_arg8))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5)
      ∧ r.2.mem ((c.tc : Thread Cert.GateRefIdeal.nD Cert.GateRefIdeal.τ).loc Cert.GateRefIdeal.main_arg6) = m ((c.tc : Thread Cert.GateRefIdeal.nD Cert.GateRefIdeal.τ).loc Cert.GateRefIdeal.main_arg6)
      ∧ r.2.mem ((c.tc : Thread Cert.GateRefIdeal.nD Cert.GateRefIdeal.τ).loc Cert.GateRefIdeal.main_arg7) = m ((c.tc : Thread Cert.GateRefIdeal.nD Cert.GateRefIdeal.τ).loc Cert.GateRefIdeal.main_arg7)
      ∧ r.2.mem ((c.tc : Thread Cert.GateRefIdeal.nD Cert.GateRefIdeal.τ).loc Cert.GateRefIdeal.main_arg8) = m ((c.tc : Thread Cert.GateRefIdeal.nD Cert.GateRefIdeal.τ).loc Cert.GateRefIdeal.main_arg8))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_InA [hInA : Cert.InA.Facts] : Prop :=
  ∀ (m : (ℓ : Loc Cert.InA.nD Cert.InA.τ Cert.InA.sig) → Buf (Elt Bits) ℓ) (g : Dev Cert.InA.nD → PrngReg), Pre_InA m →
    θ_run (Cert.InA.defs (F := Bits)) (onTc (τ := Cert.InA.τ) (Cert.InA.main (F := Bits))) ⟨m, fun _ => 0, g⟩ (fun r => (∀ c : Dev Cert.InA.nD,
      r.2.mem ((c.tc : Thread Cert.InA.nD Cert.InA.τ).loc Cert.InA.main_arg0) = m ((c.tc : Thread Cert.InA.nD Cert.InA.τ).loc Cert.InA.main_arg0)
      ∧ r.2.mem ((c.tc : Thread Cert.InA.nD Cert.InA.τ).loc Cert.InA.main_arg1) = m ((c.tc : Thread Cert.InA.nD Cert.InA.τ).loc Cert.InA.main_arg1))
      ∧ r.2.sem = fun _ => 0)

def quiescent_InAIdeal [hInAIdeal : Cert.InAIdeal.Facts] : Prop :=
  ∀ (m : (ℓ : Loc Cert.InAIdeal.nD Cert.InAIdeal.τ Cert.InAIdeal.sig) → Buf (Elt Ideal) ℓ) (g : Dev Cert.InAIdeal.nD → PrngReg), Pre_InAIdeal m →
    θ_run (Cert.InAIdeal.defs (F := Ideal)) (onTc (τ := Cert.InAIdeal.τ) (Cert.InAIdeal.main (F := Ideal))) ⟨m, fun _ => 0, g⟩ (fun r => (∀ c : Dev Cert.InAIdeal.nD,
      r.2.mem ((c.tc : Thread Cert.InAIdeal.nD Cert.InAIdeal.τ).loc Cert.InAIdeal.main_arg0) = m ((c.tc : Thread Cert.InAIdeal.nD Cert.InAIdeal.τ).loc Cert.InAIdeal.main_arg0)
      ∧ r.2.mem ((c.tc : Thread Cert.InAIdeal.nD Cert.InAIdeal.τ).loc Cert.InAIdeal.main_arg1) = m ((c.tc : Thread Cert.InAIdeal.nD Cert.InAIdeal.τ).loc Cert.InAIdeal.main_arg1))
      ∧ r.2.sem = fun _ => 0)

def quiescent_InARefIdeal [hInARefIdeal : Cert.InARefIdeal.Facts] : Prop :=
  ∀ (m : (ℓ : Loc Cert.InARefIdeal.nD Cert.InARefIdeal.τ Cert.InARefIdeal.sig) → Buf (Elt Ideal) ℓ) (g : Dev Cert.InARefIdeal.nD → PrngReg), Pre_InARefIdeal m →
    θ_run (Cert.InARefIdeal.defs (F := Ideal)) (onTc (τ := Cert.InARefIdeal.τ) (Cert.InARefIdeal.main (F := Ideal))) ⟨m, fun _ => 0, g⟩ (fun r => (∀ c : Dev Cert.InARefIdeal.nD,
      r.2.mem ((c.tc : Thread Cert.InARefIdeal.nD Cert.InARefIdeal.τ).loc Cert.InARefIdeal.main_arg0) = m ((c.tc : Thread Cert.InARefIdeal.nD Cert.InARefIdeal.τ).loc Cert.InARefIdeal.main_arg0)
      ∧ r.2.mem ((c.tc : Thread Cert.InARefIdeal.nD Cert.InARefIdeal.τ).loc Cert.InARefIdeal.main_arg1) = m ((c.tc : Thread Cert.InARefIdeal.nD Cert.InARefIdeal.τ).loc Cert.InARefIdeal.main_arg1))
      ∧ r.2.sem = fun _ => 0)

def quiescent_InB [hInB : Cert.InB.Facts] : Prop :=
  ∀ (m : (ℓ : Loc Cert.InB.nD Cert.InB.τ Cert.InB.sig) → Buf (Elt Bits) ℓ) (g : Dev Cert.InB.nD → PrngReg), Pre_InB m →
    θ_run (Cert.InB.defs (F := Bits)) (onTc (τ := Cert.InB.τ) (Cert.InB.main (F := Bits))) ⟨m, fun _ => 0, g⟩ (fun r => (∀ c : Dev Cert.InB.nD,
      r.2.mem ((c.tc : Thread Cert.InB.nD Cert.InB.τ).loc Cert.InB.main_arg0) = m ((c.tc : Thread Cert.InB.nD Cert.InB.τ).loc Cert.InB.main_arg0)
      ∧ r.2.mem ((c.tc : Thread Cert.InB.nD Cert.InB.τ).loc Cert.InB.main_arg1) = m ((c.tc : Thread Cert.InB.nD Cert.InB.τ).loc Cert.InB.main_arg1))
      ∧ r.2.sem = fun _ => 0)

def quiescent_InBIdeal [hInBIdeal : Cert.InBIdeal.Facts] : Prop :=
  ∀ (m : (ℓ : Loc Cert.InBIdeal.nD Cert.InBIdeal.τ Cert.InBIdeal.sig) → Buf (Elt Ideal) ℓ) (g : Dev Cert.InBIdeal.nD → PrngReg), Pre_InBIdeal m →
    θ_run (Cert.InBIdeal.defs (F := Ideal)) (onTc (τ := Cert.InBIdeal.τ) (Cert.InBIdeal.main (F := Ideal))) ⟨m, fun _ => 0, g⟩ (fun r => (∀ c : Dev Cert.InBIdeal.nD,
      r.2.mem ((c.tc : Thread Cert.InBIdeal.nD Cert.InBIdeal.τ).loc Cert.InBIdeal.main_arg0) = m ((c.tc : Thread Cert.InBIdeal.nD Cert.InBIdeal.τ).loc Cert.InBIdeal.main_arg0)
      ∧ r.2.mem ((c.tc : Thread Cert.InBIdeal.nD Cert.InBIdeal.τ).loc Cert.InBIdeal.main_arg1) = m ((c.tc : Thread Cert.InBIdeal.nD Cert.InBIdeal.τ).loc Cert.InBIdeal.main_arg1))
      ∧ r.2.sem = fun _ => 0)

def quiescent_InBRefIdeal [hInBRefIdeal : Cert.InBRefIdeal.Facts] : Prop :=
  ∀ (m : (ℓ : Loc Cert.InBRefIdeal.nD Cert.InBRefIdeal.τ Cert.InBRefIdeal.sig) → Buf (Elt Ideal) ℓ) (g : Dev Cert.InBRefIdeal.nD → PrngReg), Pre_InBRefIdeal m →
    θ_run (Cert.InBRefIdeal.defs (F := Ideal)) (onTc (τ := Cert.InBRefIdeal.τ) (Cert.InBRefIdeal.main (F := Ideal))) ⟨m, fun _ => 0, g⟩ (fun r => (∀ c : Dev Cert.InBRefIdeal.nD,
      r.2.mem ((c.tc : Thread Cert.InBRefIdeal.nD Cert.InBRefIdeal.τ).loc Cert.InBRefIdeal.main_arg0) = m ((c.tc : Thread Cert.InBRefIdeal.nD Cert.InBRefIdeal.τ).loc Cert.InBRefIdeal.main_arg0)
      ∧ r.2.mem ((c.tc : Thread Cert.InBRefIdeal.nD Cert.InBRefIdeal.τ).loc Cert.InBRefIdeal.main_arg1) = m ((c.tc : Thread Cert.InBRefIdeal.nD Cert.InBRefIdeal.τ).loc Cert.InBRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1)
      ∧ r.2.mem ((c.tc : Thread Cert.Branch.nD Cert.Branch.τ).loc Cert.Branch.main_arg2) = m ((c.tc : Thread Cert.Branch.nD Cert.Branch.τ).loc Cert.Branch.main_arg2)
      ∧ r.2.mem ((c.tc : Thread Cert.Branch.nD Cert.Branch.τ).loc Cert.Branch.main_arg3) = m ((c.tc : Thread Cert.Branch.nD Cert.Branch.τ).loc Cert.Branch.main_arg3)
      ∧ r.2.mem ((c.tc : Thread Cert.Branch.nD Cert.Branch.τ).loc Cert.Branch.main_arg4) = m ((c.tc : Thread Cert.Branch.nD Cert.Branch.τ).loc Cert.Branch.main_arg4)
      ∧ r.2.mem ((c.tc : Thread Cert.Branch.nD Cert.Branch.τ).loc Cert.Branch.main_arg5) = m ((c.tc : Thread Cert.Branch.nD Cert.Branch.τ).loc Cert.Branch.main_arg5)
      ∧ r.2.mem ((c.tc : Thread Cert.Branch.nD Cert.Branch.τ).loc Cert.Branch.main_arg6) = m ((c.tc : Thread Cert.Branch.nD Cert.Branch.τ).loc Cert.Branch.main_arg6))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1)
      ∧ r.2.mem ((c.tc : Thread Cert.BranchIdeal.nD Cert.BranchIdeal.τ).loc Cert.BranchIdeal.main_arg2) = m ((c.tc : Thread Cert.BranchIdeal.nD Cert.BranchIdeal.τ).loc Cert.BranchIdeal.main_arg2)
      ∧ r.2.mem ((c.tc : Thread Cert.BranchIdeal.nD Cert.BranchIdeal.τ).loc Cert.BranchIdeal.main_arg3) = m ((c.tc : Thread Cert.BranchIdeal.nD Cert.BranchIdeal.τ).loc Cert.BranchIdeal.main_arg3)
      ∧ r.2.mem ((c.tc : Thread Cert.BranchIdeal.nD Cert.BranchIdeal.τ).loc Cert.BranchIdeal.main_arg4) = m ((c.tc : Thread Cert.BranchIdeal.nD Cert.BranchIdeal.τ).loc Cert.BranchIdeal.main_arg4)
      ∧ r.2.mem ((c.tc : Thread Cert.BranchIdeal.nD Cert.BranchIdeal.τ).loc Cert.BranchIdeal.main_arg5) = m ((c.tc : Thread Cert.BranchIdeal.nD Cert.BranchIdeal.τ).loc Cert.BranchIdeal.main_arg5)
      ∧ r.2.mem ((c.tc : Thread Cert.BranchIdeal.nD Cert.BranchIdeal.τ).loc Cert.BranchIdeal.main_arg6) = m ((c.tc : Thread Cert.BranchIdeal.nD Cert.BranchIdeal.τ).loc Cert.BranchIdeal.main_arg6))
      ∧ r.2.sem = fun _ => 0)

def quiescent_BranchRefIdeal [hBranchRefIdeal : Cert.BranchRefIdeal.Facts] : Prop :=
  ∀ (m : (ℓ : Loc Cert.BranchRefIdeal.nD Cert.BranchRefIdeal.τ Cert.BranchRefIdeal.sig) → Buf (Elt Ideal) ℓ) (g : Dev Cert.BranchRefIdeal.nD → PrngReg), Pre_BranchRefIdeal m →
    θ_run (Cert.BranchRefIdeal.defs (F := Ideal)) (onTc (τ := Cert.BranchRefIdeal.τ) (Cert.BranchRefIdeal.main (F := Ideal))) ⟨m, fun _ => 0, g⟩ (fun r => (∀ c : Dev Cert.BranchRefIdeal.nD,
      r.2.mem ((c.tc : Thread Cert.BranchRefIdeal.nD Cert.BranchRefIdeal.τ).loc Cert.BranchRefIdeal.main_arg0) = m ((c.tc : Thread Cert.BranchRefIdeal.nD Cert.BranchRefIdeal.τ).loc Cert.BranchRefIdeal.main_arg0)
      ∧ r.2.mem ((c.tc : Thread Cert.BranchRefIdeal.nD Cert.BranchRefIdeal.τ).loc Cert.BranchRefIdeal.main_arg1) = m ((c.tc : Thread Cert.BranchRefIdeal.nD Cert.BranchRefIdeal.τ).loc Cert.BranchRefIdeal.main_arg1)
      ∧ r.2.mem ((c.tc : Thread Cert.BranchRefIdeal.nD Cert.BranchRefIdeal.τ).loc Cert.BranchRefIdeal.main_arg2) = m ((c.tc : Thread Cert.BranchRefIdeal.nD Cert.BranchRefIdeal.τ).loc Cert.BranchRefIdeal.main_arg2)
      ∧ r.2.mem ((c.tc : Thread Cert.BranchRefIdeal.nD Cert.BranchRefIdeal.τ).loc Cert.BranchRefIdeal.main_arg3) = m ((c.tc : Thread Cert.BranchRefIdeal.nD Cert.BranchRefIdeal.τ).loc Cert.BranchRefIdeal.main_arg3)
      ∧ r.2.mem ((c.tc : Thread Cert.BranchRefIdeal.nD Cert.BranchRefIdeal.τ).loc Cert.BranchRefIdeal.main_arg4) = m ((c.tc : Thread Cert.BranchRefIdeal.nD Cert.BranchRefIdeal.τ).loc Cert.BranchRefIdeal.main_arg4)
      ∧ r.2.mem ((c.tc : Thread Cert.BranchRefIdeal.nD Cert.BranchRefIdeal.τ).loc Cert.BranchRefIdeal.main_arg5) = m ((c.tc : Thread Cert.BranchRefIdeal.nD Cert.BranchRefIdeal.τ).loc Cert.BranchRefIdeal.main_arg5)
      ∧ r.2.mem ((c.tc : Thread Cert.BranchRefIdeal.nD Cert.BranchRefIdeal.τ).loc Cert.BranchRefIdeal.main_arg6) = m ((c.tc : Thread Cert.BranchRefIdeal.nD Cert.BranchRefIdeal.τ).loc Cert.BranchRefIdeal.main_arg6))
      ∧ r.2.sem = fun _ => 0)

def quiescent_DwBranch [hDwBranch : Cert.DwBranch.Facts] : Prop :=
  ∀ (m : (ℓ : Loc Cert.DwBranch.nD Cert.DwBranch.τ Cert.DwBranch.sig) → Buf (Elt Bits) ℓ) (g : Dev Cert.DwBranch.nD → PrngReg), Pre_DwBranch m →
    θ_run (Cert.DwBranch.defs (F := Bits)) (onTc (τ := Cert.DwBranch.τ) (Cert.DwBranch.main (F := Bits))) ⟨m, fun _ => 0, g⟩ (fun r => (∀ c : Dev Cert.DwBranch.nD,
      r.2.mem ((c.tc : Thread Cert.DwBranch.nD Cert.DwBranch.τ).loc Cert.DwBranch.main_arg0) = m ((c.tc : Thread Cert.DwBranch.nD Cert.DwBranch.τ).loc Cert.DwBranch.main_arg0)
      ∧ r.2.mem ((c.tc : Thread Cert.DwBranch.nD Cert.DwBranch.τ).loc Cert.DwBranch.main_arg1) = m ((c.tc : Thread Cert.DwBranch.nD Cert.DwBranch.τ).loc Cert.DwBranch.main_arg1))
      ∧ r.2.sem = fun _ => 0)

def quiescent_DwBranchIdeal [hDwBranchIdeal : Cert.DwBranchIdeal.Facts] : Prop :=
  ∀ (m : (ℓ : Loc Cert.DwBranchIdeal.nD Cert.DwBranchIdeal.τ Cert.DwBranchIdeal.sig) → Buf (Elt Ideal) ℓ) (g : Dev Cert.DwBranchIdeal.nD → PrngReg), Pre_DwBranchIdeal m →
    θ_run (Cert.DwBranchIdeal.defs (F := Ideal)) (onTc (τ := Cert.DwBranchIdeal.τ) (Cert.DwBranchIdeal.main (F := Ideal))) ⟨m, fun _ => 0, g⟩ (fun r => (∀ c : Dev Cert.DwBranchIdeal.nD,
      r.2.mem ((c.tc : Thread Cert.DwBranchIdeal.nD Cert.DwBranchIdeal.τ).loc Cert.DwBranchIdeal.main_arg0) = m ((c.tc : Thread Cert.DwBranchIdeal.nD Cert.DwBranchIdeal.τ).loc Cert.DwBranchIdeal.main_arg0)
      ∧ r.2.mem ((c.tc : Thread Cert.DwBranchIdeal.nD Cert.DwBranchIdeal.τ).loc Cert.DwBranchIdeal.main_arg1) = m ((c.tc : Thread Cert.DwBranchIdeal.nD Cert.DwBranchIdeal.τ).loc Cert.DwBranchIdeal.main_arg1))
      ∧ r.2.sem = fun _ => 0)

def quiescent_DwBranchRefIdeal [hDwBranchRefIdeal : Cert.DwBranchRefIdeal.Facts] : Prop :=
  ∀ (m : (ℓ : Loc Cert.DwBranchRefIdeal.nD Cert.DwBranchRefIdeal.τ Cert.DwBranchRefIdeal.sig) → Buf (Elt Ideal) ℓ) (g : Dev Cert.DwBranchRefIdeal.nD → PrngReg), Pre_DwBranchRefIdeal m →
    θ_run (Cert.DwBranchRefIdeal.defs (F := Ideal)) (onTc (τ := Cert.DwBranchRefIdeal.τ) (Cert.DwBranchRefIdeal.main (F := Ideal))) ⟨m, fun _ => 0, g⟩ (fun r => (∀ c : Dev Cert.DwBranchRefIdeal.nD,
      r.2.mem ((c.tc : Thread Cert.DwBranchRefIdeal.nD Cert.DwBranchRefIdeal.τ).loc Cert.DwBranchRefIdeal.main_arg0) = m ((c.tc : Thread Cert.DwBranchRefIdeal.nD Cert.DwBranchRefIdeal.τ).loc Cert.DwBranchRefIdeal.main_arg0)
      ∧ r.2.mem ((c.tc : Thread Cert.DwBranchRefIdeal.nD Cert.DwBranchRefIdeal.τ).loc Cert.DwBranchRefIdeal.main_arg1) = m ((c.tc : Thread Cert.DwBranchRefIdeal.nD Cert.DwBranchRefIdeal.τ).loc Cert.DwBranchRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_Pre [hPre : Cert.Pre.Facts] : Prop :=
  ∀ (m : (ℓ : Loc Cert.Pre.nD Cert.Pre.τ Cert.Pre.sig) → Buf (Elt Bits) ℓ) (g : Dev Cert.Pre.nD → PrngReg), Pre_Pre m →
    θ_run (Cert.Pre.defs (F := Bits)) (onTc (τ := Cert.Pre.τ) (Cert.Pre.main (F := Bits))) ⟨m, fun _ => 0, g⟩ (fun r => (∀ c : Dev Cert.Pre.nD,
      r.2.mem ((c.tc : Thread Cert.Pre.nD Cert.Pre.τ).loc Cert.Pre.main_arg0) = m ((c.tc : Thread Cert.Pre.nD Cert.Pre.τ).loc Cert.Pre.main_arg0)
      ∧ r.2.mem ((c.tc : Thread Cert.Pre.nD Cert.Pre.τ).loc Cert.Pre.main_arg1) = m ((c.tc : Thread Cert.Pre.nD Cert.Pre.τ).loc Cert.Pre.main_arg1)
      ∧ r.2.mem ((c.tc : Thread Cert.Pre.nD Cert.Pre.τ).loc Cert.Pre.main_arg2) = m ((c.tc : Thread Cert.Pre.nD Cert.Pre.τ).loc Cert.Pre.main_arg2)
      ∧ r.2.mem ((c.tc : Thread Cert.Pre.nD Cert.Pre.τ).loc Cert.Pre.main_arg3) = m ((c.tc : Thread Cert.Pre.nD Cert.Pre.τ).loc Cert.Pre.main_arg3)
      ∧ r.2.mem ((c.tc : Thread Cert.Pre.nD Cert.Pre.τ).loc Cert.Pre.main_arg4) = m ((c.tc : Thread Cert.Pre.nD Cert.Pre.τ).loc Cert.Pre.main_arg4))
      ∧ r.2.sem = fun _ => 0)

def quiescent_PreIdeal [hPreIdeal : Cert.PreIdeal.Facts] : Prop :=
  ∀ (m : (ℓ : Loc Cert.PreIdeal.nD Cert.PreIdeal.τ Cert.PreIdeal.sig) → Buf (Elt Ideal) ℓ) (g : Dev Cert.PreIdeal.nD → PrngReg), Pre_PreIdeal m →
    θ_run (Cert.PreIdeal.defs (F := Ideal)) (onTc (τ := Cert.PreIdeal.τ) (Cert.PreIdeal.main (F := Ideal))) ⟨m, fun _ => 0, g⟩ (fun r => (∀ c : Dev Cert.PreIdeal.nD,
      r.2.mem ((c.tc : Thread Cert.PreIdeal.nD Cert.PreIdeal.τ).loc Cert.PreIdeal.main_arg0) = m ((c.tc : Thread Cert.PreIdeal.nD Cert.PreIdeal.τ).loc Cert.PreIdeal.main_arg0)
      ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
      ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
      ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
      ∧ r.2.mem ((c.tc : Thread Cert.PreIdeal.nD Cert.PreIdeal.τ).loc Cert.PreIdeal.main_arg4) = m ((c.tc : Thread Cert.PreIdeal.nD Cert.PreIdeal.τ).loc Cert.PreIdeal.main_arg4))
      ∧ r.2.sem = fun _ => 0)

def quiescent_PreRefIdeal [hPreRefIdeal : Cert.PreRefIdeal.Facts] : Prop :=
  ∀ (m : (ℓ : Loc Cert.PreRefIdeal.nD Cert.PreRefIdeal.τ Cert.PreRefIdeal.sig) → Buf (Elt Ideal) ℓ) (g : Dev Cert.PreRefIdeal.nD → PrngReg), Pre_PreRefIdeal m →
    θ_run (Cert.PreRefIdeal.defs (F := Ideal)) (onTc (τ := Cert.PreRefIdeal.τ) (Cert.PreRefIdeal.main (F := Ideal))) ⟨m, fun _ => 0, g⟩ (fun r => (∀ c : Dev Cert.PreRefIdeal.nD,
      r.2.mem ((c.tc : Thread Cert.PreRefIdeal.nD Cert.PreRefIdeal.τ).loc Cert.PreRefIdeal.main_arg0) = m ((c.tc : Thread Cert.PreRefIdeal.nD Cert.PreRefIdeal.τ).loc Cert.PreRefIdeal.main_arg0)
      ∧ r.2.mem ((c.tc : Thread Cert.PreRefIdeal.nD Cert.PreRefIdeal.τ).loc Cert.PreRefIdeal.main_arg1) = m ((c.tc : Thread Cert.PreRefIdeal.nD Cert.PreRefIdeal.τ).loc Cert.PreRefIdeal.main_arg1)
      ∧ r.2.mem ((c.tc : Thread Cert.PreRefIdeal.nD Cert.PreRefIdeal.τ).loc Cert.PreRefIdeal.main_arg2) = m ((c.tc : Thread Cert.PreRefIdeal.nD Cert.PreRefIdeal.τ).loc Cert.PreRefIdeal.main_arg2)
      ∧ r.2.mem ((c.tc : Thread Cert.PreRefIdeal.nD Cert.PreRefIdeal.τ).loc Cert.PreRefIdeal.main_arg3) = m ((c.tc : Thread Cert.PreRefIdeal.nD Cert.PreRefIdeal.τ).loc Cert.PreRefIdeal.main_arg3)
      ∧ r.2.mem ((c.tc : Thread Cert.PreRefIdeal.nD Cert.PreRefIdeal.τ).loc Cert.PreRefIdeal.main_arg4) = m ((c.tc : Thread Cert.PreRefIdeal.nD Cert.PreRefIdeal.τ).loc Cert.PreRefIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownIdeal_pre_finite_down [hDownIdeal : Cert.DownIdeal.Facts] [hPre_finite_down : Cert.Pre_finite_down.Facts] : Prop :=
  ∀ (m : (ℓ : Loc Cert.DownIdeal.nD Cert.DownIdeal.τ Cert.DownIdeal.sig) → Buf (Elt Ideal) ℓ) (g : Dev Cert.DownIdeal.nD → PrngReg), Pre_DownIdeal_finite_down m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_DownRefIdeal_pre_finite_down [hDownRefIdeal : Cert.DownRefIdeal.Facts] [hPre_finite_down : Cert.Pre_finite_down.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal_finite_down m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7)
      ∧ r.2.mem ((c.tc : Thread Cert.Mid.nD Cert.Mid.τ).loc Cert.Mid.main_arg8) = m ((c.tc : Thread Cert.Mid.nD Cert.Mid.τ).loc Cert.Mid.main_arg8))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6)
      ∧ r.2.mem ((c.tc : Thread Cert.MidRefIdeal.nD Cert.MidRefIdeal.τ).loc Cert.MidRefIdeal.main_arg7) = m ((c.tc : Thread Cert.MidRefIdeal.nD Cert.MidRefIdeal.τ).loc Cert.MidRefIdeal.main_arg7)
      ∧ r.2.mem ((c.tc : Thread Cert.MidRefIdeal.nD Cert.MidRefIdeal.τ).loc Cert.MidRefIdeal.main_arg8) = m ((c.tc : Thread Cert.MidRefIdeal.nD Cert.MidRefIdeal.τ).loc Cert.MidRefIdeal.main_arg8))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamBranch [hAdamBranch : Cert.AdamBranch.Facts] : Prop :=
  ∀ (m : (ℓ : Loc Cert.AdamBranch.nD Cert.AdamBranch.τ Cert.AdamBranch.sig) → Buf (Elt Bits) ℓ) (g : Dev Cert.AdamBranch.nD → PrngReg), Pre_AdamBranch m →
    θ_run (Cert.AdamBranch.defs (F := Bits)) (onTc (τ := Cert.AdamBranch.τ) (Cert.AdamBranch.main (F := Bits))) ⟨m, fun _ => 0, g⟩ (fun r => (∀ c : Dev Cert.AdamBranch.nD,
      r.2.mem ((c.tc : Thread Cert.AdamBranch.nD Cert.AdamBranch.τ).loc Cert.AdamBranch.main_arg0) = m ((c.tc : Thread Cert.AdamBranch.nD Cert.AdamBranch.τ).loc Cert.AdamBranch.main_arg0)
      ∧ r.2.mem ((c.tc : Thread Cert.AdamBranch.nD Cert.AdamBranch.τ).loc Cert.AdamBranch.main_arg1) = m ((c.tc : Thread Cert.AdamBranch.nD Cert.AdamBranch.τ).loc Cert.AdamBranch.main_arg1)
      ∧ r.2.mem ((c.tc : Thread Cert.AdamBranch.nD Cert.AdamBranch.τ).loc Cert.AdamBranch.main_arg2) = m ((c.tc : Thread Cert.AdamBranch.nD Cert.AdamBranch.τ).loc Cert.AdamBranch.main_arg2)
      ∧ r.2.mem ((c.tc : Thread Cert.AdamBranch.nD Cert.AdamBranch.τ).loc Cert.AdamBranch.main_arg3) = m ((c.tc : Thread Cert.AdamBranch.nD Cert.AdamBranch.τ).loc Cert.AdamBranch.main_arg3))
      ∧ r.2.sem = fun _ => 0)

def quiescent_AdamBranchIdeal [hAdamBranchIdeal : Cert.AdamBranchIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg), Pre_AdamBranchIdeal m →
    θ_run (Cert.AdamBranchIdeal.defs (F := Ideal)) (onTc (τ := Cert.AdamBranchIdeal.τ) (Cert.AdamBranchIdeal.main (F := Ideal))) ⟨m, fun _ => 0, g⟩ (fun r => (∀ c : Dev Cert.AdamBranchIdeal.nD,
      r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
      ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
      ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
      ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ r.2.sem = fun _ => 0)

def quiescent_AdamBranchRefIdeal [hAdamBranchRefIdeal : Cert.AdamBranchRefIdeal.Facts] : Prop :=
  ∀ (m : (ℓ : Loc Cert.AdamBranchRefIdeal.nD Cert.AdamBranchRefIdeal.τ Cert.AdamBranchRefIdeal.sig) → Buf (Elt Ideal) ℓ) (g : Dev Cert.AdamBranchRefIdeal.nD → PrngReg), Pre_AdamBranchRefIdeal m →
    θ_run (Cert.AdamBranchRefIdeal.defs (F := Ideal)) (onTc (τ := Cert.AdamBranchRefIdeal.τ) (Cert.AdamBranchRefIdeal.main (F := Ideal))) ⟨m, fun _ => 0, g⟩ (fun r => (∀ c : Dev Cert.AdamBranchRefIdeal.nD,
      r.2.mem ((c.tc : Thread Cert.AdamBranchRefIdeal.nD Cert.AdamBranchRefIdeal.τ).loc Cert.AdamBranchRefIdeal.main_arg0) = m ((c.tc : Thread Cert.AdamBranchRefIdeal.nD Cert.AdamBranchRefIdeal.τ).loc Cert.AdamBranchRefIdeal.main_arg0)
      ∧ r.2.mem ((c.tc : Thread Cert.AdamBranchRefIdeal.nD Cert.AdamBranchRefIdeal.τ).loc Cert.AdamBranchRefIdeal.main_arg1) = m ((c.tc : Thread Cert.AdamBranchRefIdeal.nD Cert.AdamBranchRefIdeal.τ).loc Cert.AdamBranchRefIdeal.main_arg1)
      ∧ r.2.mem ((c.tc : Thread Cert.AdamBranchRefIdeal.nD Cert.AdamBranchRefIdeal.τ).loc Cert.AdamBranchRefIdeal.main_arg2) = m ((c.tc : Thread Cert.AdamBranchRefIdeal.nD Cert.AdamBranchRefIdeal.τ).loc Cert.AdamBranchRefIdeal.main_arg2)
      ∧ r.2.mem ((c.tc : Thread Cert.AdamBranchRefIdeal.nD Cert.AdamBranchRefIdeal.τ).loc Cert.AdamBranchRefIdeal.main_arg3) = m ((c.tc : Thread Cert.AdamBranchRefIdeal.nD Cert.AdamBranchRefIdeal.τ).loc Cert.AdamBranchRefIdeal.main_arg3))
      ∧ r.2.sem = fun _ => 0)

def quiescent_AdamFfn [hAdamFfn : Cert.AdamFfn.Facts] : Prop :=
  ∀ (m : (ℓ : Loc Cert.AdamFfn.nD Cert.AdamFfn.τ Cert.AdamFfn.sig) → Buf (Elt Bits) ℓ) (g : Dev Cert.AdamFfn.nD → PrngReg), Pre_AdamFfn m →
    θ_run (Cert.AdamFfn.defs (F := Bits)) (onTc (τ := Cert.AdamFfn.τ) (Cert.AdamFfn.main (F := Bits))) ⟨m, fun _ => 0, g⟩ (fun r => (∀ c : Dev Cert.AdamFfn.nD,
      r.2.mem ((c.tc : Thread Cert.AdamFfn.nD Cert.AdamFfn.τ).loc Cert.AdamFfn.main_arg0) = m ((c.tc : Thread Cert.AdamFfn.nD Cert.AdamFfn.τ).loc Cert.AdamFfn.main_arg0)
      ∧ r.2.mem ((c.tc : Thread Cert.AdamFfn.nD Cert.AdamFfn.τ).loc Cert.AdamFfn.main_arg1) = m ((c.tc : Thread Cert.AdamFfn.nD Cert.AdamFfn.τ).loc Cert.AdamFfn.main_arg1)
      ∧ r.2.mem ((c.tc : Thread Cert.AdamFfn.nD Cert.AdamFfn.τ).loc Cert.AdamFfn.main_arg2) = m ((c.tc : Thread Cert.AdamFfn.nD Cert.AdamFfn.τ).loc Cert.AdamFfn.main_arg2)
      ∧ r.2.mem ((c.tc : Thread Cert.AdamFfn.nD Cert.AdamFfn.τ).loc Cert.AdamFfn.main_arg3) = m ((c.tc : Thread Cert.AdamFfn.nD Cert.AdamFfn.τ).loc Cert.AdamFfn.main_arg3))
      ∧ r.2.sem = fun _ => 0)

def quiescent_AdamFfnIdeal [hAdamFfnIdeal : Cert.AdamFfnIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg), Pre_AdamFfnIdeal m →
    θ_run (Cert.AdamFfnIdeal.defs (F := Ideal)) (onTc (τ := Cert.AdamFfnIdeal.τ) (Cert.AdamFfnIdeal.main (F := Ideal))) ⟨m, fun _ => 0, g⟩ (fun r => (∀ c : Dev Cert.AdamFfnIdeal.nD,
      r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
      ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
      ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
      ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3))
      ∧ r.2.sem = fun _ => 0)

def quiescent_AdamFfnRefIdeal [hAdamFfnRefIdeal : Cert.AdamFfnRefIdeal.Facts] : Prop :=
  ∀ (m : (ℓ : Loc Cert.AdamFfnRefIdeal.nD Cert.AdamFfnRefIdeal.τ Cert.AdamFfnRefIdeal.sig) → Buf (Elt Ideal) ℓ) (g : Dev Cert.AdamFfnRefIdeal.nD → PrngReg), Pre_AdamFfnRefIdeal m →
    θ_run (Cert.AdamFfnRefIdeal.defs (F := Ideal)) (onTc (τ := Cert.AdamFfnRefIdeal.τ) (Cert.AdamFfnRefIdeal.main (F := Ideal))) ⟨m, fun _ => 0, g⟩ (fun r => (∀ c : Dev Cert.AdamFfnRefIdeal.nD,
      r.2.mem ((c.tc : Thread Cert.AdamFfnRefIdeal.nD Cert.AdamFfnRefIdeal.τ).loc Cert.AdamFfnRefIdeal.main_arg0) = m ((c.tc : Thread Cert.AdamFfnRefIdeal.nD Cert.AdamFfnRefIdeal.τ).loc Cert.AdamFfnRefIdeal.main_arg0)
      ∧ r.2.mem ((c.tc : Thread Cert.AdamFfnRefIdeal.nD Cert.AdamFfnRefIdeal.τ).loc Cert.AdamFfnRefIdeal.main_arg1) = m ((c.tc : Thread Cert.AdamFfnRefIdeal.nD Cert.AdamFfnRefIdeal.τ).loc Cert.AdamFfnRefIdeal.main_arg1)
      ∧ r.2.mem ((c.tc : Thread Cert.AdamFfnRefIdeal.nD Cert.AdamFfnRefIdeal.τ).loc Cert.AdamFfnRefIdeal.main_arg2) = m ((c.tc : Thread Cert.AdamFfnRefIdeal.nD Cert.AdamFfnRefIdeal.τ).loc Cert.AdamFfnRefIdeal.main_arg2)
      ∧ r.2.mem ((c.tc : Thread Cert.AdamFfnRefIdeal.nD Cert.AdamFfnRefIdeal.τ).loc Cert.AdamFfnRefIdeal.main_arg3) = m ((c.tc : Thread Cert.AdamFfnRefIdeal.nD Cert.AdamFfnRefIdeal.τ).loc Cert.AdamFfnRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)) (v2 : (c : Dev Cert.KernelIdeal.nD) → Buf (Elt Ideal) ((c.tc : Thread Cert.KernelIdeal.nD Cert.KernelIdeal.τ).loc Cert.KernelIdeal.main_v24_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_v24_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)
      ∧ m' ((c.tc : Thread Cert.GateRefIdeal.nD Cert.GateRefIdeal.τ).loc Cert.GateRefIdeal.main_arg5) = m ((c.tc : Thread Cert.GateIdeal.nD Cert.GateIdeal.τ).loc Cert.GateIdeal.main_arg5)
      ∧ m' ((c.tc : Thread Cert.GateRefIdeal.nD Cert.GateRefIdeal.τ).loc Cert.GateRefIdeal.main_arg6) = m ((c.tc : Thread Cert.GateIdeal.nD Cert.GateIdeal.τ).loc Cert.GateIdeal.main_arg6)
      ∧ m' ((c.tc : Thread Cert.GateRefIdeal.nD Cert.GateRefIdeal.τ).loc Cert.GateRefIdeal.main_arg7) = m ((c.tc : Thread Cert.GateIdeal.nD Cert.GateIdeal.τ).loc Cert.GateIdeal.main_arg7)
      ∧ m' ((c.tc : Thread Cert.GateRefIdeal.nD Cert.GateRefIdeal.τ).loc Cert.GateRefIdeal.main_arg8) = m ((c.tc : Thread Cert.GateIdeal.nD Cert.GateIdeal.τ).loc Cert.GateIdeal.main_arg8)) →
    ∃ (v0 : (c : Dev Cert.GateIdeal.nD) → Buf (Elt Ideal) ((c.tc : Thread Cert.GateIdeal.nD Cert.GateIdeal.τ).loc Cert.GateIdeal.main_v12_0)) (v1 : (c : Dev Cert.GateIdeal.nD) → Buf (Elt Ideal) ((c.tc : Thread Cert.GateIdeal.nD Cert.GateIdeal.τ).loc Cert.GateIdeal.main_v12_1)) (v2 : (c : Dev Cert.GateIdeal.nD) → Buf (Elt Ideal) ((c.tc : Thread Cert.GateIdeal.nD Cert.GateIdeal.τ).loc Cert.GateIdeal.main_v12_2)) (v3 : (c : Dev Cert.GateIdeal.nD) → Buf (Elt Ideal) ((c.tc : Thread Cert.GateIdeal.nD Cert.GateIdeal.τ).loc Cert.GateIdeal.main_v12_3)) (v4 : (c : Dev Cert.GateIdeal.nD) → Buf (Elt Ideal) ((c.tc : Thread Cert.GateIdeal.nD Cert.GateIdeal.τ).loc Cert.GateIdeal.main_v12_4)) (v5 : (c : Dev Cert.GateIdeal.nD) → Buf (Elt Ideal) ((c.tc : Thread Cert.GateIdeal.nD Cert.GateIdeal.τ).loc Cert.GateIdeal.main_v12_5)) (v6 : (c : Dev Cert.GateIdeal.nD) → Buf (Elt Ideal) ((c.tc : Thread Cert.GateIdeal.nD Cert.GateIdeal.τ).loc Cert.GateIdeal.main_v12_6)) (v7 : (c : Dev Cert.GateIdeal.nD) → Buf (Elt Ideal) ((c.tc : Thread Cert.GateIdeal.nD Cert.GateIdeal.τ).loc Cert.GateIdeal.main_v12_7)) (v8 : (c : Dev Cert.GateIdeal.nD) → Buf (Elt Ideal) ((c.tc : Thread Cert.GateIdeal.nD Cert.GateIdeal.τ).loc Cert.GateIdeal.main_v12_8)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v12_0) = v0 c
          ∧ r.2.mem ((c.tc : Thread Cert.GateIdeal.nD Cert.GateIdeal.τ).loc Cert.GateIdeal.main_v12_1) = v1 c
          ∧ r.2.mem ((c.tc : Thread Cert.GateIdeal.nD Cert.GateIdeal.τ).loc Cert.GateIdeal.main_v12_2) = v2 c
          ∧ r.2.mem ((c.tc : Thread Cert.GateIdeal.nD Cert.GateIdeal.τ).loc Cert.GateIdeal.main_v12_3) = v3 c
          ∧ r.2.mem ((c.tc : Thread Cert.GateIdeal.nD Cert.GateIdeal.τ).loc Cert.GateIdeal.main_v12_4) = v4 c
          ∧ r.2.mem ((c.tc : Thread Cert.GateIdeal.nD Cert.GateIdeal.τ).loc Cert.GateIdeal.main_v12_5) = v5 c
          ∧ r.2.mem ((c.tc : Thread Cert.GateIdeal.nD Cert.GateIdeal.τ).loc Cert.GateIdeal.main_v12_6) = v6 c
          ∧ r.2.mem ((c.tc : Thread Cert.GateIdeal.nD Cert.GateIdeal.τ).loc Cert.GateIdeal.main_v12_7) = v7 c
          ∧ r.2.mem ((c.tc : Thread Cert.GateIdeal.nD Cert.GateIdeal.τ).loc Cert.GateIdeal.main_v12_8) = v8 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
          ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
          ∧ r.2.mem ((c.tc : Thread Cert.GateIdeal.nD Cert.GateIdeal.τ).loc Cert.GateIdeal.main_arg6) = m ((c.tc : Thread Cert.GateIdeal.nD Cert.GateIdeal.τ).loc Cert.GateIdeal.main_arg6)
          ∧ r.2.mem ((c.tc : Thread Cert.GateIdeal.nD Cert.GateIdeal.τ).loc Cert.GateIdeal.main_arg7) = m ((c.tc : Thread Cert.GateIdeal.nD Cert.GateIdeal.τ).loc Cert.GateIdeal.main_arg7)
          ∧ r.2.mem ((c.tc : Thread Cert.GateIdeal.nD Cert.GateIdeal.τ).loc Cert.GateIdeal.main_arg8) = m ((c.tc : Thread Cert.GateIdeal.nD Cert.GateIdeal.τ).loc Cert.GateIdeal.main_arg8))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v69) = v0 c
          ∧ r.2.mem ((c.tc : Thread Cert.GateRefIdeal.nD Cert.GateRefIdeal.τ).loc Cert.GateRefIdeal.main_v70) = v1 c
          ∧ r.2.mem ((c.tc : Thread Cert.GateRefIdeal.nD Cert.GateRefIdeal.τ).loc Cert.GateRefIdeal.main_v71) = v2 c
          ∧ r.2.mem ((c.tc : Thread Cert.GateRefIdeal.nD Cert.GateRefIdeal.τ).loc Cert.GateRefIdeal.main_v72) = v3 c
          ∧ r.2.mem ((c.tc : Thread Cert.GateRefIdeal.nD Cert.GateRefIdeal.τ).loc Cert.GateRefIdeal.main_v73) = v4 c
          ∧ r.2.mem ((c.tc : Thread Cert.GateRefIdeal.nD Cert.GateRefIdeal.τ).loc Cert.GateRefIdeal.main_v74) = v5 c
          ∧ r.2.mem ((c.tc : Thread Cert.GateRefIdeal.nD Cert.GateRefIdeal.τ).loc Cert.GateRefIdeal.main_v75) = v6 c
          ∧ r.2.mem ((c.tc : Thread Cert.GateRefIdeal.nD Cert.GateRefIdeal.τ).loc Cert.GateRefIdeal.main_v76) = v7 c
          ∧ r.2.mem ((c.tc : Thread Cert.GateRefIdeal.nD Cert.GateRefIdeal.τ).loc Cert.GateRefIdeal.main_v77) = v8 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4)
          ∧ r.2.mem ((c.tc : Thread Cert.GateRefIdeal.nD Cert.GateRefIdeal.τ).loc Cert.GateRefIdeal.main_arg5) = m' ((c.tc : Thread Cert.GateRefIdeal.nD Cert.GateRefIdeal.τ).loc Cert.GateRefIdeal.main_arg5)
          ∧ r.2.mem ((c.tc : Thread Cert.GateRefIdeal.nD Cert.GateRefIdeal.τ).loc Cert.GateRefIdeal.main_arg6) = m' ((c.tc : Thread Cert.GateRefIdeal.nD Cert.GateRefIdeal.τ).loc Cert.GateRefIdeal.main_arg6)
          ∧ r.2.mem ((c.tc : Thread Cert.GateRefIdeal.nD Cert.GateRefIdeal.τ).loc Cert.GateRefIdeal.main_arg7) = m' ((c.tc : Thread Cert.GateRefIdeal.nD Cert.GateRefIdeal.τ).loc Cert.GateRefIdeal.main_arg7)
          ∧ r.2.mem ((c.tc : Thread Cert.GateRefIdeal.nD Cert.GateRefIdeal.τ).loc Cert.GateRefIdeal.main_arg8) = m' ((c.tc : Thread Cert.GateRefIdeal.nD Cert.GateRefIdeal.τ).loc Cert.GateRefIdeal.main_arg8))

def preserves_Dw_DwIdeal : Prop :=
  True

def algebraic_DwIdeal_DwRefIdeal [hDwIdeal : Cert.DwIdeal.Facts] [hDwRefIdeal : Cert.DwRefIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwIdeal m →
    (∀ c : Dev Cert.DwIdeal.nD,
      m' ((c.tc : Thread Cert.DwRefIdeal.nD Cert.DwRefIdeal.τ).loc Cert.DwRefIdeal.main_arg0) = m ((c.tc : Thread Cert.DwIdeal.nD Cert.DwIdeal.τ).loc Cert.DwIdeal.main_arg0)
      ∧ m' ((c.tc : Thread Cert.DwRefIdeal.nD Cert.DwRefIdeal.τ).loc Cert.DwRefIdeal.main_arg1) = m ((c.tc : Thread Cert.DwIdeal.nD Cert.DwIdeal.τ).loc Cert.DwIdeal.main_arg1)) →
    ∃ (v0 : (c : Dev Cert.DwIdeal.nD) → Buf (Elt Ideal) ((c.tc : Thread Cert.DwIdeal.nD Cert.DwIdeal.τ).loc Cert.DwIdeal.main_v0)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v0) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v6) = v0 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v2_0)) (v1 : (c : Dev Cert.UpIdeal.nD) → Buf (Elt Ideal) ((c.tc : Thread Cert.UpIdeal.nD Cert.UpIdeal.τ).loc Cert.UpIdeal.main_v2_1)) (v2 : (c : Dev Cert.UpIdeal.nD) → Buf (Elt Ideal) ((c.tc : Thread Cert.UpIdeal.nD Cert.UpIdeal.τ).loc Cert.UpIdeal.main_v2_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2_0) = v0 c
          ∧ r.2.mem ((c.tc : Thread Cert.UpIdeal.nD Cert.UpIdeal.τ).loc Cert.UpIdeal.main_v2_1) = v1 c
          ∧ r.2.mem ((c.tc : Thread Cert.UpIdeal.nD Cert.UpIdeal.τ).loc Cert.UpIdeal.main_v2_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v8) = v0 c
          ∧ r.2.mem ((c.tc : Thread Cert.UpRefIdeal.nD Cert.UpRefIdeal.τ).loc Cert.UpRefIdeal.main_v9) = v1 c
          ∧ r.2.mem ((c.tc : Thread Cert.UpRefIdeal.nD Cert.UpRefIdeal.τ).loc Cert.UpRefIdeal.main_v10) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_InA_InAIdeal : Prop :=
  True

def algebraic_InAIdeal_InARefIdeal [hInAIdeal : Cert.InAIdeal.Facts] [hInARefIdeal : Cert.InARefIdeal.Facts] : Prop :=
  ∀ (m : (ℓ : Loc Cert.InAIdeal.nD Cert.InAIdeal.τ Cert.InAIdeal.sig) → Buf (Elt Ideal) ℓ) (g : Dev Cert.InAIdeal.nD → PrngReg)
    (m' : (ℓ : Loc Cert.InARefIdeal.nD Cert.InARefIdeal.τ Cert.InARefIdeal.sig) → Buf (Elt Ideal) ℓ) (g' : Dev Cert.InARefIdeal.nD → PrngReg), Pre_InAIdeal m →
    (∀ c : Dev Cert.InAIdeal.nD,
      m' ((c.tc : Thread Cert.InARefIdeal.nD Cert.InARefIdeal.τ).loc Cert.InARefIdeal.main_arg0) = m ((c.tc : Thread Cert.InAIdeal.nD Cert.InAIdeal.τ).loc Cert.InAIdeal.main_arg0)
      ∧ m' ((c.tc : Thread Cert.InARefIdeal.nD Cert.InARefIdeal.τ).loc Cert.InARefIdeal.main_arg1) = m ((c.tc : Thread Cert.InAIdeal.nD Cert.InAIdeal.τ).loc Cert.InAIdeal.main_arg1)) →
    ∃ (v0 : (c : Dev Cert.InAIdeal.nD) → Buf (Elt Ideal) ((c.tc : Thread Cert.InAIdeal.nD Cert.InAIdeal.τ).loc Cert.InAIdeal.main_v0)),
      θ_run (Cert.InAIdeal.defs (F := Ideal)) (onTc (τ := Cert.InAIdeal.τ) (Cert.InAIdeal.main (F := Ideal))) ⟨m, fun _ => 0, g⟩ (fun r => ∀ c : Dev Cert.InAIdeal.nD,
          r.2.mem ((c.tc : Thread Cert.InAIdeal.nD Cert.InAIdeal.τ).loc Cert.InAIdeal.main_v0) = v0 c
          ∧ r.2.mem ((c.tc : Thread Cert.InAIdeal.nD Cert.InAIdeal.τ).loc Cert.InAIdeal.main_arg0) = m ((c.tc : Thread Cert.InAIdeal.nD Cert.InAIdeal.τ).loc Cert.InAIdeal.main_arg0)
          ∧ r.2.mem ((c.tc : Thread Cert.InAIdeal.nD Cert.InAIdeal.τ).loc Cert.InAIdeal.main_arg1) = m ((c.tc : Thread Cert.InAIdeal.nD Cert.InAIdeal.τ).loc Cert.InAIdeal.main_arg1))
      ∧ θ_run (Cert.InARefIdeal.defs (F := Ideal)) (onTc (τ := Cert.InARefIdeal.τ) (Cert.InARefIdeal.main (F := Ideal))) ⟨m', fun _ => 0, g'⟩ (fun r => ∀ c : Dev Cert.InARefIdeal.nD,
          r.2.mem ((c.tc : Thread Cert.InARefIdeal.nD Cert.InARefIdeal.τ).loc Cert.InARefIdeal.main_v8) = v0 c
          ∧ r.2.mem ((c.tc : Thread Cert.InARefIdeal.nD Cert.InARefIdeal.τ).loc Cert.InARefIdeal.main_arg0) = m' ((c.tc : Thread Cert.InARefIdeal.nD Cert.InARefIdeal.τ).loc Cert.InARefIdeal.main_arg0)
          ∧ r.2.mem ((c.tc : Thread Cert.InARefIdeal.nD Cert.InARefIdeal.τ).loc Cert.InARefIdeal.main_arg1) = m' ((c.tc : Thread Cert.InARefIdeal.nD Cert.InARefIdeal.τ).loc Cert.InARefIdeal.main_arg1))

def preserves_InB_InBIdeal : Prop :=
  True

def algebraic_InBIdeal_InBRefIdeal [hInBIdeal : Cert.InBIdeal.Facts] [hInBRefIdeal : Cert.InBRefIdeal.Facts] : Prop :=
  ∀ (m : (ℓ : Loc Cert.InBIdeal.nD Cert.InBIdeal.τ Cert.InBIdeal.sig) → Buf (Elt Ideal) ℓ) (g : Dev Cert.InBIdeal.nD → PrngReg)
    (m' : (ℓ : Loc Cert.InBRefIdeal.nD Cert.InBRefIdeal.τ Cert.InBRefIdeal.sig) → Buf (Elt Ideal) ℓ) (g' : Dev Cert.InBRefIdeal.nD → PrngReg), Pre_InBIdeal m →
    (∀ c : Dev Cert.InBIdeal.nD,
      m' ((c.tc : Thread Cert.InBRefIdeal.nD Cert.InBRefIdeal.τ).loc Cert.InBRefIdeal.main_arg0) = m ((c.tc : Thread Cert.InBIdeal.nD Cert.InBIdeal.τ).loc Cert.InBIdeal.main_arg0)
      ∧ m' ((c.tc : Thread Cert.InBRefIdeal.nD Cert.InBRefIdeal.τ).loc Cert.InBRefIdeal.main_arg1) = m ((c.tc : Thread Cert.InBIdeal.nD Cert.InBIdeal.τ).loc Cert.InBIdeal.main_arg1)) →
    ∃ (v0 : (c : Dev Cert.InBIdeal.nD) → Buf (Elt Ideal) ((c.tc : Thread Cert.InBIdeal.nD Cert.InBIdeal.τ).loc Cert.InBIdeal.main_v0)),
      θ_run (Cert.InBIdeal.defs (F := Ideal)) (onTc (τ := Cert.InBIdeal.τ) (Cert.InBIdeal.main (F := Ideal))) ⟨m, fun _ => 0, g⟩ (fun r => ∀ c : Dev Cert.InBIdeal.nD,
          r.2.mem ((c.tc : Thread Cert.InBIdeal.nD Cert.InBIdeal.τ).loc Cert.InBIdeal.main_v0) = v0 c
          ∧ r.2.mem ((c.tc : Thread Cert.InBIdeal.nD Cert.InBIdeal.τ).loc Cert.InBIdeal.main_arg0) = m ((c.tc : Thread Cert.InBIdeal.nD Cert.InBIdeal.τ).loc Cert.InBIdeal.main_arg0)
          ∧ r.2.mem ((c.tc : Thread Cert.InBIdeal.nD Cert.InBIdeal.τ).loc Cert.InBIdeal.main_arg1) = m ((c.tc : Thread Cert.InBIdeal.nD Cert.InBIdeal.τ).loc Cert.InBIdeal.main_arg1))
      ∧ θ_run (Cert.InBRefIdeal.defs (F := Ideal)) (onTc (τ := Cert.InBRefIdeal.τ) (Cert.InBRefIdeal.main (F := Ideal))) ⟨m', fun _ => 0, g'⟩ (fun r => ∀ c : Dev Cert.InBRefIdeal.nD,
          r.2.mem ((c.tc : Thread Cert.InBRefIdeal.nD Cert.InBRefIdeal.τ).loc Cert.InBRefIdeal.main_v8) = v0 c
          ∧ r.2.mem ((c.tc : Thread Cert.InBRefIdeal.nD Cert.InBRefIdeal.τ).loc Cert.InBRefIdeal.main_arg0) = m' ((c.tc : Thread Cert.InBRefIdeal.nD Cert.InBRefIdeal.τ).loc Cert.InBRefIdeal.main_arg0)
          ∧ r.2.mem ((c.tc : Thread Cert.InBRefIdeal.nD Cert.InBRefIdeal.τ).loc Cert.InBRefIdeal.main_arg1) = m' ((c.tc : Thread Cert.InBRefIdeal.nD Cert.InBRefIdeal.τ).loc Cert.InBRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v3) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Branch_BranchIdeal : Prop :=
  True

def algebraic_BranchIdeal_BranchRefIdeal [hBranchIdeal : Cert.BranchIdeal.Facts] [hBranchRefIdeal : Cert.BranchRefIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchRefIdeal.nD Cert.BranchRefIdeal.τ Cert.BranchRefIdeal.sig) → Buf (Elt Ideal) ℓ) (g' : Dev Cert.BranchRefIdeal.nD → PrngReg), Pre_BranchIdeal m →
    (∀ c : Dev Cert.BranchIdeal.nD,
      m' ((c.tc : Thread Cert.BranchRefIdeal.nD Cert.BranchRefIdeal.τ).loc Cert.BranchRefIdeal.main_arg0) = m ((c.tc : Thread Cert.BranchIdeal.nD Cert.BranchIdeal.τ).loc Cert.BranchIdeal.main_arg0)
      ∧ m' ((c.tc : Thread Cert.BranchRefIdeal.nD Cert.BranchRefIdeal.τ).loc Cert.BranchRefIdeal.main_arg1) = m ((c.tc : Thread Cert.BranchIdeal.nD Cert.BranchIdeal.τ).loc Cert.BranchIdeal.main_arg1)
      ∧ m' ((c.tc : Thread Cert.BranchRefIdeal.nD Cert.BranchRefIdeal.τ).loc Cert.BranchRefIdeal.main_arg2) = m ((c.tc : Thread Cert.BranchIdeal.nD Cert.BranchIdeal.τ).loc Cert.BranchIdeal.main_arg2)
      ∧ m' ((c.tc : Thread Cert.BranchRefIdeal.nD Cert.BranchRefIdeal.τ).loc Cert.BranchRefIdeal.main_arg3) = m ((c.tc : Thread Cert.BranchIdeal.nD Cert.BranchIdeal.τ).loc Cert.BranchIdeal.main_arg3)
      ∧ m' ((c.tc : Thread Cert.BranchRefIdeal.nD Cert.BranchRefIdeal.τ).loc Cert.BranchRefIdeal.main_arg4) = m ((c.tc : Thread Cert.BranchIdeal.nD Cert.BranchIdeal.τ).loc Cert.BranchIdeal.main_arg4)
      ∧ m' ((c.tc : Thread Cert.BranchRefIdeal.nD Cert.BranchRefIdeal.τ).loc Cert.BranchRefIdeal.main_arg5) = m ((c.tc : Thread Cert.BranchIdeal.nD Cert.BranchIdeal.τ).loc Cert.BranchIdeal.main_arg5)
      ∧ m' ((c.tc : Thread Cert.BranchRefIdeal.nD Cert.BranchRefIdeal.τ).loc Cert.BranchRefIdeal.main_arg6) = m ((c.tc : Thread Cert.BranchIdeal.nD Cert.BranchIdeal.τ).loc Cert.BranchIdeal.main_arg6)) →
    ∃ (v0 : (c : Dev Cert.BranchIdeal.nD) → Buf (Elt Ideal) ((c.tc : Thread Cert.BranchIdeal.nD Cert.BranchIdeal.τ).loc Cert.BranchIdeal.main_v0_0)) (v1 : (c : Dev Cert.BranchIdeal.nD) → Buf (Elt Ideal) ((c.tc : Thread Cert.BranchIdeal.nD Cert.BranchIdeal.τ).loc Cert.BranchIdeal.main_v0_1)) (v2 : (c : Dev Cert.BranchIdeal.nD) → Buf (Elt Ideal) ((c.tc : Thread Cert.BranchIdeal.nD Cert.BranchIdeal.τ).loc Cert.BranchIdeal.main_v0_2)) (v3 : (c : Dev Cert.BranchIdeal.nD) → Buf (Elt Ideal) ((c.tc : Thread Cert.BranchIdeal.nD Cert.BranchIdeal.τ).loc Cert.BranchIdeal.main_v0_3)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v0_0) = v0 c
          ∧ r.2.mem ((c.tc : Thread Cert.BranchIdeal.nD Cert.BranchIdeal.τ).loc Cert.BranchIdeal.main_v0_1) = v1 c
          ∧ r.2.mem ((c.tc : Thread Cert.BranchIdeal.nD Cert.BranchIdeal.τ).loc Cert.BranchIdeal.main_v0_2) = v2 c
          ∧ r.2.mem ((c.tc : Thread Cert.BranchIdeal.nD Cert.BranchIdeal.τ).loc Cert.BranchIdeal.main_v0_3) = v3 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1)
          ∧ r.2.mem ((c.tc : Thread Cert.BranchIdeal.nD Cert.BranchIdeal.τ).loc Cert.BranchIdeal.main_arg2) = m ((c.tc : Thread Cert.BranchIdeal.nD Cert.BranchIdeal.τ).loc Cert.BranchIdeal.main_arg2)
          ∧ r.2.mem ((c.tc : Thread Cert.BranchIdeal.nD Cert.BranchIdeal.τ).loc Cert.BranchIdeal.main_arg3) = m ((c.tc : Thread Cert.BranchIdeal.nD Cert.BranchIdeal.τ).loc Cert.BranchIdeal.main_arg3)
          ∧ r.2.mem ((c.tc : Thread Cert.BranchIdeal.nD Cert.BranchIdeal.τ).loc Cert.BranchIdeal.main_arg4) = m ((c.tc : Thread Cert.BranchIdeal.nD Cert.BranchIdeal.τ).loc Cert.BranchIdeal.main_arg4)
          ∧ r.2.mem ((c.tc : Thread Cert.BranchIdeal.nD Cert.BranchIdeal.τ).loc Cert.BranchIdeal.main_arg5) = m ((c.tc : Thread Cert.BranchIdeal.nD Cert.BranchIdeal.τ).loc Cert.BranchIdeal.main_arg5)
          ∧ r.2.mem ((c.tc : Thread Cert.BranchIdeal.nD Cert.BranchIdeal.τ).loc Cert.BranchIdeal.main_arg6) = m ((c.tc : Thread Cert.BranchIdeal.nD Cert.BranchIdeal.τ).loc Cert.BranchIdeal.main_arg6))
      ∧ θ_run (Cert.BranchRefIdeal.defs (F := Ideal)) (onTc (τ := Cert.BranchRefIdeal.τ) (Cert.BranchRefIdeal.main (F := Ideal))) ⟨m', fun _ => 0, g'⟩ (fun r => ∀ c : Dev Cert.BranchRefIdeal.nD,
          r.2.mem ((c.tc : Thread Cert.BranchRefIdeal.nD Cert.BranchRefIdeal.τ).loc Cert.BranchRefIdeal.main_v38) = v0 c
          ∧ r.2.mem ((c.tc : Thread Cert.BranchRefIdeal.nD Cert.BranchRefIdeal.τ).loc Cert.BranchRefIdeal.main_v39) = v1 c
          ∧ r.2.mem ((c.tc : Thread Cert.BranchRefIdeal.nD Cert.BranchRefIdeal.τ).loc Cert.BranchRefIdeal.main_v40) = v2 c
          ∧ r.2.mem ((c.tc : Thread Cert.BranchRefIdeal.nD Cert.BranchRefIdeal.τ).loc Cert.BranchRefIdeal.main_v41) = v3 c
          ∧ r.2.mem ((c.tc : Thread Cert.BranchRefIdeal.nD Cert.BranchRefIdeal.τ).loc Cert.BranchRefIdeal.main_arg0) = m' ((c.tc : Thread Cert.BranchRefIdeal.nD Cert.BranchRefIdeal.τ).loc Cert.BranchRefIdeal.main_arg0)
          ∧ r.2.mem ((c.tc : Thread Cert.BranchRefIdeal.nD Cert.BranchRefIdeal.τ).loc Cert.BranchRefIdeal.main_arg1) = m' ((c.tc : Thread Cert.BranchRefIdeal.nD Cert.BranchRefIdeal.τ).loc Cert.BranchRefIdeal.main_arg1)
          ∧ r.2.mem ((c.tc : Thread Cert.BranchRefIdeal.nD Cert.BranchRefIdeal.τ).loc Cert.BranchRefIdeal.main_arg2) = m' ((c.tc : Thread Cert.BranchRefIdeal.nD Cert.BranchRefIdeal.τ).loc Cert.BranchRefIdeal.main_arg2)
          ∧ r.2.mem ((c.tc : Thread Cert.BranchRefIdeal.nD Cert.BranchRefIdeal.τ).loc Cert.BranchRefIdeal.main_arg3) = m' ((c.tc : Thread Cert.BranchRefIdeal.nD Cert.BranchRefIdeal.τ).loc Cert.BranchRefIdeal.main_arg3)
          ∧ r.2.mem ((c.tc : Thread Cert.BranchRefIdeal.nD Cert.BranchRefIdeal.τ).loc Cert.BranchRefIdeal.main_arg4) = m' ((c.tc : Thread Cert.BranchRefIdeal.nD Cert.BranchRefIdeal.τ).loc Cert.BranchRefIdeal.main_arg4)
          ∧ r.2.mem ((c.tc : Thread Cert.BranchRefIdeal.nD Cert.BranchRefIdeal.τ).loc Cert.BranchRefIdeal.main_arg5) = m' ((c.tc : Thread Cert.BranchRefIdeal.nD Cert.BranchRefIdeal.τ).loc Cert.BranchRefIdeal.main_arg5)
          ∧ r.2.mem ((c.tc : Thread Cert.BranchRefIdeal.nD Cert.BranchRefIdeal.τ).loc Cert.BranchRefIdeal.main_arg6) = m' ((c.tc : Thread Cert.BranchRefIdeal.nD Cert.BranchRefIdeal.τ).loc Cert.BranchRefIdeal.main_arg6))

def preserves_DwBranch_DwBranchIdeal : Prop :=
  True

def algebraic_DwBranchIdeal_DwBranchRefIdeal [hDwBranchIdeal : Cert.DwBranchIdeal.Facts] [hDwBranchRefIdeal : Cert.DwBranchRefIdeal.Facts] : Prop :=
  ∀ (m : (ℓ : Loc Cert.DwBranchIdeal.nD Cert.DwBranchIdeal.τ Cert.DwBranchIdeal.sig) → Buf (Elt Ideal) ℓ) (g : Dev Cert.DwBranchIdeal.nD → PrngReg)
    (m' : (ℓ : Loc Cert.DwBranchRefIdeal.nD Cert.DwBranchRefIdeal.τ Cert.DwBranchRefIdeal.sig) → Buf (Elt Ideal) ℓ) (g' : Dev Cert.DwBranchRefIdeal.nD → PrngReg), Pre_DwBranchIdeal m →
    (∀ c : Dev Cert.DwBranchIdeal.nD,
      m' ((c.tc : Thread Cert.DwBranchRefIdeal.nD Cert.DwBranchRefIdeal.τ).loc Cert.DwBranchRefIdeal.main_arg0) = m ((c.tc : Thread Cert.DwBranchIdeal.nD Cert.DwBranchIdeal.τ).loc Cert.DwBranchIdeal.main_arg0)
      ∧ m' ((c.tc : Thread Cert.DwBranchRefIdeal.nD Cert.DwBranchRefIdeal.τ).loc Cert.DwBranchRefIdeal.main_arg1) = m ((c.tc : Thread Cert.DwBranchIdeal.nD Cert.DwBranchIdeal.τ).loc Cert.DwBranchIdeal.main_arg1)) →
    ∃ (v0 : (c : Dev Cert.DwBranchIdeal.nD) → Buf (Elt Ideal) ((c.tc : Thread Cert.DwBranchIdeal.nD Cert.DwBranchIdeal.τ).loc Cert.DwBranchIdeal.main_v0)),
      θ_run (Cert.DwBranchIdeal.defs (F := Ideal)) (onTc (τ := Cert.DwBranchIdeal.τ) (Cert.DwBranchIdeal.main (F := Ideal))) ⟨m, fun _ => 0, g⟩ (fun r => ∀ c : Dev Cert.DwBranchIdeal.nD,
          r.2.mem ((c.tc : Thread Cert.DwBranchIdeal.nD Cert.DwBranchIdeal.τ).loc Cert.DwBranchIdeal.main_v0) = v0 c
          ∧ r.2.mem ((c.tc : Thread Cert.DwBranchIdeal.nD Cert.DwBranchIdeal.τ).loc Cert.DwBranchIdeal.main_arg0) = m ((c.tc : Thread Cert.DwBranchIdeal.nD Cert.DwBranchIdeal.τ).loc Cert.DwBranchIdeal.main_arg0)
          ∧ r.2.mem ((c.tc : Thread Cert.DwBranchIdeal.nD Cert.DwBranchIdeal.τ).loc Cert.DwBranchIdeal.main_arg1) = m ((c.tc : Thread Cert.DwBranchIdeal.nD Cert.DwBranchIdeal.τ).loc Cert.DwBranchIdeal.main_arg1))
      ∧ θ_run (Cert.DwBranchRefIdeal.defs (F := Ideal)) (onTc (τ := Cert.DwBranchRefIdeal.τ) (Cert.DwBranchRefIdeal.main (F := Ideal))) ⟨m', fun _ => 0, g'⟩ (fun r => ∀ c : Dev Cert.DwBranchRefIdeal.nD,
          r.2.mem ((c.tc : Thread Cert.DwBranchRefIdeal.nD Cert.DwBranchRefIdeal.τ).loc Cert.DwBranchRefIdeal.main_v6) = v0 c
          ∧ r.2.mem ((c.tc : Thread Cert.DwBranchRefIdeal.nD Cert.DwBranchRefIdeal.τ).loc Cert.DwBranchRefIdeal.main_arg0) = m' ((c.tc : Thread Cert.DwBranchRefIdeal.nD Cert.DwBranchRefIdeal.τ).loc Cert.DwBranchRefIdeal.main_arg0)
          ∧ r.2.mem ((c.tc : Thread Cert.DwBranchRefIdeal.nD Cert.DwBranchRefIdeal.τ).loc Cert.DwBranchRefIdeal.main_arg1) = m' ((c.tc : Thread Cert.DwBranchRefIdeal.nD Cert.DwBranchRefIdeal.τ).loc Cert.DwBranchRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v6) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_Pre_PreIdeal : Prop :=
  True

def algebraic_PreIdeal_PreRefIdeal [hPreIdeal : Cert.PreIdeal.Facts] [hPreRefIdeal : Cert.PreRefIdeal.Facts] : Prop :=
  ∀ (m : (ℓ : Loc Cert.PreIdeal.nD Cert.PreIdeal.τ Cert.PreIdeal.sig) → Buf (Elt Ideal) ℓ) (g : Dev Cert.PreIdeal.nD → PrngReg)
    (m' : (ℓ : Loc Cert.PreRefIdeal.nD Cert.PreRefIdeal.τ Cert.PreRefIdeal.sig) → Buf (Elt Ideal) ℓ) (g' : Dev Cert.PreRefIdeal.nD → PrngReg), Pre_PreIdeal m →
    (∀ c : Dev Cert.PreIdeal.nD,
      m' ((c.tc : Thread Cert.PreRefIdeal.nD Cert.PreRefIdeal.τ).loc Cert.PreRefIdeal.main_arg0) = m ((c.tc : Thread Cert.PreIdeal.nD Cert.PreIdeal.τ).loc Cert.PreIdeal.main_arg0)
      ∧ m' ((c.tc : Thread Cert.PreRefIdeal.nD Cert.PreRefIdeal.τ).loc Cert.PreRefIdeal.main_arg1) = m ((c.tc : Thread Cert.PreIdeal.nD Cert.PreIdeal.τ).loc Cert.PreIdeal.main_arg1)
      ∧ m' ((c.tc : Thread Cert.PreRefIdeal.nD Cert.PreRefIdeal.τ).loc Cert.PreRefIdeal.main_arg2) = m ((c.tc : Thread Cert.PreIdeal.nD Cert.PreIdeal.τ).loc Cert.PreIdeal.main_arg2)
      ∧ m' ((c.tc : Thread Cert.PreRefIdeal.nD Cert.PreRefIdeal.τ).loc Cert.PreRefIdeal.main_arg3) = m ((c.tc : Thread Cert.PreIdeal.nD Cert.PreIdeal.τ).loc Cert.PreIdeal.main_arg3)
      ∧ m' ((c.tc : Thread Cert.PreRefIdeal.nD Cert.PreRefIdeal.τ).loc Cert.PreRefIdeal.main_arg4) = m ((c.tc : Thread Cert.PreIdeal.nD Cert.PreIdeal.τ).loc Cert.PreIdeal.main_arg4)) →
    ∃ (v0 : (c : Dev Cert.PreIdeal.nD) → Buf (Elt Ideal) ((c.tc : Thread Cert.PreIdeal.nD Cert.PreIdeal.τ).loc Cert.PreIdeal.main_v1_0)) (v1 : (c : Dev Cert.PreIdeal.nD) → Buf (Elt Ideal) ((c.tc : Thread Cert.PreIdeal.nD Cert.PreIdeal.τ).loc Cert.PreIdeal.main_v1_1)),
      θ_run (Cert.PreIdeal.defs (F := Ideal)) (onTc (τ := Cert.PreIdeal.τ) (Cert.PreIdeal.main (F := Ideal))) ⟨m, fun _ => 0, g⟩ (fun r => ∀ c : Dev Cert.PreIdeal.nD,
          r.2.mem ((c.tc : Thread Cert.PreIdeal.nD Cert.PreIdeal.τ).loc Cert.PreIdeal.main_v1_0) = v0 c
          ∧ r.2.mem ((c.tc : Thread Cert.PreIdeal.nD Cert.PreIdeal.τ).loc Cert.PreIdeal.main_v1_1) = v1 c
          ∧ r.2.mem ((c.tc : Thread Cert.PreIdeal.nD Cert.PreIdeal.τ).loc Cert.PreIdeal.main_arg0) = m ((c.tc : Thread Cert.PreIdeal.nD Cert.PreIdeal.τ).loc Cert.PreIdeal.main_arg0)
          ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
          ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
          ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
          ∧ r.2.mem ((c.tc : Thread Cert.PreIdeal.nD Cert.PreIdeal.τ).loc Cert.PreIdeal.main_arg4) = m ((c.tc : Thread Cert.PreIdeal.nD Cert.PreIdeal.τ).loc Cert.PreIdeal.main_arg4))
      ∧ θ_run (Cert.PreRefIdeal.defs (F := Ideal)) (onTc (τ := Cert.PreRefIdeal.τ) (Cert.PreRefIdeal.main (F := Ideal))) ⟨m', fun _ => 0, g'⟩ (fun r => ∀ c : Dev Cert.PreRefIdeal.nD,
          r.2.mem ((c.tc : Thread Cert.PreRefIdeal.nD Cert.PreRefIdeal.τ).loc Cert.PreRefIdeal.main_v38) = v0 c
          ∧ r.2.mem ((c.tc : Thread Cert.PreRefIdeal.nD Cert.PreRefIdeal.τ).loc Cert.PreRefIdeal.main_v21) = v1 c
          ∧ r.2.mem ((c.tc : Thread Cert.PreRefIdeal.nD Cert.PreRefIdeal.τ).loc Cert.PreRefIdeal.main_arg0) = m' ((c.tc : Thread Cert.PreRefIdeal.nD Cert.PreRefIdeal.τ).loc Cert.PreRefIdeal.main_arg0)
          ∧ r.2.mem ((c.tc : Thread Cert.PreRefIdeal.nD Cert.PreRefIdeal.τ).loc Cert.PreRefIdeal.main_arg1) = m' ((c.tc : Thread Cert.PreRefIdeal.nD Cert.PreRefIdeal.τ).loc Cert.PreRefIdeal.main_arg1)
          ∧ r.2.mem ((c.tc : Thread Cert.PreRefIdeal.nD Cert.PreRefIdeal.τ).loc Cert.PreRefIdeal.main_arg2) = m' ((c.tc : Thread Cert.PreRefIdeal.nD Cert.PreRefIdeal.τ).loc Cert.PreRefIdeal.main_arg2)
          ∧ r.2.mem ((c.tc : Thread Cert.PreRefIdeal.nD Cert.PreRefIdeal.τ).loc Cert.PreRefIdeal.main_arg3) = m' ((c.tc : Thread Cert.PreRefIdeal.nD Cert.PreRefIdeal.τ).loc Cert.PreRefIdeal.main_arg3)
          ∧ r.2.mem ((c.tc : Thread Cert.PreRefIdeal.nD Cert.PreRefIdeal.τ).loc Cert.PreRefIdeal.main_arg4) = m' ((c.tc : Thread Cert.PreRefIdeal.nD Cert.PreRefIdeal.τ).loc Cert.PreRefIdeal.main_arg4))

def preserves_Down_DownIdeal : Prop :=
  True

def algebraic_DownIdeal_DownRefIdeal_pre_finite_down [hDownIdeal : Cert.DownIdeal.Facts] [hDownRefIdeal : Cert.DownRefIdeal.Facts] [hPre_finite_down : Cert.Pre_finite_down.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal_finite_down m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v11) = v0 c
          ∧ r.2.mem ((c.tc : Thread Cert.DownRefIdeal.nD Cert.DownRefIdeal.τ).loc Cert.DownRefIdeal.main_v12) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Mid_MidIdeal : Prop :=
  True

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)
      ∧ m' ((c.tc : Thread Cert.MidRefIdeal.nD Cert.MidRefIdeal.τ).loc Cert.MidRefIdeal.main_arg6) = m ((c.tc : Thread Cert.MidIdeal.nD Cert.MidIdeal.τ).loc Cert.MidIdeal.main_arg6)
      ∧ m' ((c.tc : Thread Cert.MidRefIdeal.nD Cert.MidRefIdeal.τ).loc Cert.MidRefIdeal.main_arg7) = m ((c.tc : Thread Cert.MidIdeal.nD Cert.MidIdeal.τ).loc Cert.MidIdeal.main_arg7)
      ∧ m' ((c.tc : Thread Cert.MidRefIdeal.nD Cert.MidRefIdeal.τ).loc Cert.MidRefIdeal.main_arg8) = m ((c.tc : Thread Cert.MidIdeal.nD Cert.MidIdeal.τ).loc Cert.MidIdeal.main_arg8)) →
    ∃ (v0 : (c : Dev Cert.MidIdeal.nD) → Buf (Elt Ideal) ((c.tc : Thread Cert.MidIdeal.nD Cert.MidIdeal.τ).loc Cert.MidIdeal.main_v2_0)) (v1 : (c : Dev Cert.MidIdeal.nD) → Buf (Elt Ideal) ((c.tc : Thread Cert.MidIdeal.nD Cert.MidIdeal.τ).loc Cert.MidIdeal.main_v2_1)) (v2 : (c : Dev Cert.MidIdeal.nD) → Buf (Elt Ideal) ((c.tc : Thread Cert.MidIdeal.nD Cert.MidIdeal.τ).loc Cert.MidIdeal.main_v2_2)) (v3 : (c : Dev Cert.MidIdeal.nD) → Buf (Elt Ideal) ((c.tc : Thread Cert.MidIdeal.nD Cert.MidIdeal.τ).loc Cert.MidIdeal.main_v2_3)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v2_0) = v0 c
          ∧ r.2.mem ((c.tc : Thread Cert.MidIdeal.nD Cert.MidIdeal.τ).loc Cert.MidIdeal.main_v2_1) = v1 c
          ∧ r.2.mem ((c.tc : Thread Cert.MidIdeal.nD Cert.MidIdeal.τ).loc Cert.MidIdeal.main_v2_2) = v2 c
          ∧ r.2.mem ((c.tc : Thread Cert.MidIdeal.nD Cert.MidIdeal.τ).loc Cert.MidIdeal.main_v2_3) = v3 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
          ∧ r.2.mem ((c.tc : Thread Cert.MidIdeal.nD Cert.MidIdeal.τ).loc Cert.MidIdeal.main_arg8) = m ((c.tc : Thread Cert.MidIdeal.nD Cert.MidIdeal.τ).loc Cert.MidIdeal.main_arg8))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v43) = v0 c
          ∧ r.2.mem ((c.tc : Thread Cert.MidRefIdeal.nD Cert.MidRefIdeal.τ).loc Cert.MidRefIdeal.main_v78) = v1 c
          ∧ r.2.mem ((c.tc : Thread Cert.MidRefIdeal.nD Cert.MidRefIdeal.τ).loc Cert.MidRefIdeal.main_v26) = v2 c
          ∧ r.2.mem ((c.tc : Thread Cert.MidRefIdeal.nD Cert.MidRefIdeal.τ).loc Cert.MidRefIdeal.main_v61) = v3 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5)
          ∧ r.2.mem ((c.tc : Thread Cert.MidRefIdeal.nD Cert.MidRefIdeal.τ).loc Cert.MidRefIdeal.main_arg6) = m' ((c.tc : Thread Cert.MidRefIdeal.nD Cert.MidRefIdeal.τ).loc Cert.MidRefIdeal.main_arg6)
          ∧ r.2.mem ((c.tc : Thread Cert.MidRefIdeal.nD Cert.MidRefIdeal.τ).loc Cert.MidRefIdeal.main_arg7) = m' ((c.tc : Thread Cert.MidRefIdeal.nD Cert.MidRefIdeal.τ).loc Cert.MidRefIdeal.main_arg7)
          ∧ r.2.mem ((c.tc : Thread Cert.MidRefIdeal.nD Cert.MidRefIdeal.τ).loc Cert.MidRefIdeal.main_arg8) = m' ((c.tc : Thread Cert.MidRefIdeal.nD Cert.MidRefIdeal.τ).loc Cert.MidRefIdeal.main_arg8))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)) (v3 : (c : Dev Cert.LossIdeal.nD) → Buf (Elt Ideal) ((c.tc : Thread Cert.LossIdeal.nD Cert.LossIdeal.τ).loc Cert.LossIdeal.main_v0_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_v0_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v53) = v0 c
          ∧ r.2.mem ((c.tc : Thread Cert.LossRefIdeal.nD Cert.LossRefIdeal.τ).loc Cert.LossRefIdeal.main_v33) = v1 c
          ∧ r.2.mem ((c.tc : Thread Cert.LossRefIdeal.nD Cert.LossRefIdeal.τ).loc Cert.LossRefIdeal.main_v54) = v2 c
          ∧ r.2.mem ((c.tc : Thread Cert.LossRefIdeal.nD Cert.LossRefIdeal.τ).loc Cert.LossRefIdeal.main_v36) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v1) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v6) = v2 c
          ∧ r.2.mem ((c.tc : Thread Cert.AdamInRefIdeal.nD Cert.AdamInRefIdeal.τ).loc Cert.AdamInRefIdeal.main_v12) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v1) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v6) = v2 c
          ∧ r.2.mem ((c.tc : Thread Cert.AdamOutRefIdeal.nD Cert.AdamOutRefIdeal.τ).loc Cert.AdamOutRefIdeal.main_v12) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamBranch_AdamBranchIdeal : Prop :=
  True

def algebraic_AdamBranchIdeal_AdamBranchRefIdeal [hAdamBranchIdeal : Cert.AdamBranchIdeal.Facts] [hAdamBranchRefIdeal : Cert.AdamBranchRefIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg)
    (m' : (ℓ : Loc Cert.AdamBranchRefIdeal.nD Cert.AdamBranchRefIdeal.τ Cert.AdamBranchRefIdeal.sig) → Buf (Elt Ideal) ℓ) (g' : Dev Cert.AdamBranchRefIdeal.nD → PrngReg), Pre_AdamBranchIdeal m →
    (∀ c : Dev Cert.AdamBranchIdeal.nD,
      m' ((c.tc : Thread Cert.AdamBranchRefIdeal.nD Cert.AdamBranchRefIdeal.τ).loc Cert.AdamBranchRefIdeal.main_arg0) = m ((c.tc : Thread Cert.AdamBranchIdeal.nD Cert.AdamBranchIdeal.τ).loc Cert.AdamBranchIdeal.main_arg0)
      ∧ m' ((c.tc : Thread Cert.AdamBranchRefIdeal.nD Cert.AdamBranchRefIdeal.τ).loc Cert.AdamBranchRefIdeal.main_arg1) = m ((c.tc : Thread Cert.AdamBranchIdeal.nD Cert.AdamBranchIdeal.τ).loc Cert.AdamBranchIdeal.main_arg1)
      ∧ m' ((c.tc : Thread Cert.AdamBranchRefIdeal.nD Cert.AdamBranchRefIdeal.τ).loc Cert.AdamBranchRefIdeal.main_arg2) = m ((c.tc : Thread Cert.AdamBranchIdeal.nD Cert.AdamBranchIdeal.τ).loc Cert.AdamBranchIdeal.main_arg2)
      ∧ m' ((c.tc : Thread Cert.AdamBranchRefIdeal.nD Cert.AdamBranchRefIdeal.τ).loc Cert.AdamBranchRefIdeal.main_arg3) = m ((c.tc : Thread Cert.AdamBranchIdeal.nD Cert.AdamBranchIdeal.τ).loc Cert.AdamBranchIdeal.main_arg3)) →
    ∃ (v0 : (c : Dev Cert.AdamBranchIdeal.nD) → Buf (Elt Ideal) ((c.tc : Thread Cert.AdamBranchIdeal.nD Cert.AdamBranchIdeal.τ).loc Cert.AdamBranchIdeal.main_v0_0)) (v1 : (c : Dev Cert.AdamBranchIdeal.nD) → Buf (Elt Ideal) ((c.tc : Thread Cert.AdamBranchIdeal.nD Cert.AdamBranchIdeal.τ).loc Cert.AdamBranchIdeal.main_v0_1)) (v2 : (c : Dev Cert.AdamBranchIdeal.nD) → Buf (Elt Ideal) ((c.tc : Thread Cert.AdamBranchIdeal.nD Cert.AdamBranchIdeal.τ).loc Cert.AdamBranchIdeal.main_v0_2)) (v3 : (c : Dev Cert.AdamBranchIdeal.nD) → Buf (Elt Ideal) ((c.tc : Thread Cert.AdamBranchIdeal.nD Cert.AdamBranchIdeal.τ).loc Cert.AdamBranchIdeal.main_v0_3)),
      θ_run (Cert.AdamBranchIdeal.defs (F := Ideal)) (onTc (τ := Cert.AdamBranchIdeal.τ) (Cert.AdamBranchIdeal.main (F := Ideal))) ⟨m, fun _ => 0, g⟩ (fun r => ∀ c : Dev Cert.AdamBranchIdeal.nD,
          r.2.mem ((c.tc : Thread Cert.AdamBranchIdeal.nD Cert.AdamBranchIdeal.τ).loc Cert.AdamBranchIdeal.main_v0_0) = v0 c
          ∧ r.2.mem ((c.tc : Thread Cert.AdamBranchIdeal.nD Cert.AdamBranchIdeal.τ).loc Cert.AdamBranchIdeal.main_v0_1) = v1 c
          ∧ r.2.mem ((c.tc : Thread Cert.AdamBranchIdeal.nD Cert.AdamBranchIdeal.τ).loc Cert.AdamBranchIdeal.main_v0_2) = v2 c
          ∧ r.2.mem ((c.tc : Thread Cert.AdamBranchIdeal.nD Cert.AdamBranchIdeal.τ).loc Cert.AdamBranchIdeal.main_v0_3) = v3 c
          ∧ r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
          ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
          ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
          ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ θ_run (Cert.AdamBranchRefIdeal.defs (F := Ideal)) (onTc (τ := Cert.AdamBranchRefIdeal.τ) (Cert.AdamBranchRefIdeal.main (F := Ideal))) ⟨m', fun _ => 0, g'⟩ (fun r => ∀ c : Dev Cert.AdamBranchRefIdeal.nD,
          r.2.mem ((c.tc : Thread Cert.AdamBranchRefIdeal.nD Cert.AdamBranchRefIdeal.τ).loc Cert.AdamBranchRefIdeal.main_v1) = v0 c
          ∧ r.2.mem ((c.tc : Thread Cert.AdamBranchRefIdeal.nD Cert.AdamBranchRefIdeal.τ).loc Cert.AdamBranchRefIdeal.main_v25) = v1 c
          ∧ r.2.mem ((c.tc : Thread Cert.AdamBranchRefIdeal.nD Cert.AdamBranchRefIdeal.τ).loc Cert.AdamBranchRefIdeal.main_v6) = v2 c
          ∧ r.2.mem ((c.tc : Thread Cert.AdamBranchRefIdeal.nD Cert.AdamBranchRefIdeal.τ).loc Cert.AdamBranchRefIdeal.main_v12) = v3 c
          ∧ r.2.mem ((c.tc : Thread Cert.AdamBranchRefIdeal.nD Cert.AdamBranchRefIdeal.τ).loc Cert.AdamBranchRefIdeal.main_arg0) = m' ((c.tc : Thread Cert.AdamBranchRefIdeal.nD Cert.AdamBranchRefIdeal.τ).loc Cert.AdamBranchRefIdeal.main_arg0)
          ∧ r.2.mem ((c.tc : Thread Cert.AdamBranchRefIdeal.nD Cert.AdamBranchRefIdeal.τ).loc Cert.AdamBranchRefIdeal.main_arg1) = m' ((c.tc : Thread Cert.AdamBranchRefIdeal.nD Cert.AdamBranchRefIdeal.τ).loc Cert.AdamBranchRefIdeal.main_arg1)
          ∧ r.2.mem ((c.tc : Thread Cert.AdamBranchRefIdeal.nD Cert.AdamBranchRefIdeal.τ).loc Cert.AdamBranchRefIdeal.main_arg2) = m' ((c.tc : Thread Cert.AdamBranchRefIdeal.nD Cert.AdamBranchRefIdeal.τ).loc Cert.AdamBranchRefIdeal.main_arg2)
          ∧ r.2.mem ((c.tc : Thread Cert.AdamBranchRefIdeal.nD Cert.AdamBranchRefIdeal.τ).loc Cert.AdamBranchRefIdeal.main_arg3) = m' ((c.tc : Thread Cert.AdamBranchRefIdeal.nD Cert.AdamBranchRefIdeal.τ).loc Cert.AdamBranchRefIdeal.main_arg3))

def preserves_AdamFfn_AdamFfnIdeal : Prop :=
  True

def algebraic_AdamFfnIdeal_AdamFfnRefIdeal [hAdamFfnIdeal : Cert.AdamFfnIdeal.Facts] [hAdamFfnRefIdeal : Cert.AdamFfnRefIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg)
    (m' : (ℓ : Loc Cert.AdamFfnRefIdeal.nD Cert.AdamFfnRefIdeal.τ Cert.AdamFfnRefIdeal.sig) → Buf (Elt Ideal) ℓ) (g' : Dev Cert.AdamFfnRefIdeal.nD → PrngReg), Pre_AdamFfnIdeal m →
    (∀ c : Dev Cert.AdamFfnIdeal.nD,
      m' ((c.tc : Thread Cert.AdamFfnRefIdeal.nD Cert.AdamFfnRefIdeal.τ).loc Cert.AdamFfnRefIdeal.main_arg0) = m ((c.tc : Thread Cert.AdamFfnIdeal.nD Cert.AdamFfnIdeal.τ).loc Cert.AdamFfnIdeal.main_arg0)
      ∧ m' ((c.tc : Thread Cert.AdamFfnRefIdeal.nD Cert.AdamFfnRefIdeal.τ).loc Cert.AdamFfnRefIdeal.main_arg1) = m ((c.tc : Thread Cert.AdamFfnIdeal.nD Cert.AdamFfnIdeal.τ).loc Cert.AdamFfnIdeal.main_arg1)
      ∧ m' ((c.tc : Thread Cert.AdamFfnRefIdeal.nD Cert.AdamFfnRefIdeal.τ).loc Cert.AdamFfnRefIdeal.main_arg2) = m ((c.tc : Thread Cert.AdamFfnIdeal.nD Cert.AdamFfnIdeal.τ).loc Cert.AdamFfnIdeal.main_arg2)
      ∧ m' ((c.tc : Thread Cert.AdamFfnRefIdeal.nD Cert.AdamFfnRefIdeal.τ).loc Cert.AdamFfnRefIdeal.main_arg3) = m ((c.tc : Thread Cert.AdamFfnIdeal.nD Cert.AdamFfnIdeal.τ).loc Cert.AdamFfnIdeal.main_arg3)) →
    ∃ (v0 : (c : Dev Cert.AdamFfnIdeal.nD) → Buf (Elt Ideal) ((c.tc : Thread Cert.AdamFfnIdeal.nD Cert.AdamFfnIdeal.τ).loc Cert.AdamFfnIdeal.main_v0_0)) (v1 : (c : Dev Cert.AdamFfnIdeal.nD) → Buf (Elt Ideal) ((c.tc : Thread Cert.AdamFfnIdeal.nD Cert.AdamFfnIdeal.τ).loc Cert.AdamFfnIdeal.main_v0_1)) (v2 : (c : Dev Cert.AdamFfnIdeal.nD) → Buf (Elt Ideal) ((c.tc : Thread Cert.AdamFfnIdeal.nD Cert.AdamFfnIdeal.τ).loc Cert.AdamFfnIdeal.main_v0_2)) (v3 : (c : Dev Cert.AdamFfnIdeal.nD) → Buf (Elt Ideal) ((c.tc : Thread Cert.AdamFfnIdeal.nD Cert.AdamFfnIdeal.τ).loc Cert.AdamFfnIdeal.main_v0_3)),
      θ_run (Cert.AdamFfnIdeal.defs (F := Ideal)) (onTc (τ := Cert.AdamFfnIdeal.τ) (Cert.AdamFfnIdeal.main (F := Ideal))) ⟨m, fun _ => 0, g⟩ (fun r => ∀ c : Dev Cert.AdamFfnIdeal.nD,
          r.2.mem ((c.tc : Thread Cert.AdamFfnIdeal.nD Cert.AdamFfnIdeal.τ).loc Cert.AdamFfnIdeal.main_v0_0) = v0 c
          ∧ r.2.mem ((c.tc : Thread Cert.AdamFfnIdeal.nD Cert.AdamFfnIdeal.τ).loc Cert.AdamFfnIdeal.main_v0_1) = v1 c
          ∧ r.2.mem ((c.tc : Thread Cert.AdamFfnIdeal.nD Cert.AdamFfnIdeal.τ).loc Cert.AdamFfnIdeal.main_v0_2) = v2 c
          ∧ r.2.mem ((c.tc : Thread Cert.AdamFfnIdeal.nD Cert.AdamFfnIdeal.τ).loc Cert.AdamFfnIdeal.main_v0_3) = v3 c
          ∧ r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
          ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
          ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
          ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3))
      ∧ θ_run (Cert.AdamFfnRefIdeal.defs (F := Ideal)) (onTc (τ := Cert.AdamFfnRefIdeal.τ) (Cert.AdamFfnRefIdeal.main (F := Ideal))) ⟨m', fun _ => 0, g'⟩ (fun r => ∀ c : Dev Cert.AdamFfnRefIdeal.nD,
          r.2.mem ((c.tc : Thread Cert.AdamFfnRefIdeal.nD Cert.AdamFfnRefIdeal.τ).loc Cert.AdamFfnRefIdeal.main_v1) = v0 c
          ∧ r.2.mem ((c.tc : Thread Cert.AdamFfnRefIdeal.nD Cert.AdamFfnRefIdeal.τ).loc Cert.AdamFfnRefIdeal.main_v25) = v1 c
          ∧ r.2.mem ((c.tc : Thread Cert.AdamFfnRefIdeal.nD Cert.AdamFfnRefIdeal.τ).loc Cert.AdamFfnRefIdeal.main_v6) = v2 c
          ∧ r.2.mem ((c.tc : Thread Cert.AdamFfnRefIdeal.nD Cert.AdamFfnRefIdeal.τ).loc Cert.AdamFfnRefIdeal.main_v12) = v3 c
          ∧ r.2.mem ((c.tc : Thread Cert.AdamFfnRefIdeal.nD Cert.AdamFfnRefIdeal.τ).loc Cert.AdamFfnRefIdeal.main_arg0) = m' ((c.tc : Thread Cert.AdamFfnRefIdeal.nD Cert.AdamFfnRefIdeal.τ).loc Cert.AdamFfnRefIdeal.main_arg0)
          ∧ r.2.mem ((c.tc : Thread Cert.AdamFfnRefIdeal.nD Cert.AdamFfnRefIdeal.τ).loc Cert.AdamFfnRefIdeal.main_arg1) = m' ((c.tc : Thread Cert.AdamFfnRefIdeal.nD Cert.AdamFfnRefIdeal.τ).loc Cert.AdamFfnRefIdeal.main_arg1)
          ∧ r.2.mem ((c.tc : Thread Cert.AdamFfnRefIdeal.nD Cert.AdamFfnRefIdeal.τ).loc Cert.AdamFfnRefIdeal.main_arg2) = m' ((c.tc : Thread Cert.AdamFfnRefIdeal.nD Cert.AdamFfnRefIdeal.τ).loc Cert.AdamFfnRefIdeal.main_arg2)
          ∧ r.2.mem ((c.tc : Thread Cert.AdamFfnRefIdeal.nD Cert.AdamFfnRefIdeal.τ).loc Cert.AdamFfnRefIdeal.main_arg3) = m' ((c.tc : Thread Cert.AdamFfnRefIdeal.nD Cert.AdamFfnRefIdeal.τ).loc Cert.AdamFfnRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v0) = v0 c
          ∧ r.2.mem ((c.tc : Thread Cert.AdamSmallRefIdeal.nD Cert.AdamSmallRefIdeal.τ).loc Cert.AdamSmallRefIdeal.main_v24) = v1 c
          ∧ r.2.mem ((c.tc : Thread Cert.AdamSmallRefIdeal.nD Cert.AdamSmallRefIdeal.τ).loc Cert.AdamSmallRefIdeal.main_v5) = v2 c
          ∧ r.2.mem ((c.tc : Thread Cert.AdamSmallRefIdeal.nD Cert.AdamSmallRefIdeal.τ).loc Cert.AdamSmallRefIdeal.main_v11) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def Claim : Prop :=
  ∃ (hKernel : Cert.Kernel.Facts) (hKernelIdeal : Cert.KernelIdeal.Facts) (hReferenceIdeal : Cert.ReferenceIdeal.Facts) (hGate : Cert.Gate.Facts) (hGateIdeal : Cert.GateIdeal.Facts) (hGateRefIdeal : Cert.GateRefIdeal.Facts) (hDw : Cert.Dw.Facts) (hDwIdeal : Cert.DwIdeal.Facts) (hDwRefIdeal : Cert.DwRefIdeal.Facts) (hUp : Cert.Up.Facts) (hUpIdeal : Cert.UpIdeal.Facts) (hUpRefIdeal : Cert.UpRefIdeal.Facts) (hInA : Cert.InA.Facts) (hInAIdeal : Cert.InAIdeal.Facts) (hInARefIdeal : Cert.InARefIdeal.Facts) (hInB : Cert.InB.Facts) (hInBIdeal : Cert.InBIdeal.Facts) (hInBRefIdeal : Cert.InBRefIdeal.Facts) (hProj : Cert.Proj.Facts) (hProjIdeal : Cert.ProjIdeal.Facts) (hProjRefIdeal : Cert.ProjRefIdeal.Facts) (hBranch : Cert.Branch.Facts) (hBranchIdeal : Cert.BranchIdeal.Facts) (hBranchRefIdeal : Cert.BranchRefIdeal.Facts) (hDwBranch : Cert.DwBranch.Facts) (hDwBranchIdeal : Cert.DwBranchIdeal.Facts) (hDwBranchRefIdeal : Cert.DwBranchRefIdeal.Facts) (hDwOut : Cert.DwOut.Facts) (hDwOutIdeal : Cert.DwOutIdeal.Facts) (hDwOutRefIdeal : Cert.DwOutRefIdeal.Facts) (hPre : Cert.Pre.Facts) (hPreIdeal : Cert.PreIdeal.Facts) (hPreRefIdeal : Cert.PreRefIdeal.Facts) (hDown : Cert.Down.Facts) (hDownIdeal : Cert.DownIdeal.Facts) (hDownRefIdeal : Cert.DownRefIdeal.Facts) (hMid : Cert.Mid.Facts) (hMidIdeal : Cert.MidIdeal.Facts) (hMidRefIdeal : Cert.MidRefIdeal.Facts) (hLoss : Cert.Loss.Facts) (hLossIdeal : Cert.LossIdeal.Facts) (hLossRefIdeal : Cert.LossRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamBranch : Cert.AdamBranch.Facts) (hAdamBranchIdeal : Cert.AdamBranchIdeal.Facts) (hAdamBranchRefIdeal : Cert.AdamBranchRefIdeal.Facts) (hAdamFfn : Cert.AdamFfn.Facts) (hAdamFfnIdeal : Cert.AdamFfnIdeal.Facts) (hAdamFfnRefIdeal : Cert.AdamFfnRefIdeal.Facts) (hAdamSmall : Cert.AdamSmall.Facts) (hAdamSmallIdeal : Cert.AdamSmallIdeal.Facts) (hAdamSmallRefIdeal : Cert.AdamSmallRefIdeal.Facts) (hPre_finite_inputs : Cert.Pre_finite_inputs.Facts) (hPre_finite_down : Cert.Pre_finite_down.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Gate (hGate := hGate)
    ∧ quiescent_GateIdeal (hGateIdeal := hGateIdeal)
    ∧ quiescent_GateRefIdeal (hGateRefIdeal := hGateRefIdeal)
    ∧ quiescent_Dw (hDw := hDw)
    ∧ quiescent_DwIdeal (hDwIdeal := hDwIdeal)
    ∧ quiescent_DwRefIdeal (hDwRefIdeal := hDwRefIdeal)
    ∧ quiescent_Up (hUp := hUp)
    ∧ quiescent_UpIdeal (hUpIdeal := hUpIdeal)
    ∧ quiescent_UpRefIdeal (hUpRefIdeal := hUpRefIdeal)
    ∧ quiescent_InA (hInA := hInA)
    ∧ quiescent_InAIdeal (hInAIdeal := hInAIdeal)
    ∧ quiescent_InARefIdeal (hInARefIdeal := hInARefIdeal)
    ∧ quiescent_InB (hInB := hInB)
    ∧ quiescent_InBIdeal (hInBIdeal := hInBIdeal)
    ∧ quiescent_InBRefIdeal (hInBRefIdeal := hInBRefIdeal)
    ∧ quiescent_Proj (hProj := hProj)
    ∧ quiescent_ProjIdeal (hProjIdeal := hProjIdeal)
    ∧ quiescent_ProjRefIdeal (hProjRefIdeal := hProjRefIdeal)
    ∧ quiescent_Branch (hBranch := hBranch)
    ∧ quiescent_BranchIdeal (hBranchIdeal := hBranchIdeal)
    ∧ quiescent_BranchRefIdeal (hBranchRefIdeal := hBranchRefIdeal)
    ∧ quiescent_DwBranch (hDwBranch := hDwBranch)
    ∧ quiescent_DwBranchIdeal (hDwBranchIdeal := hDwBranchIdeal)
    ∧ quiescent_DwBranchRefIdeal (hDwBranchRefIdeal := hDwBranchRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_Pre (hPre := hPre)
    ∧ quiescent_PreIdeal (hPreIdeal := hPreIdeal)
    ∧ quiescent_PreRefIdeal (hPreRefIdeal := hPreRefIdeal)
    ∧ quiescent_Down (hDown := hDown)
    ∧ quiescent_DownIdeal (hDownIdeal := hDownIdeal)
    ∧ quiescent_DownIdeal_pre_finite_down (hDownIdeal := hDownIdeal) (hPre_finite_down := hPre_finite_down)
    ∧ quiescent_DownRefIdeal (hDownRefIdeal := hDownRefIdeal)
    ∧ quiescent_DownRefIdeal_pre_finite_down (hDownRefIdeal := hDownRefIdeal) (hPre_finite_down := hPre_finite_down)
    ∧ quiescent_Mid (hMid := hMid)
    ∧ quiescent_MidIdeal (hMidIdeal := hMidIdeal)
    ∧ quiescent_MidRefIdeal (hMidRefIdeal := hMidRefIdeal)
    ∧ quiescent_Loss (hLoss := hLoss)
    ∧ quiescent_LossIdeal (hLossIdeal := hLossIdeal)
    ∧ quiescent_LossRefIdeal (hLossRefIdeal := hLossRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamBranch (hAdamBranch := hAdamBranch)
    ∧ quiescent_AdamBranchIdeal (hAdamBranchIdeal := hAdamBranchIdeal)
    ∧ quiescent_AdamBranchRefIdeal (hAdamBranchRefIdeal := hAdamBranchRefIdeal)
    ∧ quiescent_AdamFfn (hAdamFfn := hAdamFfn)
    ∧ quiescent_AdamFfnIdeal (hAdamFfnIdeal := hAdamFfnIdeal)
    ∧ quiescent_AdamFfnRefIdeal (hAdamFfnRefIdeal := hAdamFfnRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Gate_GateIdeal
    ∧ algebraic_GateIdeal_GateRefIdeal (hGateIdeal := hGateIdeal) (hGateRefIdeal := hGateRefIdeal)
    ∧ preserves_Dw_DwIdeal
    ∧ algebraic_DwIdeal_DwRefIdeal (hDwIdeal := hDwIdeal) (hDwRefIdeal := hDwRefIdeal)
    ∧ preserves_Up_UpIdeal
    ∧ algebraic_UpIdeal_UpRefIdeal (hUpIdeal := hUpIdeal) (hUpRefIdeal := hUpRefIdeal)
    ∧ preserves_InA_InAIdeal
    ∧ algebraic_InAIdeal_InARefIdeal (hInAIdeal := hInAIdeal) (hInARefIdeal := hInARefIdeal)
    ∧ preserves_InB_InBIdeal
    ∧ algebraic_InBIdeal_InBRefIdeal (hInBIdeal := hInBIdeal) (hInBRefIdeal := hInBRefIdeal)
    ∧ preserves_Proj_ProjIdeal
    ∧ algebraic_ProjIdeal_ProjRefIdeal (hProjIdeal := hProjIdeal) (hProjRefIdeal := hProjRefIdeal)
    ∧ preserves_Branch_BranchIdeal
    ∧ algebraic_BranchIdeal_BranchRefIdeal (hBranchIdeal := hBranchIdeal) (hBranchRefIdeal := hBranchRefIdeal)
    ∧ preserves_DwBranch_DwBranchIdeal
    ∧ algebraic_DwBranchIdeal_DwBranchRefIdeal (hDwBranchIdeal := hDwBranchIdeal) (hDwBranchRefIdeal := hDwBranchRefIdeal)
    ∧ preserves_DwOut_DwOutIdeal
    ∧ algebraic_DwOutIdeal_DwOutRefIdeal (hDwOutIdeal := hDwOutIdeal) (hDwOutRefIdeal := hDwOutRefIdeal)
    ∧ preserves_Pre_PreIdeal
    ∧ algebraic_PreIdeal_PreRefIdeal (hPreIdeal := hPreIdeal) (hPreRefIdeal := hPreRefIdeal)
    ∧ preserves_Down_DownIdeal
    ∧ algebraic_DownIdeal_DownRefIdeal_pre_finite_down (hDownIdeal := hDownIdeal) (hDownRefIdeal := hDownRefIdeal) (hPre_finite_down := hPre_finite_down)
    ∧ preserves_Mid_MidIdeal
    ∧ algebraic_MidIdeal_MidRefIdeal (hMidIdeal := hMidIdeal) (hMidRefIdeal := hMidRefIdeal)
    ∧ preserves_Loss_LossIdeal
    ∧ algebraic_LossIdeal_LossRefIdeal (hLossIdeal := hLossIdeal) (hLossRefIdeal := hLossRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamBranch_AdamBranchIdeal
    ∧ algebraic_AdamBranchIdeal_AdamBranchRefIdeal (hAdamBranchIdeal := hAdamBranchIdeal) (hAdamBranchRefIdeal := hAdamBranchRefIdeal)
    ∧ preserves_AdamFfn_AdamFfnIdeal
    ∧ algebraic_AdamFfnIdeal_AdamFfnRefIdeal (hAdamFfnIdeal := hAdamFfnIdeal) (hAdamFfnRefIdeal := hAdamFfnRefIdeal)
    ∧ preserves_AdamSmall_AdamSmallIdeal
    ∧ algebraic_AdamSmallIdeal_AdamSmallRefIdeal (hAdamSmallIdeal := hAdamSmallIdeal) (hAdamSmallRefIdeal := hAdamSmallRefIdeal)
-- ==== Pre_finite_down.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S2816x1024 : S_.BroadcastsInDim S2816x1024 (![] : Fin 0 → Fin S2816x1024.rank)
  bcast_S_S4096x2816 : S_.BroadcastsInDim S4096x2816 (![] : Fin 0 → Fin S4096x2816.rank)

variable [Facts]

def fn {F : FTy → Type} [FloatOps F] (main_arg0 : FVec F S4096x1024 .bf16) (main_arg1 : FVec F S2816x1024 .bf16) (main_arg2 : FVec F S4096x2816 .bf16) (main_arg3 : FVec F S4096x2816 .bf16) : IVec S4096x1024 1 × IVec S2816x1024 1 × IVec S4096x2816 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S2816x1024 .f32 := (extf .f32 · bitsLt_bf16_f32) main_arg1
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_v8 : FVec F S4096x2816 .f32 := (extf .f32 · bitsLt_bf16_f32) main_arg3
  let main_v9 : FVec F S4096x2816 .f32 := Host.absf main_v8
  let main_cst_1 : FVec F S_ .f32 := constant S_ .f32 0x7F800000#32
  let main_v10 : FVec F S4096x2816 .f32 := broadcastInDim S4096x2816 ![] bcast_S_S4096x2816 main_cst_1
  let main_v11 : IVec S4096x2816 1 := cmpf .olt main_v9 main_v10
  (main_v3, main_v7, main_v11)
-- ==== Pre_finite_inputs.lean ====
abbrev S4096x5888 : Shape := ⟨2, ![4096, 5888]⟩
abbrev S4096x512 : Shape := ⟨2, ![4096, 512]⟩
abbrev S4096x1536 : Shape := ⟨2, ![4096, 1536]⟩
abbrev S_ : Shape := ⟨0, ![]⟩

class Facts : Prop where
  slices_S4096x5888_S4096x1536_0_768 : S4096x5888.Slices ![0, 768] S4096x1536
  bitsLt_bf16_f32 : FTy.bits .bf16 < FTy.bits .f32
  bcast_S_S4096x1536 : S_.BroadcastsInDim S4096x1536 (![] : Fin 0 → Fin S4096x1536.rank)
  bcast_S_S4096x512 : S_.BroadcastsInDim S4096x512 (![] : Fin 0 → Fin S4096x512.rank)

variable [Facts]

def fn {F : FTy → Type} [FloatOps F] (main_arg0 : FVec F S4096x5888 .bf16) (main_arg1 : FVec F S4096x512 .bf16) : IVec S4096x1536 1 × IVec S4096x512 1 :=
  let main_v0 : FVec F S4096x1536 .bf16 := (extractStridedSlice S4096x1536 ![0, 768] · slices_S4096x5888_S4096x1536_0_768) main_arg0
  let main_v1 : FVec F S4096x1536 .f32 := (extf .f32 · bitsLt_bf16_f32) main_v0
  let main_v2 : FVec F S4096x1536 .f32 := Host.absf main_v1
  let main_cst : FVec F S_ .f32 := constant S_ .f32 0x7F800000#32
  let main_v3 : FVec F S4096x1536 .f32 := broadcastInDim S4096x1536 ![] bcast_S_S4096x1536 main_cst
  let main_v4 : IVec S4096x1536 1 := cmpf .olt main_v2 main_v3
  let main_v5 : FVec F S4096x512 .f32 := (extf .f32 · bitsLt_bf16_f32) main_arg1
  let main_v6 : FVec F S4096x512 .f32 := Host.absf main_v5
  let main_cst_0 : FVec F S_ .f32 := constant S_ .f32 0x7F800000#32
  let main_v7 : FVec F S4096x512 .f32 := broadcastInDim S4096x512 ![] bcast_S_S4096x512 main_cst_0
  let main_v8 : IVec S4096x512 1 := cmpf .olt main_v6 main_v7
  (main_v4, main_v8)
-- ==== Kernel.lean ====
abbrev S4096x5888 : Shape := ⟨2, ![4096, 5888]⟩
abbrev S4096x512 : Shape := ⟨2, ![4096, 512]⟩
abbrev S2x2048x8x64 : Shape := ⟨4, ![2, 2048, 8, 64]⟩
abbrev S2x8x2048x2048 : Shape := ⟨4, ![2, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x8x2048 : Shape := ⟨3, ![2, 8, 2048]⟩
abbrev S2x2048x8 : Shape := ⟨3, ![2, 2048, 8]⟩
abbrev S2x2048x8x1 : Shape := ⟨4, ![2, 2048, 8, 1]⟩
abbrev S256x256 : Shape := ⟨2, ![256, 256]⟩
abbrev S2048x256 : Shape := ⟨2, ![2048, 256]⟩
abbrev S256x512 : Shape := ⟨2, ![256, 512]⟩
abbrev S2048x512 : Shape := ⟨2, ![2048, 512]⟩
abbrev S1024x256 : Shape := ⟨2, ![1024, 256]⟩
abbrev S512x256 : Shape := ⟨2, ![512, 256]⟩
abbrev S256 : Shape := ⟨1, ![256]⟩
abbrev S256x1 : Shape := ⟨2, ![256, 1]⟩
abbrev S1024x1 : Shape := ⟨2, ![1024, 1]⟩
abbrev S1024 : Shape := ⟨1, ![1024]⟩
abbrev S1024x512 : Shape := ⟨2, ![1024, 512]⟩

abbrev nBuf : Space → Nat
  | .hbm => 50
  | .vmem => 22
  | .smem => 0
  | _ => 0

abbrev bufTy : (tb : Table) → Fin (tcTables nBuf tb) → BufTy
  | .hbm, ⟨0, _⟩ => ⟨S4096x5888, .bf16⟩
  | .hbm, ⟨1, _⟩ => ⟨S4096x512, .bf16⟩
  | .hbm, ⟨2, _⟩ => ⟨S4096x512, .bf16⟩
  | .hbm, ⟨3, _⟩ => ⟨S4096x512, .f32⟩
  | .hbm, ⟨4, _⟩ => ⟨S2x2048x8x64, .f32⟩
  | .hbm, ⟨5, _⟩ => ⟨S4096x512, .bf16⟩
  | .hbm, ⟨6, _⟩ => ⟨S4096x512, .f32⟩
  | .hbm, ⟨7, _⟩ => ⟨S2x2048x8x64, .f32⟩
  | .hbm, ⟨8, _⟩ => ⟨S2x8x2048x2048, .f32⟩
  | .hbm, ⟨9, _⟩ => ⟨S_, .f32⟩
  | .hbm, ⟨10, _⟩ => ⟨S2x8x2048x2048, .f32⟩
  | .hbm, ⟨11, _⟩ => ⟨S2x8x2048x2048, .f32⟩
  | .hbm, ⟨12, _⟩ => ⟨S2048, .i32⟩
  | .hbm, ⟨13, _⟩ => ⟨S1x2048, .i32⟩
  | .hbm, ⟨14, _⟩ => ⟨S2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S2x8x2048x2048, .f32⟩
  | .hbm, ⟨20, _⟩ => ⟨S2x8x2048x2048, .f32⟩
  | .hbm, ⟨21, _⟩ => ⟨S_, .f32⟩
  | .hbm, ⟨22, _⟩ => ⟨S2x8x2048x2048, .f32⟩
  | .hbm, ⟨23, _⟩ => ⟨S2x8x2048x2048, .f32⟩
  | .hbm, ⟨24, _⟩ => ⟨S2x8x2048x2048, .f32⟩
  | .hbm, ⟨25, _⟩ => ⟨S2x8x2048x2048, .f32⟩
  | .hbm, ⟨26, _⟩ => ⟨S2x8x2048x2048, .i1⟩
  | .hbm, ⟨27, _⟩ => ⟨S2x8x2048x2048, .f32⟩
  | .hbm, ⟨28, _⟩ => ⟨S2x8x2048x2048, .f32⟩
  | .hbm, ⟨29, _⟩ => ⟨S2x8x2048x2048, .f32⟩
  | .hbm, ⟨30, _⟩ => ⟨S2x8x2048x2048, .f32⟩
  | .hbm, ⟨31, _⟩ => ⟨S2x8x2048x2048, .f32⟩
  | .hbm, ⟨32, _⟩ => ⟨S2x8x2048x2048, .f32⟩
  | .hbm, ⟨33, _⟩ => ⟨S2x8x2048x2048, .f32⟩
  | .hbm, ⟨34, _⟩ => ⟨S2x8x2048x2048, .f32⟩
  | .hbm, ⟨35, _⟩ => ⟨S2x8x2048x2048, .f32⟩
  | .hbm, ⟨36, _⟩ => ⟨S_, .f32⟩
  | .hbm, ⟨37, _⟩ => ⟨S_, .f32⟩
  | .hbm, ⟨38, _⟩ => ⟨S2x8x2048x2048, .i1⟩
  | .hbm, ⟨39, _⟩ => ⟨S2x8x2048x2048, .f32⟩
  | .hbm, ⟨40, _⟩ => ⟨S2x8x2048x2048, .f32⟩
  | .hbm, ⟨41, _⟩ => ⟨S_, .f32⟩
  | .hbm, ⟨42, _⟩ => ⟨S2x8x2048, .f32⟩
  | .hbm, ⟨43, _⟩ => ⟨S2x2048x8, .f32⟩
  | .hbm, ⟨44, _⟩ => ⟨S2x2048x8x1, .f32⟩
  | .hbm, ⟨45, _⟩ => ⟨S2x2048x8x64, .f32⟩
  | .hbm, ⟨46, _⟩ => ⟨S4096x512, .f32⟩
  | .hbm, ⟨47, _⟩ => ⟨S4096x512, .bf16⟩
  | .hbm, ⟨48, _⟩ => ⟨S4096x512, .f32⟩
  | .hbm, ⟨49, _⟩ => ⟨S4096x512, .f32⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S256x512, .bf16⟩
  | .local _ .vmem, ⟨13, _⟩ => ⟨S256x512, .bf16⟩
  | .local _ .vmem, ⟨14, _⟩ => ⟨S256x512, .f32⟩
  | .local _ .vmem, ⟨15, _⟩ => ⟨S256x512, .f32⟩
  | .local _ .vmem, ⟨16, _⟩ => ⟨S256x512, .bf16⟩
  | .local _ .vmem, ⟨17, _⟩ => ⟨S256x512, .bf16⟩
  | .local _ .vmem, ⟨18, _⟩ => ⟨S2048x512, .f32⟩
  | .local _ .vmem, ⟨19, _⟩ => ⟨S2048x512, .f32⟩
  | .local _ .vmem, ⟨20, _⟩ => ⟨S2048x512, .f32⟩
  | .local _ .vmem, ⟨21, _⟩ => ⟨S2048x512, .f32⟩
  | _, _ => ⟨S4096x5888, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v17 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v18 : Ref sig .tc := ⟨.hbm, 40, rfl⟩
abbrev main_cst_1 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24_0 : Ref sig .tc := ⟨.hbm, 47, rfl⟩
abbrev main_v24_1 : Ref sig .tc := ⟨.hbm, 48, rfl⟩
abbrev main_v24_2 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 8], ![false, false]⟩

@[reducible] def k0_t1_loop (i : grid0.Coords) : Scf.Loop 32 :=
  let c0_i32_85 : BitVec 32 := 0#32
  let arg1 : BitVec 32 := BitVec.ofNat 32 (i 1).val
  let v256 : BitVec 32 := Scalar.subi arg1 c0_i32_85
  let c1_i32_86 : BitVec 32 := 1#32
  let v258 : BitVec 32 := Scalar.divsi v256 c1_i32_86
  let v259 : BitVec 32 := Scalar.muli v258 c1_i32_86
  let v260 : BitVec 32 := Scalar.addi c0_i32_85 v259
  let c1_i32_87 : BitVec 32 := 1#32
  ⟨c0_i32_85, v260, c1_i32_87⟩
def k0_mult1 (i : grid0.Coords) (k0_t1 : Fin (k0_t1_loop i).trips) : BitVec 32 :=
  let c0_i32_85 : BitVec 32 := 0#32
  let c1_i32_87 : BitVec 32 := 1#32
  let arg13 : BitVec 32 := Scf.iv c0_i32_85 c1_i32_87 k0_t1
  let c256_i32_143 : BitVec 32 := 256#32
  let v432 : BitVec 32 := Scalar.muli arg13 c256_i32_143
  v432
def k0_off1 (i : grid0.Coords) (k0_t1 : Fin (k0_t1_loop i).trips) : Fin 2 → Nat :=
  let c0_i32_85 : BitVec 32 := 0#32
  let c1_i32_87 : BitVec 32 := 1#32
  let arg13 : BitVec 32 := Scf.iv c0_i32_85 c1_i32_87 k0_t1
  let c256_i32_143 : BitVec 32 := 256#32
  let v432 : BitVec 32 := Scalar.muli arg13 c256_i32_143
  let v433 : BitVec 32 := v432
  let v434 : Index := Scalar.indexCast v433
  let c0_144 : Index := 0#32
  ![v434.toNat, 0]
def k0_off2 (i : grid0.Coords) (k0_t1 : Fin (k0_t1_loop i).trips) : Fin 2 → Nat :=
  let c0_i32_85 : BitVec 32 := 0#32
  let c1_i32_87 : BitVec 32 := 1#32
  let arg13 : BitVec 32 := Scf.iv c0_i32_85 c1_i32_87 k0_t1
  let c256_i32_143 : BitVec 32 := 256#32
  let v432 : BitVec 32 := Scalar.muli arg13 c256_i32_143
  let v433 : BitVec 32 := v432
  let v475 : Index := Scalar.indexCast v433
  let c0_154 : Index := 0#32
  ![v475.toNat, 0]
def k0_off3 (i : grid0.Coords) (k0_t1 : Fin (k0_t1_loop i).trips) : Fin 2 → Nat :=
  let c0_i32_85 : BitVec 32 := 0#32
  let c1_i32_87 : BitVec 32 := 1#32
  let arg13 : BitVec 32 := Scf.iv c0_i32_85 c1_i32_87 k0_t1
  let c256_i32_143 : BitVec 32 := 256#32
  let v432 : BitVec 32 := Scalar.muli arg13 c256_i32_143
  let v433 : BitVec 32 := v432
  let v553 : Index := Scalar.indexCast v433
  let c256_177 : Index := 256#32
  ![v553.toNat, 256]
@[reducible] def k0_t2_loop (i : grid0.Coords) : Scf.Loop 32 :=
  let c0_i32_85 : BitVec 32 := 0#32
  let arg1 : BitVec 32 := BitVec.ofNat 32 (i 1).val
  let v256 : BitVec 32 := Scalar.subi arg1 c0_i32_85
  let c1_i32_86 : BitVec 32 := 1#32
  let v258 : BitVec 32 := Scalar.divsi v256 c1_i32_86
  let v259 : BitVec 32 := Scalar.muli v258 c1_i32_86
  let v260 : BitVec 32 := Scalar.addi c0_i32_85 v259
  let v257 : BitVec 32 := Scalar.addi c0_i32_85 v256
  let c1_i32_88 : BitVec 32 := 1#32
  ⟨v260, v257, c1_i32_88⟩
def k0_mult2 (i : grid0.Coords) (k0_t2 : Fin (k0_t2_loop i).trips) : BitVec 32 :=
  let c0_i32_85 : BitVec 32 := 0#32
  let arg1 : BitVec 32 := BitVec.ofNat 32 (i 1).val
  let v256 : BitVec 32 := Scalar.subi arg1 c0_i32_85
  let c1_i32_86 : BitVec 32 := 1#32
  let v258 : BitVec 32 := Scalar.divsi v256 c1_i32_86
  let v259 : BitVec 32 := Scalar.muli v258 c1_i32_86
  let v260 : BitVec 32 := Scalar.addi c0_i32_85 v259
  let c1_i32_88 : BitVec 32 := 1#32
  let arg13 : BitVec 32 := Scf.iv v260 c1_i32_88 k0_t2
  let c256_i32_143 : BitVec 32 := 256#32
  let v432 : BitVec 32 := Scalar.muli arg13 c256_i32_143
  v432
def k0_off4 (i : grid0.Coords) (k0_t2 : Fin (k0_t2_loop i).trips) : Fin 2 → Nat :=
  let c0_i32_85 : BitVec 32 := 0#32
  let arg1 : BitVec 32 := BitVec.ofNat 32 (i 1).val
  let v256 : BitVec 32 := Scalar.subi arg1 c0_i32_85
  let c1_i32_86 : BitVec 32 := 1#32
  let v258 : BitVec 32 := Scalar.divsi v256 c1_i32_86
  let v259 : BitVec 32 := Scalar.muli v258 c1_i32_86
  let v260 : BitVec 32 := Scalar.addi c0_i32_85 v259
  let c1_i32_88 : BitVec 32 := 1#32
  let arg13 : BitVec 32 := Scf.iv v260 c1_i32_88 k0_t2
  let c256_i32_143 : BitVec 32 := 256#32
  let v432 : BitVec 32 := Scalar.muli arg13 c256_i32_143
  let v433 : BitVec 32 := v432
  let v434 : Index := Scalar.indexCast v433
  let c0_144 : Index := 0#32
  ![v434.toNat, 0]
def k0_off5 (i : grid0.Coords) (k0_t2 : Fin (k0_t2_loop i).trips) : Fin 2 → Nat :=
  let c0_i32_85 : BitVec 32 := 0#32
  let arg1 : BitVec 32 := BitVec.ofNat 32 (i 1).val
  let v256 : BitVec 32 := Scalar.subi arg1 c0_i32_85
  let c1_i32_86 : BitVec 32 := 1#32
  let v258 : BitVec 32 := Scalar.divsi v256 c1_i32_86
  let v259 : BitVec 32 := Scalar.muli v258 c1_i32_86
  let v260 : BitVec 32 := Scalar.addi c0_i32_85 v259
  let c1_i32_88 : BitVec 32 := 1#32
  let arg13 : BitVec 32 := Scf.iv v260 c1_i32_88 k0_t2
  let c256_i32_143 : BitVec 32 := 256#32
  let v432 : BitVec 32 := Scalar.muli arg13 c256_i32_143
  let v433 : BitVec 32 := v432
  let v475 : Index := Scalar.indexCast v433
  let c0_154 : Index := 0#32
  ![v475.toNat, 0]
def k0_off6 (i : grid0.Coords) (k0_t2 : Fin (k0_t2_loop i).trips) : Fin 2 → Nat :=
  let c0_i32_85 : BitVec 32 := 0#32
  let arg1 : BitVec 32 := BitVec.ofNat 32 (i 1).val
  let v256 : BitVec 32 := Scalar.subi arg1 c0_i32_85
  let c1_i32_86 : BitVec 32 := 1#32
  let v258 : BitVec 32 := Scalar.divsi v256 c1_i32_86
  let v259 : BitVec 32 := Scalar.muli v258 c1_i32_86
  let v260 : BitVec 32 := Scalar.addi c0_i32_85 v259
  let c1_i32_88 : BitVec 32 := 1#32
  let arg13 : BitVec 32 := Scf.iv v260 c1_i32_88 k0_t2
  let c256_i32_143 : BitVec 32 := 256#32
  let v432 : BitVec 32 := Scalar.muli arg13 c256_i32_143
  let v433 : BitVec 32 := v432
  let v553 : Index := Scalar.indexCast v433
  let c256_177 : Index := 256#32
  ![v553.toNat, 256]
def k0_mult3 (i : grid0.Coords) : BitVec 32 :=
  let arg1 : BitVec 32 := BitVec.ofNat 32 (i 1).val
  let c256_i32_89 : BitVec 32 := 256#32
  let v263 : BitVec 32 := Scalar.muli arg1 c256_i32_89
  v263
def k0_off7 (i : grid0.Coords) : Fin 2 → Nat :=
  let arg1 : BitVec 32 := BitVec.ofNat 32 (i 1).val
  let c256_i32_89 : BitVec 32 := 256#32
  let v263 : BitVec 32 := Scalar.muli arg1 c256_i32_89
  let v264 : BitVec 32 := v263
  let v265 : Index := Scalar.indexCast v264
  let c0_90 : Index := 0#32
  ![v265.toNat, 0]
def k0_off8 (i : grid0.Coords) : Fin 2 → Nat :=
  let arg1 : BitVec 32 := BitVec.ofNat 32 (i 1).val
  let c256_i32_89 : BitVec 32 := 256#32
  let v263 : BitVec 32 := Scalar.muli arg1 c256_i32_89
  let v264 : BitVec 32 := v263
  let v312 : Index := Scalar.indexCast v264
  let c0_103 : Index := 0#32
  ![v312.toNat, 0]
def k0_off9 (i : grid0.Coords) : Fin 2 → Nat :=
  let arg1 : BitVec 32 := BitVec.ofNat 32 (i 1).val
  let c256_i32_89 : BitVec 32 := 256#32
  let v263 : BitVec 32 := Scalar.muli arg1 c256_i32_89
  let v264 : BitVec 32 := v263
  let v393 : Index := Scalar.indexCast v264
  let c256_128 : Index := 256#32
  ![v393.toNat, 256]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c3_i32 : BitVec 32 := 3#32
  let c0_i32 : BitVec 32 := 0#32
  ![v1.toNat, c3_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let c0_i32 : BitVec 32 := 0#32
  ![v1.toNat, c4_i32.toNat]

def cc0_transform_2 (i : grid0.Coords) : Fin 2 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, c8_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2048x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S4096x5888 : Shape := ⟨2, ![4096, 5888]⟩
abbrev S4096x512 : Shape := ⟨2, ![4096, 512]⟩
abbrev S2x2048x8x64 : Shape := ⟨4, ![2, 2048, 8, 64]⟩
abbrev S2x2048x512 : Shape := ⟨3, ![2, 2048, 512]⟩
abbrev S2x8x2048x2048 : Shape := ⟨4, ![2, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x8x64x2048 : Shape := ⟨4, ![2, 8, 64, 2048]⟩
abbrev S2x8x2048x64 : Shape := ⟨4, ![2, 8, 2048, 64]⟩

abbrev nBuf : Space → Nat
  | .hbm => 180
  | .vmem => 0
  | .smem => 0
  | _ => 0

abbrev hbmTy0_0 (i : Nat) : BufTy := match i % 128 with
  | 0 => ⟨S4096x5888, .bf16⟩
  | 1 => ⟨S4096x512, .bf16⟩
  | 2 => ⟨S4096x512, .bf16⟩
  | 3 => ⟨S4096x512, .f32⟩
  | 4 => ⟨S2x2048x8x64, .f32⟩
  | 5 => ⟨S4096x512, .bf16⟩
  | 6 => ⟨S4096x512, .f32⟩
  | 7 => ⟨S2x2048x8x64, .f32⟩
  | 8 => ⟨S4096x512, .bf16⟩
  | 9 => ⟨S4096x512, .f32⟩
  | 10 => ⟨S2x2048x8x64, .f32⟩
  | 11 => ⟨S4096x512, .f32⟩
  | 12 => ⟨S2x2048x512, .f32⟩
  | 13 => ⟨S2x8x2048x2048, .f32⟩
  | 14 => ⟨S_, .f32⟩
  | 15 => ⟨S2x8x2048x2048, .f32⟩
  | 16 => ⟨S2x8x2048x2048, .f32⟩
  | 17 => ⟨S2048, .i32⟩
  | 18 => ⟨S1x2048, .i32⟩
  | 19 => ⟨S2048, .i32⟩
  | 20 => ⟨S2048x1, .i32⟩
  | 21 => ⟨S2048x2048, .i32⟩
  | 22 => ⟨S2048x2048, .i32⟩
  | 23 => ⟨S2048x2048, .i1⟩
  | 24 => ⟨S2x8x2048x2048, .f32⟩
  | 25 => ⟨S2x8x2048x2048, .f32⟩
  | 26 => ⟨S_, .f32⟩
  | 27 => ⟨S2x8x2048x2048, .f32⟩
  | 28 => ⟨S2x8x2048x2048, .f32⟩
  | 29 => ⟨S2x8x2048x2048, .f32⟩
  | 30 => ⟨S2x8x2048x2048, .f32⟩
  | 31 => ⟨S2x8x2048x2048, .i1⟩
  | 32 => ⟨S2x8x2048x2048, .f32⟩
  | 33 => ⟨S2x8x2048x2048, .f32⟩
  | 34 => ⟨S2x8x2048x2048, .f32⟩
  | 35 => ⟨S2x8x2048x2048, .f32⟩
  | 36 => ⟨S2x8x2048x2048, .f32⟩
  | 37 => ⟨S2x8x2048x2048, .f32⟩
  | 38 => ⟨S2x8x2048x2048, .f32⟩
  | 39 => ⟨S2x8x2048x2048, .f32⟩
  | 40 => ⟨S_, .f32⟩
  | 41 => ⟨S2x8x2048x2048, .f32⟩
  | 42 => ⟨S2x8x2048x2048, .i1⟩
  | 43 => ⟨S_, .f32⟩
  | 44 => ⟨S2x8x2048x2048, .f32⟩
  | 45 => ⟨S2x8x2048x2048, .f32⟩
  | 46 => ⟨S_, .f32⟩
  | 47 => ⟨S2x8x2048x2048, .f32⟩
  | 48 => ⟨S2x8x2048x2048, .i1⟩
  | 49 => ⟨S_, .f32⟩
  | 50 => ⟨S2x8x2048x2048, .f32⟩
  | 51 => ⟨S2x8x2048x2048, .f32⟩
  | 52 => ⟨S2x8x2048x2048, .f32⟩
  | 53 => ⟨S2x8x2048x2048, .f32⟩
  | 54 => ⟨S_, .f32⟩
  | 55 => ⟨S_, .f32⟩
  | 56 => ⟨S_, .i1⟩
  | 57 => ⟨S_, .f32⟩
  | 58 => ⟨S_, .f32⟩
  | 59 => ⟨S_, .f32⟩
  | 60 => ⟨S_, .f32⟩
  | 61 => ⟨S2x8x2048x2048, .f32⟩
  | 62 => ⟨S2x8x2048x2048, .i1⟩
  | 63 => ⟨S_, .f32⟩
  | 64 => ⟨S2x8x2048x2048, .f32⟩
  | 65 => ⟨S2x8x2048x2048, .f32⟩
  | 66 => ⟨S2x8x2048x2048, .f32⟩
  | 67 => ⟨S2x8x2048x2048, .f32⟩
  | 68 => ⟨S2x8x2048x2048, .f32⟩
  | 69 => ⟨S_, .f32⟩
  | 70 => ⟨S2x8x2048x2048, .f32⟩
  | 71 => ⟨S2x8x2048x2048, .f32⟩
  | 72 => ⟨S2x8x2048x2048, .f32⟩
  | 73 => ⟨S_, .f32⟩
  | 74 => ⟨S_, .f32⟩
  | 75 => ⟨S2x8x2048x2048, .i1⟩
  | 76 => ⟨S2x8x2048x2048, .f32⟩
  | 77 => ⟨S2x8x2048x2048, .f32⟩
  | 78 => ⟨S_, .f32⟩
  | 79 => ⟨S2x8x2048x2048, .f32⟩
  | 80 => ⟨S_, .f32⟩
  | 81 => ⟨S_, .f32⟩
  | 82 => ⟨S2x8x2048x2048, .f32⟩
  | 83 => ⟨S2x8x2048x2048, .f32⟩
  | 84 => ⟨S2x8x2048x2048, .f32⟩
  | 85 => ⟨S_, .f32⟩
  | 86 => ⟨S2x8x2048x2048, .f32⟩
  | 87 => ⟨S2x8x2048x2048, .f32⟩
  | 88 => ⟨S2x8x2048x2048, .f32⟩
  | 89 => ⟨S2x8x2048x2048, .f32⟩
  | 90 => ⟨S2x8x2048x2048, .i1⟩
  | 91 => ⟨S2x8x2048x2048, .f32⟩
  | 92 => ⟨S2x8x2048x2048, .f32⟩
  | 93 => ⟨S2x8x2048x2048, .f32⟩
  | 94 => ⟨S2x8x2048x2048, .f32⟩
  | 95 => ⟨S2x8x2048x2048, .f32⟩
  | 96 => ⟨S2x8x2048x2048, .f32⟩
  | 97 => ⟨S2x8x2048x2048, .f32⟩
  | 98 => ⟨S2x8x2048x2048, .f32⟩
  | 99 => ⟨S_, .f32⟩
  | 100 => ⟨S2x8x2048x2048, .f32⟩
  | 101 => ⟨S2x8x2048x2048, .i1⟩
  | 102 => ⟨S_, .f32⟩
  | 103 => ⟨S2x8x2048x2048, .f32⟩
  | 104 => ⟨S2x8x2048x2048, .f32⟩
  | 105 => ⟨S_, .f32⟩
  | 106 => ⟨S2x8x2048x2048, .f32⟩
  | 107 => ⟨S2x8x2048x2048, .i1⟩
  | 108 => ⟨S_, .f32⟩
  | 109 => ⟨S2x8x2048x2048, .f32⟩
  | 110 => ⟨S2x8x2048x2048, .f32⟩
  | 111 => ⟨S2x8x2048x2048, .f32⟩
  | 112 => ⟨S2x8x2048x2048, .f32⟩
  | 113 => ⟨S_, .f32⟩
  | 114 => ⟨S_, .f32⟩
  | 115 => ⟨S_, .i1⟩
  | 116 => ⟨S_, .f32⟩
  | 117 => ⟨S_, .f32⟩
  | 118 => ⟨S_, .f32⟩
  | 119 => ⟨S_, .f32⟩
  | 120 => ⟨S2x8x2048x2048, .f32⟩
  | 121 => ⟨S2x8x2048x2048, .i1⟩
  | 122 => ⟨S_, .f32⟩
  | 123 => ⟨S2x8x2048x2048, .f32⟩
  | 124 => ⟨S2x8x2048x2048, .f32⟩
  | 125 => ⟨S2x8x2048x2048, .f32⟩
  | 126 => ⟨S2x8x2048x2048, .f32⟩
  | 127 => ⟨S2x8x2048x2048, .f32⟩
  | _ => ⟨S4096x5888, .bf16⟩

abbrev hbmTy0_1 (i : Nat) : BufTy := match i % 128 with
  | 0 => ⟨S_, .f32⟩
  | 1 => ⟨S2x8x2048x2048, .f32⟩
  | 2 => ⟨S2x8x2048x2048, .f32⟩
  | 3 => ⟨S2x8x2048x2048, .f32⟩
  | 4 => ⟨S2x8x2048x2048, .f32⟩
  | 5 => ⟨S2x8x2048x2048, .f32⟩
  | 6 => ⟨S_, .f32⟩
  | 7 => ⟨S_, .f32⟩
  | 8 => ⟨S2x8x2048x2048, .i1⟩
  | 9 => ⟨S2x8x2048x2048, .f32⟩
  | 10 => ⟨S2x8x2048x2048, .f32⟩
  | 11 => ⟨S_, .f32⟩
  | 12 => ⟨S2x8x2048x2048, .f32⟩
  | 13 => ⟨S2x8x64x2048, .f32⟩
  | 14 => ⟨S2x2048x8x64, .f32⟩
  | 15 => ⟨S2x2048x512, .f32⟩
  | 16 => ⟨S2x2048x8x64, .f32⟩
  | 17 => ⟨S2x8x64x2048, .f32⟩
  | 18 => ⟨S2x8x2048x2048, .f32⟩
  | 19 => ⟨S2x8x64x2048, .f32⟩
  | 20 => ⟨S2x2048x8x64, .f32⟩
  | 21 => ⟨S_, .f32⟩
  | 22 => ⟨S2x8x2048x2048, .f32⟩
  | 23 => ⟨S2x8x2048x2048, .f32⟩
  | 24 => ⟨S2x8x2048x2048, .f32⟩
  | 25 => ⟨S2x8x2048x2048, .f32⟩
  | 26 => ⟨S2x8x2048x2048, .f32⟩
  | 27 => ⟨S2x8x2048x2048, .f32⟩
  | 28 => ⟨S2x8x2048x2048, .f32⟩
  | 29 => ⟨S_, .f32⟩
  | 30 => ⟨S_, .f32⟩
  | 31 => ⟨S2x8x2048x2048, .f32⟩
  | 32 => ⟨S2x8x2048x2048, .f32⟩
  | 33 => ⟨S_, .f32⟩
  | 34 => ⟨S2x8x2048x2048, .f32⟩
  | 35 => ⟨S2x8x2048x2048, .f32⟩
  | 36 => ⟨S2x8x2048x2048, .f32⟩
  | 37 => ⟨S2x8x2048x2048, .f32⟩
  | 38 => ⟨S2x8x2048x2048, .f32⟩
  | 39 => ⟨S2x8x2048x2048, .f32⟩
  | 40 => ⟨S2x8x2048x2048, .f32⟩
  | 41 => ⟨S_, .f32⟩
  | 42 => ⟨S2x8x2048x2048, .f32⟩
  | 43 => ⟨S2x8x2048x2048, .f32⟩
  | 44 => ⟨S2x8x2048x64, .f32⟩
  | 45 => ⟨S2x2048x8x64, .f32⟩
  | 46 => ⟨S2x8x2048x64, .f32⟩
  | 47 => ⟨S2x2048x8x64, .f32⟩
  | 48 => ⟨S4096x512, .f32⟩
  | 49 => ⟨S4096x512, .bf16⟩
  | 50 => ⟨S4096x512, .f32⟩
  | 51 => ⟨S4096x512, .f32⟩
  | _ => ⟨S4096x5888, .bf16⟩

abbrev hbmTy (i : Nat) : BufTy := match i / 128 with
  | 0 => hbmTy0_0 i
  | 1 => hbmTy0_1 i
  | _ => ⟨S4096x5888, .bf16⟩

abbrev bufTy : (tb : Table) → Fin (tcTables nBuf tb) → BufTy
  | .hbm, ⟨i, _⟩ => hbmTy i
  | _, _ => ⟨S4096x5888, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1_0 : Ref sig .tc := ⟨.hbm, 39, rfl⟩
abbrev main_call0_call0_cst_0 : Ref sig .tc := ⟨.hbm, 40, rfl⟩
abbrev main_call0_call0_v13 : Ref sig .tc := ⟨.hbm, 41, rfl⟩
abbrev main_call0_call0_v14 : Ref sig .tc := ⟨.hbm, 42, rfl⟩
abbrev main_call0_call0_cst_1 : Ref sig .tc := ⟨.hbm, 43, rfl⟩
abbrev main_call0_call0_v15 : Ref sig .tc := ⟨.hbm, 44, rfl⟩
abbrev main_call0_call0_v16 : Ref sig .tc := ⟨.hbm, 45, rfl⟩
abbrev main_call0_call0_cst_2 : Ref sig .tc := ⟨.hbm, 46, rfl⟩
abbrev main_call0_call0_v17 : Ref sig .tc := ⟨.hbm, 47, rfl⟩
abbrev main_call0_call0_v18 : Ref sig .tc := ⟨.hbm, 48, rfl⟩
abbrev main_call0_call0_cst_3 : Ref sig .tc := ⟨.hbm, 49, rfl⟩
abbrev main_call0_call0_v19 : Ref sig .tc := ⟨.hbm, 50, rfl⟩
abbrev main_call0_call0_v20 : Ref sig .tc := ⟨.hbm, 51, rfl⟩
abbrev main_call0_call0_v21 : Ref sig .tc := ⟨.hbm, 52, rfl⟩
abbrev main_v22_1 : Ref sig .tc := ⟨.hbm, 53, rfl⟩
abbrev main_call0_call0_cst_4 : Ref sig .tc := ⟨.hbm, 54, rfl⟩
abbrev main_call0_call0_cst_5 : Ref sig .tc := ⟨.hbm, 55, rfl⟩
abbrev main_call0_call0_v23 : Ref sig .tc := ⟨.hbm, 56, rfl⟩
abbrev main_call0_call0_cst_6 : Ref sig .tc := ⟨.hbm, 57, rfl⟩
abbrev main_call0_call0_cst_7 : Ref sig .tc := ⟨.hbm, 58, rfl⟩
abbrev main_call0_call0_v24 : Ref sig .tc := ⟨.hbm, 59, rfl⟩
abbrev main_call0_call0_cst_8 : Ref sig .tc := ⟨.hbm, 60, rfl⟩
abbrev main_call0_call0_v25 : Ref sig .tc := ⟨.hbm, 61, rfl⟩
abbrev main_call0_call0_v26 : Ref sig .tc := ⟨.hbm, 62, rfl⟩
abbrev main_call0_call0_cst_9 : Ref sig .tc := ⟨.hbm, 63, rfl⟩
abbrev main_call0_call0_v27 : Ref sig .tc := ⟨.hbm, 64, rfl⟩
abbrev main_call0_call0_v28 : Ref sig .tc := ⟨.hbm, 65, rfl⟩
abbrev main_call0_call0_v29 : Ref sig .tc := ⟨.hbm, 66, rfl⟩
abbrev main_call0_call0_v30 : Ref sig .tc := ⟨.hbm, 67, rfl⟩
abbrev main_call0_call0_v31 : Ref sig .tc := ⟨.hbm, 68, rfl⟩
abbrev main_call0_call0_cst_10 : Ref sig .tc := ⟨.hbm, 69, rfl⟩
abbrev main_call0_call0_v32 : Ref sig .tc := ⟨.hbm, 70, rfl⟩
abbrev main_v22_2 : Ref sig .tc := ⟨.hbm, 71, rfl⟩
abbrev main_v22_0 : Ref sig .tc := ⟨.hbm, 72, rfl⟩
abbrev main_cst_0 : Ref sig .tc := ⟨.hbm, 73, rfl⟩
abbrev main_call1_v0 : Ref sig .tc := ⟨.hbm, 74, rfl⟩
abbrev main_v23_1 : Ref sig .tc := ⟨.hbm, 75, rfl⟩
abbrev main_call1_v2 : Ref sig .tc := ⟨.hbm, 76, rfl⟩
abbrev main_v23_0 : Ref sig .tc := ⟨.hbm, 77, rfl⟩
abbrev main_call1_cst : Ref sig .tc := ⟨.hbm, 78, rfl⟩
abbrev main_v23_2 : Ref sig .tc := ⟨.hbm, 79, rfl⟩
abbrev main_call2_cst : Ref sig .tc := ⟨.hbm, 80, rfl⟩
abbrev main_call2_v0 : Ref sig .tc := ⟨.hbm, 81, rfl⟩
abbrev main_v24 : Ref sig .tc := ⟨.hbm, 82, rfl⟩
abbrev main_v25 : Ref sig .tc := ⟨.hbm, 83, rfl⟩
abbrev main_call3_v0 : Ref sig .tc := ⟨.hbm, 84, rfl⟩
abbrev main_call3_call0_cst : Ref sig .tc := ⟨.hbm, 85, rfl⟩
abbrev main_call3_call0_v0 : Ref sig .tc := ⟨.hbm, 86, rfl⟩
abbrev main_call3_call0_v1 : Ref sig .tc := ⟨.hbm, 87, rfl⟩
abbrev main_call3_call0_v2 : Ref sig .tc := ⟨.hbm, 88, rfl⟩
abbrev main_call3_call0_v3 : Ref sig .tc := ⟨.hbm, 89, rfl⟩
abbrev main_call3_call0_v4 : Ref sig .tc := ⟨.hbm, 90, rfl⟩
abbrev main_call3_call0_v5 : Ref sig .tc := ⟨.hbm, 91, rfl⟩
abbrev main_call3_call0_v6 : Ref sig .tc := ⟨.hbm, 92, rfl⟩
abbrev main_call3_call0_v7 : Ref sig .tc := ⟨.hbm, 93, rfl⟩
abbrev main_call3_call0_v8 : Ref sig .tc := ⟨.hbm, 94, rfl⟩
abbrev main_call3_call0_v9 : Ref sig .tc := ⟨.hbm, 95, rfl⟩
abbrev main_call3_call0_v10 : Ref sig .tc := ⟨.hbm, 96, rfl⟩
abbrev main_call3_call0_v11 : Ref sig .tc := ⟨.hbm, 97, rfl⟩
abbrev main_call3_v1_0 : Ref sig .tc := ⟨.hbm, 98, rfl⟩
abbrev main_call3_call0_cst_0 : Ref sig .tc := ⟨.hbm, 99, rfl⟩
abbrev main_call3_call0_v13 : Ref sig .tc := ⟨.hbm, 100, rfl⟩
abbrev main_call3_call0_v14 : Ref sig .tc := ⟨.hbm, 101, rfl⟩
abbrev main_call3_call0_cst_1 : Ref sig .tc := ⟨.hbm, 102, rfl⟩
abbrev main_call3_call0_v15 : Ref sig .tc := ⟨.hbm, 103, rfl⟩
abbrev main_call3_call0_v16 : Ref sig .tc := ⟨.hbm, 104, rfl⟩
abbrev main_call3_call0_cst_2 : Ref sig .tc := ⟨.hbm, 105, rfl⟩
abbrev main_call3_call0_v17 : Ref sig .tc := ⟨.hbm, 106, rfl⟩
abbrev main_call3_call0_v18 : Ref sig .tc := ⟨.hbm, 107, rfl⟩
abbrev main_call3_call0_cst_3 : Ref sig .tc := ⟨.hbm, 108, rfl⟩
abbrev main_call3_call0_v19 : Ref sig .tc := ⟨.hbm, 109, rfl⟩
abbrev main_call3_call0_v20 : Ref sig .tc := ⟨.hbm, 110, rfl⟩
abbrev main_call3_call0_v21 : Ref sig .tc := ⟨.hbm, 111, rfl⟩
abbrev main_v26_1 : Ref sig .tc := ⟨.hbm, 112, rfl⟩
abbrev main_call3_call0_cst_4 : Ref sig .tc := ⟨.hbm, 113, rfl⟩
abbrev main_call3_call0_cst_5 : Ref sig .tc := ⟨.hbm, 114, rfl⟩
abbrev main_call3_call0_v23 : Ref sig .tc := ⟨.hbm, 115, rfl⟩
abbrev main_call3_call0_cst_6 : Ref sig .tc := ⟨.hbm, 116, rfl⟩
abbrev main_call3_call0_cst_7 : Ref sig .tc := ⟨.hbm, 117, rfl⟩
abbrev main_call3_call0_v24 : Ref sig .tc := ⟨.hbm, 118, rfl⟩
abbrev main_call3_call0_cst_8 : Ref sig .tc := ⟨.hbm, 119, rfl⟩
abbrev main_call3_call0_v25 : Ref sig .tc := ⟨.hbm, 120, rfl⟩
abbrev main_call3_call0_v26 : Ref sig .tc := ⟨.hbm, 121, rfl⟩
abbrev main_call3_call0_cst_9 : Ref sig .tc := ⟨.hbm, 122, rfl⟩
abbrev main_call3_call0_v27 : Ref sig .tc := ⟨.hbm, 123, rfl⟩
abbrev main_call3_call0_v28 : Ref sig .tc := ⟨.hbm, 124, rfl⟩
abbrev main_call3_call0_v29 : Ref sig .tc := ⟨.hbm, 125, rfl⟩
abbrev main_call3_call0_v30 : Ref sig .tc := ⟨.hbm, 126, rfl⟩
abbrev main_call3_call0_v31 : Ref sig .tc := ⟨.hbm, 127, rfl⟩
abbrev main_call3_call0_cst_10 : Ref sig .tc := ⟨.hbm, 128, rfl⟩
abbrev main_call3_call0_v32 : Ref sig .tc := ⟨.hbm, 129, rfl⟩
abbrev main_v26_2 : Ref sig .tc := ⟨.hbm, 130, rfl⟩
abbrev main_v26_0 : Ref sig .tc := ⟨.hbm, 131, rfl⟩
abbrev main_v27 : Ref sig .tc := ⟨.hbm, 132, rfl⟩
abbrev main_v28 : Ref sig .tc := ⟨.hbm, 133, rfl⟩
abbrev main_cst_1 : Ref sig .tc := ⟨.hbm, 134, rfl⟩
abbrev main_call4_v0 : Ref sig .tc := ⟨.hbm, 135, rfl⟩
abbrev main_v29_1 : Ref sig .tc := ⟨.hbm, 136, rfl⟩
abbrev main_call4_v2 : Ref sig .tc := ⟨.hbm, 137, rfl⟩
abbrev main_v29_0 : Ref sig .tc := ⟨.hbm, 138, rfl⟩
abbrev main_call4_cst : Ref sig .tc := ⟨.hbm, 139, rfl⟩
abbrev main_v29_2 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_call5_cst : Ref sig .tc := ⟨.hbm, 149, rfl⟩
abbrev main_call5_v0 : Ref sig .tc := ⟨.hbm, 150, rfl⟩
abbrev main_v38 : Ref sig .tc := ⟨.hbm, 151, rfl⟩
abbrev main_v39 : Ref sig .tc := ⟨.hbm, 152, rfl⟩
abbrev main_call6_v0 : Ref sig .tc := ⟨.hbm, 153, rfl⟩
abbrev main_call6_v1 : Ref sig .tc := ⟨.hbm, 154, rfl⟩
abbrev main_v40 : Ref sig .tc := ⟨.hbm, 155, rfl⟩
abbrev main_v41 : Ref sig .tc := ⟨.hbm, 156, rfl⟩
abbrev main_call7_cst : Ref sig .tc := ⟨.hbm, 157, rfl⟩
abbrev main_call7_v0 : Ref sig .tc := ⟨.hbm, 158, rfl⟩
abbrev main_v42 : Ref sig .tc := ⟨.hbm, 159, rfl⟩
abbrev main_v43 : Ref sig .tc := ⟨.hbm, 160, rfl⟩
abbrev main_call8_cst : Ref sig .tc := ⟨.hbm, 161, rfl⟩
abbrev main_call8_v0 : Ref sig .tc := ⟨.hbm, 162, rfl⟩
abbrev main_v44 : Ref sig .tc := ⟨.hbm, 163, rfl⟩
abbrev main_call9_v0 : Ref sig .tc := ⟨.hbm, 164, rfl⟩
abbrev main_call9_v1 : Ref sig .tc := ⟨.hbm, 165, rfl⟩
abbrev main_v45 : Ref sig .tc := ⟨.hbm, 166, rfl⟩
abbrev main_v46 : Ref sig .tc := ⟨.hbm, 167, rfl⟩
abbrev main_v47 : Ref sig .tc := ⟨.hbm, 168, rfl⟩
abbrev main_cst_2 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩

abbrev nD : Nat := 1
abbrev τ : Topo := Topo.v7x

variable {F : FTy → Type} [FloatOps F]
-- ==== Gate.lean ====
abbrev S4096x1024 : Shape := ⟨2, ![4096, 1024]⟩
abbrev S1024x1024 : Shape := ⟨2, ![1024, 1024]⟩
abbrev S4096x512 : Shape := ⟨2, ![4096, 512]⟩
abbrev S4096x5888 : Shape := ⟨2, ![4096, 5888]⟩
abbrev S512x1024 : Shape := ⟨2, ![512, 1024]⟩
abbrev S256x1024 : Shape := ⟨2, ![256, 1024]⟩
abbrev S1024x256 : Shape := ⟨2, ![1024, 256]⟩
abbrev S512x256 : Shape := ⟨2, ![512, 256]⟩
abbrev S1024x512 : Shape := ⟨2, ![1024, 512]⟩

abbrev nBuf : Space → Nat
  | .hbm => 30
  | .vmem => 43
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x5888, .bf16⟩
  | .hbm, ⟨6, _⟩ => ⟨S512x1024, .bf16⟩
  | .hbm, ⟨7, _⟩ => ⟨S512x1024, .bf16⟩
  | .hbm, ⟨8, _⟩ => ⟨S512x1024, .bf16⟩
  | .hbm, ⟨9, _⟩ => ⟨S4096x512, .f32⟩
  | .hbm, ⟨10, _⟩ => ⟨S512x1024, .f32⟩
  | .hbm, ⟨11, _⟩ => ⟨S4096x1024, .f32⟩
  | .hbm, ⟨12, _⟩ => ⟨S4096x1024, .bf16⟩
  | .hbm, ⟨13, _⟩ => ⟨S4096x512, .f32⟩
  | .hbm, ⟨14, _⟩ => ⟨S512x1024, .f32⟩
  | .hbm, ⟨15, _⟩ => ⟨S4096x1024, .f32⟩
  | .hbm, ⟨16, _⟩ => ⟨S4096x1024, .bf16⟩
  | .hbm, ⟨17, _⟩ => ⟨S4096x512, .f32⟩
  | .hbm, ⟨18, _⟩ => ⟨S512x1024, .f32⟩
  | .hbm, ⟨19, _⟩ => ⟨S4096x1024, .f32⟩
  | .hbm, ⟨20, _⟩ => ⟨S4096x1024, .bf16⟩
  | .hbm, ⟨21, _⟩ => ⟨S4096x1024, .bf16⟩
  | .hbm, ⟨22, _⟩ => ⟨S4096x1024, .bf16⟩
  | .hbm, ⟨23, _⟩ => ⟨S4096x1024, .bf16⟩
  | .hbm, ⟨24, _⟩ => ⟨S4096x1024, .bf16⟩
  | .hbm, ⟨25, _⟩ => ⟨S4096x1024, .bf16⟩
  | .hbm, ⟨26, _⟩ => ⟨S4096x1024, .bf16⟩
  | .hbm, ⟨27, _⟩ => ⟨S4096x512, .bf16⟩
  | .hbm, ⟨28, _⟩ => ⟨S4096x512, .bf16⟩
  | .hbm, ⟨29, _⟩ => ⟨S4096x512, .bf16⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S1024x256, .bf16⟩
  | .local _ .vmem, ⟨14, _⟩ => ⟨S1024x256, .bf16⟩
  | .local _ .vmem, ⟨15, _⟩ => ⟨S1024x256, .bf16⟩
  | .local _ .vmem, ⟨16, _⟩ => ⟨S512x256, .bf16⟩
  | .local _ .vmem, ⟨17, _⟩ => ⟨S512x256, .bf16⟩
  | .local _ .vmem, ⟨18, _⟩ => ⟨S512x256, .bf16⟩
  | .local _ .vmem, ⟨19, _⟩ => ⟨S512x256, .bf16⟩
  | .local _ .vmem, ⟨20, _⟩ => ⟨S512x256, .bf16⟩
  | .local _ .vmem, ⟨21, _⟩ => ⟨S512x256, .bf16⟩
  | .local _ .vmem, ⟨22, _⟩ => ⟨S1024x256, .bf16⟩
  | .local _ .vmem, ⟨23, _⟩ => ⟨S1024x256, .bf16⟩
  | .local _ .vmem, ⟨24, _⟩ => ⟨S1024x256, .bf16⟩
  | .local _ .vmem, ⟨25, _⟩ => ⟨S1024x256, .bf16⟩
  | .local _ .vmem, ⟨26, _⟩ => ⟨S1024x256, .bf16⟩
  | .local _ .vmem, ⟨27, _⟩ => ⟨S1024x256, .bf16⟩
  | .local _ .vmem, ⟨28, _⟩ => ⟨S1024x256, .bf16⟩
  | .local _ .vmem, ⟨29, _⟩ => ⟨S1024x256, .bf16⟩
  | .local _ .vmem, ⟨30, _⟩ => ⟨S1024x256, .bf16⟩
  | .local _ .vmem, ⟨31, _⟩ => ⟨S1024x256, .bf16⟩
  | .local _ .vmem, ⟨32, _⟩ => ⟨S1024x256, .bf16⟩
  | .local _ .vmem, ⟨33, _⟩ => ⟨S1024x256, .bf16⟩
  | .local _ .vmem, ⟨34, _⟩ => ⟨S1024x512, .bf16⟩
  | .local _ .vmem, ⟨35, _⟩ => ⟨S1024x512, .bf16⟩
  | .local _ .vmem, ⟨36, _⟩ => ⟨S1024x512, .bf16⟩
  | .local _ .vmem, ⟨37, _⟩ => ⟨S1024x512, .bf16⟩
  | .local _ .vmem, ⟨38, _⟩ => ⟨S1024x512, .bf16⟩
  | .local _ .vmem, ⟨39, _⟩ => ⟨S1024x512, .bf16⟩
  | .local _ .vmem, ⟨40, _⟩ => ⟨S1024x512, .f32⟩
  | .local _ .vmem, ⟨41, _⟩ => ⟨S1024x512, .f32⟩
  | .local _ .vmem, ⟨42, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev main_v12_3 : Ref sig .tc := ⟨.hbm, 24, rfl⟩
abbrev main_v12_4 : Ref sig .tc := ⟨.hbm, 25, rfl⟩
abbrev main_v12_5 : Ref sig .tc := ⟨.hbm, 26, rfl⟩
abbrev main_v12_6 : Ref sig .tc := ⟨.hbm, 27, rfl⟩
abbrev main_v12_7 : Ref sig .tc := ⟨.hbm, 28, rfl⟩
abbrev main_v12_8 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_scratch0 : Ref sig .tc := ⟨.vmem, 40, rfl⟩
abbrev cc0_scratch1 : Ref sig .tc := ⟨.vmem, 41, rfl⟩
abbrev cc0_scratch2 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v27 : BitVec 1 := Scalar.cmpi .eq arg1 c3_i32
  let v28 : BitVec 32 := Scalar.extui v27
  let c0_i32_18 : BitVec 32 := 0#32
  let v29 : BitVec 1 := Scalar.cmpi .ne v28 c0_i32_18
  v29

def k0_cond6 (i : grid0.Coords) : BitVec 1 :=
  let arg1 : BitVec 32 := BitVec.ofNat 32 (i 1).val
  let c3_i32_35 : BitVec 32 := 3#32
  let v54 : BitVec 1 := Scalar.cmpi .eq arg1 c3_i32_35
  let v55 : BitVec 32 := Scalar.extui v54
  let c0_i32_36 : BitVec 32 := 0#32
  let v56 : BitVec 1 := Scalar.cmpi .ne v55 c0_i32_36
  v56

def k0_cond9 (i : grid0.Coords) : BitVec 1 :=
  let arg1 : BitVec 32 := BitVec.ofNat 32 (i 1).val
  let c3_i32_53 : BitVec 32 := 3#32
  let v81 : BitVec 1 := Scalar.cmpi .eq arg1 c3_i32_53
  let v82 : BitVec 32 := Scalar.extui v81
  let c0_i32_54 : BitVec 32 := 0#32
  let v83 : BitVec 1 := Scalar.cmpi .ne v82 c0_i32_54
  v83

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.addi c19_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1024x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1024x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1024x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1024x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1024x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S1024x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]
-- ==== GateRefIdeal.lean ====
abbrev S4096x1024 : Shape := ⟨2, ![4096, 1024]⟩
abbrev S1024x1024 : Shape := ⟨2, ![1024, 1024]⟩
abbrev S4096x512 : Shape := ⟨2, ![4096, 512]⟩
abbrev S4096x5888 : Shape := ⟨2, ![4096, 5888]⟩
abbrev S512x1024 : Shape := ⟨2, ![512, 1024]⟩
abbrev S_ : Shape := ⟨0, ![]⟩

abbrev nBuf : Space → Nat
  | .hbm => 96
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x5888, .bf16⟩
  | .hbm, ⟨6, _⟩ => ⟨S512x1024, .bf16⟩
  | .hbm, ⟨7, _⟩ => ⟨S512x1024, .bf16⟩
  | .hbm, ⟨8, _⟩ => ⟨S512x1024, .bf16⟩
  | .hbm, ⟨9, _⟩ => ⟨S512x1024, .f32⟩
  | .hbm, ⟨10, _⟩ => ⟨S512x1024, .f32⟩
  | .hbm, ⟨11, _⟩ => ⟨S512x1024, .f32⟩
  | .hbm, ⟨12, _⟩ => ⟨S4096x1024, .bf16⟩
  | .hbm, ⟨13, _⟩ => ⟨S4096x1024, .f32⟩
  | .hbm, ⟨14, _⟩ => ⟨S4096x1024, .bf16⟩
  | .hbm, ⟨15, _⟩ => ⟨S4096x1024, .f32⟩
  | .hbm, ⟨16, _⟩ => ⟨S4096x1024, .bf16⟩
  | .hbm, ⟨17, _⟩ => ⟨S4096x1024, .f32⟩
  | .hbm, ⟨18, _⟩ => ⟨S4096x512, .f32⟩
  | .hbm, ⟨19, _⟩ => ⟨S4096x1024, .f32⟩
  | .hbm, ⟨20, _⟩ => ⟨S4096x512, .f32⟩
  | .hbm, ⟨21, _⟩ => ⟨S4096x1024, .f32⟩
  | .hbm, ⟨22, _⟩ => ⟨S4096x512, .f32⟩
  | .hbm, ⟨23, _⟩ => ⟨S4096x1024, .f32⟩
  | .hbm, ⟨24, _⟩ => ⟨S1024x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x512, .f32⟩
  | .hbm, ⟨79, _⟩ => ⟨S4096x1024, .f32⟩
  | .hbm, ⟨80, _⟩ => ⟨S4096x512, .f32⟩
  | .hbm, ⟨81, _⟩ => ⟨S4096x512, .f32⟩
  | .hbm, ⟨82, _⟩ => ⟨S4096x1024, .f32⟩
  | .hbm, ⟨83, _⟩ => ⟨S4096x512, .f32⟩
  | .hbm, ⟨84, _⟩ => ⟨S4096x512, .f32⟩
  | .hbm, ⟨85, _⟩ => ⟨S4096x1024, .f32⟩
  | .hbm, ⟨86, _⟩ => ⟨S4096x512, .f32⟩
  | .hbm, ⟨87, _⟩ => ⟨S4096x1024, .bf16⟩
  | .hbm, ⟨88, _⟩ => ⟨S4096x1024, .bf16⟩
  | .hbm, ⟨89, _⟩ => ⟨S4096x1024, .bf16⟩
  | .hbm, ⟨90, _⟩ => ⟨S4096x1024, .bf16⟩
  | .hbm, ⟨91, _⟩ => ⟨S4096x1024, .bf16⟩
  | .hbm, ⟨92, _⟩ => ⟨S4096x1024, .bf16⟩
  | .hbm, ⟨93, _⟩ => ⟨S4096x512, .bf16⟩
  | .hbm, ⟨94, _⟩ => ⟨S4096x512, .bf16⟩
  | .hbm, ⟨95, _⟩ => ⟨S4096x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_cst_0 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩

abbrev nD : Nat := 1
abbrev τ : Topo := Topo.v7x

variable {F : FTy → Type} [FloatOps F]
-- ==== Dw.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Up.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 8
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .bf16⟩
  | .hbm, ⟨2, _⟩ => ⟨S1024x2816, .bf16⟩
  | .hbm, ⟨3, _⟩ => ⟨S2816x1024, .bf16⟩
  | .hbm, ⟨4, _⟩ => ⟨S2816x1024, .bf16⟩
  | .hbm, ⟨5, _⟩ => ⟨S4096x2816, .bf16⟩
  | .hbm, ⟨6, _⟩ => ⟨S4096x2816, .bf16⟩
  | .hbm, ⟨7, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpRefIdeal.lean ====
abbrev S4096x1024 : Shape := ⟨2, ![4096, 1024]⟩
abbrev S1024x2816 : Shape := ⟨2, ![1024, 2816]⟩
abbrev S4096x2816 : Shape := ⟨2, ![4096, 2816]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .bf16⟩
  | .hbm, ⟨2, _⟩ => ⟨S1024x2816, .bf16⟩
  | .hbm, ⟨3, _⟩ => ⟨S4096x1024, .f32⟩
  | .hbm, ⟨4, _⟩ => ⟨S1024x2816, .f32⟩
  | .hbm, ⟨5, _⟩ => ⟨S4096x2816, .f32⟩
  | .hbm, ⟨6, _⟩ => ⟨S4096x1024, .f32⟩
  | .hbm, ⟨7, _⟩ => ⟨S1024x2816, .f32⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .bf16⟩
  | .hbm, ⟨20, _⟩ => ⟨S4096x2816, .bf16⟩
  | .hbm, ⟨21, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]
-- ==== InA.lean ====
abbrev S4096x5888 : Shape := ⟨2, ![4096, 5888]⟩
abbrev S4096x1024 : Shape := ⟨2, ![4096, 1024]⟩
abbrev S5888x512 : Shape := ⟨2, ![5888, 512]⟩
abbrev S1024x2944 : Shape := ⟨2, ![1024, 2944]⟩
abbrev S1024x512 : Shape := ⟨2, ![1024, 512]⟩
abbrev S2944x512 : Shape := ⟨2, ![2944, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x5888, .bf16⟩
  | .hbm, ⟨1, _⟩ => ⟨S4096x1024, .bf16⟩
  | .hbm, ⟨2, _⟩ => ⟨S5888x512, .bf16⟩
  | .local _ .vmem, ⟨0, _⟩ => ⟨S1024x2944, .bf16⟩
  | .local _ .vmem, ⟨1, _⟩ => ⟨S1024x2944, .bf16⟩
  | .local _ .vmem, ⟨2, _⟩ => ⟨S1024x512, .bf16⟩
  | .local _ .vmem, ⟨3, _⟩ => ⟨S1024x512, .bf16⟩
  | .local _ .vmem, ⟨4, _⟩ => ⟨S2944x512, .bf16⟩
  | .local _ .vmem, ⟨5, _⟩ => ⟨S2944x512, .bf16⟩
  | .local _ .vmem, ⟨6, _⟩ => ⟨S2944x512, .f32⟩
  | _, _ => ⟨S4096x5888, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2944 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2944x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InARefIdeal.lean ====
abbrev S4096x5888 : Shape := ⟨2, ![4096, 5888]⟩
abbrev S4096x1024 : Shape := ⟨2, ![4096, 1024]⟩
abbrev S_ : Shape := ⟨0, ![]⟩
abbrev S1024x5888 : Shape := ⟨2, ![1024, 5888]⟩
abbrev S5888x1024 : Shape := ⟨2, ![5888, 1024]⟩
abbrev S5888x512 : Shape := ⟨2, ![5888, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x5888, .bf16⟩
  | .hbm, ⟨1, _⟩ => ⟨S4096x1024, .bf16⟩
  | .hbm, ⟨2, _⟩ => ⟨S_, .f32⟩
  | .hbm, ⟨3, _⟩ => ⟨S1024x5888, .f32⟩
  | .hbm, ⟨4, _⟩ => ⟨S4096x1024, .f32⟩
  | .hbm, ⟨5, _⟩ => ⟨S4096x5888, .f32⟩
  | .hbm, ⟨6, _⟩ => ⟨S4096x5888, .f32⟩
  | .hbm, ⟨7, _⟩ => ⟨S5888x1024, .f32⟩
  | .hbm, ⟨8, _⟩ => ⟨S1024x5888, .f32⟩
  | .hbm, ⟨9, _⟩ => ⟨S5888x1024, .f32⟩
  | .hbm, ⟨10, _⟩ => ⟨S5888x512, .f32⟩
  | .hbm, ⟨11, _⟩ => ⟨S5888x512, .bf16⟩
  | _, _ => ⟨S4096x5888, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== InB.lean ====
abbrev S4096x5888 : Shape := ⟨2, ![4096, 5888]⟩
abbrev S4096x1024 : Shape := ⟨2, ![4096, 1024]⟩
abbrev S5888x512 : Shape := ⟨2, ![5888, 512]⟩
abbrev S1024x2944 : Shape := ⟨2, ![1024, 2944]⟩
abbrev S1024x512 : Shape := ⟨2, ![1024, 512]⟩
abbrev S2944x512 : Shape := ⟨2, ![2944, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x5888, .bf16⟩
  | .hbm, ⟨1, _⟩ => ⟨S4096x1024, .bf16⟩
  | .hbm, ⟨2, _⟩ => ⟨S5888x512, .bf16⟩
  | .local _ .vmem, ⟨0, _⟩ => ⟨S1024x2944, .bf16⟩
  | .local _ .vmem, ⟨1, _⟩ => ⟨S1024x2944, .bf16⟩
  | .local _ .vmem, ⟨2, _⟩ => ⟨S1024x512, .bf16⟩
  | .local _ .vmem, ⟨3, _⟩ => ⟨S1024x512, .bf16⟩
  | .local _ .vmem, ⟨4, _⟩ => ⟨S2944x512, .bf16⟩
  | .local _ .vmem, ⟨5, _⟩ => ⟨S2944x512, .bf16⟩
  | .local _ .vmem, ⟨6, _⟩ => ⟨S2944x512, .f32⟩
  | _, _ => ⟨S4096x5888, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2944 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2944x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InBRefIdeal.lean ====
abbrev S4096x5888 : Shape := ⟨2, ![4096, 5888]⟩
abbrev S4096x1024 : Shape := ⟨2, ![4096, 1024]⟩
abbrev S_ : Shape := ⟨0, ![]⟩
abbrev S1024x5888 : Shape := ⟨2, ![1024, 5888]⟩
abbrev S5888x1024 : Shape := ⟨2, ![5888, 1024]⟩
abbrev S5888x512 : Shape := ⟨2, ![5888, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x5888, .bf16⟩
  | .hbm, ⟨1, _⟩ => ⟨S4096x1024, .bf16⟩
  | .hbm, ⟨2, _⟩ => ⟨S_, .f32⟩
  | .hbm, ⟨3, _⟩ => ⟨S1024x5888, .f32⟩
  | .hbm, ⟨4, _⟩ => ⟨S4096x1024, .f32⟩
  | .hbm, ⟨5, _⟩ => ⟨S4096x5888, .f32⟩
  | .hbm, ⟨6, _⟩ => ⟨S4096x5888, .f32⟩
  | .hbm, ⟨7, _⟩ => ⟨S5888x1024, .f32⟩
  | .hbm, ⟨8, _⟩ => ⟨S1024x5888, .f32⟩
  | .hbm, ⟨9, _⟩ => ⟨S5888x1024, .f32⟩
  | .hbm, ⟨10, _⟩ => ⟨S5888x512, .f32⟩
  | .hbm, ⟨11, _⟩ => ⟨S5888x512, .bf16⟩
  | _, _ => ⟨S4096x5888, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Proj.lean ====
abbrev S4096x1024 : Shape := ⟨2, ![4096, 1024]⟩
abbrev S1024x5888 : Shape := ⟨2, ![1024, 5888]⟩
abbrev S5888x1024 : Shape := ⟨2, ![5888, 1024]⟩
abbrev S4096x5888 : Shape := ⟨2, ![4096, 5888]⟩
abbrev S512x1024 : Shape := ⟨2, ![512, 1024]⟩
abbrev S2944x1024 : Shape := ⟨2, ![2944, 1024]⟩
abbrev S512x2944 : Shape := ⟨2, ![512, 2944]⟩
abbrev S8x128 : Shape := ⟨2, ![8, 128]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x5888, .bf16⟩
  | .hbm, ⟨2, _⟩ => ⟨S5888x1024, .bf16⟩
  | .hbm, ⟨3, _⟩ => ⟨S4096x5888, .bf16⟩
  | .local _ .vmem, ⟨0, _⟩ => ⟨S512x1024, .bf16⟩
  | .local _ .vmem, ⟨1, _⟩ => ⟨S512x1024, .bf16⟩
  | .local _ .vmem, ⟨2, _⟩ => ⟨S2944x1024, .bf16⟩
  | .local _ .vmem, ⟨3, _⟩ => ⟨S2944x1024, .bf16⟩
  | .local _ .vmem, ⟨4, _⟩ => ⟨S512x2944, .bf16⟩
  | .local _ .vmem, ⟨5, _⟩ => ⟨S512x2944, .bf16⟩
  | .local _ .vmem, ⟨6, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2944x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x2944 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S4096x1024 : Shape := ⟨2, ![4096, 1024]⟩
abbrev S1024x5888 : Shape := ⟨2, ![1024, 5888]⟩
abbrev S4096x5888 : Shape := ⟨2, ![4096, 5888]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5888, .bf16⟩
  | .hbm, ⟨2, _⟩ => ⟨S4096x1024, .f32⟩
  | .hbm, ⟨3, _⟩ => ⟨S1024x5888, .f32⟩
  | .hbm, ⟨4, _⟩ => ⟨S4096x5888, .f32⟩
  | .hbm, ⟨5, _⟩ => ⟨S4096x5888, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Branch.lean ====
abbrev S4096x5888 : Shape := ⟨2, ![4096, 5888]⟩
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩
abbrev S512x256 : Shape := ⟨2, ![512, 256]⟩
abbrev S1024x256 : Shape := ⟨2, ![1024, 256]⟩

abbrev nBuf : Space → Nat
  | .hbm => 11
  | .vmem => 26
  | .smem => 0
  | _ => 0

abbrev bufTy : (tb : Table) → Fin (tcTables nBuf tb) → BufTy
  | .hbm, ⟨0, _⟩ => ⟨S4096x5888, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S512x1024, .bf16⟩
  | .hbm, ⟨5, _⟩ => ⟨S512x1024, .bf16⟩
  | .hbm, ⟨6, _⟩ => ⟨S512x1024, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S4096x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S1024x256, .bf16⟩
  | .local _ .vmem, ⟨13, _⟩ => ⟨S1024x256, .bf16⟩
  | .local _ .vmem, ⟨14, _⟩ => ⟨S1024x256, .bf16⟩
  | .local _ .vmem, ⟨15, _⟩ => ⟨S1024x256, .bf16⟩
  | .local _ .vmem, ⟨16, _⟩ => ⟨S1024x256, .bf16⟩
  | .local _ .vmem, ⟨17, _⟩ => ⟨S1024x256, .bf16⟩
  | .local _ .vmem, ⟨18, _⟩ => ⟨S1024x256, .bf16⟩
  | .local _ .vmem, ⟨19, _⟩ => ⟨S1024x256, .bf16⟩
  | .local _ .vmem, ⟨20, _⟩ => ⟨S1024x256, .bf16⟩
  | .local _ .vmem, ⟨21, _⟩ => ⟨S1024x256, .bf16⟩
  | .local _ .vmem, ⟨22, _⟩ => ⟨S1024x256, .bf16⟩
  | .local _ .vmem, ⟨23, _⟩ => ⟨S1024x256, .bf16⟩
  | .local _ .vmem, ⟨24, _⟩ => ⟨S1024x256, .bf16⟩
  | .local _ .vmem, ⟨25, _⟩ => ⟨S1024x256, .bf16⟩
  | _, _ => ⟨S4096x5888, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.addi c19_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== BranchRefIdeal.lean ====
abbrev S4096x5888 : Shape := ⟨2, ![4096, 5888]⟩
abbrev S4096x512 : Shape := ⟨2, ![4096, 512]⟩
abbrev S512x1024 : Shape := ⟨2, ![512, 1024]⟩
abbrev S4096x1024 : Shape := ⟨2, ![4096, 1024]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S4096x5888, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S512x1024, .bf16⟩
  | .hbm, ⟨5, _⟩ => ⟨S512x1024, .bf16⟩
  | .hbm, ⟨6, _⟩ => ⟨S512x1024, .bf16⟩
  | .hbm, ⟨7, _⟩ => ⟨S4096x512, .f32⟩
  | .hbm, ⟨8, _⟩ => ⟨S512x1024, .f32⟩
  | .hbm, ⟨9, _⟩ => ⟨S4096x1024, .f32⟩
  | .hbm, ⟨10, _⟩ => ⟨S4096x512, .f32⟩
  | .hbm, ⟨11, _⟩ => ⟨S512x1024, .f32⟩
  | .hbm, ⟨12, _⟩ => ⟨S4096x1024, .f32⟩
  | .hbm, ⟨13, _⟩ => ⟨S4096x512, .f32⟩
  | .hbm, ⟨14, _⟩ => ⟨S512x1024, .f32⟩
  | .hbm, ⟨15, _⟩ => ⟨S4096x1024, .f32⟩
  | .hbm, ⟨16, _⟩ => ⟨S4096x1024, .bf16⟩
  | .hbm, ⟨17, _⟩ => ⟨S4096x1024, .f32⟩
  | .hbm, ⟨18, _⟩ => ⟨S4096x1024, .bf16⟩
  | .hbm, ⟨19, _⟩ => ⟨S4096x1024, .f32⟩
  | .hbm, ⟨20, _⟩ => ⟨S4096x1024, .bf16⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .bf16⟩
  | .hbm, ⟨52, _⟩ => ⟨S4096x1024, .bf16⟩
  | .hbm, ⟨53, _⟩ => ⟨S4096x1024, .bf16⟩
  | .hbm, ⟨54, _⟩ => ⟨S4096x1024, .bf16⟩
  | _, _ => ⟨S4096x5888, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== DwBranch.lean ====
abbrev S4096x512 : Shape := ⟨2, ![4096, 512]⟩
abbrev S4096x1024 : Shape := ⟨2, ![4096, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S512x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwBranchRefIdeal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S_, .f32⟩
  | .hbm, ⟨3, _⟩ => ⟨S512x1024, .f32⟩
  | .hbm, ⟨4, _⟩ => ⟨S4096x512, .f32⟩
  | .hbm, ⟨5, _⟩ => ⟨S4096x1024, .f32⟩
  | .hbm, ⟨6, _⟩ => ⟨S4096x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwOut.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwOutRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Pre.lean ====
abbrev S4096x5888 : Shape := ⟨2, ![4096, 5888]⟩
abbrev S1024x5888 : Shape := ⟨2, ![1024, 5888]⟩
abbrev S4096x1024 : Shape := ⟨2, ![4096, 1024]⟩
abbrev S1x1024 : Shape := ⟨2, ![1, 1024]⟩
abbrev S5888x1024 : Shape := ⟨2, ![5888, 1024]⟩
abbrev S512x2944 : Shape := ⟨2, ![512, 2944]⟩
abbrev S2944x1024 : Shape := ⟨2, ![2944, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x5888, .bf16⟩
  | .hbm, ⟨1, _⟩ => ⟨S1024x5888, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S5888x1024, .bf16⟩
  | .hbm, ⟨6, _⟩ => ⟨S4096x1024, .f32⟩
  | .hbm, ⟨7, _⟩ => ⟨S1x1024, .f32⟩
  | .local _ .vmem, ⟨0, _⟩ => ⟨S512x2944, .bf16⟩
  | .local _ .vmem, ⟨1, _⟩ => ⟨S512x2944, .bf16⟩
  | .local _ .vmem, ⟨2, _⟩ => ⟨S2944x1024, .bf16⟩
  | .local _ .vmem, ⟨3, _⟩ => ⟨S2944x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S4096x5888, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_6 : BitVec 32 := 0#32
  let v12 : BitVec 1 := Scalar.cmpi .ne v11 c0_i32_6
  v12

def k0_cond4 (i : grid0.Coords) : BitVec 1 :=
  let arg0 : BitVec 32 := BitVec.ofNat 32 (i 0).val
  let c0_i32_7 : BitVec 32 := 0#32
  let v13 : BitVec 1 := Scalar.cmpi .eq arg0 c0_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2944 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2944x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== PreRefIdeal.lean ====
abbrev S4096x5888 : Shape := ⟨2, ![4096, 5888]⟩
abbrev S1024x5888 : Shape := ⟨2, ![1024, 5888]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x5888, .bf16⟩
  | .hbm, ⟨1, _⟩ => ⟨S1024x5888, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1024x5888, .f32⟩
  | .hbm, ⟨25, _⟩ => ⟨S4096x5888, .f32⟩
  | .hbm, ⟨26, _⟩ => ⟨S4096x5888, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | _, _ => ⟨S4096x5888, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Down.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩
abbrev S512x512 : Shape := ⟨2, ![512, 512]⟩
abbrev S384x1024 : Shape := ⟨2, ![384, 1024]⟩
abbrev S512x384 : Shape := ⟨2, ![512, 384]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .hbm, ⟨3, _⟩ => ⟨S4096x2816, .bf16⟩
  | .hbm, ⟨4, _⟩ => ⟨S4096x2816, .bf16⟩
  | .hbm, ⟨5, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DownRefIdeal.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .hbm, ⟨3, _⟩ => ⟨S4096x2816, .bf16⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S2816x1024, .f32⟩
  | .hbm, ⟨21, _⟩ => ⟨S4096x1024, .f32⟩
  | .hbm, ⟨22, _⟩ => ⟨S4096x1024, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .bf16⟩
  | .hbm, ⟨31, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Mid.lean ====
abbrev S4096x2816 : Shape := ⟨2, ![4096, 2816]⟩
abbrev S1024x2816 : Shape := ⟨2, ![1024, 2816]⟩
abbrev S4096x1024 : Shape := ⟨2, ![4096, 1024]⟩
abbrev S1x1024 : Shape := ⟨2, ![1, 1024]⟩
abbrev S2816x1024 : Shape := ⟨2, ![2816, 1024]⟩
abbrev S512x1408 : Shape := ⟨2, ![512, 1408]⟩
abbrev S1408x1024 : Shape := ⟨2, ![1408, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 15
  | .vmem => 23
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x2816, .bf16⟩
  | .hbm, ⟨3, _⟩ => ⟨S1024x2816, .bf16⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S1x1024, .f32⟩
  | .hbm, ⟨9, _⟩ => ⟨S2816x1024, .bf16⟩
  | .hbm, ⟨10, _⟩ => ⟨S2816x1024, .bf16⟩
  | .hbm, ⟨11, _⟩ => ⟨S4096x1024, .f32⟩
  | .hbm, ⟨12, _⟩ => ⟨S4096x1024, .bf16⟩
  | .hbm, ⟨13, _⟩ => ⟨S1x1024, .f32⟩
  | .hbm, ⟨14, _⟩ => ⟨S1x1024, .f32⟩
  | .local _ .vmem, ⟨0, _⟩ => ⟨S512x1408, .bf16⟩
  | .local _ .vmem, ⟨1, _⟩ => ⟨S512x1408, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S1408x1024, .bf16⟩
  | .local _ .vmem, ⟨7, _⟩ => ⟨S1408x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S1x1024, .f32⟩
  | .local _ .vmem, ⟨21, _⟩ => ⟨S1x1024, .f32⟩
  | .local _ .vmem, ⟨22, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32 : BitVec 32 := 1#32
  let v15 : BitVec 1 := Scalar.cmpi .eq arg1 c1_i32
  let v16 : BitVec 32 := Scalar.extui v15
  let c0_i32_11 : BitVec 32 := 0#32
  let v17 : BitVec 1 := Scalar.cmpi .ne v16 c0_i32_11
  v17

def k0_cond4 (i : grid0.Coords) : BitVec 1 :=
  let arg0 : BitVec 32 := BitVec.ofNat 32 (i 0).val
  let c0_i32_12 : BitVec 32 := 0#32
  let v18 : BitVec 1 := Scalar.cmpi .eq arg0 c0_i32_12
  let v19 : BitVec 32 := Scalar.extui v18
  let c0_i32_13 : BitVec 32 := 0#32
  let v20 : BitVec 1 := Scalar.cmpi .ne v19 c0_i32_13
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== MidRefIdeal.lean ====
abbrev S4096x2816 : Shape := ⟨2, ![4096, 2816]⟩
abbrev S1024x2816 : Shape := ⟨2, ![1024, 2816]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 104
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x2816, .bf16⟩
  | .hbm, ⟨3, _⟩ => ⟨S1024x2816, .bf16⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S1024x2816, .f32⟩
  | .hbm, ⟨29, _⟩ => ⟨S4096x2816, .f32⟩
  | .hbm, ⟨30, _⟩ => ⟨S1024x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S_, .f32⟩
  | .hbm, ⟨54, _⟩ => ⟨S4096, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S4096x1, .f32⟩
  | .hbm, ⟨72, _⟩ => ⟨S4096x1, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S_, .f32⟩
  | .hbm, ⟨88, _⟩ => ⟨S4096, .f32⟩
  | .hbm, ⟨89, _⟩ => ⟨S4096x1, .f32⟩
  | .hbm, ⟨90, _⟩ => ⟨S4096x1024, .f32⟩
  | .hbm, ⟨91, _⟩ => ⟨S4096x1024, .f32⟩
  | .hbm, ⟨92, _⟩ => ⟨S4096x1, .f32⟩
  | .hbm, ⟨93, _⟩ => ⟨S_, .f32⟩
  | .hbm, ⟨94, _⟩ => ⟨S4096x1, .f32⟩
  | .hbm, ⟨95, _⟩ => ⟨S4096x1, .f32⟩
  | .hbm, ⟨96, _⟩ => ⟨S_, .f32⟩
  | .hbm, ⟨97, _⟩ => ⟨S4096, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_11 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_12 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_13 : Ref sig .tc := ⟨.hbm, 93, rfl⟩
abbrev main_v70 : Ref sig .tc := ⟨.hbm, 94, rfl⟩
abbrev main_v71 : Ref sig .tc := ⟨.hbm, 95, rfl⟩
abbrev main_cst_14 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩

abbrev nD : Nat := 1
abbrev τ : Topo := Topo.v7x

variable {F : FTy → Type} [FloatOps F]
-- ==== Loss.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S8x128 : Shape := ⟨2, ![8, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .bf16⟩
  | .hbm, ⟨6, _⟩ => ⟨S4096x1024, .f32⟩
  | .hbm, ⟨7, _⟩ => ⟨S8x128, .f32⟩
  | .hbm, ⟨8, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S8x128, .f32⟩
  | .local _ .vmem, ⟨13, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossRefIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S8x128 : Shape := ⟨2, ![8, 128]⟩

abbrev nBuf : Space → Nat
  | .hbm => 76
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x2816, .f32⟩
  | .hbm, ⟨6, _⟩ => ⟨S2816x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x1024, .f32⟩
  | .hbm, ⟨62, _⟩ => ⟨S4096x1024, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .bf16⟩
  | .hbm, ⟨75, _⟩ => ⟨S8x128, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== AdamIn.lean ====
abbrev S8x736x1024 : Shape := ⟨3, ![8, 736, 1024]⟩
abbrev S736x1024 : Shape := ⟨2, ![736, 1024]⟩
abbrev S8x368x1024 : Shape := ⟨3, ![8, 368, 1024]⟩
abbrev S368x1024 : Shape := ⟨2, ![368, 1024]⟩
abbrev S1x368x1024 : Shape := ⟨3, ![1, 368, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x736x1024, .bf16⟩
  | .hbm, ⟨1, _⟩ => ⟨S736x1024, .f32⟩
  | .hbm, ⟨2, _⟩ => ⟨S736x1024, .f32⟩
  | .hbm, ⟨3, _⟩ => ⟨S736x1024, .f32⟩
  | .hbm, ⟨4, _⟩ => ⟨S736x1024, .f32⟩
  | .hbm, ⟨5, _⟩ => ⟨S736x1024, .f32⟩
  | .hbm, ⟨6, _⟩ => ⟨S736x1024, .f32⟩
  | .hbm, ⟨7, _⟩ => ⟨S736x1024, .f32⟩
  | .local _ .vmem, ⟨0, _⟩ => ⟨S8x368x1024, .bf16⟩
  | .local _ .vmem, ⟨1, _⟩ => ⟨S8x368x1024, .bf16⟩
  | .local _ .vmem, ⟨2, _⟩ => ⟨S368x1024, .f32⟩
  | .local _ .vmem, ⟨3, _⟩ => ⟨S368x1024, .f32⟩
  | .local _ .vmem, ⟨4, _⟩ => ⟨S368x1024, .f32⟩
  | .local _ .vmem, ⟨5, _⟩ => ⟨S368x1024, .f32⟩
  | .local _ .vmem, ⟨6, _⟩ => ⟨S368x1024, .f32⟩
  | .local _ .vmem, ⟨7, _⟩ => ⟨S368x1024, .f32⟩
  | .local _ .vmem, ⟨8, _⟩ => ⟨S368x1024, .f32⟩
  | .local _ .vmem, ⟨9, _⟩ => ⟨S368x1024, .f32⟩
  | .local _ .vmem, ⟨10, _⟩ => ⟨S368x1024, .f32⟩
  | .local _ .vmem, ⟨11, _⟩ => ⟨S368x1024, .f32⟩
  | .local _ .vmem, ⟨12, _⟩ => ⟨S368x1024, .f32⟩
  | .local _ .vmem, ⟨13, _⟩ => ⟨S368x1024, .f32⟩
  | .local _ .vmem, ⟨14, _⟩ => ⟨S368x1024, .f32⟩
  | .local _ .vmem, ⟨15, _⟩ => ⟨S368x1024, .f32⟩
  | _, _ => ⟨S8x736x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x368x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S368x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S368x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S368x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S368x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S368x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S368x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S368x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S8x736x1024 : Shape := ⟨3, ![8, 736, 1024]⟩
abbrev S736x1024 : Shape := ⟨2, ![736, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x736x1024, .bf16⟩
  | .hbm, ⟨1, _⟩ => ⟨S736x1024, .f32⟩
  | .hbm, ⟨2, _⟩ => ⟨S736x1024, .f32⟩
  | .hbm, ⟨3, _⟩ => ⟨S736x1024, .f32⟩
  | .hbm, ⟨4, _⟩ => ⟨S8x736x1024, .f32⟩
  | .hbm, ⟨5, _⟩ => ⟨S_, .f32⟩
  | .hbm, ⟨6, _⟩ => ⟨S736x1024, .f32⟩
  | .hbm, ⟨7, _⟩ => ⟨S_, .f32⟩
  | .hbm, ⟨8, _⟩ => ⟨S736x1024, .f32⟩
  | .hbm, ⟨9, _⟩ => ⟨S736x1024, .f32⟩
  | .hbm, ⟨10, _⟩ => ⟨S_, .f32⟩
  | .hbm, ⟨11, _⟩ => ⟨S736x1024, .f32⟩
  | .hbm, ⟨12, _⟩ => ⟨S736x1024, .f32⟩
  | .hbm, ⟨13, _⟩ => ⟨S736x1024, .f32⟩
  | .hbm, ⟨14, _⟩ => ⟨S_, .f32⟩
  | .hbm, ⟨15, _⟩ => ⟨S736x1024, .f32⟩
  | .hbm, ⟨16, _⟩ => ⟨S736x1024, .f32⟩
  | .hbm, ⟨17, _⟩ => ⟨S736x1024, .f32⟩
  | .hbm, ⟨18, _⟩ => ⟨S_, .f32⟩
  | .hbm, ⟨19, _⟩ => ⟨S736x1024, .f32⟩
  | .hbm, ⟨20, _⟩ => ⟨S736x1024, .f32⟩
  | .hbm, ⟨21, _⟩ => ⟨S736x1024, .f32⟩
  | .hbm, ⟨22, _⟩ => ⟨S_, .f32⟩
  | .hbm, ⟨23, _⟩ => ⟨S736x1024, .f32⟩
  | .hbm, ⟨24, _⟩ => ⟨S736x1024, .f32⟩
  | .hbm, ⟨25, _⟩ => ⟨S_, .f32⟩
  | .hbm, ⟨26, _⟩ => ⟨S736x1024, .f32⟩
  | .hbm, ⟨27, _⟩ => ⟨S736x1024, .f32⟩
  | .hbm, ⟨28, _⟩ => ⟨S736x1024, .f32⟩
  | .hbm, ⟨29, _⟩ => ⟨S_, .f32⟩
  | .hbm, ⟨30, _⟩ => ⟨S736x1024, .f32⟩
  | .hbm, ⟨31, _⟩ => ⟨S736x1024, .f32⟩
  | .hbm, ⟨32, _⟩ => ⟨S736x1024, .f32⟩
  | .hbm, ⟨33, _⟩ => ⟨S_, .f32⟩
  | .hbm, ⟨34, _⟩ => ⟨S736x1024, .f32⟩
  | .hbm, ⟨35, _⟩ => ⟨S736x1024, .f32⟩
  | .hbm, ⟨36, _⟩ => ⟨S736x1024, .f32⟩
  | .hbm, ⟨37, _⟩ => ⟨S_, .f32⟩
  | .hbm, ⟨38, _⟩ => ⟨S736x1024, .f32⟩
  | .hbm, ⟨39, _⟩ => ⟨S736x1024, .f32⟩
  | _, _ => ⟨S8x736x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamOut.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOutRefIdeal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamBranch.lean ====
abbrev S8x512x128 : Shape := ⟨3, ![8, 512, 128]⟩
abbrev S512x128 : Shape := ⟨2, ![512, 128]⟩
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x512x128, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S8x256x128, .bf16⟩
  | .local _ .vmem, ⟨1, _⟩ => ⟨S8x256x128, .bf16⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S8x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamBranchRefIdeal.lean ====
abbrev S8x512x128 : Shape := ⟨3, ![8, 512, 128]⟩
abbrev S512x128 : Shape := ⟨2, ![512, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x512x128, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S8x512x128, .f32⟩
  | .hbm, ⟨5, _⟩ => ⟨S_, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S_, .f32⟩
  | .hbm, ⟨11, _⟩ => ⟨S512x128, .f32⟩
  | .hbm, ⟨12, _⟩ => ⟨S512x128, .f32⟩
  | .hbm, ⟨13, _⟩ => ⟨S512x128, .f32⟩
  | .hbm, ⟨14, _⟩ => ⟨S_, .f32⟩
  | .hbm, ⟨15, _⟩ => ⟨S512x128, .f32⟩
  | .hbm, ⟨16, _⟩ => ⟨S512x128, .f32⟩
  | .hbm, ⟨17, _⟩ => ⟨S512x128, .f32⟩
  | .hbm, ⟨18, _⟩ => ⟨S_, .f32⟩
  | .hbm, ⟨19, _⟩ => ⟨S512x128, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S_, .f32⟩
  | .hbm, ⟨26, _⟩ => ⟨S512x128, .f32⟩
  | .hbm, ⟨27, _⟩ => ⟨S512x128, .f32⟩
  | .hbm, ⟨28, _⟩ => ⟨S512x128, .f32⟩
  | .hbm, ⟨29, _⟩ => ⟨S_, .f32⟩
  | .hbm, ⟨30, _⟩ => ⟨S512x128, .f32⟩
  | .hbm, ⟨31, _⟩ => ⟨S512x128, .f32⟩
  | .hbm, ⟨32, _⟩ => ⟨S512x128, .f32⟩
  | .hbm, ⟨33, _⟩ => ⟨S_, .f32⟩
  | .hbm, ⟨34, _⟩ => ⟨S512x128, .f32⟩
  | .hbm, ⟨35, _⟩ => ⟨S512x128, .f32⟩
  | .hbm, ⟨36, _⟩ => ⟨S512x128, .f32⟩
  | .hbm, ⟨37, _⟩ => ⟨S_, .f32⟩
  | .hbm, ⟨38, _⟩ => ⟨S512x128, .f32⟩
  | .hbm, ⟨39, _⟩ => ⟨S512x128, .f32⟩
  | _, _ => ⟨S8x512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamFfn.lean ====
abbrev S8x352x1024 : Shape := ⟨3, ![8, 352, 1024]⟩
abbrev S352x1024 : Shape := ⟨2, ![352, 1024]⟩
abbrev S1x352x1024 : Shape := ⟨3, ![1, 352, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x352x1024, .bf16⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamFfnRefIdeal.lean ====
abbrev S8x352x1024 : Shape := ⟨3, ![8, 352, 1024]⟩
abbrev S352x1024 : Shape := ⟨2, ![352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamSmall.lean ====
abbrev S8x8x1024 : Shape := ⟨3, ![8, 8, 1024]⟩
abbrev S8x1024 : Shape := ⟨2, ![8, 1024]⟩
abbrev S1x8x1024 : Shape := ⟨3, ![1, 8, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S8x1024, .f32⟩
  | .local _ .vmem, ⟨0, _⟩ => ⟨S8x8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | _, _ => ⟨S8x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSmallRefIdeal.lean ====
abbrev S8x8x1024 : Shape := ⟨3, ![8, 8, 1024]⟩
abbrev S8x1024 : Shape := ⟨2, ![8, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S_, .f32⟩
  | .hbm, ⟨18, _⟩ => ⟨S8x1024, .f32⟩
  | .hbm, ⟨19, _⟩ => ⟨S8x1024, .f32⟩
  | .hbm, ⟨20, _⟩ => ⟨S8x1024, .f32⟩
  | .hbm, ⟨21, _⟩ => ⟨S_, .f32⟩
  | .hbm, ⟨22, _⟩ => ⟨S8x1024, .f32⟩
  | .hbm, ⟨23, _⟩ => ⟨S8x1024, .f32⟩
  | .hbm, ⟨24, _⟩ => ⟨S_, .f32⟩
  | .hbm, ⟨25, _⟩ => ⟨S8x1024, .f32⟩
  | .hbm, ⟨26, _⟩ => ⟨S8x1024, .f32⟩
  | .hbm, ⟨27, _⟩ => ⟨S8x1024, .f32⟩
  | .hbm, ⟨28, _⟩ => ⟨S_, .f32⟩
  | .hbm, ⟨29, _⟩ => ⟨S8x1024, .f32⟩
  | .hbm, ⟨30, _⟩ => ⟨S8x1024, .f32⟩
  | .hbm, ⟨31, _⟩ => ⟨S8x1024, .f32⟩
  | .hbm, ⟨32, _⟩ => ⟨S_, .f32⟩
  | .hbm, ⟨33, _⟩ => ⟨S8x1024, .f32⟩
  | .hbm, ⟨34, _⟩ => ⟨S8x1024, .f32⟩
  | .hbm, ⟨35, _⟩ => ⟨S8x1024, .f32⟩
  | .hbm, ⟨36, _⟩ => ⟨S_, .f32⟩
  | .hbm, ⟨37, _⟩ => ⟨S8x1024, .f32⟩
  | .hbm, ⟨38, _⟩ => ⟨S8x1024, .f32⟩
  | _, _ => ⟨S8x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Pay.lean ====
module

public import proofs.«01_k».proof.Proof.Gen.KernelIdeal.Skeleton
public import Idealize.ShloMosaic.Lib.Pointwise
public import Idealize.ShloMosaic.Lib.ValueIdx

/-! What one tile of the backward pass computes, as real arithmetic: the body's payloads, read at an index, are the
    functions `tz`, `tlm`, `ta`, `tde`, `tdz`, … of the real numbers its operands hold. -/

@[expose] public section

set_option maxRecDepth 16384

noncomputable section

namespace Cert.KernelIdeal.Sb

open Cert.KernelIdeal Cert.KernelIdeal.Gen
open Idealize.ShloMosaic Idealize.ShloMosaic.TcCoe Idealize.ShloMosaic.Pointwise
open Idealize.SL Idealize.SL.Sem

/-- The logarithm of the logistic function, in the form that does not overflow. -/
def LS (z : ℝ) : ℝ := min z 0 - Real.log (1 + Real.exp (-|z|))

/-- The logarithm of one minus the logistic function. -/
def LM (z : ℝ) : ℝ := LS z - z

/-- A finite sum of reals, read in the extended reals. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The two-dimensional vector `x` holds the reals `f`. -/
def R2 {m n : ℕ} {φ : FTy} (x : FVec Ideal ⟨2, ![m, n]⟩ φ) (f : Fin m → Fin n → ℝ) : Prop :=
  ∀ a b, x (ix2 a b) = ((f a b : ℝ) : EReal)

/-- The column `x` holds the reals `f`. -/
def C1 {m : ℕ} {φ : FTy} (x : FVec Ideal ⟨2, ![m, 1]⟩ φ) (f : Fin m → ℝ) : Prop :=
  ∀ a, x (ix2 a 0) = ((f a : ℝ) : EReal)

/-- The mask `x` holds the truth values `f`. -/
def B2 {m n : ℕ} (x : IVec ⟨2, ![m, n]⟩ 1) (f : Fin m → Fin n → Bool) : Prop :=
  ∀ a b, x (ix2 a b) = if f a b then 1#1 else 0#1

theorem sel_B (b : Bool) (x y : EReal) :
    Scalar.select (if b then 1#1 else 0#1) x y = if b then x else y := by
  cases b <;> simp [Scalar.select]

section Tile
variable (Q D : Fin 1024 → Fin 256 → ℝ) (rt l0 p0 : Fin 1024 → ℝ) (K V : Fin 256 → Fin 256 → ℝ)
  (mk : Fin 1024 → Fin 256 → Bool)

/-- The logits of a tile. -/
def tz (r : Fin 1024) (s : Fin 256) : ℝ := ∑ l, Q r l * K s l
/-- The masked logarithms of one minus beta. -/
def tlm (r : Fin 1024) (s : Fin 256) : ℝ := if mk r s then LM (tz Q K r s) else 0
/-- The running row sum of `tlm`, this tile included. -/
def tl (r : Fin 1024) : ℝ := l0 r + ∑ x, tlm Q K mk r x
/-- The attention weights of a tile. -/
def ta (r : Fin 1024) (s : Fin 256) : ℝ :=
  if mk r s then Real.exp (LS (tz Q K r s) + (rt r - tl Q l0 K mk r)
    + ∑ x : Fin 256, tlm Q K mk r x * (if s.val < x.val then 1 else 0)) else 0
/-- The gradient with respect to the logarithm of the weights. -/
def tde (r : Fin 1024) (s : Fin 256) : ℝ := (∑ l, D r l * V s l) * ta Q rt l0 K mk r s
/-- The running row sum of `tde`, this tile included. -/
def tp (r : Fin 1024) : ℝ := p0 r + ∑ x, tde Q D rt l0 K V mk r x
/-- The gradient with respect to the logits. -/
def tdz (r : Fin 1024) (s : Fin 256) : ℝ :=
  if mk r s then tde Q D rt l0 K V mk r s - Real.exp (LS (tz Q K r s)) * (tde Q D rt l0 K V mk r s
    + (p0 r + ∑ x : Fin 256, tde Q D rt l0 K V mk r x * (if x.val < s.val then 1 else 0))) else 0
end Tile

/-- Row `256 h + a` of a stack of four heads' rows. -/
def stk (h : ℕ) (hh : h < 4) (a : Fin 256) : Fin 1024 := ⟨256 * h + a.val, by omega⟩

/-- The head within its group that a lane belongs to. -/
theorem lane_head (l : Fin 256) : l.val / 64 < 4 := by omega

section Ext
theorem exp_R (x : ℝ) : Ideal.exp (x : EReal) = ((Real.exp x : ℝ) : EReal) := Ideal.exp_coe x

theorem log_R (x : ℝ) (h : 0 < x) : Ideal.log (x : EReal) = ((Real.log x : ℝ) : EReal) := by
  rw [Ideal.log_coe, if_neg (not_le.mpr h)]

theorem abs_R (x : ℝ) : FloatOps.absf (F := Ideal) (φ := .f32) (x : EReal) = ((|x| : ℝ) : EReal) := by
  rw [Ideal.absf_def]
  change max (x : EReal) (-(x : EReal)) = _
  rw [← EReal.coe_neg]
  exact (EReal.coe_strictMono.monotone.map_max (a := x) (b := -x)).symm

theorem ls_R (z : ℝ) :
    min (z : EReal) 0 - Ideal.log (1 + Ideal.exp (0 - FloatOps.absf (F := Ideal) (φ := .f32) (z : EReal))) = ((LS z : ℝ) : EReal) := by
  rw [abs_R, zero_sub, ← EReal.coe_neg, exp_R, show (1 : EReal) = ((1 : ℝ) : EReal) from rfl, ← EReal.coe_add,
    log_R _ (by positivity), show min (z : EReal) 0 = ((min z 0 : ℝ) : EReal) from (EReal.coe_strictMono.monotone.map_min (a := z) (b := 0)).symm, ← EReal.coe_sub]
  rfl

theorem eighth_R : Ideal.ofBits .f32 1040187392#32 = ((1 / 8 : ℝ) : EReal) := by
  simp [Ideal.ofBits, Ideal.ieee, -EReal.coe_mul]; norm_num

theorem eighth_bf16_R : Ideal.ofBits .bf16 0x3E00#16 = ((1 / 8 : ℝ) : EReal) := by
  simp [Ideal.ofBits, Ideal.ieee, -EReal.coe_mul]; norm_num
end Ext

section Unmasked
variable {later : FVec Ideal S512x256 .bf16} {earlier : FVec Ideal S256x256 .bf16}
  {qs dos : FVec Ideal S1024x256 .bf16} {rs ls0 ps0 : FVec Ideal S1024x1 .f32} {kj vj : FVec Ideal S256x256 .bf16}
  {Q D : Fin 1024 → Fin 256 → ℝ} {rt l0 p0 : Fin 1024 → ℝ} {K V : Fin 256 → Fin 256 → ℝ}
  {tri : IVec S1024x256 1} {mk : Fin 1024 → Fin 256 → Bool}

/-- What the two stacked strictly-later masks hold. -/
def Later (later : FVec Ideal S512x256 .bf16) : Prop :=
  ∀ (x : Fin 512) (s : Fin 256), later (ix2 x s) = (((if s.val < x.val % 256 then 1 else 0 : ℝ)) : EReal)
/-- What the strictly-earlier mask holds. -/
def Earlier (earlier : FVec Ideal S256x256 .bf16) : Prop :=
  ∀ (x : Fin 256) (s : Fin 256), earlier (ix2 x s) = (((if x.val < s.val then 1 else 0 : ℝ)) : EReal)

theorem pay1_R (hq : R2 qs Q) (hk : R2 kj K) : R2 (k0_pay1 (F := Ideal) qs kj) (tz Q K) := by
  intro r s
  pointwise [k0_pay1]
  simp only [hq _ _, hk _ _, ← EReal.coe_mul, ← coe_sum]
  rfl

theorem pay2_R (hq : R2 qs Q) (hk : R2 kj K) : R2 (k0_pay2 (F := Ideal) qs kj) (fun r s => LS (tz Q K r s)) := by
  intro r s
  pointwise [k0_pay2]
  rw [pay1_R hq hk r s]
  exact ls_R _

theorem pay3_R (hq : R2 qs Q) (hk : R2 kj K) : R2 (k0_pay3 (F := Ideal) qs kj) (tlm Q K (fun _ _ => true)) := by
  intro r s
  pointwise [k0_pay3]
  rw [pay1_R hq hk r s, pay2_R hq hk r s, ← EReal.coe_sub]
  rfl

theorem pay4_R (hq : R2 qs Q) (hk : R2 kj K) (hl : C1 ls0 l0) :
    C1 (k0_pay4 (F := Ideal) qs ls0 kj) (tl Q l0 K (fun _ _ => true)) := by
  intro r
  pointwise [k0_pay4]
  simp only [pay3_R hq hk _ _, hl _, ← coe_sum, ← EReal.coe_add]
  rfl

theorem split_R (f : Fin 256 → ℝ) (hla : Later later) (s : Fin 256) :
    (∑ x : Fin 256, (f x : EReal) * later (ix2 ⟨x.val, by omega⟩ s)
      + ∑ x : Fin 256, ((f x : EReal) - (f x : EReal)) * later (ix2 ⟨256 + x.val, by omega⟩ s))
      = ((∑ x : Fin 256, f x * (if s.val < x.val then 1 else 0) : ℝ) : EReal) := by
  rw [Finset.sum_eq_zero (s := Finset.univ) (f := fun x : Fin 256 => ((f x : EReal) - (f x : EReal)) * later (ix2 ⟨256 + x.val, by omega⟩ s)), add_zero, coe_sum]
  · refine Finset.sum_congr rfl fun x _ => ?_
    rw [hla, ← EReal.coe_mul, Nat.mod_eq_of_lt x.isLt]
  · intro x _
    rw [← EReal.coe_sub, sub_self, EReal.coe_zero, zero_mul]

theorem pay5_R (hla : Later later) (hq : R2 qs Q) (hk : R2 kj K) (hl : C1 ls0 l0) (hr : C1 rs rt) :
    R2 (k0_pay5 (F := Ideal) later qs rs ls0 kj) (ta Q rt l0 K (fun _ _ => true)) := by
  intro r s
  pointwise [k0_pay5]
  rw [pay4_R hq hk hl r]
  simp only [pay3_R hq hk _ _, pay2_R hq hk _ _, hr _]
  rw [split_R _ hla, ← EReal.coe_sub, ← EReal.coe_add, ← EReal.coe_add, exp_R]
  rfl

theorem pay6_R (hla : Later later) (hq : R2 qs Q) (hd : R2 dos D) (hk : R2 kj K) (hv : R2 vj V) (hl : C1 ls0 l0) (hr : C1 rs rt) :
    R2 (k0_pay6 (F := Ideal) later qs dos rs ls0 kj vj) (tde Q D rt l0 K V (fun _ _ => true)) := by
  intro r s
  pointwise [k0_pay6]
  rw [pay5_R hla hq hk hl hr r s]
  simp only [hd _ _, hv _ _, ← EReal.coe_mul, ← coe_sum]
  rfl

theorem pay7_R (hla : Later later) (hea : Earlier earlier) (hq : R2 qs Q) (hd : R2 dos D) (hk : R2 kj K) (hv : R2 vj V)
    (hl : C1 ls0 l0) (hr : C1 rs rt) (hp : C1 ps0 p0) :
    R2 (k0_pay7 (F := Ideal) later earlier qs dos rs ls0 ps0 kj vj) (tdz Q D rt l0 p0 K V (fun _ _ => true)) := by
  intro r s
  pointwise [k0_pay7]
  simp only [pay6_R hla hq hd hk hv hl hr _ _, pay2_R hq hk _ _, hp _, hea _ _, ← EReal.coe_mul, ← coe_sum, ← EReal.coe_add, exp_R, ← EReal.coe_sub]
  rfl

theorem pay9_R {dz : FVec Ideal S1024x256 .bf16} {old : FVec Ideal S256x256 .f32} {Z : Fin 1024 → Fin 256 → ℝ} {o : Fin 256 → Fin 256 → ℝ}
    (hz : R2 dz Z) (hq : R2 qs Q) (ho : R2 old o) :
    R2 (k0_pay9 (F := Ideal) qs dz (k0_pay8 old) (constant S256x256 .f32 0#32)) (fun s l => o s l + ∑ r, Z r s * Q r l) := by
  intro s l
  pointwise [k0_pay9, k0_pay8]
  simp only [hz _ _, hq _ _, ho _ _, ← EReal.coe_mul, ← coe_sum, ← EReal.coe_add]

theorem pay10_R {a : FVec Ideal S1024x256 .f32} {old : FVec Ideal S256x256 .f32} {A : Fin 1024 → Fin 256 → ℝ} {o : Fin 256 → Fin 256 → ℝ}
    (ha : R2 a A) (hd : R2 dos D) (ho : R2 old o) :
    R2 (k0_pay10 (F := Ideal) dos a old) (fun s l => o s l + ∑ r, A r s * D r l) := by
  intro s l
  pointwise [k0_pay10]
  simp only [ha _ _, hd _ _, ho _ _, ← EReal.coe_mul, ← coe_sum, ← EReal.coe_add]

/-- The four masks that name a lane's head. -/
def Heads (v29 v55 v81 v107 : IVec S256x256 1) : Prop :=
  B2 v29 (fun _ b => b.val / 64 == 0) ∧ B2 v55 (fun _ b => b.val / 64 == 1) ∧ B2 v81 (fun _ b => b.val / 64 == 2)
    ∧ B2 v107 (fun _ b => b.val / 64 == 3)

theorem unstack_R (f : Fin 1024 → ℝ) (a l : Fin 256) :
    (if (l.val / 64 == 0) then (f ⟨a.val, by omega⟩ : EReal) else 0)
      + (if (l.val / 64 == 1) then (f ⟨256 + a.val, by omega⟩ : EReal) else 0)
      + (if (l.val / 64 == 2) then (f ⟨512 + a.val, by omega⟩ : EReal) else 0)
      + (if (l.val / 64 == 3) then (f ⟨768 + a.val, by omega⟩ : EReal) else 0)
      = ((f (stk (l.val / 64) (lane_head l) a) : ℝ) : EReal) := by
  have h4 := lane_head l
  have : l.val / 64 = 0 ∨ l.val / 64 = 1 ∨ l.val / 64 = 2 ∨ l.val / 64 = 3 := by omega
  rcases this with h | h | h | h
  · simp only [h]; simp only [stk]; simp [h]
  · simp only [h]; simp only [stk]; simp [h]
  · simp only [h]; simp only [stk]; simp [h]
  · simp only [h]; simp only [stk]; simp [h]

theorem pay11_R {v29 v55 v81 v107 : IVec S256x256 1} {a0 : FVec Ideal S256x256 .f32} {dz : FVec Ideal S1024x256 .bf16}
    {o : Fin 256 → Fin 256 → ℝ} {Z : Fin 1024 → Fin 256 → ℝ}
    (hh : Heads v29 v55 v81 v107) (ho : R2 a0 o) (hk : R2 kj K) (hz : R2 dz Z) :
    R2 (k0_pay11 (F := Ideal) v29 v55 v81 v107 a0 kj dz)
      (fun a l => o a l + ∑ s, Z (stk (l.val / 64) (lane_head l) a) s * K s l) := by
  intro a l
  pointwise [k0_pay11]
  simp only [hh.1 _ _, hh.2.1 _ _, hh.2.2.1 _ _, hh.2.2.2 _ _, sel_B, hz _ _, hk _ _, ← EReal.coe_mul, ← coe_sum, ho _ _]
  rw [EReal.coe_add]
  congr 1
  exact unstack_R (fun r => ∑ s, Z r s * K s l) a l

theorem pay12_R {de : FVec Ideal S1024x256 .f32} {E : Fin 1024 → Fin 256 → ℝ} (hp : C1 ps0 p0) (he : R2 de E) :
    C1 (k0_pay12 (F := Ideal) ps0 de) (fun r => p0 r + ∑ x, E r x) := by
  intro r
  pointwise [k0_pay12]
  simp only [he _ _, hp _, ← coe_sum, ← EReal.coe_add]

/-! The masked tile. -/

theorem pay77_R (hq : R2 qs Q) (hk : R2 kj K) : R2 (k0_pay77 (F := Ideal) qs kj) (tz Q K) := pay1_R hq hk
theorem pay78_R (hq : R2 qs Q) (hk : R2 kj K) : R2 (k0_pay78 (F := Ideal) qs kj) (fun r s => LS (tz Q K r s)) := pay2_R hq hk
theorem pay79_R (hq : R2 qs Q) (hk : R2 kj K) : R2 (k0_pay79 (F := Ideal) qs kj) (fun r s => Real.exp (LS (tz Q K r s))) := by
  intro r s
  pointwise [k0_pay79]
  rw [pay78_R hq hk r s, exp_R]

theorem mlm_R (hm : B2 tri mk) (hq : R2 qs Q) (hk : R2 kj K) (r : Fin 1024) (s : Fin 256) :
    Scalar.select (tri (ix2 r s)) (k0_pay78 (F := Ideal) qs kj (ix2 r s) - k0_pay77 (F := Ideal) qs kj (ix2 r s)) (0 : EReal)
      = ((tlm Q K mk r s : ℝ) : EReal) := by
  rw [hm r s, sel_B, pay77_R hq hk r s, pay78_R hq hk r s, ← EReal.coe_sub]
  unfold tlm LM
  cases mk r s <;> simp

theorem mlm_mul_R (hm : B2 tri mk) (hq : R2 qs Q) (hk : R2 kj K) (r : Fin 1024) (s : Fin 256) (y : EReal) :
    Scalar.select (tri (ix2 r s)) ((k0_pay78 (F := Ideal) qs kj (ix2 r s) - k0_pay77 (F := Ideal) qs kj (ix2 r s)) * y) (0 : EReal)
      = ((tlm Q K mk r s : ℝ) : EReal) * y := by
  rw [hm r s, sel_B, pay77_R hq hk r s, pay78_R hq hk r s, ← EReal.coe_sub]
  unfold tlm LM
  cases mk r s <;> simp

theorem pay80_R (hm : B2 tri mk) (hla : Later later) (hq : R2 qs Q) (hk : R2 kj K) (hl : C1 ls0 l0) (hr : C1 rs rt) :
    R2 (k0_pay80 (F := Ideal) tri later qs rs ls0 kj) (ta Q rt l0 K mk) := by
  intro r s
  pointwise [k0_pay80]
  simp only [mlm_R hm hq hk, mlm_mul_R hm hq hk]
  rw [split_R _ hla]
  simp only [pay78_R hq hk _ _, hr _, hl _, ← coe_sum, ← EReal.coe_add, ← EReal.coe_sub, exp_R]
  rw [hm r s, sel_B]
  unfold ta
  cases mk r s
  · simp
  · simp only [if_true]; rfl

theorem pay81_R (hm : B2 tri mk) (hla : Later later) (hq : R2 qs Q) (hd : R2 dos D) (hk : R2 kj K) (hv : R2 vj V) (hl : C1 ls0 l0) (hr : C1 rs rt) :
    R2 (k0_pay81 (F := Ideal) tri later qs dos rs ls0 kj vj) (tde Q D rt l0 K V mk) := by
  intro r s
  pointwise [k0_pay81]
  rw [pay80_R hm hla hq hk hl hr r s]
  simp only [hd _ _, hv _ _, ← EReal.coe_mul, ← coe_sum]
  rfl

theorem pay83_R (hm : B2 tri mk) (hla : Later later) (hea : Earlier earlier) (hq : R2 qs Q) (hd : R2 dos D) (hk : R2 kj K) (hv : R2 vj V)
    (hl : C1 ls0 l0) (hr : C1 rs rt) (hp : C1 ps0 p0) :
    R2 (k0_pay83 (F := Ideal) tri ps0 (k0_pay79 qs kj) (k0_pay81 tri later qs dos rs ls0 kj vj)
      (k0_pay82 tri later earlier qs dos rs ls0 kj vj)) (tdz Q D rt l0 p0 K V mk) := by
  intro r s
  pointwise [k0_pay83, k0_pay82]
  simp only [pay81_R hm hla hq hd hk hv hl hr _ _, pay79_R hq hk _ _, hp _, hea _ _, ← EReal.coe_mul, ← coe_sum, ← EReal.coe_add, ← EReal.coe_sub]
  rw [hm r s, sel_B]
  unfold tdz
  cases mk r s
  · simp
  · simp only [if_true]

theorem pay84_R {o : Fin 256 → Fin 256 → ℝ} {old : FVec Ideal S256x256 .f32}
    (hm : B2 tri mk) (hla : Later later) (hea : Earlier earlier) (hq : R2 qs Q) (hd : R2 dos D) (hk : R2 kj K) (hv : R2 vj V)
    (hl : C1 ls0 l0) (hr : C1 rs rt) (hp : C1 ps0 p0) (ho : R2 old o) :
    R2 (k0_pay84 (F := Ideal) tri qs ps0 (k0_pay79 qs kj) (k0_pay81 tri later qs dos rs ls0 kj vj)
      (k0_pay82 tri later earlier qs dos rs ls0 kj vj) old) (fun s l => o s l + ∑ r, tdz Q D rt l0 p0 K V mk r s * Q r l) :=
  pay9_R (pay83_R hm hla hea hq hd hk hv hl hr hp) hq ho

theorem pay85_R {a : FVec Ideal S1024x256 .f32} {old : FVec Ideal S256x256 .f32} {A : Fin 1024 → Fin 256 → ℝ} {o : Fin 256 → Fin 256 → ℝ}
    (ha : R2 a A) (hd : R2 dos D) (ho : R2 old o) :
    R2 (k0_pay85 (F := Ideal) dos a old) (fun s l => o s l + ∑ r, A r s * D r l) := pay10_R ha hd ho

theorem pay86_R {v29 v55 v81 v107 : IVec S256x256 1} {a0 : FVec Ideal S256x256 .f32} {o : Fin 256 → Fin 256 → ℝ}
    (hh : Heads v29 v55 v81 v107) (ho : R2 a0 o)
    (hm : B2 tri mk) (hla : Later later) (hea : Earlier earlier) (hq : R2 qs Q) (hd : R2 dos D) (hk : R2 kj K) (hv : R2 vj V)
    (hl : C1 ls0 l0) (hr : C1 rs rt) (hp : C1 ps0 p0) :
    R2 (k0_pay86 (F := Ideal) v29 v55 v81 v107 tri a0 ps0 kj (k0_pay79 qs kj) (k0_pay81 tri later qs dos rs ls0 kj vj)
      (k0_pay82 tri later earlier qs dos rs ls0 kj vj))
      (fun a l => o a l + ∑ s, tdz Q D rt l0 p0 K V mk (stk (l.val / 64) (lane_head l) a) s * K s l) :=
  pay11_R hh ho hk (pay83_R hm hla hea hq hd hk hv hl hr hp)

theorem pay90_R (hm : B2 tri mk) (hla : Later later) (hea : Earlier earlier) (hq : R2 qs Q) (hd : R2 dos D) (hk : R2 kj K) (hv : R2 vj V)
    (hl : C1 ls0 l0) (hr : C1 rs rt) (hp : C1 ps0 p0) :
    R2 (k0_pay90 (F := Ideal) tri later earlier qs dos rs ls0 ps0 kj vj) (tdz Q D rt l0 p0 K V mk) :=
  pay83_R hm hla hea hq hd hk hv hl hr hp

theorem pay91_R {dz : FVec Ideal S1024x256 .bf16} {old : FVec Ideal S256x256 .f32} {Z : Fin 1024 → Fin 256 → ℝ} {o : Fin 256 → Fin 256 → ℝ}
    (hz : R2 dz Z) (hq : R2 qs Q) (ho : R2 old o) :
    R2 (k0_pay91 (F := Ideal) qs dz old) (fun s l => o s l + ∑ r, Z r s * Q r l) := pay9_R hz hq ho

theorem pay92_R {a : FVec Ideal S1024x256 .f32} {old : FVec Ideal S256x256 .f32} {A : Fin 1024 → Fin 256 → ℝ} {o : Fin 256 → Fin 256 → ℝ}
    (ha : R2 a A) (hd : R2 dos D) (ho : R2 old o) :
    R2 (k0_pay92 (F := Ideal) dos a old) (fun s l => o s l + ∑ r, A r s * D r l) := pay10_R ha hd ho

/-- The block of query gradients: both groups side by side, scaled by one eighth. -/
theorem pay93_R {v29 v55 v81 v107 : IVec S256x256 1} {a1 d0 : FVec Ideal S256x256 .f32} {dz : FVec Ideal S1024x256 .bf16}
    {o1 o0 : Fin 256 → Fin 256 → ℝ} {Z : Fin 1024 → Fin 256 → ℝ}
    (hh : Heads v29 v55 v81 v107) (ho : R2 a1 o1) (h0 : R2 d0 o0) (hk : R2 kj K) (hz : R2 dz Z) :
    R2 (k0_pay93 (F := Ideal) v29 v55 v81 v107 a1 d0 kj dz)
      (fun a c => (if h : c.val < 256 then o0 a ⟨c.val, h⟩
        else o1 a ⟨c.val - 256, by omega⟩ + ∑ s, Z (stk ((c.val - 256) / 64) (by omega) a) s * K s ⟨c.val - 256, by omega⟩) / 8) := by
  intro a c
  pointwise [k0_pay93]
  rw [eighth_R, show (1 / 8 : ℝ) = 8⁻¹ by norm_num, div_eq_mul_inv, EReal.coe_mul]
  congr 1
  by_cases h : c.val < 256
  · rw [dif_pos h, dif_pos h, h0 _ _]
  · rw [dif_neg h, dif_neg h]
    simp only [hh.1 _ _, hh.2.1 _ _, hh.2.2.1 _ _, hh.2.2.2 _ _, sel_B, hz _ _, hk _ _, ← EReal.coe_mul, ← coe_sum, ho _ _]
    rw [EReal.coe_add]
    congr 1
    exact unstack_R (fun r => ∑ s, Z r s * K s ⟨c.val - 256, by omega⟩) a ⟨c.val - 256, by omega⟩

/-! The second group of heads, unmasked: the same payloads under other names. -/

theorem pay17_R (hq : R2 qs Q) (hk : R2 kj K) (hl : C1 ls0 l0) :
    C1 (k0_pay17 (F := Ideal) ls0 (k0_pay13 qs kj) (k0_pay14 qs kj)) (tl Q l0 K (fun _ _ => true)) := pay4_R hq hk hl

theorem pay18_R (hla : Later later) (hq : R2 qs Q) (hk : R2 kj K) (hl : C1 ls0 l0) (hr : C1 rs rt) :
    R2 (k0_pay18 (F := Ideal) later rs ls0 (k0_pay13 qs kj) (k0_pay14 qs kj)) (ta Q rt l0 K (fun _ _ => true)) :=
  pay5_R hla hq hk hl hr

theorem pay19_R (hla : Later later) (hq : R2 qs Q) (hd : R2 dos D) (hk : R2 kj K) (hv : R2 vj V) (hl : C1 ls0 l0) (hr : C1 rs rt) :
    R2 (k0_pay19 (F := Ideal) later dos rs ls0 vj (k0_pay13 qs kj) (k0_pay14 qs kj)) (tde Q D rt l0 K V (fun _ _ => true)) :=
  pay6_R hla hq hd hk hv hl hr

theorem pay20_R (hla : Later later) (hea : Earlier earlier) (hq : R2 qs Q) (hd : R2 dos D) (hk : R2 kj K) (hv : R2 vj V)
    (hl : C1 ls0 l0) (hr : C1 rs rt) (hp : C1 ps0 p0) :
    R2 (k0_pay20 (F := Ideal) later earlier dos rs ls0 ps0 vj (k0_pay13 qs kj) (k0_pay14 qs kj))
      (tdz Q D rt l0 p0 K V (fun _ _ => true)) :=
  pay7_R hla hea hq hd hk hv hl hr hp

theorem pay21_R {old : FVec Ideal S256x256 .f32} {o : Fin 256 → Fin 256 → ℝ}
    (hla : Later later) (hea : Earlier earlier) (hq : R2 qs Q) (hd : R2 dos D) (hk : R2 kj K) (hv : R2 vj V)
    (hl : C1 ls0 l0) (hr : C1 rs rt) (hp : C1 ps0 p0) (ho : R2 old o) :
    R2 (k0_pay21 (F := Ideal) later earlier qs dos rs ls0 ps0 vj (k0_pay13 qs kj) (k0_pay14 qs kj) old)
      (fun s l => o s l + ∑ r, tdz Q D rt l0 p0 K V (fun _ _ => true) r s * Q r l) :=
  pay9_R (pay20_R hla hea hq hd hk hv hl hr hp) hq ho

theorem pay22_R {old : FVec Ideal S256x256 .f32} {o : Fin 256 → Fin 256 → ℝ}
    (hla : Later later) (hq : R2 qs Q) (hd : R2 dos D) (hk : R2 kj K)
    (hl : C1 ls0 l0) (hr : C1 rs rt) (ho : R2 old o) :
    R2 (k0_pay22 (F := Ideal) later dos rs ls0 (k0_pay13 qs kj) (k0_pay14 qs kj) old)
      (fun s l => o s l + ∑ r, ta Q rt l0 K (fun _ _ => true) r s * D r l) :=
  pay10_R (pay18_R hla hq hk hl hr) hd ho

theorem pay73_R {v29 v55 v81 v107 : IVec S256x256 1} {a0 : FVec Ideal S256x256 .f32} {dz : FVec Ideal S1024x256 .bf16}
    {o : Fin 256 → Fin 256 → ℝ} {Z : Fin 1024 → Fin 256 → ℝ}
    (hh : Heads v29 v55 v81 v107) (ho : R2 a0 o) (hk : R2 kj K) (hz : R2 dz Z) :
    R2 (k0_pay73 (F := Ideal) v29 v55 v81 v107 a0 kj dz)
      (fun a l => o a l + ∑ s, Z (stk (l.val / 64) (lane_head l) a) s * K s l) := pay11_R hh ho hk hz

theorem pay74_R {de : FVec Ideal S1024x256 .f32} {E : Fin 1024 → Fin 256 → ℝ} (hp : C1 ps0 p0) (he : R2 de E) :
    C1 (k0_pay74 (F := Ideal) ps0 de) (fun r => p0 r + ∑ x, E r x) := pay12_R hp he

theorem pay89_R (hm : B2 tri mk) (hla : Later later) (hq : R2 qs Q) (hk : R2 kj K) (hl : C1 ls0 l0) (hr : C1 rs rt) :
    R2 (k0_pay89 (F := Ideal) tri later qs rs ls0 kj) (ta Q rt l0 K mk) := pay80_R hm hla hq hk hl hr
end Unmasked

end Cert.KernelIdeal.Sb
-- ==== Proof.Setup.lean ====
module

public import proofs.«01_k».proof.Proof.Pay

/-! What the body prepares once per grid point: the masks, the stacked rows of the queries and of the output gradients,
    and the column of row totals. -/

@[expose] public section

set_option maxRecDepth 16384

noncomputable section

namespace Cert.KernelIdeal.Sb

open Cert.KernelIdeal Cert.KernelIdeal.Gen
open Idealize.ShloMosaic Idealize.ShloMosaic.TcCoe Idealize.ShloMosaic.Pointwise
open Idealize.SL Idealize.SL.Sem

/-- The lane numbers. -/
def LN : IVec S256x256 32 := iota .tc S256x256 32 [1] iota_S256x256_d1_w32
/-- The mask of a group's second head. -/
def M1 : IVec S256x256 1 := k0_pay50 LN 64#32 k0_pay48 k0_pay49 1#32 0#1
/-- The mask of a group's third head. -/
def M2 : IVec S256x256 1 := k0_pay51 LN
/-- The mask of a group's fourth head. -/
def M3 : IVec S256x256 1 := k0_pay55 LN 64#32 (k0_pay52 LN) (k0_pay53 LN) k0_pay54

/-- The remainder by 256, as the body computes it: signed, and corrected to be non-negative. -/
def rmod (n : BitVec 32) : BitVec 32 :=
  Scalar.select
    (IntOp.andi
      (IntOp.xori
        (IntOp.cmpi CmpIPredicate.slt
          (IntOp.remsi ArithUnit.vector n (Scalar.select (Scalar.cmpi CmpIPredicate.eq 256#32 0#32) 1#32 256#32)) 0#32)
        (Scalar.cmpi CmpIPredicate.slt (Scalar.select (Scalar.cmpi CmpIPredicate.eq 256#32 0#32) 1#32 256#32) 0#32))
      (IntOp.cmpi CmpIPredicate.ne
        (IntOp.remsi ArithUnit.vector n (Scalar.select (Scalar.cmpi CmpIPredicate.eq 256#32 0#32) 1#32 256#32)) 0#32))
    (IntOp.addi
      (IntOp.remsi ArithUnit.vector n (Scalar.select (Scalar.cmpi CmpIPredicate.eq 256#32 0#32) 1#32 256#32))
      (Scalar.select (Scalar.cmpi CmpIPredicate.eq 256#32 0#32) 1#32 256#32))
    (IntOp.remsi ArithUnit.vector n (Scalar.select (Scalar.cmpi CmpIPredicate.eq 256#32 0#32) 1#32 256#32))

theorem rmod_eq : ∀ n : Fin 1024, rmod (BitVec.ofNat 32 n.val) = BitVec.ofNat 32 (n.val % 256) := by decide +kernel

theorem ofNat_toInt (a : ℕ) (h : a < 1024) : (BitVec.ofNat 32 a).toInt = a := by
  rw [BitVec.toInt_eq_toNat_of_lt] <;> simp only [BitVec.toNat_ofNat] <;> omega

theorem slt_lt (a b : ℕ) (ha : a < 1024) (hb : b < 1024) :
    IntOp.cmpi .slt (BitVec.ofNat 32 a) (BitVec.ofNat 32 b) = if a < b then 1#1 else 0#1 := by
  have : (BitVec.ofNat 32 a).slt (BitVec.ofNat 32 b) = decide (a < b) := by
    rw [Bool.eq_iff_iff, BitVec.slt_iff_toInt_lt, ofNat_toInt a ha, ofNat_toInt b hb, decide_eq_true_eq]; omega
  show BitVec.ofBool _ = _
  rw [this]
  by_cases h : a < b <;> simp [h]

theorem sgt_lt (a b : ℕ) (ha : a < 1024) (hb : b < 1024) :
    IntOp.cmpi .sgt (BitVec.ofNat 32 a) (BitVec.ofNat 32 b) = if b < a then 1#1 else 0#1 := slt_lt b a hb ha

theorem word_R (p : Prop) [Decidable p] :
    FloatOps.sitofp (F := Ideal) FTy.f32 (BitVec.setWidth 32 (if p then 1#1 else 0#1)) = ((if p then 1 else 0 : ℝ) : EReal) := by
  by_cases h : p
  · simp only [h, if_true]
    change (((BitVec.setWidth 32 1#1).toInt : ℝ) : EReal) = _
    rw [show (BitVec.setWidth 32 1#1).toInt = 1 by decide]; norm_num
  · simp only [h, if_false]
    change (((BitVec.setWidth 32 0#1).toInt : ℝ) : EReal) = _
    rw [show (BitVec.setWidth 32 0#1).toInt = 0 by decide]; norm_num

theorem heads : Heads k0_pay47 M1 M2 M3 := by
  refine ⟨?_, ?_, ?_, ?_⟩
  · intro a b
    pointwise [k0_pay47]
    beta_reduce
    clear a
    revert b; decide +kernel
  · intro a b
    pointwise [M1, k0_pay50, k0_pay48, k0_pay49, LN]
    beta_reduce
    clear a
    revert b; decide +kernel
  · intro a b
    pointwise [M2, k0_pay51, LN]
    beta_reduce
    clear a
    revert b; decide +kernel
  · intro a b
    pointwise [M3, k0_pay52, k0_pay53, k0_pay54, k0_pay55, LN]
    beta_reduce
    clear a
    revert b; decide +kernel

theorem tri_R : B2 k0_pay57 (fun r s => decide (s.val < r.val % 256)) := by
  intro r s
  pointwise [k0_pay57, k0_pay56]
  change IntOp.cmpi .slt (BitVec.ofNat 32 s.val) (rmod (BitVec.ofNat 32 r.val)) = _
  rw [rmod_eq, slt_lt _ _ (by omega) (by omega)]
  simp only [decide_eq_true_eq]

theorem later_R : Later (k0_pay58 (F := Ideal)) := by
  intro x s
  pointwise [k0_pay58, k0_pay56]
  by_cases h : x.val < 256
  · rw [dif_pos h]
    change FloatOps.sitofp (F := Ideal) FTy.f32 (BitVec.setWidth 32 (IntOp.cmpi .sgt (rmod (BitVec.ofNat 32 x.val)) (BitVec.ofNat 32 s.val))) = _
    rw [rmod_eq ⟨x.val, by omega⟩, sgt_lt _ _ (by simp only; omega) (by omega), word_R]
  · rw [dif_neg h]
    change FloatOps.sitofp (F := Ideal) FTy.f32 (BitVec.setWidth 32 (IntOp.cmpi .sgt (rmod (BitVec.ofNat 32 (x.val - 256))) (BitVec.ofNat 32 s.val))) = _
    rw [rmod_eq ⟨x.val - 256, by omega⟩, sgt_lt _ _ (by simp only; omega) (by omega), word_R]
    simp only [show (x.val - 256) % 256 = x.val % 256 by omega]

theorem earlier_R : Earlier (k0_pay60 (F := Ideal) k0_pay59) := by
  intro x s
  pointwise [k0_pay60, k0_pay59, k0_pay56]
  change FloatOps.sitofp (F := Ideal) FTy.f32 (BitVec.setWidth 32 (IntOp.cmpi .slt (rmod (BitVec.ofNat 32 x.val)) (BitVec.ofNat 32 s.val))) = _
  rw [rmod_eq ⟨x.val, by omega⟩, slt_lt _ _ (by simp only; omega) (by omega), word_R]
  simp only [show x.val % 256 = x.val by omega]

/-- A block of rows laid out once per head, each copy holding that head's lanes only. -/
def stack (q : Fin 256 → Fin 256 → ℝ) (r : Fin 1024) (l : Fin 256) : ℝ :=
  if l.val / 64 = r.val / 256 then q ⟨r.val % 256, by omega⟩ l else 0

theorem zero_word : (((0#32 : BitVec 32).toInt : ℝ) : EReal) = 0 := by
  rw [show (0#32 : BitVec 32).toInt = 0 by decide]; norm_num

theorem stack_R (q : Fin 256 → Fin 256 → ℝ) (r : Fin 1024) (l : Fin 256) (h : ℕ) (a : Fin 256) (hr : r.val = 256 * h + a.val) :
    (if (l.val / 64 == h) = true then (q a l : EReal) else (0 : EReal)) = ((stack q r l : ℝ) : EReal) := by
  unfold stack
  have h1 : r.val / 256 = h := by omega
  have h2 : r.val % 256 = a.val := by omega
  simp only [h1, h2, beq_iff_eq]
  split_ifs <;> simp

theorem qs0_R {x : Vec Ideal S256x256 .bf16} {q : Fin 256 → Fin 256 → ℝ} (hx : R2 (φ := .bf16) x q) :
    R2 (k0_pay61 (F := Ideal) k0_pay47 M1 M2 M3 x) (stack fun a l => q a l / 8) := by
  intro r l
  pointwise [k0_pay61]
  simp only [heads.1 _ _, heads.2.1 _ _, heads.2.2.1 _ _, heads.2.2.2 _ _, sel_B, hx _ _, zero_word, eighth_bf16_R, ← EReal.coe_mul]
  simp only [show ∀ y : ℝ, y * (1 / 8) = y / 8 from fun y => by ring]
  by_cases h0 : r.val < 256
  · rw [dif_pos h0]; exact stack_R (fun a l => q a l / 8) r l 0 _ (by simp only; omega)
  rw [dif_neg h0]
  by_cases h1 : r.val - 256 < 256
  · rw [dif_pos h1]; exact stack_R (fun a l => q a l / 8) r l 1 _ (by simp only; omega)
  rw [dif_neg h1]
  by_cases h2 : r.val - 256 - 256 < 256
  · rw [dif_pos h2]; exact stack_R (fun a l => q a l / 8) r l 2 _ (by simp only; omega)
  rw [dif_neg h2]; exact stack_R (fun a l => q a l / 8) r l 3 _ (by simp only; omega)

theorem qs1_R {x : Vec Ideal S256x256 .bf16} {q : Fin 256 → Fin 256 → ℝ} (hx : R2 (φ := .bf16) x q) :
    R2 (k0_pay66 (F := Ideal) k0_pay47 M1 M2 M3 x) (stack fun a l => q a l / 8) := qs0_R hx

theorem do0_R {x : Vec Ideal S256x256 .bf16} {q : Fin 256 → Fin 256 → ℝ} (hx : R2 (φ := .bf16) x q) :
    R2 (k0_pay62 (F := Ideal) k0_pay47 M1 M2 M3 x) (stack q) := by
  intro r l
  pointwise [k0_pay62]
  simp only [heads.1 _ _, heads.2.1 _ _, heads.2.2.1 _ _, heads.2.2.2 _ _, sel_B, hx _ _, zero_word]
  by_cases h0 : r.val < 256
  · rw [dif_pos h0]; exact stack_R _ r l 0 _ (by simp only; omega)
  rw [dif_neg h0]
  by_cases h1 : r.val - 256 < 256
  · rw [dif_pos h1]; exact stack_R _ r l 1 _ (by simp only; omega)
  rw [dif_neg h1]
  by_cases h2 : r.val - 256 - 256 < 256
  · rw [dif_pos h2]; exact stack_R _ r l 2 _ (by simp only; omega)
  rw [dif_neg h2]; exact stack_R _ r l 3 _ (by simp only; omega)

theorem do1_R {x : Vec Ideal S256x256 .bf16} {q : Fin 256 → Fin 256 → ℝ} (hx : R2 (φ := .bf16) x q) :
    R2 (k0_pay69 (F := Ideal) M1 M2 M3 x (k0_pay67 k0_pay47 x) k0_pay68) (stack q) := do0_R hx

theorem pick (t : Fin 256 → ℝ) (v : Fin 256) (w : BitVec 32)
    (hw : ∀ b : Fin 256, IntOp.cmpi .eq (BitVec.ofNat 32 b.val) w = if b = v then 1#1 else 0#1) :
    (∑ b : Fin 256, Scalar.select (IntOp.cmpi .eq (BitVec.ofNat 32 b.val) w) (t b : EReal) (0 : EReal)) = ((t v : ℝ) : EReal) := by
  rw [Finset.sum_eq_single v]
  · rw [hw, if_pos rfl]; rfl
  · intro b _ hb; rw [hw, if_neg hb]; rfl
  · intro h; exact absurd (Finset.mem_univ _) h

theorem rs0_R {x : Vec Ideal S256x256 .f32} {t : Fin 256 → Fin 256 → ℝ} (hx : R2 (φ := .f32) x t) :
    C1 (k0_pay65 (F := Ideal) LN (k0_pay63 x) (k0_pay64 LN x) 64#32) (fun r => t ⟨r.val % 256, by omega⟩ ⟨64 * (r.val / 256), by omega⟩) := by
  intro r
  pointwise [k0_pay65, k0_pay64, k0_pay63, LN]
  simp only [hx _ _]
  by_cases h0 : r.val < 256
  · rw [dif_pos h0, pick _ ⟨0, by decide⟩ _ (by decide +kernel)]
    congr 2 <;> (apply Fin.ext; simp only; omega)
  rw [dif_neg h0]
  by_cases h1 : r.val - 256 < 256
  · rw [dif_pos h1, pick _ ⟨64, by decide⟩ _ (by decide +kernel)]
    congr 2 <;> (apply Fin.ext; simp only; omega)
  rw [dif_neg h1]
  by_cases h2 : r.val - 256 - 256 < 256
  · rw [dif_pos h2, pick _ ⟨128, by decide⟩ _ (by decide +kernel)]
    congr 2 <;> (apply Fin.ext; simp only; omega)
  rw [dif_neg h2, pick _ ⟨192, by decide⟩ _ (by decide +kernel)]
  congr 2 <;> (apply Fin.ext; simp only; omega)

theorem rs1_R {x : Vec Ideal S256x256 .f32} {t : Fin 256 → Fin 256 → ℝ} (hx : R2 (φ := .f32) x t) :
    C1 (k0_pay70 (F := Ideal) LN x) (fun r => t ⟨r.val % 256, by omega⟩ ⟨64 * (r.val / 256), by omega⟩) := rs0_R hx

theorem zero_col_R : C1 (k0_pay71 (F := Ideal)) (fun _ => 0) := by
  intro r
  pointwise [k0_pay71]
  rfl

theorem zero_tile_R : R2 (k0_pay72 (F := Ideal)) (fun _ _ => 0) := by
  intro a b
  pointwise [k0_pay72]
  rfl

end Cert.KernelIdeal.Sb
-- ==== Proof.Spec.lean ====
module

public import proofs.«01_k».proof.Proof.Setup

/-! The stick-breaking attention of one sequence and its gradient, over the reals, and what a tile of 256 keys
    contributes to them.  Rows, keys and columns are numbered by naturals; head `h` owns columns `64 h … 64 h + 63`. -/

@[expose] public section

set_option maxRecDepth 16384

noncomputable section

namespace Cert.KernelIdeal.Sb

open Finset

section Sums

theorem sum_gt (f : ℕ → ℝ) (a m n : ℕ) (h : m < n) :
    ∑ x ∈ range n, (if m < x then f (a + x) else 0) = ∑ x ∈ range (a + n), f x - ∑ x ∈ range (a + m + 1), f x := by
  induction n, h using Nat.le_induction with
  | base =>
    rw [show a + (m + 1) = a + m + 1 by omega, sub_self]
    refine sum_eq_zero fun x hx => ?_
    rw [if_neg (by have := mem_range.1 hx; omega)]
  | succ n hn ih =>
    rw [sum_range_succ, ih, if_pos (by omega), show a + (n + 1) = a + n + 1 by omega, sum_range_succ f (a + n)]
    ring

theorem sum_lt (f : ℕ → ℝ) (a m n : ℕ) (h : m ≤ n) :
    ∑ x ∈ range n, (if x < m then f (a + x) else 0) = ∑ x ∈ range (a + m), f x - ∑ x ∈ range a, f x := by
  induction n, h using Nat.le_induction with
  | base =>
    rw [sum_range_add]
    rw [add_sub_cancel_left]
    exact sum_congr rfl fun x hx => if_pos (mem_range.1 hx)
  | succ n hn ih => rw [sum_range_succ, ih, if_neg (by omega), add_zero]

/-- The lanes of one head of a group of four. -/
theorem sum_head (F : ℕ → ℝ) (h : ℕ) (hh : h < 4) :
    ∑ l : Fin 256, (if l.val / 64 = h then F l.val else 0) = ∑ e ∈ range 64, F (64 * h + e) := by
  rw [← Finset.sum_range (fun l => if l / 64 = h then F l else 0), ← sum_filter]
  refine (sum_bij (fun e _ => 64 * h + e) ?_ ?_ ?_ ?_).symm
  · intro e he; have := mem_range.1 he; simp only [mem_filter, mem_range]; omega
  · intro a ha b hb hab; omega
  · intro l hl; simp only [mem_filter, mem_range] at hl; exact ⟨l - 64 * h, by simp only [mem_range]; omega, by omega⟩
  · intro e he; rfl

/-- The rows of one head of a stack of four. -/
theorem sum_stack (F : ℕ → ℝ) (h : ℕ) (hh : h < 4) :
    ∑ r : Fin 1024, (if h = r.val / 256 then F (r.val % 256) else 0) = ∑ ρ ∈ range 256, F ρ := by
  rw [← Finset.sum_range (fun r => if h = r / 256 then F (r % 256) else 0), ← sum_filter]
  refine (sum_bij (fun e _ => 256 * h + e) ?_ ?_ ?_ ?_).symm
  · intro e he; have := mem_range.1 he; simp only [mem_filter, mem_range]; omega
  · intro a ha b hb hab; omega
  · intro l hl; simp only [mem_filter, mem_range] at hl; exact ⟨l - 256 * h, by simp only [mem_range]; omega, by omega⟩
  · intro e he; have := mem_range.1 he; congr 1; omega

end Sums

section Spec
variable (q k v d : ℕ → ℕ → ℝ)

/-- The logits. -/
def sz (h t s : ℕ) : ℝ := (∑ e ∈ range 64, q t (64 * h + e) * k s (64 * h + e)) / 8
/-- The masked logarithms of one minus beta. -/
def sL (h t s : ℕ) : ℝ := if s < t then LM (sz q k h t s) else 0
/-- The total of a row's `sL`. -/
def sR (h t : ℕ) : ℝ := ∑ x ∈ range 2048, sL q k h t x
/-- The attention weights. -/
def sA (h t s : ℕ) : ℝ :=
  if s < t then Real.exp (LS (sz q k h t s) + ∑ x ∈ range 2048, if s < x then sL q k h t x else 0) else 0
/-- The gradient with respect to the logarithms of the weights. -/
def sE (h t s : ℕ) : ℝ := (∑ e ∈ range 64, d t (64 * h + e) * v s (64 * h + e)) * sA q k h t s
/-- The gradient with respect to the logits. -/
def sZ (h t s : ℕ) : ℝ :=
  if s < t then sE q k v d h t s - Real.exp (LS (sz q k h t s)) * (sE q k v d h t s + ∑ x ∈ range s, sE q k v d h t x) else 0

theorem sZ_zero (h t s : ℕ) (hs : t ≤ s) : sZ q k v d h t s = 0 := if_neg (by omega)
theorem sA_zero (h t s : ℕ) (hs : t ≤ s) : sA q k h t s = 0 := if_neg (by omega)

/-! Tile `j` of row block `i`, for group `g` of four heads. -/
variable (g i j : ℕ)

def Qt : Fin 1024 → Fin 256 → ℝ := stack fun a l => q (256 * i + a.val) (256 * g + l.val) / 8
def Dt : Fin 1024 → Fin 256 → ℝ := stack fun a l => d (256 * i + a.val) (256 * g + l.val)
def Kt : Fin 256 → Fin 256 → ℝ := fun s l => k (256 * j + s.val) (256 * g + l.val)
/-- A row of the stack: its head and its position. -/
def rowL (r : Fin 1024) (s : ℕ) : ℝ := sL q k (4 * g + r.val / 256) (256 * i + r.val % 256) s
def rowE (r : Fin 1024) (s : ℕ) : ℝ := sE q k v d (4 * g + r.val / 256) (256 * i + r.val % 256) s
def Rt : Fin 1024 → ℝ := fun r => sR q k (4 * g + r.val / 256) (256 * i + r.val % 256)
/-- The running sums before tile `j`. -/
def Lt : Fin 1024 → ℝ := fun r => ∑ x ∈ range (256 * j), rowL q k g i r x
def Pt : Fin 1024 → ℝ := fun r => ∑ x ∈ range (256 * j), rowE q k v d g i r x

variable {mk : Fin 1024 → Fin 256 → Bool}

theorem stack_dot (f : ℕ → ℕ → ℝ) (w : ℕ → ℝ) (r : Fin 1024) :
    ∑ l : Fin 256, stack (fun a l => f a.val l.val) r l * w l.val
      = ∑ e ∈ range 64, f (r.val % 256) (64 * (r.val / 256) + e) * w (64 * (r.val / 256) + e) := by
  rw [← sum_head (fun l => f (r.val % 256) l * w l) (r.val / 256) (by omega)]
  refine sum_congr rfl fun l _ => ?_
  unfold stack
  split_ifs <;> simp

theorem tz_eq (r : Fin 1024) (s : Fin 256) :
    tz (Qt q g i) (Kt k g j) r s = sz q k (4 * g + r.val / 256) (256 * i + r.val % 256) (256 * j + s.val) := by
  unfold tz Qt Kt sz
  rw [stack_dot (fun a l => q (256 * i + a) (256 * g + l) / 8) (fun l => k (256 * j + s.val) (256 * g + l)), sum_div]
  refine sum_congr rfl fun e _ => ?_
  rw [show 64 * (4 * g + r.val / 256) + e = 256 * g + (64 * (r.val / 256) + e) by omega]
  ring

theorem tg_eq (r : Fin 1024) (s : Fin 256) :
    ∑ l, Dt d g i r l * Kt v g j s l = ∑ e ∈ range 64, d (256 * i + r.val % 256) (64 * (4 * g + r.val / 256) + e) * v (256 * j + s.val) (64 * (4 * g + r.val / 256) + e) := by
  unfold Dt Kt
  rw [stack_dot (fun a l => d (256 * i + a) (256 * g + l)) (fun l => v (256 * j + s.val) (256 * g + l))]
  refine sum_congr rfl fun e _ => ?_
  rw [show 64 * (4 * g + r.val / 256) + e = 256 * g + (64 * (r.val / 256) + e) by omega]

variable (hmk : ∀ r s, mk r s = decide (256 * j + s.val < 256 * i + r.val % 256))
include hmk

theorem tlm_eq (r : Fin 1024) (s : Fin 256) : tlm (Qt q g i) (Kt k g j) mk r s = rowL q k g i r (256 * j + s.val) := by
  unfold tlm rowL sL
  rw [hmk, tz_eq]
  simp only [decide_eq_true_eq]

theorem tl_eq : tl (Qt q g i) (Lt q k g i j) (Kt k g j) mk = Lt q k g i (j + 1) := by
  funext r
  unfold tl Lt
  simp only [tlm_eq q k g i j hmk]
  rw [show 256 * (j + 1) = 256 * j + 256 by omega, sum_range_add,
    ← Finset.sum_range (fun x => rowL q k g i r (256 * j + x))]

variable (hj : j < 8)
include hj

theorem ta_eq (r : Fin 1024) (s : Fin 256) :
    ta (Qt q g i) (Rt q k g i) (Lt q k g i j) (Kt k g j) mk r s
      = sA q k (4 * g + r.val / 256) (256 * i + r.val % 256) (256 * j + s.val) := by
  unfold ta sA
  rw [hmk, tz_eq, tl_eq q k g i j hmk]
  simp only [decide_eq_true_eq, tlm_eq q k g i j hmk]
  have e1 : ∑ x : Fin 256, rowL q k g i r (256 * j + x.val) * (if s.val < x.val then 1 else 0)
      = ∑ x ∈ range (256 * j + 256), rowL q k g i r x - ∑ x ∈ range (256 * j + s.val + 1), rowL q k g i r x := by
    rw [← sum_gt (rowL q k g i r) (256 * j) s.val 256 s.isLt,
      Finset.sum_range (fun x => if s.val < x then rowL q k g i r (256 * j + x) else 0)]
    refine sum_congr rfl fun x _ => ?_
    split_ifs <;> simp
  have e2 := sum_gt (rowL q k g i r) 0 (256 * j + s.val) 2048 (by omega)
  simp only [zero_add] at e2
  rw [e1]
  unfold rowL at e2
  rw [e2]
  unfold Rt sR Lt rowL
  rw [show 256 * (j + 1) = 256 * j + 256 by omega]
  congr 2
  ring

theorem tde_eq (r : Fin 1024) (s : Fin 256) :
    tde (Qt q g i) (Dt d g i) (Rt q k g i) (Lt q k g i j) (Kt k g j) (Kt v g j) mk r s = rowE q k v d g i r (256 * j + s.val) := by
  unfold tde rowE sE
  rw [ta_eq q k g i j hmk hj, tg_eq]

theorem tp_eq : tp (Qt q g i) (Dt d g i) (Rt q k g i) (Lt q k g i j) (Pt q k v d g i j) (Kt k g j) (Kt v g j) mk = Pt q k v d g i (j + 1) := by
  funext r
  unfold tp Pt
  simp only [tde_eq q k v d g i j hmk hj]
  rw [show 256 * (j + 1) = 256 * j + 256 by omega, sum_range_add,
    ← Finset.sum_range (fun x => rowE q k v d g i r (256 * j + x))]

theorem tdz_eq (r : Fin 1024) (s : Fin 256) :
    tdz (Qt q g i) (Dt d g i) (Rt q k g i) (Lt q k g i j) (Pt q k v d g i j) (Kt k g j) (Kt v g j) mk r s
      = sZ q k v d (4 * g + r.val / 256) (256 * i + r.val % 256) (256 * j + s.val) := by
  unfold tdz sZ
  rw [hmk, tz_eq]
  simp only [decide_eq_true_eq, tde_eq q k v d g i j hmk hj]
  have e1 : ∑ x : Fin 256, rowE q k v d g i r (256 * j + x.val) * (if x.val < s.val then 1 else 0)
      = ∑ x ∈ range (256 * j + s.val), rowE q k v d g i r x - ∑ x ∈ range (256 * j), rowE q k v d g i r x := by
    rw [← sum_lt (rowE q k v d g i r) (256 * j) s.val 256 s.isLt.le,
      Finset.sum_range (fun x => if x < s.val then rowE q k v d g i r (256 * j + x) else 0)]
    refine sum_congr rfl fun x _ => ?_
    split_ifs <;> simp
  rw [e1]
  unfold Pt
  rw [add_sub_cancel]
  rfl

/-- What the tile adds to the gradient of key `s`, column `l`. -/
theorem dk_tile (s l : Fin 256) :
    ∑ r, tdz (Qt q g i) (Dt d g i) (Rt q k g i) (Lt q k g i j) (Pt q k v d g i j) (Kt k g j) (Kt v g j) mk r s * Qt q g i r l
      = ∑ ρ ∈ range 256, sZ q k v d ((256 * g + l.val) / 64) (256 * i + ρ) (256 * j + s.val) * (q (256 * i + ρ) (256 * g + l.val) / 8) := by
  rw [← sum_stack (fun ρ => sZ q k v d ((256 * g + l.val) / 64) (256 * i + ρ) (256 * j + s.val) * (q (256 * i + ρ) (256 * g + l.val) / 8)) (l.val / 64) (by omega)]
  refine sum_congr rfl fun r _ => ?_
  rw [tdz_eq q k v d g i j hmk hj]
  unfold Qt stack
  split_ifs with h
  · rw [show 4 * g + r.val / 256 = (256 * g + l.val) / 64 by omega]
  · rw [mul_zero]

/-- What the tile adds to the gradient of value `s`, column `l`. -/
theorem dv_tile (s l : Fin 256) :
    ∑ r, ta (Qt q g i) (Rt q k g i) (Lt q k g i j) (Kt k g j) mk r s * Dt d g i r l
      = ∑ ρ ∈ range 256, sA q k ((256 * g + l.val) / 64) (256 * i + ρ) (256 * j + s.val) * d (256 * i + ρ) (256 * g + l.val) := by
  rw [← sum_stack (fun ρ => sA q k ((256 * g + l.val) / 64) (256 * i + ρ) (256 * j + s.val) * d (256 * i + ρ) (256 * g + l.val)) (l.val / 64) (by omega)]
  refine sum_congr rfl fun r _ => ?_
  rw [ta_eq q k g i j hmk hj]
  unfold Dt stack
  split_ifs with h
  · rw [show 4 * g + r.val / 256 = (256 * g + l.val) / 64 by omega]
  · rw [mul_zero]

/-- What the tile adds to the gradient of query `a` of the block, column `l`. -/
theorem dq_tile (a l : Fin 256) :
    ∑ s, tdz (Qt q g i) (Dt d g i) (Rt q k g i) (Lt q k g i j) (Pt q k v d g i j) (Kt k g j) (Kt v g j) mk (stk (l.val / 64) (lane_head l) a) s * Kt k g j s l
      = ∑ s ∈ range 256, sZ q k v d ((256 * g + l.val) / 64) (256 * i + a.val) (256 * j + s) * k (256 * j + s) (256 * g + l.val) := by
  rw [Finset.sum_range]
  refine sum_congr rfl fun s _ => ?_
  rw [tdz_eq q k v d g i j hmk hj]
  unfold Kt stk
  simp only
  rw [show 4 * g + (256 * (l.val / 64) + a.val) / 256 = (256 * g + l.val) / 64 by omega, show (256 * (l.val / 64) + a.val) % 256 = a.val by omega]

end Spec

end Cert.KernelIdeal.Sb
-- ==== Proof.Ref.lean ====
module

public import proofs.«01_k».proof.Proof.Spec
public import proofs.«01_k».proof.Proof.Gen.ReferenceIdeal.Read

/-! The reference's stages, over the reals: on finite inputs every stage holds the function of `Spec` it is named
    for, so that the three gradients are the row and column sums of `sZ` and `sA`. -/

@[expose] public section

set_option maxRecDepth 16384

noncomputable section

namespace Cert.ReferenceIdeal.Sb

open Cert.ReferenceIdeal Cert.ReferenceIdeal.Read
open Cert.KernelIdeal.Sb (LS LM coe_sum sz sL sR sA sE sZ)
open Idealize.ShloMosaic Idealize.ShloMosaic.TcCoe
open Idealize.SL Idealize.SL.Sem
open Finset

section Scalars

theorem f0 : (FloatOps.ofBits (F := Ideal) .f32 0x00000000#32 : EReal) = 0 := by
  simp [Ideal.ofBits, Ideal.ieee, -EReal.coe_mul]

theorem f8 : (FloatOps.ofBits (F := Ideal) .f32 0x3E000000#32 : EReal) = ((1 / 8 : ℝ) : EReal) := by
  simp [Ideal.ofBits, Ideal.ieee, -EReal.coe_mul]; norm_num

theorem finf : (FloatOps.ofBits (F := Ideal) .f32 0x7F800000#32 : EReal) = ⊤ := by
  simp [Ideal.ofBits, Ideal.ieee, -EReal.coe_mul]

/-- The softplus of a real. -/
def SP (y : ℝ) : ℝ := max y 0 + Real.log (1 + Real.exp (-|y|))

theorem SP_neg (z : ℝ) : -SP (-z) = LS z := by
  unfold SP LS
  rw [abs_neg]
  have : max (-z) 0 = -min z 0 := by rw [← max_neg_neg, neg_zero]
  rw [this]; ring

theorem SP_pos (z : ℝ) : -SP z = LM z := by
  unfold SP LM LS
  have : max z 0 = z - min z 0 := by have := min_add_max z 0; linarith
  rw [this]; ring

/-- The logistic of `z` and of `-z` add up to one. -/
theorem exp_LS_LM (z : ℝ) : Real.exp (LM z) + Real.exp (LS z) = 1 := by
  have h : Real.exp (LM z) = Real.exp (LS z) * Real.exp (-z) := by rw [← Real.exp_add]; rfl
  have hp : 0 < 1 + Real.exp (-|z|) := by positivity
  have h2 : Real.exp (LS z) * (1 + Real.exp (-z)) = 1 := by
    unfold LS
    rw [Real.exp_sub, Real.exp_log hp, div_mul_eq_mul_div, div_eq_one_iff_eq hp.ne']
    rcases le_total 0 z with hz | hz
    · rw [min_eq_right hz, abs_of_nonneg hz, Real.exp_zero, one_mul]
    · rw [min_eq_left hz, abs_of_nonpos hz, neg_neg, mul_add, mul_one, ← Real.exp_add]; simp [add_comm]
  rw [h]; linarith

theorem cabs (y : ℝ) : max (y : EReal) (-(y : EReal)) = ((|y| : ℝ) : EReal) := by
  rw [← EReal.coe_neg, ← EReal.coe_strictMono.monotone.map_max]; rfl

theorem cmax0 (y : ℝ) : max (y : EReal) 0 = ((max y 0 : ℝ) : EReal) := by
  rw [← EReal.coe_zero, ← EReal.coe_strictMono.monotone.map_max]

/-- The softplus stage on a real. -/
theorem softplus_R (y : ℝ) :
    Scalar.select (FloatOps.cmpf (F := Ideal) (φ := .f32) .une (FloatOps.subf (F := Ideal) (φ := .f32) (y : EReal) (0 : EReal)) (FloatOps.subf (F := Ideal) (φ := .f32) (y : EReal) (0 : EReal)))
      (FloatOps.addf (F := Ideal) (φ := .f32) (y : EReal) (0 : EReal))
      (FloatOps.addf (F := Ideal) (φ := .f32) (FloatOps.maximumf (F := Ideal) (φ := .f32) (y : EReal) (0 : EReal))
        (FloatOps.hostUnary (F := Ideal) (φ := .f32) .log1p (FloatOps.hostUnary (F := Ideal) (φ := .f32) .exp (FloatOps.hostNegf (F := Ideal) (φ := .f32) (FloatOps.hostAbsf (F := Ideal) (φ := .f32) (FloatOps.subf (F := Ideal) (φ := .f32) (y : EReal) (0 : EReal)))))))
      = ((SP y : ℝ) : EReal) := by
  have hs : FloatOps.subf (F := Ideal) (φ := .f32) (y : EReal) (0 : EReal) = (y : EReal) := by
    show (y : EReal) - 0 = y
    simp
  rw [hs]
  have hc : FloatOps.cmpf (F := Ideal) (φ := .f32) .une (y : EReal) (y : EReal) = 0#1 := by
    show Ideal.cmp .une (y : EReal) (y : EReal) = 0#1
    simp [Ideal.cmp]
  rw [hc]
  show (max (y : EReal) 0) + Ideal.log1p (Ideal.exp (-(max (y : EReal) (-(y : EReal))))) = _
  have hp : ¬ (1 + Real.exp (-|y|) ≤ 0) := not_le.2 (by positivity)
  rw [cabs, cmax0, ← EReal.coe_neg, Ideal.exp_coe]
  show _ + Ideal.log (1 + ((Real.exp (-|y|) : ℝ) : EReal)) = _
  rw [← EReal.coe_one, ← EReal.coe_add, Ideal.log_coe, if_neg hp, ← EReal.coe_add]
  rfl

/-- A real is not infinite, so the comparison of one with infinity chooses the real. -/
theorem sel_inf (y : ℝ) (w : EReal) :
    Scalar.select (FloatOps.cmpf (F := Ideal) (φ := .f32) .oeq (y : EReal) (⊤ : EReal)) w (y : EReal) = (y : EReal) := by
  have hc : FloatOps.cmpf (F := Ideal) (φ := .f32) .oeq (y : EReal) (⊤ : EReal) = 0#1 := by
    show Ideal.cmp .oeq (y : EReal) (⊤ : EReal) = 0#1
    simp [Ideal.cmp]
  rw [hc]; rfl

theorem mask_sel (s t : Fin 2048) (x y : EReal) :
    Scalar.select (IntOp.cmpi .slt (BitVec.ofNat 32 s.val) (BitVec.ofNat 32 t.val)) x y = if s.val < t.val then x else y := by
  have h1 := s.isLt
  have h2 := t.isLt
  have hi : (BitVec.ofNat 32 s.val).slt (BitVec.ofNat 32 t.val) = decide (s.val < t.val) := by
    have e1 : (BitVec.ofNat 32 s.val).toInt = s.val := by
      rw [BitVec.toInt_eq_toNat_of_lt (by simp; omega)]; simp; omega
    have e2 : (BitVec.ofNat 32 t.val).toInt = t.val := by
      rw [BitVec.toInt_eq_toNat_of_lt (by simp; omega)]; simp; omega
    rw [BitVec.slt, e1, e2]; simp
  simp only [IntOp.cmpi, hi]
  by_cases h : s.val < t.val <;> simp [h, Scalar.select]

theorem coe_ite (p : Prop) [Decidable p] (x y : ℝ) : ((if p then x else y : ℝ) : EReal) = if p then (x : EReal) else (y : EReal) := by
  split <;> rfl

end Scalars

section Windows

theorem foldl_sum {n : ℕ} (g : Fin n → EReal) (v : EReal) :
    (List.finRange n).foldl (fun r k => r + g k) v = v + ∑ k, g k := by
  rw [← List.sum_ofFn, List.ofFn_eq_map]
  generalize List.finRange n = l
  induction l generalizing v with
  | nil => simp
  | cons a l ih => rw [List.foldl_cons, ih, List.map_cons, List.sum_cons, add_assoc]

/-- The positions of a window that is one wide on the first three axes. -/
def rowPos (W : ℕ) : Fin W ≃ (⟨4, ![1, 1, 1, W]⟩ : Shape).Idx where
  toFun k := fun a => match a with
    | ⟨0, _⟩ => ⟨0, Nat.zero_lt_one⟩
    | ⟨1, _⟩ => ⟨0, Nat.zero_lt_one⟩
    | ⟨2, _⟩ => ⟨0, Nat.zero_lt_one⟩
    | ⟨3, _⟩ => ⟨k.val, k.isLt⟩
  invFun w := ⟨(w 3).val, (w 3).isLt⟩
  left_inv k := rfl
  right_inv w := by
    funext a
    apply Fin.ext
    match a with
    | ⟨0, _⟩ => have h : (w 0).val < 1 := (w 0).isLt; show 0 = (w 0).val; omega
    | ⟨1, _⟩ => have h : (w 1).val < 1 := (w 1).isLt; show 0 = (w 1).val; omega
    | ⟨2, _⟩ => have h : (w 2).val < 1 := (w 2).isLt; show 0 = (w 2).val; omega
    | ⟨3, _⟩ => rfl

/-- The four-dimensional vector `x` holds the reals `f`. -/
def R4 {a b c d : ℕ} (x : FVec Ideal ⟨4, ![a, b, c, d]⟩ .f32) (f : ℕ → ℕ → ℕ → ℕ → ℝ) : Prop :=
  ∀ i, x i = ((f (i 0).val (i 1).val (i 2).val (i 3).val : ℝ) : EReal)

/-- Sums over windows of the last axis, padded with nothing. -/
theorem window_R {n0 n1 n2 N W L H : ℕ} (x : FVec Ideal ⟨4, ![n0, n1, n2, N]⟩ .f32) (f : ℕ → ℕ → ℕ → ℕ → ℝ) (h : R4 x f)
    (init : FVec Ideal ⟨0, ![]⟩ .f32) (hi : ∀ j, init j = (0 : EReal))
    (hw : Shape.ReduceWindows ⟨4, ![n0, n1, n2, N]⟩ ![1, 1, 1, W] ![1, 1, 1, 1] ![0, 0, 0, L] ![0, 0, 0, H] ⟨4, ![n0, n1, n2, N]⟩)
    (h0 : 0 < (⟨0, ![]⟩ : Shape).numel) :
    R4 (Host.reduceWindowAdd (F := Ideal) (φ := .f32) ![1, 1, 1, W] ![1, 1, 1, 1] ![0, 0, 0, L] ![0, 0, 0, H] x init hw h0)
      (fun b c t s => ∑ k ∈ range W, if L ≤ s + k ∧ s + k - L < N then f b c t (s + k - L) else 0) := by
  intro j
  show Host.reduceWindow (· + ·) ![1, 1, 1, W] ![1, 1, 1, 1] ![0, 0, 0, L] ![0, 0, 0, H] x
    (fun _ : (⟨0, ![]⟩ : Shape).Idx => init (Shape.Idx.first h0)) hw h0 j = _
  rw [hi]
  unfold Host.reduceWindow
  refine (foldl_sum _ _).trans ?_
  rw [zero_add]
  beta_reduce
  refine Eq.trans (Finset.sum_congr rfl fun n _ => ?_) ((Equiv.sum_comp (Shape.rowMajor (⟨4, ![1, 1, 1, W]⟩ : Shape)).symm (fun w : (⟨4, ![1, 1, 1, W]⟩ : Shape).Idx =>
    (if hin : ∀ a : Fin 4, (![0, 0, 0, L] : Fin 4 → ℕ) a ≤ (j a).val * (![1, 1, 1, 1] : Fin 4 → ℕ) a + (w a).val ∧
      (j a).val * (![1, 1, 1, 1] : Fin 4 → ℕ) a + (w a).val - (![0, 0, 0, L] : Fin 4 → ℕ) a < (⟨4, ![n0, n1, n2, N]⟩ : Shape).size a then
      x (fun a => ⟨(j a).val * (![1, 1, 1, 1] : Fin 4 → ℕ) a + (w a).val - (![0, 0, 0, L] : Fin 4 → ℕ) a, (hin a).2⟩) else (0 : EReal)))).trans ?_)
  · congr
  rw [← Equiv.sum_comp (rowPos W), Finset.sum_range, coe_sum]
  refine Finset.sum_congr rfl fun k _ => ?_
  have j0 : (j 0).val < n0 := (j 0).isLt
  have j1 : (j 1).val < n1 := (j 1).isLt
  have j2 : (j 2).val < n2 := (j 2).isLt
  have j3 : (j 3).val < N := (j 3).isLt
  by_cases hk : L ≤ (j 3).val + k.val ∧ (j 3).val + k.val - L < N
  · rw [if_pos hk, dif_pos]
    · rw [h]
      congr 1
      show f ((j 0).val * 1 + 0 - 0) ((j 1).val * 1 + 0 - 0) ((j 2).val * 1 + 0 - 0) ((j 3).val * 1 + k.val - L) = _
      congr 1 <;> omega
    · intro a
      match a with
      | ⟨0, _⟩ => show 0 ≤ (j 0).val * 1 + 0 ∧ (j 0).val * 1 + 0 - 0 < n0; omega
      | ⟨1, _⟩ => show 0 ≤ (j 1).val * 1 + 0 ∧ (j 1).val * 1 + 0 - 0 < n1; omega
      | ⟨2, _⟩ => show 0 ≤ (j 2).val * 1 + 0 ∧ (j 2).val * 1 + 0 - 0 < n2; omega
      | ⟨3, _⟩ => show L ≤ (j 3).val * 1 + k.val ∧ (j 3).val * 1 + k.val - L < N; omega
  · rw [if_neg hk, dif_neg]
    · rfl
    · intro hin
      have : L ≤ (j 3).val * 1 + k.val ∧ (j 3).val * 1 + k.val - L < N := hin 3
      omega

/-- The sum over a window that reaches to the end, less its first element, is the sum over what lies beyond. -/
theorem suffix_sum (g : ℕ → ℝ) (s : ℕ) (hs : s < 2048) :
    (∑ k ∈ range 2048, if 0 ≤ s + k ∧ s + k - 0 < 2048 then g (s + k - 0) else 0) - g s = ∑ x ∈ range 2048, if s < x then g x else 0 := by
  have e : (∑ k ∈ range 2048, if 0 ≤ s + k ∧ s + k - 0 < 2048 then g (s + k - 0) else 0) = ∑ x ∈ range 2048, if s ≤ x then g x else 0 := by
    rw [← sum_filter, ← sum_filter]
    refine sum_bij (fun k _ => s + k) ?_ ?_ ?_ ?_
    · intro k hk; simp only [mem_filter, mem_range] at hk ⊢; omega
    · intro a _ b _ h; omega
    · intro x hx; simp only [mem_filter, mem_range] at hx; exact ⟨x - s, by simp only [mem_filter, mem_range]; omega, by omega⟩
    · intro k _; rfl
  rw [e]
  have e2 : ∀ x ∈ range 2048, (if s ≤ x then g x else 0) = (if s < x then g x else 0) + if x = s then g x else 0 := by
    intro x _
    by_cases h : x = s
    · subst h; simp
    · by_cases h2 : s ≤ x
      · rw [if_pos h2, if_pos (by omega), if_neg h, add_zero]
      · rw [if_neg h2, if_neg (by omega), if_neg h, add_zero]
  rw [sum_congr rfl e2, sum_add_distrib, sum_ite_eq' (range 2048) s, if_pos (mem_range.2 hs), add_sub_cancel_right]

/-- The sum over a window that starts at the beginning, less its last element, is the sum over what lies before. -/
theorem prefix_sum (g : ℕ → ℝ) (s : ℕ) (hs : s < 2048) :
    -g s + (∑ k ∈ range 2048, if 2047 ≤ s + k ∧ s + k - 2047 < 2048 then g (s + k - 2047) else 0) = ∑ x ∈ range s, g x := by
  have e : (∑ k ∈ range 2048, if 2047 ≤ s + k ∧ s + k - 2047 < 2048 then g (s + k - 2047) else 0) = ∑ x ∈ range (s + 1), g x := by
    rw [← sum_filter]
    refine sum_bij (fun k _ => s + k - 2047) ?_ ?_ ?_ ?_
    · intro k hk; simp only [mem_filter, mem_range] at hk ⊢; omega
    · intro a ha b hb h; simp only [mem_filter, mem_range] at ha hb; omega
    · intro x hx; simp only [mem_range] at hx; exact ⟨x + 2047 - s, by simp only [mem_filter, mem_range]; omega, by omega⟩
    · intro k _; rfl
  rw [e, sum_range_succ]; ring

end Windows

end Cert.ReferenceIdeal.Sb
-- ==== Proof.RefGrad.lean ====
module

public import proofs.«01_k».proof.Proof.Ref

/-! The reference's three gradients over the reals, stage by stage. -/

@[expose] public section

set_option maxRecDepth 16384

noncomputable section

namespace Cert.ReferenceIdeal.Sb

open Cert.ReferenceIdeal Cert.ReferenceIdeal.Gen Cert.ReferenceIdeal.Read
open Cert.KernelIdeal.Sb (LS LM coe_sum sz sL sR sA sE sZ)
open Idealize.ShloMosaic Idealize.ShloMosaic.TcCoe
open Idealize.SL Idealize.SL.Sem
open Finset

/-- The rows of sequence `b`. -/
def bt (q : ℕ → ℕ → ℝ) (b : ℕ) : ℕ → ℕ → ℝ := fun t c => q (2048 * b + t) c

variable {x0 : (⟨S4096x5888, .bf16⟩ : BufTy).Contents (Elt Ideal)} {x1 : (⟨S4096x512, .bf16⟩ : BufTy).Contents (Elt Ideal)}
  {q k v d : ℕ → ℕ → ℝ}

section Keys
variable (hq : ∀ i, val_main_v0 (F := Ideal) x0 i = ((q (i 0).val (i 1).val : ℝ) : EReal))
  (hk : ∀ i, val_main_v3 (F := Ideal) x0 i = ((k (i 0).val (i 1).val : ℝ) : EReal))
include hq hk

omit hk in
theorem v2_R : R4 (val_main_v2 (F := Ideal) x0) (fun b t h e => bt q b t (64 * h + e)) := by
  intro i
  rw [val_main_v2_apply, val_main_v1_apply]
  refine (hq _).trans ?_
  have h0 : (i 0).val < 2 := (i 0).isLt
  have h1 : (i 1).val < 2048 := (i 1).isLt
  have h2 : (i 2).val < 8 := (i 2).isLt
  have h3 : (i 3).val < 64 := (i 3).isLt
  congr 1
  unfold bt
  show q _ _ = _
  congr 1 <;> dsimp only [idx_main_v2] <;> omega

omit hq in
theorem v5_R : R4 (val_main_v5 (F := Ideal) x0) (fun b t h e => bt k b t (64 * h + e)) := by
  intro i
  rw [val_main_v5_apply, val_main_v4_apply]
  refine (hk _).trans ?_
  have h0 : (i 0).val < 2 := (i 0).isLt
  have h1 : (i 1).val < 2048 := (i 1).isLt
  have h2 : (i 2).val < 8 := (i 2).isLt
  have h3 : (i 3).val < 64 := (i 3).isLt
  congr 1
  unfold bt
  show k _ _ = _
  congr 1 <;> dsimp only [idx_main_v5] <;> omega

theorem v13_R : R4 (val_main_v13 (F := Ideal) x0) (fun b h t s => sz (bt q b) (bt k b) h t s) := by
  intro i
  rw [val_main_v13_apply, val_main_v12_apply, val_main_cst_apply, f8, val_main_v11_apply]
  have e : ∀ e : Fin 64, val_main_v2 (F := Ideal) x0 (lidx_main_v11 i e) * val_main_v5 (F := Ideal) x0 (ridx_main_v11 i e)
      = ((bt q (i 0).val (i 2).val (64 * (i 1).val + e.val) * bt k (i 0).val (i 3).val (64 * (i 1).val + e.val) : ℝ) : EReal) := by
    intro e
    rw [v2_R hq, v5_R hk, EReal.coe_mul]
  rw [Finset.sum_congr rfl fun e' _ => e e', ← coe_sum]
  show ((_ : ℝ) : EReal) * ((1 / 8 : ℝ) : EReal) = _
  rw [← EReal.coe_mul]
  congr 1
  unfold sz
  beta_reduce
  rw [Finset.sum_range]
  ring

theorem call0_v0_R : R4 (val_main_call0_v0 (F := Ideal) x0) (fun b h t s => sz (bt q b) (bt k b) h t s) := by
  intro i
  rw [val_main_call0_v0_apply, val_main_v21_apply]
  have := v13_R hq hk i
  rw [this]
  show -(-((_ : ℝ) : EReal)) = _
  rw [neg_neg]

theorem sp_R : R4 (val_main_call0_v1_0 (F := Ideal) x0) (fun b h t s => SP (sz (bt q b) (bt k b) h t s)) := by
  intro i
  rw [val_main_call0_v1_0_apply, val_main_call0_call0_v4_apply, val_main_call0_call0_v6_apply, val_main_call0_call0_v11_apply,
    val_main_call0_call0_v1_apply, val_main_call0_call0_v10_apply, val_main_call0_call0_v9_apply, val_main_call0_call0_v8_apply,
    val_main_call0_call0_v7_apply, val_main_call0_call0_v3_apply, val_main_call0_call0_v0_apply, val_main_call0_call0_v2_apply,
    val_main_call0_call0_v5_apply]
  simp only [val_main_call0_call0_cst_apply, f0]
  rw [call0_v0_R hq hk i]
  exact softplus_R _

theorem v22_0_R : R4 (val_main_v22_0 (F := Ideal) x0) (fun b h t s => LM (sz (bt q b) (bt k b) h t s)) := by
  intro i
  rw [val_main_v22_0_apply, sp_R hq hk i]
  show -((_ : ℝ) : EReal) = _
  rw [← EReal.coe_neg]
  exact congrArg _ (SP_pos _)

theorem v22_1_R : R4 (val_main_v22_1 (F := Ideal) x0) (fun b h t s => Real.exp (LS (sz (bt q b) (bt k b) h t s))) := by
  intro i
  rw [val_main_v22_1_apply, val_main_call0_call0_v21_apply, val_main_call0_call0_v16_apply, val_main_call0_call0_v20_apply,
    val_main_call0_call0_v14_apply, val_main_call0_call0_v18_apply, val_main_call0_call0_v13_apply, val_main_call0_call0_v17_apply,
    val_main_call0_call0_cst_0_apply, val_main_call0_call0_cst_2_apply, finf, sp_R hq hk i, call0_v0_R hq hk i, sel_inf, sel_inf]
  show Ideal.exp (((_ : ℝ) : EReal) - ((_ : ℝ) : EReal)) = _
  rw [← EReal.coe_sub, Ideal.exp_coe]
  congr 2
  have := SP_pos (sz (bt q (i 0).val) (bt k (i 0).val) (i 1).val (i 2).val (i 3).val)
  unfold LM at this
  linarith

theorem call3_v0_R : R4 (val_main_call3_v0 (F := Ideal) x0) (fun b h t s => -sz (bt q b) (bt k b) h t s) := by
  intro i
  rw [val_main_call3_v0_apply, v13_R hq hk i]
  rfl

theorem spn_R : R4 (val_main_call3_v1_0 (F := Ideal) x0) (fun b h t s => SP (-sz (bt q b) (bt k b) h t s)) := by
  intro i
  rw [val_main_call3_v1_0_apply, val_main_call3_call0_v4_apply, val_main_call3_call0_v6_apply, val_main_call3_call0_v11_apply,
    val_main_call3_call0_v1_apply, val_main_call3_call0_v10_apply, val_main_call3_call0_v9_apply, val_main_call3_call0_v8_apply,
    val_main_call3_call0_v7_apply, val_main_call3_call0_v3_apply, val_main_call3_call0_v0_apply, val_main_call3_call0_v2_apply,
    val_main_call3_call0_v5_apply]
  simp only [val_main_call3_call0_cst_apply, f0]
  rw [call3_v0_R hq hk i]
  exact softplus_R _

theorem v26_0_R : R4 (val_main_v26_0 (F := Ideal) x0) (fun b h t s => LS (sz (bt q b) (bt k b) h t s)) := by
  intro i
  rw [val_main_v26_0_apply, spn_R hq hk i]
  show -((_ : ℝ) : EReal) = _
  rw [← EReal.coe_neg]
  exact congrArg _ (SP_neg _)

theorem v26_1_R : R4 (val_main_v26_1 (F := Ideal) x0) (fun b h t s => Real.exp (LM (sz (bt q b) (bt k b) h t s))) := by
  intro i
  rw [val_main_v26_1_apply, val_main_call3_call0_v21_apply, val_main_call3_call0_v16_apply, val_main_call3_call0_v20_apply,
    val_main_call3_call0_v14_apply, val_main_call3_call0_v18_apply, val_main_call3_call0_v13_apply, val_main_call3_call0_v17_apply,
    val_main_call3_call0_cst_0_apply, val_main_call3_call0_cst_2_apply, finf, spn_R hq hk i, call3_v0_R hq hk i, sel_inf, sel_inf]
  show Ideal.exp (((_ : ℝ) : EReal) - ((_ : ℝ) : EReal)) = _
  rw [← EReal.coe_sub, Ideal.exp_coe]
  congr 2
  have := SP_neg (sz (bt q (i 0).val) (bt k (i 0).val) (i 1).val (i 2).val (i 3).val)
  unfold LM
  linarith

omit hq hk in
theorem mask23 (i : S2x8x2048x2048.Idx) (x y : EReal) :
    Scalar.select (val_main_v23_1 (F := Ideal) i) x y = if (i 3).val < (i 2).val then x else y := by
  rw [val_main_v23_1_apply, val_main_v20_apply, val_main_v18_apply, val_main_v15_apply, val_main_v14_apply,
    val_main_v19_apply, val_main_v17_apply, val_main_v16_apply]
  exact mask_sel ⟨(i 3).val, (i 3).isLt⟩ ⟨(i 2).val, (i 2).isLt⟩ x y

omit hq hk in
theorem mask29 (i : S2x8x2048x2048.Idx) (x y : EReal) :
    Scalar.select (val_main_v29_1 (F := Ideal) i) x y = if (i 3).val < (i 2).val then x else y := by
  rw [val_main_v29_1_apply, val_main_v20_apply, val_main_v18_apply, val_main_v15_apply, val_main_v14_apply,
    val_main_v19_apply, val_main_v17_apply, val_main_v16_apply]
  exact mask_sel ⟨(i 3).val, (i 3).isLt⟩ ⟨(i 2).val, (i 2).isLt⟩ x y

theorem v23_0_R : R4 (val_main_v23_0 (F := Ideal) x0) (fun b h t s => sL (bt q b) (bt k b) h t s) := by
  intro i
  rw [val_main_v23_0_apply, mask23, v22_0_R hq hk i, val_main_call1_v2_apply, val_main_call1_v0_apply, val_main_cst_0_apply]
  unfold sL
  rw [coe_ite]
  congr 1
  exact f0

theorem v25_R : R4 (val_main_v25 (F := Ideal) x0)
    (fun b h t s => ∑ x ∈ range 2048, if s < x then sL (bt q b) (bt k b) h t x else 0) := by
  intro i
  have h3 : (i 3).val < 2048 := (i 3).isLt
  rw [val_main_v25_apply, v23_0_R hq hk i]
  have e := window_R (n0 := 2) (n1 := 8) (n2 := 2048) (N := 2048) (W := 2048) (L := 0) (H := 2047) _ _ (v23_0_R hq hk) (val_main_call2_v0 (F := Ideal))
    (fun j => by rw [val_main_call2_v0_apply, val_main_call2_cst_apply]; exact f0)
    reduceWindows_S2x8x2048x2048_S2x8x2048x2048_w1s1p0_0_w1s1p0_0_w1s1p0_0_w2048s1p0_2047 h_S_ i
  unfold val_main_v24
  rw [e]
  show ((_ : ℝ) : EReal) - ((_ : ℝ) : EReal) = _
  rw [← EReal.coe_sub]
  refine congrArg Real.toEReal ?_
  beta_reduce
  exact suffix_sum (fun s => sL (bt q (i 0).val) (bt k (i 0).val) (i 1).val (i 2).val s) (i 3).val h3

theorem v28_R : R4 (val_main_v28 (F := Ideal) x0) (fun b h t s => Real.exp (LS (sz (bt q b) (bt k b) h t s)
    + ∑ x ∈ range 2048, if s < x then sL (bt q b) (bt k b) h t x else 0)) := by
  intro i
  rw [val_main_v28_apply, val_main_v27_apply, v26_0_R hq hk i, v25_R hq hk i]
  show Ideal.exp (((_ : ℝ) : EReal) + ((_ : ℝ) : EReal)) = _
  rw [← EReal.coe_add, Ideal.exp_coe]

theorem v29_R : R4 (val_main_v29_0 (F := Ideal) x0) (fun b h t s => sA (bt q b) (bt k b) h t s) := by
  intro i
  rw [val_main_v29_0_apply, mask29, v28_R hq hk i, val_main_call4_v2_apply, val_main_call4_v0_apply, val_main_cst_1_apply]
  unfold sA
  rw [coe_ite]
  congr 1
  exact f0

section Values
variable (hv : ∀ i, val_main_v6 (F := Ideal) x0 i = ((v (i 0).val (i 1).val : ℝ) : EReal))
  (hd : ∀ i, x1 i = ((d (i 0).val (i 1).val : ℝ) : EReal))
include hv hd

omit hq hk hd in
theorem v8_R : R4 (val_main_v8 (F := Ideal) x0) (fun b t h e => bt v b t (64 * h + e)) := by
  intro i
  rw [val_main_v8_apply, val_main_v7_apply]
  refine (hv _).trans ?_
  have h0 : (i 0).val < 2 := (i 0).isLt
  have h1 : (i 1).val < 2048 := (i 1).isLt
  have h2 : (i 2).val < 8 := (i 2).isLt
  have h3 : (i 3).val < 64 := (i 3).isLt
  congr 1
  unfold bt
  show v _ _ = _
  congr 1 <;> dsimp only [idx_main_v8] <;> omega

omit hq hk hv in
theorem v34_R : R4 (val_main_v34 (F := Ideal) x1) (fun b h e t => bt d b t (64 * h + e)) := by
  intro i
  rw [val_main_v34_apply, val_main_v33_apply, val_main_v10_apply, val_main_v9_apply]
  refine (hd _).trans ?_
  have h0 : (i 0).val < 2 := (i 0).isLt
  have h1 : (i 1).val < 8 := (i 1).isLt
  have h2 : (i 2).val < 64 := (i 2).isLt
  have h3 : (i 3).val < 2048 := (i 3).isLt
  congr 1
  unfold bt
  show d _ _ = _
  congr 1 <;> dsimp only [idx_main_v34, idx_main_v33, idx_main_v10] <;> omega

omit hq hk in
theorem v35_R : R4 (val_main_v35 (F := Ideal) x0 x1)
    (fun b h t s => ∑ e ∈ range 64, bt d b t (64 * h + e) * bt v b s (64 * h + e)) := by
  intro i
  rw [val_main_v35_apply]
  have e : ∀ e : Fin 64, val_main_v34 (F := Ideal) x1 (lidx_main_v35 i e) * val_main_v8 (F := Ideal) x0 (ridx_main_v35 i e)
      = ((bt d (i 0).val (i 2).val (64 * (i 1).val + e.val) * bt v (i 0).val (i 3).val (64 * (i 1).val + e.val) : ℝ) : EReal) := by
    intro e
    rw [v34_R hd, v8_R hv, EReal.coe_mul]
  rw [Finset.sum_congr rfl fun e' _ => e e', ← coe_sum]
  beta_reduce
  rw [Finset.sum_range]

theorem v39_R : R4 (val_main_v39 (F := Ideal) x0 x1) (fun b h t s => sE (bt q b) (bt k b) (bt v b) (bt d b) h t s) := by
  intro i
  rw [val_main_v39_apply, val_main_v38_apply, mask29, v35_R hv hd i, v28_R hq hk i, val_main_call5_v0_apply, val_main_call5_cst_apply]
  unfold sE sA
  by_cases h : (i 3).val < (i 2).val
  · rw [if_pos h]
    beta_reduce
    rw [if_pos h]
    exact (EReal.coe_mul _ _).symm
  · rw [if_neg h]
    beta_reduce
    rw [if_neg h, f0, mul_zero]
    exact zero_mul _

theorem v43_R : R4 (val_main_v43 (F := Ideal) x0 x1)
    (fun b h t s => ∑ x ∈ range s, sE (bt q b) (bt k b) (bt v b) (bt d b) h t x) := by
  intro i
  have h3 : (i 3).val < 2048 := (i 3).isLt
  rw [val_main_v43_apply, val_main_v41_apply, v39_R hq hk hv hd i]
  have e := window_R (n0 := 2) (n1 := 8) (n2 := 2048) (N := 2048) (W := 2048) (L := 2047) (H := 0) _ _ (v39_R hq hk hv hd) (val_main_call7_v0 (F := Ideal))
    (fun j => by rw [val_main_call7_v0_apply, val_main_call7_cst_apply]; exact f0)
    reduceWindows_S2x8x2048x2048_S2x8x2048x2048_w1s1p0_0_w1s1p0_0_w1s1p0_0_w2048s1p2047_0 h_S_ i
  unfold val_main_v42
  rw [e]
  show -((_ : ℝ) : EReal) + ((_ : ℝ) : EReal) = _
  rw [← EReal.coe_neg, ← EReal.coe_add]
  refine congrArg Real.toEReal ?_
  beta_reduce
  exact prefix_sum (fun s => sE (bt q (i 0).val) (bt k (i 0).val) (bt v (i 0).val) (bt d (i 0).val) (i 1).val (i 2).val s) (i 3).val h3

theorem v47_R : R4 (val_main_v47 (F := Ideal) x0 x1) (fun b h t s => sZ (bt q b) (bt k b) (bt v b) (bt d b) h t s) := by
  intro i
  rw [val_main_v47_apply, val_main_v40_apply, val_main_call6_v1_apply, val_main_call6_v0_apply, v39_R hq hk hv hd i, v26_1_R hq hk i,
    val_main_v46_apply, val_main_v45_apply, val_main_call9_v1_apply, val_main_call9_v0_apply, val_main_v44_apply, mask23,
    v43_R hq hk hv hd i, v22_1_R hq hk i, val_main_call8_v0_apply, val_main_call8_cst_apply, f0]
  unfold sZ
  have hz : ¬ (i 3).val < (i 2).val → sE (bt q (i 0).val) (bt k (i 0).val) (bt v (i 0).val) (bt d (i 0).val) (i 1).val (i 2).val (i 3).val = 0 := by
    intro h; unfold sE sA; rw [if_neg h, mul_zero]
  have ex := exp_LS_LM (sz (bt q (i 0).val) (bt k (i 0).val) (i 1).val (i 2).val (i 3).val)
  show -((-((_ : ℝ) : EReal)) * ((_ : ℝ) : EReal)) + -(-((-(if _ then ((_ : ℝ) : EReal) else (0 : EReal))) * ((_ : ℝ) : EReal))) = _
  by_cases h : (i 3).val < (i 2).val
  · rw [if_pos h]
    beta_reduce
    rw [if_pos h, ← EReal.coe_neg, ← EReal.coe_mul, ← EReal.coe_neg, ← EReal.coe_neg, ← EReal.coe_mul, ← EReal.coe_neg,
      ← EReal.coe_neg, ← EReal.coe_add]
    congr 1
    rw [show Real.exp (LM (sz (bt q (i 0).val) (bt k (i 0).val) (i 1).val (i 2).val (i 3).val))
      = 1 - Real.exp (LS (sz (bt q (i 0).val) (bt k (i 0).val) (i 1).val (i 2).val (i 3).val)) by linarith]
    ring
  · rw [if_neg h]
    beta_reduce
    rw [if_neg h, hz h]
    simp

theorem v49_R : R4 (val_main_v49 (F := Ideal) x0 x1) (fun b h t s => sZ (bt q b) (bt k b) (bt v b) (bt d b) h t s / 8) := by
  intro i
  rw [val_main_v49_apply, v47_R hq hk hv hd i, val_main_v48_apply, val_main_cst_2_apply, f8]
  show ((_ : ℝ) : EReal) * ((_ : ℝ) : EReal) = _
  rw [← EReal.coe_mul]
  congr 1
  ring

/-- The gradient with respect to the queries. -/
theorem v55_R (i : S4096x512.Idx) : val_main_v55 (F := Ideal) x0 x1 i
    = (((∑ s ∈ range 2048, sZ (bt q ((i 0).val / 2048)) (bt k ((i 0).val / 2048)) (bt v ((i 0).val / 2048)) (bt d ((i 0).val / 2048)) ((i 1).val / 64) ((i 0).val % 2048) s
        * bt k ((i 0).val / 2048) s (i 1).val) / 8 : ℝ) : EReal) := by
  have h0 : (i 0).val < 4096 := (i 0).isLt
  have h1 : (i 1).val < 512 := (i 1).isLt
  rw [val_main_v55_apply, val_main_v54_apply, val_main_v53_apply, val_main_v52_apply]
  show (∑ s : Fin 2048, _ : EReal) = _
  have e : ∀ s : Fin 2048, val_main_v49 (F := Ideal) x0 x1 (lidx_main_v52 (idx_main_v53 (idx_main_v54 i)) s) * val_main_v5 (F := Ideal) x0 (ridx_main_v52 (idx_main_v53 (idx_main_v54 i)) s)
      = ((sZ (bt q ((i 0).val / 2048)) (bt k ((i 0).val / 2048)) (bt v ((i 0).val / 2048)) (bt d ((i 0).val / 2048)) ((i 1).val / 64) ((i 0).val % 2048) s.val / 8
        * bt k ((i 0).val / 2048) s.val (i 1).val : ℝ) : EReal) := by
    intro s
    rw [v49_R hq hk hv hd, v5_R hk, ← EReal.coe_mul]
    congr 1
    dsimp only [lidx_main_v52, ridx_main_v52, idx_main_v53, idx_main_v54]
    rw [show ((i 0).val * 512 + (i 1).val) / 1048576 = (i 0).val / 2048 by omega,
      show ((i 0).val * 512 + (i 1).val) / 512 % 2048 = (i 0).val % 2048 by omega,
      show ((i 0).val * 512 + (i 1).val) / 64 % 8 = (i 1).val / 64 by omega,
      show 64 * ((i 1).val / 64) + ((i 0).val * 512 + (i 1).val) % 64 = (i 1).val by omega]
  rw [Finset.sum_congr rfl fun s _ => e s, ← coe_sum, Finset.sum_range, Finset.sum_div]
  congr 1
  exact Finset.sum_congr rfl fun s _ => by ring

/-- The gradient with respect to the keys. -/
theorem v56_R (i : S4096x512.Idx) : val_main_v56 (F := Ideal) x0 x1 i
    = ((∑ t ∈ range 2048, sZ (bt q ((i 0).val / 2048)) (bt k ((i 0).val / 2048)) (bt v ((i 0).val / 2048)) (bt d ((i 0).val / 2048)) ((i 1).val / 64) t ((i 0).val % 2048)
        * (bt q ((i 0).val / 2048) t (i 1).val / 8) : ℝ) : EReal) := by
  have h0 : (i 0).val < 4096 := (i 0).isLt
  have h1 : (i 1).val < 512 := (i 1).isLt
  rw [val_main_v56_apply, val_main_v51_apply, val_main_v50_apply]
  have e : ∀ t : Fin 2048, val_main_v49 (F := Ideal) x0 x1 (lidx_main_v50 (idx_main_v51 (idx_main_v56 i)) t) * val_main_v2 (F := Ideal) x0 (ridx_main_v50 (idx_main_v51 (idx_main_v56 i)) t)
      = ((sZ (bt q ((i 0).val / 2048)) (bt k ((i 0).val / 2048)) (bt v ((i 0).val / 2048)) (bt d ((i 0).val / 2048)) ((i 1).val / 64) t.val ((i 0).val % 2048)
        * (bt q ((i 0).val / 2048) t.val (i 1).val / 8) : ℝ) : EReal) := by
    intro t
    rw [v49_R hq hk hv hd, v2_R hq, ← EReal.coe_mul]
    congr 1
    dsimp only [lidx_main_v50, ridx_main_v50, idx_main_v51, idx_main_v56]
    rw [show ((i 0).val * 512 + (i 1).val) / 1048576 = (i 0).val / 2048 by omega,
      show ((i 0).val * 512 + (i 1).val) / 512 % 2048 = (i 0).val % 2048 by omega,
      show ((i 0).val * 512 + (i 1).val) / 64 % 8 = (i 1).val / 64 by omega,
      show 64 * ((i 1).val / 64) + ((i 0).val * 512 + (i 1).val) % 64 = (i 1).val by omega]
    ring
  rw [Finset.sum_congr rfl fun s _ => e s, ← coe_sum, Finset.sum_range]

/-- The gradient with respect to the values. -/
theorem v57_R (i : S4096x512.Idx) : val_main_v57 (F := Ideal) x0 x1 i
    = ((∑ t ∈ range 2048, sA (bt q ((i 0).val / 2048)) (bt k ((i 0).val / 2048)) ((i 1).val / 64) t ((i 0).val % 2048)
        * bt d ((i 0).val / 2048) t (i 1).val : ℝ) : EReal) := by
  have h0 : (i 0).val < 4096 := (i 0).isLt
  have h1 : (i 1).val < 512 := (i 1).isLt
  rw [val_main_v57_apply, val_main_v37_apply, val_main_v36_apply]
  have e : ∀ t : Fin 2048, val_main_v34 (F := Ideal) x1 (lidx_main_v36 (idx_main_v37 (idx_main_v57 i)) t) * val_main_v29_0 (F := Ideal) x0 (ridx_main_v36 (idx_main_v37 (idx_main_v57 i)) t)
      = ((sA (bt q ((i 0).val / 2048)) (bt k ((i 0).val / 2048)) ((i 1).val / 64) t.val ((i 0).val % 2048)
        * bt d ((i 0).val / 2048) t.val (i 1).val : ℝ) : EReal) := by
    intro t
    rw [v29_R hq hk, v34_R hd, ← EReal.coe_mul]
    congr 1
    dsimp only [lidx_main_v36, ridx_main_v36, idx_main_v37, idx_main_v57]
    rw [show ((i 0).val * 512 + (i 1).val) / 1048576 = (i 0).val / 2048 by omega,
      show ((i 0).val * 512 + (i 1).val) / 512 % 2048 = (i 0).val % 2048 by omega,
      show ((i 0).val * 512 + (i 1).val) / 64 % 8 = (i 1).val / 64 by omega,
      show 64 * ((i 1).val / 64) + ((i 0).val * 512 + (i 1).val) % 64 = (i 1).val by omega]
    ring
  rw [Finset.sum_congr rfl fun s _ => e s, ← coe_sum, Finset.sum_range]

end Values

end Keys

end Cert.ReferenceIdeal.Sb
-- ==== Proof.Trip.lean ====
module

public import proofs.«01_k».proof.Proof.Spec
public import proofs.«01_k».proof.Proof.Gen.KernelIdeal.Loops
public import Idealize.ShloMosaic.Lib.Tactic

/-! One grid point's loop over the earlier key tiles: what it is run on (`Env`), its state after `n` trips (`Env.St`), and
    one trip in full. -/

@[expose] public section

set_option maxRecDepth 16384
set_option maxHeartbeats 1600000

noncomputable section

namespace Cert.KernelIdeal.Sb

open Cert.KernelIdeal Cert.KernelIdeal.Gen
open Idealize.ShloMosaic Idealize.ShloMosaic.TcCoe Idealize.ShloMosaic.Tactic
open Idealize.SL Idealize.SL.Sem

variable {F : FTy → Type} [FloatOps F]

/-- What a grid point's loop runs on: the blocks, the stacked rows prepared from them, and the contents of the two
    accumulators. -/
structure Env (F : FTy → Type) [FloatOps F] where
  c : Dev nD
  i : grid0.Coords
  arg2 : Memref sig .tc .vmem S256x256 .bf16
  harg2 : arg2.IsWhole
  arg3 : Memref sig .tc .vmem S256x256 .bf16
  harg3 : arg3.IsWhole
  arg4 : Memref sig .tc .vmem S2048x256 .bf16
  harg4 : arg4.IsWhole
  arg5 : Memref sig .tc .vmem S2048x256 .bf16
  harg5 : arg5.IsWhole
  arg6 : Memref sig .tc .vmem S2048x256 .bf16
  harg6 : arg6.IsWhole
  arg7 : Memref sig .tc .vmem S2048x256 .bf16
  harg7 : arg7.IsWhole
  arg8 : Memref sig .tc .vmem S256x512 .bf16
  harg8 : arg8.IsWhole
  arg9 : Memref sig .tc .vmem S256x512 .f32
  harg9 : arg9.IsWhole
  arg10 : Memref sig .tc .vmem S256x512 .bf16
  harg10 : arg10.IsWhole
  arg11 : Memref sig .tc .vmem S2048x512 .f32
  harg11 : arg11.IsWhole
  arg12 : Memref sig .tc .vmem S2048x512 .f32
  harg12 : arg12.IsWhole
  x2 : S2048x256.Idx → Elt F .bf16
  x3 : S2048x256.Idx → Elt F .bf16
  x4 : S2048x256.Idx → Elt F .bf16
  x5 : S2048x256.Idx → Elt F .bf16
  q0 : FVec F S1024x256 .bf16
  d0 : FVec F S1024x256 .bf16
  r0 : FVec F S1024x1 .f32
  q1 : FVec F S1024x256 .bf16
  d1 : FVec F S1024x256 .bf16
  r1 : FVec F S1024x1 .f32
  g11 : BufTy.Contents (Elt F) arg11.view.ty
  g12 : BufTy.Contents (Elt F) arg12.view.ty

namespace Env
variable (E : Env F)

/-- The carried vectors of the loop. -/
abbrev Carry (F : FTy → Type) [FloatOps F] : Type :=
  FVec F S256x256 .f32 × FVec F S1024x1 .f32 × FVec F S1024x1 .f32 × FVec F S256x256 .f32 × FVec F S1024x1 .f32 × FVec F S1024x1 .f32

/-- The carried vectors and the stores after `n` trips. -/
def St (n : ℕ) : Carry F × List (View.Piece (Elt F) S2048x512 .f32) × List (View.Piece (Elt F) S2048x512 .f32) :=
  st_k0_t1 (F := F) Variants.none E.c none E.i E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 (BitVec.ofNat 32 ↑(E.i 1)) k0_pay47 M1 M2 M3 k0_pay57 k0_pay58 (k0_pay60 k0_pay59) E.q0 E.d0 E.r0 E.q1 E.d1 E.r1 k0_pay71 k0_pay72 0#32 1#32 (Scalar.divsi (Scalar.subi (BitVec.ofNat 32 ↑(E.i 1)) 0#32) 1#32) (E.harg4.unread E.x2) (E.harg5.unread E.x3) (E.harg6.unread E.x4) (E.harg7.unread E.x5) E.g11 E.g12 (k0_pay72, k0_pay71, k0_pay71, k0_pay72, k0_pay71, k0_pay71) n

/-- The first accumulator after `n` trips. -/
def f11 (n : ℕ) : BufTy.Contents (Elt F) E.arg11.view.ty := E.arg11.view.writes (Elt F) E.g11 (E.St n).2.1
/-- The second accumulator after `n` trips. -/
def f12 (n : ℕ) : BufTy.Contents (Elt F) E.arg12.view.ty := E.arg12.view.writes (Elt F) E.g12 (E.St n).2.2

variable (k : Fin (k0_t1_loop E.i).trips)
/-- The tiles a trip loads. -/
def K0 : Vec F S256x256 .bf16 := View.readAt (Elt F) E.arg4.view (Rect.unit (s := S2048x256) (k0_off1 E.i k) S256x256.size (k0_off1_inb E.i k)).toLoadRect (E.harg4.unread E.x2)
def K1 : Vec F S256x256 .bf16 := View.readAt (Elt F) E.arg5.view (Rect.unit (s := S2048x256) (k0_off1 E.i k) S256x256.size (k0_off1_inb E.i k)).toLoadRect (E.harg5.unread E.x3)
def V0 : Vec F S256x256 .bf16 := View.readAt (Elt F) E.arg6.view (Rect.unit (s := S2048x256) (k0_off1 E.i k) S256x256.size (k0_off1_inb E.i k)).toLoadRect (E.harg6.unread E.x4)
def V1 : Vec F S256x256 .bf16 := View.readAt (Elt F) E.arg7.view (Rect.unit (s := S2048x256) (k0_off1 E.i k) S256x256.size (k0_off1_inb E.i k)).toLoadRect (E.harg7.unread E.x5)

variable (acc : Carry F)
/-- The trip's gradients with respect to the logits, of the two groups of heads. -/
def DZ0 : FVec F S1024x256 .bf16 := k0_pay7 k0_pay58 (k0_pay60 k0_pay59) E.q0 E.d0 E.r0 acc.2.1 acc.2.2.1 (E.K0 k) (E.V0 k)
def DZ1 : FVec F S1024x256 .bf16 := k0_pay20 k0_pay58 (k0_pay60 k0_pay59) E.d1 E.r1 acc.2.2.2.2.1 acc.2.2.2.2.2 (E.V1 k) (k0_pay13 E.q1 (E.K1 k)) (k0_pay14 E.q1 (E.K1 k))

/-- The carried vectors after a trip. -/
def nextC : Carry F :=
  (k0_pay11 k0_pay47 M1 M2 M3 acc.1 (E.K0 k) (E.DZ0 k acc), k0_pay4 E.q0 acc.2.1 (E.K0 k),
    k0_pay12 acc.2.2.1 (k0_pay6 k0_pay58 E.q0 E.d0 E.r0 acc.2.1 (E.K0 k) (E.V0 k)),
    k0_pay73 k0_pay47 M1 M2 M3 acc.2.2.2.1 (E.K1 k) (E.DZ1 k acc),
    k0_pay17 acc.2.2.2.2.1 (k0_pay13 E.q1 (E.K1 k)) (k0_pay14 E.q1 (E.K1 k)),
    k0_pay74 acc.2.2.2.2.2 (k0_pay19 k0_pay58 E.d1 E.r1 acc.2.2.2.2.1 (E.V1 k) (k0_pay13 E.q1 (E.K1 k)) (k0_pay14 E.q1 (E.K1 k))))

variable (f11 : BufTy.Contents (Elt F) E.arg11.view.ty) (f12 : BufTy.Contents (Elt F) E.arg12.view.ty)

/-- The stores of a trip into the first accumulator. -/
def next11 : List (View.Piece (Elt F) S2048x512 .f32) :=
  [⟨Rect.unit (s := S2048x512) (k0_off3 E.i k) S256x256.size (k0_off3_inb E.i k), k0_pay21 k0_pay58 (k0_pay60 k0_pay59) E.q1 E.d1 E.r1 acc.2.2.2.2.1 acc.2.2.2.2.2 (E.V1 k) (k0_pay13 E.q1 (E.K1 k)) (k0_pay14 E.q1 (E.K1 k)) (View.readAt (Elt F) E.arg11.view (Rect.unit (s := S2048x512) (k0_off3 E.i k) S256x256.size (k0_off3_inb E.i k)).toLoadRect f11)⟩,
   ⟨Rect.unit (s := S2048x512) (k0_off2 E.i k) S256x256.size (k0_off2_inb E.i k), k0_pay9 E.q0 (E.DZ0 k acc) (k0_pay8 (View.readAt (Elt F) E.arg11.view (Rect.unit (s := S2048x512) (k0_off2 E.i k) S256x256.size (k0_off2_inb E.i k)).toLoadRect f11)) (constant S256x256 .f32 0#32)⟩]

/-- The stores of a trip into the second accumulator. -/
def next12 : List (View.Piece (Elt F) S2048x512 .f32) :=
  [⟨Rect.unit (s := S2048x512) (k0_off3 E.i k) S256x256.size (k0_off3_inb E.i k), k0_pay22 k0_pay58 E.d1 E.r1 acc.2.2.2.2.1 (k0_pay13 E.q1 (E.K1 k)) (k0_pay14 E.q1 (E.K1 k)) (View.readAt (Elt F) E.arg12.view (Rect.unit (s := S2048x512) (k0_off3 E.i k) S256x256.size (k0_off3_inb E.i k)).toLoadRect f12)⟩,
   ⟨Rect.unit (s := S2048x512) (k0_off2 E.i k) S256x256.size (k0_off2_inb E.i k), k0_pay10 E.d0 (k0_pay5 k0_pay58 E.q0 E.r0 acc.2.1 (E.K0 k)) (View.readAt (Elt F) E.arg12.view (Rect.unit (s := S2048x512) (k0_off2 E.i k) S256x256.size (k0_off2_inb E.i k)).toLoadRect f12)⟩]

theorem tripR_eq :
    tripR_k0_t1 (F := F) Variants.none E.c none E.i E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 (BitVec.ofNat 32 ↑(E.i 1)) k0_pay47 M1 M2 M3 k0_pay57 k0_pay58 (k0_pay60 k0_pay59) E.q0 E.d0 E.r0 E.q1 E.d1 E.r1 k0_pay71 k0_pay72 0#32 1#32 (Scalar.divsi (Scalar.subi (BitVec.ofNat 32 ↑(E.i 1)) 0#32) 1#32) (E.harg4.unread E.x2) (E.harg5.unread E.x3) (E.harg6.unread E.x4) (E.harg7.unread E.x5) k acc f11 f12 = E.nextC k acc := by
  unfold tripR_k0_t1 trip_k0_t1
  dsimp only
  sl_unfold_words
  rfl

theorem tripL_eq :
    tripL_k0_t1 (F := F) Variants.none E.c none E.i E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 (BitVec.ofNat 32 ↑(E.i 1)) k0_pay47 M1 M2 M3 k0_pay57 k0_pay58 (k0_pay60 k0_pay59) E.q0 E.d0 E.r0 E.q1 E.d1 E.r1 k0_pay71 k0_pay72 0#32 1#32 (Scalar.divsi (Scalar.subi (BitVec.ofNat 32 ↑(E.i 1)) 0#32) 1#32) (E.harg4.unread E.x2) (E.harg5.unread E.x3) (E.harg6.unread E.x4) (E.harg7.unread E.x5) k acc f11 f12 = (E.next11 k acc f11, E.next12 k acc f12) := by
  unfold tripL_k0_t1 trip_k0_t1
  dsimp only
  sl_unfold_words
  rfl

theorem St_zero : E.St 0 = ((k0_pay72, k0_pay71, k0_pay71, k0_pay72, k0_pay71, k0_pay71), [], []) := rfl

theorem St_succ : E.St (k.val + 1)
    = (E.nextC k (E.St k.val).1, E.next11 k (E.St k.val).1 (E.f11 k.val) ++ (E.St k.val).2.1, E.next12 k (E.St k.val).1 (E.f12 k.val) ++ (E.St k.val).2.2) := by
  have h := st_k0_t1_succ (F := F) Variants.none E.c none E.i E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 (BitVec.ofNat 32 ↑(E.i 1)) k0_pay47 M1 M2 M3 k0_pay57 k0_pay58 (k0_pay60 k0_pay59) E.q0 E.d0 E.r0 E.q1 E.d1 E.r1 k0_pay71 k0_pay72 0#32 1#32 (Scalar.divsi (Scalar.subi (BitVec.ofNat 32 ↑(E.i 1)) 0#32) 1#32) (E.harg4.unread E.x2) (E.harg5.unread E.x3) (E.harg6.unread E.x4) (E.harg7.unread E.x5) E.g11 E.g12 (k0_pay72, k0_pay71, k0_pay71, k0_pay72, k0_pay71, k0_pay71) k
  rw [E.tripR_eq k, E.tripL_eq k] at h
  exact h

end Env
end Cert.KernelIdeal.Sb
-- ==== Proof.Loop.lean ====
module

public import proofs.«01_k».proof.Proof.Trip
public import Idealize.ShloMosaic.Lib.WritesUnit
public import Idealize.ShloMosaic.Lib.VecWindow
public import Idealize.ShloMosaic.Lib.WholeRead

/-! The loop over the earlier key tiles, read as reals: what its carried vectors and the two accumulators hold after `n`
    trips. -/

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic Idealize.ShloMosaic.Pointwise
open Idealize.SL Idealize.SL.Sem

section Mem
variable {sig : RefSig} {κ : Kind} {sp : Space} {e : EltTy} {Val : EltTy → Type} {M N : ℕ}

/-- A load of a 256×256 window, at an index. -/
theorem ld_at (v : View sig κ sp ⟨2, ![M, N]⟩ e) (f : v.ty.Contents Val) {off : Fin 2 → ℕ}
    (inb : ∀ a, off a + S256x256.size a ≤ (⟨2, ![M, N]⟩ : Shape).size a) (o0 o1 : ℕ) (h : off = ![o0, o1]) (a b : Fin 256)
    (ha : o0 + 256 ≤ M) (hb : o1 + 256 ≤ N) :
    v.readAt Val (Rect.unit (s := ⟨2, ![M, N]⟩) off S256x256.size inb).toLoadRect f (ix2 a b)
      = v.read Val f (ix2 (⟨o0 + a.val, by omega⟩ : Fin M) (⟨o1 + b.val, by omega⟩ : Fin N)) := by
  subst h
  refine congrArg (v.read Val f) (funext fun x => Fin.ext ?_)
  match x with
  | ⟨0, _⟩ => show o0 + 1 * a.val = o0 + a.val; omega
  | ⟨1, _⟩ => show o1 + 1 * b.val = o1 + b.val; omega

/-- A read after the store of a 256×256 window. -/
theorem st_at (v : View sig κ sp ⟨2, ![M, N]⟩ e) (f : v.ty.Contents Val) {off : Fin 2 → ℕ}
    (inb : ∀ a, off a + S256x256.size a ≤ (⟨2, ![M, N]⟩ : Shape).size a) (o0 o1 : ℕ) (h : off = ![o0, o1])
    (w : S256x256.Idx → Val e) (L : List (View.Piece Val ⟨2, ![M, N]⟩ e)) (s : Fin M) (c : Fin N) :
    v.read Val (v.writes Val f ((⟨Rect.unit (s := ⟨2, ![M, N]⟩) off S256x256.size inb, w⟩ : View.Piece Val ⟨2, ![M, N]⟩ e) :: L)) (ix2 s c)
      = if hh : (o0 ≤ s.val ∧ s.val < o0 + 256) ∧ (o1 ≤ c.val ∧ c.val < o1 + 256) then
          w (ix2 (⟨s.val - o0, by omega⟩ : Fin 256) (⟨c.val - o1, by omega⟩ : Fin 256))
        else v.read Val (v.writes Val f L) (ix2 s c) := by
  by_cases hh : (o0 ≤ s.val ∧ s.val < o0 + 256) ∧ (o1 ≤ c.val ∧ c.val < o1 + 256)
  · rw [dif_pos hh]
    refine View.read_writes_cons_unit_of_mem v f inb w L (ix2 s c) (ix2 (⟨s.val - o0, by omega⟩ : Fin 256) (⟨c.val - o1, by omega⟩ : Fin 256)) h fun a => ?_
    match a with
    | ⟨0, _⟩ => show s.val = o0 + (s.val - o0); omega
    | ⟨1, _⟩ => show c.val = o1 + (c.val - o1); omega
  · rw [dif_neg hh, View.read_writes_cons_unit v f inb w L (ix2 s c) h, dif_neg]
    intro H
    exact hh ⟨H 0, H 1⟩
end Mem

section Off
theorem trips_eq (i : grid0.Coords) : (k0_t1_loop i).trips = (i 1).val := by
  have : ∀ n : Fin 8, Scf.trips 0#32 (Scalar.addi 0#32 (Scalar.muli (Scalar.divsi (Scalar.subi (BitVec.ofNat 32 n.val) 0#32) 1#32) 1#32)) 1#32 = n.val := by
    decide +kernel
  exact this (i 1)

theorem ivword : ∀ n : Fin 8, (Scalar.indexCast (Scalar.muli (Scf.iv 0#32 1#32 n.val) 256#32)).toNat = 256 * n.val := by decide +kernel
theorem iword : ∀ n : Fin 8, (Scalar.indexCast (Scalar.muli (BitVec.ofNat 32 n.val) 256#32)).toNat = 256 * n.val := by decide +kernel

theorem trip_lt {i : grid0.Coords} (k : Fin (k0_t1_loop i).trips) : k.val < (i 1).val := lt_of_lt_of_eq k.isLt (trips_eq i)
theorem row_lt (i : grid0.Coords) : (i 1).val < 8 := (i 1).isLt
theorem trip_lt8 {i : grid0.Coords} (k : Fin (k0_t1_loop i).trips) : k.val < 8 := lt_trans (trip_lt k) (row_lt i)

theorem off1_eq (i : grid0.Coords) (k : Fin (k0_t1_loop i).trips) : k0_off1 i k = ![256 * k.val, 0] := by
  have := ivword ⟨k.val, trip_lt8 k⟩
  show ![_, 0] = _
  exact congrArg (fun n : ℕ => (![n, 0] : Fin 2 → ℕ)) this
theorem off2_eq (i : grid0.Coords) (k : Fin (k0_t1_loop i).trips) : k0_off2 i k = ![256 * k.val, 0] := off1_eq i k
theorem off3_eq (i : grid0.Coords) (k : Fin (k0_t1_loop i).trips) : k0_off3 i k = ![256 * k.val, 256] := by
  have := ivword ⟨k.val, trip_lt8 k⟩
  show ![_, 256] = _
  exact congrArg (fun n : ℕ => (![n, 256] : Fin 2 → ℕ)) this
theorem off7_eq (i : grid0.Coords) : k0_off7 i = ![256 * (i 1).val, 0] := by
  have := iword ⟨(i 1).val, row_lt i⟩
  show ![_, 0] = _
  exact congrArg (fun n : ℕ => (![n, 0] : Fin 2 → ℕ)) this
theorem off8_eq (i : grid0.Coords) : k0_off8 i = ![256 * (i 1).val, 0] := off7_eq i
theorem off9_eq (i : grid0.Coords) : k0_off9 i = ![256 * (i 1).val, 256] := by
  have := iword ⟨(i 1).val, row_lt i⟩
  show ![_, 256] = _
  exact congrArg (fun n : ℕ => (![n, 256] : Fin 2 → ℕ)) this
end Off

section Inv
open Finset (range)
variable (q k v d : ℕ → ℕ → ℝ)

/-- What row block `i` adds to the gradient of key `s`, column `c`. -/
def WK (i s c : ℕ) : ℝ := ∑ ρ ∈ range 256, sZ q k v d (c / 64) (256 * i + ρ) s * (q (256 * i + ρ) c / 8)
/-- What row block `i` adds to the gradient of value `s`, column `c`. -/
def WV (i s c : ℕ) : ℝ := ∑ ρ ∈ range 256, sA q k (c / 64) (256 * i + ρ) s * d (256 * i + ρ) c
/-- The gradient of query `t`, column `c`, from the keys before `m`, before the scale. -/
def WQ (m t c : ℕ) : ℝ := ∑ s ∈ range m, sZ q k v d (c / 64) t s * k s c

/-- The environment holds the reals `q k v d` of one sequence, and the accumulators hold `G11`, `G12`. -/
structure Holds (E : Env Ideal) (G11 G12 : Fin 2048 → Fin 512 → ℝ) : Prop where
  q0 : R2 E.q0 (Qt q 0 (E.i 1).val)
  d0 : R2 E.d0 (Dt d 0 (E.i 1).val)
  r0 : C1 E.r0 (Rt q k 0 (E.i 1).val)
  q1 : R2 E.q1 (Qt q 1 (E.i 1).val)
  d1 : R2 E.d1 (Dt d 1 (E.i 1).val)
  r1 : C1 E.r1 (Rt q k 1 (E.i 1).val)
  x2 : R2 (m := 2048) (n := 256) (φ := .bf16) E.x2 (fun t l => k t.val l.val)
  x3 : R2 (m := 2048) (n := 256) (φ := .bf16) E.x3 (fun t l => k t.val (256 + l.val))
  x4 : R2 (m := 2048) (n := 256) (φ := .bf16) E.x4 (fun t l => v t.val l.val)
  x5 : R2 (m := 2048) (n := 256) (φ := .bf16) E.x5 (fun t l => v t.val (256 + l.val))
  g11 : R2 (m := 2048) (n := 512) (φ := .f32) (E.arg11.view.read (Elt Ideal) E.g11) G11
  g12 : R2 (m := 2048) (n := 512) (φ := .f32) (E.arg12.view.read (Elt Ideal) E.g12) G12

/-- What holds after `n` trips. -/
structure Inv (E : Env Ideal) (G11 G12 : Fin 2048 → Fin 512 → ℝ) (n : ℕ) : Prop where
  dq0 : R2 (E.St n).1.1 (fun a l => WQ q k v d (256 * n) (256 * (E.i 1).val + a.val) l.val)
  l0 : C1 (E.St n).1.2.1 (Lt q k 0 (E.i 1).val n)
  p0 : C1 (E.St n).1.2.2.1 (Pt q k v d 0 (E.i 1).val n)
  dq1 : R2 (E.St n).1.2.2.2.1 (fun a l => WQ q k v d (256 * n) (256 * (E.i 1).val + a.val) (256 + l.val))
  l1 : C1 (E.St n).1.2.2.2.2.1 (Lt q k 1 (E.i 1).val n)
  p1 : C1 (E.St n).1.2.2.2.2.2 (Pt q k v d 1 (E.i 1).val n)
  m11 : R2 (m := 2048) (n := 512) (φ := .f32) (E.arg11.view.read (Elt Ideal) (E.f11 n))
    (fun s c => G11 s c + if s.val < 256 * n then WK q k v d (E.i 1).val s.val c.val else 0)
  m12 : R2 (m := 2048) (n := 512) (φ := .f32) (E.arg12.view.read (Elt Ideal) (E.f12 n))
    (fun s c => G12 s c + if s.val < 256 * n then WV q k d (E.i 1).val s.val c.val else 0)

theorem R2.congr {m n : ℕ} {φ : FTy} {x : FVec Ideal ⟨2, ![m, n]⟩ φ} {f f' : Fin m → Fin n → ℝ} (h : R2 x f) (e : ∀ a b, f a b = f' a b) :
    R2 x f' := fun a b => by rw [h a b, e a b]
theorem C1.congr {m : ℕ} {φ : FTy} {x : FVec Ideal ⟨2, ![m, 1]⟩ φ} {f f' : Fin m → ℝ} (h : C1 x f) (e : f = f') : C1 x f' := e ▸ h

/-- A tile loaded from a block. -/
theorem tile_R {m : Memref sig .tc .vmem S2048x256 .bf16} (hm : m.IsWhole) {x : S2048x256.Idx → Elt Ideal .bf16} {f : ℕ → ℕ → ℝ} (g j : ℕ)
    (hx : R2 (m := 2048) (n := 256) (φ := .bf16) x (fun t l => f t.val (256 * g + l.val))) {off : Fin 2 → ℕ}
    (inb : ∀ a, off a + S256x256.size a ≤ S2048x256.size a) (h : off = ![256 * j, 0]) (hj : j < 8) :
    R2 (m := 256) (n := 256) (φ := .bf16) (View.readAt (Elt Ideal) m.view (Rect.unit (s := S2048x256) off S256x256.size inb).toLoadRect (hm.unread x)) (Kt f g j) := by
  intro a b
  refine (ld_at (M := 2048) (N := 256) m.view (hm.unread x) inb (256 * j) 0 h a b (by omega) (by omega)).trans ?_
  rw [hm.read_unread]
  refine (hx _ _).trans ?_
  unfold Kt
  simp only [zero_add]

section Step
variable {E : Env Ideal} {G11 G12 : Fin 2048 → Fin 512 → ℝ} (H : Holds q k v d E G11 G12)
include H

theorem inv_zero : Inv q k v d E G11 G12 0 where
  dq0 := zero_tile_R
  l0 := zero_col_R
  p0 := zero_col_R
  dq1 := zero_tile_R
  l1 := zero_col_R
  p1 := zero_col_R
  m11 := R2.congr H.g11 fun a b => by simp
  m12 := R2.congr H.g12 fun a b => by simp

variable (t : Fin (k0_t1_loop E.i).trips)

theorem K0_R : R2 (m := 256) (n := 256) (φ := .bf16) (E.K0 t) (Kt k 0 t.val) := tile_R E.harg4 0 t.val (R2.congr H.x2 fun a b => by simp) _ (off1_eq _ t) (trip_lt8 t)
theorem K1_R : R2 (m := 256) (n := 256) (φ := .bf16) (E.K1 t) (Kt k 1 t.val) := tile_R E.harg5 1 t.val (R2.congr H.x3 fun a b => by simp) _ (off1_eq _ t) (trip_lt8 t)
theorem V0_R : R2 (m := 256) (n := 256) (φ := .bf16) (E.V0 t) (Kt v 0 t.val) := tile_R E.harg6 0 t.val (R2.congr H.x4 fun a b => by simp) _ (off1_eq _ t) (trip_lt8 t)
theorem V1_R : R2 (m := 256) (n := 256) (φ := .bf16) (E.V1 t) (Kt v 1 t.val) := tile_R E.harg7 1 t.val (R2.congr H.x5 fun a b => by simp) _ (off1_eq _ t) (trip_lt8 t)

theorem mk_lt (r : Fin 1024) (s : Fin 256) :
    (fun _ _ => true : Fin 1024 → Fin 256 → Bool) r s = decide (256 * t.val + s.val < 256 * (E.i 1).val + r.val % 256) := by
  have := trip_lt t
  symm; simp only [decide_eq_true_eq]; omega

/-- One trip's update of an accumulator: both groups' tiles added. -/
theorem acc_step {m : Memref sig .tc .vmem S2048x512 .f32} (j : ℕ) (hj : j < 8) (g : m.view.ty.Contents (Elt Ideal)) (L : List (View.Piece (Elt Ideal) S2048x512 .f32))
    {G : Fin 2048 → Fin 512 → ℝ} {W : ℕ → ℕ → ℝ} {w0 w1 : S256x256.Idx → Elt Ideal .f32} {off0 off1 : Fin 2 → ℕ}
    (inb0 : ∀ a, off0 a + S256x256.size a ≤ S2048x512.size a) (inb1 : ∀ a, off1 a + S256x256.size a ≤ S2048x512.size a)
    (h0 : off0 = ![256 * j, 0]) (h1 : off1 = ![256 * j, 256])
    (hL : R2 (m := 2048) (n := 512) (φ := .f32) (m.view.read (Elt Ideal) (m.view.writes (Elt Ideal) g L)) (fun s c => G s c + if s.val < 256 * j then W s.val c.val else 0))
    (hw0 : ∀ o : Fin 256 → Fin 256 → ℝ, R2 (m := 256) (n := 256) (φ := .f32) (View.readAt (Elt Ideal) m.view (Rect.unit (s := S2048x512) off0 S256x256.size inb0).toLoadRect (m.view.writes (Elt Ideal) g L)) o →
      R2 (m := 256) (n := 256) (φ := .f32) w0 (fun s l => o s l + W (256 * j + s.val) l.val))
    (hw1 : ∀ o : Fin 256 → Fin 256 → ℝ, R2 (m := 256) (n := 256) (φ := .f32) (View.readAt (Elt Ideal) m.view (Rect.unit (s := S2048x512) off1 S256x256.size inb1).toLoadRect (m.view.writes (Elt Ideal) g L)) o →
      R2 (m := 256) (n := 256) (φ := .f32) w1 (fun s l => o s l + W (256 * j + s.val) (256 + l.val))) :
    R2 (m := 2048) (n := 512) (φ := .f32) (m.view.read (Elt Ideal) (m.view.writes (Elt Ideal) g
        ((⟨Rect.unit (s := S2048x512) off1 S256x256.size inb1, w1⟩ : View.Piece (Elt Ideal) S2048x512 .f32) :: ⟨Rect.unit (s := S2048x512) off0 S256x256.size inb0, w0⟩ :: L)))
      (fun s c => G s c + if s.val < 256 * (j + 1) then W s.val c.val else 0) := by
  have r0 := hw0 (fun a b => G ⟨256 * j + a.val, by omega⟩ ⟨b.val, by omega⟩) (fun a b => by
    refine (ld_at (M := 2048) (N := 512) m.view _ inb0 (256 * j) 0 h0 a b (by omega) (by omega)).trans ?_
    refine (hL _ _).trans ?_
    simp only [zero_add]
    rw [if_neg (by omega), add_zero])
  have r1 := hw1 (fun a b => G ⟨256 * j + a.val, by omega⟩ ⟨256 + b.val, by omega⟩) (fun a b => by
    refine (ld_at (M := 2048) (N := 512) m.view _ inb1 (256 * j) 256 h1 a b (by omega) (by omega)).trans ?_
    refine (hL _ _).trans ?_
    beta_reduce
    rw [if_neg (by simp only; omega), add_zero])
  intro s c
  refine (st_at (M := 2048) (N := 512) m.view g inb1 (256 * j) 256 h1 w1 _ s c).trans ?_
  by_cases e1 : (256 * j ≤ s.val ∧ s.val < 256 * j + 256) ∧ (256 ≤ c.val ∧ c.val < 256 + 256)
  · rw [dif_pos e1, r1]
    beta_reduce
    rw [if_pos (by omega)]
    have e2 : 256 * j + (s.val - 256 * j) = s.val := by omega
    have e3 : 256 + (c.val - 256) = c.val := by omega
    simp only [e2, e3]
  rw [dif_neg e1]
  refine (st_at (M := 2048) (N := 512) m.view g inb0 (256 * j) 0 h0 w0 _ s c).trans ?_
  by_cases e0 : (256 * j ≤ s.val ∧ s.val < 256 * j + 256) ∧ (0 ≤ c.val ∧ c.val < 0 + 256)
  · rw [dif_pos e0, r0]
    beta_reduce
    rw [if_pos (by omega)]
    have e2 : 256 * j + (s.val - 256 * j) = s.val := by omega
    simp only [e2, Nat.sub_zero]
  rw [dif_neg e0, hL]
  have : (s.val < 256 * j) ↔ (s.val < 256 * (j + 1)) := by omega
  simp only [this]

section Facts
variable {j : ℕ} {mk : Fin 1024 → Fin 256 → Bool} (hj : j < 8)
  (hmk : ∀ r s, mk r s = decide (256 * j + s.val < 256 * (E.i 1).val + r.val % 256))
include hj hmk

omit H in
/-- The key gradients a tile adds, in the columns of group `g`. -/
theorem wk_tile (g : ℕ) (s l : Fin 256) (c : ℕ) (hc : 256 * g + l.val = c) :
    ∑ r, tdz (Qt q g (E.i 1).val) (Dt d g (E.i 1).val) (Rt q k g (E.i 1).val) (Lt q k g (E.i 1).val j) (Pt q k v d g (E.i 1).val j) (Kt k g j) (Kt v g j) mk r s * Qt q g (E.i 1).val r l
      = WK q k v d (E.i 1).val (256 * j + s.val) c := by
  subst hc; exact dk_tile q k v d g _ j hmk hj s l

omit H in
theorem wv_tile (g : ℕ) (s l : Fin 256) (c : ℕ) (hc : 256 * g + l.val = c) :
    ∑ r, ta (Qt q g (E.i 1).val) (Rt q k g (E.i 1).val) (Lt q k g (E.i 1).val j) (Kt k g j) mk r s * Dt d g (E.i 1).val r l
      = WV q k d (E.i 1).val (256 * j + s.val) c := by
  subst hc; exact dv_tile q k d g _ j hmk hj s l

omit H in
theorem wq_tile (g : ℕ) (a l : Fin 256) (c : ℕ) (hc : 256 * g + l.val = c) :
    WQ q k v d (256 * j) (256 * (E.i 1).val + a.val) c
      + ∑ s, tdz (Qt q g (E.i 1).val) (Dt d g (E.i 1).val) (Rt q k g (E.i 1).val) (Lt q k g (E.i 1).val j) (Pt q k v d g (E.i 1).val j) (Kt k g j) (Kt v g j) mk (stk (l.val / 64) (lane_head l) a) s * Kt k g j s l
      = WQ q k v d (256 * (j + 1)) (256 * (E.i 1).val + a.val) c := by
  subst hc
  rw [dq_tile q k v d g _ j hmk hj a l]
  unfold WQ
  rw [show 256 * (j + 1) = 256 * j + 256 by omega, Finset.sum_range_add]
end Facts

theorem inv_succ (I : Inv q k v d E G11 G12 t.val) : Inv q k v d E G11 G12 (t.val + 1) := by
  have hj := trip_lt8 t
  have hm := mk_lt q k v d H t
  have k0 := K0_R q k v d H t
  have k1 := K1_R q k v d H t
  have v0 := V0_R q k v d H t
  have v1 := V1_R q k v d H t
  have z0 : R2 (E.DZ0 t (E.St t.val).1) _ := pay7_R later_R earlier_R H.q0 H.d0 k0 v0 I.l0 H.r0 I.p0
  have z1 : R2 (E.DZ1 t (E.St t.val).1) _ := pay20_R later_R earlier_R H.q1 H.d1 k1 v1 I.l1 H.r1 I.p1
  have e := E.St_succ t
  constructor
  · rw [e]
    exact R2.congr (pay11_R heads I.dq0 k0 z0) fun a l => wq_tile q k v d hj hm 0 a l _ (by omega)
  · rw [e]
    exact C1.congr (pay4_R H.q0 k0 I.l0) (tl_eq q k 0 _ _ hm)
  · rw [e]
    exact C1.congr (pay12_R I.p0 (pay6_R later_R H.q0 H.d0 k0 v0 I.l0 H.r0)) (tp_eq q k v d 0 _ _ hm hj)
  · rw [e]
    exact R2.congr (pay73_R heads I.dq1 k1 z1) fun a l => wq_tile q k v d hj hm 1 a l _ (by omega)
  · rw [e]
    exact C1.congr (pay17_R H.q1 k1 I.l1) (tl_eq q k 1 _ _ hm)
  · rw [e]
    exact C1.congr (pay74_R I.p1 (pay19_R later_R H.q1 H.d1 k1 v1 I.l1 H.r1)) (tp_eq q k v d 1 _ _ hm hj)
  · unfold Env.f11
    rw [e]
    refine acc_step q k v d H t.val hj E.g11 _ _ _ (off2_eq _ t) (off3_eq _ t) I.m11 (fun o ho => ?_) (fun o ho => ?_)
    · exact R2.congr (pay9_R z0 H.q0 ho) fun s l => congrArg (o s l + ·) (wk_tile q k v d hj hm 0 s l l.val (by omega))
    · exact R2.congr (pay21_R later_R earlier_R H.q1 H.d1 k1 v1 I.l1 H.r1 I.p1 ho) fun s l => congrArg (o s l + ·) (wk_tile q k v d hj hm 1 s l (256 + l.val) (by omega))
  · unfold Env.f12
    rw [e]
    refine acc_step q k v d H t.val hj E.g12 _ _ _ (off2_eq _ t) (off3_eq _ t) I.m12 (fun o ho => ?_) (fun o ho => ?_)
    · exact R2.congr (pay10_R (pay5_R later_R H.q0 k0 I.l0 H.r0) H.d0 ho) fun s l => congrArg (o s l + ·) (wv_tile q k d hj hm 0 s l l.val (by omega))
    · exact R2.congr (pay22_R later_R H.q1 H.d1 k1 I.l1 H.r1 ho) fun s l => congrArg (o s l + ·) (wv_tile q k d hj hm 1 s l (256 + l.val) (by omega))

theorem inv_all (n : ℕ) (hn : n ≤ (E.i 1).val) : Inv q k v d E G11 G12 n := by
  induction n with
  | zero => exact inv_zero q k v d H
  | succ n ih => exact inv_succ q k v d H ⟨n, by rw [trips_eq]; omega⟩ (ih (by omega))

end Step
end Inv

end Cert.KernelIdeal.Sb
-- ==== Proof.Run.lean ====
module

public import proofs.«01_k».proof.Proof.Loop
public import proofs.«01_k».proof.Proof.Gen.KernelIdeal.Frame
public import Idealize.ShloMosaic.Lib.LoopRemainder

/-! One grid point's run, in terms of its loop's state and of the tile on the diagonal. -/

@[expose] public section

set_option maxRecDepth 16384
set_option maxHeartbeats 1600000

noncomputable section

namespace Cert.KernelIdeal.Sb

open Cert.KernelIdeal Cert.KernelIdeal.Gen
open Idealize.ShloMosaic Idealize.ShloMosaic.TcCoe Idealize.ShloMosaic.Tactic
open Idealize.SL Idealize.SL.Sem

variable {F : FTy → Type} [FloatOps F]

theorem inb_q : ∀ a, (![0, 0] : Fin 2 → ℕ) a + S256x256.size a ≤ S256x256.size a := by decide
theorem inb_l : ∀ a, (![0, 0] : Fin 2 → ℕ) a + S256x256.size a ≤ S256x512.size a := by decide
theorem inb_r : ∀ a, (![0, 256] : Fin 2 → ℕ) a + S256x256.size a ≤ S256x512.size a := by decide
theorem inb_o : ∀ a, (![0, 0] : Fin 2 → ℕ) a + S256x512.size a ≤ S256x512.size a := by decide
theorem inb_a : ∀ a, (![0, 0] : Fin 2 → ℕ) a + S2048x512.size a ≤ S2048x512.size a := by decide

namespace Env
variable (E : Env F)

/-- The tiles on the diagonal. -/
def Kd0 : Vec F S256x256 .bf16 := View.readAt (Elt F) E.arg4.view (Rect.unit (s := S2048x256) (k0_off7 E.i) S256x256.size (k0_off7_inb E.i)).toLoadRect (E.harg4.unread E.x2)
def Kd1 : Vec F S256x256 .bf16 := View.readAt (Elt F) E.arg5.view (Rect.unit (s := S2048x256) (k0_off7 E.i) S256x256.size (k0_off7_inb E.i)).toLoadRect (E.harg5.unread E.x3)
def Vd0 : Vec F S256x256 .bf16 := View.readAt (Elt F) E.arg6.view (Rect.unit (s := S2048x256) (k0_off7 E.i) S256x256.size (k0_off7_inb E.i)).toLoadRect (E.harg6.unread E.x4)
def Vd1 : Vec F S256x256 .bf16 := View.readAt (Elt F) E.arg7.view (Rect.unit (s := S2048x256) (k0_off7 E.i) S256x256.size (k0_off7_inb E.i)).toLoadRect (E.harg7.unread E.x5)

/-- The state after the loop. -/
def acc : Carry F := (E.St (k0_t1_loop E.i).trips).1
def L11 : List (View.Piece (Elt F) S2048x512 .f32) := (E.St (k0_t1_loop E.i).trips).2.1
def L12 : List (View.Piece (Elt F) S2048x512 .f32) := (E.St (k0_t1_loop E.i).trips).2.2

/-- The block of query gradients. -/
def dq : FVec F S256x512 .bf16 :=
  k0_pay93 k0_pay47 M1 M2 M3 E.acc.2.2.2.1 (k0_pay86 k0_pay47 M1 M2 M3 k0_pay57 E.acc.1 E.acc.2.2.1 E.Kd0 (k0_pay79 E.q0 E.Kd0) (k0_pay81 k0_pay57 k0_pay58 E.q0 E.d0 E.r0 E.acc.2.1 E.Kd0 E.Vd0) (k0_pay82 k0_pay57 k0_pay58 (k0_pay60 k0_pay59) E.q0 E.d0 E.r0 E.acc.2.1 E.Kd0 E.Vd0)) E.Kd1 (k0_pay90 k0_pay57 k0_pay58 (k0_pay60 k0_pay59) E.q1 E.d1 E.r1 E.acc.2.2.2.2.1 E.acc.2.2.2.2.2 E.Kd1 E.Vd1)

/-- The stores into the first accumulator: the loop's, then the diagonal tile's. -/
def P11 : List (View.Piece (Elt F) S2048x512 .f32) :=
  ⟨Rect.unit (s := S2048x512) (k0_off8 E.i) S256x256.size (k0_off8_inb E.i), k0_pay84 k0_pay57 E.q0 E.acc.2.2.1 (k0_pay79 E.q0 E.Kd0) (k0_pay81 k0_pay57 k0_pay58 E.q0 E.d0 E.r0 E.acc.2.1 E.Kd0 E.Vd0) (k0_pay82 k0_pay57 k0_pay58 (k0_pay60 k0_pay59) E.q0 E.d0 E.r0 E.acc.2.1 E.Kd0 E.Vd0) (View.readAt (Elt F) E.arg11.view (Rect.unit (s := S2048x512) (k0_off8 E.i) S256x256.size (k0_off8_inb E.i)).toLoadRect (E.arg11.view.writes (Elt F) E.g11 E.L11))⟩ :: E.L11
def F11 : List (View.Piece (Elt F) S2048x512 .f32) :=
  ⟨Rect.unit (s := S2048x512) (k0_off9 E.i) S256x256.size (k0_off9_inb E.i), k0_pay91 E.q1 (k0_pay90 k0_pay57 k0_pay58 (k0_pay60 k0_pay59) E.q1 E.d1 E.r1 E.acc.2.2.2.2.1 E.acc.2.2.2.2.2 E.Kd1 E.Vd1) (View.readAt (Elt F) E.arg11.view (Rect.unit (s := S2048x512) (k0_off9 E.i) S256x256.size (k0_off9_inb E.i)).toLoadRect (E.arg11.view.writes (Elt F) E.g11 E.P11))⟩ :: E.P11

/-- The stores into the second accumulator. -/
def P12 : List (View.Piece (Elt F) S2048x512 .f32) :=
  ⟨Rect.unit (s := S2048x512) (k0_off8 E.i) S256x256.size (k0_off8_inb E.i), k0_pay85 E.d0 (k0_pay80 k0_pay57 k0_pay58 E.q0 E.r0 E.acc.2.1 E.Kd0) (View.readAt (Elt F) E.arg12.view (Rect.unit (s := S2048x512) (k0_off8 E.i) S256x256.size (k0_off8_inb E.i)).toLoadRect (E.arg12.view.writes (Elt F) E.g12 E.L12))⟩ :: E.L12
def F12 : List (View.Piece (Elt F) S2048x512 .f32) :=
  ⟨Rect.unit (s := S2048x512) (k0_off9 E.i) S256x256.size (k0_off9_inb E.i), k0_pay92 E.d1 (k0_pay89 k0_pay57 k0_pay58 E.q1 E.r1 E.acc.2.2.2.2.1 E.Kd1) (View.readAt (Elt F) E.arg12.view (Rect.unit (s := S2048x512) (k0_off9 E.i) S256x256.size (k0_off9_inb E.i)).toLoadRect (E.arg12.view.writes (Elt F) E.g12 E.P12))⟩ :: E.P12
end Env

theorem rem_trips (i : grid0.Coords) : Scf.trips (k0_t2_loop i).lb (k0_t2_loop i).ub (k0_t2_loop i).st = 0 := Scf.rem_trips _ _

theorem t2_zero (𝒱 : Variants) (c : Dev nD) (bd : Option 𝒱.V) (i : grid0.Coords) (arg2 : Memref sig .tc .vmem S256x256 .bf16) (harg2 : arg2.IsWhole) (arg3 : Memref sig .tc .vmem S256x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S256x512 .bf16) (harg8 : arg8.IsWhole) (arg9 : Memref sig .tc .vmem S256x512 .f32) (harg9 : arg9.IsWhole) (arg10 : Memref sig .tc .vmem S256x512 .bf16) (harg10 : arg10.IsWhole) (arg11 : Memref sig .tc .vmem S2048x512 .f32) (harg11 : arg11.IsWhole) (arg12 : Memref sig .tc .vmem S2048x512 .f32) (harg12 : arg12.IsWhole) (arg1 : BitVec 32) (v29 : IVec S256x256 1) (v55 : IVec S256x256 1) (v81 : IVec S256x256 1) (v107 : IVec S256x256 1) (v126 : IVec S1024x256 1) (v133 : FVec F S512x256 .bf16) (v139 : FVec F S256x256 .bf16) (v155 : FVec F S1024x256 .bf16) (v169 : FVec F S1024x256 .bf16) (v196 : FVec F S1024x1 .f32) (v212 : FVec F S1024x256 .bf16) (v226 : FVec F S1024x256 .bf16) (v253 : FVec F S1024x1 .f32) (v254 : FVec F S1024x1 .f32) (v255 : FVec F S256x256 .f32) (c0_i32_85 : BitVec 32) (c1_i32_86 : BitVec 32) (v258 : BitVec 32) (v260 : BitVec 32) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (G_arg11 : BufTy.Contents (Elt F) arg11.view.ty) (G_arg12 : BufTy.Contents (Elt F) arg12.view.ty) (init : FVec F S256x256 .f32 × FVec F S1024x1 .f32 × FVec F S1024x1 .f32 × FVec F S256x256 .f32 × FVec F S1024x1 .f32 × FVec F S1024x1 .f32) :
    st_k0_t2 (F := F) 𝒱 c bd i arg2 harg2 arg3 harg3 arg4 harg4 arg5 harg5 arg6 harg6 arg7 harg7 arg8 harg8 arg9 harg9 arg10 harg10 arg11 harg11 arg12 harg12 arg1 v29 v55 v81 v107 v126 v133 v139 v155 v169 v196 v212 v226 v253 v254 v255 c0_i32_85 c1_i32_86 v258 v260 X_arg4 X_arg5 X_arg6 X_arg7 G_arg11 G_arg12 init 0 = (init, [], []) := rfl

section Run
variable (c : Dev nD) (i : grid0.Coords) (arg2 : Memref sig .tc .vmem S256x256 .bf16) (harg2 : arg2.IsWhole) (arg3 : Memref sig .tc .vmem S256x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S256x512 .bf16) (harg8 : arg8.IsWhole) (arg9 : Memref sig .tc .vmem S256x512 .f32) (harg9 : arg9.IsWhole) (arg10 : Memref sig .tc .vmem S256x512 .bf16) (harg10 : arg10.IsWhole) (arg11 : Memref sig .tc .vmem S2048x512 .f32) (harg11 : arg11.IsWhole) (arg12 : Memref sig .tc .vmem S2048x512 .f32) (harg12 : arg12.IsWhole)
  (x0 : Vec F S256x256 .bf16) (x1 : Vec F S256x256 .bf16) (x2 : Vec F S2048x256 .bf16) (x3 : Vec F S2048x256 .bf16) (x4 : Vec F S2048x256 .bf16) (x5 : Vec F S2048x256 .bf16) (x6 : Vec F S256x512 .bf16) (x7 : Vec F S256x512 .f32)

/-- The environment of a grid point. -/
def env (g11 : BufTy.Contents (Elt F) arg11.view.ty) (g12 : BufTy.Contents (Elt F) arg12.view.ty) : Env F :=
  { c := c, i := i, arg2 := arg2, harg2 := harg2, arg3 := arg3, harg3 := harg3, arg4 := arg4, harg4 := harg4, arg5 := arg5, harg5 := harg5, arg6 := arg6, harg6 := harg6, arg7 := arg7, harg7 := harg7, arg8 := arg8, harg8 := harg8, arg9 := arg9, harg9 := harg9, arg10 := arg10, harg10 := harg10, arg11 := arg11, harg11 := harg11, arg12 := arg12, harg12 := harg12,
    x2 := x2, x3 := x3, x4 := x4, x5 := x5,
    q0 := k0_pay61 k0_pay47 M1 M2 M3 (View.readAt (Elt F) arg2.view (Rect.unit (s := S256x256) ![0, 0] S256x256.size inb_q).toLoadRect (harg2.unread x0)),
    d0 := k0_pay62 k0_pay47 M1 M2 M3 (View.readAt (Elt F) arg8.view (Rect.unit (s := S256x512) ![0, 0] S256x256.size inb_l).toLoadRect (harg8.unread x6)),
    r0 := k0_pay65 LN (k0_pay63 (View.readAt (Elt F) arg9.view (Rect.unit (s := S256x512) ![0, 0] S256x256.size inb_l).toLoadRect (harg9.unread x7))) (k0_pay64 LN (View.readAt (Elt F) arg9.view (Rect.unit (s := S256x512) ![0, 0] S256x256.size inb_l).toLoadRect (harg9.unread x7))) 64#32,
    q1 := k0_pay66 k0_pay47 M1 M2 M3 (View.readAt (Elt F) arg3.view (Rect.unit (s := S256x256) ![0, 0] S256x256.size inb_q).toLoadRect (harg3.unread x1)),
    d1 := k0_pay69 M1 M2 M3 (View.readAt (Elt F) arg8.view (Rect.unit (s := S256x512) ![0, 256] S256x256.size inb_r).toLoadRect (harg8.unread x6)) (k0_pay67 k0_pay47 (View.readAt (Elt F) arg8.view (Rect.unit (s := S256x512) ![0, 256] S256x256.size inb_r).toLoadRect (harg8.unread x6))) k0_pay68,
    r1 := k0_pay70 LN (View.readAt (Elt F) arg9.view (Rect.unit (s := S256x512) ![0, 256] S256x256.size inb_r).toLoadRect (harg9.unread x7)),
    g11 := g11, g12 := g12 }

variable (hc0 : ¬cond0_0 i) (xo9 : Vec F S2048x512 .f32) (xo10 : Vec F S2048x512 .f32)

abbrev envB : Env F := env c i arg2 harg2 arg3 harg3 arg4 harg4 arg5 harg5 arg6 harg6 arg7 harg7 arg8 harg8 arg9 harg9 arg10 harg10 arg11 harg11 arg12 harg12 x0 x1 x2 x3 x4 x5 x6 x7 (harg11.unread xo9) (harg12.unread xo10)

theorem runB_8 : (kernelRun0_B (F := F) c i arg2 harg2 arg3 harg3 arg4 harg4 arg5 harg5 arg6 harg6 arg7 harg7 arg8 harg8 arg9 harg9 arg10 harg10 arg11 harg11 arg12 harg12 hc0 x0 x1 x2 x3 x4 x5 x6 x7 xo9 xo10).1 = [⟨Rect.unit (s := S256x512) ![0, 0] S256x512.size inb_o, (envB c i arg2 harg2 arg3 harg3 arg4 harg4 arg5 harg5 arg6 harg6 arg7 harg7 arg8 harg8 arg9 harg9 arg10 harg10 arg11 harg11 arg12 harg12 x0 x1 x2 x3 x4 x5 x6 x7 xo9 xo10).dq⟩] := by
  unfold kernelRun0_B
  dsimp only
  sl_unfold_words
  rw [rem_trips]
  rfl

theorem runB_9 : (kernelRun0_B (F := F) c i arg2 harg2 arg3 harg3 arg4 harg4 arg5 harg5 arg6 harg6 arg7 harg7 arg8 harg8 arg9 harg9 arg10 harg10 arg11 harg11 arg12 harg12 hc0 x0 x1 x2 x3 x4 x5 x6 x7 xo9 xo10).2.1 = (envB c i arg2 harg2 arg3 harg3 arg4 harg4 arg5 harg5 arg6 harg6 arg7 harg7 arg8 harg8 arg9 harg9 arg10 harg10 arg11 harg11 arg12 harg12 x0 x1 x2 x3 x4 x5 x6 x7 xo9 xo10).F11 := by
  unfold kernelRun0_B
  dsimp only
  sl_unfold_words
  rw [rem_trips]
  rfl

theorem runB_10 : (kernelRun0_B (F := F) c i arg2 harg2 arg3 harg3 arg4 harg4 arg5 harg5 arg6 harg6 arg7 harg7 arg8 harg8 arg9 harg9 arg10 harg10 arg11 harg11 arg12 harg12 hc0 x0 x1 x2 x3 x4 x5 x6 x7 xo9 xo10).2.2.1 = (envB c i arg2 harg2 arg3 harg3 arg4 harg4 arg5 harg5 arg6 harg6 arg7 harg7 arg8 harg8 arg9 harg9 arg10 harg10 arg11 harg11 arg12 harg12 x0 x1 x2 x3 x4 x5 x6 x7 xo9 xo10).F12 := by
  unfold kernelRun0_B
  dsimp only
  sl_unfold_words
  rw [rem_trips]
  rfl

end Run
end Cert.KernelIdeal.Sb
-- ==== Proof.RunZero.lean ====
module

public import proofs.«01_k».proof.Proof.Run

/-! One grid point's run, in terms of its loop's state and of the tile on the diagonal. -/

@[expose] public section

set_option maxRecDepth 16384
set_option maxHeartbeats 1600000

noncomputable section

namespace Cert.KernelIdeal.Sb

open Cert.KernelIdeal Cert.KernelIdeal.Gen
open Idealize.ShloMosaic Idealize.ShloMosaic.TcCoe Idealize.ShloMosaic.Tactic
open Idealize.SL Idealize.SL.Sem

variable {F : FTy → Type} [FloatOps F]

namespace Env
variable (E : Env F)

/-- The stores of case A, over the first zeros. -/
def P11A (b : BufTy.Contents (Elt F) E.arg11.view.ty) (Z : List (View.Piece (Elt F) S2048x512 .f32)) : List (View.Piece (Elt F) S2048x512 .f32) :=
  ⟨Rect.unit (s := S2048x512) (k0_off8 E.i) S256x256.size (k0_off8_inb E.i), k0_pay84 k0_pay57 E.q0 E.acc.2.2.1 (k0_pay79 E.q0 E.Kd0) (k0_pay81 k0_pay57 k0_pay58 E.q0 E.d0 E.r0 E.acc.2.1 E.Kd0 E.Vd0) (k0_pay82 k0_pay57 k0_pay58 (k0_pay60 k0_pay59) E.q0 E.d0 E.r0 E.acc.2.1 E.Kd0 E.Vd0) (View.readAt (Elt F) E.arg11.view (Rect.unit (s := S2048x512) (k0_off8 E.i) S256x256.size (k0_off8_inb E.i)).toLoadRect (E.arg11.view.writes (Elt F) b (E.L11 ++ Z)))⟩ :: (E.L11 ++ Z)
def F11A (b : BufTy.Contents (Elt F) E.arg11.view.ty) (Z : List (View.Piece (Elt F) S2048x512 .f32)) : List (View.Piece (Elt F) S2048x512 .f32) :=
  ⟨Rect.unit (s := S2048x512) (k0_off9 E.i) S256x256.size (k0_off9_inb E.i), k0_pay91 E.q1 (k0_pay90 k0_pay57 k0_pay58 (k0_pay60 k0_pay59) E.q1 E.d1 E.r1 E.acc.2.2.2.2.1 E.acc.2.2.2.2.2 E.Kd1 E.Vd1) (View.readAt (Elt F) E.arg11.view (Rect.unit (s := S2048x512) (k0_off9 E.i) S256x256.size (k0_off9_inb E.i)).toLoadRect (E.arg11.view.writes (Elt F) b (E.P11A b Z)))⟩ :: E.P11A b Z
def P12A (b : BufTy.Contents (Elt F) E.arg12.view.ty) (Z : List (View.Piece (Elt F) S2048x512 .f32)) : List (View.Piece (Elt F) S2048x512 .f32) :=
  ⟨Rect.unit (s := S2048x512) (k0_off8 E.i) S256x256.size (k0_off8_inb E.i), k0_pay85 E.d0 (k0_pay80 k0_pay57 k0_pay58 E.q0 E.r0 E.acc.2.1 E.Kd0) (View.readAt (Elt F) E.arg12.view (Rect.unit (s := S2048x512) (k0_off8 E.i) S256x256.size (k0_off8_inb E.i)).toLoadRect (E.arg12.view.writes (Elt F) b (E.L12 ++ Z)))⟩ :: (E.L12 ++ Z)
def F12A (b : BufTy.Contents (Elt F) E.arg12.view.ty) (Z : List (View.Piece (Elt F) S2048x512 .f32)) : List (View.Piece (Elt F) S2048x512 .f32) :=
  ⟨Rect.unit (s := S2048x512) (k0_off9 E.i) S256x256.size (k0_off9_inb E.i), k0_pay92 E.d1 (k0_pay89 k0_pay57 k0_pay58 E.q1 E.r1 E.acc.2.2.2.2.1 E.Kd1) (View.readAt (Elt F) E.arg12.view (Rect.unit (s := S2048x512) (k0_off9 E.i) S256x256.size (k0_off9_inb E.i)).toLoadRect (E.arg12.view.writes (Elt F) b (E.P12A b Z)))⟩ :: E.P12A b Z

theorem F11A_eq (b : BufTy.Contents (Elt F) E.arg11.view.ty) (Z : List (View.Piece (Elt F) S2048x512 .f32)) (h : E.g11 = E.arg11.view.writes (Elt F) b Z) :
    E.F11A b Z = E.F11 ++ Z := by
  have hP : E.P11A b Z = E.P11 ++ Z := by
    unfold P11A P11
    rw [h, View.writes_append]
    rfl
  unfold F11A F11
  rw [hP, h, View.writes_append]
  rfl

theorem F12A_eq (b : BufTy.Contents (Elt F) E.arg12.view.ty) (Z : List (View.Piece (Elt F) S2048x512 .f32)) (h : E.g12 = E.arg12.view.writes (Elt F) b Z) :
    E.F12A b Z = E.F12 ++ Z := by
  have hP : E.P12A b Z = E.P12 ++ Z := by
    unfold P12A P12
    rw [h, View.writes_append]
    rfl
  unfold F12A F12
  rw [hP, h, View.writes_append]
  rfl
end Env

section Run
variable (c : Dev nD) (i : grid0.Coords) (arg2 : Memref sig .tc .vmem S256x256 .bf16) (harg2 : arg2.IsWhole) (arg3 : Memref sig .tc .vmem S256x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S256x512 .bf16) (harg8 : arg8.IsWhole) (arg9 : Memref sig .tc .vmem S256x512 .f32) (harg9 : arg9.IsWhole) (arg10 : Memref sig .tc .vmem S256x512 .bf16) (harg10 : arg10.IsWhole) (arg11 : Memref sig .tc .vmem S2048x512 .f32) (harg11 : arg11.IsWhole) (arg12 : Memref sig .tc .vmem S2048x512 .f32) (harg12 : arg12.IsWhole)
  (x0 : Vec F S256x256 .bf16) (x1 : Vec F S256x256 .bf16) (x2 : Vec F S2048x256 .bf16) (x3 : Vec F S2048x256 .bf16) (x4 : Vec F S2048x256 .bf16) (x5 : Vec F S2048x256 .bf16) (x6 : Vec F S256x512 .bf16) (x7 : Vec F S256x512 .f32)
variable (ha : cond0_0 i)

/-- The accumulators' first store, in case A. -/
abbrev zero11 : List (View.Piece (Elt F) S2048x512 .f32) := [⟨Rect.unit (s := S2048x512) ![0, 0] S2048x512.size inb_a, k0_pay45⟩]
abbrev zero12 : List (View.Piece (Elt F) S2048x512 .f32) := [⟨Rect.unit (s := S2048x512) ![0, 0] S2048x512.size inb_a, k0_pay46⟩]

abbrev envA : Env F := env c i arg2 harg2 arg3 harg3 arg4 harg4 arg5 harg5 arg6 harg6 arg7 harg7 arg8 harg8 arg9 harg9 arg10 harg10 arg11 harg11 arg12 harg12 x0 x1 x2 x3 x4 x5 x6 x7 (arg11.view.writes (Elt F) arg11.view.junk zero11) (arg12.view.writes (Elt F) arg12.view.junk zero12)

theorem runA_8 : (kernelRun0_A (F := F) c i arg2 harg2 arg3 harg3 arg4 harg4 arg5 harg5 arg6 harg6 arg7 harg7 arg8 harg8 arg9 harg9 arg10 harg10 arg11 harg11 arg12 harg12 ha x0 x1 x2 x3 x4 x5 x6 x7).1 = [⟨Rect.unit (s := S256x512) ![0, 0] S256x512.size inb_o, (envA c i arg2 harg2 arg3 harg3 arg4 harg4 arg5 harg5 arg6 harg6 arg7 harg7 arg8 harg8 arg9 harg9 arg10 harg10 arg11 harg11 arg12 harg12 x0 x1 x2 x3 x4 x5 x6 x7).dq⟩] := by
  unfold kernelRun0_A
  dsimp only
  sl_unfold_words
  rw [rem_trips]
  simp only [t2_zero, List.nil_append]
  dsimp only [envA, env, Env.dq, Env.F11A, Env.P11A, Env.F12A, Env.P12A, Env.acc, Env.L11, Env.L12, Env.Kd0, Env.Kd1, Env.Vd0, Env.Vd1, Env.St]
  rfl

theorem runA_9 : (kernelRun0_A (F := F) c i arg2 harg2 arg3 harg3 arg4 harg4 arg5 harg5 arg6 harg6 arg7 harg7 arg8 harg8 arg9 harg9 arg10 harg10 arg11 harg11 arg12 harg12 ha x0 x1 x2 x3 x4 x5 x6 x7).2.1 = (envA c i arg2 harg2 arg3 harg3 arg4 harg4 arg5 harg5 arg6 harg6 arg7 harg7 arg8 harg8 arg9 harg9 arg10 harg10 arg11 harg11 arg12 harg12 x0 x1 x2 x3 x4 x5 x6 x7).F11A arg11.view.junk zero11 := by
  unfold kernelRun0_A
  dsimp only
  sl_unfold_words
  rw [rem_trips]
  simp only [t2_zero, List.nil_append]
  dsimp only [envA, env, Env.dq, Env.F11A, Env.P11A, Env.F12A, Env.P12A, Env.acc, Env.L11, Env.L12, Env.Kd0, Env.Kd1, Env.Vd0, Env.Vd1, Env.St]
  rfl

theorem runA_10 : (kernelRun0_A (F := F) c i arg2 harg2 arg3 harg3 arg4 harg4 arg5 harg5 arg6 harg6 arg7 harg7 arg8 harg8 arg9 harg9 arg10 harg10 arg11 harg11 arg12 harg12 ha x0 x1 x2 x3 x4 x5 x6 x7).2.2.1 = (envA c i arg2 harg2 arg3 harg3 arg4 harg4 arg5 harg5 arg6 harg6 arg7 harg7 arg8 harg8 arg9 harg9 arg10 harg10 arg11 harg11 arg12 harg12 x0 x1 x2 x3 x4 x5 x6 x7).F12A arg12.view.junk zero12 := by
  unfold kernelRun0_A
  dsimp only
  sl_unfold_words
  rw [rem_trips]
  simp only [t2_zero, List.nil_append]
  dsimp only [envA, env, Env.dq, Env.F11A, Env.P11A, Env.F12A, Env.P12A, Env.acc, Env.L11, Env.L12, Env.Kd0, Env.Kd1, Env.Vd0, Env.Vd1, Env.St]
  rfl

end Run
end Cert.KernelIdeal.Sb
-- ==== Proof.Point.lean ====
module

public import proofs.«01_k».proof.Proof.RunZero

/-! What one grid point leaves, over the reals. -/

@[expose] public section

set_option maxRecDepth 16384
set_option maxHeartbeats 1600000

noncomputable section

namespace Cert.KernelIdeal.Sb

open Cert.KernelIdeal Cert.KernelIdeal.Gen
open Idealize.ShloMosaic Idealize.ShloMosaic.TcCoe Idealize.ShloMosaic.Tactic Idealize.ShloMosaic.Pointwise
open Idealize.SL Idealize.SL.Sem

/-- The diagonal tiles' update of an accumulator: the second group's load comes after the first group's store. -/
theorem acc_step2 {m : Memref sig .tc .vmem S2048x512 .f32} (j : ℕ) (hj : j < 8) (g : m.view.ty.Contents (Elt Ideal)) (L : List (View.Piece (Elt Ideal) S2048x512 .f32))
    {G : Fin 2048 → Fin 512 → ℝ} {W : ℕ → ℕ → ℝ} {w0 w1 : S256x256.Idx → Elt Ideal .f32} {off0 off1 : Fin 2 → ℕ}
    (inb0 : ∀ a, off0 a + S256x256.size a ≤ S2048x512.size a) (inb1 : ∀ a, off1 a + S256x256.size a ≤ S2048x512.size a)
    (h0 : off0 = ![256 * j, 0]) (h1 : off1 = ![256 * j, 256])
    (hL : R2 (m := 2048) (n := 512) (φ := .f32) (m.view.read (Elt Ideal) (m.view.writes (Elt Ideal) g L)) (fun s c => G s c + if s.val < 256 * j then W s.val c.val else 0))
    (hw0 : ∀ o : Fin 256 → Fin 256 → ℝ, R2 (m := 256) (n := 256) (φ := .f32) (View.readAt (Elt Ideal) m.view (Rect.unit (s := S2048x512) off0 S256x256.size inb0).toLoadRect (m.view.writes (Elt Ideal) g L)) o →
      R2 (m := 256) (n := 256) (φ := .f32) w0 (fun s l => o s l + W (256 * j + s.val) l.val))
    (hw1 : ∀ o : Fin 256 → Fin 256 → ℝ, R2 (m := 256) (n := 256) (φ := .f32) (View.readAt (Elt Ideal) m.view (Rect.unit (s := S2048x512) off1 S256x256.size inb1).toLoadRect (m.view.writes (Elt Ideal) g ((⟨Rect.unit (s := S2048x512) off0 S256x256.size inb0, w0⟩ : View.Piece (Elt Ideal) S2048x512 .f32) :: L))) o →
      R2 (m := 256) (n := 256) (φ := .f32) w1 (fun s l => o s l + W (256 * j + s.val) (256 + l.val))) :
    R2 (m := 2048) (n := 512) (φ := .f32) (m.view.read (Elt Ideal) (m.view.writes (Elt Ideal) g
        ((⟨Rect.unit (s := S2048x512) off1 S256x256.size inb1, w1⟩ : View.Piece (Elt Ideal) S2048x512 .f32) :: ⟨Rect.unit (s := S2048x512) off0 S256x256.size inb0, w0⟩ :: L)))
      (fun s c => G s c + if s.val < 256 * (j + 1) then W s.val c.val else 0) := by
  have r0 := hw0 (fun a b => G ⟨256 * j + a.val, by omega⟩ ⟨b.val, by omega⟩) (fun a b => by
    refine (ld_at (M := 2048) (N := 512) m.view _ inb0 (256 * j) 0 h0 a b (by omega) (by omega)).trans ?_
    refine (hL _ _).trans ?_
    simp only [zero_add]
    rw [if_neg (by omega), add_zero])
  have r1 := hw1 (fun a b => G ⟨256 * j + a.val, by omega⟩ ⟨256 + b.val, by omega⟩) (fun a b => by
    refine (ld_at (M := 2048) (N := 512) m.view _ inb1 (256 * j) 256 h1 a b (by omega) (by omega)).trans ?_
    refine (st_at (M := 2048) (N := 512) m.view g inb0 (256 * j) 0 h0 w0 L _ _).trans ?_
    rw [dif_neg (by simp only; omega)]
    refine (hL _ _).trans ?_
    beta_reduce
    rw [if_neg (by simp only; omega), add_zero])
  intro s c
  refine (st_at (M := 2048) (N := 512) m.view g inb1 (256 * j) 256 h1 w1 _ s c).trans ?_
  by_cases e1 : (256 * j ≤ s.val ∧ s.val < 256 * j + 256) ∧ (256 ≤ c.val ∧ c.val < 256 + 256)
  · rw [dif_pos e1, r1]
    beta_reduce
    rw [if_pos (by omega)]
    have e2 : 256 * j + (s.val - 256 * j) = s.val := by omega
    have e3 : 256 + (c.val - 256) = c.val := by omega
    simp only [e2, e3]
  rw [dif_neg e1]
  refine (st_at (M := 2048) (N := 512) m.view g inb0 (256 * j) 0 h0 w0 _ s c).trans ?_
  by_cases e0 : (256 * j ≤ s.val ∧ s.val < 256 * j + 256) ∧ (0 ≤ c.val ∧ c.val < 0 + 256)
  · rw [dif_pos e0, r0]
    beta_reduce
    rw [if_pos (by omega)]
    have e2 : 256 * j + (s.val - 256 * j) = s.val := by omega
    simp only [e2, Nat.sub_zero]
  rw [dif_neg e0, hL]
  have : (s.val < 256 * j) ↔ (s.val < 256 * (j + 1)) := by omega
  simp only [this]

section Diag
variable (q k v d : ℕ → ℕ → ℝ) {E : Env Ideal} {G11 G12 : Fin 2048 → Fin 512 → ℝ} (H : Holds q k v d E G11 G12)

theorem WK_zero (i s c : ℕ) (h : 256 * (i + 1) ≤ s) : WK q k v d i s c = 0 := by
  refine Finset.sum_eq_zero fun x hx => ?_
  rw [sZ_zero q k v d _ _ _ (by have := Finset.mem_range.mp hx; omega), zero_mul]

theorem WV_zero (i s c : ℕ) (h : 256 * (i + 1) ≤ s) : WV q k d i s c = 0 := by
  refine Finset.sum_eq_zero fun x hx => ?_
  rw [sA_zero q k _ _ _ (by have := Finset.mem_range.mp hx; omega), zero_mul]

include H

theorem mk_diag (r : Fin 1024) (s : Fin 256) :
    (fun r s => decide (s.val < r.val % 256) : Fin 1024 → Fin 256 → Bool) r s = decide (256 * (E.i 1).val + s.val < 256 * (E.i 1).val + r.val % 256) := by
  simp only [add_lt_add_iff_left]

theorem Kd0_R : R2 (m := 256) (n := 256) (φ := .bf16) E.Kd0 (Kt k 0 (E.i 1).val) := tile_R E.harg4 0 _ (R2.congr H.x2 fun a b => by simp) _ (off7_eq _) (row_lt _)
theorem Kd1_R : R2 (m := 256) (n := 256) (φ := .bf16) E.Kd1 (Kt k 1 (E.i 1).val) := tile_R E.harg5 1 _ (R2.congr H.x3 fun a b => by simp) _ (off7_eq _) (row_lt _)
theorem Vd0_R : R2 (m := 256) (n := 256) (φ := .bf16) E.Vd0 (Kt v 0 (E.i 1).val) := tile_R E.harg6 0 _ (R2.congr H.x4 fun a b => by simp) _ (off7_eq _) (row_lt _)
theorem Vd1_R : R2 (m := 256) (n := 256) (φ := .bf16) E.Vd1 (Kt v 1 (E.i 1).val) := tile_R E.harg7 1 _ (R2.congr H.x5 fun a b => by simp) _ (off7_eq _) (row_lt _)

theorem inv_end : Inv q k v d E G11 G12 (k0_t1_loop E.i).trips := inv_all q k v d H _ (le_of_eq (trips_eq _))

theorem dq_R : R2 E.dq (fun a c => WQ q k v d (256 * ((E.i 1).val + 1)) (256 * (E.i 1).val + a.val) c.val / 8) := by
  have I := inv_end q k v d H
  have hm := mk_diag q k v d H
  have hj := row_lt E.i
  have z1 := pay90_R tri_R later_R earlier_R H.q1 H.d1 (Kd1_R q k v d H) (Vd1_R q k v d H) I.l1 H.r1 I.p1
  have g0 := pay86_R heads I.dq0 tri_R later_R earlier_R H.q0 H.d0 (Kd0_R q k v d H) (Vd0_R q k v d H) I.l0 H.r0 I.p0
  refine R2.congr (pay93_R heads I.dq1 g0 (Kd1_R q k v d H) z1) fun a c => ?_
  rw [trips_eq]
  congr 1
  by_cases h : c.val < 256
  · rw [dif_pos h]
    exact wq_tile q k v d hj hm 0 a ⟨c.val, h⟩ c.val (by simp only; omega)
  · rw [dif_neg h]
    have e := wq_tile q k v d hj hm 1 a ⟨c.val - 256, by omega⟩ c.val (by simp only; omega)
    rw [show 256 + (c.val - 256) = c.val by omega]
    exact e

theorem F11_R : R2 (m := 2048) (n := 512) (φ := .f32) (E.arg11.view.read (Elt Ideal) (E.arg11.view.writes (Elt Ideal) E.g11 E.F11))
    (fun s c => G11 s c + WK q k v d (E.i 1).val s.val c.val) := by
  have I := inv_end q k v d H
  have hm := mk_diag q k v d H
  have hj := row_lt E.i
  have z1 := pay90_R tri_R later_R earlier_R H.q1 H.d1 (Kd1_R q k v d H) (Vd1_R q k v d H) I.l1 H.r1 I.p1
  have hs := I.m11
  have T := trips_eq E.i
  refine R2.congr (acc_step2 (W := WK q k v d (E.i 1).val) (E.i 1).val hj E.g11 E.L11 _ _ (off8_eq _) (off9_eq _)
    (R2.congr hs fun a b => by rw [T]) (fun o ho => ?_) (fun o ho => ?_)) fun s c => ?_
  · exact R2.congr (pay84_R tri_R later_R earlier_R H.q0 H.d0 (Kd0_R q k v d H) (Vd0_R q k v d H) I.l0 H.r0 I.p0 ho)
      fun s l => by rw [T]; exact congrArg (o s l + ·) (wk_tile q k v d hj hm 0 s l l.val (by omega))
  · exact R2.congr (pay91_R z1 H.q1 ho)
      fun s l => by rw [T]; exact congrArg (o s l + ·) (wk_tile q k v d hj hm 1 s l (256 + l.val) (by omega))
  · by_cases h : s.val < 256 * ((E.i 1).val + 1)
    · rw [if_pos h]
    · rw [if_neg h, WK_zero q k v d _ _ _ (by omega)]

theorem F12_R : R2 (m := 2048) (n := 512) (φ := .f32) (E.arg12.view.read (Elt Ideal) (E.arg12.view.writes (Elt Ideal) E.g12 E.F12))
    (fun s c => G12 s c + WV q k d (E.i 1).val s.val c.val) := by
  have I := inv_end q k v d H
  have hm := mk_diag q k v d H
  have hj := row_lt E.i
  have hs := I.m12
  have T := trips_eq E.i
  refine R2.congr (acc_step2 (W := WV q k d (E.i 1).val) (E.i 1).val hj E.g12 E.L12 _ _ (off8_eq _) (off9_eq _)
    (R2.congr hs fun a b => by rw [T]) (fun o ho => ?_) (fun o ho => ?_)) fun s c => ?_
  · exact R2.congr (pay85_R (pay80_R tri_R later_R H.q0 (Kd0_R q k v d H) I.l0 H.r0) H.d0 ho)
      fun s l => by rw [T]; exact congrArg (o s l + ·) (wv_tile q k d hj hm 0 s l l.val (by omega))
  · exact R2.congr (pay92_R (pay89_R tri_R later_R H.q1 (Kd1_R q k v d H) I.l1 H.r1) H.d1 ho)
      fun s l => by rw [T]; exact congrArg (o s l + ·) (wv_tile q k d hj hm 1 s l (256 + l.val) (by omega))
  · by_cases h : s.val < 256 * ((E.i 1).val + 1)
    · rw [if_pos h]
    · rw [if_neg h, WV_zero q k d _ _ _ (by omega)]
end Diag

section Holds
variable (q k v d : ℕ → ℕ → ℝ) {G11 G12 : Fin 2048 → Fin 512 → ℝ}
  (c : Dev nD) (i : grid0.Coords) (arg2 : Memref sig .tc .vmem S256x256 .bf16) (harg2 : arg2.IsWhole) (arg3 : Memref sig .tc .vmem S256x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S256x512 .bf16) (harg8 : arg8.IsWhole) (arg9 : Memref sig .tc .vmem S256x512 .f32) (harg9 : arg9.IsWhole) (arg10 : Memref sig .tc .vmem S256x512 .bf16) (harg10 : arg10.IsWhole) (arg11 : Memref sig .tc .vmem S2048x512 .f32) (harg11 : arg11.IsWhole) (arg12 : Memref sig .tc .vmem S2048x512 .f32) (harg12 : arg12.IsWhole)
  (x0 : Vec Ideal S256x256 .bf16) (x1 : Vec Ideal S256x256 .bf16) (x2 : Vec Ideal S2048x256 .bf16) (x3 : Vec Ideal S2048x256 .bf16) (x4 : Vec Ideal S2048x256 .bf16) (x5 : Vec Ideal S2048x256 .bf16) (x6 : Vec Ideal S256x512 .bf16) (x7 : Vec Ideal S256x512 .f32)

/-- The eight blocks a grid point reads hold the reals `q k v d` and the totals of the rows. -/
structure Blocks : Prop where
  x0 : R2 (m := 256) (n := 256) (φ := .bf16) x0 (fun a l => q (256 * (i 1).val + a.val) l.val)
  x1 : R2 (m := 256) (n := 256) (φ := .bf16) x1 (fun a l => q (256 * (i 1).val + a.val) (256 + l.val))
  x2 : R2 (m := 2048) (n := 256) (φ := .bf16) x2 (fun t l => k t.val l.val)
  x3 : R2 (m := 2048) (n := 256) (φ := .bf16) x3 (fun t l => k t.val (256 + l.val))
  x4 : R2 (m := 2048) (n := 256) (φ := .bf16) x4 (fun t l => v t.val l.val)
  x5 : R2 (m := 2048) (n := 256) (φ := .bf16) x5 (fun t l => v t.val (256 + l.val))
  x6 : R2 (m := 256) (n := 512) (φ := .bf16) x6 (fun a l => d (256 * (i 1).val + a.val) l.val)
  x7 : R2 (m := 256) (n := 512) (φ := .f32) x7 (fun a l => sR q k (l.val / 64) (256 * (i 1).val + a.val))

theorem stack_congr {q q' : Fin 256 → Fin 256 → ℝ} (h : ∀ a l, q a l = q' a l) : stack q = stack q' := by
  rw [show q = q' from funext fun a => funext fun l => h a l]

variable {x0 x1 x2 x3 x4 x5 x6 x7} (B : Blocks q k v d i x0 x1 x2 x3 x4 x5 x6 x7)
include B

omit B in
/-- A window of a row block, loaded. -/
theorem win_at {e : EltTy} {N : ℕ} {m : Memref sig .tc .vmem ⟨2, ![256, N]⟩ e} (hm : m.IsWhole) (x : (⟨2, ![256, N]⟩ : Shape).Idx → Elt Ideal e)
    (o : ℕ) {off : Fin 2 → ℕ} (inb : ∀ a, off a + S256x256.size a ≤ (⟨2, ![256, N]⟩ : Shape).size a) (h : off = ![0, o]) (ho : o + 256 ≤ N) (a b : Fin 256) :
    View.readAt (Elt Ideal) m.view (Rect.unit (s := ⟨2, ![256, N]⟩) off S256x256.size inb).toLoadRect (hm.unread x) (ix2 a b) = x (ix2 a ⟨o + b.val, by omega⟩) := by
  refine (ld_at (M := 256) (N := N) m.view (hm.unread x) inb 0 o h a b (by omega) (by omega)).trans ?_
  rw [hm.read_unread]
  simp only [zero_add]

omit B in
theorem winb_R {N : ℕ} {m : Memref sig .tc .vmem ⟨2, ![256, N]⟩ .bf16} (hm : m.IsWhole) {x : (⟨2, ![256, N]⟩ : Shape).Idx → Elt Ideal .bf16} {f : Fin 256 → Fin N → ℝ}
    (hx : R2 (m := 256) (n := N) (φ := .bf16) x f) (o : ℕ) {off : Fin 2 → ℕ} (inb : ∀ a, off a + S256x256.size a ≤ (⟨2, ![256, N]⟩ : Shape).size a) (h : off = ![0, o]) (ho : o + 256 ≤ N) :
    R2 (m := 256) (n := 256) (φ := .bf16) (View.readAt (Elt Ideal) m.view (Rect.unit (s := ⟨2, ![256, N]⟩) off S256x256.size inb).toLoadRect (hm.unread x)) (fun a l => f a ⟨o + l.val, by omega⟩) :=
  fun a b => (win_at hm x o inb h ho a b).trans (hx _ _)

omit B in
theorem winf_R {N : ℕ} {m : Memref sig .tc .vmem ⟨2, ![256, N]⟩ .f32} (hm : m.IsWhole) {x : (⟨2, ![256, N]⟩ : Shape).Idx → Elt Ideal .f32} {f : Fin 256 → Fin N → ℝ}
    (hx : R2 (m := 256) (n := N) (φ := .f32) x f) (o : ℕ) {off : Fin 2 → ℕ} (inb : ∀ a, off a + S256x256.size a ≤ (⟨2, ![256, N]⟩ : Shape).size a) (h : off = ![0, o]) (ho : o + 256 ≤ N) :
    R2 (m := 256) (n := 256) (φ := .f32) (View.readAt (Elt Ideal) m.view (Rect.unit (s := ⟨2, ![256, N]⟩) off S256x256.size inb).toLoadRect (hm.unread x)) (fun a l => f a ⟨o + l.val, by omega⟩) :=
  fun a b => (win_at hm x o inb h ho a b).trans (hx _ _)

theorem holds_env (g11 : BufTy.Contents (Elt Ideal) arg11.view.ty) (g12 : BufTy.Contents (Elt Ideal) arg12.view.ty)
    (h11 : R2 (m := 2048) (n := 512) (φ := .f32) (arg11.view.read (Elt Ideal) g11) G11)
    (h12 : R2 (m := 2048) (n := 512) (φ := .f32) (arg12.view.read (Elt Ideal) g12) G12) :
    Holds q k v d (env c i arg2 harg2 arg3 harg3 arg4 harg4 arg5 harg5 arg6 harg6 arg7 harg7 arg8 harg8 arg9 harg9 arg10 harg10 arg11 harg11 arg12 harg12 x0 x1 x2 x3 x4 x5 x6 x7 g11 g12) G11 G12 where
  q0 := by
    refine R2.congr (qs0_R (winb_R harg2 B.x0 0 inb_q rfl (by omega))) fun a b => congrFun (congrFun (stack_congr fun a l => ?_) a) b
    simp only [zero_add, mul_zero]; rfl
  d0 := by
    refine R2.congr (do0_R (winb_R harg8 B.x6 0 inb_l rfl (by omega))) fun a b => congrFun (congrFun (stack_congr fun a l => ?_) a) b
    simp only [zero_add, mul_zero]; rfl
  r0 := by
    refine C1.congr (rs0_R (winf_R harg9 B.x7 0 inb_l rfl (by omega))) (funext fun r => ?_)
    unfold Rt
    have e : (0 + 64 * (r.val / 256)) / 64 = 4 * 0 + r.val / 256 := by omega
    simp only [e]; rfl
  q1 := by
    refine R2.congr (qs1_R (winb_R harg3 B.x1 0 inb_q rfl (by omega))) fun a b => congrFun (congrFun (stack_congr fun a l => ?_) a) b
    simp only [zero_add, mul_one]; rfl
  d1 := by
    refine R2.congr (do1_R (winb_R harg8 B.x6 256 inb_r rfl (by omega))) fun a b => congrFun (congrFun (stack_congr fun a l => ?_) a) b
    simp only [mul_one]; rfl
  r1 := by
    refine C1.congr (rs1_R (winf_R harg9 B.x7 256 inb_r rfl (by omega))) (funext fun r => ?_)
    unfold Rt
    have e : (256 + 64 * (r.val / 256)) / 64 = 4 * 1 + r.val / 256 := by omega
    simp only [e]; rfl
  x2 := B.x2
  x3 := B.x3
  x4 := B.x4
  x5 := B.x5
  g11 := h11
  g12 := h12

theorem canon_o (w : FVec Ideal S256x512 .bf16) :
    VO0_8.read (Elt Ideal) (VO0_8.writes (Elt Ideal) VO0_8.junk [⟨Rect.unit (s := S256x512) ![0, 0] S256x512.size inb_o, w⟩]) = w := by
  rw [View.read_writes_junk_eq_canon]
  exact View.canon_cons_unit_zero (S := S256x512) (funext fun a => by match a with | ⟨0, _⟩ => rfl | ⟨1, _⟩ => rfl) _ _ _

section CaseB
variable (hc0 : ¬cond0_0 i) {xo9 : Vec Ideal S2048x512 .f32} {xo10 : Vec Ideal S2048x512 .f32}
  (h9 : R2 (m := 2048) (n := 512) (φ := .f32) xo9 G11) (h10 : R2 (m := 2048) (n := 512) (φ := .f32) xo10 G12)
include h9 h10

theorem holdsB : Holds q k v d (envB c i arg2 harg2 arg3 harg3 arg4 harg4 arg5 harg5 arg6 harg6 arg7 harg7 arg8 harg8 arg9 harg9 arg10 harg10 arg11 harg11 arg12 harg12 x0 x1 x2 x3 x4 x5 x6 x7 xo9 xo10) G11 G12 :=
  holds_env q k v d c i arg2 harg2 arg3 harg3 arg4 harg4 arg5 harg5 arg6 harg6 arg7 harg7 arg8 harg8 arg9 harg9 arg10 harg10 arg11 harg11 arg12 harg12 B _ _ (by rw [harg11.read_unread]; exact h9) (by rw [harg12.read_unread]; exact h10)

theorem outB_8 : R2 (m := 256) (n := 512) (φ := .bf16) (out0_B_8 c i arg2 harg2 arg3 harg3 arg4 harg4 arg5 harg5 arg6 harg6 arg7 harg7 arg8 harg8 arg9 harg9 arg10 harg10 arg11 harg11 arg12 harg12 hc0 x0 x1 x2 x3 x4 x5 x6 x7 xo9 xo10)
    (fun a l => WQ q k v d (256 * ((i 1).val + 1)) (256 * (i 1).val + a.val) l.val / 8) := by
  unfold out0_B_8
  rw [runB_8, canon_o q k v d i B]
  exact dq_R q k v d (holdsB q k v d c i arg2 harg2 arg3 harg3 arg4 harg4 arg5 harg5 arg6 harg6 arg7 harg7 arg8 harg8 arg9 harg9 arg10 harg10 arg11 harg11 arg12 harg12 B h9 h10)
theorem outB_9 : R2 (m := 2048) (n := 512) (φ := .f32) (out0_B_9 c i arg2 harg2 arg3 harg3 arg4 harg4 arg5 harg5 arg6 harg6 arg7 harg7 arg8 harg8 arg9 harg9 arg10 harg10 arg11 harg11 arg12 harg12 hc0 x0 x1 x2 x3 x4 x5 x6 x7 xo9 xo10) (fun s l => G11 s l + WK q k v d (i 1).val s.val l.val) := by
  unfold out0_B_9
  rw [runB_9]
  exact F11_R q k v d (holdsB q k v d c i arg2 harg2 arg3 harg3 arg4 harg4 arg5 harg5 arg6 harg6 arg7 harg7 arg8 harg8 arg9 harg9 arg10 harg10 arg11 harg11 arg12 harg12 B h9 h10)
theorem outB_10 : R2 (m := 2048) (n := 512) (φ := .f32) (out0_B_10 c i arg2 harg2 arg3 harg3 arg4 harg4 arg5 harg5 arg6 harg6 arg7 harg7 arg8 harg8 arg9 harg9 arg10 harg10 arg11 harg11 arg12 harg12 hc0 x0 x1 x2 x3 x4 x5 x6 x7 xo9 xo10) (fun s l => G12 s l + WV q k d (i 1).val s.val l.val) := by
  unfold out0_B_10
  rw [runB_10]
  exact F12_R q k v d (holdsB q k v d c i arg2 harg2 arg3 harg3 arg4 harg4 arg5 harg5 arg6 harg6 arg7 harg7 arg8 harg8 arg9 harg9 arg10 harg10 arg11 harg11 arg12 harg12 B h9 h10)
end CaseB

section CaseA
variable (ha : cond0_0 i)

omit B in
theorem zero_R (w : FVec Ideal S2048x512 .f32) (hw : ∀ y, w y = 0) (m : Memref sig .tc .vmem S2048x512 .f32) :
    R2 (m := 2048) (n := 512) (φ := .f32) (m.view.read (Elt Ideal) (m.view.writes (Elt Ideal) m.view.junk [⟨Rect.unit (s := S2048x512) ![0, 0] S2048x512.size inb_a, w⟩])) (fun _ _ => 0) := by
  intro a b
  rw [View.read_writes_junk_eq_canon, View.canon_cons_unit_zero (S := S2048x512) (funext fun a => by match a with | ⟨0, _⟩ => rfl | ⟨1, _⟩ => rfl)]
  rw [hw]; rfl

theorem holdsA : Holds q k v d (envA c i arg2 harg2 arg3 harg3 arg4 harg4 arg5 harg5 arg6 harg6 arg7 harg7 arg8 harg8 arg9 harg9 arg10 harg10 arg11 harg11 arg12 harg12 x0 x1 x2 x3 x4 x5 x6 x7) (fun _ _ => 0) (fun _ _ => 0) :=
  holds_env q k v d c i arg2 harg2 arg3 harg3 arg4 harg4 arg5 harg5 arg6 harg6 arg7 harg7 arg8 harg8 arg9 harg9 arg10 harg10 arg11 harg11 arg12 harg12 B _ _ (zero_R _ (fun y => by pointwise [k0_pay45]) arg11) (zero_R _ (fun y => by pointwise [k0_pay46]) arg12)

theorem outA_8 : R2 (m := 256) (n := 512) (φ := .bf16) (out0_A_8 c i arg2 harg2 arg3 harg3 arg4 harg4 arg5 harg5 arg6 harg6 arg7 harg7 arg8 harg8 arg9 harg9 arg10 harg10 arg11 harg11 arg12 harg12 ha x0 x1 x2 x3 x4 x5 x6 x7)
    (fun a l => WQ q k v d (256 * ((i 1).val + 1)) (256 * (i 1).val + a.val) l.val / 8) := by
  unfold out0_A_8
  rw [runA_8, canon_o q k v d i B]
  exact dq_R q k v d (holdsA q k v d c i arg2 harg2 arg3 harg3 arg4 harg4 arg5 harg5 arg6 harg6 arg7 harg7 arg8 harg8 arg9 harg9 arg10 harg10 arg11 harg11 arg12 harg12 B)
theorem outA_9 : R2 (m := 2048) (n := 512) (φ := .f32) (out0_A_9 c i arg2 harg2 arg3 harg3 arg4 harg4 arg5 harg5 arg6 harg6 arg7 harg7 arg8 harg8 arg9 harg9 arg10 harg10 arg11 harg11 arg12 harg12 ha x0 x1 x2 x3 x4 x5 x6 x7) (fun s l => WK q k v d (i 1).val s.val l.val) := by
  unfold out0_A_9
  rw [runA_9, Env.F11A_eq (envA c i arg2 harg2 arg3 harg3 arg4 harg4 arg5 harg5 arg6 harg6 arg7 harg7 arg8 harg8 arg9 harg9 arg10 harg10 arg11 harg11 arg12 harg12 x0 x1 x2 x3 x4 x5 x6 x7) arg11.view.junk zero11 rfl, View.read_writes_junk_eq_canon, ← View.read_writes_junk_eq_canon arg11.view, View.writes_append]
  exact R2.congr (F11_R q k v d (holdsA q k v d c i arg2 harg2 arg3 harg3 arg4 harg4 arg5 harg5 arg6 harg6 arg7 harg7 arg8 harg8 arg9 harg9 arg10 harg10 arg11 harg11 arg12 harg12 B)) fun a b => zero_add _
theorem outA_10 : R2 (m := 2048) (n := 512) (φ := .f32) (out0_A_10 c i arg2 harg2 arg3 harg3 arg4 harg4 arg5 harg5 arg6 harg6 arg7 harg7 arg8 harg8 arg9 harg9 arg10 harg10 arg11 harg11 arg12 harg12 ha x0 x1 x2 x3 x4 x5 x6 x7) (fun s l => WV q k d (i 1).val s.val l.val) := by
  unfold out0_A_10
  rw [runA_10, Env.F12A_eq (envA c i arg2 harg2 arg3 harg3 arg4 harg4 arg5 harg5 arg6 harg6 arg7 harg7 arg8 harg8 arg9 harg9 arg10 harg10 arg11 harg11 arg12 harg12 x0 x1 x2 x3 x4 x5 x6 x7) arg12.view.junk zero12 rfl, View.read_writes_junk_eq_canon, ← View.read_writes_junk_eq_canon arg12.view, View.writes_append]
  exact R2.congr (F12_R q k v d (holdsA q k v d c i arg2 harg2 arg3 harg3 arg4 harg4 arg5 harg5 arg6 harg6 arg7 harg7 arg8 harg8 arg9 harg9 arg10 harg10 arg11 harg11 arg12 harg12 B)) fun a b => zero_add _
end CaseA
end Holds
end Cert.KernelIdeal.Sb
-- ==== Proof.Entry.lean ====
module

public import proofs.«01_k».proof.Proof.RefGrad
public import proofs.«01_k».proof.Proof.Point
public import proofs.«01_k».proof.Proof.Gen.KernelIdeal.Value
public import Idealize.ShloMosaic.Lib.Claim

/-! What the region finds: the blocks of the projections and of the cotangent, and the row totals the host lines before
    it compute. -/

@[expose] public section

set_option maxRecDepth 16384

noncomputable section

namespace Cert.KernelIdeal.Sb

open Cert.KernelIdeal Cert.KernelIdeal.Gen
open Cert.ReferenceIdeal.Sb (bt R4 v23_0_R f0)
open Idealize.ShloMosaic Idealize.ShloMosaic.TcCoe Idealize.ShloMosaic.Pointwise
open Idealize.SL Idealize.SL.Sem
open Finset

variable (m : (ℓ : Loc nD τ sig) → Buf (Elt Ideal) ℓ)

/-- The row totals, spread over the columns of their heads. -/
theorem V_main_v23 (c : Dev nD) : V m c main_v23 =
    shapeCast S4096x512 (broadcastInDim S2x2048x8x64 ![0, 1, 2, 3] bcast_S2x2048x8x1_S2x2048x8x64_0_1_2_3
      (broadcastInDim S2x2048x8x1 ![0, 1, 2] bcast_S2x2048x8_S2x2048x8x1_0_1_2
        (transpose S2x2048x8 [0, 2, 1]
          (Host.reduceAdd (F := Ideal) (φ := .f32) (Cert.ReferenceIdeal.Read.val_main_v23_0 (F := Ideal) (m ((c : Thread nD τ).loc main_arg0)))
            (constant S_ .f32 0x00000000#32) reducesTo_S2x8x2048x2048_S2x8x2048_d3 h_S_)
          transposes_S2x8x2048_S2x2048x8_0_2_1))) shapeCasts_S2x2048x8x64_S4096x512 := by
  entry_read
  rfl

variable (c : Dev nD) {p d : ℕ → ℕ → ℝ}

/-- Columns `o …` of the reals `p`. -/
def at_ (p : ℕ → ℕ → ℝ) (o : ℕ) : ℕ → ℕ → ℝ := fun r l => p r (o + l)

variable (hx : ∀ j : S4096x5888.Idx, 768 ≤ (j 1).val → (j 1).val < 2304 →
    (m ((c : Thread nD τ).loc main_arg0) : (⟨S4096x5888, .bf16⟩ : BufTy).Contents (Elt Ideal)) j = ((p (j 0).val (j 1).val : ℝ) : EReal))
  (hd : ∀ j : S4096x512.Idx,
    (m ((c : Thread nD τ).loc main_arg1) : (⟨S4096x512, .bf16⟩ : BufTy).Contents (Elt Ideal)) j = ((d (j 0).val (j 1).val : ℝ) : EReal))

section Slices
variable {x0 : (⟨S4096x5888, .bf16⟩ : BufTy).Contents (Elt Ideal)}
  (h : ∀ j : S4096x5888.Idx, 768 ≤ (j 1).val → (j 1).val < 2304 → x0 j = ((p (j 0).val (j 1).val : ℝ) : EReal))
include h

theorem slice_q (i : S4096x512.Idx) : Cert.ReferenceIdeal.Read.val_main_v0 (F := Ideal) x0 i = ((at_ p 768 (i 0).val (i 1).val : ℝ) : EReal) := by
  have h1 : (i 1).val < 512 := (i 1).isLt
  rw [Cert.ReferenceIdeal.Read.val_main_v0_apply]
  refine (h _ ?_ ?_).trans ?_
  · show 768 ≤ _; dsimp only [Cert.ReferenceIdeal.Read.idx_main_v0]; omega
  · show _ < 2304; dsimp only [Cert.ReferenceIdeal.Read.idx_main_v0]; omega
  · refine congrArg Real.toEReal ?_
    unfold at_
    show p _ _ = p _ _
    congr 1 <;> dsimp only [Cert.ReferenceIdeal.Read.idx_main_v0] <;> omega

theorem slice_k (i : S4096x512.Idx) : Cert.ReferenceIdeal.Read.val_main_v3 (F := Ideal) x0 i = ((at_ p 1280 (i 0).val (i 1).val : ℝ) : EReal) := by
  have h1 : (i 1).val < 512 := (i 1).isLt
  rw [Cert.ReferenceIdeal.Read.val_main_v3_apply]
  refine (h _ ?_ ?_).trans ?_
  · show 768 ≤ _; dsimp only [Cert.ReferenceIdeal.Read.idx_main_v3]; omega
  · show _ < 2304; dsimp only [Cert.ReferenceIdeal.Read.idx_main_v3]; omega
  · refine congrArg Real.toEReal ?_
    unfold at_
    show p _ _ = p _ _
    congr 1 <;> dsimp only [Cert.ReferenceIdeal.Read.idx_main_v3] <;> omega

theorem slice_v (i : S4096x512.Idx) : Cert.ReferenceIdeal.Read.val_main_v6 (F := Ideal) x0 i = ((at_ p 1792 (i 0).val (i 1).val : ℝ) : EReal) := by
  have h1 : (i 1).val < 512 := (i 1).isLt
  rw [Cert.ReferenceIdeal.Read.val_main_v6_apply]
  refine (h _ ?_ ?_).trans ?_
  · show 768 ≤ _; dsimp only [Cert.ReferenceIdeal.Read.idx_main_v6]; omega
  · show _ < 2304; dsimp only [Cert.ReferenceIdeal.Read.idx_main_v6]; omega
  · refine congrArg Real.toEReal ?_
    unfold at_
    show p _ _ = p _ _
    congr 1 <;> dsimp only [Cert.ReferenceIdeal.Read.idx_main_v6] <;> omega
end Slices

/-- A vector over sequences, heads and rows, put rows first and spread over the columns of the heads, read at an index. -/
theorem spread_R (x : FVec Ideal S2x8x2048 .f32) (f : ℕ → ℕ → ℕ → ℝ)
    (h : ∀ j, x j = ((f (j 0).val (j 1).val (j 2).val : ℝ) : EReal)) (i : S4096x512.Idx) :
    shapeCast S4096x512 (broadcastInDim S2x2048x8x64 ![0, 1, 2, 3] bcast_S2x2048x8x1_S2x2048x8x64_0_1_2_3
      (broadcastInDim S2x2048x8x1 ![0, 1, 2] bcast_S2x2048x8_S2x2048x8x1_0_1_2
        (transpose S2x2048x8 [0, 2, 1] x transposes_S2x8x2048_S2x2048x8_0_2_1))) shapeCasts_S2x2048x8x64_S4096x512 i
      = ((f ((i 0).val / 2048) ((i 1).val / 64) ((i 0).val % 2048) : ℝ) : EReal) := by
  have h0 : (i 0).val < 4096 := (i 0).isLt
  have h1 : (i 1).val < 512 := (i 1).isLt
  let j4 : S2x2048x8x64.Idx := ix4 ⟨(i 0).val / 2048, by omega⟩ ⟨(i 0).val % 2048, by omega⟩ ⟨(i 1).val / 64, by omega⟩ ⟨(i 1).val % 64, by omega⟩
  let j41 : S2x2048x8x1.Idx := ix4 ⟨(i 0).val / 2048, by omega⟩ ⟨(i 0).val % 2048, by omega⟩ ⟨(i 1).val / 64, by omega⟩ ⟨0, by omega⟩
  let j3 : S2x2048x8.Idx := ix3 ⟨(i 0).val / 2048, by omega⟩ ⟨(i 0).val % 2048, by omega⟩ ⟨(i 1).val / 64, by omega⟩
  let j3' : S2x8x2048.Idx := ix3 ⟨(i 0).val / 2048, by omega⟩ ⟨(i 1).val / 64, by omega⟩ ⟨(i 0).val % 2048, by omega⟩
  refine (shapeCast_apply _ shapeCasts_S2x2048x8x64_S4096x512 i j4 ?_).trans ?_
  · rewrite [Shape.rowMajor_val_four, Shape.rowMajor_val_two]
    show (((i 0).val / 2048 * 2048 + (i 0).val % 2048) * 8 + (i 1).val / 64) * 64 + (i 1).val % 64 = (i 0).val * 512 + (i 1).val
    omega
  refine (broadcastInDim_apply _ bcast_S2x2048x8x1_S2x2048x8x64_0_1_2_3 _ j4 j41 ?_).trans ?_
  · intro a
    match a with
    | ⟨0, _⟩ => rfl
    | ⟨1, _⟩ => rfl
    | ⟨2, _⟩ => rfl
    | ⟨3, _⟩ => rfl
  refine (broadcastInDim_apply _ bcast_S2x2048x8_S2x2048x8x1_0_1_2 _ j41 j3 ?_).trans ?_
  · intro a
    match a with
    | ⟨0, _⟩ => rfl
    | ⟨1, _⟩ => rfl
    | ⟨2, _⟩ => rfl
  refine (transpose_apply [0, 2, 1] x transposes_S2x8x2048_S2x2048x8_0_2_1 j3 j3' ?_).trans ?_
  · intro a
    match a with
    | ⟨0, _⟩ => rfl
    | ⟨1, _⟩ => rfl
    | ⟨2, _⟩ => rfl
  exact h j3'

include hx

theorem V23_R (i : S4096x512.Idx) : (V m c main_v23 : (⟨S4096x512, .f32⟩ : BufTy).Contents (Elt Ideal)) i
    = ((sR (bt (at_ p 768) ((i 0).val / 2048)) (bt (at_ p 1280) ((i 0).val / 2048)) ((i 1).val / 64) ((i 0).val % 2048) : ℝ) : EReal) := by
  rw [V_main_v23]
  refine spread_R _ (fun b h t => sR (bt (at_ p 768) b) (bt (at_ p 1280) b) h t) (fun j => ?_) i
  have hL := v23_0_R (slice_q hx) (slice_k hx)
  refine Eq.trans (show _ = Ideal.hostReduceAdd reducesTo_S2x8x2048x2048_S2x8x2048_d3 _ _ j from rfl) ?_
  refine (Ideal.hostReduceAdd_r4_a3 (n0 := 2) (n1 := 8) (n2 := 2048) (n3 := 2048) reducesTo_S2x8x2048x2048_S2x8x2048_d3 _ _ j).trans ?_
  rw [show (constant (F := Ideal) S_ .f32 0x00000000#32 (Shape.Idx.first h_S_) : EReal) = 0 from f0, zero_add]
  unfold sR
  rw [Finset.sum_range, coe_sum]
  exact Finset.sum_congr rfl fun k _ => hL _

end Cert.KernelIdeal.Sb
-- ==== Proof.Windows.lean ====
module

public import proofs.«01_k».proof.Proof.Entry

/-! The windows: which block of its array each grid point reads or writes, and what the blocks it reads hold. -/

@[expose] public section

set_option maxRecDepth 16384

noncomputable section

namespace Cert.KernelIdeal.Sb

open Cert.KernelIdeal Cert.KernelIdeal.Gen
open Cert.ReferenceIdeal.Sb (bt R4 v23_0_R f0)
open Idealize.ShloMosaic Idealize.ShloMosaic.TcCoe Idealize.ShloMosaic.Pointwise
open Idealize.SL Idealize.SL.Sem
open Finset

theorem N16 : grid0.N = 16 := by decide +kernel
theorem row_of : ∀ t : Fin grid0.N, (grid0.coords t 1).val = t.val % 8 := by decide +kernel

theorem ix_0 : ∀ t : Fin grid0.N, win0_0.index t 0 = t.val ∧ win0_0.index t 1 = 3 := by decide +kernel
theorem ix_1 : ∀ t : Fin grid0.N, win0_1.index t 0 = t.val ∧ win0_1.index t 1 = 4 := by decide +kernel
theorem ix_2 : ∀ t : Fin grid0.N, win0_2.index t 0 = t.val / 8 ∧ win0_2.index t 1 = 5 := by decide +kernel
theorem ix_3 : ∀ t : Fin grid0.N, win0_3.index t 0 = t.val / 8 ∧ win0_3.index t 1 = 6 := by decide +kernel
theorem ix_4 : ∀ t : Fin grid0.N, win0_4.index t 0 = t.val / 8 ∧ win0_4.index t 1 = 7 := by decide +kernel
theorem ix_5 : ∀ t : Fin grid0.N, win0_5.index t 0 = t.val / 8 ∧ win0_5.index t 1 = 8 := by decide +kernel
theorem ix_6 : ∀ t : Fin grid0.N, win0_6.index t 0 = t.val ∧ win0_6.index t 1 = 0 := by decide +kernel
theorem ix_7 : ∀ t : Fin grid0.N, win0_7.index t 0 = t.val ∧ win0_7.index t 1 = 0 := by decide +kernel
theorem ix_8 : ∀ t : Fin grid0.N, win0_8.index t 0 = t.val ∧ win0_8.index t 1 = 0 := by decide +kernel
theorem ix_9 : ∀ t : Fin grid0.N, win0_9.index t 0 = t.val / 8 ∧ win0_9.index t 1 = 0 := by decide +kernel
theorem ix_10 : ∀ t : Fin grid0.N, win0_10.index t 0 = t.val / 8 ∧ win0_10.index t 1 = 0 := by decide +kernel

variable (m : (ℓ : Loc nD τ sig) → Buf (Elt Ideal) ℓ) (c : Dev nD) (t : Fin cfg0.N)

theorem iblk_0 (a : Fin 256) (l : Fin 256) (j : S4096x5888.Idx) (h0 : (j 0).val = t.val * 256 + a.val) (h1 : (j 1).val = 768 + l.val) :
    (iblk m c 0 t : Vec Ideal S256x256 .bf16) (ix2 a l) = (V m c main_arg0 : (⟨S4096x5888, .bf16⟩ : BufTy).Contents (Elt Ideal)) j := by
  have hi := ix_0 t
  unfold iblk
  rw [View.read_apply]
  show (V m c main_arg0 : (⟨S4096x5888, .bf16⟩ : BufTy).Contents (Elt Ideal)) _ = (V m c main_arg0 : (⟨S4096x5888, .bf16⟩ : BufTy).Contents (Elt Ideal)) _
  generalize (V m c main_arg0 : (⟨S4096x5888, .bf16⟩ : BufTy).Contents (Elt Ideal)) = y
  congr 1
  funext b
  apply Fin.ext
  match b with
  | ⟨0, _⟩ => show win0_0.index t 0 * 256 + 1 * a.val = (j 0).val; rw [hi.1]; omega
  | ⟨1, _⟩ => show win0_0.index t 1 * 256 + 1 * l.val = (j 1).val; rw [hi.2]; omega

theorem iblk_1 (a : Fin 256) (l : Fin 256) (j : S4096x5888.Idx) (h0 : (j 0).val = t.val * 256 + a.val) (h1 : (j 1).val = 1024 + l.val) :
    (iblk m c 1 t : Vec Ideal S256x256 .bf16) (ix2 a l) = (V m c main_arg0 : (⟨S4096x5888, .bf16⟩ : BufTy).Contents (Elt Ideal)) j := by
  have hi := ix_1 t
  unfold iblk
  rw [View.read_apply]
  show (V m c main_arg0 : (⟨S4096x5888, .bf16⟩ : BufTy).Contents (Elt Ideal)) _ = (V m c main_arg0 : (⟨S4096x5888, .bf16⟩ : BufTy).Contents (Elt Ideal)) _
  generalize (V m c main_arg0 : (⟨S4096x5888, .bf16⟩ : BufTy).Contents (Elt Ideal)) = y
  congr 1
  funext b
  apply Fin.ext
  match b with
  | ⟨0, _⟩ => show win0_1.index t 0 * 256 + 1 * a.val = (j 0).val; rw [hi.1]; omega
  | ⟨1, _⟩ => show win0_1.index t 1 * 256 + 1 * l.val = (j 1).val; rw [hi.2]; omega

theorem iblk_2 (a : Fin 2048) (l : Fin 256) (j : S4096x5888.Idx) (h0 : (j 0).val = t.val / 8 * 2048 + a.val) (h1 : (j 1).val = 1280 + l.val) :
    (iblk m c 2 t : Vec Ideal S2048x256 .bf16) (ix2 a l) = (V m c main_arg0 : (⟨S4096x5888, .bf16⟩ : BufTy).Contents (Elt Ideal)) j := by
  have hi := ix_2 t
  unfold iblk
  rw [View.read_apply]
  show (V m c main_arg0 : (⟨S4096x5888, .bf16⟩ : BufTy).Contents (Elt Ideal)) _ = (V m c main_arg0 : (⟨S4096x5888, .bf16⟩ : BufTy).Contents (Elt Ideal)) _
  generalize (V m c main_arg0 : (⟨S4096x5888, .bf16⟩ : BufTy).Contents (Elt Ideal)) = y
  congr 1
  funext b
  apply Fin.ext
  match b with
  | ⟨0, _⟩ => show win0_2.index t 0 * 2048 + 1 * a.val = (j 0).val; rw [hi.1]; omega
  | ⟨1, _⟩ => show win0_2.index t 1 * 256 + 1 * l.val = (j 1).val; rw [hi.2]; omega

theorem iblk_3 (a : Fin 2048) (l : Fin 256) (j : S4096x5888.Idx) (h0 : (j 0).val = t.val / 8 * 2048 + a.val) (h1 : (j 1).val = 1536 + l.val) :
    (iblk m c 3 t : Vec Ideal S2048x256 .bf16) (ix2 a l) = (V m c main_arg0 : (⟨S4096x5888, .bf16⟩ : BufTy).Contents (Elt Ideal)) j := by
  have hi := ix_3 t
  unfold iblk
  rw [View.read_apply]
  show (V m c main_arg0 : (⟨S4096x5888, .bf16⟩ : BufTy).Contents (Elt Ideal)) _ = (V m c main_arg0 : (⟨S4096x5888, .bf16⟩ : BufTy).Contents (Elt Ideal)) _
  generalize (V m c main_arg0 : (⟨S4096x5888, .bf16⟩ : BufTy).Contents (Elt Ideal)) = y
  congr 1
  funext b
  apply Fin.ext
  match b with
  | ⟨0, _⟩ => show win0_3.index t 0 * 2048 + 1 * a.val = (j 0).val; rw [hi.1]; omega
  | ⟨1, _⟩ => show win0_3.index t 1 * 256 + 1 * l.val = (j 1).val; rw [hi.2]; omega

theorem iblk_4 (a : Fin 2048) (l : Fin 256) (j : S4096x5888.Idx) (h0 : (j 0).val = t.val / 8 * 2048 + a.val) (h1 : (j 1).val = 1792 + l.val) :
    (iblk m c 4 t : Vec Ideal S2048x256 .bf16) (ix2 a l) = (V m c main_arg0 : (⟨S4096x5888, .bf16⟩ : BufTy).Contents (Elt Ideal)) j := by
  have hi := ix_4 t
  unfold iblk
  rw [View.read_apply]
  show (V m c main_arg0 : (⟨S4096x5888, .bf16⟩ : BufTy).Contents (Elt Ideal)) _ = (V m c main_arg0 : (⟨S4096x5888, .bf16⟩ : BufTy).Contents (Elt Ideal)) _
  generalize (V m c main_arg0 : (⟨S4096x5888, .bf16⟩ : BufTy).Contents (Elt Ideal)) = y
  congr 1
  funext b
  apply Fin.ext
  match b with
  | ⟨0, _⟩ => show win0_4.index t 0 * 2048 + 1 * a.val = (j 0).val; rw [hi.1]; omega
  | ⟨1, _⟩ => show win0_4.index t 1 * 256 + 1 * l.val = (j 1).val; rw [hi.2]; omega

theorem iblk_5 (a : Fin 2048) (l : Fin 256) (j : S4096x5888.Idx) (h0 : (j 0).val = t.val / 8 * 2048 + a.val) (h1 : (j 1).val = 2048 + l.val) :
    (iblk m c 5 t : Vec Ideal S2048x256 .bf16) (ix2 a l) = (V m c main_arg0 : (⟨S4096x5888, .bf16⟩ : BufTy).Contents (Elt Ideal)) j := by
  have hi := ix_5 t
  unfold iblk
  rw [View.read_apply]
  show (V m c main_arg0 : (⟨S4096x5888, .bf16⟩ : BufTy).Contents (Elt Ideal)) _ = (V m c main_arg0 : (⟨S4096x5888, .bf16⟩ : BufTy).Contents (Elt Ideal)) _
  generalize (V m c main_arg0 : (⟨S4096x5888, .bf16⟩ : BufTy).Contents (Elt Ideal)) = y
  congr 1
  funext b
  apply Fin.ext
  match b with
  | ⟨0, _⟩ => show win0_5.index t 0 * 2048 + 1 * a.val = (j 0).val; rw [hi.1]; omega
  | ⟨1, _⟩ => show win0_5.index t 1 * 256 + 1 * l.val = (j 1).val; rw [hi.2]; omega

theorem iblk_6 (a : Fin 256) (l : Fin 512) (j : S4096x512.Idx) (h0 : (j 0).val = t.val * 256 + a.val) (h1 : (j 1).val = 0 + l.val) :
    (iblk m c 6 t : Vec Ideal S256x512 .bf16) (ix2 a l) = (V m c main_arg1 : (⟨S4096x512, .bf16⟩ : BufTy).Contents (Elt Ideal)) j := by
  have hi := ix_6 t
  unfold iblk
  rw [View.read_apply]
  show (V m c main_arg1 : (⟨S4096x512, .bf16⟩ : BufTy).Contents (Elt Ideal)) _ = (V m c main_arg1 : (⟨S4096x512, .bf16⟩ : BufTy).Contents (Elt Ideal)) _
  generalize (V m c main_arg1 : (⟨S4096x512, .bf16⟩ : BufTy).Contents (Elt Ideal)) = y
  congr 1
  funext b
  apply Fin.ext
  match b with
  | ⟨0, _⟩ => show win0_6.index t 0 * 256 + 1 * a.val = (j 0).val; rw [hi.1]; omega
  | ⟨1, _⟩ => show win0_6.index t 1 * 512 + 1 * l.val = (j 1).val; rw [hi.2]; omega

theorem iblk_7 (a : Fin 256) (l : Fin 512) (j : S4096x512.Idx) (h0 : (j 0).val = t.val * 256 + a.val) (h1 : (j 1).val = 0 + l.val) :
    (iblk m c 7 t : Vec Ideal S256x512 .f32) (ix2 a l) = (V m c main_v23 : (⟨S4096x512, .f32⟩ : BufTy).Contents (Elt Ideal)) j := by
  have hi := ix_7 t
  unfold iblk
  rw [View.read_apply]
  show (V m c main_v23 : (⟨S4096x512, .f32⟩ : BufTy).Contents (Elt Ideal)) _ = (V m c main_v23 : (⟨S4096x512, .f32⟩ : BufTy).Contents (Elt Ideal)) _
  generalize (V m c main_v23 : (⟨S4096x512, .f32⟩ : BufTy).Contents (Elt Ideal)) = y
  congr 1
  funext b
  apply Fin.ext
  match b with
  | ⟨0, _⟩ => show win0_7.index t 0 * 256 + 1 * a.val = (j 0).val; rw [hi.1]; omega
  | ⟨1, _⟩ => show win0_7.index t 1 * 512 + 1 * l.val = (j 1).val; rw [hi.2]; omega

variable {p d : ℕ → ℕ → ℝ}
  (hx : ∀ j : S4096x5888.Idx, 768 ≤ (j 1).val → (j 1).val < 2304 →
    (m ((c : Thread nD τ).loc main_arg0) : (⟨S4096x5888, .bf16⟩ : BufTy).Contents (Elt Ideal)) j = ((p (j 0).val (j 1).val : ℝ) : EReal))
  (hd : ∀ j : S4096x512.Idx,
    (m ((c : Thread nD τ).loc main_arg1) : (⟨S4096x512, .bf16⟩ : BufTy).Contents (Elt Ideal)) j = ((d (j 0).val (j 1).val : ℝ) : EReal))
include hx

theorem arg0_R (r l : ℕ) (hr : r < 4096) (h0 : 768 ≤ l) (h1 : l < 2304) :
    (V m c main_arg0 : (⟨S4096x5888, .bf16⟩ : BufTy).Contents (Elt Ideal)) (ix2 ⟨r, hr⟩ ⟨l, by omega⟩) = ((p r l : ℝ) : EReal) := by
  rw [V_main_arg0]
  exact hx (ix2 ⟨r, hr⟩ ⟨l, by omega⟩) h0 h1

include hd

/-- The blocks of a grid point hold the reals of its sequence. -/
theorem blocks_R : Blocks (bt (at_ p 768) (t.val / 8)) (bt (at_ p 1280) (t.val / 8)) (bt (at_ p 1792) (t.val / 8)) (bt d (t.val / 8)) (grid0.coords t)
    (iblk m c 0 t) (iblk m c 1 t) (iblk m c 2 t) (iblk m c 3 t) (iblk m c 4 t) (iblk m c 5 t) (iblk m c 6 t) (iblk m c 7 t) := by
  have ht : t.val < 16 := lt_of_lt_of_eq t.isLt N16
  have hr := row_of t
  constructor
  · intro a l
    have ha := a.isLt
    have hl := l.isLt
    refine (iblk_0 m c t a l (ix2 ⟨t.val * 256 + a.val, by omega⟩ ⟨768 + l.val, by omega⟩) rfl rfl).trans ?_
    refine (arg0_R m c hx _ _ _ (by omega) (by omega)).trans ?_
    refine congrArg Real.toEReal ?_
    unfold bt at_
    congr 1 <;> omega
  · intro a l
    have ha := a.isLt
    have hl := l.isLt
    refine (iblk_1 m c t a l (ix2 ⟨t.val * 256 + a.val, by omega⟩ ⟨1024 + l.val, by omega⟩) rfl rfl).trans ?_
    refine (arg0_R m c hx _ _ _ (by omega) (by omega)).trans ?_
    refine congrArg Real.toEReal ?_
    unfold bt at_
    congr 1 <;> omega
  · intro a l
    have ha := a.isLt
    have hl := l.isLt
    refine (iblk_2 m c t a l (ix2 ⟨t.val / 8 * 2048 + a.val, by omega⟩ ⟨1280 + l.val, by omega⟩) rfl rfl).trans ?_
    refine (arg0_R m c hx _ _ _ (by omega) (by omega)).trans ?_
    refine congrArg Real.toEReal ?_
    unfold bt at_
    congr 1 <;> omega
  · intro a l
    have ha := a.isLt
    have hl := l.isLt
    refine (iblk_3 m c t a l (ix2 ⟨t.val / 8 * 2048 + a.val, by omega⟩ ⟨1536 + l.val, by omega⟩) rfl rfl).trans ?_
    refine (arg0_R m c hx _ _ _ (by omega) (by omega)).trans ?_
    refine congrArg Real.toEReal ?_
    unfold bt at_
    congr 1 <;> omega
  · intro a l
    have ha := a.isLt
    have hl := l.isLt
    refine (iblk_4 m c t a l (ix2 ⟨t.val / 8 * 2048 + a.val, by omega⟩ ⟨1792 + l.val, by omega⟩) rfl rfl).trans ?_
    refine (arg0_R m c hx _ _ _ (by omega) (by omega)).trans ?_
    refine congrArg Real.toEReal ?_
    unfold bt at_
    congr 1 <;> omega
  · intro a l
    have ha := a.isLt
    have hl := l.isLt
    refine (iblk_5 m c t a l (ix2 ⟨t.val / 8 * 2048 + a.val, by omega⟩ ⟨2048 + l.val, by omega⟩) rfl rfl).trans ?_
    refine (arg0_R m c hx _ _ _ (by omega) (by omega)).trans ?_
    refine congrArg Real.toEReal ?_
    unfold bt at_
    congr 1 <;> omega
  · intro a l
    have ha := a.isLt
    have hl := l.isLt
    refine (iblk_6 m c t a l (ix2 ⟨t.val * 256 + a.val, by omega⟩ ⟨l.val, by omega⟩) rfl (Nat.zero_add _).symm).trans ?_
    rw [V_main_arg1]
    refine (hd _).trans ?_
    refine congrArg Real.toEReal ?_
    unfold bt
    show d (t.val * 256 + a.val) l.val = _
    congr 1; omega
  · intro a l
    have ha := a.isLt
    have hl := l.isLt
    refine (iblk_7 m c t a l (ix2 ⟨t.val * 256 + a.val, by omega⟩ ⟨l.val, by omega⟩) rfl (Nat.zero_add _).symm).trans ?_
    refine (V23_R m c hx _).trans ?_
    refine congrArg Real.toEReal ?_
    show sR (bt (at_ p 768) ((t.val * 256 + a.val) / 2048)) (bt (at_ p 1280) ((t.val * 256 + a.val) / 2048)) (l.val / 64) ((t.val * 256 + a.val) % 2048) = _
    rw [show (t.val * 256 + a.val) / 2048 = t.val / 8 by omega, show (t.val * 256 + a.val) % 2048 = 256 * (grid0.coords t 1).val + a.val by omega]

end Cert.KernelIdeal.Sb
-- ==== Proof.Result.lean ====
module

public import proofs.«01_k».proof.Proof.Windows

/-! The three result arrays of the kernel: row blocks accumulate over the points of a sequence, and the last point of a
    sequence writes the gradients of its keys and values back. -/

@[expose] public section

set_option maxRecDepth 16384

noncomputable section

namespace Cert.KernelIdeal.Sb

open Cert.KernelIdeal Cert.KernelIdeal.Gen
open Cert.ReferenceIdeal.Sb (bt R4 v23_0_R f0)
open Idealize.ShloMosaic Idealize.ShloMosaic.TcCoe Idealize.ShloMosaic.Pointwise
open Idealize.SL Idealize.SL.Sem
open Finset

theorem sum_blocks (f : ℕ → ℝ) (n : ℕ) : ∑ i ∈ range n, ∑ ρ ∈ range 256, f (256 * i + ρ) = ∑ t ∈ range (256 * n), f t := by
  induction n with
  | zero => simp
  | succ n ih => rw [sum_range_succ, ih, show 256 * (n + 1) = 256 * n + 256 by ring, sum_range_add]

section Sums
variable (q k v d : ℕ → ℕ → ℝ)

theorem WK_all (s c : ℕ) : ∑ i ∈ range 8, WK q k v d i s c = ∑ t ∈ range 2048, sZ q k v d (c / 64) t s * (q t c / 8) :=
  sum_blocks (fun t => sZ q k v d (c / 64) t s * (q t c / 8)) 8

theorem WV_all (s c : ℕ) : ∑ i ∈ range 8, WV q k d i s c = ∑ t ∈ range 2048, sA q k (c / 64) t s * d t c :=
  sum_blocks (fun t => sA q k (c / 64) t s * d t c) 8

theorem WQ_all (n t c : ℕ) (h : t ≤ n) (hn : n ≤ 2048) : WQ q k v d n t c = ∑ s ∈ range 2048, sZ q k v d (c / 64) t s * k s c := by
  unfold WQ
  refine sum_subset (range_mono hn) fun s _ hs => ?_
  rw [sZ_zero q k v d _ _ _ (by have := mt mem_range.2 hs; omega), zero_mul]
end Sums

variable (p d : ℕ → ℕ → ℝ)

/-- The gradient with respect to the queries, as the array that holds it. -/
def DQ (i : S4096x512.Idx) : EReal :=
  (((∑ s ∈ range 2048, sZ (bt (at_ p 768) ((i 0).val / 2048)) (bt (at_ p 1280) ((i 0).val / 2048)) (bt (at_ p 1792) ((i 0).val / 2048)) (bt d ((i 0).val / 2048)) ((i 1).val / 64) ((i 0).val % 2048) s
        * bt (at_ p 1280) ((i 0).val / 2048) s (i 1).val) / 8 : ℝ) : EReal)

/-- The gradient with respect to the keys, as the array that holds it. -/
def DK (i : S4096x512.Idx) : EReal :=
  ((∑ t ∈ range 2048, sZ (bt (at_ p 768) ((i 0).val / 2048)) (bt (at_ p 1280) ((i 0).val / 2048)) (bt (at_ p 1792) ((i 0).val / 2048)) (bt d ((i 0).val / 2048)) ((i 1).val / 64) t ((i 0).val % 2048)
        * (bt (at_ p 768) ((i 0).val / 2048) t (i 1).val / 8) : ℝ) : EReal)

/-- The gradient with respect to the values, as the array that holds it. -/
def DV (i : S4096x512.Idx) : EReal :=
  ((∑ t ∈ range 2048, sA (bt (at_ p 768) ((i 0).val / 2048)) (bt (at_ p 1280) ((i 0).val / 2048)) ((i 1).val / 64) t ((i 0).val % 2048)
        * bt d ((i 0).val / 2048) t (i 1).val : ℝ) : EReal)

variable (m : (ℓ : Loc nD τ sig) → Buf (Elt Ideal) ℓ) (c : Dev nD)
variable {p d}
variable
  (hx : ∀ j : S4096x5888.Idx, 768 ≤ (j 1).val → (j 1).val < 2304 →
    (m ((c : Thread nD τ).loc main_arg0) : (⟨S4096x5888, .bf16⟩ : BufTy).Contents (Elt Ideal)) j = ((p (j 0).val (j 1).val : ℝ) : EReal))
  (hd : ∀ j : S4096x512.Idx,
    (m ((c : Thread nD τ).loc main_arg1) : (⟨S4096x512, .bf16⟩ : BufTy).Contents (Elt Ideal)) j = ((d (j 0).val (j 1).val : ℝ) : EReal))
include hx hd

theorem first_8 (t : Fin cfg0.N) (h0 : t.val % 8 = 0) : R2 (m := 256) (n := 512) (φ := .bf16) (outsAt0 m c t.val t.isLt).1 (fun a l => WQ (bt (at_ p 768) (t.val / 8)) (bt (at_ p 1280) (t.val / 8)) (bt (at_ p 1792) (t.val / 8)) (bt d (t.val / 8)) (256 * ((grid0.coords t 1).val + 1)) (256 * (grid0.coords t 1).val + a.val) l.val / 8) := by
  rw [outsAt0_A m c t h0]
  dsimp only
  exact outA_8 _ _ _ _ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (blocks_R m c t hx hd) ((hcond0_0 t).mpr h0)

theorem first_9 (t : Fin cfg0.N) (h0 : t.val % 8 = 0) : R2 (m := 2048) (n := 512) (φ := .f32) (outsAt0 m c t.val t.isLt).2.1 (fun s l => WK (bt (at_ p 768) (t.val / 8)) (bt (at_ p 1280) (t.val / 8)) (bt (at_ p 1792) (t.val / 8)) (bt d (t.val / 8)) (grid0.coords t 1).val s.val l.val) := by
  rw [outsAt0_A m c t h0]
  dsimp only
  exact outA_9 _ _ _ _ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (blocks_R m c t hx hd) ((hcond0_0 t).mpr h0)

theorem first_10 (t : Fin cfg0.N) (h0 : t.val % 8 = 0) : R2 (m := 2048) (n := 512) (φ := .f32) (outsAt0 m c t.val t.isLt).2.2 (fun s l => WV (bt (at_ p 768) (t.val / 8)) (bt (at_ p 1280) (t.val / 8)) (bt d (t.val / 8)) (grid0.coords t 1).val s.val l.val) := by
  rw [outsAt0_A m c t h0]
  dsimp only
  exact outA_10 _ _ _ _ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (blocks_R m c t hx hd) ((hcond0_0 t).mpr h0)

theorem next_8 (t : Fin cfg0.N) (h0 : ¬t.val % 8 = 0) {G11 G12 : Fin 2048 → Fin 512 → ℝ}
    (h9 : R2 (m := 2048) (n := 512) (φ := .f32) (outsAt0 m c (t.val - 1) (Nat.lt_of_le_of_lt (Nat.sub_le _ _) t.isLt)).2.1 G11)
    (h10 : R2 (m := 2048) (n := 512) (φ := .f32) (outsAt0 m c (t.val - 1) (Nat.lt_of_le_of_lt (Nat.sub_le _ _) t.isLt)).2.2 G12) :
    R2 (m := 256) (n := 512) (φ := .bf16) (outsAt0 m c t.val t.isLt).1 (fun a l => WQ (bt (at_ p 768) (t.val / 8)) (bt (at_ p 1280) (t.val / 8)) (bt (at_ p 1792) (t.val / 8)) (bt d (t.val / 8)) (256 * ((grid0.coords t 1).val + 1)) (256 * (grid0.coords t 1).val + a.val) l.val / 8) := by
  rw [outsAt0_B m c t h0]
  dsimp only
  exact outB_8 _ _ _ _ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (blocks_R m c t hx hd) (fun h => h0 ((hcond0_0 t).mp h)) h9 h10

theorem next_9 (t : Fin cfg0.N) (h0 : ¬t.val % 8 = 0) {G11 G12 : Fin 2048 → Fin 512 → ℝ}
    (h9 : R2 (m := 2048) (n := 512) (φ := .f32) (outsAt0 m c (t.val - 1) (Nat.lt_of_le_of_lt (Nat.sub_le _ _) t.isLt)).2.1 G11)
    (h10 : R2 (m := 2048) (n := 512) (φ := .f32) (outsAt0 m c (t.val - 1) (Nat.lt_of_le_of_lt (Nat.sub_le _ _) t.isLt)).2.2 G12) :
    R2 (m := 2048) (n := 512) (φ := .f32) (outsAt0 m c t.val t.isLt).2.1 (fun s l => G11 s l + WK (bt (at_ p 768) (t.val / 8)) (bt (at_ p 1280) (t.val / 8)) (bt (at_ p 1792) (t.val / 8)) (bt d (t.val / 8)) (grid0.coords t 1).val s.val l.val) := by
  rw [outsAt0_B m c t h0]
  dsimp only
  exact outB_9 _ _ _ _ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (blocks_R m c t hx hd) (fun h => h0 ((hcond0_0 t).mp h)) h9 h10

theorem next_10 (t : Fin cfg0.N) (h0 : ¬t.val % 8 = 0) {G11 G12 : Fin 2048 → Fin 512 → ℝ}
    (h9 : R2 (m := 2048) (n := 512) (φ := .f32) (outsAt0 m c (t.val - 1) (Nat.lt_of_le_of_lt (Nat.sub_le _ _) t.isLt)).2.1 G11)
    (h10 : R2 (m := 2048) (n := 512) (φ := .f32) (outsAt0 m c (t.val - 1) (Nat.lt_of_le_of_lt (Nat.sub_le _ _) t.isLt)).2.2 G12) :
    R2 (m := 2048) (n := 512) (φ := .f32) (outsAt0 m c t.val t.isLt).2.2 (fun s l => G12 s l + WV (bt (at_ p 768) (t.val / 8)) (bt (at_ p 1280) (t.val / 8)) (bt d (t.val / 8)) (grid0.coords t 1).val s.val l.val) := by
  rw [outsAt0_B m c t h0]
  dsimp only
  exact outB_10 _ _ _ _ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (blocks_R m c t hx hd) (fun h => h0 ((hcond0_0 t).mp h)) h9 h10

/-- What the three outputs' buffers hold after point `n`. -/
theorem outs_R (n : ℕ) (hn : n < cfg0.N) :
    R2 (m := 256) (n := 512) (φ := .bf16) (outsAt0 m c n hn).1 (fun a l => WQ (bt (at_ p 768) (n / 8)) (bt (at_ p 1280) (n / 8)) (bt (at_ p 1792) (n / 8)) (bt d (n / 8)) (256 * (n % 8 + 1)) (256 * (n % 8) + a.val) l.val / 8)
    ∧ R2 (m := 2048) (n := 512) (φ := .f32) (outsAt0 m c n hn).2.1 (fun s l => ∑ i ∈ range (n % 8 + 1), WK (bt (at_ p 768) (n / 8)) (bt (at_ p 1280) (n / 8)) (bt (at_ p 1792) (n / 8)) (bt d (n / 8)) i s.val l.val)
    ∧ R2 (m := 2048) (n := 512) (φ := .f32) (outsAt0 m c n hn).2.2 (fun s l => ∑ i ∈ range (n % 8 + 1), WV (bt (at_ p 768) (n / 8)) (bt (at_ p 1280) (n / 8)) (bt d (n / 8)) i s.val l.val) := by
  induction n with
  | zero =>
    have hr : (grid0.coords (⟨0, hn⟩ : Fin cfg0.N) 1).val = 0 := (row_of ⟨0, hn⟩).trans (by norm_num)
    refine ⟨R2.congr (first_8 m c hx hd ⟨0, hn⟩ rfl) fun a l => ?_, R2.congr (first_9 m c hx hd ⟨0, hn⟩ rfl) fun a l => ?_, R2.congr (first_10 m c hx hd ⟨0, hn⟩ rfl) fun a l => ?_⟩
    · rw [hr]
    · rw [hr]; simp
    · rw [hr]; simp
  | succ n ih =>
    by_cases h0 : (n + 1) % 8 = 0
    · have hr : (grid0.coords (⟨n + 1, hn⟩ : Fin cfg0.N) 1).val = 0 := (row_of ⟨n + 1, hn⟩).trans h0
      refine ⟨R2.congr (first_8 m c hx hd ⟨n + 1, hn⟩ h0) fun a l => ?_, R2.congr (first_9 m c hx hd ⟨n + 1, hn⟩ h0) fun a l => ?_, R2.congr (first_10 m c hx hd ⟨n + 1, hn⟩ h0) fun a l => ?_⟩
      · rw [hr, h0]
      · rw [hr, h0]; simp
      · rw [hr, h0]; simp
    · have hr : (grid0.coords (⟨n + 1, hn⟩ : Fin cfg0.N) 1).val = n % 8 + 1 := (row_of ⟨n + 1, hn⟩).trans (show (n + 1) % 8 = n % 8 + 1 by omega)
      have hb : (n + 1) / 8 = n / 8 := by omega
      have h8 : (n + 1) % 8 = n % 8 + 1 := by omega
      obtain ⟨_, i9, i10⟩ := ih (Nat.lt_of_succ_lt hn)
      refine ⟨R2.congr (next_8 m c hx hd ⟨n + 1, hn⟩ h0 i9 i10) fun a l => ?_, R2.congr (next_9 m c hx hd ⟨n + 1, hn⟩ h0 i9 i10) fun a l => ?_, R2.congr (next_10 m c hx hd ⟨n + 1, hn⟩ h0 i9 i10) fun a l => ?_⟩
      · rw [hr, h8]
      · rw [hr, h8, sum_range_succ _ (n % 8 + 1), hb]
      · rw [hr, h8, sum_range_succ _ (n % 8 + 1), hb]

theorem flushed_8 (t : Fin cfg0.N) (hf : (cfg0.win 8).flush t = true) :
    (dats m 0 c).flushed 8 t = ((cfg0.win 8).blk t).view.read (Elt Ideal) (DQ p d : (⟨S4096x512, .bf16⟩ : BufTy).Contents (Elt Ideal)) := by
  have hi := ix_8 t
  have ht : t.val < 16 := lt_of_lt_of_eq t.isLt N16
  rw [Cert.KernelIdeal.Value.flushed8]
  funext x
  rw [View.read_apply]
  have x0 : (x 0).val < 256 := (x 0).isLt
  have x1 : (x 1).val < 512 := (x 1).isLt
  refine Eq.trans (show _ = ((outsAt0 m c t.val t.isLt).1 : Vec Ideal S256x512 .bf16) (ix2 ⟨(x 0).val, x0⟩ ⟨(x 1).val, x1⟩) from ?_) ?_
  · show ((outsAt0 m c t.val t.isLt).1 : Vec Ideal S256x512 .bf16) _ = _
    refine congrArg _ (funext fun b => Fin.ext ?_)
    match b with
    | ⟨0, _⟩ => rfl
    | ⟨1, _⟩ => rfl
  refine ((outs_R m c hx hd t.val t.isLt).1 ⟨(x 0).val, x0⟩ ⟨(x 1).val, x1⟩).trans ?_
  have e0 : (((cfg0.win 8).blk t).view.emb x 0).val = t.val * 256 + (x 0).val := by
    show win0_8.index t 0 * 256 + 1 * (x 0).val = _
    rw [hi.1]; omega
  have e1 : (((cfg0.win 8).blk t).view.emb x 1).val = (x 1).val := by
    show win0_8.index t 1 * 512 + 1 * (x 1).val = _
    rw [hi.2]; omega
  generalize ((cfg0.win 8).blk t).view.emb x = j at e0 e1
  show _ = DQ p d j
  unfold DQ
  have j0 : (j 0).val / 2048 = t.val / 8 := by omega
  have j2 : (j 0).val % 2048 = 256 * (t.val % 8) + (x 0).val := by omega
  rw [e1, j0, j2]
  refine congrArg Real.toEReal ?_
  beta_reduce
  rw [WQ_all _ _ _ _ _ _ _ (by omega) (by omega)]

/-- The array of result 0 after the run. -/
theorem final_8 : (dats m 0 c).arrAt 8 cfg0.N = (DQ p d : (⟨S4096x512, .bf16⟩ : BufTy).Contents (Elt Ideal)) :=
  (dats m 0 c).arrAt_eq_of_cover 8 (DQ p d : (⟨S4096x512, .bf16⟩ : BufTy).Contents (Elt Ideal)) (flushed_8 m c hx hd) fun i => by
    have h0 : (i 0 : Nat) < 4096 := (i 0).isLt
    have h1 : (i 1 : Nat) < 512 := (i 1).isLt
    let t : Fin cfg0.N := ⟨(i 0).val / 256, lt_of_lt_of_eq (by omega) N16.symm⟩
    have hi := ix_8 t
    refine ⟨t, flush0_8 t, ?_⟩
    show i ∈ ((View.whole main_v24_0).slice (win0_8.rect t)).set
    rw [View.set_slice_whole, Rect.mem_set_unit]
    intro a
    match a with
    | ⟨0, _⟩ =>
      show win0_8.index t 0 * 256 ≤ (i 0 : Nat) ∧ (i 0 : Nat) < win0_8.index t 0 * 256 + 256
      rw [hi.1]
      show (i 0).val / 256 * 256 ≤ (i 0 : Nat) ∧ (i 0 : Nat) < (i 0).val / 256 * 256 + 256
      omega
    | ⟨1, _⟩ =>
      show win0_8.index t 1 * 512 ≤ (i 1 : Nat) ∧ (i 1 : Nat) < win0_8.index t 1 * 512 + 512
      rw [hi.2]
      omega

theorem flushed_9 (t : Fin cfg0.N) (hf : (cfg0.win 9).flush t = true) :
    (dats m 0 c).flushed 9 t = ((cfg0.win 9).blk t).view.read (Elt Ideal) (DK p d : (⟨S4096x512, .f32⟩ : BufTy).Contents (Elt Ideal)) := by
  have hi := ix_9 t
  have ht : t.val < 16 := lt_of_lt_of_eq t.isLt N16
  have h7 := (flush0_9 t).mp hf
  rw [Cert.KernelIdeal.Value.flushed9]
  funext x
  rw [View.read_apply]
  have x0 : (x 0).val < 2048 := (x 0).isLt
  have x1 : (x 1).val < 512 := (x 1).isLt
  refine Eq.trans (show _ = ((outsAt0 m c t.val t.isLt).2.1 : Vec Ideal S2048x512 .f32) (ix2 ⟨(x 0).val, x0⟩ ⟨(x 1).val, x1⟩) from ?_) ?_
  · show ((outsAt0 m c t.val t.isLt).2.1 : Vec Ideal S2048x512 .f32) _ = _
    refine congrArg _ (funext fun b => Fin.ext ?_)
    match b with
    | ⟨0, _⟩ => rfl
    | ⟨1, _⟩ => rfl
  refine ((outs_R m c hx hd t.val t.isLt).2.1 ⟨(x 0).val, x0⟩ ⟨(x 1).val, x1⟩).trans ?_
  have e0 : (((cfg0.win 9).blk t).view.emb x 0).val = t.val / 8 * 2048 + (x 0).val := by
    show win0_9.index t 0 * 2048 + 1 * (x 0).val = _
    rw [hi.1]; omega
  have e1 : (((cfg0.win 9).blk t).view.emb x 1).val = (x 1).val := by
    show win0_9.index t 1 * 512 + 1 * (x 1).val = _
    rw [hi.2]; omega
  generalize ((cfg0.win 9).blk t).view.emb x = j at e0 e1
  show _ = DK p d j
  unfold DK
  have j0 : (j 0).val / 2048 = t.val / 8 := by omega
  have j2 : (j 0).val % 2048 = (x 0).val := by omega
  rw [e1, j0, j2]
  refine congrArg Real.toEReal ?_
  beta_reduce
  rw [h7]
  exact WK_all _ _ _ _ _ _

/-- The array of result 1 after the run. -/
theorem final_9 : (dats m 0 c).arrAt 9 cfg0.N = (DK p d : (⟨S4096x512, .f32⟩ : BufTy).Contents (Elt Ideal)) :=
  (dats m 0 c).arrAt_eq_of_cover 9 (DK p d : (⟨S4096x512, .f32⟩ : BufTy).Contents (Elt Ideal)) (flushed_9 m c hx hd) fun i => by
    have h0 : (i 0 : Nat) < 4096 := (i 0).isLt
    have h1 : (i 1 : Nat) < 512 := (i 1).isLt
    let t : Fin cfg0.N := ⟨(i 0).val / 2048 * 8 + 7, lt_of_lt_of_eq (by omega) N16.symm⟩
    have hi := ix_9 t
    refine ⟨t, (flush0_9 t).mpr (show ((i 0).val / 2048 * 8 + 7) % 8 = 7 by omega), ?_⟩
    show i ∈ ((View.whole main_v24_1).slice (win0_9.rect t)).set
    rw [View.set_slice_whole, Rect.mem_set_unit]
    intro a
    match a with
    | ⟨0, _⟩ =>
      show win0_9.index t 0 * 2048 ≤ (i 0 : Nat) ∧ (i 0 : Nat) < win0_9.index t 0 * 2048 + 2048
      rw [hi.1]
      show ((i 0).val / 2048 * 8 + 7) / 8 * 2048 ≤ (i 0 : Nat) ∧ (i 0 : Nat) < ((i 0).val / 2048 * 8 + 7) / 8 * 2048 + 2048
      omega
    | ⟨1, _⟩ =>
      show win0_9.index t 1 * 512 ≤ (i 1 : Nat) ∧ (i 1 : Nat) < win0_9.index t 1 * 512 + 512
      rw [hi.2]
      omega

theorem flushed_10 (t : Fin cfg0.N) (hf : (cfg0.win 10).flush t = true) :
    (dats m 0 c).flushed 10 t = ((cfg0.win 10).blk t).view.read (Elt Ideal) (DV p d : (⟨S4096x512, .f32⟩ : BufTy).Contents (Elt Ideal)) := by
  have hi := ix_10 t
  have ht : t.val < 16 := lt_of_lt_of_eq t.isLt N16
  have h7 := (flush0_10 t).mp hf
  rw [Cert.KernelIdeal.Value.flushed10]
  funext x
  rw [View.read_apply]
  have x0 : (x 0).val < 2048 := (x 0).isLt
  have x1 : (x 1).val < 512 := (x 1).isLt
  refine Eq.trans (show _ = ((outsAt0 m c t.val t.isLt).2.2 : Vec Ideal S2048x512 .f32) (ix2 ⟨(x 0).val, x0⟩ ⟨(x 1).val, x1⟩) from ?_) ?_
  · show ((outsAt0 m c t.val t.isLt).2.2 : Vec Ideal S2048x512 .f32) _ = _
    refine congrArg _ (funext fun b => Fin.ext ?_)
    match b with
    | ⟨0, _⟩ => rfl
    | ⟨1, _⟩ => rfl
  refine ((outs_R m c hx hd t.val t.isLt).2.2 ⟨(x 0).val, x0⟩ ⟨(x 1).val, x1⟩).trans ?_
  have e0 : (((cfg0.win 10).blk t).view.emb x 0).val = t.val / 8 * 2048 + (x 0).val := by
    show win0_10.index t 0 * 2048 + 1 * (x 0).val = _
    rw [hi.1]; omega
  have e1 : (((cfg0.win 10).blk t).view.emb x 1).val = (x 1).val := by
    show win0_10.index t 1 * 512 + 1 * (x 1).val = _
    rw [hi.2]; omega
  generalize ((cfg0.win 10).blk t).view.emb x = j at e0 e1
  show _ = DV p d j
  unfold DV
  have j0 : (j 0).val / 2048 = t.val / 8 := by omega
  have j2 : (j 0).val % 2048 = (x 0).val := by omega
  rw [e1, j0, j2]
  refine congrArg Real.toEReal ?_
  beta_reduce
  rw [h7]
  exact WV_all _ _ _ _ _

/-- The array of result 2 after the run. -/
theorem final_10 : (dats m 0 c).arrAt 10 cfg0.N = (DV p d : (⟨S4096x512, .f32⟩ : BufTy).Contents (Elt Ideal)) :=
  (dats m 0 c).arrAt_eq_of_cover 10 (DV p d : (⟨S4096x512, .f32⟩ : BufTy).Contents (Elt Ideal)) (flushed_10 m c hx hd) fun i => by
    have h0 : (i 0 : Nat) < 4096 := (i 0).isLt
    have h1 : (i 1 : Nat) < 512 := (i 1).isLt
    let t : Fin cfg0.N := ⟨(i 0).val / 2048 * 8 + 7, lt_of_lt_of_eq (by omega) N16.symm⟩
    have hi := ix_10 t
    refine ⟨t, (flush0_10 t).mpr (show ((i 0).val / 2048 * 8 + 7) % 8 = 7 by omega), ?_⟩
    show i ∈ ((View.whole main_v24_2).slice (win0_10.rect t)).set
    rw [View.set_slice_whole, Rect.mem_set_unit]
    intro a
    match a with
    | ⟨0, _⟩ =>
      show win0_10.index t 0 * 2048 ≤ (i 0 : Nat) ∧ (i 0 : Nat) < win0_10.index t 0 * 2048 + 2048
      rw [hi.1]
      show ((i 0).val / 2048 * 8 + 7) / 8 * 2048 ≤ (i 0 : Nat) ∧ (i 0 : Nat) < ((i 0).val / 2048 * 8 + 7) / 8 * 2048 + 2048
      omega
    | ⟨1, _⟩ =>
      show win0_10.index t 1 * 512 ≤ (i 1 : Nat) ∧ (i 1 : Nat) < win0_10.index t 1 * 512 + 512
      rw [hi.2]
      omega

end Cert.KernelIdeal.Sb
-- ==== Proof.Finite.lean ====
module

public import proofs.«01_k».proof.Defs

/-! What the precondition says: over the extended reals an array whose absolute values are below infinity is an array of reals. -/

@[expose] public section

set_option maxRecDepth 16384

noncomputable section

namespace Cert.Finite

open Idealize.ShloMosaic Idealize.ShloMosaic.TcCoe Idealize.SL Idealize.SL.Sem

theorem facts : Cert.Pre_finite_inputs.Facts where
  slices_S4096x5888_S4096x1536_0_768 := by decide
  bitsLt_bf16_f32 := by decide
  bcast_S_S4096x1536 := by decide
  bcast_S_S4096x512 := by decide

theorem inf_word : Ideal.ofBits .f32 0x7F800000#32 = (⊤ : EReal) := by
  simp [Ideal.ofBits, Ideal.ieee]

/-- A value whose absolute value is below infinity is a real. -/
theorem real_of_lt (x : EReal) (h : FloatOps.cmpf (F := Ideal) (φ := .f32) .olt (FloatOps.absf (F := Ideal) (φ := .f32) x) (Ideal.ofBits .f32 0x7F800000#32) = 1#1) :
    x = ((x.toReal : ℝ) : EReal) := by
  rw [inf_word] at h
  have h' : Ideal.cmp .olt (max x (-x)) ⊤ = 1#1 := h
  have hlt : max x (-x) < ⊤ := by
    by_contra hn
    simp [Ideal.cmp, hn] at h'
  refine (EReal.coe_toReal ?_ ?_).symm
  · rintro rfl; simp at hlt
  · rintro rfl; simp at hlt

/-- The columns of the projections that the precondition reads. -/
theorem proj_real (x : FVec Ideal Cert.Pre_finite_inputs.S4096x5888 .bf16) (d : FVec Ideal Cert.Pre_finite_inputs.S4096x512 .bf16)
    (h : (@Cert.Pre_finite_inputs.fn facts Ideal _ x d).1 = fun _ => 1#1)
    (j : Cert.Pre_finite_inputs.S4096x5888.Idx) (h0 : 768 ≤ (j 1).val) (h1 : (j 1).val < 2304) :
    x j = (((x j).toReal : ℝ) : EReal) := by
  let i : Cert.Pre_finite_inputs.S4096x1536.Idx := fun b => match b with
    | ⟨0, _⟩ => ⟨(j 0).val, (j 0).isLt⟩
    | ⟨1, _⟩ => ⟨(j 1).val - 768, (by have : (j 1).val < 2304 := h1; show (j 1).val - 768 < 1536; omega)⟩
  have := congrFun h i
  refine real_of_lt _ ?_
  refine Eq.trans ?_ this
  refine congrArg (fun z : EReal => FloatOps.cmpf (F := Ideal) (φ := .f32) .olt (FloatOps.absf (F := Ideal) (φ := .f32) z) (Ideal.ofBits .f32 0x7F800000#32)) ?_
  refine congrArg x (funext fun b => Fin.ext ?_)
  match b with
  | ⟨0, _⟩ => show (j 0).val = 0 + (j 0).val; omega
  | ⟨1, _⟩ => show (j 1).val = 768 + ((j 1).val - 768); omega

theorem dy_real (x : FVec Ideal Cert.Pre_finite_inputs.S4096x5888 .bf16) (d : FVec Ideal Cert.Pre_finite_inputs.S4096x512 .bf16)
    (h : (@Cert.Pre_finite_inputs.fn facts Ideal _ x d).2 = fun _ => 1#1)
    (j : Cert.Pre_finite_inputs.S4096x512.Idx) : d j = (((d j).toReal : ℝ) : EReal) :=
  real_of_lt _ (congrFun h j)

/-- An array of reals read at natural indices, zero outside. -/
def nat2 {m n : ℕ} (x : Shape.Idx ⟨2, ![m, n]⟩ → EReal) (r l : ℕ) : ℝ :=
  if h : r < m ∧ l < n then (x (fun b => match b with
    | ⟨0, _⟩ => ⟨r, h.1⟩
    | ⟨1, _⟩ => ⟨l, h.2⟩)).toReal else 0

theorem nat2_at {m n : ℕ} (x : Shape.Idx ⟨2, ![m, n]⟩ → EReal) (j : Shape.Idx ⟨2, ![m, n]⟩) : nat2 x (j 0).val (j 1).val = (x j).toReal := by
  unfold nat2
  rw [dif_pos ⟨(j 0).isLt, (j 1).isLt⟩]
  refine congrArg (fun i => (x i).toReal) (funext fun b => ?_)
  match b with
  | ⟨0, _⟩ => rfl
  | ⟨1, _⟩ => rfl

end Cert.Finite
-- ==== Proof.GateRead.lean ====
module

public import proofs.«01_k».proof.Proof.Gen.GateIdeal.Value
public import proofs.«01_k».proof.Proof.Gen.GateRefIdeal.Read
public import proofs.«01_k».proof.Defs
public import proofs.«01_k».proof.Proof.Gen.Gate.Frame
public import Idealize.ShloMosaic.Lib.Pipeline.ValueKit

/-! The entries of the gates' backward call, point by point: what one grid point computes is an entry of the reference's arrays. -/

@[expose] public section

set_option maxRecDepth 16384

noncomputable section

namespace Cert.GateIdeal.Val

open Cert.GateIdeal Cert.GateIdeal.Gen
open Idealize.ShloMosaic Idealize.ShloMosaic.TcCoe Idealize.ShloMosaic.Pointwise
open Idealize.SL Idealize.SL.Sem

theorem idx : ∀ t : Fin cfg0.N, win0_0.index t = ![t.val / 4, 0] ∧ win0_1.index t = ![t.val % 4, 0] ∧ win0_2.index t = ![t.val / 4, t.val % 4] ∧ win0_3.index t = ![t.val / 4, t.val % 4] ∧ win0_4.index t = ![t.val / 4, t.val % 4] ∧ win0_5.index t = ![t.val / 4, 11 + t.val % 4] ∧ win0_6.index t = ![t.val / 4, 15 + t.val % 4] ∧ win0_7.index t = ![t.val / 4, 19 + t.val % 4] ∧ win0_8.index t = ![0, t.val % 4] ∧ win0_9.index t = ![0, t.val % 4] ∧ win0_10.index t = ![0, t.val % 4] ∧ win0_11.index t = ![t.val / 4, t.val % 4] ∧ win0_12.index t = ![t.val / 4, t.val % 4] ∧ win0_13.index t = ![t.val / 4, t.val % 4] ∧ win0_14.index t = ![t.val / 4, t.val % 4] ∧ win0_15.index t = ![t.val / 4, t.val % 4] ∧ win0_16.index t = ![t.val / 4, t.val % 4] ∧ win0_17.index t = ![t.val / 4, 0] ∧ win0_18.index t = ![t.val / 4, 0] ∧ win0_19.index t = ![t.val / 4, 0] :=
  (by decide +kernel : ∀ t : Fin grid0.N, _)

variable (m : (ℓ : Loc nD τ sig) → Buf (Elt Ideal) ℓ) (c : Dev nD)

theorem one_word : Ideal.ofBits .f32 1065353216#32 = 1 := by
  simp [Ideal.ofBits, Ideal.ieee, -EReal.coe_mul]; norm_num

/-- The branch's product the call is given. -/
theorem given_a : V m c main_v3 = Cert.GateRefIdeal.Read.val_main_v10 (m ((c : Thread nD τ).loc main_arg2)) (m ((c : Thread nD τ).loc main_arg6)) := by
  rfl

/-- The branch's product the call is given. -/
theorem given_b : V m c main_v7 = Cert.GateRefIdeal.Read.val_main_v12 (m ((c : Thread nD τ).loc main_arg3)) (m ((c : Thread nD τ).loc main_arg7)) := by
  rfl

/-- The branch's product the call is given. -/
theorem given_c : V m c main_v11 = Cert.GateRefIdeal.Read.val_main_v14 (m ((c : Thread nD τ).loc main_arg4)) (m ((c : Thread nD τ).loc main_arg8)) := by
  rfl

/-- An entry of the tile of the incoming gradient taken back through the mixing weights. -/
theorem mixed (t : Fin cfg0.N) (y : S1024x256.Idx) (j : S4096x1024.Idx) (h0 : (j 0).val = t.val / 4 * 1024 + (y 0).val) (h1 : (j 1).val = t.val % 4 * 256 + (y 1).val) :
    (k0_pay6 (iblk m c 0 t) (iblk m c 1 t) y : EReal) = Cert.GateRefIdeal.Read.val_main_v50 (m ((c : Thread nD τ).loc main_arg0)) (m ((c : Thread nD τ).loc main_arg1)) j := by
  rw [Cert.GateRefIdeal.Read.val_main_v50_apply]
  pointwise [k0_pay6, Cert.GateRefIdeal.Read.val_main_v49, Cert.GateRefIdeal.Read.val_main_v15]
  refine Finset.sum_congr rfl fun k _ => ?_
  blk_point [iblk, V, idx t]

theorem logit_a (t : Fin cfg0.N) (y : S1024x256.Idx) (j : S4096x1024.Idx) (h0 : (j 0).val = t.val / 4 * 1024 + (y 0).val) (h1 : (j 1).val = t.val % 4 * 256 + (y 1).val) : (iblk m c 5 t y : EReal) = Cert.GateRefIdeal.Read.val_main_v4 (m ((c : Thread nD τ).loc main_arg5)) j := by
  have e : (iblk m c 5 t y : EReal) = (m ((c : Thread nD τ).loc main_arg5)) (Cert.GateRefIdeal.Read.idx_main_v3 j) := by
    blk_point [iblk, V, idx t]
  exact e.trans (Cert.GateRefIdeal.Read.val_main_v3_apply _ j).symm

theorem product_a (t : Fin cfg0.N) (y : S1024x256.Idx) (j : S4096x1024.Idx) (h0 : (j 0).val = t.val / 4 * 1024 + (y 0).val) (h1 : (j 1).val = t.val % 4 * 256 + (y 1).val) : (iblk m c 2 t y : EReal) = Cert.GateRefIdeal.Read.val_main_v10 (m ((c : Thread nD τ).loc main_arg2)) (m ((c : Thread nD τ).loc main_arg6)) j := by
  blk_point [iblk, given_a, idx t]

theorem weight_a (t : Fin cfg0.N) (y : S512x256.Idx) (j : S512x1024.Idx) (h0 : (j 0).val = (y 0).val) (h1 : (j 1).val = t.val % 4 * 256 + (y 1).val) :
    (iblk m c 8 t y : EReal) = (m ((c : Thread nD τ).loc main_arg6)) j := by
  blk_point [iblk, V, idx t]

theorem logit_b (t : Fin cfg0.N) (y : S1024x256.Idx) (j : S4096x1024.Idx) (h0 : (j 0).val = t.val / 4 * 1024 + (y 0).val) (h1 : (j 1).val = t.val % 4 * 256 + (y 1).val) : (iblk m c 6 t y : EReal) = Cert.GateRefIdeal.Read.val_main_v6 (m ((c : Thread nD τ).loc main_arg5)) j := by
  have e : (iblk m c 6 t y : EReal) = (m ((c : Thread nD τ).loc main_arg5)) (Cert.GateRefIdeal.Read.idx_main_v5 j) := by
    blk_point [iblk, V, idx t]
  exact e.trans (Cert.GateRefIdeal.Read.val_main_v5_apply _ j).symm

theorem product_b (t : Fin cfg0.N) (y : S1024x256.Idx) (j : S4096x1024.Idx) (h0 : (j 0).val = t.val / 4 * 1024 + (y 0).val) (h1 : (j 1).val = t.val % 4 * 256 + (y 1).val) : (iblk m c 3 t y : EReal) = Cert.GateRefIdeal.Read.val_main_v12 (m ((c : Thread nD τ).loc main_arg3)) (m ((c : Thread nD τ).loc main_arg7)) j := by
  blk_point [iblk, given_b, idx t]

theorem weight_b (t : Fin cfg0.N) (y : S512x256.Idx) (j : S512x1024.Idx) (h0 : (j 0).val = (y 0).val) (h1 : (j 1).val = t.val % 4 * 256 + (y 1).val) :
    (iblk m c 9 t y : EReal) = (m ((c : Thread nD τ).loc main_arg7)) j := by
  blk_point [iblk, V, idx t]

theorem logit_c (t : Fin cfg0.N) (y : S1024x256.Idx) (j : S4096x1024.Idx) (h0 : (j 0).val = t.val / 4 * 1024 + (y 0).val) (h1 : (j 1).val = t.val % 4 * 256 + (y 1).val) : (iblk m c 7 t y : EReal) = Cert.GateRefIdeal.Read.val_main_v8 (m ((c : Thread nD τ).loc main_arg5)) j := by
  have e : (iblk m c 7 t y : EReal) = (m ((c : Thread nD τ).loc main_arg5)) (Cert.GateRefIdeal.Read.idx_main_v7 j) := by
    blk_point [iblk, V, idx t]
  exact e.trans (Cert.GateRefIdeal.Read.val_main_v7_apply _ j).symm

theorem product_c (t : Fin cfg0.N) (y : S1024x256.Idx) (j : S4096x1024.Idx) (h0 : (j 0).val = t.val / 4 * 1024 + (y 0).val) (h1 : (j 1).val = t.val % 4 * 256 + (y 1).val) : (iblk m c 4 t y : EReal) = Cert.GateRefIdeal.Read.val_main_v14 (m ((c : Thread nD τ).loc main_arg4)) (m ((c : Thread nD τ).loc main_arg8)) j := by
  blk_point [iblk, given_c, idx t]

theorem weight_c (t : Fin cfg0.N) (y : S512x256.Idx) (j : S512x1024.Idx) (h0 : (j 0).val = (y 0).val) (h1 : (j 1).val = t.val % 4 * 256 + (y 1).val) :
    (iblk m c 10 t y : EReal) = (m ((c : Thread nD τ).loc main_arg8)) j := by
  blk_point [iblk, V, idx t]

theorem pass_a (v0 : Vec Ideal S1024x1024 .bf16) (v1 : Vec Ideal S256x1024 .bf16) (g : Vec Ideal S1024x256 .bf16) (y : S1024x256.Idx) : (k0_pay8 v0 v1 g y : EReal) = (k0_pay6 v0 v1 y : EReal) * Ideal.logistic (g y) := by
  pointwise [k0_pay8, k0_pay7]

theorem turn_a (v0 : Vec Ideal S1024x1024 .bf16) (v1 : Vec Ideal S256x1024 .bf16) (g p : Vec Ideal S1024x256 .bf16) (y : S1024x256.Idx) :
    (k0_pay9 v0 v1 g p y : EReal) = (k0_pay6 v0 v1 y : EReal) * (p y : EReal) * (Ideal.logistic (g y) * (1 - Ideal.logistic (g y))) := by
  pointwise [k0_pay9, k0_pay7]

theorem part_a (v0 : Vec Ideal S1024x1024 .bf16) (v1 : Vec Ideal S256x1024 .bf16) (g : Vec Ideal S1024x256 .bf16) (w : Vec Ideal S512x256 .bf16) (i : S1024x512.Idx) :
    (k0_pay10 v0 v1 g w i : EReal) = ∑ k : Fin 256, (k0_pay8 v0 v1 g (ix2 (i 0) k) : EReal) * w (ix2 (i 1) k) := by
  pointwise [k0_pay10]

theorem pass_b (v2 : FVec Ideal S1024x256 .f32) (g : Vec Ideal S1024x256 .bf16) (y : S1024x256.Idx) : (k0_pay15 v2 g y : EReal) = (v2 y : EReal) * Ideal.logistic (g y) := by
  pointwise [k0_pay15, k0_pay14]

theorem turn_b (v2 : FVec Ideal S1024x256 .f32) (g p : Vec Ideal S1024x256 .bf16) (y : S1024x256.Idx) :
    (k0_pay16 v2 g p y : EReal) = (v2 y : EReal) * (p y : EReal) * (Ideal.logistic (g y) * (1 - Ideal.logistic (g y))) := by
  pointwise [k0_pay16, k0_pay14]

theorem part_b (v2 : FVec Ideal S1024x256 .f32) (g : Vec Ideal S1024x256 .bf16) (w : Vec Ideal S512x256 .bf16) (i : S1024x512.Idx) :
    (k0_pay17 v2 g w i : EReal) = ∑ k : Fin 256, (k0_pay15 v2 g (ix2 (i 0) k) : EReal) * w (ix2 (i 1) k) := by
  pointwise [k0_pay17]

theorem pass_c (v2 : FVec Ideal S1024x256 .f32) (g : Vec Ideal S1024x256 .bf16) (y : S1024x256.Idx) : (k0_pay22 v2 g y : EReal) = (v2 y : EReal) * Ideal.logistic (g y) := by
  pointwise [k0_pay22, k0_pay21]

theorem turn_c (v2 : FVec Ideal S1024x256 .f32) (g p : Vec Ideal S1024x256 .bf16) (y : S1024x256.Idx) :
    (k0_pay1 v2 (k0_pay21 g) p y : EReal) = (v2 y : EReal) * (p y : EReal) * (Ideal.logistic (g y) * (1 - Ideal.logistic (g y))) := by
  pointwise [k0_pay1, k0_pay21]

theorem part_c (v : FVec Ideal S1024x256 .bf16) (w : Vec Ideal S512x256 .bf16) (i : S1024x512.Idx) :
    (k0_pay2 v w i : EReal) = ∑ k : Fin 256, (v (ix2 (i 0) k) : EReal) * w (ix2 (i 1) k) := by
  pointwise [k0_pay2]

theorem ref_pass_a (a0 : (⟨S4096x1024, .bf16⟩ : BufTy).Contents (Elt Ideal)) (a1 : (⟨S1024x1024, .bf16⟩ : BufTy).Contents (Elt Ideal)) (a5 : (⟨S4096x5888, .bf16⟩ : BufTy).Contents (Elt Ideal)) (j : S4096x1024.Idx) : (Cert.GateRefIdeal.Read.val_main_v69 a0 a1 a5 j : EReal) = (Cert.GateRefIdeal.Read.val_main_v50 a0 a1 j : EReal) * Ideal.logistic (Cert.GateRefIdeal.Read.val_main_v4 a5 j) := by
  pointwise [Cert.GateRefIdeal.Read.val_main_v69, Cert.GateRefIdeal.Read.val_main_v57, Cert.GateRefIdeal.Read.val_main_v21, Cert.GateRefIdeal.Read.val_main_v20, Cert.GateRefIdeal.Read.val_main_cst_0, Cert.GateRefIdeal.Read.val_main_v19, Cert.GateRefIdeal.Read.val_main_v18, Cert.GateRefIdeal.Read.val_main_cst, Cert.GateRefIdeal.Read.val_main_v17, Cert.GateRefIdeal.Read.val_main_v16]
  simp only [Ideal.logistic]
  rw [mul_comm]

theorem ref_turn_a (a0 : (⟨S4096x1024, .bf16⟩ : BufTy).Contents (Elt Ideal)) (a1 : (⟨S1024x1024, .bf16⟩ : BufTy).Contents (Elt Ideal)) (y : (⟨S4096x512, .bf16⟩ : BufTy).Contents (Elt Ideal)) (a5 : (⟨S4096x5888, .bf16⟩ : BufTy).Contents (Elt Ideal)) (w : (⟨S512x1024, .bf16⟩ : BufTy).Contents (Elt Ideal)) (j : S4096x1024.Idx) :
    (Cert.GateRefIdeal.Read.val_main_v72 a0 a1 y a5 w j : EReal) = (Cert.GateRefIdeal.Read.val_main_v50 a0 a1 j : EReal) * (Cert.GateRefIdeal.Read.val_main_v10 y w j : EReal) * (Ideal.logistic (Cert.GateRefIdeal.Read.val_main_v4 a5 j) * (1 - Ideal.logistic (Cert.GateRefIdeal.Read.val_main_v4 a5 j))) := by
  pointwise [Cert.GateRefIdeal.Read.val_main_v72, Cert.GateRefIdeal.Read.val_main_v59, Cert.GateRefIdeal.Read.val_main_v58, Cert.GateRefIdeal.Read.val_main_v24, Cert.GateRefIdeal.Read.val_main_v23, Cert.GateRefIdeal.Read.val_main_v22, Cert.GateRefIdeal.Read.val_main_cst_1, Cert.GateRefIdeal.Read.val_main_v21, Cert.GateRefIdeal.Read.val_main_v20, Cert.GateRefIdeal.Read.val_main_cst_0, Cert.GateRefIdeal.Read.val_main_v19, Cert.GateRefIdeal.Read.val_main_v18, Cert.GateRefIdeal.Read.val_main_cst, Cert.GateRefIdeal.Read.val_main_v17, Cert.GateRefIdeal.Read.val_main_v16]
  simp only [Ideal.logistic]

theorem ref_back_a (a0 : (⟨S4096x1024, .bf16⟩ : BufTy).Contents (Elt Ideal)) (a1 : (⟨S1024x1024, .bf16⟩ : BufTy).Contents (Elt Ideal)) (a5 : (⟨S4096x5888, .bf16⟩ : BufTy).Contents (Elt Ideal)) (w : (⟨S512x1024, .bf16⟩ : BufTy).Contents (Elt Ideal)) (j : S4096x512.Idx) :
    (Cert.GateRefIdeal.Read.val_main_v75 a0 a1 a5 w j : EReal) = ∑ k : Fin 1024, (Cert.GateRefIdeal.Read.val_main_v69 a0 a1 a5 (ix2 (j 0) k) : EReal) * w (ix2 (j 1) k) := by
  pointwise [Cert.GateRefIdeal.Read.val_main_v75]
  rw [Cert.GateRefIdeal.Read.val_main_v62_apply]
  pointwise [Cert.GateRefIdeal.Read.val_main_v69, Cert.GateRefIdeal.Read.val_main_v0]
  refine Finset.sum_congr rfl fun k _ => ?_
  have e0 : Cert.GateRefIdeal.Read.lidx_main_v62 j k = ix2 (n0 := 4096) (n1 := 1024) (j 0) k := by
    funext a
    match a with
    | ⟨0, _⟩ => rfl
    | ⟨1, _⟩ => rfl
  have e1 : Cert.GateRefIdeal.Read.ridx_main_v62 j k = ix2 (n0 := 512) (n1 := 1024) (j 1) k := by
    funext a
    match a with
    | ⟨0, _⟩ => rfl
    | ⟨1, _⟩ => rfl
  rw [e0, e1]

theorem ref_pass_b (a0 : (⟨S4096x1024, .bf16⟩ : BufTy).Contents (Elt Ideal)) (a1 : (⟨S1024x1024, .bf16⟩ : BufTy).Contents (Elt Ideal)) (a5 : (⟨S4096x5888, .bf16⟩ : BufTy).Contents (Elt Ideal)) (j : S4096x1024.Idx) : (Cert.GateRefIdeal.Read.val_main_v70 a0 a1 a5 j : EReal) = (Cert.GateRefIdeal.Read.val_main_v50 a0 a1 j : EReal) * Ideal.logistic (Cert.GateRefIdeal.Read.val_main_v6 a5 j) := by
  pointwise [Cert.GateRefIdeal.Read.val_main_v70, Cert.GateRefIdeal.Read.val_main_v54, Cert.GateRefIdeal.Read.val_main_v31, Cert.GateRefIdeal.Read.val_main_v30, Cert.GateRefIdeal.Read.val_main_cst_3, Cert.GateRefIdeal.Read.val_main_v29, Cert.GateRefIdeal.Read.val_main_v28, Cert.GateRefIdeal.Read.val_main_cst_2, Cert.GateRefIdeal.Read.val_main_v27, Cert.GateRefIdeal.Read.val_main_v26]
  simp only [Ideal.logistic]
  rw [mul_comm]

theorem ref_turn_b (a0 : (⟨S4096x1024, .bf16⟩ : BufTy).Contents (Elt Ideal)) (a1 : (⟨S1024x1024, .bf16⟩ : BufTy).Contents (Elt Ideal)) (y : (⟨S4096x512, .bf16⟩ : BufTy).Contents (Elt Ideal)) (a5 : (⟨S4096x5888, .bf16⟩ : BufTy).Contents (Elt Ideal)) (w : (⟨S512x1024, .bf16⟩ : BufTy).Contents (Elt Ideal)) (j : S4096x1024.Idx) :
    (Cert.GateRefIdeal.Read.val_main_v73 a0 a1 y a5 w j : EReal) = (Cert.GateRefIdeal.Read.val_main_v50 a0 a1 j : EReal) * (Cert.GateRefIdeal.Read.val_main_v12 y w j : EReal) * (Ideal.logistic (Cert.GateRefIdeal.Read.val_main_v6 a5 j) * (1 - Ideal.logistic (Cert.GateRefIdeal.Read.val_main_v6 a5 j))) := by
  pointwise [Cert.GateRefIdeal.Read.val_main_v73, Cert.GateRefIdeal.Read.val_main_v56, Cert.GateRefIdeal.Read.val_main_v55, Cert.GateRefIdeal.Read.val_main_v34, Cert.GateRefIdeal.Read.val_main_v33, Cert.GateRefIdeal.Read.val_main_v32, Cert.GateRefIdeal.Read.val_main_cst_4, Cert.GateRefIdeal.Read.val_main_v31, Cert.GateRefIdeal.Read.val_main_v30, Cert.GateRefIdeal.Read.val_main_cst_3, Cert.GateRefIdeal.Read.val_main_v29, Cert.GateRefIdeal.Read.val_main_v28, Cert.GateRefIdeal.Read.val_main_cst_2, Cert.GateRefIdeal.Read.val_main_v27, Cert.GateRefIdeal.Read.val_main_v26]
  simp only [Ideal.logistic]

theorem ref_back_b (a0 : (⟨S4096x1024, .bf16⟩ : BufTy).Contents (Elt Ideal)) (a1 : (⟨S1024x1024, .bf16⟩ : BufTy).Contents (Elt Ideal)) (a5 : (⟨S4096x5888, .bf16⟩ : BufTy).Contents (Elt Ideal)) (w : (⟨S512x1024, .bf16⟩ : BufTy).Contents (Elt Ideal)) (j : S4096x512.Idx) :
    (Cert.GateRefIdeal.Read.val_main_v76 a0 a1 a5 w j : EReal) = ∑ k : Fin 1024, (Cert.GateRefIdeal.Read.val_main_v70 a0 a1 a5 (ix2 (j 0) k) : EReal) * w (ix2 (j 1) k) := by
  pointwise [Cert.GateRefIdeal.Read.val_main_v76]
  rw [Cert.GateRefIdeal.Read.val_main_v65_apply]
  pointwise [Cert.GateRefIdeal.Read.val_main_v70, Cert.GateRefIdeal.Read.val_main_v1]
  refine Finset.sum_congr rfl fun k _ => ?_
  have e0 : Cert.GateRefIdeal.Read.lidx_main_v65 j k = ix2 (n0 := 4096) (n1 := 1024) (j 0) k := by
    funext a
    match a with
    | ⟨0, _⟩ => rfl
    | ⟨1, _⟩ => rfl
  have e1 : Cert.GateRefIdeal.Read.ridx_main_v65 j k = ix2 (n0 := 512) (n1 := 1024) (j 1) k := by
    funext a
    match a with
    | ⟨0, _⟩ => rfl
    | ⟨1, _⟩ => rfl
  rw [e0, e1]

theorem ref_pass_c (a0 : (⟨S4096x1024, .bf16⟩ : BufTy).Contents (Elt Ideal)) (a1 : (⟨S1024x1024, .bf16⟩ : BufTy).Contents (Elt Ideal)) (a5 : (⟨S4096x5888, .bf16⟩ : BufTy).Contents (Elt Ideal)) (j : S4096x1024.Idx) : (Cert.GateRefIdeal.Read.val_main_v71 a0 a1 a5 j : EReal) = (Cert.GateRefIdeal.Read.val_main_v50 a0 a1 j : EReal) * Ideal.logistic (Cert.GateRefIdeal.Read.val_main_v8 a5 j) := by
  pointwise [Cert.GateRefIdeal.Read.val_main_v71, Cert.GateRefIdeal.Read.val_main_v51, Cert.GateRefIdeal.Read.val_main_v42, Cert.GateRefIdeal.Read.val_main_v41, Cert.GateRefIdeal.Read.val_main_cst_6, Cert.GateRefIdeal.Read.val_main_v40, Cert.GateRefIdeal.Read.val_main_v39, Cert.GateRefIdeal.Read.val_main_cst_5, Cert.GateRefIdeal.Read.val_main_v38, Cert.GateRefIdeal.Read.val_main_v37]
  simp only [Ideal.logistic]
  rw [mul_comm]

theorem ref_turn_c (a0 : (⟨S4096x1024, .bf16⟩ : BufTy).Contents (Elt Ideal)) (a1 : (⟨S1024x1024, .bf16⟩ : BufTy).Contents (Elt Ideal)) (y : (⟨S4096x512, .bf16⟩ : BufTy).Contents (Elt Ideal)) (a5 : (⟨S4096x5888, .bf16⟩ : BufTy).Contents (Elt Ideal)) (w : (⟨S512x1024, .bf16⟩ : BufTy).Contents (Elt Ideal)) (j : S4096x1024.Idx) :
    (Cert.GateRefIdeal.Read.val_main_v74 a0 a1 y a5 w j : EReal) = (Cert.GateRefIdeal.Read.val_main_v50 a0 a1 j : EReal) * (Cert.GateRefIdeal.Read.val_main_v14 y w j : EReal) * (Ideal.logistic (Cert.GateRefIdeal.Read.val_main_v8 a5 j) * (1 - Ideal.logistic (Cert.GateRefIdeal.Read.val_main_v8 a5 j))) := by
  pointwise [Cert.GateRefIdeal.Read.val_main_v74, Cert.GateRefIdeal.Read.val_main_v53, Cert.GateRefIdeal.Read.val_main_v52, Cert.GateRefIdeal.Read.val_main_v45, Cert.GateRefIdeal.Read.val_main_v44, Cert.GateRefIdeal.Read.val_main_v43, Cert.GateRefIdeal.Read.val_main_cst_7, Cert.GateRefIdeal.Read.val_main_v42, Cert.GateRefIdeal.Read.val_main_v41, Cert.GateRefIdeal.Read.val_main_cst_6, Cert.GateRefIdeal.Read.val_main_v40, Cert.GateRefIdeal.Read.val_main_v39, Cert.GateRefIdeal.Read.val_main_cst_5, Cert.GateRefIdeal.Read.val_main_v38, Cert.GateRefIdeal.Read.val_main_v37]
  simp only [Ideal.logistic]

theorem ref_back_c (a0 : (⟨S4096x1024, .bf16⟩ : BufTy).Contents (Elt Ideal)) (a1 : (⟨S1024x1024, .bf16⟩ : BufTy).Contents (Elt Ideal)) (a5 : (⟨S4096x5888, .bf16⟩ : BufTy).Contents (Elt Ideal)) (w : (⟨S512x1024, .bf16⟩ : BufTy).Contents (Elt Ideal)) (j : S4096x512.Idx) :
    (Cert.GateRefIdeal.Read.val_main_v77 a0 a1 a5 w j : EReal) = ∑ k : Fin 1024, (Cert.GateRefIdeal.Read.val_main_v71 a0 a1 a5 (ix2 (j 0) k) : EReal) * w (ix2 (j 1) k) := by
  pointwise [Cert.GateRefIdeal.Read.val_main_v77]
  rw [Cert.GateRefIdeal.Read.val_main_v68_apply]
  pointwise [Cert.GateRefIdeal.Read.val_main_v71, Cert.GateRefIdeal.Read.val_main_v2]
  refine Finset.sum_congr rfl fun k _ => ?_
  have e0 : Cert.GateRefIdeal.Read.lidx_main_v68 j k = ix2 (n0 := 4096) (n1 := 1024) (j 0) k := by
    funext a
    match a with
    | ⟨0, _⟩ => rfl
    | ⟨1, _⟩ => rfl
  have e1 : Cert.GateRefIdeal.Read.ridx_main_v68 j k = ix2 (n0 := 512) (n1 := 1024) (j 1) k := by
    funext a
    match a with
    | ⟨0, _⟩ => rfl
    | ⟨1, _⟩ => rfl
  rw [e0, e1]

/-- An entry of the gradient of branch a's product. -/
theorem grad_a (t : Fin cfg0.N) (y : S1024x256.Idx) (j : S4096x1024.Idx) (h0 : (j 0).val = t.val / 4 * 1024 + (y 0).val) (h1 : (j 1).val = t.val % 4 * 256 + (y 1).val) : (k0_pay8 (iblk m c 0 t) (iblk m c 1 t) (iblk m c 5 t) y : EReal) = Cert.GateRefIdeal.Read.val_main_v69 (m ((c : Thread nD τ).loc main_arg0)) (m ((c : Thread nD τ).loc main_arg1)) (m ((c : Thread nD τ).loc main_arg5)) j := by
  rw [ref_pass_a, pass_a, mixed m c t y j h0 h1, logit_a m c t y j h0 h1]

/-- An entry of the gradient of branch a's gate. -/
theorem gate_a (t : Fin cfg0.N) (y : S1024x256.Idx) (j : S4096x1024.Idx) (h0 : (j 0).val = t.val / 4 * 1024 + (y 0).val) (h1 : (j 1).val = t.val % 4 * 256 + (y 1).val) : (k0_pay9 (iblk m c 0 t) (iblk m c 1 t) (iblk m c 5 t) (iblk m c 2 t) y : EReal) = Cert.GateRefIdeal.Read.val_main_v72 (m ((c : Thread nD τ).loc main_arg0)) (m ((c : Thread nD τ).loc main_arg1)) (m ((c : Thread nD τ).loc main_arg2)) (m ((c : Thread nD τ).loc main_arg5)) (m ((c : Thread nD τ).loc main_arg6)) j := by
  rw [ref_turn_a, turn_a, mixed m c t y j h0 h1, logit_a m c t y j h0 h1, product_a m c t y j h0 h1]

/-- An entry of the gradient of branch b's product. -/
theorem grad_b (t : Fin cfg0.N) (y : S1024x256.Idx) (j : S4096x1024.Idx) (h0 : (j 0).val = t.val / 4 * 1024 + (y 0).val) (h1 : (j 1).val = t.val % 4 * 256 + (y 1).val) : (k0_pay15 (k0_pay6 (iblk m c 0 t) (iblk m c 1 t)) (iblk m c 6 t) y : EReal) = Cert.GateRefIdeal.Read.val_main_v70 (m ((c : Thread nD τ).loc main_arg0)) (m ((c : Thread nD τ).loc main_arg1)) (m ((c : Thread nD τ).loc main_arg5)) j := by
  rw [ref_pass_b, pass_b, mixed m c t y j h0 h1, logit_b m c t y j h0 h1]

/-- An entry of the gradient of branch b's gate. -/
theorem gate_b (t : Fin cfg0.N) (y : S1024x256.Idx) (j : S4096x1024.Idx) (h0 : (j 0).val = t.val / 4 * 1024 + (y 0).val) (h1 : (j 1).val = t.val % 4 * 256 + (y 1).val) : (k0_pay16 (k0_pay6 (iblk m c 0 t) (iblk m c 1 t)) (iblk m c 6 t) (iblk m c 3 t) y : EReal) = Cert.GateRefIdeal.Read.val_main_v73 (m ((c : Thread nD τ).loc main_arg0)) (m ((c : Thread nD τ).loc main_arg1)) (m ((c : Thread nD τ).loc main_arg3)) (m ((c : Thread nD τ).loc main_arg5)) (m ((c : Thread nD τ).loc main_arg7)) j := by
  rw [ref_turn_b, turn_b, mixed m c t y j h0 h1, logit_b m c t y j h0 h1, product_b m c t y j h0 h1]

/-- An entry of the gradient of branch c's product. -/
theorem grad_c (t : Fin cfg0.N) (y : S1024x256.Idx) (j : S4096x1024.Idx) (h0 : (j 0).val = t.val / 4 * 1024 + (y 0).val) (h1 : (j 1).val = t.val % 4 * 256 + (y 1).val) : (k0_pay22 (k0_pay6 (iblk m c 0 t) (iblk m c 1 t)) (iblk m c 7 t) y : EReal) = Cert.GateRefIdeal.Read.val_main_v71 (m ((c : Thread nD τ).loc main_arg0)) (m ((c : Thread nD τ).loc main_arg1)) (m ((c : Thread nD τ).loc main_arg5)) j := by
  rw [ref_pass_c, pass_c, mixed m c t y j h0 h1, logit_c m c t y j h0 h1]

/-- An entry of the gradient of branch c's gate. -/
theorem gate_c (t : Fin cfg0.N) (y : S1024x256.Idx) (j : S4096x1024.Idx) (h0 : (j 0).val = t.val / 4 * 1024 + (y 0).val) (h1 : (j 1).val = t.val % 4 * 256 + (y 1).val) : (k0_pay1 (k0_pay6 (iblk m c 0 t) (iblk m c 1 t)) (k0_pay21 (iblk m c 7 t)) (iblk m c 4 t) y : EReal) = Cert.GateRefIdeal.Read.val_main_v74 (m ((c : Thread nD τ).loc main_arg0)) (m ((c : Thread nD τ).loc main_arg1)) (m ((c : Thread nD τ).loc main_arg4)) (m ((c : Thread nD τ).loc main_arg5)) (m ((c : Thread nD τ).loc main_arg8)) j := by
  rw [ref_turn_c, turn_c, mixed m c t y j h0 h1, logit_c m c t y j h0 h1, product_c m c t y j h0 h1]

end Cert.GateIdeal.Val
end
-- ==== Proof.GateOuts.lean ====
module

public import proofs.«01_k».proof.Proof.Gen.GateIdeal.Value
public import proofs.«01_k».proof.Proof.Gen.GateRefIdeal.Read
public import proofs.«01_k».proof.Defs
public import proofs.«01_k».proof.Proof.Gen.Gate.Frame
public import Idealize.ShloMosaic.Lib.Pipeline.ValueKit
public import Idealize.ShloMosaic.Lib.Pipeline.ReadBack
/-! What a grid point of the gates' backward call leaves: the six tiles, and the three carried sums. -/

@[expose] public section

set_option maxRecDepth 16384

noncomputable section

namespace Cert.GateIdeal.Val

open Cert.GateIdeal Cert.GateIdeal.Gen
open Idealize.ShloMosaic Idealize.ShloMosaic.TcCoe Idealize.ShloMosaic.Pointwise
open Idealize.SL Idealize.SL.Sem

variable (m : (ℓ : Loc nD τ sig) → Buf (Elt Ideal) ℓ) (c : Dev nD)

theorem dp_a (t : Fin cfg0.N) : (outsAt0 m c t.val t.isLt).1 = k0_pay8 (iblk m c 0 t) (iblk m c 1 t) (iblk m c 5 t) := by
  rcases (by omega : t.val % 4 = 0 ∨ t.val % 4 = 3 ∨ (1 ≤ t.val % 4 ∧ ¬ t.val % 4 = 3)) with h | h | ⟨h, h'⟩
  · rw [outsAt0_A m c t h (by omega) (by omega) h (by omega) (by omega) h (by omega) (by omega)]
    frame_out
  · rw [outsAt0_C m c t (by omega) (by omega) h (by omega) (by omega) h (by omega) (by omega) h]
    frame_out
  · rw [outsAt0_B m c t (by omega) h h' (by omega) h h' (by omega) h h']
    frame_out

theorem dp_b (t : Fin cfg0.N) : (outsAt0 m c t.val t.isLt).2.1 = k0_pay15 (k0_pay6 (iblk m c 0 t) (iblk m c 1 t)) (iblk m c 6 t) := by
  rcases (by omega : t.val % 4 = 0 ∨ t.val % 4 = 3 ∨ (1 ≤ t.val % 4 ∧ ¬ t.val % 4 = 3)) with h | h | ⟨h, h'⟩
  · rw [outsAt0_A m c t h (by omega) (by omega) h (by omega) (by omega) h (by omega) (by omega)]
    frame_out
  · rw [outsAt0_C m c t (by omega) (by omega) h (by omega) (by omega) h (by omega) (by omega) h]
    frame_out
  · rw [outsAt0_B m c t (by omega) h h' (by omega) h h' (by omega) h h']
    frame_out

theorem dp_c (t : Fin cfg0.N) : (outsAt0 m c t.val t.isLt).2.2.1 = k0_pay22 (k0_pay6 (iblk m c 0 t) (iblk m c 1 t)) (iblk m c 7 t) := by
  rcases (by omega : t.val % 4 = 0 ∨ t.val % 4 = 3 ∨ (1 ≤ t.val % 4 ∧ ¬ t.val % 4 = 3)) with h | h | ⟨h, h'⟩
  · rw [outsAt0_A m c t h (by omega) (by omega) h (by omega) (by omega) h (by omega) (by omega)]
    frame_out
  · rw [outsAt0_C m c t (by omega) (by omega) h (by omega) (by omega) h (by omega) (by omega) h]
    frame_out
  · rw [outsAt0_B m c t (by omega) h h' (by omega) h h' (by omega) h h']
    frame_out

theorem dg_a (t : Fin cfg0.N) : (outsAt0 m c t.val t.isLt).2.2.2.1 = k0_pay9 (iblk m c 0 t) (iblk m c 1 t) (iblk m c 5 t) (iblk m c 2 t) := by
  rcases (by omega : t.val % 4 = 0 ∨ t.val % 4 = 3 ∨ (1 ≤ t.val % 4 ∧ ¬ t.val % 4 = 3)) with h | h | ⟨h, h'⟩
  · rw [outsAt0_A m c t h (by omega) (by omega) h (by omega) (by omega) h (by omega) (by omega)]
    frame_out
  · rw [outsAt0_C m c t (by omega) (by omega) h (by omega) (by omega) h (by omega) (by omega) h]
    frame_out
  · rw [outsAt0_B m c t (by omega) h h' (by omega) h h' (by omega) h h']
    frame_out

theorem dg_b (t : Fin cfg0.N) : (outsAt0 m c t.val t.isLt).2.2.2.2.1 = k0_pay16 (k0_pay6 (iblk m c 0 t) (iblk m c 1 t)) (iblk m c 6 t) (iblk m c 3 t) := by
  rcases (by omega : t.val % 4 = 0 ∨ t.val % 4 = 3 ∨ (1 ≤ t.val % 4 ∧ ¬ t.val % 4 = 3)) with h | h | ⟨h, h'⟩
  · rw [outsAt0_A m c t h (by omega) (by omega) h (by omega) (by omega) h (by omega) (by omega)]
    frame_out
  · rw [outsAt0_C m c t (by omega) (by omega) h (by omega) (by omega) h (by omega) (by omega) h]
    frame_out
  · rw [outsAt0_B m c t (by omega) h h' (by omega) h h' (by omega) h h']
    frame_out

theorem dg_c (t : Fin cfg0.N) : (outsAt0 m c t.val t.isLt).2.2.2.2.2.1 = k0_pay1 (k0_pay6 (iblk m c 0 t) (iblk m c 1 t)) (k0_pay21 (iblk m c 7 t)) (iblk m c 4 t) := by
  rcases (by omega : t.val % 4 = 0 ∨ t.val % 4 = 3 ∨ (1 ≤ t.val % 4 ∧ ¬ t.val % 4 = 3)) with h | h | ⟨h, h'⟩
  · rw [outsAt0_A m c t h (by omega) (by omega) h (by omega) (by omega) h (by omega) (by omega)]
    frame_out
  · rw [outsAt0_C m c t (by omega) (by omega) h (by omega) (by omega) h (by omega) (by omega) h]
    frame_out
  · rw [outsAt0_B m c t (by omega) h h' (by omega) h h' (by omega) h h']
    frame_out

theorem zero_a (v0 : Vec Ideal S1024x1024 .bf16) (v1 : Vec Ideal S256x1024 .bf16) (v3 : Vec Ideal S1024x256 .bf16) (v19 : Vec Ideal S512x256 .bf16) (i : S1024x512.Idx) : k0_pay11 v0 v1 v3 v19 i = (0 : EReal) + k0_pay10 v0 v1 v3 v19 i := by
  pointwise [k0_pay11]

theorem step_a (v0 : Vec Ideal S1024x1024 .bf16) (v1 : Vec Ideal S256x1024 .bf16) (v3 : Vec Ideal S1024x256 .bf16) (v19 : Vec Ideal S512x256 .bf16) (w : Vec Ideal S1024x512 .f32) (i : S1024x512.Idx) : k0_pay12 v0 v1 v3 v19 w i = (w i : EReal) + k0_pay10 v0 v1 v3 v19 i := by
  pointwise [k0_pay12]

/-- The carried sum at the last column tile is the sum of the four tiles' products. -/
theorem acc_a (t : Fin cfg0.N) (h3 : t.val % 4 = 3) (i : S1024x512.Idx) :
    ((outsAt0 m c t.val t.isLt).2.2.2.2.2.2.2.2.2.1 i : EReal) = ∑ s : Fin 4, (k0_pay10 (iblk m c 0 ⟨_, Pipeline.run_point_lt_of_flush t h3 s⟩) (iblk m c 1 ⟨_, Pipeline.run_point_lt_of_flush t h3 s⟩) (iblk m c 5 ⟨_, Pipeline.run_point_lt_of_flush t h3 s⟩) (iblk m c 8 ⟨_, Pipeline.run_point_lt_of_flush t h3 s⟩) i : EReal) := by
  rw [Pipeline.eq_sum_fin_of_reset_step_apply_of_flush (fun n h => ((outsAt0 m c n h).2.2.2.2.2.2.2.2.2.1 : S1024x512.Idx → EReal)) 4 (fun _ => (0 : EReal))
    (fun t i => k0_pay10 (iblk m c 0 t) (iblk m c 1 t) (iblk m c 5 t) (iblk m c 8 t) i)
    (fun t h i => by
      rw [outsAt0_A m c t h (by omega) (by omega) h (by omega) (by omega) h (by omega) (by omega)]
      frame_out
      rw [zero_a])
    (fun t h i => by
      by_cases h' : t.val % 4 = 3
      · rw [outsAt0_C m c t (by omega) (by omega) h' (by omega) (by omega) h' (by omega) (by omega) h']
        frame_out
        simp only [read_unread_whole]
        rw [step_a]
      · have h1 : 1 ≤ t.val % 4 := by omega
        rw [outsAt0_B m c t h h1 h' h h1 h' h h1 h']
        frame_out
        simp only [read_unread_whole]
        rw [step_a]) t h3 i]
  exact zero_add _

theorem last_a (t : Fin cfg0.N) (h : t.val % 4 = 3) (i : S1024x512.Idx) :
    ((outsAt0 m c t.val t.isLt).2.2.2.2.2.2.1 i : EReal) = (outsAt0 m c t.val t.isLt).2.2.2.2.2.2.2.2.2.1 i := by
  rw [outsAt0_C m c t (by omega) (by omega) h (by omega) (by omega) h (by omega) (by omega) h]
  frame_out
  pointwise [k0_pay13]

theorem zero_b (v2 : FVec Ideal S1024x256 .f32) (v30 : Vec Ideal S1024x256 .bf16) (v46 : Vec Ideal S512x256 .bf16) (i : S1024x512.Idx) : k0_pay18 v2 v30 v46 i = (0 : EReal) + k0_pay17 v2 v30 v46 i := by
  pointwise [k0_pay18]

theorem step_b (v2 : FVec Ideal S1024x256 .f32) (v30 : Vec Ideal S1024x256 .bf16) (v46 : Vec Ideal S512x256 .bf16) (w : Vec Ideal S1024x512 .f32) (i : S1024x512.Idx) : k0_pay19 v2 v30 v46 w i = (w i : EReal) + k0_pay17 v2 v30 v46 i := by
  pointwise [k0_pay19]

/-- The carried sum at the last column tile is the sum of the four tiles' products. -/
theorem acc_b (t : Fin cfg0.N) (h3 : t.val % 4 = 3) (i : S1024x512.Idx) :
    ((outsAt0 m c t.val t.isLt).2.2.2.2.2.2.2.2.2.2.1 i : EReal) = ∑ s : Fin 4, (k0_pay17 (k0_pay6 (iblk m c 0 ⟨_, Pipeline.run_point_lt_of_flush t h3 s⟩) (iblk m c 1 ⟨_, Pipeline.run_point_lt_of_flush t h3 s⟩)) (iblk m c 6 ⟨_, Pipeline.run_point_lt_of_flush t h3 s⟩) (iblk m c 9 ⟨_, Pipeline.run_point_lt_of_flush t h3 s⟩) i : EReal) := by
  rw [Pipeline.eq_sum_fin_of_reset_step_apply_of_flush (fun n h => ((outsAt0 m c n h).2.2.2.2.2.2.2.2.2.2.1 : S1024x512.Idx → EReal)) 4 (fun _ => (0 : EReal))
    (fun t i => k0_pay17 (k0_pay6 (iblk m c 0 t) (iblk m c 1 t)) (iblk m c 6 t) (iblk m c 9 t) i)
    (fun t h i => by
      rw [outsAt0_A m c t h (by omega) (by omega) h (by omega) (by omega) h (by omega) (by omega)]
      frame_out
      rw [zero_b])
    (fun t h i => by
      by_cases h' : t.val % 4 = 3
      · rw [outsAt0_C m c t (by omega) (by omega) h' (by omega) (by omega) h' (by omega) (by omega) h']
        frame_out
        simp only [read_unread_whole]
        rw [step_b]
      · have h1 : 1 ≤ t.val % 4 := by omega
        rw [outsAt0_B m c t h h1 h' h h1 h' h h1 h']
        frame_out
        simp only [read_unread_whole]
        rw [step_b]) t h3 i]
  exact zero_add _

theorem last_b (t : Fin cfg0.N) (h : t.val % 4 = 3) (i : S1024x512.Idx) :
    ((outsAt0 m c t.val t.isLt).2.2.2.2.2.2.2.1 i : EReal) = (outsAt0 m c t.val t.isLt).2.2.2.2.2.2.2.2.2.2.1 i := by
  rw [outsAt0_C m c t (by omega) (by omega) h (by omega) (by omega) h (by omega) (by omega) h]
  frame_out
  pointwise [k0_pay20]

theorem zero_c (v61 : FVec Ideal S1024x256 .bf16) (v73 : Vec Ideal S512x256 .bf16) (i : S1024x512.Idx) : k0_pay3 v61 v73 i = (0 : EReal) + k0_pay2 v61 v73 i := by
  pointwise [k0_pay3]

theorem step_c (v61 : FVec Ideal S1024x256 .bf16) (v73 : Vec Ideal S512x256 .bf16) (w : Vec Ideal S1024x512 .f32) (i : S1024x512.Idx) : k0_pay4 v61 v73 w i = (w i : EReal) + k0_pay2 v61 v73 i := by
  pointwise [k0_pay4]

/-- The carried sum at the last column tile is the sum of the four tiles' products. -/
theorem acc_c (t : Fin cfg0.N) (h3 : t.val % 4 = 3) (i : S1024x512.Idx) :
    ((outsAt0 m c t.val t.isLt).2.2.2.2.2.2.2.2.2.2.2 i : EReal) = ∑ s : Fin 4, (k0_pay2 (k0_pay22 (k0_pay6 (iblk m c 0 ⟨_, Pipeline.run_point_lt_of_flush t h3 s⟩) (iblk m c 1 ⟨_, Pipeline.run_point_lt_of_flush t h3 s⟩)) (iblk m c 7 ⟨_, Pipeline.run_point_lt_of_flush t h3 s⟩)) (iblk m c 10 ⟨_, Pipeline.run_point_lt_of_flush t h3 s⟩) i : EReal) := by
  rw [Pipeline.eq_sum_fin_of_reset_step_apply_of_flush (fun n h => ((outsAt0 m c n h).2.2.2.2.2.2.2.2.2.2.2 : S1024x512.Idx → EReal)) 4 (fun _ => (0 : EReal))
    (fun t i => k0_pay2 (k0_pay22 (k0_pay6 (iblk m c 0 t) (iblk m c 1 t)) (iblk m c 7 t)) (iblk m c 10 t) i)
    (fun t h i => by
      rw [outsAt0_A m c t h (by omega) (by omega) h (by omega) (by omega) h (by omega) (by omega)]
      frame_out
      rw [zero_c])
    (fun t h i => by
      by_cases h' : t.val % 4 = 3
      · rw [outsAt0_C m c t (by omega) (by omega) h' (by omega) (by omega) h' (by omega) (by omega) h']
        frame_out
        simp only [read_unread_whole]
        rw [step_c]
      · have h1 : 1 ≤ t.val % 4 := by omega
        rw [outsAt0_B m c t h h1 h' h h1 h' h h1 h']
        frame_out
        simp only [read_unread_whole]
        rw [step_c]) t h3 i]
  exact zero_add _

theorem last_c (t : Fin cfg0.N) (h : t.val % 4 = 3) (i : S1024x512.Idx) :
    ((outsAt0 m c t.val t.isLt).2.2.2.2.2.2.2.2.1 i : EReal) = (outsAt0 m c t.val t.isLt).2.2.2.2.2.2.2.2.2.2.2 i := by
  rw [outsAt0_C m c t (by omega) (by omega) h (by omega) (by omega) h (by omega) (by omega) h]
  frame_out
  pointwise [k0_pay5]

end Cert.GateIdeal.Val
end
-- ==== Proof.GateValue.lean ====
module

public import proofs.«01_k».proof.Proof.Gen.GateIdeal.Value
public import proofs.«01_k».proof.Proof.Gen.GateRefIdeal.Read
public import proofs.«01_k».proof.Defs
public import proofs.«01_k».proof.Proof.Gen.Gate.Frame
public import Idealize.ShloMosaic.Lib.Pipeline.ValueKit
public import proofs.«01_k».proof.Proof.GateRead
public import proofs.«01_k».proof.Proof.GateOuts
/-! The gates' backward call: the incoming gradient is taken back through the mixing weights once per tile, each branch's gate
    splits it, and a branch's input gradient is added up over the four column tiles. -/

@[expose] public section

set_option maxRecDepth 16384

noncomputable section

namespace Cert.GateIdeal.Val

open Cert.GateIdeal Cert.GateIdeal.Gen
open Idealize.ShloMosaic Idealize.ShloMosaic.TcCoe Idealize.ShloMosaic.Pointwise
open Idealize.SL Idealize.SL.Sem

variable (m : (ℓ : Loc nD τ sig) → Buf (Elt Ideal) ℓ) (c : Dev nD)

theorem back_a (t : Fin cfg0.N) (h3 : t.val % 4 = 3) (i : S1024x512.Idx) (j : S4096x512.Idx) (h0 : (j 0).val = t.val / 4 * 1024 + (i 0).val) (h1 : (j 1).val = (i 1).val) :
    ((outsAt0 m c t.val t.isLt).2.2.2.2.2.2.1 i : EReal) = Cert.GateRefIdeal.Read.val_main_v75 (m ((c : Thread nD τ).loc main_arg0)) (m ((c : Thread nD τ).loc main_arg1)) (m ((c : Thread nD τ).loc main_arg5)) (m ((c : Thread nD τ).loc main_arg6)) j := by
  rw [last_a m c t h3, acc_a m c t h3, ref_back_a]
  simp only [part_a]
  refine Fin.sum_mul_add_congr fun s k hl => ?_
  have hs := s.isLt
  refine congrArg₂ (fun x y : EReal => x * y) ?_ ?_
  · exact grad_a m c ⟨_, Pipeline.run_point_lt_of_flush t h3 s⟩ _ _ (by show (j 0).val = (4 * (t.val / 4) + s.val) / 4 * 1024 + (i 0).val; omega) (by show s.val * 256 + k.val = (4 * (t.val / 4) + s.val) % 4 * 256 + k.val; omega)
  · exact weight_a m c ⟨_, Pipeline.run_point_lt_of_flush t h3 s⟩ _ _ h1 (by show s.val * 256 + k.val = (4 * (t.val / 4) + s.val) % 4 * 256 + k.val; omega)

theorem back_b (t : Fin cfg0.N) (h3 : t.val % 4 = 3) (i : S1024x512.Idx) (j : S4096x512.Idx) (h0 : (j 0).val = t.val / 4 * 1024 + (i 0).val) (h1 : (j 1).val = (i 1).val) :
    ((outsAt0 m c t.val t.isLt).2.2.2.2.2.2.2.1 i : EReal) = Cert.GateRefIdeal.Read.val_main_v76 (m ((c : Thread nD τ).loc main_arg0)) (m ((c : Thread nD τ).loc main_arg1)) (m ((c : Thread nD τ).loc main_arg5)) (m ((c : Thread nD τ).loc main_arg7)) j := by
  rw [last_b m c t h3, acc_b m c t h3, ref_back_b]
  simp only [part_b]
  refine Fin.sum_mul_add_congr fun s k hl => ?_
  have hs := s.isLt
  refine congrArg₂ (fun x y : EReal => x * y) ?_ ?_
  · exact grad_b m c ⟨_, Pipeline.run_point_lt_of_flush t h3 s⟩ _ _ (by show (j 0).val = (4 * (t.val / 4) + s.val) / 4 * 1024 + (i 0).val; omega) (by show s.val * 256 + k.val = (4 * (t.val / 4) + s.val) % 4 * 256 + k.val; omega)
  · exact weight_b m c ⟨_, Pipeline.run_point_lt_of_flush t h3 s⟩ _ _ h1 (by show s.val * 256 + k.val = (4 * (t.val / 4) + s.val) % 4 * 256 + k.val; omega)

theorem back_c (t : Fin cfg0.N) (h3 : t.val % 4 = 3) (i : S1024x512.Idx) (j : S4096x512.Idx) (h0 : (j 0).val = t.val / 4 * 1024 + (i 0).val) (h1 : (j 1).val = (i 1).val) :
    ((outsAt0 m c t.val t.isLt).2.2.2.2.2.2.2.2.1 i : EReal) = Cert.GateRefIdeal.Read.val_main_v77 (m ((c : Thread nD τ).loc main_arg0)) (m ((c : Thread nD τ).loc main_arg1)) (m ((c : Thread nD τ).loc main_arg5)) (m ((c : Thread nD τ).loc main_arg8)) j := by
  rw [last_c m c t h3, acc_c m c t h3, ref_back_c]
  simp only [part_c]
  refine Fin.sum_mul_add_congr fun s k hl => ?_
  have hs := s.isLt
  refine congrArg₂ (fun x y : EReal => x * y) ?_ ?_
  · exact grad_c m c ⟨_, Pipeline.run_point_lt_of_flush t h3 s⟩ _ _ (by show (j 0).val = (4 * (t.val / 4) + s.val) / 4 * 1024 + (i 0).val; omega) (by show s.val * 256 + k.val = (4 * (t.val / 4) + s.val) % 4 * 256 + k.val; omega)
  · exact weight_c m c ⟨_, Pipeline.run_point_lt_of_flush t h3 s⟩ _ _ h1 (by show s.val * 256 + k.val = (4 * (t.val / 4) + s.val) % 4 * 256 + k.val; omega)

/-- The gradient of branch a's product, as the array that holds it. -/
theorem final_11 : (dats m 0 c).arrAt 11 cfg0.N = Cert.GateRefIdeal.Read.val_main_v69 (m ((c : Thread nD τ).loc main_arg0)) (m ((c : Thread nD τ).loc main_arg1)) (m ((c : Thread nD τ).loc main_arg5)) := by
  refine (dats m 0 c).arrAt_eq_of_covers 11 _ (by decide +kernel) fun t hf y => ?_
  blk_simp
  rw [after0_11, dp_a m c t]
  exact grad_a m c t _ _ (by blk_simp [idx t]) (by blk_simp [idx t])

/-- The gradient of branch b's product, as the array that holds it. -/
theorem final_12 : (dats m 0 c).arrAt 12 cfg0.N = Cert.GateRefIdeal.Read.val_main_v70 (m ((c : Thread nD τ).loc main_arg0)) (m ((c : Thread nD τ).loc main_arg1)) (m ((c : Thread nD τ).loc main_arg5)) := by
  refine (dats m 0 c).arrAt_eq_of_covers 12 _ (by decide +kernel) fun t hf y => ?_
  blk_simp
  rw [after0_12, dp_b m c t]
  exact grad_b m c t _ _ (by blk_simp [idx t]) (by blk_simp [idx t])

/-- The gradient of branch c's product, as the array that holds it. -/
theorem final_13 : (dats m 0 c).arrAt 13 cfg0.N = Cert.GateRefIdeal.Read.val_main_v71 (m ((c : Thread nD τ).loc main_arg0)) (m ((c : Thread nD τ).loc main_arg1)) (m ((c : Thread nD τ).loc main_arg5)) := by
  refine (dats m 0 c).arrAt_eq_of_covers 13 _ (by decide +kernel) fun t hf y => ?_
  blk_simp
  rw [after0_13, dp_c m c t]
  exact grad_c m c t _ _ (by blk_simp [idx t]) (by blk_simp [idx t])

/-- The gradient of branch a's gate, as the array that holds it. -/
theorem final_14 : (dats m 0 c).arrAt 14 cfg0.N = Cert.GateRefIdeal.Read.val_main_v72 (m ((c : Thread nD τ).loc main_arg0)) (m ((c : Thread nD τ).loc main_arg1)) (m ((c : Thread nD τ).loc main_arg2)) (m ((c : Thread nD τ).loc main_arg5)) (m ((c : Thread nD τ).loc main_arg6)) := by
  refine (dats m 0 c).arrAt_eq_of_covers 14 _ (by decide +kernel) fun t hf y => ?_
  blk_simp
  rw [after0_14, dg_a m c t]
  exact gate_a m c t _ _ (by blk_simp [idx t]) (by blk_simp [idx t])

/-- The gradient of branch b's gate, as the array that holds it. -/
theorem final_15 : (dats m 0 c).arrAt 15 cfg0.N = Cert.GateRefIdeal.Read.val_main_v73 (m ((c : Thread nD τ).loc main_arg0)) (m ((c : Thread nD τ).loc main_arg1)) (m ((c : Thread nD τ).loc main_arg3)) (m ((c : Thread nD τ).loc main_arg5)) (m ((c : Thread nD τ).loc main_arg7)) := by
  refine (dats m 0 c).arrAt_eq_of_covers 15 _ (by decide +kernel) fun t hf y => ?_
  blk_simp
  rw [after0_15, dg_b m c t]
  exact gate_b m c t _ _ (by blk_simp [idx t]) (by blk_simp [idx t])

/-- The gradient of branch c's gate, as the array that holds it. -/
theorem final_16 : (dats m 0 c).arrAt 16 cfg0.N = Cert.GateRefIdeal.Read.val_main_v74 (m ((c : Thread nD τ).loc main_arg0)) (m ((c : Thread nD τ).loc main_arg1)) (m ((c : Thread nD τ).loc main_arg4)) (m ((c : Thread nD τ).loc main_arg5)) (m ((c : Thread nD τ).loc main_arg8)) := by
  refine (dats m 0 c).arrAt_eq_of_covers 16 _ (by decide +kernel) fun t hf y => ?_
  blk_simp
  rw [after0_16, dg_c m c t]
  exact gate_c m c t _ _ (by blk_simp [idx t]) (by blk_simp [idx t])

/-- The gradient of branch a's output, as the array that holds it. -/
theorem final_17 : (dats m 0 c).arrAt 17 cfg0.N = Cert.GateRefIdeal.Read.val_main_v75 (m ((c : Thread nD τ).loc main_arg0)) (m ((c : Thread nD τ).loc main_arg1)) (m ((c : Thread nD τ).loc main_arg5)) (m ((c : Thread nD τ).loc main_arg6)) := by
  refine (dats m 0 c).arrAt_eq_of_covers 17 _ (by decide +kernel) fun t hf y => ?_
  have h3 := (flush0_17 t).mp hf
  blk_simp
  rw [after0_17]
  exact back_a m c t h3 _ _ (by blk_simp [idx t]) (by blk_simp [idx t])

/-- The gradient of branch b's output, as the array that holds it. -/
theorem final_18 : (dats m 0 c).arrAt 18 cfg0.N = Cert.GateRefIdeal.Read.val_main_v76 (m ((c : Thread nD τ).loc main_arg0)) (m ((c : Thread nD τ).loc main_arg1)) (m ((c : Thread nD τ).loc main_arg5)) (m ((c : Thread nD τ).loc main_arg7)) := by
  refine (dats m 0 c).arrAt_eq_of_covers 18 _ (by decide +kernel) fun t hf y => ?_
  have h3 := (flush0_18 t).mp hf
  blk_simp
  rw [after0_18]
  exact back_b m c t h3 _ _ (by blk_simp [idx t]) (by blk_simp [idx t])

/-- The gradient of branch c's output, as the array that holds it. -/
theorem final_19 : (dats m 0 c).arrAt 19 cfg0.N = Cert.GateRefIdeal.Read.val_main_v77 (m ((c : Thread nD τ).loc main_arg0)) (m ((c : Thread nD τ).loc main_arg1)) (m ((c : Thread nD τ).loc main_arg5)) (m ((c : Thread nD τ).loc main_arg8)) := by
  refine (dats m 0 c).arrAt_eq_of_covers 19 _ (by decide +kernel) fun t hf y => ?_
  have h3 := (flush0_19 t).mp hf
  blk_simp
  rw [after0_19]
  exact back_c m c t h3 _ _ (by blk_simp [idx t]) (by blk_simp [idx t])

theorem frame_k : Cert.quiescent_Gate (hGate := Cert.Gate.Gen.facts) := fun m g _ => Cert.Gate.Gen.frame m g

theorem frame_i : Cert.quiescent_GateIdeal (hGateIdeal := Cert.GateIdeal.Gen.facts) := fun m g _ => Cert.GateIdeal.Gen.frame m g

theorem frame_r : Cert.quiescent_GateRefIdeal (hGateRefIdeal := Cert.GateRefIdeal.Gen.facts) := fun m g _ =>
  (θ_run Cert.GateRefIdeal.defs _ _).mono (fun r h => ⟨fun c => (h c).2.2.2.2.2.2.2.2.2, Idealize.ShloMosaic.sem_eq_zero_of_no_sems (by decide) r.2⟩) (Cert.GateRefIdeal.Value.run (F := Ideal) m g)

set_option maxHeartbeats 2000000 in
/-- The call and the reference, run from memories that agree on the arguments, leave the same results. -/
theorem algebraic : Cert.algebraic_GateIdeal_GateRefIdeal (hGateIdeal := Cert.GateIdeal.Gen.facts) (hGateRefIdeal := Cert.GateRefIdeal.Gen.facts) := by
  intro m g m' g' _ hagree
  refine ⟨fun c => Cert.GateRefIdeal.Read.val_main_v69 (m ((c : Thread nD τ).loc main_arg0)) (m ((c : Thread nD τ).loc main_arg1)) (m ((c : Thread nD τ).loc main_arg5)), fun c => Cert.GateRefIdeal.Read.val_main_v70 (m ((c : Thread nD τ).loc main_arg0)) (m ((c : Thread nD τ).loc main_arg1)) (m ((c : Thread nD τ).loc main_arg5)), fun c => Cert.GateRefIdeal.Read.val_main_v71 (m ((c : Thread nD τ).loc main_arg0)) (m ((c : Thread nD τ).loc main_arg1)) (m ((c : Thread nD τ).loc main_arg5)), fun c => Cert.GateRefIdeal.Read.val_main_v72 (m ((c : Thread nD τ).loc main_arg0)) (m ((c : Thread nD τ).loc main_arg1)) (m ((c : Thread nD τ).loc main_arg2)) (m ((c : Thread nD τ).loc main_arg5)) (m ((c : Thread nD τ).loc main_arg6)), fun c => Cert.GateRefIdeal.Read.val_main_v73 (m ((c : Thread nD τ).loc main_arg0)) (m ((c : Thread nD τ).loc main_arg1)) (m ((c : Thread nD τ).loc main_arg3)) (m ((c : Thread nD τ).loc main_arg5)) (m ((c : Thread nD τ).loc main_arg7)), fun c => Cert.GateRefIdeal.Read.val_main_v74 (m ((c : Thread nD τ).loc main_arg0)) (m ((c : Thread nD τ).loc main_arg1)) (m ((c : Thread nD τ).loc main_arg4)) (m ((c : Thread nD τ).loc main_arg5)) (m ((c : Thread nD τ).loc main_arg8)), fun c => Cert.GateRefIdeal.Read.val_main_v75 (m ((c : Thread nD τ).loc main_arg0)) (m ((c : Thread nD τ).loc main_arg1)) (m ((c : Thread nD τ).loc main_arg5)) (m ((c : Thread nD τ).loc main_arg6)), fun c => Cert.GateRefIdeal.Read.val_main_v76 (m ((c : Thread nD τ).loc main_arg0)) (m ((c : Thread nD τ).loc main_arg1)) (m ((c : Thread nD τ).loc main_arg5)) (m ((c : Thread nD τ).loc main_arg7)), fun c => Cert.GateRefIdeal.Read.val_main_v77 (m ((c : Thread nD τ).loc main_arg0)) (m ((c : Thread nD τ).loc main_arg1)) (m ((c : Thread nD τ).loc main_arg5)) (m ((c : Thread nD τ).loc main_arg8)), ?_, ?_⟩
  · refine (θ_run Cert.GateIdeal.defs _ _).mono (fun r h c => ?_) (Cert.GateIdeal.Value.run_blocks (F := Ideal) m g)
    obtain ⟨h0, h1, h2, h3, h4, h5, h6, h7, h8, ha⟩ := h c
    exact ⟨h0.trans (final_11 m c), h1.trans (final_12 m c), h2.trans (final_13 m c), h3.trans (final_14 m c), h4.trans (final_15 m c), h5.trans (final_16 m c), h6.trans (final_17 m c), h7.trans (final_18 m c), h8.trans (final_19 m c), ha⟩
  · refine (θ_run Cert.GateRefIdeal.defs _ _).mono (fun r h c => ?_) (Cert.GateRefIdeal.Value.run (F := Ideal) m' g')
    obtain ⟨h0, h1, h2, h3, h4, h5, h6, h7, h8, ha⟩ := h c
    obtain ⟨e0, e1, e2, e3, e4, e5, e6, e7, e8⟩ := hagree c
    exact ⟨h0.trans (by rw [Cert.GateRefIdeal.Read.val_main_v69_eq, e0, e1, e5]), h1.trans (by rw [Cert.GateRefIdeal.Read.val_main_v70_eq, e0, e1, e5]), h2.trans (by rw [Cert.GateRefIdeal.Read.val_main_v71_eq, e0, e1, e5]), h3.trans (by rw [Cert.GateRefIdeal.Read.val_main_v72_eq, e0, e1, e2, e5, e6]), h4.trans (by rw [Cert.GateRefIdeal.Read.val_main_v73_eq, e0, e1, e3, e5, e7]), h5.trans (by rw [Cert.GateRefIdeal.Read.val_main_v74_eq, e0, e1, e4, e5, e8]), h6.trans (by rw [Cert.GateRefIdeal.Read.val_main_v75_eq, e0, e1, e5, e6]), h7.trans (by rw [Cert.GateRefIdeal.Read.val_main_v76_eq, e0, e1, e5, e7]), h8.trans (by rw [Cert.GateRefIdeal.Read.val_main_v77_eq, e0, e1, e5, e8]), ha⟩

end Cert.GateIdeal.Val
end
-- ==== Proof.DwValue.lean ====
module

public import proofs.«01_k».proof.Proof.Gen.DwIdeal.Value
public import proofs.«01_k».proof.Proof.Gen.DwRefIdeal.Read
public import proofs.«01_k».proof.Defs
public import proofs.«01_k».proof.Proof.Gen.Dw.Frame
public import Idealize.ShloMosaic.Lib.Pipeline.ValueKit
public import Idealize.ShloMosaic.Lib.Pipeline.ReadBack

/-! The gradient of a product with respect to its weights: four row blocks of the two operands are added up, and the
    fourth point of a run writes the sum back. -/

@[expose] public section

set_option maxRecDepth 16384

noncomputable section

namespace Cert.DwIdeal.Val

open Cert.DwIdeal Cert.DwIdeal.Gen
open Idealize.ShloMosaic Idealize.ShloMosaic.TcCoe Idealize.ShloMosaic.Pointwise
open Idealize.SL Idealize.SL.Sem

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

variable (m : (ℓ : Loc nD τ sig) → Buf (Elt Ideal) ℓ) (c : Dev nD)

theorem sum_zero (v0 : Vec Ideal S1024x1408 .bf16) (v1 : Vec Ideal S1024x1024 .bf16) (i : S1408x1024.Idx) :
    k0_pay2 v0 v1 i = (0 : EReal) + k0_pay1 v0 v1 i := by
  pointwise [k0_pay2]

theorem sum_step (v0 : Vec Ideal S1024x1408 .bf16) (v1 : Vec Ideal S1024x1024 .bf16) (w : Vec Ideal S1408x1024 .f32) (i : S1408x1024.Idx) :
    k0_pay3 v0 v1 w i = (w i : EReal) + k0_pay1 v0 v1 i := by
  pointwise [k0_pay3]

/-- The accumulator at the last point of a run is the sum of the run's four products. -/
theorem acc (t : Fin cfg0.N) (h3 : t.val % 4 = 3) (i : S1408x1024.Idx) :
    (outsAt0 m c t.val t.isLt).2 i = ((fun _ => 0 : S1408x1024.Idx → EReal) i : EReal) + ∑ s : Fin 4, k0_pay1 (iblk m c 0 ⟨_, Pipeline.run_point_lt_of_flush t h3 s⟩) (iblk m c 1 ⟨_, Pipeline.run_point_lt_of_flush t h3 s⟩) i := by
  rw [Pipeline.eq_sum_fin_of_reset_step_apply_of_flush (fun n h => ((outsAt0 m c n h).2 : S1408x1024.Idx → EReal)) 4 (fun _ => (0 : EReal))
    (fun t i => k0_pay1 (iblk m c 0 t) (iblk m c 1 t) i)
    (fun t h i => by
      rw [outsAt0_A m c t h (by omega) (by omega)]
      frame_out
      rw [sum_zero])
    (fun t h i => by
      by_cases h' : t.val % 4 = 3
      · rw [outsAt0_C m c t h (by omega) h']
        frame_out
        simp only [read_unread_whole]
        rw [sum_step]
      · rw [outsAt0_B m c t h (by omega) h']
        frame_out
        simp only [read_unread_whole]
        rw [sum_step]) t h3 i]

theorem last (t : Fin cfg0.N) (h3 : t.val % 4 = 3) (i : S1408x1024.Idx) : ((outsAt0 m c t.val t.isLt).1 i : EReal) = (outsAt0 m c t.val t.isLt).2 i := by
  rw [outsAt0_C m c t (by omega) (by omega) h3]
  frame_out
  pointwise [k0_pay4]

/-- The gradient, as the array that holds it. -/
theorem final_2 : (dats m 0 c).arrAt 2 cfg0.N
    = Cert.DwRefIdeal.Read.val_main_v6 (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2, last m c t h3, acc m c t h3]
  pointwise [k0_pay1, Cert.DwRefIdeal.Read.val_main_v6, Cert.DwRefIdeal.Read.val_main_v5]
  rw [Cert.DwRefIdeal.Read.val_main_v4_apply]
  pointwise [Cert.DwRefIdeal.Read.val_main_v3, Cert.DwRefIdeal.Read.val_main_v1]
  refine Fin.sum_mul_add_congr fun s k hl => ?_
  refine (mul_comm (_ : EReal) _).trans ?_
  blk_point [iblk, V, idx t, idx ⟨_, Pipeline.run_point_lt_of_flush t h3 s⟩]

theorem frame_k : Cert.quiescent_Dw (hDw := Cert.Dw.Gen.facts) := fun m g _ => Cert.Dw.Gen.frame m g

theorem frame_i : Cert.quiescent_DwIdeal (hDwIdeal := Cert.DwIdeal.Gen.facts) := fun m g _ => Cert.DwIdeal.Gen.frame m g

theorem frame_r : Cert.quiescent_DwRefIdeal (hDwRefIdeal := Cert.DwRefIdeal.Gen.facts) := fun m g _ =>
  (θ_run Cert.DwRefIdeal.defs _ _).mono (fun r h => ⟨fun c => (h c).2, Idealize.ShloMosaic.sem_eq_zero_of_no_sems (by decide) r.2⟩) (Cert.DwRefIdeal.Value.run (F := Ideal) m g)

/-- The call and the reference, run from memories that agree on the arguments, leave the same results. -/
theorem algebraic : Cert.algebraic_DwIdeal_DwRefIdeal (hDwIdeal := Cert.DwIdeal.Gen.facts) (hDwRefIdeal := Cert.DwRefIdeal.Gen.facts) := by
  intro m g m' g' _ hagree
  refine ⟨fun c => Cert.DwRefIdeal.Read.val_main_v6 (m ((c : Thread nD τ).loc main_arg0)) (m ((c : Thread nD τ).loc main_arg1)), ?_, ?_⟩
  · refine (θ_run Cert.DwIdeal.defs _ _).mono (fun r h c => ?_) (Cert.DwIdeal.Value.run_blocks (F := Ideal) m g)
    obtain ⟨h0, ha⟩ := h c
    exact ⟨h0.trans (final_2 m c), ha⟩
  · refine (θ_run Cert.DwRefIdeal.defs _ _).mono (fun r h c => ?_) (Cert.DwRefIdeal.Value.run (F := Ideal) m' g')
    obtain ⟨h0, ha⟩ := h c
    obtain ⟨e0, e1⟩ := hagree c
    exact ⟨h0.trans (by rw [Cert.DwRefIdeal.Read.val_main_v6_eq, e0, e1]), ha⟩

end Cert.DwIdeal.Val
end
-- ==== Proof.UpValue.lean ====
module

public import proofs.«01_k».proof.Proof.Gen.UpIdeal.Value
public import proofs.«01_k».proof.Proof.Gen.UpRefIdeal.Read
public import proofs.«01_k».proof.Defs
public import proofs.«01_k».proof.Proof.Gen.Up.Frame
public import Idealize.ShloMosaic.Lib.Pipeline.ValueKit

/-! The two products of the feed-forward block and its gated product, block by block: each grid point's three blocks
    are the reference's values there. -/

@[expose] public section

set_option maxRecDepth 16384

noncomputable section

namespace Cert.UpIdeal.Val

open Cert.UpIdeal Cert.UpIdeal.Gen
open Idealize.ShloMosaic Idealize.ShloMosaic.TcCoe Idealize.ShloMosaic.Pointwise
open Idealize.SL Idealize.SL.Sem

theorem idx : ∀ t : Fin cfg0.N, win0_0.index t = ![t.val % 8, 0] ∧ win0_1.index t = ![t.val / 8, 0] ∧ win0_2.index t = ![t.val / 8, 0]
    ∧ win0_3.index t = ![t.val % 8, t.val / 8] ∧ win0_4.index t = ![t.val % 8, t.val / 8] ∧ win0_5.index t = ![t.val % 8, t.val / 8] :=
  (by decide +kernel : ∀ t : Fin grid0.N, _)

variable (m : (ℓ : Loc nD τ sig) → Buf (Elt Ideal) ℓ) (c : Dev nD)

/-- The pre-activation of the gate, as the array that holds it. -/
theorem final_4 : (dats m 0 c).arrAt 4 cfg0.N
    = Cert.UpRefIdeal.Read.val_main_v9 (m ((c : Thread nD τ).loc main_arg0)) (m ((c : Thread nD τ).loc main_arg1)) := by
  refine (dats m 0 c).arrAt_eq_of_covers 4 _ (by decide +kernel) fun t hf y => ?_
  blk_simp
  rw [after0_4]
  frame_out
  pointwise [k0_pay4, k0_pay1, Cert.UpRefIdeal.Read.val_main_v9]
  rw [Cert.UpRefIdeal.Read.val_main_v2_apply]
  pointwise [Cert.UpRefIdeal.Read.val_main_v0, Cert.UpRefIdeal.Read.val_main_v1]
  blk_point [iblk, V, idx t]

/-- The product it gates, as the array that holds it. -/
theorem final_5 : (dats m 0 c).arrAt 5 cfg0.N
    = Cert.UpRefIdeal.Read.val_main_v10 (m ((c : Thread nD τ).loc main_arg0)) (m ((c : Thread nD τ).loc main_arg2)) := by
  refine (dats m 0 c).arrAt_eq_of_covers 5 _ (by decide +kernel) fun t hf y => ?_
  blk_simp
  rw [after0_5]
  frame_out
  pointwise [k0_pay5, k0_pay2, Cert.UpRefIdeal.Read.val_main_v10]
  rw [Cert.UpRefIdeal.Read.val_main_v5_apply]
  pointwise [Cert.UpRefIdeal.Read.val_main_v3, Cert.UpRefIdeal.Read.val_main_v4]
  blk_point [iblk, V, idx t]

/-- The gated product, as the array that holds it. -/
theorem final_3 : (dats m 0 c).arrAt 3 cfg0.N
    = Cert.UpRefIdeal.Read.val_main_v8 (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  pointwise [k0_pay3, k0_pay1, k0_pay2, Cert.UpRefIdeal.Read.val_main_v8, Cert.UpRefIdeal.Read.val_main_v7, Cert.UpRefIdeal.Read.val_main_v6, Cert.UpRefIdeal.Read.val_main_call0_v0, Cert.UpRefIdeal.Read.val_main_call0_v1, Cert.UpRefIdeal.Read.val_main_call0_v2, Cert.UpRefIdeal.Read.val_main_call0_v3, Cert.UpRefIdeal.Read.val_main_call0_v4, Cert.UpRefIdeal.Read.val_main_call0_v5, Cert.UpRefIdeal.Read.val_main_call0_cst, Cert.UpRefIdeal.Read.val_main_call0_cst_0]
  simp only [Ideal.logistic]
  rw [Cert.UpRefIdeal.Read.val_main_v5_apply, Cert.UpRefIdeal.Read.val_main_v2_apply]
  pointwise [Cert.UpRefIdeal.Read.val_main_v0, Cert.UpRefIdeal.Read.val_main_v1, Cert.UpRefIdeal.Read.val_main_v3, Cert.UpRefIdeal.Read.val_main_v4]
  blk_point [iblk, V, idx t]

theorem frame_k : Cert.quiescent_Up (hUp := Cert.Up.Gen.facts) := fun m g _ => Cert.Up.Gen.frame m g

theorem frame_i : Cert.quiescent_UpIdeal (hUpIdeal := Cert.UpIdeal.Gen.facts) := fun m g _ => Cert.UpIdeal.Gen.frame m g

theorem frame_r : Cert.quiescent_UpRefIdeal (hUpRefIdeal := Cert.UpRefIdeal.Gen.facts) := fun m g _ =>
  (θ_run Cert.UpRefIdeal.defs _ _).mono (fun r h => ⟨fun c => (h c).2.2.2, Idealize.ShloMosaic.sem_eq_zero_of_no_sems (by decide) r.2⟩) (Cert.UpRefIdeal.Value.run (F := Ideal) m g)

/-- The call and the reference, run from memories that agree on the arguments, leave the same results. -/
theorem algebraic : Cert.algebraic_UpIdeal_UpRefIdeal (hUpIdeal := Cert.UpIdeal.Gen.facts) (hUpRefIdeal := Cert.UpRefIdeal.Gen.facts) := by
  intro m g m' g' _ hagree
  refine ⟨fun c => Cert.UpRefIdeal.Read.val_main_v8 (m ((c : Thread nD τ).loc main_arg0)) (m ((c : Thread nD τ).loc main_arg1)) (m ((c : Thread nD τ).loc main_arg2)), fun c => Cert.UpRefIdeal.Read.val_main_v9 (m ((c : Thread nD τ).loc main_arg0)) (m ((c : Thread nD τ).loc main_arg1)), fun c => Cert.UpRefIdeal.Read.val_main_v10 (m ((c : Thread nD τ).loc main_arg0)) (m ((c : Thread nD τ).loc main_arg2)), ?_, ?_⟩
  · refine (θ_run Cert.UpIdeal.defs _ _).mono (fun r h c => ?_) (Cert.UpIdeal.Value.run_blocks (F := Ideal) m g)
    obtain ⟨h0, h1, h2, ha⟩ := h c
    exact ⟨h0.trans (final_3 m c), h1.trans (final_4 m c), h2.trans (final_5 m c), ha⟩
  · refine (θ_run Cert.UpRefIdeal.defs _ _).mono (fun r h c => ?_) (Cert.UpRefIdeal.Value.run (F := Ideal) m' g')
    obtain ⟨h0, h1, h2, ha⟩ := h c
    obtain ⟨e0, e1, e2⟩ := hagree c
    exact ⟨h0.trans (by rw [Cert.UpRefIdeal.Read.val_main_v8_eq, e0, e1, e2]), h1.trans (by rw [Cert.UpRefIdeal.Read.val_main_v9_eq, e0, e1]), h2.trans (by rw [Cert.UpRefIdeal.Read.val_main_v10_eq, e0, e2]), ha⟩

end Cert.UpIdeal.Val
end
-- ==== Proof.InAValue.lean ====
module

public import proofs.«01_k».proof.Proof.Gen.InAIdeal.Value
public import proofs.«01_k».proof.Proof.Gen.InARefIdeal.Read
public import proofs.«01_k».proof.Defs
public import proofs.«01_k».proof.Proof.Gen.InA.Frame
public import Idealize.ShloMosaic.Lib.Pipeline.ValueKit
public import Idealize.ShloMosaic.Lib.Pipeline.ReadBack

/-! The gradient of a product with respect to its weights: four row blocks of the two operands are added up, and the
    fourth point of a run writes the sum back. -/

@[expose] public section

set_option maxRecDepth 16384

noncomputable section

namespace Cert.InAIdeal.Val

open Cert.InAIdeal Cert.InAIdeal.Gen
open Idealize.ShloMosaic Idealize.ShloMosaic.TcCoe Idealize.ShloMosaic.Pointwise
open Idealize.SL Idealize.SL.Sem

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

variable (m : (ℓ : Loc nD τ sig) → Buf (Elt Ideal) ℓ) (c : Dev nD)

theorem sum_zero (v0 : Vec Ideal S1024x2944 .bf16) (v1 : Vec Ideal S1024x512 .bf16) (i : S2944x512.Idx) :
    k0_pay2 v0 v1 i = (0 : EReal) + k0_pay1 v0 v1 i := by
  pointwise [k0_pay2]

theorem sum_step (v0 : Vec Ideal S1024x2944 .bf16) (v1 : Vec Ideal S1024x512 .bf16) (w : Vec Ideal S2944x512 .f32) (i : S2944x512.Idx) :
    k0_pay3 v0 v1 w i = (w i : EReal) + k0_pay1 v0 v1 i := by
  pointwise [k0_pay3]

/-- The accumulator at the last point of a run is the sum of the run's four products. -/
theorem acc (t : Fin cfg0.N) (h3 : t.val % 4 = 3) (i : S2944x512.Idx) :
    (outsAt0 m c t.val t.isLt).2 i = ((fun _ => 0 : S2944x512.Idx → EReal) i : EReal) + ∑ s : Fin 4, k0_pay1 (iblk m c 0 ⟨_, Pipeline.run_point_lt_of_flush t h3 s⟩) (iblk m c 1 ⟨_, Pipeline.run_point_lt_of_flush t h3 s⟩) i := by
  rw [Pipeline.eq_sum_fin_of_reset_step_apply_of_flush (fun n h => ((outsAt0 m c n h).2 : S2944x512.Idx → EReal)) 4 (fun _ => (0 : EReal))
    (fun t i => k0_pay1 (iblk m c 0 t) (iblk m c 1 t) i)
    (fun t h i => by
      rw [outsAt0_A m c t h (by omega) (by omega)]
      frame_out
      rw [sum_zero])
    (fun t h i => by
      by_cases h' : t.val % 4 = 3
      · rw [outsAt0_C m c t h (by omega) h']
        frame_out
        simp only [read_unread_whole]
        rw [sum_step]
      · rw [outsAt0_B m c t h (by omega) h']
        frame_out
        simp only [read_unread_whole]
        rw [sum_step]) t h3 i]

theorem last (t : Fin cfg0.N) (h3 : t.val % 4 = 3) (i : S2944x512.Idx) : ((outsAt0 m c t.val t.isLt).1 i : EReal) = (outsAt0 m c t.val t.isLt).2 i := by
  rw [outsAt0_C m c t (by omega) (by omega) h3]
  frame_out
  pointwise [k0_pay4]

/-- The gradient, as the array that holds it. -/
theorem final_2 : (dats m 0 c).arrAt 2 cfg0.N
    = Cert.InARefIdeal.Read.val_main_v8 (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2, last m c t h3, acc m c t h3]
  pointwise [k0_pay1, Cert.InARefIdeal.Read.val_main_v8, Cert.InARefIdeal.Read.val_main_v7, Cert.InARefIdeal.Read.val_main_v6, Cert.InARefIdeal.Read.val_main_v5]
  rw [Cert.InARefIdeal.Read.val_main_v4_apply]
  pointwise [Cert.InARefIdeal.Read.val_main_v3, Cert.InARefIdeal.Read.val_main_v1]
  refine Fin.sum_mul_add_congr fun s k hl => ?_
  blk_point [iblk, V, idx t, idx ⟨_, Pipeline.run_point_lt_of_flush t h3 s⟩]

theorem frame_k : Cert.quiescent_InA (hInA := Cert.InA.Gen.facts) := fun m g _ => Cert.InA.Gen.frame m g

theorem frame_i : Cert.quiescent_InAIdeal (hInAIdeal := Cert.InAIdeal.Gen.facts) := fun m g _ => Cert.InAIdeal.Gen.frame m g

theorem frame_r : Cert.quiescent_InARefIdeal (hInARefIdeal := Cert.InARefIdeal.Gen.facts) := fun m g _ =>
  (θ_run Cert.InARefIdeal.defs _ _).mono (fun r h => ⟨fun c => (h c).2, Idealize.ShloMosaic.sem_eq_zero_of_no_sems (by decide) r.2⟩) (Cert.InARefIdeal.Value.run (F := Ideal) m g)

/-- The call and the reference, run from memories that agree on the arguments, leave the same results. -/
theorem algebraic : Cert.algebraic_InAIdeal_InARefIdeal (hInAIdeal := Cert.InAIdeal.Gen.facts) (hInARefIdeal := Cert.InARefIdeal.Gen.facts) := by
  intro m g m' g' _ hagree
  refine ⟨fun c => Cert.InARefIdeal.Read.val_main_v8 (m ((c : Thread nD τ).loc main_arg0)) (m ((c : Thread nD τ).loc main_arg1)), ?_, ?_⟩
  · refine (θ_run Cert.InAIdeal.defs _ _).mono (fun r h c => ?_) (Cert.InAIdeal.Value.run_blocks (F := Ideal) m g)
    obtain ⟨h0, ha⟩ := h c
    exact ⟨h0.trans (final_2 m c), ha⟩
  · refine (θ_run Cert.InARefIdeal.defs _ _).mono (fun r h c => ?_) (Cert.InARefIdeal.Value.run (F := Ideal) m' g')
    obtain ⟨h0, ha⟩ := h c
    obtain ⟨e0, e1⟩ := hagree c
    exact ⟨h0.trans (by rw [Cert.InARefIdeal.Read.val_main_v8_eq, e0, e1]), ha⟩

end Cert.InAIdeal.Val
end
-- ==== Proof.InBValue.lean ====
module

public import proofs.«01_k».proof.Proof.Gen.InBIdeal.Value
public import proofs.«01_k».proof.Proof.Gen.InBRefIdeal.Read
public import proofs.«01_k».proof.Defs
public import proofs.«01_k».proof.Proof.Gen.InB.Frame
public import Idealize.ShloMosaic.Lib.Pipeline.ValueKit
public import Idealize.ShloMosaic.Lib.Pipeline.ReadBack

/-! The gradient of a product with respect to its weights: four row blocks of the two operands are added up, and the
    fourth point of a run writes the sum back. -/

@[expose] public section

set_option maxRecDepth 16384

noncomputable section

namespace Cert.InBIdeal.Val

open Cert.InBIdeal Cert.InBIdeal.Gen
open Idealize.ShloMosaic Idealize.ShloMosaic.TcCoe Idealize.ShloMosaic.Pointwise
open Idealize.SL Idealize.SL.Sem

theorem idx : ∀ t : Fin cfg0.N, win0_0.index t = ![t.val % 4, t.val / 4] ∧ win0_1.index t = ![t.val % 4, 1] ∧ win0_2.index t = ![t.val / 4, 0] :=
  (by decide +kernel : ∀ t : Fin grid0.N, _)

variable (m : (ℓ : Loc nD τ sig) → Buf (Elt Ideal) ℓ) (c : Dev nD)

theorem sum_zero (v0 : Vec Ideal S1024x2944 .bf16) (v1 : Vec Ideal S1024x512 .bf16) (i : S2944x512.Idx) :
    k0_pay2 v0 v1 i = (0 : EReal) + k0_pay1 v0 v1 i := by
  pointwise [k0_pay2]

theorem sum_step (v0 : Vec Ideal S1024x2944 .bf16) (v1 : Vec Ideal S1024x512 .bf16) (w : Vec Ideal S2944x512 .f32) (i : S2944x512.Idx) :
    k0_pay3 v0 v1 w i = (w i : EReal) + k0_pay1 v0 v1 i := by
  pointwise [k0_pay3]

/-- The accumulator at the last point of a run is the sum of the run's four products. -/
theorem acc (t : Fin cfg0.N) (h3 : t.val % 4 = 3) (i : S2944x512.Idx) :
    (outsAt0 m c t.val t.isLt).2 i = ((fun _ => 0 : S2944x512.Idx → EReal) i : EReal) + ∑ s : Fin 4, k0_pay1 (iblk m c 0 ⟨_, Pipeline.run_point_lt_of_flush t h3 s⟩) (iblk m c 1 ⟨_, Pipeline.run_point_lt_of_flush t h3 s⟩) i := by
  rw [Pipeline.eq_sum_fin_of_reset_step_apply_of_flush (fun n h => ((outsAt0 m c n h).2 : S2944x512.Idx → EReal)) 4 (fun _ => (0 : EReal))
    (fun t i => k0_pay1 (iblk m c 0 t) (iblk m c 1 t) i)
    (fun t h i => by
      rw [outsAt0_A m c t h (by omega) (by omega)]
      frame_out
      rw [sum_zero])
    (fun t h i => by
      by_cases h' : t.val % 4 = 3
      · rw [outsAt0_C m c t h (by omega) h']
        frame_out
        simp only [read_unread_whole]
        rw [sum_step]
      · rw [outsAt0_B m c t h (by omega) h']
        frame_out
        simp only [read_unread_whole]
        rw [sum_step]) t h3 i]

theorem last (t : Fin cfg0.N) (h3 : t.val % 4 = 3) (i : S2944x512.Idx) : ((outsAt0 m c t.val t.isLt).1 i : EReal) = (outsAt0 m c t.val t.isLt).2 i := by
  rw [outsAt0_C m c t (by omega) (by omega) h3]
  frame_out
  pointwise [k0_pay4]

/-- The gradient, as the array that holds it. -/
theorem final_2 : (dats m 0 c).arrAt 2 cfg0.N
    = Cert.InBRefIdeal.Read.val_main_v8 (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2, last m c t h3, acc m c t h3]
  pointwise [k0_pay1, Cert.InBRefIdeal.Read.val_main_v8, Cert.InBRefIdeal.Read.val_main_v7, Cert.InBRefIdeal.Read.val_main_v6, Cert.InBRefIdeal.Read.val_main_v5]
  rw [Cert.InBRefIdeal.Read.val_main_v4_apply]
  pointwise [Cert.InBRefIdeal.Read.val_main_v3, Cert.InBRefIdeal.Read.val_main_v1]
  refine Fin.sum_mul_add_congr fun s k hl => ?_
  blk_point [iblk, V, idx t, idx ⟨_, Pipeline.run_point_lt_of_flush t h3 s⟩]

theorem frame_k : Cert.quiescent_InB (hInB := Cert.InB.Gen.facts) := fun m g _ => Cert.InB.Gen.frame m g

theorem frame_i : Cert.quiescent_InBIdeal (hInBIdeal := Cert.InBIdeal.Gen.facts) := fun m g _ => Cert.InBIdeal.Gen.frame m g

theorem frame_r : Cert.quiescent_InBRefIdeal (hInBRefIdeal := Cert.InBRefIdeal.Gen.facts) := fun m g _ =>
  (θ_run Cert.InBRefIdeal.defs _ _).mono (fun r h => ⟨fun c => (h c).2, Idealize.ShloMosaic.sem_eq_zero_of_no_sems (by decide) r.2⟩) (Cert.InBRefIdeal.Value.run (F := Ideal) m g)

/-- The call and the reference, run from memories that agree on the arguments, leave the same results. -/
theorem algebraic : Cert.algebraic_InBIdeal_InBRefIdeal (hInBIdeal := Cert.InBIdeal.Gen.facts) (hInBRefIdeal := Cert.InBRefIdeal.Gen.facts) := by
  intro m g m' g' _ hagree
  refine ⟨fun c => Cert.InBRefIdeal.Read.val_main_v8 (m ((c : Thread nD τ).loc main_arg0)) (m ((c : Thread nD τ).loc main_arg1)), ?_, ?_⟩
  · refine (θ_run Cert.InBIdeal.defs _ _).mono (fun r h c => ?_) (Cert.InBIdeal.Value.run_blocks (F := Ideal) m g)
    obtain ⟨h0, ha⟩ := h c
    exact ⟨h0.trans (final_2 m c), ha⟩
  · refine (θ_run Cert.InBRefIdeal.defs _ _).mono (fun r h c => ?_) (Cert.InBRefIdeal.Value.run (F := Ideal) m' g')
    obtain ⟨h0, ha⟩ := h c
    obtain ⟨e0, e1⟩ := hagree c
    exact ⟨h0.trans (by rw [Cert.InBRefIdeal.Read.val_main_v8_eq, e0, e1]), ha⟩

end Cert.InBIdeal.Val
end
-- ==== Proof.ProjValue.lean ====
module

public import proofs.«01_k».proof.Proof.Gen.ProjIdeal.Value
public import proofs.«01_k».proof.Proof.Gen.ProjRefIdeal.Read
public import proofs.«01_k».proof.Defs
public import proofs.«01_k».proof.Proof.Gen.Proj.Frame
public import Idealize.ShloMosaic.Lib.Pipeline.ValueKit

/-! The projections' product, block by block: each grid point's block is the reference's value there. -/

@[expose] public section

set_option maxRecDepth 16384

noncomputable section

namespace Cert.ProjIdeal.Val

open Cert.ProjIdeal Cert.ProjIdeal.Gen
open Idealize.ShloMosaic Idealize.ShloMosaic.TcCoe Idealize.ShloMosaic.Pointwise
open Idealize.SL Idealize.SL.Sem

theorem idx : ∀ t : Fin cfg0.N, win0_0.index t = ![t.val % 8, 0] ∧ win0_1.index t = ![t.val / 8, 0] ∧ win0_2.index t = ![t.val % 8, t.val / 8] :=
  (by decide +kernel : ∀ t : Fin grid0.N, _)

variable (m : (ℓ : Loc nD τ sig) → Buf (Elt Ideal) ℓ) (c : Dev nD)

/-- The projections, as the array that holds them. -/
theorem final_2 : (dats m 0 c).arrAt 2 cfg0.N
    = Cert.ProjRefIdeal.Read.val_main_v3 (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay1, Cert.ProjRefIdeal.Read.val_main_v3]
  rw [Cert.ProjRefIdeal.Read.val_main_v2_apply]
  pointwise [Cert.ProjRefIdeal.Read.val_main_v0, Cert.ProjRefIdeal.Read.val_main_v1]
  blk_point [iblk, V, idx t]

theorem frame_k : Cert.quiescent_Proj (hProj := Cert.Proj.Gen.facts) := fun m g _ => Cert.Proj.Gen.frame m g

theorem frame_i : Cert.quiescent_ProjIdeal (hProjIdeal := Cert.ProjIdeal.Gen.facts) := fun m g _ => Cert.ProjIdeal.Gen.frame m g

theorem frame_r : Cert.quiescent_ProjRefIdeal (hProjRefIdeal := Cert.ProjRefIdeal.Gen.facts) := fun m g _ =>
  (θ_run Cert.ProjRefIdeal.defs _ _).mono (fun r h => ⟨fun c => (h c).2, Idealize.ShloMosaic.sem_eq_zero_of_no_sems (by decide) r.2⟩) (Cert.ProjRefIdeal.Value.run (F := Ideal) m g)

/-- The call and the reference, run from memories that agree on the arguments, leave the same results. -/
theorem algebraic : Cert.algebraic_ProjIdeal_ProjRefIdeal (hProjIdeal := Cert.ProjIdeal.Gen.facts) (hProjRefIdeal := Cert.ProjRefIdeal.Gen.facts) := by
  intro m g m' g' _ hagree
  refine ⟨fun c => Cert.ProjRefIdeal.Read.val_main_v3 (m ((c : Thread nD τ).loc main_arg0)) (m ((c : Thread nD τ).loc main_arg1)), ?_, ?_⟩
  · refine (θ_run Cert.ProjIdeal.defs _ _).mono (fun r h c => ?_) (Cert.ProjIdeal.Value.run_blocks (F := Ideal) m g)
    obtain ⟨h0, ha⟩ := h c
    exact ⟨h0.trans (final_2 m c), ha⟩
  · refine (θ_run Cert.ProjRefIdeal.defs _ _).mono (fun r h c => ?_) (Cert.ProjRefIdeal.Value.run (F := Ideal) m' g')
    obtain ⟨h0, ha⟩ := h c
    obtain ⟨e0, e1⟩ := hagree c
    exact ⟨h0.trans (by rw [Cert.ProjRefIdeal.Read.val_main_v3_eq, e0, e1]), ha⟩

end Cert.ProjIdeal.Val
end
-- ==== Proof.BranchValue.lean ====
module

public import proofs.«01_k».proof.Proof.Gen.BranchIdeal.Value
public import proofs.«01_k».proof.Proof.Gen.BranchRefIdeal.Read
public import proofs.«01_k».proof.Defs
public import proofs.«01_k».proof.Proof.Gen.Branch.Frame
public import Idealize.ShloMosaic.Lib.Pipeline.ValueKit

/-! The three branches' products and their gated sum: each grid point writes one block of each. -/

@[expose] public section

set_option maxRecDepth 16384

noncomputable section

namespace Cert.BranchIdeal.Val

open Cert.BranchIdeal Cert.BranchIdeal.Gen
open Idealize.ShloMosaic Idealize.ShloMosaic.TcCoe Idealize.ShloMosaic.Pointwise
open Idealize.SL Idealize.SL.Sem

theorem idx : ∀ t : Fin cfg0.N, win0_0.index t = ![t.val / 4, 0] ∧ win0_1.index t = ![t.val / 4, 0] ∧ win0_2.index t = ![t.val / 4, 0] ∧ win0_3.index t = ![0, t.val % 4] ∧ win0_4.index t = ![0, t.val % 4] ∧ win0_5.index t = ![0, t.val % 4] ∧ win0_6.index t = ![t.val / 4, 11 + t.val % 4] ∧ win0_7.index t = ![t.val / 4, 15 + t.val % 4] ∧ win0_8.index t = ![t.val / 4, 19 + t.val % 4] ∧ win0_9.index t = ![t.val / 4, t.val % 4] ∧ win0_10.index t = ![t.val / 4, t.val % 4] ∧ win0_11.index t = ![t.val / 4, t.val % 4] ∧ win0_12.index t = ![t.val / 4, t.val % 4] :=
  (by decide +kernel : ∀ t : Fin grid0.N, _)

variable (m : (ℓ : Loc nD τ sig) → Buf (Elt Ideal) ℓ) (c : Dev nD)

/-- The gated sum of the three products, as the array that holds it. -/
theorem final_9 : (dats m 0 c).arrAt 9 cfg0.N
    = Cert.BranchRefIdeal.Read.val_main_v38 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  blk_simp
  rw [after0_9]
  frame_out
  pointwise [k0_pay1, k0_pay6, k0_pay7, k0_pay2, k0_pay4, Cert.BranchRefIdeal.Read.val_main_v15, Cert.BranchRefIdeal.Read.val_main_v16, Cert.BranchRefIdeal.Read.val_main_v17, Cert.BranchRefIdeal.Read.val_main_v18, Cert.BranchRefIdeal.Read.val_main_v19, Cert.BranchRefIdeal.Read.val_main_v20, Cert.BranchRefIdeal.Read.val_main_v21, Cert.BranchRefIdeal.Read.val_main_v22, Cert.BranchRefIdeal.Read.val_main_v23, Cert.BranchRefIdeal.Read.val_main_v24, Cert.BranchRefIdeal.Read.val_main_v25, Cert.BranchRefIdeal.Read.val_main_v26, Cert.BranchRefIdeal.Read.val_main_v27, Cert.BranchRefIdeal.Read.val_main_v28, Cert.BranchRefIdeal.Read.val_main_v29, Cert.BranchRefIdeal.Read.val_main_v30, Cert.BranchRefIdeal.Read.val_main_v31, Cert.BranchRefIdeal.Read.val_main_v32, Cert.BranchRefIdeal.Read.val_main_v33, Cert.BranchRefIdeal.Read.val_main_v34, Cert.BranchRefIdeal.Read.val_main_v35, Cert.BranchRefIdeal.Read.val_main_v36, Cert.BranchRefIdeal.Read.val_main_v37, Cert.BranchRefIdeal.Read.val_main_v38, Cert.BranchRefIdeal.Read.val_main_v9, Cert.BranchRefIdeal.Read.val_main_v10, Cert.BranchRefIdeal.Read.val_main_v11, Cert.BranchRefIdeal.Read.val_main_v12, Cert.BranchRefIdeal.Read.val_main_v13, Cert.BranchRefIdeal.Read.val_main_v14, Cert.BranchRefIdeal.Read.val_main_cst, Cert.BranchRefIdeal.Read.val_main_cst_0, Cert.BranchRefIdeal.Read.val_main_cst_1, Cert.BranchRefIdeal.Read.val_main_cst_2, Cert.BranchRefIdeal.Read.val_main_cst_3, Cert.BranchRefIdeal.Read.val_main_cst_4]
  simp only [Ideal.logistic]
  rw [Cert.BranchRefIdeal.Read.val_main_v2_apply, Cert.BranchRefIdeal.Read.val_main_v5_apply, Cert.BranchRefIdeal.Read.val_main_v8_apply]
  pointwise [Cert.BranchRefIdeal.Read.val_main_v0, Cert.BranchRefIdeal.Read.val_main_v1, Cert.BranchRefIdeal.Read.val_main_v3, Cert.BranchRefIdeal.Read.val_main_v4, Cert.BranchRefIdeal.Read.val_main_v6, Cert.BranchRefIdeal.Read.val_main_v7]
  blk_point [iblk, V, idx t]

/-- A branch's product, as the array that holds it. -/
theorem final_10 : (dats m 0 c).arrAt 10 cfg0.N
    = Cert.BranchRefIdeal.Read.val_main_v39 (m ((c : Thread nD τ).loc main_arg1)) (m ((c : Thread nD τ).loc main_arg4)) := by
  refine (dats m 0 c).arrAt_eq_of_covers 10 _ (by decide +kernel) fun t hf y => ?_
  blk_simp
  rw [after0_10]
  frame_out
  pointwise [k0_pay3, k0_pay2, Cert.BranchRefIdeal.Read.val_main_v39]
  rw [Cert.BranchRefIdeal.Read.val_main_v2_apply]
  pointwise [Cert.BranchRefIdeal.Read.val_main_v0, Cert.BranchRefIdeal.Read.val_main_v1]
  blk_point [iblk, V, idx t]

/-- A branch's product, as the array that holds it. -/
theorem final_11 : (dats m 0 c).arrAt 11 cfg0.N
    = Cert.BranchRefIdeal.Read.val_main_v40 (m ((c : Thread nD τ).loc main_arg2)) (m ((c : Thread nD τ).loc main_arg5)) := by
  refine (dats m 0 c).arrAt_eq_of_covers 11 _ (by decide +kernel) fun t hf y => ?_
  blk_simp
  rw [after0_11]
  frame_out
  pointwise [k0_pay5, k0_pay4, Cert.BranchRefIdeal.Read.val_main_v40]
  rw [Cert.BranchRefIdeal.Read.val_main_v5_apply]
  pointwise [Cert.BranchRefIdeal.Read.val_main_v3, Cert.BranchRefIdeal.Read.val_main_v4]
  blk_point [iblk, V, idx t]

/-- A branch's product, as the array that holds it. -/
theorem final_12 : (dats m 0 c).arrAt 12 cfg0.N
    = Cert.BranchRefIdeal.Read.val_main_v41 (m ((c : Thread nD τ).loc main_arg3)) (m ((c : Thread nD τ).loc main_arg6)) := by
  refine (dats m 0 c).arrAt_eq_of_covers 12 _ (by decide +kernel) fun t hf y => ?_
  blk_simp
  rw [after0_12]
  frame_out
  pointwise [k0_pay8, k0_pay7, Cert.BranchRefIdeal.Read.val_main_v41]
  rw [Cert.BranchRefIdeal.Read.val_main_v8_apply]
  pointwise [Cert.BranchRefIdeal.Read.val_main_v6, Cert.BranchRefIdeal.Read.val_main_v7]
  blk_point [iblk, V, idx t]

theorem frame_k : Cert.quiescent_Branch (hBranch := Cert.Branch.Gen.facts) := fun m g _ => Cert.Branch.Gen.frame m g

theorem frame_i : Cert.quiescent_BranchIdeal (hBranchIdeal := Cert.BranchIdeal.Gen.facts) := fun m g _ => Cert.BranchIdeal.Gen.frame m g

theorem frame_r : Cert.quiescent_BranchRefIdeal (hBranchRefIdeal := Cert.BranchRefIdeal.Gen.facts) := fun m g _ =>
  (θ_run Cert.BranchRefIdeal.defs _ _).mono (fun r h => ⟨fun c => (h c).2.2.2.2, Idealize.ShloMosaic.sem_eq_zero_of_no_sems (by decide) r.2⟩) (Cert.BranchRefIdeal.Value.run (F := Ideal) m g)

/-- The call and the reference, run from memories that agree on the arguments, leave the same results. -/
theorem algebraic : Cert.algebraic_BranchIdeal_BranchRefIdeal (hBranchIdeal := Cert.BranchIdeal.Gen.facts) (hBranchRefIdeal := Cert.BranchRefIdeal.Gen.facts) := by
  intro m g m' g' _ hagree
  refine ⟨fun c => Cert.BranchRefIdeal.Read.val_main_v38 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)), fun c => Cert.BranchRefIdeal.Read.val_main_v39 (m ((c : Thread nD τ).loc main_arg1)) (m ((c : Thread nD τ).loc main_arg4)), fun c => Cert.BranchRefIdeal.Read.val_main_v40 (m ((c : Thread nD τ).loc main_arg2)) (m ((c : Thread nD τ).loc main_arg5)), fun c => Cert.BranchRefIdeal.Read.val_main_v41 (m ((c : Thread nD τ).loc main_arg3)) (m ((c : Thread nD τ).loc main_arg6)), ?_, ?_⟩
  · refine (θ_run Cert.BranchIdeal.defs _ _).mono (fun r h c => ?_) (Cert.BranchIdeal.Value.run_blocks (F := Ideal) m g)
    obtain ⟨h0, h1, h2, h3, ha⟩ := h c
    exact ⟨h0.trans (final_9 m c), h1.trans (final_10 m c), h2.trans (final_11 m c), h3.trans (final_12 m c), ha⟩
  · refine (θ_run Cert.BranchRefIdeal.defs _ _).mono (fun r h c => ?_) (Cert.BranchRefIdeal.Value.run (F := Ideal) m' g')
    obtain ⟨h0, h1, h2, h3, ha⟩ := h c
    obtain ⟨e0, e1, e2, e3, e4, e5, e6⟩ := hagree c
    exact ⟨h0.trans (by rw [Cert.BranchRefIdeal.Read.val_main_v38_eq, e0, e1, e2, e3, e4, e5, e6]), h1.trans (by rw [Cert.BranchRefIdeal.Read.val_main_v39_eq, e1, e4]), h2.trans (by rw [Cert.BranchRefIdeal.Read.val_main_v40_eq, e2, e5]), h3.trans (by rw [Cert.BranchRefIdeal.Read.val_main_v41_eq, e3, e6]), ha⟩

end Cert.BranchIdeal.Val
end
-- ==== Proof.DwBranchValue.lean ====
module

public import proofs.«01_k».proof.Proof.Gen.DwBranchIdeal.Value
public import proofs.«01_k».proof.Proof.Gen.DwBranchRefIdeal.Read
public import proofs.«01_k».proof.Defs
public import proofs.«01_k».proof.Proof.Gen.DwBranch.Frame
public import Idealize.ShloMosaic.Lib.Pipeline.ValueKit
public import Idealize.ShloMosaic.Lib.Pipeline.ReadBack

/-! The gradient of a product with respect to its weights: four row blocks of the two operands are added up, and the
    fourth point of a run writes the sum back. -/

@[expose] public section

set_option maxRecDepth 16384

noncomputable section

namespace Cert.DwBranchIdeal.Val

open Cert.DwBranchIdeal Cert.DwBranchIdeal.Gen
open Idealize.ShloMosaic Idealize.ShloMosaic.TcCoe Idealize.ShloMosaic.Pointwise
open Idealize.SL Idealize.SL.Sem

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

variable (m : (ℓ : Loc nD τ sig) → Buf (Elt Ideal) ℓ) (c : Dev nD)

theorem sum_zero (v0 : Vec Ideal S1024x512 .bf16) (v1 : Vec Ideal S1024x1024 .bf16) (i : S512x1024.Idx) :
    k0_pay2 v0 v1 i = (0 : EReal) + k0_pay1 v0 v1 i := by
  pointwise [k0_pay2]

theorem sum_step (v0 : Vec Ideal S1024x512 .bf16) (v1 : Vec Ideal S1024x1024 .bf16) (w : Vec Ideal S512x1024 .f32) (i : S512x1024.Idx) :
    k0_pay3 v0 v1 w i = (w i : EReal) + k0_pay1 v0 v1 i := by
  pointwise [k0_pay3]

/-- The accumulator at the last point of a run is the sum of the run's four products. -/
theorem acc (t : Fin cfg0.N) (h3 : t.val % 4 = 3) (i : S512x1024.Idx) :
    (outsAt0 m c t.val t.isLt).2 i = ((fun _ => 0 : S512x1024.Idx → EReal) i : EReal) + ∑ s : Fin 4, k0_pay1 (iblk m c 0 ⟨_, Pipeline.run_point_lt_of_flush t h3 s⟩) (iblk m c 1 ⟨_, Pipeline.run_point_lt_of_flush t h3 s⟩) i := by
  rw [Pipeline.eq_sum_fin_of_reset_step_apply_of_flush (fun n h => ((outsAt0 m c n h).2 : S512x1024.Idx → EReal)) 4 (fun _ => (0 : EReal))
    (fun t i => k0_pay1 (iblk m c 0 t) (iblk m c 1 t) i)
    (fun t h i => by
      have hN : t.val < 4 := t.isLt
      rw [outsAt0_A m c t h (by omega) (by omega)]
      frame_out
      rw [sum_zero])
    (fun t h i => by
      by_cases h' : t.val % 4 = 3
      · rw [outsAt0_C m c t h (by omega) h']
        frame_out
        simp only [read_unread_whole]
        rw [sum_step]
      · rw [outsAt0_B m c t h (by omega) h']
        frame_out
        simp only [read_unread_whole]
        rw [sum_step]) t h3 i]

theorem last (t : Fin cfg0.N) (h3 : t.val % 4 = 3) (i : S512x1024.Idx) : ((outsAt0 m c t.val t.isLt).1 i : EReal) = (outsAt0 m c t.val t.isLt).2 i := by
  rw [outsAt0_C m c t (by omega) (by omega) h3]
  frame_out
  pointwise [k0_pay4]

/-- The gradient, as the array that holds it. -/
theorem final_2 : (dats m 0 c).arrAt 2 cfg0.N
    = Cert.DwBranchRefIdeal.Read.val_main_v6 (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2, last m c t h3, acc m c t h3]
  pointwise [k0_pay1, Cert.DwBranchRefIdeal.Read.val_main_v6, Cert.DwBranchRefIdeal.Read.val_main_v5]
  rw [Cert.DwBranchRefIdeal.Read.val_main_v4_apply]
  pointwise [Cert.DwBranchRefIdeal.Read.val_main_v3, Cert.DwBranchRefIdeal.Read.val_main_v1]
  refine Fin.sum_mul_add_congr fun s k hl => ?_
  refine (mul_comm (_ : EReal) _).trans ?_
  blk_point [iblk, V, idx t, idx ⟨_, Pipeline.run_point_lt_of_flush t h3 s⟩]

theorem frame_k : Cert.quiescent_DwBranch (hDwBranch := Cert.DwBranch.Gen.facts) := fun m g _ => Cert.DwBranch.Gen.frame m g

theorem frame_i : Cert.quiescent_DwBranchIdeal (hDwBranchIdeal := Cert.DwBranchIdeal.Gen.facts) := fun m g _ => Cert.DwBranchIdeal.Gen.frame m g

theorem frame_r : Cert.quiescent_DwBranchRefIdeal (hDwBranchRefIdeal := Cert.DwBranchRefIdeal.Gen.facts) := fun m g _ =>
  (θ_run Cert.DwBranchRefIdeal.defs _ _).mono (fun r h => ⟨fun c => (h c).2, Idealize.ShloMosaic.sem_eq_zero_of_no_sems (by decide) r.2⟩) (Cert.DwBranchRefIdeal.Value.run (F := Ideal) m g)

/-- The call and the reference, run from memories that agree on the arguments, leave the same results. -/
theorem algebraic : Cert.algebraic_DwBranchIdeal_DwBranchRefIdeal (hDwBranchIdeal := Cert.DwBranchIdeal.Gen.facts) (hDwBranchRefIdeal := Cert.DwBranchRefIdeal.Gen.facts) := by
  intro m g m' g' _ hagree
  refine ⟨fun c => Cert.DwBranchRefIdeal.Read.val_main_v6 (m ((c : Thread nD τ).loc main_arg0)) (m ((c : Thread nD τ).loc main_arg1)), ?_, ?_⟩
  · refine (θ_run Cert.DwBranchIdeal.defs _ _).mono (fun r h c => ?_) (Cert.DwBranchIdeal.Value.run_blocks (F := Ideal) m g)
    obtain ⟨h0, ha⟩ := h c
    exact ⟨h0.trans (final_2 m c), ha⟩
  · refine (θ_run Cert.DwBranchRefIdeal.defs _ _).mono (fun r h c => ?_) (Cert.DwBranchRefIdeal.Value.run (F := Ideal) m' g')
    obtain ⟨h0, ha⟩ := h c
    obtain ⟨e0, e1⟩ := hagree c
    exact ⟨h0.trans (by rw [Cert.DwBranchRefIdeal.Read.val_main_v6_eq, e0, e1]), ha⟩

end Cert.DwBranchIdeal.Val
end
-- ==== Proof.DwOutValue.lean ====
module

public import proofs.«01_k».proof.Proof.Gen.DwOutIdeal.Value
public import proofs.«01_k».proof.Proof.Gen.DwOutRefIdeal.Read
public import proofs.«01_k».proof.Defs
public import proofs.«01_k».proof.Proof.Gen.DwOut.Frame
public import Idealize.ShloMosaic.Lib.Pipeline.ValueKit
public import Idealize.ShloMosaic.Lib.Pipeline.ReadBack

/-! The gradient of a product with respect to its weights: four row blocks of the two operands are added up, and the
    fourth point of a run writes the sum back. -/

@[expose] public section

set_option maxRecDepth 16384

noncomputable section

namespace Cert.DwOutIdeal.Val

open Cert.DwOutIdeal Cert.DwOutIdeal.Gen
open Idealize.ShloMosaic Idealize.ShloMosaic.TcCoe Idealize.ShloMosaic.Pointwise
open Idealize.SL Idealize.SL.Sem

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

variable (m : (ℓ : Loc nD τ sig) → Buf (Elt Ideal) ℓ) (c : Dev nD)

theorem sum_zero (v0 : Vec Ideal S1024x1024 .bf16) (v1 : Vec Ideal S1024x1024 .bf16) (i : S1024x1024.Idx) :
    k0_pay2 v0 v1 i = (0 : EReal) + k0_pay1 v0 v1 i := by
  pointwise [k0_pay2]

theorem sum_step (v0 : Vec Ideal S1024x1024 .bf16) (v1 : Vec Ideal S1024x1024 .bf16) (w : Vec Ideal S1024x1024 .f32) (i : S1024x1024.Idx) :
    k0_pay3 v0 v1 w i = (w i : EReal) + k0_pay1 v0 v1 i := by
  pointwise [k0_pay3]

/-- The accumulator at the last point of a run is the sum of the run's four products. -/
theorem acc (t : Fin cfg0.N) (h3 : t.val % 4 = 3) (i : S1024x1024.Idx) :
    (outsAt0 m c t.val t.isLt).2 i = ((fun _ => 0 : S1024x1024.Idx → EReal) i : EReal) + ∑ s : Fin 4, k0_pay1 (iblk m c 0 ⟨_, Pipeline.run_point_lt_of_flush t h3 s⟩) (iblk m c 1 ⟨_, Pipeline.run_point_lt_of_flush t h3 s⟩) i := by
  rw [Pipeline.eq_sum_fin_of_reset_step_apply_of_flush (fun n h => ((outsAt0 m c n h).2 : S1024x1024.Idx → EReal)) 4 (fun _ => (0 : EReal))
    (fun t i => k0_pay1 (iblk m c 0 t) (iblk m c 1 t) i)
    (fun t h i => by
      have hN : t.val < 4 := t.isLt
      rw [outsAt0_A m c t h (by omega) (by omega)]
      frame_out
      rw [sum_zero])
    (fun t h i => by
      by_cases h' : t.val % 4 = 3
      · rw [outsAt0_C m c t h (by omega) h']
        frame_out
        simp only [read_unread_whole]
        rw [sum_step]
      · rw [outsAt0_B m c t h (by omega) h']
        frame_out
        simp only [read_unread_whole]
        rw [sum_step]) t h3 i]

theorem last (t : Fin cfg0.N) (h3 : t.val % 4 = 3) (i : S1024x1024.Idx) : ((outsAt0 m c t.val t.isLt).1 i : EReal) = (outsAt0 m c t.val t.isLt).2 i := by
  rw [outsAt0_C m c t (by omega) (by omega) h3]
  frame_out
  pointwise [k0_pay4]

/-- The gradient, as the array that holds it. -/
theorem final_2 : (dats m 0 c).arrAt 2 cfg0.N
    = Cert.DwOutRefIdeal.Read.val_main_v6 (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2, last m c t h3, acc m c t h3]
  pointwise [k0_pay1, Cert.DwOutRefIdeal.Read.val_main_v6, Cert.DwOutRefIdeal.Read.val_main_v5]
  rw [Cert.DwOutRefIdeal.Read.val_main_v4_apply]
  pointwise [Cert.DwOutRefIdeal.Read.val_main_v3, Cert.DwOutRefIdeal.Read.val_main_v1]
  refine Fin.sum_mul_add_congr fun s k hl => ?_
  refine (mul_comm (_ : EReal) _).trans ?_
  blk_point [iblk, V, idx t, idx ⟨_, Pipeline.run_point_lt_of_flush t h3 s⟩]

theorem frame_k : Cert.quiescent_DwOut (hDwOut := Cert.DwOut.Gen.facts) := fun m g _ => Cert.DwOut.Gen.frame m g

theorem frame_i : Cert.quiescent_DwOutIdeal (hDwOutIdeal := Cert.DwOutIdeal.Gen.facts) := fun m g _ => Cert.DwOutIdeal.Gen.frame m g

theorem frame_r : Cert.quiescent_DwOutRefIdeal (hDwOutRefIdeal := Cert.DwOutRefIdeal.Gen.facts) := fun m g _ =>
  (θ_run Cert.DwOutRefIdeal.defs _ _).mono (fun r h => ⟨fun c => (h c).2, Idealize.ShloMosaic.sem_eq_zero_of_no_sems (by decide) r.2⟩) (Cert.DwOutRefIdeal.Value.run (F := Ideal) m g)

/-- The call and the reference, run from memories that agree on the arguments, leave the same results. -/
theorem algebraic : Cert.algebraic_DwOutIdeal_DwOutRefIdeal (hDwOutIdeal := Cert.DwOutIdeal.Gen.facts) (hDwOutRefIdeal := Cert.DwOutRefIdeal.Gen.facts) := by
  intro m g m' g' _ hagree
  refine ⟨fun c => Cert.DwOutRefIdeal.Read.val_main_v6 (m ((c : Thread nD τ).loc main_arg0)) (m ((c : Thread nD τ).loc main_arg1)), ?_, ?_⟩
  · refine (θ_run Cert.DwOutIdeal.defs _ _).mono (fun r h c => ?_) (Cert.DwOutIdeal.Value.run_blocks (F := Ideal) m g)
    obtain ⟨h0, ha⟩ := h c
    exact ⟨h0.trans (final_2 m c), ha⟩
  · refine (θ_run Cert.DwOutRefIdeal.defs _ _).mono (fun r h c => ?_) (Cert.DwOutRefIdeal.Value.run (F := Ideal) m' g')
    obtain ⟨h0, ha⟩ := h c
    obtain ⟨e0, e1⟩ := hagree c
    exact ⟨h0.trans (by rw [Cert.DwOutRefIdeal.Read.val_main_v6_eq, e0, e1]), ha⟩

end Cert.DwOutIdeal.Val
end
-- ==== Proof.RmsBwd.lean ====
module

public import Idealize.ShloMosaic.Lib.Pipeline.ValueKit

/-! The gradient of a root-mean-square norm at one entry, in the two forms that the kernels and the differentiated
    reference have it in. No finiteness is asked for: if the mean square is infinite, both forms are zero. -/

@[expose] public section

noncomputable section

namespace Cert.Rms

open Idealize.ShloMosaic

theorem div_coe (a : EReal) {c : ℝ} (hc : c ≠ 0) : Ideal.div a c = a * ((c⁻¹ : ℝ) : EReal) := by
  unfold Ideal.div
  rw [if_neg (by exact_mod_cast hc), EReal.coe_inv]

theorem real_of_sq {x : EReal} (h : x * x ≠ ⊤) : ∃ a : ℝ, x = a := by
  induction x with
  | bot => exact absurd EReal.bot_mul_bot h
  | coe a => exact ⟨a, rfl⟩
  | top => exact absurd EReal.top_mul_top h

theorem sq_nonneg (x : EReal) : 0 ≤ x * x := by
  induction x with
  | bot => rw [EReal.bot_mul_bot]; exact le_top
  | coe a => exact_mod_cast mul_self_nonneg a
  | top => rw [EReal.top_mul_top]; exact le_top

theorem sum_mul {n : ℕ} (f : Fin n → EReal) {r : ℝ} (hr : 0 ≤ r) : (∑ k, f k) * (r : EReal) = ∑ k, f k * (r : EReal) := by
  induction (Finset.univ : Finset (Fin n)) using Finset.cons_induction with
  | empty => simp
  | cons a s h ih =>
    rw [Finset.sum_cons, Finset.sum_cons, mul_comm,
      EReal.left_distrib_of_nonneg_of_ne_top (by exact_mod_cast hr) (EReal.coe_ne_top r), mul_comm _ (f a), mul_comm _ (∑ k ∈ s, f k), ih]

theorem add_self (e : EReal) : e + e = ((2 : ℝ) : EReal) * e := by
  induction e with
  | bot => rw [EReal.coe_mul_bot_of_pos (by norm_num)]; rfl
  | coe a => rw [← EReal.coe_add, ← EReal.coe_mul, two_mul]
  | top => rw [EReal.coe_mul_top_of_pos (by norm_num)]; rfl

/-- The mean square with the small constant, of a row. -/
def ms {n : ℕ} (x : Fin n → EReal) (c e : ℝ) : EReal := Ideal.div (∑ k, x k * x k) c + e

theorem ms_pos {n : ℕ} (x : Fin n → EReal) {c e : ℝ} (hc : 0 < c) (he : 0 < e) : 0 < ms x c e := by
  unfold ms
  rw [div_coe _ hc.ne']
  have h : 0 ≤ (∑ k, x k * x k) * ((c⁻¹ : ℝ) : EReal) :=
    EReal.mul_nonneg (Finset.sum_nonneg fun k _ => sq_nonneg (x k)) (by exact_mod_cast (inv_pos.mpr hc).le)
  exact lt_of_lt_of_le (by exact_mod_cast he) (le_add_of_nonneg_left h)

theorem real_of_ms {n : ℕ} (x : Fin n → EReal) {c e : ℝ} (hc : 0 < c) (h : ms x c e ≠ ⊤) (k : Fin n) : ∃ a : ℝ, x k = a := by
  refine real_of_sq fun hk => h ?_
  have hs : ∑ k, x k * x k = ⊤ := top_le_iff.mp (hk ▸ Finset.single_le_sum (f := fun k => x k * x k) (fun k _ => sq_nonneg (x k)) (Finset.mem_univ k))
  unfold ms
  rw [div_coe _ hc.ne', hs, EReal.top_mul_coe_of_pos (inv_pos.mpr hc)]
  rfl

/-- The gradient with respect to the normed input at one entry. -/
theorem point {n : ℕ} (x y : Fin n → EReal) (j : Fin n) (Y : EReal) {c e : ℝ} (hc : 0 < c) (he : 0 < e) :
    Ideal.rsqrt (ms x c e) * (Y - (x j * Ideal.rsqrt (ms x c e)) * Ideal.div (∑ k, y k * (x k * Ideal.rsqrt (ms x c e))) c)
      = Y * Ideal.rsqrt (ms x c e)
        + x j * Ideal.div ((∑ k, x k * y k) * (((-(1/2) : ℝ) : EReal) * Ideal.div (Ideal.rsqrt (ms x c e)) (ms x c e))) c
        + Ideal.div ((∑ k, x k * y k) * (((-(1/2) : ℝ) : EReal) * Ideal.div (Ideal.rsqrt (ms x c e)) (ms x c e))) c * x j := by
  have hp := ms_pos x hc he
  have hx := real_of_ms (e := e) x hc
  generalize ms x c e = v at hp hx
  induction v with
  | bot => exact absurd hp (by simp)
  | top =>
    have h0 : Ideal.rsqrt ⊤ = 0 := rfl
    rw [h0]
    simp [Ideal.div, hc.ne']
  | coe v =>
    have hv : 0 < v := by exact_mod_cast hp
    choose a ha using hx (EReal.coe_ne_top v)
    obtain rfl : x = fun k => (a k : EReal) := funext ha
    have hr : Ideal.rsqrt (v : EReal) = (((Real.sqrt v)⁻¹ : ℝ) : EReal) := by
      show (if v < 0 then ⊥ else if v = 0 then ⊤ else (((Real.sqrt v)⁻¹ : ℝ) : EReal)) = _
      rw [if_neg hv.le.not_gt, if_neg hv.ne']
    have hs : 0 < Real.sqrt v := Real.sqrt_pos.mpr hv
    have hq : (Real.sqrt v)⁻¹ * (Real.sqrt v)⁻¹ = v⁻¹ := by rw [← mul_inv, Real.mul_self_sqrt hv.le]
    rw [hr]
    have hs' : 0 < (Real.sqrt v)⁻¹ := inv_pos.mpr hs
    generalize (Real.sqrt v)⁻¹ = r at hq hs'
    have hsum : ∑ k, y k * ((a k : EReal) * (r : EReal)) = (∑ k, (a k : EReal) * y k) * (r : EReal) := by
      rw [sum_mul _ hs'.le]
      exact Finset.sum_congr rfl fun k _ => by rw [← mul_assoc, mul_comm (y k)]
    rw [hsum]
    generalize ∑ k, (a k : EReal) * y k = S
    rw [div_coe _ hc.ne', div_coe _ hv.ne', div_coe _ hc.ne']
    beta_reduce
    generalize a j = A
    generalize c⁻¹ = d
    have h1 : (r : EReal) * (Y - (A : EReal) * r * (S * r * d)) = Y * r + ((-(A * r * r * r * d) : ℝ) : EReal) * S := by
      rw [sub_eq_add_neg, EReal.left_distrib_of_nonneg_of_ne_top (by exact_mod_cast hs'.le) (EReal.coe_ne_top r), mul_comm (r : EReal) Y]
      congr 1
      rw [EReal.coe_neg, EReal.neg_mul, mul_neg]
      congr 1
      push_cast
      ac_rfl
    have h2 : (A : EReal) * (S * (((-(1/2) : ℝ) : EReal) * (r * ((v⁻¹ : ℝ) : EReal))) * d) = ((-(1/2) * (A * r * r * r * d) : ℝ) : EReal) * S := by
      rw [← hq]
      push_cast
      ac_rfl
    rw [h1, mul_comm _ (A : EReal), h2, add_assoc, add_self, ← mul_assoc, ← EReal.coe_mul]
    congr 3
    ring

theorem width : Ideal.ofBits .f32 1149239296#32 = ((1024 : ℝ) : EReal) := by
  simp [Ideal.ofBits, Ideal.ieee, -EReal.coe_mul]; norm_num

theorem half : Ideal.ofBits .f32 0xBF000000#32 = ((-(1/2) : ℝ) : EReal) := by
  simp [Ideal.ofBits, Ideal.ieee, -EReal.coe_mul]; norm_num

theorem small : ∃ e : ℝ, 0 < e ∧ Ideal.ofBits .f32 897988541#32 = (e : EReal) :=
  ⟨(2 ^ 23 + 407485 : ℕ) * (2 : ℝ) ^ ((107 : ℤ) - 127 - 23), by positivity, by
    simp [Ideal.ofBits, Ideal.ieee, -EReal.coe_mul]⟩

/-- The scale of a row: one over the root of its mean square, as the programs' constants have it. -/
def scale {n : ℕ} (x : Fin n → EReal) : EReal :=
  Ideal.rsqrt (Ideal.div (∑ k, x k * x k) (Ideal.ofBits .f32 1149239296#32) + Ideal.ofBits .f32 897988541#32)

/-- The factor that the differentiated reference multiplies the row by, twice. -/
def pull {n : ℕ} (x y : Fin n → EReal) : EReal :=
  Ideal.div ((∑ k, x k * y k) * (Ideal.ofBits .f32 0xBF000000#32 * Ideal.div (scale x)
    (Ideal.div (∑ k, x k * x k) (Ideal.ofBits .f32 1149239296#32) + Ideal.ofBits .f32 897988541#32))) (Ideal.ofBits .f32 1149239296#32)

/-- The kernels' form of the gradient. -/
def direct {n : ℕ} (x y : Fin n → EReal) (X Y : EReal) : EReal :=
  scale x * (Y - X * scale x * Ideal.div (∑ k, y k * (x k * scale x)) (Ideal.ofBits .f32 1149239296#32))

theorem direct_eq {n : ℕ} (x y : Fin n → EReal) (j : Fin n) (X Y : EReal) (hX : x j = X) :
    direct x y X Y = Y * scale x + X * pull x y + pull x y * X := by
  obtain ⟨e, he, h⟩ := small
  subst hX
  unfold direct pull scale
  rw [h, width, half]
  exact point x y j Y (by norm_num) he

/-- The gain's gradient in one column: over the rows, the cotangent times the normed row. -/
def gain {R n : ℕ} (d x : Fin R → Fin n → EReal) (k : Fin n) : EReal := ∑ r, d r k * (x r k * scale (x r))

/-- A quantity that the odd points of a grid add to. -/
theorem odd_sums {N : ℕ} (f p : (n : ℕ) → n < N → EReal) (h1 : ∀ h : 1 < N, f 1 h = p 1 h)
    (hs : ∀ n (h : n + 2 < N), n % 2 = 1 → f (n + 2) h = f n (by omega) + p (n + 2) h) (q t : ℕ) (h : t < N) (hq : t = 2 * q + 1) :
    f t h = ∑ b ∈ Finset.range (q + 1), (if h : 2 * b + 1 < N then p (2 * b + 1) h else 0) := by
  induction q generalizing t with
  | zero =>
    subst hq
    rw [Finset.sum_range_one, dif_pos h]
    exact h1 h
  | succ q ih =>
    subst hq
    rw [Finset.sum_range_succ, ← ih (2 * q + 1) (by omega) rfl, dif_pos h]
    exact hs (2 * q + 1) h (by omega)

/-- Eight row blocks' parts of a gain's gradient are the gradient. -/
theorem gain_blocks {n : ℕ} (f p : (t : ℕ) → t < 16 → EReal) (d x : Fin 4096 → Fin n → EReal) (k : Fin n) (h1 : ∀ h : 1 < 16, f 1 h = p 1 h)
    (hs : ∀ t (h : t + 2 < 16), t % 2 = 1 → f (t + 2) h = f t (by omega) + p (t + 2) h)
    (hp : ∀ (b : Fin 8) (h : 2 * b.val + 1 < 16), p (2 * b.val + 1) h = gain (fun (r : Fin 512) => d ⟨b.val * 512 + r.val, by omega⟩) (fun (r : Fin 512) => x ⟨b.val * 512 + r.val, by omega⟩) k)
    (t : ℕ) (h : t < 16) (ht : t % 16 = 15) : f t h = gain d x k := by
  rw [odd_sums f p h1 hs 7 t h (by omega), Finset.sum_range]
  refine Eq.trans (Finset.sum_congr rfl fun b _ => ?_) (Fin.sum_mul_add_fin 8 512 (fun r : Fin 4096 => d r k * (x r k * scale (x r))))
  have hb : 2 * b.val + 1 < 16 := by omega
  rw [dif_pos hb, hp b hb]
  rfl

end Cert.Rms

end
-- ==== Proof.PreValue.lean ====
module

public import proofs.«01_k».proof.Proof.Gen.PreIdeal.Value
public import proofs.«01_k».proof.Proof.Gen.PreRefIdeal.Read
public import proofs.«01_k».proof.Defs
public import proofs.«01_k».proof.Proof.Gen.Pre.Frame
public import Idealize.ShloMosaic.Lib.Pipeline.ValueKit
public import Idealize.ShloMosaic.Lib.Pipeline.ReadBack
public import proofs.«01_k».proof.Proof.RmsBwd

/-! The gradient through the input projection and the norm before it: two halves of a contraction are added up in a scratch
    array, and the second grid point of each row block writes the rows' gradient and adds to the gain's. -/

@[expose] public section

set_option maxRecDepth 16384

noncomputable section

namespace Cert.PreIdeal.Val

open Cert.PreIdeal Cert.PreIdeal.Gen
open Idealize.ShloMosaic Idealize.ShloMosaic.TcCoe Idealize.ShloMosaic.Pointwise
open Idealize.SL Idealize.SL.Sem

theorem idx : ∀ t : Fin cfg0.N, win0_0.index t = ![t.val / 2, t.val % 2] ∧ win0_1.index t = ![t.val % 2, 0] ∧ win0_2.index t = ![t.val / 2, 0] ∧ win0_3.index t = ![t.val / 2, 0] ∧ win0_4.index t = ![0, 0] ∧ win0_5.index t = ![t.val / 2, 0] ∧ win0_6.index t = ![0, 0] :=
  (by decide +kernel : ∀ t : Fin grid0.N, _)

variable (m : (ℓ : Loc nD τ sig) → Buf (Elt Ideal) ℓ) (c : Dev nD)

theorem sum_zero (v0 : Vec Ideal S512x2944 .bf16) (v1 : Vec Ideal S2944x1024 .bf16) (i : S512x1024.Idx) :
    k0_pay2 v0 v1 i = (0 : EReal) + k0_pay1 v0 v1 i := by
  pointwise [k0_pay2]

theorem sum_step (v0 : Vec Ideal S512x2944 .bf16) (v1 : Vec Ideal S2944x1024 .bf16) (w : Vec Ideal S512x1024 .f32) (i : S512x1024.Idx) :
    k0_pay3 v0 v1 w i = (w i : EReal) + k0_pay1 v0 v1 i := by
  pointwise [k0_pay3]

/-- The scratch array at the second point of a row block is the sum of the two halves. -/
theorem acc (t : Fin cfg0.N) (h1 : t.val % 2 = 1) (i : S512x1024.Idx) :
    (outsAt0 m c t.val t.isLt).2.2 i = ((fun _ => 0 : S512x1024.Idx → EReal) i : EReal) + ∑ s : Fin 2, k0_pay1 (iblk m c 0 ⟨_, Pipeline.run_point_lt_of_flush t h1 s⟩) (iblk m c 1 ⟨_, Pipeline.run_point_lt_of_flush t h1 s⟩) i := by
  rw [Pipeline.eq_sum_fin_of_reset_step_apply_of_flush (fun n h => ((outsAt0 m c n h).2.2 : S512x1024.Idx → EReal)) 2 (fun _ => (0 : EReal))
    (fun t i => k0_pay1 (iblk m c 0 t) (iblk m c 1 t) i)
    (fun t h i => by
      rw [outsAt0_A m c t h (by omega) (by omega)]
      frame_out
      rw [sum_zero])
    (fun t h i => by
      by_cases h' : t.val < 2
      · rw [outsAt0_B m c t (by omega) (by omega) (by omega) h']
        frame_out
        simp only [read_unread_whole]
        rw [sum_step]
      · rw [outsAt0_C m c t (by omega) (by omega) (by omega) h']
        frame_out
        simp only [read_unread_whole]
        rw [sum_step]) t h1 i]

/-- There it is the reference's product at the row block's rows. -/
theorem du (t : Fin cfg0.N) (h1 : t.val % 2 = 1) (i : S512x1024.Idx) (j : S4096x1024.Idx) (h0 : (j 0).val = t.val / 2 * 512 + (i 0).val) (hj : (j 1).val = (i 1).val) :
    ((outsAt0 m c t.val t.isLt).2.2 i : EReal) = Cert.PreRefIdeal.Read.val_main_v18 (m ((c : Thread nD τ).loc main_arg0)) (m ((c : Thread nD τ).loc main_arg1)) j := by
  rw [acc m c t h1]
  rw [Cert.PreRefIdeal.Read.val_main_v18_apply]
  pointwise [k0_pay1, Cert.PreRefIdeal.Read.val_main_v17, Cert.PreRefIdeal.Read.val_main_v15]
  refine Fin.sum_mul_add_congr fun s k hl => ?_
  blk_point [iblk, V, idx t, idx ⟨_, Pipeline.run_point_lt_of_flush t h1 s⟩]

theorem pay7 (d x : Vec Ideal S512x1024 .f32) (g : Vec Ideal S1x1024 .f32) (h : Vec Ideal S512x1024 .f32) (i : S512x1024.Idx) :
    (k0_pay7 d x g h i : EReal) = (h i : EReal) + Cert.Rms.direct (fun k : Fin 1024 => x (ix2 (i 0) k)) (fun k => (d (ix2 (i 0) k) : EReal) * g (ix2 0 k)) (x i) ((d i : EReal) * g (ix2 0 (i 1))) := by
  pointwise [k0_pay7, k0_pay6, k0_pay5]
  rfl

theorem pay8 (d x : Vec Ideal S512x1024 .f32) (o : Vec Ideal S1x1024 .f32) (i : S1x1024.Idx) :
    (k0_pay8 d x o i : EReal) = (o i : EReal) + ∑ r : Fin 512, (d (ix2 r (i 1)) : EReal) * ((x (ix2 r (i 1)) : EReal) * Cert.Rms.scale (fun k : Fin 1024 => x (ix2 r k))) := by
  pointwise [k0_pay8, k0_pay6, k0_pay5]
  rfl

theorem at1 (r : Fin 4096) (k : Fin 1024) : Cert.PreRefIdeal.Read.idx_main_v1 (ix1 r) k = ix2 r k := by
  funext a
  match a with
  | ⟨0, _⟩ => rfl
  | ⟨1, _⟩ => rfl

theorem at20 (r : Fin 4096) (k : Fin 1024) : Cert.PreRefIdeal.Read.idx_main_v20 (ix1 k) r = ix2 r k := by
  funext a
  match a with
  | ⟨0, _⟩ => rfl
  | ⟨1, _⟩ => rfl

theorem at25 (r : Fin 4096) (k : Fin 1024) : Cert.PreRefIdeal.Read.idx_main_v25 (ix1 r) k = ix2 r k := by
  funext a
  match a with
  | ⟨0, _⟩ => rfl
  | ⟨1, _⟩ => rfl

theorem ref38 (a0 : (⟨S4096x5888, .bf16⟩ : BufTy).Contents (Elt Ideal)) (a1 : (⟨S1024x5888, .bf16⟩ : BufTy).Contents (Elt Ideal)) (a2 a3 : (⟨S4096x1024, .f32⟩ : BufTy).Contents (Elt Ideal)) (a4 : (⟨S1x1024, .f32⟩ : BufTy).Contents (Elt Ideal)) (j : S4096x1024.Idx) :
    (Cert.PreRefIdeal.Read.val_main_v38 a0 a1 a2 a3 a4 j : EReal) = (a3 j : EReal)
      + Cert.Rms.direct (fun k : Fin 1024 => a2 (ix2 (j 0) k)) (fun k => (Cert.PreRefIdeal.Read.val_main_v18 a0 a1 (ix2 (j 0) k) : EReal) * a4 (ix2 0 k))
        (a2 j) ((Cert.PreRefIdeal.Read.val_main_v18 a0 a1 j : EReal) * a4 (ix2 0 (j 1))) := by
  refine Eq.trans ?_ (congrArg (fun z : EReal => (a3 j : EReal) + z) (Cert.Rms.direct_eq (n := 1024) _ _ (show Fin 1024 from j 1) _ _ (congrArg a2 (eq_ix2 j).symm)).symm)
  pointwise [Cert.PreRefIdeal.Read.val_main_v38, Cert.PreRefIdeal.Read.val_main_v37, Cert.PreRefIdeal.Read.val_main_v36, Cert.PreRefIdeal.Read.val_main_v35, Cert.PreRefIdeal.Read.val_main_v34, Cert.PreRefIdeal.Read.val_main_v33]
  rw [Cert.PreRefIdeal.Read.val_main_v32_apply]
  pointwise [Cert.PreRefIdeal.Read.val_main_v31, Cert.PreRefIdeal.Read.val_main_v30, Cert.PreRefIdeal.Read.val_main_v29, Cert.PreRefIdeal.Read.val_main_v28, Cert.PreRefIdeal.Read.val_main_v27, Cert.PreRefIdeal.Read.val_main_v26, Cert.PreRefIdeal.Read.val_main_v23, Cert.PreRefIdeal.Read.val_main_v22, Cert.PreRefIdeal.Read.val_main_v10, Cert.PreRefIdeal.Read.val_main_v9, Cert.PreRefIdeal.Read.val_main_v8, Cert.PreRefIdeal.Read.val_main_v7, Cert.PreRefIdeal.Read.val_main_v6, Cert.PreRefIdeal.Read.val_main_v5, Cert.PreRefIdeal.Read.val_main_v4, Cert.PreRefIdeal.Read.val_main_v3, Cert.PreRefIdeal.Read.val_main_v2]
  simp only [Cert.PreRefIdeal.Read.val_main_v25_apply, Cert.PreRefIdeal.Read.val_main_v1_apply]
  pointwise [Cert.PreRefIdeal.Read.val_main_v24, Cert.PreRefIdeal.Read.val_main_v23, Cert.PreRefIdeal.Read.val_main_v22, Cert.PreRefIdeal.Read.val_main_v0]
  simp only [Cert.PreRefIdeal.Read.val_main_cst_apply, Cert.PreRefIdeal.Read.val_main_cst_0_apply, Cert.PreRefIdeal.Read.val_main_cst_1_apply, Cert.PreRefIdeal.Read.val_main_cst_2_apply, Cert.PreRefIdeal.Read.val_main_cst_3_apply, Cert.PreRefIdeal.Read.val_main_cst_4_apply, Cert.PreRefIdeal.Read.val_main_cst_5_apply, Cert.PreRefIdeal.Read.val_main_cst_6_apply, Ideal.ofBits_def, Ideal.ofBits_zero_f32, zero_add, Fin.sum_univ_one]
  have q1 : ∀ k : Fin 1024, Cert.PreRefIdeal.Read.idx_main_v1 (ix1 (j 0)) k = ix2 (j 0) k := fun k => at1 (j 0) k
  have q25 : ∀ k : Fin 1024, Cert.PreRefIdeal.Read.idx_main_v25 (ix1 (Cert.PreRefIdeal.Read.idx_main_v32 (ix1 (j 0)) 0 0)) k = ix2 (j 0) k := fun k => at25 (j 0) k
  simp only [q1, q25]
  rfl

theorem ref21 (a0 : (⟨S4096x5888, .bf16⟩ : BufTy).Contents (Elt Ideal)) (a1 : (⟨S1024x5888, .bf16⟩ : BufTy).Contents (Elt Ideal)) (a2 : (⟨S4096x1024, .f32⟩ : BufTy).Contents (Elt Ideal)) (i : S1x1024.Idx) :
    (Cert.PreRefIdeal.Read.val_main_v21 a0 a1 a2 i : EReal) = ∑ r : Fin 4096, (Cert.PreRefIdeal.Read.val_main_v18 a0 a1 (ix2 r (i 1)) : EReal) * ((a2 (ix2 r (i 1)) : EReal) * Cert.Rms.scale (fun k : Fin 1024 => a2 (ix2 r k))) := by
  pointwise [Cert.PreRefIdeal.Read.val_main_v21]
  rw [Cert.PreRefIdeal.Read.val_main_v20_apply]
  pointwise [Cert.PreRefIdeal.Read.val_main_v19, Cert.PreRefIdeal.Read.val_main_v12, Cert.PreRefIdeal.Read.val_main_v11, Cert.PreRefIdeal.Read.val_main_v7, Cert.PreRefIdeal.Read.val_main_v6, Cert.PreRefIdeal.Read.val_main_v5, Cert.PreRefIdeal.Read.val_main_v4, Cert.PreRefIdeal.Read.val_main_v3, Cert.PreRefIdeal.Read.val_main_v2]
  simp only [Cert.PreRefIdeal.Read.val_main_v1_apply]
  pointwise [Cert.PreRefIdeal.Read.val_main_v0]
  simp only [Cert.PreRefIdeal.Read.val_main_cst_apply, Cert.PreRefIdeal.Read.val_main_cst_0_apply, Cert.PreRefIdeal.Read.val_main_cst_1_apply, Cert.PreRefIdeal.Read.val_main_cst_2_apply, Cert.PreRefIdeal.Read.val_main_cst_3_apply, Cert.PreRefIdeal.Read.val_main_cst_4_apply, Cert.PreRefIdeal.Read.val_main_cst_5_apply, Cert.PreRefIdeal.Read.val_main_cst_6_apply, Ideal.ofBits_def, Ideal.ofBits_zero_f32, zero_add]
  refine Finset.sum_congr rfl fun r _ => (mul_comm _ _).trans ?_
  exact congrArg₂ (fun a b : EReal => a * b) (congrArg (Cert.PreRefIdeal.Read.val_main_v18 a0 a1) (at20 r (i 1)))
    (congrArg₂ (fun a b : EReal => a * b) (congrArg a2 (at20 r (i 1))) (congrArg (fun f : Fin 1024 → EReal => Cert.Rms.scale f) (funext fun k => congrArg a2 (at1 r k))))

/-- What the second point of a row block writes to the rows' gradient, over the scratch array it leaves. -/
theorem out5 (t : Fin cfg0.N) (h1 : t.val % 2 = 1) :
    (outsAt0 m c t.val t.isLt).1 = k0_pay7 (outsAt0 m c t.val t.isLt).2.2 (iblk m c 2 t) (iblk m c 4 t) (iblk m c 3 t) := by
  by_cases h' : t.val < 2
  · rw [outsAt0_B m c t (by omega) (by omega) (by omega) h']
    frame_out
  · rw [outsAt0_C m c t (by omega) (by omega) (by omega) h']
    frame_out

/-- A row block's part of the gain's gradient. -/
def part (d x : Vec Ideal S512x1024 .f32) (i : S1x1024.Idx) : EReal :=
  ∑ r : Fin 512, (d (ix2 r (i 1)) : EReal) * ((x (ix2 r (i 1)) : EReal) * Cert.Rms.scale (fun k : Fin 1024 => x (ix2 r k)))

theorem first (t : Fin cfg0.N) (h1 : t.val % 2 = 1) (h' : t.val < 2) (i : S1x1024.Idx) :
    ((outsAt0 m c t.val t.isLt).2.1 i : EReal) = part (outsAt0 m c t.val t.isLt).2.2 (iblk m c 2 t) i := by
  unfold part
  rw [outsAt0_B m c t (by omega) (by omega) (by omega) h']
  frame_out
  rw [pay8]
  pointwise [k0_pay4]

theorem next (t u : Fin cfg0.N) (h1 : t.val % 2 = 1) (h' : ¬t.val < 2) (hu : u.val = t.val - 1) (w : Fin cfg0.N) (hw : w.val = u.val - 1) (i : S1x1024.Idx) :
    ((outsAt0 m c t.val t.isLt).2.1 i : EReal) = (outsAt0 m c w.val w.isLt).2.1 i + part (outsAt0 m c t.val t.isLt).2.2 (iblk m c 2 t) i := by
  have he : (outsAt0 m c u.val u.isLt).2.1 = (outsAt0 m c w.val w.isLt).2.1 := by
    obtain ⟨w, hw'⟩ := w
    obtain rfl : w = u.val - 1 := hw
    rw [outsAt0_A m c u (by omega) (by omega) (by omega)]
    frame_out
    rfl
  rw [← he]
  obtain ⟨u, hu'⟩ := u
  obtain rfl : u = t.val - 1 := hu
  unfold part
  rw [outsAt0_C m c t (by omega) (by omega) (by omega) h']
  frame_out
  simp only [read_unread_whole]
  rw [pay8]

theorem sums (q : ℕ) (t : Fin cfg0.N) (hq : t.val = 2 * q + 1) (i : S1x1024.Idx) :
    ((outsAt0 m c t.val t.isLt).2.1 i : EReal) = ∑ b ∈ Finset.range (q + 1), (if h : 2 * b + 1 < cfg0.N then part (outsAt0 m c (2 * b + 1) h).2.2 (iblk m c 2 ⟨2 * b + 1, h⟩) i else 0) := by
  induction q generalizing t with
  | zero =>
    obtain ⟨t, ht⟩ := t
    obtain rfl : t = 2 * 0 + 1 := hq
    rw [Finset.sum_range_one, dif_pos ht]
    exact first m c ⟨_, ht⟩ rfl (by show 2 * 0 + 1 < 2; decide) i
  | succ q ih =>
    have hN := t.isLt
    rw [Finset.sum_range_succ, ← ih ⟨2 * q + 1, by omega⟩ rfl, dif_pos (hq ▸ hN)]
    obtain ⟨t, ht⟩ := t
    obtain rfl : t = 2 * (q + 1) + 1 := hq
    exact next m c ⟨_, ht⟩ ⟨2 * (q + 1), by omega⟩ (by show (2 * (q + 1) + 1) % 2 = 1; omega) (by show ¬(2 * (q + 1) + 1 < 2); omega) rfl ⟨2 * q + 1, by omega⟩ rfl i

theorem row2 (t : Fin cfg0.N) (i : S512x1024.Idx) (j : S4096x1024.Idx) (h0 : (j 0).val = t.val / 2 * 512 + (i 0).val) (hj : (j 1).val = (i 1).val) :
    (iblk m c 2 t i : EReal) = m ((c : Thread nD τ).loc main_arg2) j := by
  blk_point [iblk, V, idx t]

theorem row3 (t : Fin cfg0.N) (i : S512x1024.Idx) (j : S4096x1024.Idx) (h0 : (j 0).val = t.val / 2 * 512 + (i 0).val) (hj : (j 1).val = (i 1).val) :
    (iblk m c 3 t i : EReal) = m ((c : Thread nD τ).loc main_arg3) j := by
  blk_point [iblk, V, idx t]

theorem row4 (t : Fin cfg0.N) (i j : S1x1024.Idx) (hj : (j 1).val = (i 1).val) :
    (iblk m c 4 t i : EReal) = m ((c : Thread nD τ).loc main_arg4) j := by
  blk_point [iblk, V, idx t]

/-- A row's part of the gain's gradient. -/
def rowTerm (d x : FVec Ideal S4096x1024 .f32) (k : Fin 1024) (r : Fin 4096) : EReal :=
  (d (ix2 r k) : EReal) * ((x (ix2 r k) : EReal) * Cert.Rms.scale (fun k : Fin 1024 => x (ix2 r k)))

theorem last (t : Fin cfg0.N) (ht : t.val % 16 = 15) (i : S1x1024.Idx) :
    ((outsAt0 m c t.val t.isLt).2.1 i : EReal) = Cert.PreRefIdeal.Read.val_main_v21 (m ((c : Thread nD τ).loc main_arg0)) (m ((c : Thread nD τ).loc main_arg1)) (m ((c : Thread nD τ).loc main_arg2)) i := by
  have h15 : t.val = 2 * 7 + 1 := by
    have : t.val < 16 := t.isLt
    omega
  rw [sums m c 7 t h15, ref21, Finset.sum_range]
  refine Eq.trans (Finset.sum_congr rfl fun b _ => ?_) (Fin.sum_mul_add_fin 8 512 (rowTerm (Cert.PreRefIdeal.Read.val_main_v18 (m ((c : Thread nD τ).loc main_arg0)) (m ((c : Thread nD τ).loc main_arg1))) (m ((c : Thread nD τ).loc main_arg2)) (i 1)))
  have hb : 2 * b.val + 1 < cfg0.N := by
    show 2 * b.val + 1 < 16
    have := b.isLt
    omega
  rw [dif_pos hb]
  unfold part
  refine Finset.sum_congr rfl fun r _ => ?_
  have hq : (2 * b.val + 1) / 2 = b.val := by omega
  have e0 : b.val * 512 + r.val = (2 * b.val + 1) / 2 * 512 + r.val := by rw [hq]
  refine congrArg₂ (fun a b : EReal => a * b) (du m c ⟨2 * b.val + 1, hb⟩ (by show (2 * b.val + 1) % 2 = 1; omega) _ _ e0 rfl)
    (congrArg₂ (fun a b : EReal => a * b) (row2 m c ⟨2 * b.val + 1, hb⟩ _ _ e0 rfl)
      (congrArg (fun f : Fin 1024 → EReal => Cert.Rms.scale f) (funext fun k => row2 m c ⟨2 * b.val + 1, hb⟩ _ _ e0 rfl)))

/-- The gain's gradient, as the array that holds it. -/
theorem final_6 : (dats m 0 c).arrAt 6 cfg0.N
    = Cert.PreRefIdeal.Read.val_main_v21 (m ((c : Thread nD τ).loc main_arg0)) (m ((c : Thread nD τ).loc main_arg1)) (m ((c : Thread nD τ).loc main_arg2)) := by
  refine (dats m 0 c).arrAt_eq_of_covers 6 _ (by decide +kernel) fun t hf y => ?_
  have h15 := (flush0_6 t).mp hf
  blk_simp
  rw [after0_6, last m c t h15]
  blk_point [idx t]

/-- The rows' gradient, as the array that holds it. -/
theorem final_5 : (dats m 0 c).arrAt 5 cfg0.N
    = Cert.PreRefIdeal.Read.val_main_v38 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have h1 := (flush0_5 t).mp hf
  blk_simp
  rw [after0_5, out5 m c t h1, pay7, ref38]
  have e0 : ((win0_5.blk t).view.emb y 0).val = t.val / 2 * 512 + (y 0).val := by
    blk_simp [idx t]
  have e1 : ((win0_5.blk t).view.emb y 1).val = (y 1).val := by
    blk_simp [idx t]
  generalize (win0_5.blk t).view.emb y = j at e0 e1
  have hd : ∀ k : Fin 1024, ((outsAt0 m c t.val t.isLt).2.2 (ix2 (y 0) k) : EReal) = Cert.PreRefIdeal.Read.val_main_v18 (m ((c : Thread nD τ).loc main_arg0)) (m ((c : Thread nD τ).loc main_arg1)) (ix2 (j 0) k) :=
    fun k => du m c t h1 _ _ e0 rfl
  have hx : ∀ k : Fin 1024, (iblk m c 2 t (ix2 (y 0) k) : EReal) = m ((c : Thread nD τ).loc main_arg2) (ix2 (j 0) k) := fun k => row2 m c t _ _ e0 rfl
  have hg : ∀ k : Fin 1024, (iblk m c 4 t (ix2 0 k) : EReal) = m ((c : Thread nD τ).loc main_arg4) (ix2 0 k) := fun k => row4 m c t _ _ rfl
  simp only [hd, hx, hg]
  rw [row3 m c t _ _ e0 e1, row2 m c t _ _ e0 e1, du m c t h1 _ _ e0 e1, row4 m c t (ix2 0 (show Fin 1024 from y 1)) (ix2 0 (show Fin 1024 from j 1)) e1]

theorem frame_k : Cert.quiescent_Pre (hPre := Cert.Pre.Gen.facts) := fun m g _ => Cert.Pre.Gen.frame m g

theorem frame_i : Cert.quiescent_PreIdeal (hPreIdeal := Cert.PreIdeal.Gen.facts) := fun m g _ => Cert.PreIdeal.Gen.frame m g

theorem frame_r : Cert.quiescent_PreRefIdeal (hPreRefIdeal := Cert.PreRefIdeal.Gen.facts) := fun m g _ =>
  (θ_run Cert.PreRefIdeal.defs _ _).mono (fun r h => ⟨fun c => (h c).2.2, Idealize.ShloMosaic.sem_eq_zero_of_no_sems (by decide) r.2⟩) (Cert.PreRefIdeal.Value.run (F := Ideal) m g)

/-- The call and the reference, run from memories that agree on the arguments, leave the same results. -/
theorem algebraic : Cert.algebraic_PreIdeal_PreRefIdeal (hPreIdeal := Cert.PreIdeal.Gen.facts) (hPreRefIdeal := Cert.PreRefIdeal.Gen.facts) := by
  intro m g m' g' _ hagree
  refine ⟨fun c => Cert.PreRefIdeal.Read.val_main_v38 (m ((c : Thread nD τ).loc main_arg0)) (m ((c : Thread nD τ).loc main_arg1)) (m ((c : Thread nD τ).loc main_arg2)) (m ((c : Thread nD τ).loc main_arg3)) (m ((c : Thread nD τ).loc main_arg4)), fun c => Cert.PreRefIdeal.Read.val_main_v21 (m ((c : Thread nD τ).loc main_arg0)) (m ((c : Thread nD τ).loc main_arg1)) (m ((c : Thread nD τ).loc main_arg2)), ?_, ?_⟩
  · refine (θ_run Cert.PreIdeal.defs _ _).mono (fun r h c => ?_) (Cert.PreIdeal.Value.run_blocks (F := Ideal) m g)
    obtain ⟨h0, h1, ha⟩ := h c
    exact ⟨h0.trans (final_5 m c), h1.trans (final_6 m c), ha⟩
  · refine (θ_run Cert.PreRefIdeal.defs _ _).mono (fun r h c => ?_) (Cert.PreRefIdeal.Value.run (F := Ideal) m' g')
    obtain ⟨h0, h1, ha⟩ := h c
    obtain ⟨e0, e1, e2, e3, e4⟩ := hagree c
    exact ⟨h0.trans (by rw [Cert.PreRefIdeal.Read.val_main_v38_eq, e0, e1, e2, e3, e4]), h1.trans (by rw [Cert.PreRefIdeal.Read.val_main_v21_eq, e0, e1, e2]), ha⟩

end Cert.PreIdeal.Val
end
-- ==== Proof.DownValue.lean ====
module

public import proofs.«01_k».proof.Proof.Gen.DownIdeal.Value
public import proofs.«01_k».proof.Proof.Gen.DownRefIdeal.Read
public import proofs.«01_k».proof.Defs
public import proofs.«01_k».proof.Proof.Gen.Down.Frame
public import Idealize.ShloMosaic.Lib.Pipeline.ValueKit
public import Idealize.ShloMosaic.Lib.Pipeline.ReadBack
public import proofs.«01_k».proof.Proof.Finite

/-! The gradient through the down projection and the gate: a block of the product is worked off in column tiles, and the
    derivative of the gate is one product in the kernel and a sum of two in the reference. -/

@[expose] public section

set_option maxRecDepth 16384

noncomputable section

namespace Cert.DownIdeal.Val

open Cert.DownIdeal Cert.DownIdeal.Gen
open Idealize.ShloMosaic Idealize.ShloMosaic.TcCoe Idealize.ShloMosaic.Pointwise
open Idealize.SL Idealize.SL.Sem

theorem idx : ∀ t : Fin cfg0.N, win0_0.index t = ![t.val % 8, 0] ∧ win0_1.index t = ![t.val / 8, 0] ∧ win0_2.index t = ![t.val % 8, t.val / 8] ∧ win0_3.index t = ![t.val % 8, t.val / 8] ∧ win0_4.index t = ![t.val % 8, t.val / 8] ∧ win0_5.index t = ![t.val % 8, t.val / 8] :=
  (by decide +kernel : ∀ t : Fin grid0.N, _)

theorem pre_facts : Cert.Pre_finite_down.Facts where
  bitsLt_bf16_f32 := by decide
  bcast_S_S4096x1024 := by decide
  bcast_S_S2816x1024 := by decide
  bcast_S_S4096x2816 := by decide

/-- The gate's derivative, as one product and as the sum of two, under a real factor. -/
theorem gate_point (D : ℝ) (z : EReal) :
    (D : EReal) * (Ideal.logistic z * (1 + z * (1 - Ideal.logistic z))) = (D : EReal) * Ideal.logistic z + z * (D : EReal) * (Ideal.logistic z * (1 - Ideal.logistic z)) := by
  induction z with
  | bot =>
    rw [Ideal.logistic_bot]
    simp
  | top =>
    have h : (1 : EReal) - 1 = 0 := by
      rw [← EReal.coe_one, ← EReal.coe_sub, sub_self, EReal.coe_zero]
    rw [Ideal.logistic_top, h]
    simp
  | coe z =>
    rw [Ideal.logistic_coe]
    generalize (1 + Real.exp (-z))⁻¹ = s
    rw [← EReal.coe_one]
    norm_cast
    ring

theorem sum_real {n : ℕ} (f : Fin n → EReal) (h : ∀ k, ∃ r : ℝ, f k = r) : ∃ r : ℝ, ∑ k, f k = r := by
  induction (Finset.univ : Finset (Fin n)) using Finset.cons_induction with
  | empty => exact ⟨0, by simp⟩
  | cons a s ha ih =>
    obtain ⟨x, hx⟩ := h a
    obtain ⟨y, hy⟩ := ih
    exact ⟨x + y, by rw [Finset.sum_cons, hx, hy, EReal.coe_add]⟩

variable (m : (ℓ : Loc nD τ sig) → Buf (Elt Ideal) ℓ) (c : Dev nD)

/-- An entry of a block's product. -/
def prod (a : Vec Ideal S512x1024 .bf16) (w : Vec Ideal S1408x1024 .bf16) (y : S512x1408.Idx) : EReal :=
  ∑ k : Fin 1024, (a (ix2 (y 0) k) : EReal) * w (ix2 (y 1) k)

def up (a : Vec Ideal S512x1024 .bf16) (w : Vec Ideal S1408x1024 .bf16) (z : Vec Ideal S512x1408 .bf16) (y : S512x1408.Idx) : EReal :=
  prod a w y * ((z y : EReal) * Ideal.logistic (z y))

def gate (a : Vec Ideal S512x1024 .bf16) (w : Vec Ideal S1408x1024 .bf16) (z u : Vec Ideal S512x1408 .bf16) (y : S512x1408.Idx) : EReal :=
  prod a w y * (u y : EReal) * (Ideal.logistic (z y) * (1 + (z y : EReal) * (1 - Ideal.logistic (z y))))

theorem one_word : Ideal.ofBits .f32 1065353216#32 = 1 := by
  simp [Ideal.ofBits, Ideal.ieee, -EReal.coe_mul]; norm_num

theorem at_tile {n : ℕ} (off : ℕ) (x : (⟨2, ![512, n]⟩ : Shape).Idx) (y : S512x1408.Idx) (h0 : (y 0).val = (x 0).val) (h1 : (y 1).val = off + (x 1).val) :
    y = ix2 (n0 := 512) (n1 := 1408) ⟨(x 0).val, (x 0).isLt⟩ ⟨off + (x 1).val, h1 ▸ (y 1).isLt⟩ := by
  funext a
  match a with
  | ⟨0, _⟩ => exact Fin.ext h0
  | ⟨1, _⟩ => exact Fin.ext h1

theorem up_1024 (a : Vec Ideal S512x1024 .bf16) (w : Vec Ideal S1408x1024 .bf16) (z : Vec Ideal S512x1408 .bf16) (x : S512x384.Idx) (y : S512x1408.Idx) (h0 : (y 0).val = (x 0).val) (h1 : (y 1).val = 1024 + (x 1).val) :
    (k0_pay5 a (View.ld w (Rect.unit ![1024, 0] ![384, 1024] inb_S1408x1024_S384x1024_1024_0)) (View.ld z (Rect.unit ![0, 1024] ![512, 384] inb_S512x1408_S512x384_0_1024)) x : EReal) = up a w z y := by
  rw [at_tile 1024 x y h0 h1]
  unfold up prod
  pointwise [k0_pay5, k0_pay2, k0_pay3, k0_pay4]

theorem gate_1024 (a : Vec Ideal S512x1024 .bf16) (w : Vec Ideal S1408x1024 .bf16) (z u : Vec Ideal S512x1408 .bf16) (x : S512x384.Idx) (y : S512x1408.Idx) (h0 : (y 0).val = (x 0).val) (h1 : (y 1).val = 1024 + (x 1).val) :
    (k0_pay6 a (View.ld w (Rect.unit ![1024, 0] ![384, 1024] inb_S1408x1024_S384x1024_1024_0)) (View.ld z (Rect.unit ![0, 1024] ![512, 384] inb_S512x1408_S512x384_0_1024)) (View.ld u (Rect.unit ![0, 1024] ![512, 384] inb_S512x1408_S512x384_0_1024)) x : EReal) = gate a w z u y := by
  rw [at_tile 1024 x y h0 h1]
  unfold gate prod
  pointwise [k0_pay6, k0_pay2, k0_pay3, k0_pay4]

theorem up_512 (a : Vec Ideal S512x1024 .bf16) (w : Vec Ideal S1408x1024 .bf16) (z : Vec Ideal S512x1408 .bf16) (x : S512x512.Idx) (y : S512x1408.Idx) (h0 : (y 0).val = (x 0).val) (h1 : (y 1).val = 512 + (x 1).val) :
    (k0_pay16 a (View.ld w (Rect.unit ![512, 0] ![512, 1024] inb_S1408x1024_S512x1024_512_0)) (View.ld z (Rect.unit ![0, 512] ![512, 512] inb_S512x1408_S512x512_0_512)) x : EReal) = up a w z y := by
  rw [at_tile 512 x y h0 h1]
  unfold up prod
  pointwise [k0_pay16, k0_pay12, k0_pay13, k0_pay15]

theorem gate_512 (a : Vec Ideal S512x1024 .bf16) (w : Vec Ideal S1408x1024 .bf16) (z u : Vec Ideal S512x1408 .bf16) (x : S512x512.Idx) (y : S512x1408.Idx) (h0 : (y 0).val = (x 0).val) (h1 : (y 1).val = 512 + (x 1).val) :
    (k0_pay1 (k0_pay12 a (View.ld w (Rect.unit ![512, 0] ![512, 1024] inb_S1408x1024_S512x1024_512_0))) (k0_pay13 (View.ld z (Rect.unit ![0, 512] ![512, 512] inb_S512x1408_S512x512_0_512))) (k0_pay14 (View.ld u (Rect.unit ![0, 512] ![512, 512] inb_S512x1408_S512x512_0_512))) (k0_pay15 (View.ld z (Rect.unit ![0, 512] ![512, 512] inb_S512x1408_S512x512_0_512))) x : EReal) = gate a w z u y := by
  rw [at_tile 512 x y h0 h1]
  unfold gate prod
  pointwise [k0_pay1, k0_pay12, k0_pay13, k0_pay14, k0_pay15]

theorem up_0 (a : Vec Ideal S512x1024 .bf16) (w : Vec Ideal S1408x1024 .bf16) (z : Vec Ideal S512x1408 .bf16) (x : S512x512.Idx) (y : S512x1408.Idx) (h0 : (y 0).val = (x 0).val) (h1 : (y 1).val = 0 + (x 1).val) :
    (k0_pay10 a (View.ld w (Rect.unit ![0, 0] ![512, 1024] inb_S1408x1024_S512x1024_0_0)) (View.ld z (Rect.unit ![0, 0] ![512, 512] inb_S512x1408_S512x512_0_0)) x : EReal) = up a w z y := by
  rw [at_tile 0 x y h0 h1]
  unfold up prod
  pointwise [k0_pay10, k0_pay7, k0_pay8, k0_pay9]

theorem gate_0 (a : Vec Ideal S512x1024 .bf16) (w : Vec Ideal S1408x1024 .bf16) (z u : Vec Ideal S512x1408 .bf16) (x : S512x512.Idx) (y : S512x1408.Idx) (h0 : (y 0).val = (x 0).val) (h1 : (y 1).val = 0 + (x 1).val) :
    (k0_pay11 a (View.ld w (Rect.unit ![0, 0] ![512, 1024] inb_S1408x1024_S512x1024_0_0)) (View.ld z (Rect.unit ![0, 0] ![512, 512] inb_S512x1408_S512x512_0_0)) (View.ld u (Rect.unit ![0, 0] ![512, 512] inb_S512x1408_S512x512_0_0)) x : EReal) = gate a w z u y := by
  rw [at_tile 0 x y h0 h1]
  unfold gate prod
  pointwise [k0_pay11, k0_pay7, k0_pay8, k0_pay9]

theorem out5 (t : Fin cfg0.N) (y : S512x1408.Idx) : ((outsAt0 m c t).2 y : EReal) = up (iblk m c 0 t) (iblk m c 1 t) (iblk m c 2 t) y := by
  unfold outsAt0
  frame_out
  canon_tiles x h using (View.cover_of_tiledBy _ ![512, 128] (by sl_kernel_rfl) y)
  · exact up_1024 _ _ _ x y (by omega) (by omega)
  · exact up_512 _ _ _ x y (by omega) (by omega)
  · exact up_0 _ _ _ x y (by omega) (by omega)

theorem out4 (t : Fin cfg0.N) (y : S512x1408.Idx) : ((outsAt0 m c t).1 y : EReal) = gate (iblk m c 0 t) (iblk m c 1 t) (iblk m c 2 t) (iblk m c 3 t) y := by
  unfold outsAt0
  frame_out
  canon_tiles x h using (View.cover_of_tiledBy _ ![512, 128] (by sl_kernel_rfl) y)
  · exact gate_1024 _ _ _ _ x y (by omega) (by omega)
  · exact gate_512 _ _ _ _ x y (by omega) (by omega)
  · exact gate_0 _ _ _ _ x y (by omega) (by omega)

theorem ref12 (a0 : (⟨S4096x1024, .bf16⟩ : BufTy).Contents (Elt Ideal)) (a1 : (⟨S2816x1024, .bf16⟩ : BufTy).Contents (Elt Ideal)) (a2 : (⟨S4096x2816, .bf16⟩ : BufTy).Contents (Elt Ideal)) (j : S4096x2816.Idx) :
    (Cert.DownRefIdeal.Read.val_main_v12 a0 a1 a2 j : EReal) = (Cert.DownRefIdeal.Read.val_main_v7 a0 a1 j : EReal) * ((a2 j : EReal) * Ideal.logistic (a2 j)) := by
  refine Eq.trans ?_ (mul_comm _ _)
  pointwise [Cert.DownRefIdeal.Read.val_main_v12, Cert.DownRefIdeal.Read.val_main_v8, Cert.DownRefIdeal.Read.val_main_v2_0, Cert.DownRefIdeal.Read.val_main_v2_2, Cert.DownRefIdeal.Read.val_main_call0_v4, Cert.DownRefIdeal.Read.val_main_call0_v3, Cert.DownRefIdeal.Read.val_main_call0_v2, Cert.DownRefIdeal.Read.val_main_call0_v1, Cert.DownRefIdeal.Read.val_main_call0_v0, Cert.DownRefIdeal.Read.val_main_v0]
  simp only [Cert.DownRefIdeal.Read.val_main_call0_cst_apply, Cert.DownRefIdeal.Read.val_main_call0_cst_0_apply, Ideal.ofBits_def, one_word]
  rfl

theorem ref11 (a0 : (⟨S4096x1024, .bf16⟩ : BufTy).Contents (Elt Ideal)) (a1 : (⟨S2816x1024, .bf16⟩ : BufTy).Contents (Elt Ideal)) (a2 a3 : (⟨S4096x2816, .bf16⟩ : BufTy).Contents (Elt Ideal)) (j : S4096x2816.Idx) (D : ℝ) (hD : (Cert.DownRefIdeal.Read.val_main_v7 a0 a1 j : EReal) * a3 j = D) :
    (Cert.DownRefIdeal.Read.val_main_v11 a0 a1 a2 a3 j : EReal) = (Cert.DownRefIdeal.Read.val_main_v7 a0 a1 j : EReal) * (a3 j : EReal) * (Ideal.logistic (a2 j) * (1 + (a2 j : EReal) * (1 - Ideal.logistic (a2 j)))) := by
  rw [hD, gate_point, ← hD]
  pointwise [Cert.DownRefIdeal.Read.val_main_v11, Cert.DownRefIdeal.Read.val_main_v10, Cert.DownRefIdeal.Read.val_main_call1_v2, Cert.DownRefIdeal.Read.val_main_call1_v1, Cert.DownRefIdeal.Read.val_main_call1_v0, Cert.DownRefIdeal.Read.val_main_v9, Cert.DownRefIdeal.Read.val_main_v2_1, Cert.DownRefIdeal.Read.val_main_v2_2, Cert.DownRefIdeal.Read.val_main_call0_v7, Cert.DownRefIdeal.Read.val_main_call0_v6, Cert.DownRefIdeal.Read.val_main_call0_v4, Cert.DownRefIdeal.Read.val_main_call0_v3, Cert.DownRefIdeal.Read.val_main_call0_v2, Cert.DownRefIdeal.Read.val_main_call0_v1, Cert.DownRefIdeal.Read.val_main_call0_v0, Cert.DownRefIdeal.Read.val_main_v1, Cert.DownRefIdeal.Read.val_main_v0]
  simp only [Cert.DownRefIdeal.Read.val_main_call0_cst_apply, Cert.DownRefIdeal.Read.val_main_call0_cst_0_apply, Cert.DownRefIdeal.Read.val_main_call0_cst_1_apply, Ideal.ofBits_def, one_word]
  rfl

theorem prod_eq (t : Fin cfg0.N) (y : S512x1408.Idx) (j : S4096x2816.Idx) (h0 : (j 0).val = t.val % 8 * 512 + (y 0).val) (h1 : (j 1).val = t.val / 8 * 1408 + (y 1).val) :
    prod (iblk m c 0 t) (iblk m c 1 t) y = Cert.DownRefIdeal.Read.val_main_v7 (m ((c : Thread nD τ).loc main_arg0)) (m ((c : Thread nD τ).loc main_arg1)) j := by
  unfold prod
  rw [Cert.DownRefIdeal.Read.val_main_v7_apply]
  pointwise [Cert.DownRefIdeal.Read.val_main_v6, Cert.DownRefIdeal.Read.val_main_v4]
  refine Finset.sum_congr rfl fun k _ => ?_
  blk_point [iblk, V, idx t]

theorem at2 (t : Fin cfg0.N) (y : S512x1408.Idx) (j : S4096x2816.Idx) (h0 : (j 0).val = t.val % 8 * 512 + (y 0).val) (h1 : (j 1).val = t.val / 8 * 1408 + (y 1).val) :
    (iblk m c 2 t y : EReal) = m ((c : Thread nD τ).loc main_arg2) j := by
  blk_point [iblk, V, idx t]

theorem at3 (t : Fin cfg0.N) (y : S512x1408.Idx) (j : S4096x2816.Idx) (h0 : (j 0).val = t.val % 8 * 512 + (y 0).val) (h1 : (j 1).val = t.val / 8 * 1408 + (y 1).val) :
    (iblk m c 3 t y : EReal) = m ((c : Thread nD τ).loc main_arg3) j := by
  blk_point [iblk, V, idx t]

/-- Under the precondition the product times the factor of the gate is a real. -/
theorem real (hpre : Cert.Pre_DownIdeal_finite_down (hPre_finite_down := pre_facts) m) (j : S4096x2816.Idx) :
    ∃ D : ℝ, (Cert.DownRefIdeal.Read.val_main_v7 (m ((c : Thread nD τ).loc main_arg0)) (m ((c : Thread nD τ).loc main_arg1)) j : EReal) * (m ((c : Thread nD τ).loc main_arg3) j : EReal) = D := by
  obtain ⟨h0, h1, h3⟩ := hpre c
  have f0 : ∀ i, ∃ r : ℝ, (show EReal from m ((c : Thread nD τ).loc main_arg0) i) = (r : EReal) := fun i => ⟨_, Cert.Finite.real_of_lt _ (congrFun h0 i)⟩
  have f1 : ∀ i, ∃ r : ℝ, (show EReal from m ((c : Thread nD τ).loc main_arg1) i) = (r : EReal) := fun i => ⟨_, Cert.Finite.real_of_lt _ (congrFun h1 i)⟩
  obtain ⟨u, hu⟩ : ∃ r : ℝ, (show EReal from m ((c : Thread nD τ).loc main_arg3) j) = (r : EReal) := ⟨_, Cert.Finite.real_of_lt _ (congrFun h3 j)⟩
  obtain ⟨p, hp⟩ : ∃ r : ℝ, (show EReal from Cert.DownRefIdeal.Read.val_main_v7 (m ((c : Thread nD τ).loc main_arg0)) (m ((c : Thread nD τ).loc main_arg1)) j) = (r : EReal) := by
    show ∃ r : ℝ, (Cert.DownRefIdeal.Read.val_main_v7 (m ((c : Thread nD τ).loc main_arg0)) (m ((c : Thread nD τ).loc main_arg1)) j : EReal) = (r : EReal)
    rw [Cert.DownRefIdeal.Read.val_main_v7_apply]
    refine sum_real _ fun k => ?_
    obtain ⟨a, ha⟩ := f0 (Cert.DownRefIdeal.Read.lidx_main_v7 j k)
    obtain ⟨b, hb⟩ := f1 (Cert.DownRefIdeal.Read.ridx_main_v7 j k)
    exact ⟨a * b, (congrArg₂ (fun x y : EReal => x * y) ha hb).trans (EReal.coe_mul a b).symm⟩
  exact ⟨p * u, (congrArg₂ (fun x y : EReal => x * y) hp hu).trans (EReal.coe_mul p u).symm⟩

/-- The gradient into the product that the gate multiplies, as the array that holds it. -/
theorem final_5 : (dats m 0 c).arrAt 5 cfg0.N = Cert.DownRefIdeal.Read.val_main_v12 (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  have e0 : ((win0_5.blk t).view.emb y 0).val = t.val % 8 * 512 + (y 0).val := by
    blk_simp [idx t]
  have e1 : ((win0_5.blk t).view.emb y 1).val = t.val / 8 * 1408 + (y 1).val := by
    blk_simp [idx t]
  rw [after0_5, out5 m c t y, ref12]
  unfold up
  rw [prod_eq m c t y _ e0 e1, at2 m c t y _ e0 e1]

/-- The gradient into the gate's argument, as the array that holds it. -/
theorem final_4 (hpre : Cert.Pre_DownIdeal_finite_down (hPre_finite_down := pre_facts) m) : (dats m 0 c).arrAt 4 cfg0.N = Cert.DownRefIdeal.Read.val_main_v11 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  have e0 : ((win0_4.blk t).view.emb y 0).val = t.val % 8 * 512 + (y 0).val := by
    blk_simp [idx t]
  have e1 : ((win0_4.blk t).view.emb y 1).val = t.val / 8 * 1408 + (y 1).val := by
    blk_simp [idx t]
  obtain ⟨D, hD⟩ := real m c hpre ((win0_4.blk t).view.emb y)
  rw [after0_4, out4 m c t y, ref11 _ _ _ _ _ D hD]
  unfold gate
  rw [prod_eq m c t y _ e0 e1, at2 m c t y _ e0 e1, at3 m c t y _ e0 e1]

theorem frame_k : Cert.quiescent_Down (hDown := Cert.Down.Gen.facts) := fun m g _ => Cert.Down.Gen.frame m g

theorem frame_i : Cert.quiescent_DownIdeal (hDownIdeal := Cert.DownIdeal.Gen.facts) := fun m g _ => Cert.DownIdeal.Gen.frame m g

theorem frame_i_pre : Cert.quiescent_DownIdeal_pre_finite_down (hDownIdeal := Cert.DownIdeal.Gen.facts) (hPre_finite_down := pre_facts) :=
  fun m g _ => Cert.DownIdeal.Gen.frame m g

theorem frame_r : Cert.quiescent_DownRefIdeal (hDownRefIdeal := Cert.DownRefIdeal.Gen.facts) := fun m g _ =>
  (θ_run Cert.DownRefIdeal.defs _ _).mono (fun r h => ⟨fun c => (h c).2.2, Idealize.ShloMosaic.sem_eq_zero_of_no_sems (by decide) r.2⟩) (Cert.DownRefIdeal.Value.run (F := Ideal) m g)

theorem frame_r_pre : Cert.quiescent_DownRefIdeal_pre_finite_down (hDownRefIdeal := Cert.DownRefIdeal.Gen.facts) (hPre_finite_down := pre_facts) :=
  fun m g _ => frame_r m g trivial

/-- The call and the reference, run from memories that agree on the arguments, leave the same results. -/
theorem algebraic : Cert.algebraic_DownIdeal_DownRefIdeal_pre_finite_down (hDownIdeal := Cert.DownIdeal.Gen.facts) (hDownRefIdeal := Cert.DownRefIdeal.Gen.facts) (hPre_finite_down := pre_facts) := by
  intro m g m' g' hpre hagree
  refine ⟨fun c => Cert.DownRefIdeal.Read.val_main_v11 (m ((c : Thread nD τ).loc main_arg0)) (m ((c : Thread nD τ).loc main_arg1)) (m ((c : Thread nD τ).loc main_arg2)) (m ((c : Thread nD τ).loc main_arg3)), fun c => Cert.DownRefIdeal.Read.val_main_v12 (m ((c : Thread nD τ).loc main_arg0)) (m ((c : Thread nD τ).loc main_arg1)) (m ((c : Thread nD τ).loc main_arg2)), ?_, ?_⟩
  · refine (θ_run Cert.DownIdeal.defs _ _).mono (fun r h c => ?_) (Cert.DownIdeal.Value.run_blocks (F := Ideal) m g)
    obtain ⟨h0, h1, ha⟩ := h c
    exact ⟨h0.trans (final_4 m c hpre), h1.trans (final_5 m c), ha⟩
  · refine (θ_run Cert.DownRefIdeal.defs _ _).mono (fun r h c => ?_) (Cert.DownRefIdeal.Value.run (F := Ideal) m' g')
    obtain ⟨h0, h1, ha⟩ := h c
    obtain ⟨e0, e1, e2, e3⟩ := hagree c
    exact ⟨h0.trans (by rw [Cert.DownRefIdeal.Read.val_main_v11_eq, e0, e1, e2, e3]), h1.trans (by rw [Cert.DownRefIdeal.Read.val_main_v12_eq, e0, e1, e2]), ha⟩

end Cert.DownIdeal.Val
end
-- ==== Proof.MidValue.lean ====
module

public import proofs.«01_k».proof.Proof.Gen.MidIdeal.Value
public import proofs.«01_k».proof.Proof.Gen.MidRefIdeal.Read
public import proofs.«01_k».proof.Defs
public import proofs.«01_k».proof.Proof.Gen.Mid.Frame
public import Idealize.ShloMosaic.Lib.Pipeline.ValueKit
public import Idealize.ShloMosaic.Lib.Pipeline.ReadBack
public import proofs.«01_k».proof.Proof.RmsBwd

/-! The gradient through the feed-forward norm and the norm after the mixing branches: two halves of two contractions are
    added up in a scratch array, and the second grid point of each row block writes the rows' gradients and adds to the gains'. -/

@[expose] public section

set_option maxRecDepth 16384

noncomputable section

namespace Cert.MidIdeal.Val

open Cert.MidIdeal Cert.MidIdeal.Gen
open Idealize.ShloMosaic Idealize.ShloMosaic.TcCoe Idealize.ShloMosaic.Pointwise
open Idealize.SL Idealize.SL.Sem

theorem idx : ∀ t : Fin cfg0.N, win0_0.index t = ![t.val / 2, t.val % 2] ∧ win0_1.index t = ![t.val % 2, 0] ∧ win0_2.index t = ![t.val / 2, t.val % 2] ∧ win0_3.index t = ![t.val % 2, 0] ∧ win0_4.index t = ![t.val / 2, 0] ∧ win0_5.index t = ![t.val / 2, 0] ∧ win0_6.index t = ![t.val / 2, 0] ∧ win0_7.index t = ![0, 0] ∧ win0_8.index t = ![0, 0] ∧ win0_9.index t = ![t.val / 2, 0] ∧ win0_10.index t = ![t.val / 2, 0] ∧ win0_11.index t = ![0, 0] ∧ win0_12.index t = ![0, 0] :=
  (by decide +kernel : ∀ t : Fin grid0.N, _)

variable (m : (ℓ : Loc nD τ sig) → Buf (Elt Ideal) ℓ) (c : Dev nD)

theorem sum_zero (v0 : Vec Ideal S512x1408 .bf16) (v1 : Vec Ideal S1408x1024 .bf16) (v4 : Vec Ideal S512x1408 .bf16) (v5 : Vec Ideal S1408x1024 .bf16) (i : S512x1024.Idx) : k0_pay2 v0 v1 v4 v5 i = (0 : EReal) + k0_pay1 v0 v1 v4 v5 i := by
  pointwise [k0_pay2]

theorem sum_step (v0 : Vec Ideal S512x1408 .bf16) (v1 : Vec Ideal S1408x1024 .bf16) (v4 : Vec Ideal S512x1408 .bf16) (v5 : Vec Ideal S1408x1024 .bf16) (w : Vec Ideal S512x1024 .f32) (i : S512x1024.Idx) : k0_pay3 v0 v1 v4 v5 w i = (w i : EReal) + k0_pay1 v0 v1 v4 v5 i := by
  pointwise [k0_pay3]

/-- The scratch array at the second point of a row block is the sum of the two halves. -/
theorem acc (t : Fin cfg0.N) (h1 : t.val % 2 = 1) (i : S512x1024.Idx) :
    (outsAt0 m c t.val t.isLt).2.2.2.2 i = ((fun _ => 0 : S512x1024.Idx → EReal) i : EReal) + ∑ s : Fin 2, k0_pay1 (iblk m c 0 ⟨_, Pipeline.run_point_lt_of_flush t h1 s⟩) (iblk m c 1 ⟨_, Pipeline.run_point_lt_of_flush t h1 s⟩) (iblk m c 2 ⟨_, Pipeline.run_point_lt_of_flush t h1 s⟩) (iblk m c 3 ⟨_, Pipeline.run_point_lt_of_flush t h1 s⟩) i := by
  rw [Pipeline.eq_sum_fin_of_reset_step_apply_of_flush (fun n h => ((outsAt0 m c n h).2.2.2.2 : S512x1024.Idx → EReal)) 2 (fun _ => (0 : EReal))
    (fun t i => k0_pay1 (iblk m c 0 t) (iblk m c 1 t) (iblk m c 2 t) (iblk m c 3 t) i)
    (fun t h i => by
      rw [outsAt0_A m c t h (by omega) (by omega)]
      frame_out
      rw [sum_zero])
    (fun t h i => by
      by_cases h' : t.val < 2
      · rw [outsAt0_B m c t (by omega) (by omega) (by omega) h']
        frame_out
        simp only [read_unread_whole]
        rw [sum_step]
      · rw [outsAt0_C m c t (by omega) (by omega) (by omega) h']
        frame_out
        simp only [read_unread_whole]
        rw [sum_step]) t h1 i]

/-- There it is the sum of the reference's two products at the row block's rows. -/
theorem du (t : Fin cfg0.N) (h1 : t.val % 2 = 1) (i : S512x1024.Idx) (j : S4096x1024.Idx) (h0 : (j 0).val = t.val / 2 * 512 + (i 0).val) (hj : (j 1).val = (i 1).val) :
    ((outsAt0 m c t.val t.isLt).2.2.2.2 i : EReal) = Cert.MidRefIdeal.Read.val_main_v23 (m ((c : Thread nD τ).loc main_arg0)) (m ((c : Thread nD τ).loc main_arg1)) (m ((c : Thread nD τ).loc main_arg2)) (m ((c : Thread nD τ).loc main_arg3)) j := by
  rw [acc m c t h1]
  pointwise [k0_pay1, Cert.MidRefIdeal.Read.val_main_v23]
  rw [Cert.MidRefIdeal.Read.val_main_v21_apply, Cert.MidRefIdeal.Read.val_main_v22_apply, Finset.sum_add_distrib, add_comm]
  pointwise [Cert.MidRefIdeal.Read.val_main_v20, Cert.MidRefIdeal.Read.val_main_v19, Cert.MidRefIdeal.Read.val_main_v17, Cert.MidRefIdeal.Read.val_main_v15]
  refine congrArg₂ (fun a b : EReal => a + b) (Fin.sum_mul_add_congr fun s k hl => ?_) (Fin.sum_mul_add_congr fun s k hl => ?_)
  · blk_point [iblk, V, idx t, idx ⟨_, Pipeline.run_point_lt_of_flush t h1 s⟩]
  · blk_point [iblk, V, idx t, idx ⟨_, Pipeline.run_point_lt_of_flush t h1 s⟩]

theorem pay14 (d x : Vec Ideal S512x1024 .f32) (g : Vec Ideal S1x1024 .f32) (h : Vec Ideal S512x1024 .f32) (i : S512x1024.Idx) :
    (k0_pay14 d x g h i : EReal) = (h i : EReal) + Cert.Rms.direct (fun k : Fin 1024 => x (ix2 (i 0) k)) (fun k => (d (ix2 (i 0) k) : EReal) * g (ix2 0 k)) (x i) ((d i : EReal) * g (ix2 0 (i 1))) := by
  pointwise [k0_pay14, k0_pay12, k0_pay11]
  rfl

theorem pay6 (d : FVec Ideal S512x1024 .f32) (x : Vec Ideal S512x1024 .f32) (g : Vec Ideal S1x1024 .f32) (i : S512x1024.Idx) :
    (k0_pay6 d x g i : EReal) = Cert.Rms.direct (fun k : Fin 1024 => x (ix2 (i 0) k)) (fun k => (d (ix2 (i 0) k) : EReal) * g (ix2 0 k)) (x i) ((d i : EReal) * g (ix2 0 (i 1))) := by
  pointwise [k0_pay6, k0_pay5, k0_pay4]
  rfl

/-- A row block's part of a gain's gradient. -/
def part (d x : Vec Ideal S512x1024 .f32) (i : S1x1024.Idx) : EReal :=
  Cert.Rms.gain (fun (r : Fin 512) (k : Fin 1024) => d (ix2 r k)) (fun r k => x (ix2 r k)) (i 1)

theorem pay7 (d x : Vec Ideal S512x1024 .f32) (o : Vec Ideal S1x1024 .f32) (i : S1x1024.Idx) :
    (k0_pay7 (k0_pay13 d x) o i : EReal) = (o i : EReal) + part d x i := by
  pointwise [k0_pay7, k0_pay13, k0_pay12, k0_pay11]
  rfl

theorem pay8 (d x : Vec Ideal S512x1024 .f32) (o : Vec Ideal S1x1024 .f32) (i : S1x1024.Idx) :
    (k0_pay8 d x o i : EReal) = (o i : EReal) + part d x i := by
  pointwise [k0_pay8, k0_pay5, k0_pay4]
  rfl

theorem at1 (r : Fin 4096) (k : Fin 1024) : Cert.MidRefIdeal.Read.idx_main_v1 (ix1 r) k = ix2 r k := by
  funext a
  match a with
  | ⟨0, _⟩ => rfl
  | ⟨1, _⟩ => rfl

theorem at25 (r : Fin 4096) (k : Fin 1024) : Cert.MidRefIdeal.Read.idx_main_v25 (ix1 k) r = ix2 r k := by
  funext a
  match a with
  | ⟨0, _⟩ => rfl
  | ⟨1, _⟩ => rfl

theorem at30 (r : Fin 4096) (k : Fin 1024) : Cert.MidRefIdeal.Read.idx_main_v30 (ix1 r) k = ix2 r k := by
  funext a
  match a with
  | ⟨0, _⟩ => rfl
  | ⟨1, _⟩ => rfl

theorem at45 (r : Fin 4096) (k : Fin 1024) : Cert.MidRefIdeal.Read.idx_main_v45 (ix1 r) k = ix2 r k := by
  funext a
  match a with
  | ⟨0, _⟩ => rfl
  | ⟨1, _⟩ => rfl

theorem at60 (r : Fin 4096) (k : Fin 1024) : Cert.MidRefIdeal.Read.idx_main_v60 (ix1 k) r = ix2 r k := by
  funext a
  match a with
  | ⟨0, _⟩ => rfl
  | ⟨1, _⟩ => rfl

theorem at65 (r : Fin 4096) (k : Fin 1024) : Cert.MidRefIdeal.Read.idx_main_v65 (ix1 r) k = ix2 r k := by
  funext a
  match a with
  | ⟨0, _⟩ => rfl
  | ⟨1, _⟩ => rfl

theorem ref43 (a0 a1 : (⟨S4096x2816, .bf16⟩ : BufTy).Contents (Elt Ideal)) (a2 a3 : (⟨S1024x2816, .bf16⟩ : BufTy).Contents (Elt Ideal)) (a4 : (⟨S4096x1024, .f32⟩ : BufTy).Contents (Elt Ideal)) (a5 : (⟨S4096x1024, .f32⟩ : BufTy).Contents (Elt Ideal)) (a7 : (⟨S1x1024, .f32⟩ : BufTy).Contents (Elt Ideal)) (j : S4096x1024.Idx) :
    (Cert.MidRefIdeal.Read.val_main_v43 a0 a1 a2 a3 a4 a5 a7 j : EReal) = (a5 j : EReal)
      + Cert.Rms.direct (fun k : Fin 1024 => a4 (ix2 (j 0) k)) (fun k => (Cert.MidRefIdeal.Read.val_main_v23 a0 a1 a2 a3 (ix2 (j 0) k) : EReal) * a7 (ix2 0 k))
        (a4 j) ((Cert.MidRefIdeal.Read.val_main_v23 a0 a1 a2 a3 j : EReal) * a7 (ix2 0 (j 1))) := by
  refine Eq.trans ?_ (congrArg (fun z : EReal => (a5 j : EReal) + z) (Cert.Rms.direct_eq (n := 1024) _ _ (show Fin 1024 from j 1) _ _ (congrArg a4 (eq_ix2 j).symm)).symm)
  pointwise [Cert.MidRefIdeal.Read.val_main_v43, Cert.MidRefIdeal.Read.val_main_v42, Cert.MidRefIdeal.Read.val_main_v41, Cert.MidRefIdeal.Read.val_main_v40, Cert.MidRefIdeal.Read.val_main_v39, Cert.MidRefIdeal.Read.val_main_v38]
  rw [Cert.MidRefIdeal.Read.val_main_v37_apply]
  pointwise [Cert.MidRefIdeal.Read.val_main_v36, Cert.MidRefIdeal.Read.val_main_v35, Cert.MidRefIdeal.Read.val_main_v34, Cert.MidRefIdeal.Read.val_main_v33, Cert.MidRefIdeal.Read.val_main_v32, Cert.MidRefIdeal.Read.val_main_v31, Cert.MidRefIdeal.Read.val_main_v28, Cert.MidRefIdeal.Read.val_main_v27, Cert.MidRefIdeal.Read.val_main_v10, Cert.MidRefIdeal.Read.val_main_v9, Cert.MidRefIdeal.Read.val_main_v8, Cert.MidRefIdeal.Read.val_main_v7, Cert.MidRefIdeal.Read.val_main_v6, Cert.MidRefIdeal.Read.val_main_v5, Cert.MidRefIdeal.Read.val_main_v4, Cert.MidRefIdeal.Read.val_main_v3, Cert.MidRefIdeal.Read.val_main_v2]
  simp only [Cert.MidRefIdeal.Read.val_main_v30_apply, Cert.MidRefIdeal.Read.val_main_v1_apply]
  pointwise [Cert.MidRefIdeal.Read.val_main_v29, Cert.MidRefIdeal.Read.val_main_v28, Cert.MidRefIdeal.Read.val_main_v27, Cert.MidRefIdeal.Read.val_main_v0]
  simp only [Cert.MidRefIdeal.Read.val_main_cst_apply, Cert.MidRefIdeal.Read.val_main_cst_0_apply, Cert.MidRefIdeal.Read.val_main_cst_1_apply, Cert.MidRefIdeal.Read.val_main_cst_2_apply, Cert.MidRefIdeal.Read.val_main_cst_3_apply, Cert.MidRefIdeal.Read.val_main_cst_4_apply, Cert.MidRefIdeal.Read.val_main_cst_5_apply, Cert.MidRefIdeal.Read.val_main_cst_6_apply, Cert.MidRefIdeal.Read.val_main_cst_7_apply, Cert.MidRefIdeal.Read.val_main_cst_8_apply, Cert.MidRefIdeal.Read.val_main_cst_9_apply, Cert.MidRefIdeal.Read.val_main_cst_10_apply, Cert.MidRefIdeal.Read.val_main_cst_11_apply, Cert.MidRefIdeal.Read.val_main_cst_12_apply, Cert.MidRefIdeal.Read.val_main_cst_13_apply, Cert.MidRefIdeal.Read.val_main_cst_14_apply, Ideal.ofBits_def, Ideal.ofBits_zero_f32, zero_add, Fin.sum_univ_one]
  have q1 : ∀ k : Fin 1024, Cert.MidRefIdeal.Read.idx_main_v1 (ix1 (j 0)) k = ix2 (j 0) k := fun k => at1 (j 0) k
  have q30 : ∀ k : Fin 1024, Cert.MidRefIdeal.Read.idx_main_v30 (ix1 (Cert.MidRefIdeal.Read.idx_main_v37 (ix1 (j 0)) 0 0)) k = ix2 (j 0) k := fun k => at30 (j 0) k
  simp only [q1, q30]
  rfl

theorem ref78 (a0 a1 : (⟨S4096x2816, .bf16⟩ : BufTy).Contents (Elt Ideal)) (a2 a3 : (⟨S1024x2816, .bf16⟩ : BufTy).Contents (Elt Ideal)) (a4 : (⟨S4096x1024, .f32⟩ : BufTy).Contents (Elt Ideal)) (a5 a6 : (⟨S4096x1024, .f32⟩ : BufTy).Contents (Elt Ideal)) (a7 a8 : (⟨S1x1024, .f32⟩ : BufTy).Contents (Elt Ideal)) (j : S4096x1024.Idx) :
    (Cert.MidRefIdeal.Read.val_main_v78 a0 a1 a2 a3 a4 a5 a6 a7 a8 j : EReal) =
      Cert.Rms.direct (fun k : Fin 1024 => a6 (ix2 (j 0) k)) (fun k => (Cert.MidRefIdeal.Read.val_main_v43 a0 a1 a2 a3 a4 a5 a7 (ix2 (j 0) k) : EReal) * a8 (ix2 0 k))
        (a6 j) ((Cert.MidRefIdeal.Read.val_main_v43 a0 a1 a2 a3 a4 a5 a7 j : EReal) * a8 (ix2 0 (j 1))) := by
  refine Eq.trans ?_ (Cert.Rms.direct_eq (n := 1024) _ _ (show Fin 1024 from j 1) _ _ (congrArg a6 (eq_ix2 j).symm)).symm
  pointwise [Cert.MidRefIdeal.Read.val_main_v78, Cert.MidRefIdeal.Read.val_main_v77, Cert.MidRefIdeal.Read.val_main_v76, Cert.MidRefIdeal.Read.val_main_v75, Cert.MidRefIdeal.Read.val_main_v74, Cert.MidRefIdeal.Read.val_main_v73]
  rw [Cert.MidRefIdeal.Read.val_main_v72_apply]
  pointwise [Cert.MidRefIdeal.Read.val_main_v71, Cert.MidRefIdeal.Read.val_main_v70, Cert.MidRefIdeal.Read.val_main_v69, Cert.MidRefIdeal.Read.val_main_v68, Cert.MidRefIdeal.Read.val_main_v67, Cert.MidRefIdeal.Read.val_main_v66, Cert.MidRefIdeal.Read.val_main_v63, Cert.MidRefIdeal.Read.val_main_v62, Cert.MidRefIdeal.Read.val_main_v54, Cert.MidRefIdeal.Read.val_main_v53, Cert.MidRefIdeal.Read.val_main_v52, Cert.MidRefIdeal.Read.val_main_v51, Cert.MidRefIdeal.Read.val_main_v50, Cert.MidRefIdeal.Read.val_main_v49, Cert.MidRefIdeal.Read.val_main_v48, Cert.MidRefIdeal.Read.val_main_v47, Cert.MidRefIdeal.Read.val_main_v46]
  simp only [Cert.MidRefIdeal.Read.val_main_v65_apply, Cert.MidRefIdeal.Read.val_main_v45_apply]
  pointwise [Cert.MidRefIdeal.Read.val_main_v64, Cert.MidRefIdeal.Read.val_main_v63, Cert.MidRefIdeal.Read.val_main_v62, Cert.MidRefIdeal.Read.val_main_v44]
  simp only [Cert.MidRefIdeal.Read.val_main_cst_apply, Cert.MidRefIdeal.Read.val_main_cst_0_apply, Cert.MidRefIdeal.Read.val_main_cst_1_apply, Cert.MidRefIdeal.Read.val_main_cst_2_apply, Cert.MidRefIdeal.Read.val_main_cst_3_apply, Cert.MidRefIdeal.Read.val_main_cst_4_apply, Cert.MidRefIdeal.Read.val_main_cst_5_apply, Cert.MidRefIdeal.Read.val_main_cst_6_apply, Cert.MidRefIdeal.Read.val_main_cst_7_apply, Cert.MidRefIdeal.Read.val_main_cst_8_apply, Cert.MidRefIdeal.Read.val_main_cst_9_apply, Cert.MidRefIdeal.Read.val_main_cst_10_apply, Cert.MidRefIdeal.Read.val_main_cst_11_apply, Cert.MidRefIdeal.Read.val_main_cst_12_apply, Cert.MidRefIdeal.Read.val_main_cst_13_apply, Cert.MidRefIdeal.Read.val_main_cst_14_apply, Ideal.ofBits_def, Ideal.ofBits_zero_f32, zero_add, Fin.sum_univ_one]
  have q45 : ∀ k : Fin 1024, Cert.MidRefIdeal.Read.idx_main_v45 (ix1 (j 0)) k = ix2 (j 0) k := fun k => at45 (j 0) k
  have q65 : ∀ k : Fin 1024, Cert.MidRefIdeal.Read.idx_main_v65 (ix1 (Cert.MidRefIdeal.Read.idx_main_v72 (ix1 (j 0)) 0 0)) k = ix2 (j 0) k := fun k => at65 (j 0) k
  simp only [q45, q65]
  rfl

theorem ref26 (a0 a1 : (⟨S4096x2816, .bf16⟩ : BufTy).Contents (Elt Ideal)) (a2 a3 : (⟨S1024x2816, .bf16⟩ : BufTy).Contents (Elt Ideal)) (a4 : (⟨S4096x1024, .f32⟩ : BufTy).Contents (Elt Ideal)) (i : S1x1024.Idx) :
    (Cert.MidRefIdeal.Read.val_main_v26 a0 a1 a2 a3 a4 i : EReal) = Cert.Rms.gain (fun (r : Fin 4096) (k : Fin 1024) => Cert.MidRefIdeal.Read.val_main_v23 a0 a1 a2 a3 (ix2 r k)) (fun r k => a4 (ix2 r k)) (i 1) := by
  pointwise [Cert.MidRefIdeal.Read.val_main_v26]
  rw [Cert.MidRefIdeal.Read.val_main_v25_apply]
  pointwise [Cert.MidRefIdeal.Read.val_main_v24, Cert.MidRefIdeal.Read.val_main_v12, Cert.MidRefIdeal.Read.val_main_v11, Cert.MidRefIdeal.Read.val_main_v7, Cert.MidRefIdeal.Read.val_main_v6, Cert.MidRefIdeal.Read.val_main_v5, Cert.MidRefIdeal.Read.val_main_v4, Cert.MidRefIdeal.Read.val_main_v3, Cert.MidRefIdeal.Read.val_main_v2]
  simp only [Cert.MidRefIdeal.Read.val_main_v1_apply]
  pointwise [Cert.MidRefIdeal.Read.val_main_v0]
  simp only [Cert.MidRefIdeal.Read.val_main_cst_apply, Cert.MidRefIdeal.Read.val_main_cst_0_apply, Cert.MidRefIdeal.Read.val_main_cst_1_apply, Cert.MidRefIdeal.Read.val_main_cst_2_apply, Cert.MidRefIdeal.Read.val_main_cst_3_apply, Cert.MidRefIdeal.Read.val_main_cst_4_apply, Cert.MidRefIdeal.Read.val_main_cst_5_apply, Cert.MidRefIdeal.Read.val_main_cst_6_apply, Cert.MidRefIdeal.Read.val_main_cst_7_apply, Cert.MidRefIdeal.Read.val_main_cst_8_apply, Cert.MidRefIdeal.Read.val_main_cst_9_apply, Cert.MidRefIdeal.Read.val_main_cst_10_apply, Cert.MidRefIdeal.Read.val_main_cst_11_apply, Cert.MidRefIdeal.Read.val_main_cst_12_apply, Cert.MidRefIdeal.Read.val_main_cst_13_apply, Cert.MidRefIdeal.Read.val_main_cst_14_apply, Ideal.ofBits_def, Ideal.ofBits_zero_f32, zero_add]
  refine Finset.sum_congr rfl fun r _ => (mul_comm _ _).trans ?_
  exact congrArg₂ (fun a b : EReal => a * b) (congrArg (Cert.MidRefIdeal.Read.val_main_v23 a0 a1 a2 a3) (at25 r (i 1)))
    (congrArg₂ (fun a b : EReal => a * b) (congrArg a4 (at25 r (i 1))) (congrArg (fun f : Fin 1024 → EReal => Cert.Rms.scale f) (funext fun k => congrArg a4 (at1 r k))))

theorem ref61 (a0 a1 : (⟨S4096x2816, .bf16⟩ : BufTy).Contents (Elt Ideal)) (a2 a3 : (⟨S1024x2816, .bf16⟩ : BufTy).Contents (Elt Ideal)) (a4 : (⟨S4096x1024, .f32⟩ : BufTy).Contents (Elt Ideal)) (a5 a6 : (⟨S4096x1024, .f32⟩ : BufTy).Contents (Elt Ideal)) (a7 : (⟨S1x1024, .f32⟩ : BufTy).Contents (Elt Ideal)) (i : S1x1024.Idx) :
    (Cert.MidRefIdeal.Read.val_main_v61 a0 a1 a2 a3 a4 a5 a6 a7 i : EReal) = Cert.Rms.gain (fun (r : Fin 4096) (k : Fin 1024) => Cert.MidRefIdeal.Read.val_main_v43 a0 a1 a2 a3 a4 a5 a7 (ix2 r k)) (fun r k => a6 (ix2 r k)) (i 1) := by
  pointwise [Cert.MidRefIdeal.Read.val_main_v61]
  rw [Cert.MidRefIdeal.Read.val_main_v60_apply]
  pointwise [Cert.MidRefIdeal.Read.val_main_v59, Cert.MidRefIdeal.Read.val_main_v56, Cert.MidRefIdeal.Read.val_main_v55, Cert.MidRefIdeal.Read.val_main_v51, Cert.MidRefIdeal.Read.val_main_v50, Cert.MidRefIdeal.Read.val_main_v49, Cert.MidRefIdeal.Read.val_main_v48, Cert.MidRefIdeal.Read.val_main_v47, Cert.MidRefIdeal.Read.val_main_v46]
  simp only [Cert.MidRefIdeal.Read.val_main_v45_apply]
  pointwise [Cert.MidRefIdeal.Read.val_main_v44]
  simp only [Cert.MidRefIdeal.Read.val_main_cst_apply, Cert.MidRefIdeal.Read.val_main_cst_0_apply, Cert.MidRefIdeal.Read.val_main_cst_1_apply, Cert.MidRefIdeal.Read.val_main_cst_2_apply, Cert.MidRefIdeal.Read.val_main_cst_3_apply, Cert.MidRefIdeal.Read.val_main_cst_4_apply, Cert.MidRefIdeal.Read.val_main_cst_5_apply, Cert.MidRefIdeal.Read.val_main_cst_6_apply, Cert.MidRefIdeal.Read.val_main_cst_7_apply, Cert.MidRefIdeal.Read.val_main_cst_8_apply, Cert.MidRefIdeal.Read.val_main_cst_9_apply, Cert.MidRefIdeal.Read.val_main_cst_10_apply, Cert.MidRefIdeal.Read.val_main_cst_11_apply, Cert.MidRefIdeal.Read.val_main_cst_12_apply, Cert.MidRefIdeal.Read.val_main_cst_13_apply, Cert.MidRefIdeal.Read.val_main_cst_14_apply, Ideal.ofBits_def, Ideal.ofBits_zero_f32, zero_add]
  refine Finset.sum_congr rfl fun r _ => (mul_comm _ _).trans ?_
  exact congrArg₂ (fun a b : EReal => a * b) (congrArg (Cert.MidRefIdeal.Read.val_main_v43 a0 a1 a2 a3 a4 a5 a7) (at60 r (i 1)))
    (congrArg₂ (fun a b : EReal => a * b) (congrArg a6 (at60 r (i 1))) (congrArg (fun f : Fin 1024 → EReal => Cert.Rms.scale f) (funext fun k => congrArg a6 (at45 r k))))

/-- What the second point of a row block writes to the first rows' gradient, over the scratch array it leaves. -/
theorem out9 (t : Fin cfg0.N) (h1 : t.val % 2 = 1) :
    (outsAt0 m c t.val t.isLt).1 = k0_pay14 (outsAt0 m c t.val t.isLt).2.2.2.2 (iblk m c 4 t) (iblk m c 7 t) (iblk m c 5 t) := by
  by_cases h' : t.val < 2
  · rw [outsAt0_B m c t (by omega) (by omega) (by omega) h']
    frame_out
  · rw [outsAt0_C m c t (by omega) (by omega) (by omega) h']
    frame_out

/-- What it writes to the second rows' gradient, over the first. -/
theorem out10 (t : Fin cfg0.N) (h1 : t.val % 2 = 1) :
    (outsAt0 m c t.val t.isLt).2.1 = k0_pay6 (outsAt0 m c t.val t.isLt).1 (iblk m c 6 t) (iblk m c 8 t) := by
  by_cases h' : t.val < 2
  · rw [outsAt0_B m c t (by omega) (by omega) (by omega) h']
    frame_out
  · rw [outsAt0_C m c t (by omega) (by omega) (by omega) h']
    frame_out

theorem first11 (t : Fin cfg0.N) (h1 : t.val % 2 = 1) (h' : t.val < 2) (i : S1x1024.Idx) :
    ((outsAt0 m c t.val t.isLt).2.2.1 i : EReal) = part (outsAt0 m c t.val t.isLt).2.2.2.2 (iblk m c 4 t) i := by
  rw [outsAt0_B m c t (by omega) (by omega) (by omega) h']
  frame_out
  rw [pay7]
  pointwise [k0_pay9, k0_pay10]

theorem first12 (t : Fin cfg0.N) (h1 : t.val % 2 = 1) (h' : t.val < 2) (i : S1x1024.Idx) :
    ((outsAt0 m c t.val t.isLt).2.2.2.1 i : EReal) = part (outsAt0 m c t.val t.isLt).1 (iblk m c 6 t) i := by
  rw [outsAt0_B m c t (by omega) (by omega) (by omega) h']
  frame_out
  rw [pay8]
  pointwise [k0_pay9, k0_pay10]

theorem keep (u w : Fin cfg0.N) (h0 : u.val % 2 = 0) (hw : w.val = u.val - 1) :
    (outsAt0 m c u.val u.isLt).2.2.1 = (outsAt0 m c w.val w.isLt).2.2.1 ∧ (outsAt0 m c u.val u.isLt).2.2.2.1 = (outsAt0 m c w.val w.isLt).2.2.2.1 := by
  obtain ⟨w, hw'⟩ := w
  obtain rfl : w = u.val - 1 := hw
  rw [outsAt0_A m c u (by omega) (by omega) (by omega)]
  exact ⟨rfl, rfl⟩

theorem next11 (t w : Fin cfg0.N) (h1 : t.val % 2 = 1) (h' : ¬t.val < 2) (hw : w.val = t.val - 1 - 1) (i : S1x1024.Idx) :
    ((outsAt0 m c t.val t.isLt).2.2.1 i : EReal) = (outsAt0 m c w.val w.isLt).2.2.1 i + part (outsAt0 m c t.val t.isLt).2.2.2.2 (iblk m c 4 t) i := by
  rw [← (keep m c ⟨t.val - 1, by omega⟩ w (by show (t.val - 1) % 2 = 0; omega) hw).1, outsAt0_C m c t (by omega) (by omega) (by omega) h']
  frame_out
  simp only [read_unread_whole]
  rw [pay7]

theorem next12 (t w : Fin cfg0.N) (h1 : t.val % 2 = 1) (h' : ¬t.val < 2) (hw : w.val = t.val - 1 - 1) (i : S1x1024.Idx) :
    ((outsAt0 m c t.val t.isLt).2.2.2.1 i : EReal) = (outsAt0 m c w.val w.isLt).2.2.2.1 i + part (outsAt0 m c t.val t.isLt).1 (iblk m c 6 t) i := by
  rw [← (keep m c ⟨t.val - 1, by omega⟩ w (by show (t.val - 1) % 2 = 0; omega) hw).2, outsAt0_C m c t (by omega) (by omega) (by omega) h']
  frame_out
  simp only [read_unread_whole]
  rw [pay8]

theorem row4 (t : Fin cfg0.N) (i : S512x1024.Idx) (j : S4096x1024.Idx) (h0 : (j 0).val = t.val / 2 * 512 + (i 0).val) (hj : (j 1).val = (i 1).val) : (iblk m c 4 t i : EReal) = m ((c : Thread nD τ).loc main_arg4) j := by
  blk_point [iblk, V, idx t]

theorem row5 (t : Fin cfg0.N) (i : S512x1024.Idx) (j : S4096x1024.Idx) (h0 : (j 0).val = t.val / 2 * 512 + (i 0).val) (hj : (j 1).val = (i 1).val) : (iblk m c 5 t i : EReal) = m ((c : Thread nD τ).loc main_arg5) j := by
  blk_point [iblk, V, idx t]

theorem row6 (t : Fin cfg0.N) (i : S512x1024.Idx) (j : S4096x1024.Idx) (h0 : (j 0).val = t.val / 2 * 512 + (i 0).val) (hj : (j 1).val = (i 1).val) : (iblk m c 6 t i : EReal) = m ((c : Thread nD τ).loc main_arg6) j := by
  blk_point [iblk, V, idx t]

theorem row7 (t : Fin cfg0.N) (i j : S1x1024.Idx) (hj : (j 1).val = (i 1).val) : (iblk m c 7 t i : EReal) = m ((c : Thread nD τ).loc main_arg7) j := by
  blk_point [iblk, V, idx t]

theorem row8 (t : Fin cfg0.N) (i j : S1x1024.Idx) (hj : (j 1).val = (i 1).val) : (iblk m c 8 t i : EReal) = m ((c : Thread nD τ).loc main_arg8) j := by
  blk_point [iblk, V, idx t]

/-- The first rows' gradient at the row block's rows. -/
theorem dh1 (t : Fin cfg0.N) (h1 : t.val % 2 = 1) (i : S512x1024.Idx) (j : S4096x1024.Idx) (h0 : (j 0).val = t.val / 2 * 512 + (i 0).val) (hj : (j 1).val = (i 1).val) :
    ((outsAt0 m c t.val t.isLt).1 i : EReal) = Cert.MidRefIdeal.Read.val_main_v43 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) j := by
  rw [out9 m c t h1, pay14, ref43]
  have hd : ∀ k : Fin 1024, ((outsAt0 m c t.val t.isLt).2.2.2.2 (ix2 (i 0) k) : EReal) = Cert.MidRefIdeal.Read.val_main_v23 (m ((c : Thread nD τ).loc main_arg0)) (m ((c : Thread nD τ).loc main_arg1)) (m ((c : Thread nD τ).loc main_arg2)) (m ((c : Thread nD τ).loc main_arg3)) (ix2 (j 0) k) := fun k => du m c t h1 _ _ h0 rfl
  have hx : ∀ k : Fin 1024, (iblk m c 4 t (ix2 (i 0) k) : EReal) = m ((c : Thread nD τ).loc main_arg4) (ix2 (j 0) k) := fun k => row4 m c t _ _ h0 rfl
  have hg : ∀ k : Fin 1024, (iblk m c 7 t (ix2 0 k) : EReal) = m ((c : Thread nD τ).loc main_arg7) (ix2 0 k) := fun k => row7 m c t _ _ rfl
  simp only [hd, hx, hg]
  rw [row5 m c t _ _ h0 hj, row4 m c t _ _ h0 hj, du m c t h1 _ _ h0 hj, row7 m c t (ix2 0 (show Fin 1024 from i 1)) (ix2 0 (show Fin 1024 from j 1)) hj]

/-- The second rows' gradient there. -/
theorem dmix (t : Fin cfg0.N) (h1 : t.val % 2 = 1) (i : S512x1024.Idx) (j : S4096x1024.Idx) (h0 : (j 0).val = t.val / 2 * 512 + (i 0).val) (hj : (j 1).val = (i 1).val) :
    ((outsAt0 m c t.val t.isLt).2.1 i : EReal) = Cert.MidRefIdeal.Read.val_main_v78 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) j := by
  rw [out10 m c t h1, pay6, ref78]
  have hd : ∀ k : Fin 1024, ((outsAt0 m c t.val t.isLt).1 (ix2 (i 0) k) : EReal) = Cert.MidRefIdeal.Read.val_main_v43 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (ix2 (j 0) k) := fun k => dh1 m c t h1 _ _ h0 rfl
  have hx : ∀ k : Fin 1024, (iblk m c 6 t (ix2 (i 0) k) : EReal) = m ((c : Thread nD τ).loc main_arg6) (ix2 (j 0) k) := fun k => row6 m c t _ _ h0 rfl
  have hg : ∀ k : Fin 1024, (iblk m c 8 t (ix2 0 k) : EReal) = m ((c : Thread nD τ).loc main_arg8) (ix2 0 k) := fun k => row8 m c t _ _ rfl
  simp only [hd, hx, hg]
  rw [row6 m c t _ _ h0 hj, dh1 m c t h1 _ _ h0 hj, row8 m c t (ix2 0 (show Fin 1024 from i 1)) (ix2 0 (show Fin 1024 from j 1)) hj]

/-- The first rows' gradient, as the array that holds it. -/
theorem final_9 : (dats m 0 c).arrAt 9 cfg0.N = Cert.MidRefIdeal.Read.val_main_v43 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  refine (dats m 0 c).arrAt_eq_of_covers 9 _ (by decide +kernel) fun t hf y => ?_
  have h1 := (flush0_9 t).mp hf
  blk_simp
  rw [after0_9]
  exact dh1 m c t h1 _ _ (by blk_simp [idx t]) (by blk_simp [idx t])

/-- The second rows' gradient, as the array that holds it. -/
theorem final_10 : (dats m 0 c).arrAt 10 cfg0.N = Cert.MidRefIdeal.Read.val_main_v78 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 10 _ (by decide +kernel) fun t hf y => ?_
  have h1 := (flush0_10 t).mp hf
  blk_simp
  rw [after0_10]
  exact dmix m c t h1 _ _ (by blk_simp [idx t]) (by blk_simp [idx t])

theorem last11 (t : Fin cfg0.N) (ht : t.val % 16 = 15) (i : S1x1024.Idx) :
    ((outsAt0 m c t.val t.isLt).2.2.1 i : EReal) = Cert.MidRefIdeal.Read.val_main_v26 (m ((c : Thread nD τ).loc main_arg0)) (m ((c : Thread nD τ).loc main_arg1)) (m ((c : Thread nD τ).loc main_arg2)) (m ((c : Thread nD τ).loc main_arg3)) (m ((c : Thread nD τ).loc main_arg4)) i := by
  rw [ref26]
  refine Cert.Rms.gain_blocks (fun n h => (outsAt0 m c n h).2.2.1 i) (fun n h => part (outsAt0 m c n h).2.2.2.2 (iblk m c 4 ⟨n, h⟩) i) _ _ _
    (fun h => first11 m c ⟨1, h⟩ rfl (by show 1 < 2; decide) i)
    (fun n h hn => next11 m c ⟨n + 2, h⟩ ⟨n, (by omega : n < 16)⟩ (by show (n + 2) % 2 = 1; omega) (by show ¬(n + 2 < 2); omega) (by show n = n + 2 - 1 - 1; omega) i)
    (fun b h => ?_) t.val t.isLt ht
  have e0 : ∀ r : Fin 512, b.val * 512 + r.val = (2 * b.val + 1) / 2 * 512 + r.val := fun r => by
    rw [show (2 * b.val + 1) / 2 = b.val by omega]
  refine congrArg₂ (fun (d x : Fin 512 → Fin 1024 → EReal) => Cert.Rms.gain d x (i 1)) (funext fun r => funext fun k => ?_) (funext fun r => funext fun k => ?_)
  · exact du m c ⟨2 * b.val + 1, h⟩ (by show (2 * b.val + 1) % 2 = 1; omega) _ _ (e0 r) rfl
  · exact row4 m c ⟨2 * b.val + 1, h⟩ _ _ (e0 r) rfl

/-- The first gain's gradient, as the array that holds it. -/
theorem final_11 : (dats m 0 c).arrAt 11 cfg0.N = Cert.MidRefIdeal.Read.val_main_v26 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 11 _ (by decide +kernel) fun t hf y => ?_
  have h15 := (flush0_11 t).mp hf
  blk_simp
  rw [after0_11, last11 m c t h15]
  blk_point [idx t]

theorem last12 (t : Fin cfg0.N) (ht : t.val % 16 = 15) (i : S1x1024.Idx) :
    ((outsAt0 m c t.val t.isLt).2.2.2.1 i : EReal) = Cert.MidRefIdeal.Read.val_main_v61 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) i := by
  rw [ref61]
  refine Cert.Rms.gain_blocks (fun n h => (outsAt0 m c n h).2.2.2.1 i) (fun n h => part (outsAt0 m c n h).1 (iblk m c 6 ⟨n, h⟩) i) _ _ _
    (fun h => first12 m c ⟨1, h⟩ rfl (by show 1 < 2; decide) i)
    (fun n h hn => next12 m c ⟨n + 2, h⟩ ⟨n, (by omega : n < 16)⟩ (by show (n + 2) % 2 = 1; omega) (by show ¬(n + 2 < 2); omega) (by show n = n + 2 - 1 - 1; omega) i)
    (fun b h => ?_) t.val t.isLt ht
  have e0 : ∀ r : Fin 512, b.val * 512 + r.val = (2 * b.val + 1) / 2 * 512 + r.val := fun r => by
    rw [show (2 * b.val + 1) / 2 = b.val by omega]
  refine congrArg₂ (fun (d x : Fin 512 → Fin 1024 → EReal) => Cert.Rms.gain d x (i 1)) (funext fun r => funext fun k => ?_) (funext fun r => funext fun k => ?_)
  · exact dh1 m c ⟨2 * b.val + 1, h⟩ (by show (2 * b.val + 1) % 2 = 1; omega) _ _ (e0 r) rfl
  · exact row6 m c ⟨2 * b.val + 1, h⟩ _ _ (e0 r) rfl

/-- The second gain's gradient, as the array that holds it. -/
theorem final_12 : (dats m 0 c).arrAt 12 cfg0.N = Cert.MidRefIdeal.Read.val_main_v61 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 12 _ (by decide +kernel) fun t hf y => ?_
  have h15 := (flush0_12 t).mp hf
  blk_simp
  rw [after0_12, last12 m c t h15]
  blk_point [idx t]

theorem frame_k : Cert.quiescent_Mid (hMid := Cert.Mid.Gen.facts) := fun m g _ => Cert.Mid.Gen.frame m g

theorem frame_i : Cert.quiescent_MidIdeal (hMidIdeal := Cert.MidIdeal.Gen.facts) := fun m g _ => Cert.MidIdeal.Gen.frame m g

theorem frame_r : Cert.quiescent_MidRefIdeal (hMidRefIdeal := Cert.MidRefIdeal.Gen.facts) := fun m g _ =>
  (θ_run Cert.MidRefIdeal.defs _ _).mono (fun r h => ⟨fun c => (h c).2.2.2.2, Idealize.ShloMosaic.sem_eq_zero_of_no_sems (by decide) r.2⟩) (Cert.MidRefIdeal.Value.run (F := Ideal) m g)

/-- The call and the reference, run from memories that agree on the arguments, leave the same results. -/
theorem algebraic : Cert.algebraic_MidIdeal_MidRefIdeal (hMidIdeal := Cert.MidIdeal.Gen.facts) (hMidRefIdeal := Cert.MidRefIdeal.Gen.facts) := by
  intro m g m' g' _ hagree
  refine ⟨fun c => Cert.MidRefIdeal.Read.val_main_v43 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)), fun c => Cert.MidRefIdeal.Read.val_main_v78 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)), fun c => Cert.MidRefIdeal.Read.val_main_v26 (m ((c : Thread nD τ).loc main_arg0)) (m ((c : Thread nD τ).loc main_arg1)) (m ((c : Thread nD τ).loc main_arg2)) (m ((c : Thread nD τ).loc main_arg3)) (m ((c : Thread nD τ).loc main_arg4)), fun c => Cert.MidRefIdeal.Read.val_main_v61 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)), ?_, ?_⟩
  · refine (θ_run Cert.MidIdeal.defs _ _).mono (fun r h c => ?_) (Cert.MidIdeal.Value.run_blocks (F := Ideal) m g)
    obtain ⟨h0, h1, h2, h3, ha⟩ := h c
    exact ⟨h0.trans (final_9 m c), h1.trans (final_10 m c), h2.trans (final_11 m c), h3.trans (final_12 m c), ha⟩
  · refine (θ_run Cert.MidRefIdeal.defs _ _).mono (fun r h c => ?_) (Cert.MidRefIdeal.Value.run (F := Ideal) m' g')
    obtain ⟨h0, h1, h2, h3, ha⟩ := h c
    obtain ⟨e0, e1, e2, e3, e4, e5, e6, e7, e8⟩ := hagree c
    exact ⟨h0.trans (by rw [Cert.MidRefIdeal.Read.val_main_v43_eq, e0, e1, e2, e3, e4, e5, e7]), h1.trans (by rw [Cert.MidRefIdeal.Read.val_main_v78_eq, e0, e1, e2, e3, e4, e5, e6, e7, e8]), h2.trans (by rw [Cert.MidRefIdeal.Read.val_main_v26_eq, e0, e1, e2, e3, e4]), h3.trans (by rw [Cert.MidRefIdeal.Read.val_main_v61_eq, e0, e1, e2, e3, e4, e5, e6, e7]), ha⟩

end Cert.MidIdeal.Val
end
-- ==== Proof.LossValue.lean ====
module

public import proofs.«01_k».proof.Proof.Gen.LossIdeal.Value
public import proofs.«01_k».proof.Proof.Gen.LossRefIdeal.Read
public import proofs.«01_k».proof.Defs
public import proofs.«01_k».proof.Proof.Gen.Loss.Frame
public import Idealize.ShloMosaic.Lib.Pipeline.ValueKit
public import Idealize.ShloMosaic.Lib.Pipeline.ReadBack
public import proofs.«01_k».proof.Proof.RmsBwd

/-! The loss and its gradients back to the feed-forward output: each row block writes its rows' gradients and adds its part to
    the loss and to the gain's gradient. -/

@[expose] public section

set_option maxRecDepth 16384

noncomputable section

namespace Cert.LossIdeal.Val

open Cert.LossIdeal Cert.LossIdeal.Gen
open Idealize.ShloMosaic Idealize.ShloMosaic.TcCoe Idealize.ShloMosaic.Pointwise
open Idealize.SL Idealize.SL.Sem

theorem idx : ∀ t : Fin cfg0.N, win0_0.index t = ![t.val, 0] ∧ win0_1.index t = ![0, 0] ∧ win0_2.index t = ![t.val, 0] ∧ win0_3.index t = ![t.val, 0] ∧ win0_4.index t = ![0, 0] ∧ win0_5.index t = ![t.val, 0] ∧ win0_6.index t = ![t.val, 0] ∧ win0_7.index t = ![0, 0] ∧ win0_8.index t = ![0, 0] :=
  (by decide +kernel : ∀ t : Fin grid0.N, _)

variable (m : (ℓ : Loc nD τ sig) → Buf (Elt Ideal) ℓ) (c : Dev nD)

/-- The error at one entry: the residual plus the normed row with its gain, less the target. -/
def err (f : Fin 1024 → EReal) (F G H T : EReal) : EReal := H + F * Cert.Rms.scale f * G - T

theorem half : Ideal.ofBits .f32 1056964608#32 = ((1/2 : ℝ) : EReal) := by
  simp [Ideal.ofBits, Ideal.ieee, -EReal.coe_mul]; norm_num

theorem one : Ideal.ofBits .f32 1065353216#32 = 1 := by
  simp [Ideal.ofBits, Ideal.ieee, -EReal.coe_mul]; norm_num

theorem two : Ideal.ofBits .f32 1073741824#32 = ((2 : ℝ) : EReal) := by
  simp [Ideal.ofBits, Ideal.ieee, -EReal.coe_mul]; norm_num

theorem inv_width : Ideal.ofBits .f32 981467136#32 = ((1024⁻¹ : ℝ) : EReal) := by
  simp [Ideal.ofBits, Ideal.ieee, -EReal.coe_mul]; norm_num

/-- The differentiated mean square's factor at one entry. -/
theorem factor (e : EReal) : Ideal.div (Ideal.ofBits .f32 1056964608#32) (Ideal.ofBits .f32 1149239296#32) * (Ideal.ofBits .f32 1073741824#32 * e)
    = e * Ideal.ofBits .f32 981467136#32 := by
  rw [half, two, inv_width, Cert.Rms.width, Cert.Rms.div_coe _ (by norm_num), ← mul_assoc, mul_comm e, ← EReal.coe_mul, ← EReal.coe_mul]
  congr 2
  norm_num

theorem pay9 (a : Vec Ideal S512x2816 .bf16) (w : Vec Ideal S2816x1024 .bf16) (g : Vec Ideal S1x1024 .f32) (h x : Vec Ideal S512x1024 .f32) (i : S512x1024.Idx) :
    (k0_pay9 a w g h x i : EReal) = err (fun k => k0_pay6 a w (ix2 (i 0) k)) (k0_pay6 a w i) (g (ix2 0 (i 1))) (h i) (x i) := by
  pointwise [k0_pay9, k0_pay8, k0_pay7]
  rfl

theorem pay11 (a : Vec Ideal S512x2816 .bf16) (w : Vec Ideal S2816x1024 .bf16) (g : Vec Ideal S1x1024 .f32) (h x : Vec Ideal S512x1024 .f32) (i : S512x1024.Idx) :
    (k0_pay11 a w g h x i : EReal) = (k0_pay9 a w g h x i : EReal) * Ideal.ofBits .f32 981467136#32 := by
  pointwise [k0_pay11]

theorem pay1 (a : Vec Ideal S512x2816 .bf16) (w : Vec Ideal S2816x1024 .bf16) (d : FVec Ideal S512x1024 .f32) (g : Vec Ideal S1x1024 .f32) (i : S512x1024.Idx) :
    (k0_pay1 (k0_pay7 a w) (k0_pay8 a w) d (k0_pay13 g) i : EReal)
      = Cert.Rms.direct (fun k : Fin 1024 => k0_pay6 a w (ix2 (i 0) k)) (fun k => (d (ix2 (i 0) k) : EReal) * g (ix2 0 k)) (k0_pay6 a w i) ((d i : EReal) * g (ix2 0 (i 1))) := by
  pointwise [k0_pay1, k0_pay7, k0_pay8, k0_pay13]
  rfl

/-- A row block's part of the loss. -/
theorem pay10 (a : Vec Ideal S512x2816 .bf16) (w : Vec Ideal S2816x1024 .bf16) (g : Vec Ideal S1x1024 .f32) (h x : Vec Ideal S512x1024 .f32) (i : S1x1.Idx) :
    (k0_pay10 a w g h x i : EReal) = Ideal.ofBits .f32 1056964608#32 * ∑ r : Fin 512, Ideal.div (∑ k : Fin 1024, (k0_pay9 a w g h x (ix2 r k) : EReal) * k0_pay9 a w g h x (ix2 r k)) (Ideal.ofBits .f32 1149239296#32) := by
  pointwise [k0_pay10]

theorem pay12 (a : Vec Ideal S512x2816 .bf16) (w : Vec Ideal S2816x1024 .bf16) (g : Vec Ideal S1x1024 .f32) (h x : Vec Ideal S512x1024 .f32) (i : S1x1024.Idx) :
    (k0_pay12 a w g h x i : EReal) = ∑ r : Fin 512, (k0_pay11 a w g h x (ix2 r (i 1)) : EReal) * ((k0_pay6 a w (ix2 r (i 1)) : EReal) * Cert.Rms.scale (fun k : Fin 1024 => k0_pay6 a w (ix2 r k))) := by
  pointwise [k0_pay12, k0_pay8, k0_pay7]
  rfl

theorem pay4 (v : FVec Ideal S1x1 .f32) (o : Vec Ideal S8x128 .f32) (i : S8x128.Idx) : (k0_pay4 v o i : EReal) = (o i : EReal) + v (ix2 0 0) := by
  pointwise [k0_pay4]

theorem pay5 (v : FVec Ideal S1x1024 .f32) (o : Vec Ideal S1x1024 .f32) (i : S1x1024.Idx) : (k0_pay5 v o i : EReal) = (o i : EReal) + v i := by
  pointwise [k0_pay5]

theorem at4 (r : Fin 4096) (k : Fin 1024) : Cert.LossRefIdeal.Read.idx_main_v4 (ix1 r) k = ix2 r k := by
  funext a
  match a with
  | ⟨0, _⟩ => rfl
  | ⟨1, _⟩ => rfl

theorem at23 (r : Fin 4096) (k : Fin 1024) : Cert.LossRefIdeal.Read.idx_main_v23 (ix1 r) k = ix2 r k := by
  funext a
  match a with
  | ⟨0, _⟩ => rfl
  | ⟨1, _⟩ => rfl

theorem at35 (r : Fin 4096) (k : Fin 1024) : Cert.LossRefIdeal.Read.idx_main_v35 (ix1 k) r = ix2 r k := by
  funext a
  match a with
  | ⟨0, _⟩ => rfl
  | ⟨1, _⟩ => rfl

theorem at40 (r : Fin 4096) (k : Fin 1024) : Cert.LossRefIdeal.Read.idx_main_v40 (ix1 r) k = ix2 r k := by
  funext a
  match a with
  | ⟨0, _⟩ => rfl
  | ⟨1, _⟩ => rfl

theorem ref19 (a0 : (⟨S4096x2816, .bf16⟩ : BufTy).Contents (Elt Ideal)) (a1 : (⟨S2816x1024, .bf16⟩ : BufTy).Contents (Elt Ideal)) (a2 a3 : (⟨S4096x1024, .f32⟩ : BufTy).Contents (Elt Ideal)) (a4 : (⟨S1x1024, .f32⟩ : BufTy).Contents (Elt Ideal)) (j : S4096x1024.Idx) :
    (Cert.LossRefIdeal.Read.val_main_v19 a0 a1 a2 a3 a4 j : EReal) = err (fun k => Cert.LossRefIdeal.Read.val_main_v2 a0 a1 (ix2 (j 0) k)) (Cert.LossRefIdeal.Read.val_main_v2 a0 a1 j) (a4 (ix2 0 (j 1))) (a2 j) (a3 j) := by
  pointwise [Cert.LossRefIdeal.Read.val_main_v19, Cert.LossRefIdeal.Read.val_main_v18, Cert.LossRefIdeal.Read.val_main_v17, Cert.LossRefIdeal.Read.val_main_v16, Cert.LossRefIdeal.Read.val_main_v15, Cert.LossRefIdeal.Read.val_main_v14, Cert.LossRefIdeal.Read.val_main_v10, Cert.LossRefIdeal.Read.val_main_v9, Cert.LossRefIdeal.Read.val_main_v8, Cert.LossRefIdeal.Read.val_main_v7, Cert.LossRefIdeal.Read.val_main_v6, Cert.LossRefIdeal.Read.val_main_v5]
  simp only [Cert.LossRefIdeal.Read.val_main_v4_apply]
  pointwise [Cert.LossRefIdeal.Read.val_main_v3]
  simp only [Cert.LossRefIdeal.Read.val_main_cst_apply, Cert.LossRefIdeal.Read.val_main_cst_1_apply, Cert.LossRefIdeal.Read.val_main_cst_2_apply, Cert.LossRefIdeal.Read.val_main_cst_3_apply, Cert.LossRefIdeal.Read.val_main_cst_4_apply, Cert.LossRefIdeal.Read.val_main_cst_5_apply, Cert.LossRefIdeal.Read.val_main_cst_6_apply, Cert.LossRefIdeal.Read.val_main_cst_7_apply, Cert.LossRefIdeal.Read.val_main_cst_8_apply, Cert.LossRefIdeal.Read.val_main_cst_9_apply, Cert.LossRefIdeal.Read.val_main_cst_10_apply, Cert.LossRefIdeal.Read.val_main_cst_11_apply, Cert.LossRefIdeal.Read.val_main_cst_12_apply, Cert.LossRefIdeal.Read.val_main_cst_13_apply, Cert.LossRefIdeal.Read.val_main_cst_14_apply, Ideal.ofBits_def, Ideal.ofBits_zero_f32, zero_add]
  have q : ∀ k : Fin 1024, Cert.LossRefIdeal.Read.idx_main_v4 (ix1 (j 0)) k = ix2 (j 0) k := fun k => at4 (j 0) k
  simp only [q]
  rfl

theorem ref33 (a0 : (⟨S4096x2816, .bf16⟩ : BufTy).Contents (Elt Ideal)) (a1 : (⟨S2816x1024, .bf16⟩ : BufTy).Contents (Elt Ideal)) (a2 a3 : (⟨S4096x1024, .f32⟩ : BufTy).Contents (Elt Ideal)) (a4 : (⟨S1x1024, .f32⟩ : BufTy).Contents (Elt Ideal)) (j : S4096x1024.Idx) :
    (Cert.LossRefIdeal.Read.val_main_v33 a0 a1 a2 a3 a4 j : EReal) = (Cert.LossRefIdeal.Read.val_main_v19 a0 a1 a2 a3 a4 j : EReal) * Ideal.ofBits .f32 981467136#32 := by
  refine Eq.trans ?_ (factor _)
  pointwise [Cert.LossRefIdeal.Read.val_main_v33, Cert.LossRefIdeal.Read.val_main_v32, Cert.LossRefIdeal.Read.val_main_v31, Cert.LossRefIdeal.Read.val_main_v30, Cert.LossRefIdeal.Read.val_main_v29, Cert.LossRefIdeal.Read.val_main_v28, Cert.LossRefIdeal.Read.val_main_v22, Cert.LossRefIdeal.Read.val_main_v21]
  simp only [Cert.LossRefIdeal.Read.val_main_cst_apply, Cert.LossRefIdeal.Read.val_main_cst_1_apply, Cert.LossRefIdeal.Read.val_main_cst_2_apply, Cert.LossRefIdeal.Read.val_main_cst_3_apply, Cert.LossRefIdeal.Read.val_main_cst_4_apply, Cert.LossRefIdeal.Read.val_main_cst_5_apply, Cert.LossRefIdeal.Read.val_main_cst_6_apply, Cert.LossRefIdeal.Read.val_main_cst_7_apply, Cert.LossRefIdeal.Read.val_main_cst_8_apply, Cert.LossRefIdeal.Read.val_main_cst_9_apply, Cert.LossRefIdeal.Read.val_main_cst_10_apply, Cert.LossRefIdeal.Read.val_main_cst_11_apply, Cert.LossRefIdeal.Read.val_main_cst_12_apply, Cert.LossRefIdeal.Read.val_main_cst_13_apply, Cert.LossRefIdeal.Read.val_main_cst_14_apply, Ideal.ofBits_def, one, mul_one]

theorem ref53 (a0 : (⟨S4096x2816, .bf16⟩ : BufTy).Contents (Elt Ideal)) (a1 : (⟨S2816x1024, .bf16⟩ : BufTy).Contents (Elt Ideal)) (a2 a3 : (⟨S4096x1024, .f32⟩ : BufTy).Contents (Elt Ideal)) (a4 : (⟨S1x1024, .f32⟩ : BufTy).Contents (Elt Ideal)) (j : S4096x1024.Idx) :
    (Cert.LossRefIdeal.Read.val_main_v53 a0 a1 a2 a3 a4 j : EReal)
      = Cert.Rms.direct (fun k : Fin 1024 => Cert.LossRefIdeal.Read.val_main_v2 a0 a1 (ix2 (j 0) k)) (fun k => (Cert.LossRefIdeal.Read.val_main_v33 a0 a1 a2 a3 a4 (ix2 (j 0) k) : EReal) * a4 (ix2 0 k))
        (Cert.LossRefIdeal.Read.val_main_v2 a0 a1 j) ((Cert.LossRefIdeal.Read.val_main_v33 a0 a1 a2 a3 a4 j : EReal) * a4 (ix2 0 (j 1))) := by
  refine Eq.trans ?_ (Cert.Rms.direct_eq (n := 1024) _ _ (show Fin 1024 from j 1) _ _ (congrArg (Cert.LossRefIdeal.Read.val_main_v2 a0 a1) (eq_ix2 j).symm)).symm
  pointwise [Cert.LossRefIdeal.Read.val_main_v53, Cert.LossRefIdeal.Read.val_main_v52, Cert.LossRefIdeal.Read.val_main_v51, Cert.LossRefIdeal.Read.val_main_v50, Cert.LossRefIdeal.Read.val_main_v49, Cert.LossRefIdeal.Read.val_main_v48]
  rw [Cert.LossRefIdeal.Read.val_main_v47_apply]
  pointwise [Cert.LossRefIdeal.Read.val_main_v46, Cert.LossRefIdeal.Read.val_main_v45, Cert.LossRefIdeal.Read.val_main_v44, Cert.LossRefIdeal.Read.val_main_v43, Cert.LossRefIdeal.Read.val_main_v42, Cert.LossRefIdeal.Read.val_main_v41, Cert.LossRefIdeal.Read.val_main_v38, Cert.LossRefIdeal.Read.val_main_v37, Cert.LossRefIdeal.Read.val_main_v13, Cert.LossRefIdeal.Read.val_main_v12, Cert.LossRefIdeal.Read.val_main_v11, Cert.LossRefIdeal.Read.val_main_v10, Cert.LossRefIdeal.Read.val_main_v9, Cert.LossRefIdeal.Read.val_main_v8, Cert.LossRefIdeal.Read.val_main_v7, Cert.LossRefIdeal.Read.val_main_v6, Cert.LossRefIdeal.Read.val_main_v5]
  simp only [Cert.LossRefIdeal.Read.val_main_v40_apply, Cert.LossRefIdeal.Read.val_main_v4_apply]
  pointwise [Cert.LossRefIdeal.Read.val_main_v39, Cert.LossRefIdeal.Read.val_main_v38, Cert.LossRefIdeal.Read.val_main_v37, Cert.LossRefIdeal.Read.val_main_v3]
  simp only [Cert.LossRefIdeal.Read.val_main_cst_apply, Cert.LossRefIdeal.Read.val_main_cst_1_apply, Cert.LossRefIdeal.Read.val_main_cst_2_apply, Cert.LossRefIdeal.Read.val_main_cst_3_apply, Cert.LossRefIdeal.Read.val_main_cst_4_apply, Cert.LossRefIdeal.Read.val_main_cst_5_apply, Cert.LossRefIdeal.Read.val_main_cst_6_apply, Cert.LossRefIdeal.Read.val_main_cst_7_apply, Cert.LossRefIdeal.Read.val_main_cst_8_apply, Cert.LossRefIdeal.Read.val_main_cst_9_apply, Cert.LossRefIdeal.Read.val_main_cst_10_apply, Cert.LossRefIdeal.Read.val_main_cst_11_apply, Cert.LossRefIdeal.Read.val_main_cst_12_apply, Cert.LossRefIdeal.Read.val_main_cst_13_apply, Cert.LossRefIdeal.Read.val_main_cst_14_apply, Ideal.ofBits_def, Ideal.ofBits_zero_f32, zero_add, Fin.sum_univ_one]
  have q4 : ∀ k : Fin 1024, Cert.LossRefIdeal.Read.idx_main_v4 (ix1 (j 0)) k = ix2 (j 0) k := fun k => at4 (j 0) k
  have q40 : ∀ k : Fin 1024, Cert.LossRefIdeal.Read.idx_main_v40 (ix1 (Cert.LossRefIdeal.Read.idx_main_v47 (ix1 (j 0)) 0 0)) k = ix2 (j 0) k := fun k => at40 (j 0) k
  simp only [q4, q40]
  rfl

theorem ref36 (a0 : (⟨S4096x2816, .bf16⟩ : BufTy).Contents (Elt Ideal)) (a1 : (⟨S2816x1024, .bf16⟩ : BufTy).Contents (Elt Ideal)) (a2 a3 : (⟨S4096x1024, .f32⟩ : BufTy).Contents (Elt Ideal)) (a4 : (⟨S1x1024, .f32⟩ : BufTy).Contents (Elt Ideal)) (i : S1x1024.Idx) :
    (Cert.LossRefIdeal.Read.val_main_v36 a0 a1 a2 a3 a4 i : EReal) = ∑ r : Fin 4096, (Cert.LossRefIdeal.Read.val_main_v33 a0 a1 a2 a3 a4 (ix2 r (i 1)) : EReal) * ((Cert.LossRefIdeal.Read.val_main_v2 a0 a1 (ix2 r (i 1)) : EReal) * Cert.Rms.scale (fun k : Fin 1024 => Cert.LossRefIdeal.Read.val_main_v2 a0 a1 (ix2 r k))) := by
  pointwise [Cert.LossRefIdeal.Read.val_main_v36]
  rw [Cert.LossRefIdeal.Read.val_main_v35_apply]
  pointwise [Cert.LossRefIdeal.Read.val_main_v34, Cert.LossRefIdeal.Read.val_main_v15, Cert.LossRefIdeal.Read.val_main_v14, Cert.LossRefIdeal.Read.val_main_v10, Cert.LossRefIdeal.Read.val_main_v9, Cert.LossRefIdeal.Read.val_main_v8, Cert.LossRefIdeal.Read.val_main_v7, Cert.LossRefIdeal.Read.val_main_v6, Cert.LossRefIdeal.Read.val_main_v5]
  simp only [Cert.LossRefIdeal.Read.val_main_v4_apply]
  pointwise [Cert.LossRefIdeal.Read.val_main_v3]
  simp only [Cert.LossRefIdeal.Read.val_main_cst_apply, Cert.LossRefIdeal.Read.val_main_cst_1_apply, Cert.LossRefIdeal.Read.val_main_cst_2_apply, Cert.LossRefIdeal.Read.val_main_cst_3_apply, Cert.LossRefIdeal.Read.val_main_cst_4_apply, Cert.LossRefIdeal.Read.val_main_cst_5_apply, Cert.LossRefIdeal.Read.val_main_cst_6_apply, Cert.LossRefIdeal.Read.val_main_cst_7_apply, Cert.LossRefIdeal.Read.val_main_cst_8_apply, Cert.LossRefIdeal.Read.val_main_cst_9_apply, Cert.LossRefIdeal.Read.val_main_cst_10_apply, Cert.LossRefIdeal.Read.val_main_cst_11_apply, Cert.LossRefIdeal.Read.val_main_cst_12_apply, Cert.LossRefIdeal.Read.val_main_cst_13_apply, Cert.LossRefIdeal.Read.val_main_cst_14_apply, Ideal.ofBits_def, Ideal.ofBits_zero_f32, zero_add]
  refine Finset.sum_congr rfl fun r _ => (mul_comm _ _).trans ?_
  exact congrArg₂ (fun a b : EReal => a * b) (congrArg (Cert.LossRefIdeal.Read.val_main_v33 a0 a1 a2 a3 a4) (at35 r (i 1)))
    (congrArg₂ (fun a b : EReal => a * b) (congrArg (Cert.LossRefIdeal.Read.val_main_v2 a0 a1) (at35 r (i 1))) (congrArg (fun f : Fin 1024 → EReal => Cert.Rms.scale f) (funext fun k => congrArg (Cert.LossRefIdeal.Read.val_main_v2 a0 a1) (at4 r k))))

theorem ref54 (a0 : (⟨S4096x2816, .bf16⟩ : BufTy).Contents (Elt Ideal)) (a1 : (⟨S2816x1024, .bf16⟩ : BufTy).Contents (Elt Ideal)) (a2 a3 : (⟨S4096x1024, .f32⟩ : BufTy).Contents (Elt Ideal)) (a4 : (⟨S1x1024, .f32⟩ : BufTy).Contents (Elt Ideal)) (i : S8x128.Idx) :
    (Cert.LossRefIdeal.Read.val_main_v54 a0 a1 a2 a3 a4 i : EReal) = Ideal.ofBits .f32 1056964608#32 * ∑ r : Fin 4096, Ideal.div (∑ k : Fin 1024, (Cert.LossRefIdeal.Read.val_main_v19 a0 a1 a2 a3 a4 (ix2 r k) : EReal) * Cert.LossRefIdeal.Read.val_main_v19 a0 a1 a2 a3 a4 (ix2 r k)) (Ideal.ofBits .f32 1149239296#32) := by
  pointwise [Cert.LossRefIdeal.Read.val_main_v54, Cert.LossRefIdeal.Read.val_main_v27]
  rw [Cert.LossRefIdeal.Read.val_main_v26_apply, sum_idx1]
  pointwise [Cert.LossRefIdeal.Read.val_main_v25, Cert.LossRefIdeal.Read.val_main_v24]
  simp only [Cert.LossRefIdeal.Read.val_main_v23_apply]
  pointwise [Cert.LossRefIdeal.Read.val_main_v20]
  simp only [Cert.LossRefIdeal.Read.val_main_cst_apply, Cert.LossRefIdeal.Read.val_main_cst_1_apply, Cert.LossRefIdeal.Read.val_main_cst_2_apply, Cert.LossRefIdeal.Read.val_main_cst_3_apply, Cert.LossRefIdeal.Read.val_main_cst_4_apply, Cert.LossRefIdeal.Read.val_main_cst_5_apply, Cert.LossRefIdeal.Read.val_main_cst_6_apply, Cert.LossRefIdeal.Read.val_main_cst_7_apply, Cert.LossRefIdeal.Read.val_main_cst_8_apply, Cert.LossRefIdeal.Read.val_main_cst_9_apply, Cert.LossRefIdeal.Read.val_main_cst_10_apply, Cert.LossRefIdeal.Read.val_main_cst_11_apply, Cert.LossRefIdeal.Read.val_main_cst_12_apply, Cert.LossRefIdeal.Read.val_main_cst_13_apply, Cert.LossRefIdeal.Read.val_main_cst_14_apply, Ideal.ofBits_def, Ideal.ofBits_zero_f32, zero_add, at23]

/-- The product at a row block's entry is the reference's. -/
theorem prod (t : Fin cfg0.N) (i : S512x1024.Idx) (j : S4096x1024.Idx) (h0 : (j 0).val = t.val * 512 + (i 0).val) (hj : (j 1).val = (i 1).val) :
    (k0_pay6 (iblk m c 0 t) (iblk m c 1 t) i : EReal) = Cert.LossRefIdeal.Read.val_main_v2 (m ((c : Thread nD τ).loc main_arg0)) (m ((c : Thread nD τ).loc main_arg1)) j := by
  rw [Cert.LossRefIdeal.Read.val_main_v2_apply]
  pointwise [k0_pay6, Cert.LossRefIdeal.Read.val_main_v0, Cert.LossRefIdeal.Read.val_main_v1]
  refine Finset.sum_congr rfl fun k _ => ?_
  blk_point [iblk, V, idx t]

theorem row2 (t : Fin cfg0.N) (i : S512x1024.Idx) (j : S4096x1024.Idx) (h0 : (j 0).val = t.val * 512 + (i 0).val) (hj : (j 1).val = (i 1).val) :
    (iblk m c 2 t i : EReal) = m ((c : Thread nD τ).loc main_arg2) j := by
  blk_point [iblk, V, idx t]

theorem row3 (t : Fin cfg0.N) (i : S512x1024.Idx) (j : S4096x1024.Idx) (h0 : (j 0).val = t.val * 512 + (i 0).val) (hj : (j 1).val = (i 1).val) :
    (iblk m c 3 t i : EReal) = m ((c : Thread nD τ).loc main_arg3) j := by
  blk_point [iblk, V, idx t]

theorem row4 (t : Fin cfg0.N) (i j : S1x1024.Idx) (hj : (j 1).val = (i 1).val) :
    (iblk m c 4 t i : EReal) = m ((c : Thread nD τ).loc main_arg4) j := by
  blk_point [iblk, V, idx t]

/-- The error at a row block's entry is the reference's. -/
theorem diff (t : Fin cfg0.N) (i : S512x1024.Idx) (j : S4096x1024.Idx) (h0 : (j 0).val = t.val * 512 + (i 0).val) (hj : (j 1).val = (i 1).val) :
    (k0_pay9 (iblk m c 0 t) (iblk m c 1 t) (iblk m c 4 t) (iblk m c 2 t) (iblk m c 3 t) i : EReal) = Cert.LossRefIdeal.Read.val_main_v19 (m ((c : Thread nD τ).loc main_arg0)) (m ((c : Thread nD τ).loc main_arg1)) (m ((c : Thread nD τ).loc main_arg2)) (m ((c : Thread nD τ).loc main_arg3)) (m ((c : Thread nD τ).loc main_arg4)) j := by
  rw [pay9, ref19]
  have hp : ∀ k : Fin 1024, (k0_pay6 (iblk m c 0 t) (iblk m c 1 t) (ix2 (i 0) k) : EReal) = Cert.LossRefIdeal.Read.val_main_v2 (m ((c : Thread nD τ).loc main_arg0)) (m ((c : Thread nD τ).loc main_arg1)) (ix2 (j 0) k) := fun k => prod m c t _ _ h0 rfl
  simp only [hp]
  rw [prod m c t _ _ h0 hj, row2 m c t _ _ h0 hj, row3 m c t _ _ h0 hj, row4 m c t (ix2 0 (show Fin 1024 from i 1)) (ix2 0 (show Fin 1024 from j 1)) hj]

theorem d2 (t : Fin cfg0.N) (i : S512x1024.Idx) (j : S4096x1024.Idx) (h0 : (j 0).val = t.val * 512 + (i 0).val) (hj : (j 1).val = (i 1).val) :
    (k0_pay11 (iblk m c 0 t) (iblk m c 1 t) (iblk m c 4 t) (iblk m c 2 t) (iblk m c 3 t) i : EReal) = Cert.LossRefIdeal.Read.val_main_v33 (m ((c : Thread nD τ).loc main_arg0)) (m ((c : Thread nD τ).loc main_arg1)) (m ((c : Thread nD τ).loc main_arg2)) (m ((c : Thread nD τ).loc main_arg3)) (m ((c : Thread nD τ).loc main_arg4)) j := by
  rw [pay11, ref33, diff m c t _ _ h0 hj]

theorem dffn (t : Fin cfg0.N) (i : S512x1024.Idx) (j : S4096x1024.Idx) (h0 : (j 0).val = t.val * 512 + (i 0).val) (hj : (j 1).val = (i 1).val) :
    (k0_pay1 (k0_pay7 (iblk m c 0 t) (iblk m c 1 t)) (k0_pay8 (iblk m c 0 t) (iblk m c 1 t)) (k0_pay11 (iblk m c 0 t) (iblk m c 1 t) (iblk m c 4 t) (iblk m c 2 t) (iblk m c 3 t)) (k0_pay13 (iblk m c 4 t)) i : EReal) = Cert.LossRefIdeal.Read.val_main_v53 (m ((c : Thread nD τ).loc main_arg0)) (m ((c : Thread nD τ).loc main_arg1)) (m ((c : Thread nD τ).loc main_arg2)) (m ((c : Thread nD τ).loc main_arg3)) (m ((c : Thread nD τ).loc main_arg4)) j := by
  rw [pay1, ref53]
  have hp : ∀ k : Fin 1024, (k0_pay6 (iblk m c 0 t) (iblk m c 1 t) (ix2 (i 0) k) : EReal) = Cert.LossRefIdeal.Read.val_main_v2 (m ((c : Thread nD τ).loc main_arg0)) (m ((c : Thread nD τ).loc main_arg1)) (ix2 (j 0) k) := fun k => prod m c t _ _ h0 rfl
  have hd : ∀ k : Fin 1024, (k0_pay11 (iblk m c 0 t) (iblk m c 1 t) (iblk m c 4 t) (iblk m c 2 t) (iblk m c 3 t) (ix2 (i 0) k) : EReal) = Cert.LossRefIdeal.Read.val_main_v33 (m ((c : Thread nD τ).loc main_arg0)) (m ((c : Thread nD τ).loc main_arg1)) (m ((c : Thread nD τ).loc main_arg2)) (m ((c : Thread nD τ).loc main_arg3)) (m ((c : Thread nD τ).loc main_arg4)) (ix2 (j 0) k) := fun k => d2 m c t _ _ h0 rfl
  have hg : ∀ k : Fin 1024, (iblk m c 4 t (ix2 0 k) : EReal) = m ((c : Thread nD τ).loc main_arg4) (ix2 0 k) := fun k => row4 m c t _ _ rfl
  simp only [hp, hd, hg]
  rw [prod m c t _ _ h0 hj, d2 m c t _ _ h0 hj, row4 m c t (ix2 0 (show Fin 1024 from i 1)) (ix2 0 (show Fin 1024 from j 1)) hj]

theorem out5 (t : Fin cfg0.N) : (outsAt0 m c t.val t.isLt).1 = k0_pay1 (k0_pay7 (iblk m c 0 t) (iblk m c 1 t)) (k0_pay8 (iblk m c 0 t) (iblk m c 1 t)) (k0_pay11 (iblk m c 0 t) (iblk m c 1 t) (iblk m c 4 t) (iblk m c 2 t) (iblk m c 3 t)) (k0_pay13 (iblk m c 4 t)) := by
  by_cases h : t.val % 8 = 0
  · rw [outsAt0_A m c t h]
    frame_out
  · rw [outsAt0_B m c t h]
    frame_out

theorem out6 (t : Fin cfg0.N) : (outsAt0 m c t.val t.isLt).2.1 = k0_pay11 (iblk m c 0 t) (iblk m c 1 t) (iblk m c 4 t) (iblk m c 2 t) (iblk m c 3 t) := by
  by_cases h : t.val % 8 = 0
  · rw [outsAt0_A m c t h]
    frame_out
  · rw [outsAt0_B m c t h]
    frame_out

/-- The loss's tile at the last point is the sum of the row blocks' parts. -/
theorem acc7 (t : Fin cfg0.N) (h7 : t.val % 8 = 7) (i : S8x128.Idx) :
    ((outsAt0 m c t.val t.isLt).2.2.1 i : EReal) = ((fun _ => 0 : S8x128.Idx → EReal) i : EReal) + ∑ s : Fin 8, (fun t : Fin cfg0.N => k0_pay10 (iblk m c 0 t) (iblk m c 1 t) (iblk m c 4 t) (iblk m c 2 t) (iblk m c 3 t) (ix2 0 0)) ⟨_, Pipeline.run_point_lt_of_flush t h7 s⟩ := by
  rw [Pipeline.eq_sum_fin_of_reset_step_apply_of_flush (fun n h => ((outsAt0 m c n h).2.2.1 : S8x128.Idx → EReal)) 8 (fun _ => (0 : EReal))
    (fun t i => k0_pay10 (iblk m c 0 t) (iblk m c 1 t) (iblk m c 4 t) (iblk m c 2 t) (iblk m c 3 t) (ix2 0 0))
    (fun t h i => by
      rw [outsAt0_A m c t h]
      frame_out
      rw [pay4]
      pointwise [k0_pay2])
    (fun t h i => by
      rw [outsAt0_B m c t h]
      frame_out
      rw [pay4]) t h7 i]

/-- The gain's gradient at the last point is the sum of the row blocks' parts. -/
theorem acc8 (t : Fin cfg0.N) (h7 : t.val % 8 = 7) (i : S1x1024.Idx) :
    ((outsAt0 m c t.val t.isLt).2.2.2 i : EReal) = ((fun _ => 0 : S1x1024.Idx → EReal) i : EReal) + ∑ s : Fin 8, (fun t : Fin cfg0.N => k0_pay12 (iblk m c 0 t) (iblk m c 1 t) (iblk m c 4 t) (iblk m c 2 t) (iblk m c 3 t) i) ⟨_, Pipeline.run_point_lt_of_flush t h7 s⟩ := by
  rw [Pipeline.eq_sum_fin_of_reset_step_apply_of_flush (fun n h => ((outsAt0 m c n h).2.2.2 : S1x1024.Idx → EReal)) 8 (fun _ => (0 : EReal))
    (fun t i => k0_pay12 (iblk m c 0 t) (iblk m c 1 t) (iblk m c 4 t) (iblk m c 2 t) (iblk m c 3 t) i)
    (fun t h i => by
      rw [outsAt0_A m c t h]
      frame_out
      rw [pay5]
      pointwise [k0_pay3])
    (fun t h i => by
      rw [outsAt0_B m c t h]
      frame_out
      rw [pay5]) t h7 i]

theorem last8 (t : Fin cfg0.N) (h7 : t.val % 8 = 7) (i : S1x1024.Idx) :
    ((outsAt0 m c t.val t.isLt).2.2.2 i : EReal) = Cert.LossRefIdeal.Read.val_main_v36 (m ((c : Thread nD τ).loc main_arg0)) (m ((c : Thread nD τ).loc main_arg1)) (m ((c : Thread nD τ).loc main_arg2)) (m ((c : Thread nD τ).loc main_arg3)) (m ((c : Thread nD τ).loc main_arg4)) i := by
  have hN : t.val < 8 := t.isLt
  rw [acc8 m c t h7, ref36]
  beta_reduce
  rw [zero_add]
  refine Eq.trans (Finset.sum_congr rfl fun s _ => pay12 _ _ _ _ _ i) (Fin.sum_mul_add_congr fun s r hl => ?_)
  have e0 : s.val * 512 + r.val = (8 * (t.val / 8) + s.val) * 512 + r.val := by omega
  exact congrArg₂ (fun a b : EReal => a * b) (d2 m c ⟨_, Pipeline.run_point_lt_of_flush t h7 s⟩ _ _ e0 rfl)
    (congrArg₂ (fun a b : EReal => a * b) (prod m c ⟨_, Pipeline.run_point_lt_of_flush t h7 s⟩ _ _ e0 rfl)
      (congrArg (fun f : Fin 1024 → EReal => Cert.Rms.scale f) (funext fun k => prod m c ⟨_, Pipeline.run_point_lt_of_flush t h7 s⟩ _ _ e0 rfl)))

theorem half_sum (f : Fin 8 → EReal) : ∑ s, Ideal.ofBits .f32 1056964608#32 * f s = Ideal.ofBits .f32 1056964608#32 * ∑ s, f s := by
  rw [half, mul_comm _ (∑ s, f s), Cert.Rms.sum_mul f (by norm_num)]
  exact Finset.sum_congr rfl fun s _ => mul_comm _ _

theorem last7 (t : Fin cfg0.N) (h7 : t.val % 8 = 7) (i : S8x128.Idx) (j : S8x128.Idx) :
    ((outsAt0 m c t.val t.isLt).2.2.1 i : EReal) = Cert.LossRefIdeal.Read.val_main_v54 (m ((c : Thread nD τ).loc main_arg0)) (m ((c : Thread nD τ).loc main_arg1)) (m ((c : Thread nD τ).loc main_arg2)) (m ((c : Thread nD τ).loc main_arg3)) (m ((c : Thread nD τ).loc main_arg4)) j := by
  have hN : t.val < 8 := t.isLt
  rw [acc7 m c t h7, ref54]
  beta_reduce
  rw [zero_add]
  refine ((Finset.sum_congr rfl fun s _ => pay10 _ _ _ _ _ _).trans (half_sum _)).trans (congrArg (fun z : EReal => Ideal.ofBits .f32 1056964608#32 * z) (Fin.sum_mul_add_congr fun s r hl => ?_))
  have e0 : s.val * 512 + r.val = (8 * (t.val / 8) + s.val) * 512 + r.val := by omega
  refine congrArg (fun z : EReal => Ideal.div z (Ideal.ofBits .f32 1149239296#32)) (Finset.sum_congr rfl fun k _ => ?_)
  exact congrArg (fun z : EReal => z * z) (diff m c ⟨_, Pipeline.run_point_lt_of_flush t h7 s⟩ _ _ e0 rfl)

/-- The gradient into the feed-forward output, as the array that holds it. -/
theorem final_5 : (dats m 0 c).arrAt 5 cfg0.N = Cert.LossRefIdeal.Read.val_main_v53 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  have e0 : ((win0_5.blk t).view.emb y 0).val = t.val * 512 + (y 0).val := by
    blk_simp [idx t]
  have e1 : ((win0_5.blk t).view.emb y 1).val = (y 1).val := by
    blk_simp [idx t]
  rw [after0_5, out5 m c t, dffn m c t y _ e0 e1]

/-- The gradient into the residual stream, as the array that holds it. -/
theorem final_6 : (dats m 0 c).arrAt 6 cfg0.N = Cert.LossRefIdeal.Read.val_main_v33 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  have e0 : ((win0_6.blk t).view.emb y 0).val = t.val * 512 + (y 0).val := by
    blk_simp [idx t]
  have e1 : ((win0_6.blk t).view.emb y 1).val = (y 1).val := by
    blk_simp [idx t]
  rw [after0_6, out6 m c t, d2 m c t y _ e0 e1]

/-- The loss, as the tile that holds it. -/
theorem final_7 : (dats m 0 c).arrAt 7 cfg0.N = Cert.LossRefIdeal.Read.val_main_v54 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  have h7 := (flush0_7 t).mp hf
  blk_simp
  rw [after0_7]
  exact last7 m c t h7 _ _

/-- The gain's gradient, as the array that holds it. -/
theorem final_8 : (dats m 0 c).arrAt 8 cfg0.N = Cert.LossRefIdeal.Read.val_main_v36 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  have h7 := (flush0_8 t).mp hf
  blk_simp
  rw [after0_8, last8 m c t h7]
  blk_point [idx t]

theorem frame_k : Cert.quiescent_Loss (hLoss := Cert.Loss.Gen.facts) := fun m g _ => Cert.Loss.Gen.frame m g

theorem frame_i : Cert.quiescent_LossIdeal (hLossIdeal := Cert.LossIdeal.Gen.facts) := fun m g _ => Cert.LossIdeal.Gen.frame m g

theorem frame_r : Cert.quiescent_LossRefIdeal (hLossRefIdeal := Cert.LossRefIdeal.Gen.facts) := fun m g _ =>
  (θ_run Cert.LossRefIdeal.defs _ _).mono (fun r h => ⟨fun c => (h c).2.2.2.2, Idealize.ShloMosaic.sem_eq_zero_of_no_sems (by decide) r.2⟩) (Cert.LossRefIdeal.Value.run (F := Ideal) m g)

/-- The call and the reference, run from memories that agree on the arguments, leave the same results. -/
theorem algebraic : Cert.algebraic_LossIdeal_LossRefIdeal (hLossIdeal := Cert.LossIdeal.Gen.facts) (hLossRefIdeal := Cert.LossRefIdeal.Gen.facts) := by
  intro m g m' g' _ hagree
  refine ⟨fun c => Cert.LossRefIdeal.Read.val_main_v53 (m ((c : Thread nD τ).loc main_arg0)) (m ((c : Thread nD τ).loc main_arg1)) (m ((c : Thread nD τ).loc main_arg2)) (m ((c : Thread nD τ).loc main_arg3)) (m ((c : Thread nD τ).loc main_arg4)), fun c => Cert.LossRefIdeal.Read.val_main_v33 (m ((c : Thread nD τ).loc main_arg0)) (m ((c : Thread nD τ).loc main_arg1)) (m ((c : Thread nD τ).loc main_arg2)) (m ((c : Thread nD τ).loc main_arg3)) (m ((c : Thread nD τ).loc main_arg4)), fun c => Cert.LossRefIdeal.Read.val_main_v54 (m ((c : Thread nD τ).loc main_arg0)) (m ((c : Thread nD τ).loc main_arg1)) (m ((c : Thread nD τ).loc main_arg2)) (m ((c : Thread nD τ).loc main_arg3)) (m ((c : Thread nD τ).loc main_arg4)), fun c => Cert.LossRefIdeal.Read.val_main_v36 (m ((c : Thread nD τ).loc main_arg0)) (m ((c : Thread nD τ).loc main_arg1)) (m ((c : Thread nD τ).loc main_arg2)) (m ((c : Thread nD τ).loc main_arg3)) (m ((c : Thread nD τ).loc main_arg4)), ?_, ?_⟩
  · refine (θ_run Cert.LossIdeal.defs _ _).mono (fun r h c => ?_) (Cert.LossIdeal.Value.run_blocks (F := Ideal) m g)
    obtain ⟨h0, h1, h2, h3, ha⟩ := h c
    exact ⟨h0.trans (final_5 m c), h1.trans (final_6 m c), h2.trans (final_7 m c), h3.trans (final_8 m c), ha⟩
  · refine (θ_run Cert.LossRefIdeal.defs _ _).mono (fun r h c => ?_) (Cert.LossRefIdeal.Value.run (F := Ideal) m' g')
    obtain ⟨h0, h1, h2, h3, ha⟩ := h c
    obtain ⟨e0, e1, e2, e3, e4⟩ := hagree c
    exact ⟨h0.trans (by rw [Cert.LossRefIdeal.Read.val_main_v53_eq, e0, e1, e2, e3, e4]), h1.trans (by rw [Cert.LossRefIdeal.Read.val_main_v33_eq, e0, e1, e2, e3, e4]), h2.trans (by rw [Cert.LossRefIdeal.Read.val_main_v54_eq, e0, e1, e2, e3, e4]), h3.trans (by rw [Cert.LossRefIdeal.Read.val_main_v36_eq, e0, e1, e2, e3, e4]), ha⟩

end Cert.LossIdeal.Val
end
-- ==== Proof.AdamInValue.lean ====
module

public import proofs.«01_k».proof.Proof.Gen.AdamInIdeal.Value
public import proofs.«01_k».proof.Proof.Gen.AdamInRefIdeal.Read
public import proofs.«01_k».proof.Defs
public import proofs.«01_k».proof.Proof.Gen.AdamIn.Frame
public import Idealize.ShloMosaic.Lib.Pipeline.ValueKit

/-! The update of the input weights: the eight parts of the gradient are added, and each row block is updated by itself. -/

@[expose] public section

set_option maxRecDepth 16384

noncomputable section

namespace Cert.AdamInIdeal.Val

open Cert.AdamInIdeal Cert.AdamInIdeal.Gen
open Idealize.ShloMosaic Idealize.ShloMosaic.TcCoe Idealize.ShloMosaic.Pointwise
open Idealize.SL Idealize.SL.Sem

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

variable (m : (ℓ : Loc nD τ sig) → Buf (Elt Ideal) ℓ) (c : Dev nD)

/-- The gradient, as the array that holds it. -/
theorem final_4 : (dats m 0 c).arrAt 4 cfg0.N
    = Cert.AdamInRefIdeal.Read.val_main_v1 (m ((c : Thread nD τ).loc main_arg0)) := by
  refine (dats m 0 c).arrAt_eq_of_covers 4 _ (by decide +kernel) fun t hf y => ?_
  blk_simp
  rw [after0_4]
  frame_out
  pointwise [k0_pay1, k0_pay2, k0_pay3, k0_pay4, k0_pay5]
  simp only [Cert.AdamInRefIdeal.Read.val_main_v1_apply, Fin.sum_univ_eight]
  pointwise [Cert.AdamInRefIdeal.Read.val_main_v0, Cert.AdamInRefIdeal.Read.val_main_cst]
  blk_point [iblk, V, idx t]

/-- The step, as the array that holds it. -/
theorem final_5 : (dats m 0 c).arrAt 5 cfg0.N
    = Cert.AdamInRefIdeal.Read.val_main_v25 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  pointwise [k0_pay1, k0_pay2, k0_pay3, k0_pay4, k0_pay5, Cert.AdamInRefIdeal.Read.val_main_cst, Cert.AdamInRefIdeal.Read.val_main_cst_0, Cert.AdamInRefIdeal.Read.val_main_v2, Cert.AdamInRefIdeal.Read.val_main_v3, Cert.AdamInRefIdeal.Read.val_main_cst_1, Cert.AdamInRefIdeal.Read.val_main_v4, Cert.AdamInRefIdeal.Read.val_main_v5, Cert.AdamInRefIdeal.Read.val_main_v6, Cert.AdamInRefIdeal.Read.val_main_cst_2, Cert.AdamInRefIdeal.Read.val_main_v7, Cert.AdamInRefIdeal.Read.val_main_v8, Cert.AdamInRefIdeal.Read.val_main_v9, Cert.AdamInRefIdeal.Read.val_main_cst_3, Cert.AdamInRefIdeal.Read.val_main_v10, Cert.AdamInRefIdeal.Read.val_main_v11, Cert.AdamInRefIdeal.Read.val_main_v12, Cert.AdamInRefIdeal.Read.val_main_cst_4, Cert.AdamInRefIdeal.Read.val_main_v13, Cert.AdamInRefIdeal.Read.val_main_v14, Cert.AdamInRefIdeal.Read.val_main_cst_5, Cert.AdamInRefIdeal.Read.val_main_v15, Cert.AdamInRefIdeal.Read.val_main_v16, Cert.AdamInRefIdeal.Read.val_main_v17, Cert.AdamInRefIdeal.Read.val_main_cst_6, Cert.AdamInRefIdeal.Read.val_main_v18, Cert.AdamInRefIdeal.Read.val_main_v19, Cert.AdamInRefIdeal.Read.val_main_v20, Cert.AdamInRefIdeal.Read.val_main_cst_7, Cert.AdamInRefIdeal.Read.val_main_v21, Cert.AdamInRefIdeal.Read.val_main_v22, Cert.AdamInRefIdeal.Read.val_main_v23, Cert.AdamInRefIdeal.Read.val_main_cst_8, Cert.AdamInRefIdeal.Read.val_main_v24, Cert.AdamInRefIdeal.Read.val_main_v25]
  simp only [Cert.AdamInRefIdeal.Read.val_main_v1_apply, Fin.sum_univ_eight]
  pointwise [Cert.AdamInRefIdeal.Read.val_main_v0, Cert.AdamInRefIdeal.Read.val_main_cst]
  blk_point [iblk, V, idx t]

/-- The new first moment, as the array that holds it. -/
theorem final_6 : (dats m 0 c).arrAt 6 cfg0.N
    = Cert.AdamInRefIdeal.Read.val_main_v6 (m ((c : Thread nD τ).loc main_arg0)) (m ((c : Thread nD τ).loc main_arg2)) := by
  refine (dats m 0 c).arrAt_eq_of_covers 6 _ (by decide +kernel) fun t hf y => ?_
  blk_simp
  rw [after0_6]
  frame_out
  pointwise [k0_pay1, k0_pay2, k0_pay3, k0_pay4, k0_pay5, Cert.AdamInRefIdeal.Read.val_main_cst, Cert.AdamInRefIdeal.Read.val_main_cst_0, Cert.AdamInRefIdeal.Read.val_main_v2, Cert.AdamInRefIdeal.Read.val_main_v3, Cert.AdamInRefIdeal.Read.val_main_cst_1, Cert.AdamInRefIdeal.Read.val_main_v4, Cert.AdamInRefIdeal.Read.val_main_v5, Cert.AdamInRefIdeal.Read.val_main_v6, Cert.AdamInRefIdeal.Read.val_main_cst_2, Cert.AdamInRefIdeal.Read.val_main_v7, Cert.AdamInRefIdeal.Read.val_main_v8, Cert.AdamInRefIdeal.Read.val_main_v9, Cert.AdamInRefIdeal.Read.val_main_cst_3, Cert.AdamInRefIdeal.Read.val_main_v10, Cert.AdamInRefIdeal.Read.val_main_v11, Cert.AdamInRefIdeal.Read.val_main_v12, Cert.AdamInRefIdeal.Read.val_main_cst_4, Cert.AdamInRefIdeal.Read.val_main_v13, Cert.AdamInRefIdeal.Read.val_main_v14, Cert.AdamInRefIdeal.Read.val_main_cst_5, Cert.AdamInRefIdeal.Read.val_main_v15, Cert.AdamInRefIdeal.Read.val_main_v16, Cert.AdamInRefIdeal.Read.val_main_v17, Cert.AdamInRefIdeal.Read.val_main_cst_6, Cert.AdamInRefIdeal.Read.val_main_v18, Cert.AdamInRefIdeal.Read.val_main_v19, Cert.AdamInRefIdeal.Read.val_main_v20, Cert.AdamInRefIdeal.Read.val_main_cst_7, Cert.AdamInRefIdeal.Read.val_main_v21, Cert.AdamInRefIdeal.Read.val_main_v22, Cert.AdamInRefIdeal.Read.val_main_v23, Cert.AdamInRefIdeal.Read.val_main_cst_8, Cert.AdamInRefIdeal.Read.val_main_v24, Cert.AdamInRefIdeal.Read.val_main_v25]
  simp only [Cert.AdamInRefIdeal.Read.val_main_v1_apply, Fin.sum_univ_eight]
  pointwise [Cert.AdamInRefIdeal.Read.val_main_v0, Cert.AdamInRefIdeal.Read.val_main_cst]
  blk_point [iblk, V, idx t]

/-- The new second moment, as the array that holds it. -/
theorem final_7 : (dats m 0 c).arrAt 7 cfg0.N
    = Cert.AdamInRefIdeal.Read.val_main_v12 (m ((c : Thread nD τ).loc main_arg0)) (m ((c : Thread nD τ).loc main_arg3)) := by
  refine (dats m 0 c).arrAt_eq_of_covers 7 _ (by decide +kernel) fun t hf y => ?_
  blk_simp
  rw [after0_7]
  frame_out
  pointwise [k0_pay1, k0_pay2, k0_pay3, k0_pay4, k0_pay5, Cert.AdamInRefIdeal.Read.val_main_cst, Cert.AdamInRefIdeal.Read.val_main_cst_0, Cert.AdamInRefIdeal.Read.val_main_v2, Cert.AdamInRefIdeal.Read.val_main_v3, Cert.AdamInRefIdeal.Read.val_main_cst_1, Cert.AdamInRefIdeal.Read.val_main_v4, Cert.AdamInRefIdeal.Read.val_main_v5, Cert.AdamInRefIdeal.Read.val_main_v6, Cert.AdamInRefIdeal.Read.val_main_cst_2, Cert.AdamInRefIdeal.Read.val_main_v7, Cert.AdamInRefIdeal.Read.val_main_v8, Cert.AdamInRefIdeal.Read.val_main_v9, Cert.AdamInRefIdeal.Read.val_main_cst_3, Cert.AdamInRefIdeal.Read.val_main_v10, Cert.AdamInRefIdeal.Read.val_main_v11, Cert.AdamInRefIdeal.Read.val_main_v12, Cert.AdamInRefIdeal.Read.val_main_cst_4, Cert.AdamInRefIdeal.Read.val_main_v13, Cert.AdamInRefIdeal.Read.val_main_v14, Cert.AdamInRefIdeal.Read.val_main_cst_5, Cert.AdamInRefIdeal.Read.val_main_v15, Cert.AdamInRefIdeal.Read.val_main_v16, Cert.AdamInRefIdeal.Read.val_main_v17, Cert.AdamInRefIdeal.Read.val_main_cst_6, Cert.AdamInRefIdeal.Read.val_main_v18, Cert.AdamInRefIdeal.Read.val_main_v19, Cert.AdamInRefIdeal.Read.val_main_v20, Cert.AdamInRefIdeal.Read.val_main_cst_7, Cert.AdamInRefIdeal.Read.val_main_v21, Cert.AdamInRefIdeal.Read.val_main_v22, Cert.AdamInRefIdeal.Read.val_main_v23, Cert.AdamInRefIdeal.Read.val_main_cst_8, Cert.AdamInRefIdeal.Read.val_main_v24, Cert.AdamInRefIdeal.Read.val_main_v25]
  simp only [Cert.AdamInRefIdeal.Read.val_main_v1_apply, Fin.sum_univ_eight]
  pointwise [Cert.AdamInRefIdeal.Read.val_main_v0, Cert.AdamInRefIdeal.Read.val_main_cst]
  blk_point [iblk, V, idx t]

theorem frame_k : Cert.quiescent_AdamIn (hAdamIn := Cert.AdamIn.Gen.facts) := fun m g _ => Cert.AdamIn.Gen.frame m g

theorem frame_i : Cert.quiescent_AdamInIdeal (hAdamInIdeal := Cert.AdamInIdeal.Gen.facts) := fun m g _ => Cert.AdamInIdeal.Gen.frame m g

theorem frame_r : Cert.quiescent_AdamInRefIdeal (hAdamInRefIdeal := Cert.AdamInRefIdeal.Gen.facts) := fun m g _ =>
  (θ_run Cert.AdamInRefIdeal.defs _ _).mono (fun r h => ⟨fun c => (h c).2.2.2.2, Idealize.ShloMosaic.sem_eq_zero_of_no_sems (by decide) r.2⟩) (Cert.AdamInRefIdeal.Value.run (F := Ideal) m g)

/-- The call and the reference, run from memories that agree on the arguments, leave the same results. -/
theorem algebraic : Cert.algebraic_AdamInIdeal_AdamInRefIdeal (hAdamInIdeal := Cert.AdamInIdeal.Gen.facts) (hAdamInRefIdeal := Cert.AdamInRefIdeal.Gen.facts) := by
  intro m g m' g' _ hagree
  refine ⟨fun c => Cert.AdamInRefIdeal.Read.val_main_v1 (m ((c : Thread nD τ).loc main_arg0)), fun c => Cert.AdamInRefIdeal.Read.val_main_v25 (m ((c : Thread nD τ).loc main_arg0)) (m ((c : Thread nD τ).loc main_arg1)) (m ((c : Thread nD τ).loc main_arg2)) (m ((c : Thread nD τ).loc main_arg3)), fun c => Cert.AdamInRefIdeal.Read.val_main_v6 (m ((c : Thread nD τ).loc main_arg0)) (m ((c : Thread nD τ).loc main_arg2)), fun c => Cert.AdamInRefIdeal.Read.val_main_v12 (m ((c : Thread nD τ).loc main_arg0)) (m ((c : Thread nD τ).loc main_arg3)), ?_, ?_⟩
  · refine (θ_run Cert.AdamInIdeal.defs _ _).mono (fun r h c => ?_) (Cert.AdamInIdeal.Value.run_blocks (F := Ideal) m g)
    obtain ⟨h0, h1, h2, h3, ha⟩ := h c
    exact ⟨h0.trans (final_4 m c), h1.trans (final_5 m c), h2.trans (final_6 m c), h3.trans (final_7 m c), ha⟩
  · refine (θ_run Cert.AdamInRefIdeal.defs _ _).mono (fun r h c => ?_) (Cert.AdamInRefIdeal.Value.run (F := Ideal) m' g')
    obtain ⟨h0, h1, h2, h3, ha⟩ := h c
    obtain ⟨e0, e1, e2, e3⟩ := hagree c
    exact ⟨h0.trans (by rw [Cert.AdamInRefIdeal.Read.val_main_v1_eq, e0]), h1.trans (by rw [Cert.AdamInRefIdeal.Read.val_main_v25_eq, e0, e1, e2, e3]), h2.trans (by rw [Cert.AdamInRefIdeal.Read.val_main_v6_eq, e0, e2]), h3.trans (by rw [Cert.AdamInRefIdeal.Read.val_main_v12_eq, e0, e3]), ha⟩

end Cert.AdamInIdeal.Val
end
-- ==== Proof.AdamOutValue.lean ====
module

public import proofs.«01_k».proof.Proof.Gen.AdamOutIdeal.Value
public import proofs.«01_k».proof.Proof.Gen.AdamOutRefIdeal.Read
public import proofs.«01_k».proof.Defs
public import proofs.«01_k».proof.Proof.Gen.AdamOut.Frame
public import Idealize.ShloMosaic.Lib.Pipeline.ValueKit

/-! The update of a square weight shard: the eight parts of the gradient are added, and each row block is updated by itself. -/

@[expose] public section

set_option maxRecDepth 16384

noncomputable section

namespace Cert.AdamOutIdeal.Val

open Cert.AdamOutIdeal Cert.AdamOutIdeal.Gen
open Idealize.ShloMosaic Idealize.ShloMosaic.TcCoe Idealize.ShloMosaic.Pointwise
open Idealize.SL Idealize.SL.Sem

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

variable (m : (ℓ : Loc nD τ sig) → Buf (Elt Ideal) ℓ) (c : Dev nD)

/-- The gradient, as the array that holds it. -/
theorem final_4 : (dats m 0 c).arrAt 4 cfg0.N
    = Cert.AdamOutRefIdeal.Read.val_main_v1 (m ((c : Thread nD τ).loc main_arg0)) := by
  refine (dats m 0 c).arrAt_eq_of_covers 4 _ (by decide +kernel) fun t hf y => ?_
  blk_simp
  rw [after0_4]
  frame_out
  pointwise [k0_pay1, k0_pay2, k0_pay3, k0_pay4, k0_pay5]
  simp only [Cert.AdamOutRefIdeal.Read.val_main_v1_apply, Fin.sum_univ_eight]
  pointwise [Cert.AdamOutRefIdeal.Read.val_main_v0, Cert.AdamOutRefIdeal.Read.val_main_cst]
  blk_point [iblk, V, idx t]

/-- The step, as the array that holds it. -/
theorem final_5 : (dats m 0 c).arrAt 5 cfg0.N
    = Cert.AdamOutRefIdeal.Read.val_main_v25 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  pointwise [k0_pay1, k0_pay2, k0_pay3, k0_pay4, k0_pay5, Cert.AdamOutRefIdeal.Read.val_main_cst, Cert.AdamOutRefIdeal.Read.val_main_cst_0, Cert.AdamOutRefIdeal.Read.val_main_v2, Cert.AdamOutRefIdeal.Read.val_main_v3, Cert.AdamOutRefIdeal.Read.val_main_cst_1, Cert.AdamOutRefIdeal.Read.val_main_v4, Cert.AdamOutRefIdeal.Read.val_main_v5, Cert.AdamOutRefIdeal.Read.val_main_v6, Cert.AdamOutRefIdeal.Read.val_main_cst_2, Cert.AdamOutRefIdeal.Read.val_main_v7, Cert.AdamOutRefIdeal.Read.val_main_v8, Cert.AdamOutRefIdeal.Read.val_main_v9, Cert.AdamOutRefIdeal.Read.val_main_cst_3, Cert.AdamOutRefIdeal.Read.val_main_v10, Cert.AdamOutRefIdeal.Read.val_main_v11, Cert.AdamOutRefIdeal.Read.val_main_v12, Cert.AdamOutRefIdeal.Read.val_main_cst_4, Cert.AdamOutRefIdeal.Read.val_main_v13, Cert.AdamOutRefIdeal.Read.val_main_v14, Cert.AdamOutRefIdeal.Read.val_main_cst_5, Cert.AdamOutRefIdeal.Read.val_main_v15, Cert.AdamOutRefIdeal.Read.val_main_v16, Cert.AdamOutRefIdeal.Read.val_main_v17, Cert.AdamOutRefIdeal.Read.val_main_cst_6, Cert.AdamOutRefIdeal.Read.val_main_v18, Cert.AdamOutRefIdeal.Read.val_main_v19, Cert.AdamOutRefIdeal.Read.val_main_v20, Cert.AdamOutRefIdeal.Read.val_main_cst_7, Cert.AdamOutRefIdeal.Read.val_main_v21, Cert.AdamOutRefIdeal.Read.val_main_v22, Cert.AdamOutRefIdeal.Read.val_main_v23, Cert.AdamOutRefIdeal.Read.val_main_cst_8, Cert.AdamOutRefIdeal.Read.val_main_v24, Cert.AdamOutRefIdeal.Read.val_main_v25]
  simp only [Cert.AdamOutRefIdeal.Read.val_main_v1_apply, Fin.sum_univ_eight]
  pointwise [Cert.AdamOutRefIdeal.Read.val_main_v0, Cert.AdamOutRefIdeal.Read.val_main_cst]
  blk_point [iblk, V, idx t]

/-- The new first moment, as the array that holds it. -/
theorem final_6 : (dats m 0 c).arrAt 6 cfg0.N
    = Cert.AdamOutRefIdeal.Read.val_main_v6 (m ((c : Thread nD τ).loc main_arg0)) (m ((c : Thread nD τ).loc main_arg2)) := by
  refine (dats m 0 c).arrAt_eq_of_covers 6 _ (by decide +kernel) fun t hf y => ?_
  blk_simp
  rw [after0_6]
  frame_out
  pointwise [k0_pay1, k0_pay2, k0_pay3, k0_pay4, k0_pay5, Cert.AdamOutRefIdeal.Read.val_main_cst, Cert.AdamOutRefIdeal.Read.val_main_cst_0, Cert.AdamOutRefIdeal.Read.val_main_v2, Cert.AdamOutRefIdeal.Read.val_main_v3, Cert.AdamOutRefIdeal.Read.val_main_cst_1, Cert.AdamOutRefIdeal.Read.val_main_v4, Cert.AdamOutRefIdeal.Read.val_main_v5, Cert.AdamOutRefIdeal.Read.val_main_v6, Cert.AdamOutRefIdeal.Read.val_main_cst_2, Cert.AdamOutRefIdeal.Read.val_main_v7, Cert.AdamOutRefIdeal.Read.val_main_v8, Cert.AdamOutRefIdeal.Read.val_main_v9, Cert.AdamOutRefIdeal.Read.val_main_cst_3, Cert.AdamOutRefIdeal.Read.val_main_v10, Cert.AdamOutRefIdeal.Read.val_main_v11, Cert.AdamOutRefIdeal.Read.val_main_v12, Cert.AdamOutRefIdeal.Read.val_main_cst_4, Cert.AdamOutRefIdeal.Read.val_main_v13, Cert.AdamOutRefIdeal.Read.val_main_v14, Cert.AdamOutRefIdeal.Read.val_main_cst_5, Cert.AdamOutRefIdeal.Read.val_main_v15, Cert.AdamOutRefIdeal.Read.val_main_v16, Cert.AdamOutRefIdeal.Read.val_main_v17, Cert.AdamOutRefIdeal.Read.val_main_cst_6, Cert.AdamOutRefIdeal.Read.val_main_v18, Cert.AdamOutRefIdeal.Read.val_main_v19, Cert.AdamOutRefIdeal.Read.val_main_v20, Cert.AdamOutRefIdeal.Read.val_main_cst_7, Cert.AdamOutRefIdeal.Read.val_main_v21, Cert.AdamOutRefIdeal.Read.val_main_v22, Cert.AdamOutRefIdeal.Read.val_main_v23, Cert.AdamOutRefIdeal.Read.val_main_cst_8, Cert.AdamOutRefIdeal.Read.val_main_v24, Cert.AdamOutRefIdeal.Read.val_main_v25]
  simp only [Cert.AdamOutRefIdeal.Read.val_main_v1_apply, Fin.sum_univ_eight]
  pointwise [Cert.AdamOutRefIdeal.Read.val_main_v0, Cert.AdamOutRefIdeal.Read.val_main_cst]
  blk_point [iblk, V, idx t]

/-- The new second moment, as the array that holds it. -/
theorem final_7 : (dats m 0 c).arrAt 7 cfg0.N
    = Cert.AdamOutRefIdeal.Read.val_main_v12 (m ((c : Thread nD τ).loc main_arg0)) (m ((c : Thread nD τ).loc main_arg3)) := by
  refine (dats m 0 c).arrAt_eq_of_covers 7 _ (by decide +kernel) fun t hf y => ?_
  blk_simp
  rw [after0_7]
  frame_out
  pointwise [k0_pay1, k0_pay2, k0_pay3, k0_pay4, k0_pay5, Cert.AdamOutRefIdeal.Read.val_main_cst, Cert.AdamOutRefIdeal.Read.val_main_cst_0, Cert.AdamOutRefIdeal.Read.val_main_v2, Cert.AdamOutRefIdeal.Read.val_main_v3, Cert.AdamOutRefIdeal.Read.val_main_cst_1, Cert.AdamOutRefIdeal.Read.val_main_v4, Cert.AdamOutRefIdeal.Read.val_main_v5, Cert.AdamOutRefIdeal.Read.val_main_v6, Cert.AdamOutRefIdeal.Read.val_main_cst_2, Cert.AdamOutRefIdeal.Read.val_main_v7, Cert.AdamOutRefIdeal.Read.val_main_v8, Cert.AdamOutRefIdeal.Read.val_main_v9, Cert.AdamOutRefIdeal.Read.val_main_cst_3, Cert.AdamOutRefIdeal.Read.val_main_v10, Cert.AdamOutRefIdeal.Read.val_main_v11, Cert.AdamOutRefIdeal.Read.val_main_v12, Cert.AdamOutRefIdeal.Read.val_main_cst_4, Cert.AdamOutRefIdeal.Read.val_main_v13, Cert.AdamOutRefIdeal.Read.val_main_v14, Cert.AdamOutRefIdeal.Read.val_main_cst_5, Cert.AdamOutRefIdeal.Read.val_main_v15, Cert.AdamOutRefIdeal.Read.val_main_v16, Cert.AdamOutRefIdeal.Read.val_main_v17, Cert.AdamOutRefIdeal.Read.val_main_cst_6, Cert.AdamOutRefIdeal.Read.val_main_v18, Cert.AdamOutRefIdeal.Read.val_main_v19, Cert.AdamOutRefIdeal.Read.val_main_v20, Cert.AdamOutRefIdeal.Read.val_main_cst_7, Cert.AdamOutRefIdeal.Read.val_main_v21, Cert.AdamOutRefIdeal.Read.val_main_v22, Cert.AdamOutRefIdeal.Read.val_main_v23, Cert.AdamOutRefIdeal.Read.val_main_cst_8, Cert.AdamOutRefIdeal.Read.val_main_v24, Cert.AdamOutRefIdeal.Read.val_main_v25]
  simp only [Cert.AdamOutRefIdeal.Read.val_main_v1_apply, Fin.sum_univ_eight]
  pointwise [Cert.AdamOutRefIdeal.Read.val_main_v0, Cert.AdamOutRefIdeal.Read.val_main_cst]
  blk_point [iblk, V, idx t]

theorem frame_k : Cert.quiescent_AdamOut (hAdamOut := Cert.AdamOut.Gen.facts) := fun m g _ => Cert.AdamOut.Gen.frame m g

theorem frame_i : Cert.quiescent_AdamOutIdeal (hAdamOutIdeal := Cert.AdamOutIdeal.Gen.facts) := fun m g _ => Cert.AdamOutIdeal.Gen.frame m g

theorem frame_r : Cert.quiescent_AdamOutRefIdeal (hAdamOutRefIdeal := Cert.AdamOutRefIdeal.Gen.facts) := fun m g _ =>
  (θ_run Cert.AdamOutRefIdeal.defs _ _).mono (fun r h => ⟨fun c => (h c).2.2.2.2, Idealize.ShloMosaic.sem_eq_zero_of_no_sems (by decide) r.2⟩) (Cert.AdamOutRefIdeal.Value.run (F := Ideal) m g)

/-- The call and the reference, run from memories that agree on the arguments, leave the same results. -/
theorem algebraic : Cert.algebraic_AdamOutIdeal_AdamOutRefIdeal (hAdamOutIdeal := Cert.AdamOutIdeal.Gen.facts) (hAdamOutRefIdeal := Cert.AdamOutRefIdeal.Gen.facts) := by
  intro m g m' g' _ hagree
  refine ⟨fun c => Cert.AdamOutRefIdeal.Read.val_main_v1 (m ((c : Thread nD τ).loc main_arg0)), fun c => Cert.AdamOutRefIdeal.Read.val_main_v25 (m ((c : Thread nD τ).loc main_arg0)) (m ((c : Thread nD τ).loc main_arg1)) (m ((c : Thread nD τ).loc main_arg2)) (m ((c : Thread nD τ).loc main_arg3)), fun c => Cert.AdamOutRefIdeal.Read.val_main_v6 (m ((c : Thread nD τ).loc main_arg0)) (m ((c : Thread nD τ).loc main_arg2)), fun c => Cert.AdamOutRefIdeal.Read.val_main_v12 (m ((c : Thread nD τ).loc main_arg0)) (m ((c : Thread nD τ).loc main_arg3)), ?_, ?_⟩
  · refine (θ_run Cert.AdamOutIdeal.defs _ _).mono (fun r h c => ?_) (Cert.AdamOutIdeal.Value.run_blocks (F := Ideal) m g)
    obtain ⟨h0, h1, h2, h3, ha⟩ := h c
    exact ⟨h0.trans (final_4 m c), h1.trans (final_5 m c), h2.trans (final_6 m c), h3.trans (final_7 m c), ha⟩
  · refine (θ_run Cert.AdamOutRefIdeal.defs _ _).mono (fun r h c => ?_) (Cert.AdamOutRefIdeal.Value.run (F := Ideal) m' g')
    obtain ⟨h0, h1, h2, h3, ha⟩ := h c
    obtain ⟨e0, e1, e2, e3⟩ := hagree c
    exact ⟨h0.trans (by rw [Cert.AdamOutRefIdeal.Read.val_main_v1_eq, e0]), h1.trans (by rw [Cert.AdamOutRefIdeal.Read.val_main_v25_eq, e0, e1, e2, e3]), h2.trans (by rw [Cert.AdamOutRefIdeal.Read.val_main_v6_eq, e0, e2]), h3.trans (by rw [Cert.AdamOutRefIdeal.Read.val_main_v12_eq, e0, e3]), ha⟩

end Cert.AdamOutIdeal.Val
end
-- ==== Proof.AdamBranchValue.lean ====
module

public import proofs.«01_k».proof.Proof.Gen.AdamBranchIdeal.Value
public import proofs.«01_k».proof.Proof.Gen.AdamBranchRefIdeal.Read
public import proofs.«01_k».proof.Defs
public import proofs.«01_k».proof.Proof.Gen.AdamBranch.Frame
public import Idealize.ShloMosaic.Lib.Pipeline.ValueKit

/-! The update of a branch's weights: the eight parts of the gradient are added, and each row block is updated by itself. -/

@[expose] public section

set_option maxRecDepth 16384

noncomputable section

namespace Cert.AdamBranchIdeal.Val

open Cert.AdamBranchIdeal Cert.AdamBranchIdeal.Gen
open Idealize.ShloMosaic Idealize.ShloMosaic.TcCoe Idealize.ShloMosaic.Pointwise
open Idealize.SL Idealize.SL.Sem

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

variable (m : (ℓ : Loc nD τ sig) → Buf (Elt Ideal) ℓ) (c : Dev nD)

/-- The gradient, as the array that holds it. -/
theorem final_4 : (dats m 0 c).arrAt 4 cfg0.N
    = Cert.AdamBranchRefIdeal.Read.val_main_v1 (m ((c : Thread nD τ).loc main_arg0)) := by
  refine (dats m 0 c).arrAt_eq_of_covers 4 _ (by decide +kernel) fun t hf y => ?_
  blk_simp
  rw [after0_4]
  frame_out
  pointwise [k0_pay1, k0_pay2, k0_pay3, k0_pay4, k0_pay5]
  simp only [Cert.AdamBranchRefIdeal.Read.val_main_v1_apply, Fin.sum_univ_eight]
  pointwise [Cert.AdamBranchRefIdeal.Read.val_main_v0, Cert.AdamBranchRefIdeal.Read.val_main_cst]
  blk_point [iblk, V, idx t]

/-- The step, as the array that holds it. -/
theorem final_5 : (dats m 0 c).arrAt 5 cfg0.N
    = Cert.AdamBranchRefIdeal.Read.val_main_v25 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  pointwise [k0_pay1, k0_pay2, k0_pay3, k0_pay4, k0_pay5, Cert.AdamBranchRefIdeal.Read.val_main_cst, Cert.AdamBranchRefIdeal.Read.val_main_cst_0, Cert.AdamBranchRefIdeal.Read.val_main_v2, Cert.AdamBranchRefIdeal.Read.val_main_v3, Cert.AdamBranchRefIdeal.Read.val_main_cst_1, Cert.AdamBranchRefIdeal.Read.val_main_v4, Cert.AdamBranchRefIdeal.Read.val_main_v5, Cert.AdamBranchRefIdeal.Read.val_main_v6, Cert.AdamBranchRefIdeal.Read.val_main_cst_2, Cert.AdamBranchRefIdeal.Read.val_main_v7, Cert.AdamBranchRefIdeal.Read.val_main_v8, Cert.AdamBranchRefIdeal.Read.val_main_v9, Cert.AdamBranchRefIdeal.Read.val_main_cst_3, Cert.AdamBranchRefIdeal.Read.val_main_v10, Cert.AdamBranchRefIdeal.Read.val_main_v11, Cert.AdamBranchRefIdeal.Read.val_main_v12, Cert.AdamBranchRefIdeal.Read.val_main_cst_4, Cert.AdamBranchRefIdeal.Read.val_main_v13, Cert.AdamBranchRefIdeal.Read.val_main_v14, Cert.AdamBranchRefIdeal.Read.val_main_cst_5, Cert.AdamBranchRefIdeal.Read.val_main_v15, Cert.AdamBranchRefIdeal.Read.val_main_v16, Cert.AdamBranchRefIdeal.Read.val_main_v17, Cert.AdamBranchRefIdeal.Read.val_main_cst_6, Cert.AdamBranchRefIdeal.Read.val_main_v18, Cert.AdamBranchRefIdeal.Read.val_main_v19, Cert.AdamBranchRefIdeal.Read.val_main_v20, Cert.AdamBranchRefIdeal.Read.val_main_cst_7, Cert.AdamBranchRefIdeal.Read.val_main_v21, Cert.AdamBranchRefIdeal.Read.val_main_v22, Cert.AdamBranchRefIdeal.Read.val_main_v23, Cert.AdamBranchRefIdeal.Read.val_main_cst_8, Cert.AdamBranchRefIdeal.Read.val_main_v24, Cert.AdamBranchRefIdeal.Read.val_main_v25]
  simp only [Cert.AdamBranchRefIdeal.Read.val_main_v1_apply, Fin.sum_univ_eight]
  pointwise [Cert.AdamBranchRefIdeal.Read.val_main_v0, Cert.AdamBranchRefIdeal.Read.val_main_cst]
  blk_point [iblk, V, idx t]

/-- The new first moment, as the array that holds it. -/
theorem final_6 : (dats m 0 c).arrAt 6 cfg0.N
    = Cert.AdamBranchRefIdeal.Read.val_main_v6 (m ((c : Thread nD τ).loc main_arg0)) (m ((c : Thread nD τ).loc main_arg2)) := by
  refine (dats m 0 c).arrAt_eq_of_covers 6 _ (by decide +kernel) fun t hf y => ?_
  blk_simp
  rw [after0_6]
  frame_out
  pointwise [k0_pay1, k0_pay2, k0_pay3, k0_pay4, k0_pay5, Cert.AdamBranchRefIdeal.Read.val_main_cst, Cert.AdamBranchRefIdeal.Read.val_main_cst_0, Cert.AdamBranchRefIdeal.Read.val_main_v2, Cert.AdamBranchRefIdeal.Read.val_main_v3, Cert.AdamBranchRefIdeal.Read.val_main_cst_1, Cert.AdamBranchRefIdeal.Read.val_main_v4, Cert.AdamBranchRefIdeal.Read.val_main_v5, Cert.AdamBranchRefIdeal.Read.val_main_v6, Cert.AdamBranchRefIdeal.Read.val_main_cst_2, Cert.AdamBranchRefIdeal.Read.val_main_v7, Cert.AdamBranchRefIdeal.Read.val_main_v8, Cert.AdamBranchRefIdeal.Read.val_main_v9, Cert.AdamBranchRefIdeal.Read.val_main_cst_3, Cert.AdamBranchRefIdeal.Read.val_main_v10, Cert.AdamBranchRefIdeal.Read.val_main_v11, Cert.AdamBranchRefIdeal.Read.val_main_v12, Cert.AdamBranchRefIdeal.Read.val_main_cst_4, Cert.AdamBranchRefIdeal.Read.val_main_v13, Cert.AdamBranchRefIdeal.Read.val_main_v14, Cert.AdamBranchRefIdeal.Read.val_main_cst_5, Cert.AdamBranchRefIdeal.Read.val_main_v15, Cert.AdamBranchRefIdeal.Read.val_main_v16, Cert.AdamBranchRefIdeal.Read.val_main_v17, Cert.AdamBranchRefIdeal.Read.val_main_cst_6, Cert.AdamBranchRefIdeal.Read.val_main_v18, Cert.AdamBranchRefIdeal.Read.val_main_v19, Cert.AdamBranchRefIdeal.Read.val_main_v20, Cert.AdamBranchRefIdeal.Read.val_main_cst_7, Cert.AdamBranchRefIdeal.Read.val_main_v21, Cert.AdamBranchRefIdeal.Read.val_main_v22, Cert.AdamBranchRefIdeal.Read.val_main_v23, Cert.AdamBranchRefIdeal.Read.val_main_cst_8, Cert.AdamBranchRefIdeal.Read.val_main_v24, Cert.AdamBranchRefIdeal.Read.val_main_v25]
  simp only [Cert.AdamBranchRefIdeal.Read.val_main_v1_apply, Fin.sum_univ_eight]
  pointwise [Cert.AdamBranchRefIdeal.Read.val_main_v0, Cert.AdamBranchRefIdeal.Read.val_main_cst]
  blk_point [iblk, V, idx t]

/-- The new second moment, as the array that holds it. -/
theorem final_7 : (dats m 0 c).arrAt 7 cfg0.N
    = Cert.AdamBranchRefIdeal.Read.val_main_v12 (m ((c : Thread nD τ).loc main_arg0)) (m ((c : Thread nD τ).loc main_arg3)) := by
  refine (dats m 0 c).arrAt_eq_of_covers 7 _ (by decide +kernel) fun t hf y => ?_
  blk_simp
  rw [after0_7]
  frame_out
  pointwise [k0_pay1, k0_pay2, k0_pay3, k0_pay4, k0_pay5, Cert.AdamBranchRefIdeal.Read.val_main_cst, Cert.AdamBranchRefIdeal.Read.val_main_cst_0, Cert.AdamBranchRefIdeal.Read.val_main_v2, Cert.AdamBranchRefIdeal.Read.val_main_v3, Cert.AdamBranchRefIdeal.Read.val_main_cst_1, Cert.AdamBranchRefIdeal.Read.val_main_v4, Cert.AdamBranchRefIdeal.Read.val_main_v5, Cert.AdamBranchRefIdeal.Read.val_main_v6, Cert.AdamBranchRefIdeal.Read.val_main_cst_2, Cert.AdamBranchRefIdeal.Read.val_main_v7, Cert.AdamBranchRefIdeal.Read.val_main_v8, Cert.AdamBranchRefIdeal.Read.val_main_v9, Cert.AdamBranchRefIdeal.Read.val_main_cst_3, Cert.AdamBranchRefIdeal.Read.val_main_v10, Cert.AdamBranchRefIdeal.Read.val_main_v11, Cert.AdamBranchRefIdeal.Read.val_main_v12, Cert.AdamBranchRefIdeal.Read.val_main_cst_4, Cert.AdamBranchRefIdeal.Read.val_main_v13, Cert.AdamBranchRefIdeal.Read.val_main_v14, Cert.AdamBranchRefIdeal.Read.val_main_cst_5, Cert.AdamBranchRefIdeal.Read.val_main_v15, Cert.AdamBranchRefIdeal.Read.val_main_v16, Cert.AdamBranchRefIdeal.Read.val_main_v17, Cert.AdamBranchRefIdeal.Read.val_main_cst_6, Cert.AdamBranchRefIdeal.Read.val_main_v18, Cert.AdamBranchRefIdeal.Read.val_main_v19, Cert.AdamBranchRefIdeal.Read.val_main_v20, Cert.AdamBranchRefIdeal.Read.val_main_cst_7, Cert.AdamBranchRefIdeal.Read.val_main_v21, Cert.AdamBranchRefIdeal.Read.val_main_v22, Cert.AdamBranchRefIdeal.Read.val_main_v23, Cert.AdamBranchRefIdeal.Read.val_main_cst_8, Cert.AdamBranchRefIdeal.Read.val_main_v24, Cert.AdamBranchRefIdeal.Read.val_main_v25]
  simp only [Cert.AdamBranchRefIdeal.Read.val_main_v1_apply, Fin.sum_univ_eight]
  pointwise [Cert.AdamBranchRefIdeal.Read.val_main_v0, Cert.AdamBranchRefIdeal.Read.val_main_cst]
  blk_point [iblk, V, idx t]

theorem frame_k : Cert.quiescent_AdamBranch (hAdamBranch := Cert.AdamBranch.Gen.facts) := fun m g _ => Cert.AdamBranch.Gen.frame m g

theorem frame_i : Cert.quiescent_AdamBranchIdeal (hAdamBranchIdeal := Cert.AdamBranchIdeal.Gen.facts) := fun m g _ => Cert.AdamBranchIdeal.Gen.frame m g

theorem frame_r : Cert.quiescent_AdamBranchRefIdeal (hAdamBranchRefIdeal := Cert.AdamBranchRefIdeal.Gen.facts) := fun m g _ =>
  (θ_run Cert.AdamBranchRefIdeal.defs _ _).mono (fun r h => ⟨fun c => (h c).2.2.2.2, Idealize.ShloMosaic.sem_eq_zero_of_no_sems (by decide) r.2⟩) (Cert.AdamBranchRefIdeal.Value.run (F := Ideal) m g)

/-- The call and the reference, run from memories that agree on the arguments, leave the same results. -/
theorem algebraic : Cert.algebraic_AdamBranchIdeal_AdamBranchRefIdeal (hAdamBranchIdeal := Cert.AdamBranchIdeal.Gen.facts) (hAdamBranchRefIdeal := Cert.AdamBranchRefIdeal.Gen.facts) := by
  intro m g m' g' _ hagree
  refine ⟨fun c => Cert.AdamBranchRefIdeal.Read.val_main_v1 (m ((c : Thread nD τ).loc main_arg0)), fun c => Cert.AdamBranchRefIdeal.Read.val_main_v25 (m ((c : Thread nD τ).loc main_arg0)) (m ((c : Thread nD τ).loc main_arg1)) (m ((c : Thread nD τ).loc main_arg2)) (m ((c : Thread nD τ).loc main_arg3)), fun c => Cert.AdamBranchRefIdeal.Read.val_main_v6 (m ((c : Thread nD τ).loc main_arg0)) (m ((c : Thread nD τ).loc main_arg2)), fun c => Cert.AdamBranchRefIdeal.Read.val_main_v12 (m ((c : Thread nD τ).loc main_arg0)) (m ((c : Thread nD τ).loc main_arg3)), ?_, ?_⟩
  · refine (θ_run Cert.AdamBranchIdeal.defs _ _).mono (fun r h c => ?_) (Cert.AdamBranchIdeal.Value.run_blocks (F := Ideal) m g)
    obtain ⟨h0, h1, h2, h3, ha⟩ := h c
    exact ⟨h0.trans (final_4 m c), h1.trans (final_5 m c), h2.trans (final_6 m c), h3.trans (final_7 m c), ha⟩
  · refine (θ_run Cert.AdamBranchRefIdeal.defs _ _).mono (fun r h c => ?_) (Cert.AdamBranchRefIdeal.Value.run (F := Ideal) m' g')
    obtain ⟨h0, h1, h2, h3, ha⟩ := h c
    obtain ⟨e0, e1, e2, e3⟩ := hagree c
    exact ⟨h0.trans (by rw [Cert.AdamBranchRefIdeal.Read.val_main_v1_eq, e0]), h1.trans (by rw [Cert.AdamBranchRefIdeal.Read.val_main_v25_eq, e0, e1, e2, e3]), h2.trans (by rw [Cert.AdamBranchRefIdeal.Read.val_main_v6_eq, e0, e2]), h3.trans (by rw [Cert.AdamBranchRefIdeal.Read.val_main_v12_eq, e0, e3]), ha⟩

end Cert.AdamBranchIdeal.Val
end
-- ==== Proof.AdamFfnValue.lean ====
module

public import proofs.«01_k».proof.Proof.Gen.AdamFfnIdeal.Value
public import proofs.«01_k».proof.Proof.Gen.AdamFfnRefIdeal.Read
public import proofs.«01_k».proof.Defs
public import proofs.«01_k».proof.Proof.Gen.AdamFfn.Frame
public import Idealize.ShloMosaic.Lib.Pipeline.ValueKit

/-! The update of a feed-forward weight shard: the eight parts of the gradient are added, and each row block is updated by itself. -/

@[expose] public section

set_option maxRecDepth 16384

noncomputable section

namespace Cert.AdamFfnIdeal.Val

open Cert.AdamFfnIdeal Cert.AdamFfnIdeal.Gen
open Idealize.ShloMosaic Idealize.ShloMosaic.TcCoe Idealize.ShloMosaic.Pointwise
open Idealize.SL Idealize.SL.Sem

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

variable (m : (ℓ : Loc nD τ sig) → Buf (Elt Ideal) ℓ) (c : Dev nD)

/-- The gradient, as the array that holds it. -/
theorem final_4 : (dats m 0 c).arrAt 4 cfg0.N
    = Cert.AdamFfnRefIdeal.Read.val_main_v1 (m ((c : Thread nD τ).loc main_arg0)) := by
  refine (dats m 0 c).arrAt_eq_of_covers 4 _ (by decide +kernel) fun t hf y => ?_
  blk_simp
  rw [after0_4]
  frame_out
  pointwise [k0_pay1, k0_pay2, k0_pay3, k0_pay4, k0_pay5]
  simp only [Cert.AdamFfnRefIdeal.Read.val_main_v1_apply, Fin.sum_univ_eight]
  pointwise [Cert.AdamFfnRefIdeal.Read.val_main_v0, Cert.AdamFfnRefIdeal.Read.val_main_cst]
  blk_point [iblk, V, idx t]

/-- The step, as the array that holds it. -/
theorem final_5 : (dats m 0 c).arrAt 5 cfg0.N
    = Cert.AdamFfnRefIdeal.Read.val_main_v25 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  pointwise [k0_pay1, k0_pay2, k0_pay3, k0_pay4, k0_pay5, Cert.AdamFfnRefIdeal.Read.val_main_cst, Cert.AdamFfnRefIdeal.Read.val_main_cst_0, Cert.AdamFfnRefIdeal.Read.val_main_v2, Cert.AdamFfnRefIdeal.Read.val_main_v3, Cert.AdamFfnRefIdeal.Read.val_main_cst_1, Cert.AdamFfnRefIdeal.Read.val_main_v4, Cert.AdamFfnRefIdeal.Read.val_main_v5, Cert.AdamFfnRefIdeal.Read.val_main_v6, Cert.AdamFfnRefIdeal.Read.val_main_cst_2, Cert.AdamFfnRefIdeal.Read.val_main_v7, Cert.AdamFfnRefIdeal.Read.val_main_v8, Cert.AdamFfnRefIdeal.Read.val_main_v9, Cert.AdamFfnRefIdeal.Read.val_main_cst_3, Cert.AdamFfnRefIdeal.Read.val_main_v10, Cert.AdamFfnRefIdeal.Read.val_main_v11, Cert.AdamFfnRefIdeal.Read.val_main_v12, Cert.AdamFfnRefIdeal.Read.val_main_cst_4, Cert.AdamFfnRefIdeal.Read.val_main_v13, Cert.AdamFfnRefIdeal.Read.val_main_v14, Cert.AdamFfnRefIdeal.Read.val_main_cst_5, Cert.AdamFfnRefIdeal.Read.val_main_v15, Cert.AdamFfnRefIdeal.Read.val_main_v16, Cert.AdamFfnRefIdeal.Read.val_main_v17, Cert.AdamFfnRefIdeal.Read.val_main_cst_6, Cert.AdamFfnRefIdeal.Read.val_main_v18, Cert.AdamFfnRefIdeal.Read.val_main_v19, Cert.AdamFfnRefIdeal.Read.val_main_v20, Cert.AdamFfnRefIdeal.Read.val_main_cst_7, Cert.AdamFfnRefIdeal.Read.val_main_v21, Cert.AdamFfnRefIdeal.Read.val_main_v22, Cert.AdamFfnRefIdeal.Read.val_main_v23, Cert.AdamFfnRefIdeal.Read.val_main_cst_8, Cert.AdamFfnRefIdeal.Read.val_main_v24, Cert.AdamFfnRefIdeal.Read.val_main_v25]
  simp only [Cert.AdamFfnRefIdeal.Read.val_main_v1_apply, Fin.sum_univ_eight]
  pointwise [Cert.AdamFfnRefIdeal.Read.val_main_v0, Cert.AdamFfnRefIdeal.Read.val_main_cst]
  blk_point [iblk, V, idx t]

/-- The new first moment, as the array that holds it. -/
theorem final_6 : (dats m 0 c).arrAt 6 cfg0.N
    = Cert.AdamFfnRefIdeal.Read.val_main_v6 (m ((c : Thread nD τ).loc main_arg0)) (m ((c : Thread nD τ).loc main_arg2)) := by
  refine (dats m 0 c).arrAt_eq_of_covers 6 _ (by decide +kernel) fun t hf y => ?_
  blk_simp
  rw [after0_6]
  frame_out
  pointwise [k0_pay1, k0_pay2, k0_pay3, k0_pay4, k0_pay5, Cert.AdamFfnRefIdeal.Read.val_main_cst, Cert.AdamFfnRefIdeal.Read.val_main_cst_0, Cert.AdamFfnRefIdeal.Read.val_main_v2, Cert.AdamFfnRefIdeal.Read.val_main_v3, Cert.AdamFfnRefIdeal.Read.val_main_cst_1, Cert.AdamFfnRefIdeal.Read.val_main_v4, Cert.AdamFfnRefIdeal.Read.val_main_v5, Cert.AdamFfnRefIdeal.Read.val_main_v6, Cert.AdamFfnRefIdeal.Read.val_main_cst_2, Cert.AdamFfnRefIdeal.Read.val_main_v7, Cert.AdamFfnRefIdeal.Read.val_main_v8, Cert.AdamFfnRefIdeal.Read.val_main_v9, Cert.AdamFfnRefIdeal.Read.val_main_cst_3, Cert.AdamFfnRefIdeal.Read.val_main_v10, Cert.AdamFfnRefIdeal.Read.val_main_v11, Cert.AdamFfnRefIdeal.Read.val_main_v12, Cert.AdamFfnRefIdeal.Read.val_main_cst_4, Cert.AdamFfnRefIdeal.Read.val_main_v13, Cert.AdamFfnRefIdeal.Read.val_main_v14, Cert.AdamFfnRefIdeal.Read.val_main_cst_5, Cert.AdamFfnRefIdeal.Read.val_main_v15, Cert.AdamFfnRefIdeal.Read.val_main_v16, Cert.AdamFfnRefIdeal.Read.val_main_v17, Cert.AdamFfnRefIdeal.Read.val_main_cst_6, Cert.AdamFfnRefIdeal.Read.val_main_v18, Cert.AdamFfnRefIdeal.Read.val_main_v19, Cert.AdamFfnRefIdeal.Read.val_main_v20, Cert.AdamFfnRefIdeal.Read.val_main_cst_7, Cert.AdamFfnRefIdeal.Read.val_main_v21, Cert.AdamFfnRefIdeal.Read.val_main_v22, Cert.AdamFfnRefIdeal.Read.val_main_v23, Cert.AdamFfnRefIdeal.Read.val_main_cst_8, Cert.AdamFfnRefIdeal.Read.val_main_v24, Cert.AdamFfnRefIdeal.Read.val_main_v25]
  simp only [Cert.AdamFfnRefIdeal.Read.val_main_v1_apply, Fin.sum_univ_eight]
  pointwise [Cert.AdamFfnRefIdeal.Read.val_main_v0, Cert.AdamFfnRefIdeal.Read.val_main_cst]
  blk_point [iblk, V, idx t]

/-- The new second moment, as the array that holds it. -/
theorem final_7 : (dats m 0 c).arrAt 7 cfg0.N
    = Cert.AdamFfnRefIdeal.Read.val_main_v12 (m ((c : Thread nD τ).loc main_arg0)) (m ((c : Thread nD τ).loc main_arg3)) := by
  refine (dats m 0 c).arrAt_eq_of_covers 7 _ (by decide +kernel) fun t hf y => ?_
  blk_simp
  rw [after0_7]
  frame_out
  pointwise [k0_pay1, k0_pay2, k0_pay3, k0_pay4, k0_pay5, Cert.AdamFfnRefIdeal.Read.val_main_cst, Cert.AdamFfnRefIdeal.Read.val_main_cst_0, Cert.AdamFfnRefIdeal.Read.val_main_v2, Cert.AdamFfnRefIdeal.Read.val_main_v3, Cert.AdamFfnRefIdeal.Read.val_main_cst_1, Cert.AdamFfnRefIdeal.Read.val_main_v4, Cert.AdamFfnRefIdeal.Read.val_main_v5, Cert.AdamFfnRefIdeal.Read.val_main_v6, Cert.AdamFfnRefIdeal.Read.val_main_cst_2, Cert.AdamFfnRefIdeal.Read.val_main_v7, Cert.AdamFfnRefIdeal.Read.val_main_v8, Cert.AdamFfnRefIdeal.Read.val_main_v9, Cert.AdamFfnRefIdeal.Read.val_main_cst_3, Cert.AdamFfnRefIdeal.Read.val_main_v10, Cert.AdamFfnRefIdeal.Read.val_main_v11, Cert.AdamFfnRefIdeal.Read.val_main_v12, Cert.AdamFfnRefIdeal.Read.val_main_cst_4, Cert.AdamFfnRefIdeal.Read.val_main_v13, Cert.AdamFfnRefIdeal.Read.val_main_v14, Cert.AdamFfnRefIdeal.Read.val_main_cst_5, Cert.AdamFfnRefIdeal.Read.val_main_v15, Cert.AdamFfnRefIdeal.Read.val_main_v16, Cert.AdamFfnRefIdeal.Read.val_main_v17, Cert.AdamFfnRefIdeal.Read.val_main_cst_6, Cert.AdamFfnRefIdeal.Read.val_main_v18, Cert.AdamFfnRefIdeal.Read.val_main_v19, Cert.AdamFfnRefIdeal.Read.val_main_v20, Cert.AdamFfnRefIdeal.Read.val_main_cst_7, Cert.AdamFfnRefIdeal.Read.val_main_v21, Cert.AdamFfnRefIdeal.Read.val_main_v22, Cert.AdamFfnRefIdeal.Read.val_main_v23, Cert.AdamFfnRefIdeal.Read.val_main_cst_8, Cert.AdamFfnRefIdeal.Read.val_main_v24, Cert.AdamFfnRefIdeal.Read.val_main_v25]
  simp only [Cert.AdamFfnRefIdeal.Read.val_main_v1_apply, Fin.sum_univ_eight]
  pointwise [Cert.AdamFfnRefIdeal.Read.val_main_v0, Cert.AdamFfnRefIdeal.Read.val_main_cst]
  blk_point [iblk, V, idx t]

theorem frame_k : Cert.quiescent_AdamFfn (hAdamFfn := Cert.AdamFfn.Gen.facts) := fun m g _ => Cert.AdamFfn.Gen.frame m g

theorem frame_i : Cert.quiescent_AdamFfnIdeal (hAdamFfnIdeal := Cert.AdamFfnIdeal.Gen.facts) := fun m g _ => Cert.AdamFfnIdeal.Gen.frame m g

theorem frame_r : Cert.quiescent_AdamFfnRefIdeal (hAdamFfnRefIdeal := Cert.AdamFfnRefIdeal.Gen.facts) := fun m g _ =>
  (θ_run Cert.AdamFfnRefIdeal.defs _ _).mono (fun r h => ⟨fun c => (h c).2.2.2.2, Idealize.ShloMosaic.sem_eq_zero_of_no_sems (by decide) r.2⟩) (Cert.AdamFfnRefIdeal.Value.run (F := Ideal) m g)

/-- The call and the reference, run from memories that agree on the arguments, leave the same results. -/
theorem algebraic : Cert.algebraic_AdamFfnIdeal_AdamFfnRefIdeal (hAdamFfnIdeal := Cert.AdamFfnIdeal.Gen.facts) (hAdamFfnRefIdeal := Cert.AdamFfnRefIdeal.Gen.facts) := by
  intro m g m' g' _ hagree
  refine ⟨fun c => Cert.AdamFfnRefIdeal.Read.val_main_v1 (m ((c : Thread nD τ).loc main_arg0)), fun c => Cert.AdamFfnRefIdeal.Read.val_main_v25 (m ((c : Thread nD τ).loc main_arg0)) (m ((c : Thread nD τ).loc main_arg1)) (m ((c : Thread nD τ).loc main_arg2)) (m ((c : Thread nD τ).loc main_arg3)), fun c => Cert.AdamFfnRefIdeal.Read.val_main_v6 (m ((c : Thread nD τ).loc main_arg0)) (m ((c : Thread nD τ).loc main_arg2)), fun c => Cert.AdamFfnRefIdeal.Read.val_main_v12 (m ((c : Thread nD τ).loc main_arg0)) (m ((c : Thread nD τ).loc main_arg3)), ?_, ?_⟩
  · refine (θ_run Cert.AdamFfnIdeal.defs _ _).mono (fun r h c => ?_) (Cert.AdamFfnIdeal.Value.run_blocks (F := Ideal) m g)
    obtain ⟨h0, h1, h2, h3, ha⟩ := h c
    exact ⟨h0.trans (final_4 m c), h1.trans (final_5 m c), h2.trans (final_6 m c), h3.trans (final_7 m c), ha⟩
  · refine (θ_run Cert.AdamFfnRefIdeal.defs _ _).mono (fun r h c => ?_) (Cert.AdamFfnRefIdeal.Value.run (F := Ideal) m' g')
    obtain ⟨h0, h1, h2, h3, ha⟩ := h c
    obtain ⟨e0, e1, e2, e3⟩ := hagree c
    exact ⟨h0.trans (by rw [Cert.AdamFfnRefIdeal.Read.val_main_v1_eq, e0]), h1.trans (by rw [Cert.AdamFfnRefIdeal.Read.val_main_v25_eq, e0, e1, e2, e3]), h2.trans (by rw [Cert.AdamFfnRefIdeal.Read.val_main_v6_eq, e0, e2]), h3.trans (by rw [Cert.AdamFfnRefIdeal.Read.val_main_v12_eq, e0, e3]), ha⟩

end Cert.AdamFfnIdeal.Val
end
-- ==== Proof.AdamSmallValue.lean ====
module

public import proofs.«01_k».proof.Proof.Gen.AdamSmallIdeal.Value
public import proofs.«01_k».proof.Proof.Gen.AdamSmallRefIdeal.Read
public import proofs.«01_k».proof.Defs
public import proofs.«01_k».proof.Proof.Gen.AdamSmall.Frame
public import Idealize.ShloMosaic.Lib.Pipeline.ValueKit

/-! The update of the packed small weights: the eight parts of the gradient are added, and each row block is updated by itself. -/

@[expose] public section

set_option maxRecDepth 16384

noncomputable section

namespace Cert.AdamSmallIdeal.Val

open Cert.AdamSmallIdeal Cert.AdamSmallIdeal.Gen
open Idealize.ShloMosaic Idealize.ShloMosaic.TcCoe Idealize.ShloMosaic.Pointwise
open Idealize.SL Idealize.SL.Sem

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

variable (m : (ℓ : Loc nD τ sig) → Buf (Elt Ideal) ℓ) (c : Dev nD)

/-- The gradient, as the array that holds it. -/
theorem final_4 : (dats m 0 c).arrAt 4 cfg0.N
    = Cert.AdamSmallRefIdeal.Read.val_main_v0 (m ((c : Thread nD τ).loc main_arg0)) := by
  refine (dats m 0 c).arrAt_eq_of_covers 4 _ (by decide +kernel) fun t hf y => ?_
  blk_simp
  rw [after0_4]
  frame_out
  pointwise [k0_pay1, k0_pay2, k0_pay3, k0_pay4, k0_pay5, k0_pay6]
  simp only [Cert.AdamSmallRefIdeal.Read.val_main_v0_apply, Fin.sum_univ_eight]
  pointwise [Cert.AdamSmallRefIdeal.Read.val_main_cst]
  blk_point [iblk, V, idx t]

/-- The step, as the array that holds it. -/
theorem final_5 : (dats m 0 c).arrAt 5 cfg0.N
    = Cert.AdamSmallRefIdeal.Read.val_main_v24 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  pointwise [k0_pay1, k0_pay2, k0_pay3, k0_pay4, k0_pay5, k0_pay6, Cert.AdamSmallRefIdeal.Read.val_main_cst, Cert.AdamSmallRefIdeal.Read.val_main_cst_0, Cert.AdamSmallRefIdeal.Read.val_main_v1, Cert.AdamSmallRefIdeal.Read.val_main_v2, Cert.AdamSmallRefIdeal.Read.val_main_cst_1, Cert.AdamSmallRefIdeal.Read.val_main_v3, Cert.AdamSmallRefIdeal.Read.val_main_v4, Cert.AdamSmallRefIdeal.Read.val_main_v5, Cert.AdamSmallRefIdeal.Read.val_main_cst_2, Cert.AdamSmallRefIdeal.Read.val_main_v6, Cert.AdamSmallRefIdeal.Read.val_main_v7, Cert.AdamSmallRefIdeal.Read.val_main_v8, Cert.AdamSmallRefIdeal.Read.val_main_cst_3, Cert.AdamSmallRefIdeal.Read.val_main_v9, Cert.AdamSmallRefIdeal.Read.val_main_v10, Cert.AdamSmallRefIdeal.Read.val_main_v11, Cert.AdamSmallRefIdeal.Read.val_main_cst_4, Cert.AdamSmallRefIdeal.Read.val_main_v12, Cert.AdamSmallRefIdeal.Read.val_main_v13, Cert.AdamSmallRefIdeal.Read.val_main_cst_5, Cert.AdamSmallRefIdeal.Read.val_main_v14, Cert.AdamSmallRefIdeal.Read.val_main_v15, Cert.AdamSmallRefIdeal.Read.val_main_v16, Cert.AdamSmallRefIdeal.Read.val_main_cst_6, Cert.AdamSmallRefIdeal.Read.val_main_v17, Cert.AdamSmallRefIdeal.Read.val_main_v18, Cert.AdamSmallRefIdeal.Read.val_main_v19, Cert.AdamSmallRefIdeal.Read.val_main_cst_7, Cert.AdamSmallRefIdeal.Read.val_main_v20, Cert.AdamSmallRefIdeal.Read.val_main_v21, Cert.AdamSmallRefIdeal.Read.val_main_v22, Cert.AdamSmallRefIdeal.Read.val_main_cst_8, Cert.AdamSmallRefIdeal.Read.val_main_v23, Cert.AdamSmallRefIdeal.Read.val_main_v24]
  simp only [Cert.AdamSmallRefIdeal.Read.val_main_v0_apply, Fin.sum_univ_eight]
  pointwise [Cert.AdamSmallRefIdeal.Read.val_main_cst]
  blk_point [iblk, V, idx t]

/-- The new first moment, as the array that holds it. -/
theorem final_6 : (dats m 0 c).arrAt 6 cfg0.N
    = Cert.AdamSmallRefIdeal.Read.val_main_v5 (m ((c : Thread nD τ).loc main_arg0)) (m ((c : Thread nD τ).loc main_arg2)) := by
  refine (dats m 0 c).arrAt_eq_of_covers 6 _ (by decide +kernel) fun t hf y => ?_
  blk_simp
  rw [after0_6]
  frame_out
  pointwise [k0_pay1, k0_pay2, k0_pay3, k0_pay4, k0_pay5, k0_pay6, Cert.AdamSmallRefIdeal.Read.val_main_cst, Cert.AdamSmallRefIdeal.Read.val_main_cst_0, Cert.AdamSmallRefIdeal.Read.val_main_v1, Cert.AdamSmallRefIdeal.Read.val_main_v2, Cert.AdamSmallRefIdeal.Read.val_main_cst_1, Cert.AdamSmallRefIdeal.Read.val_main_v3, Cert.AdamSmallRefIdeal.Read.val_main_v4, Cert.AdamSmallRefIdeal.Read.val_main_v5, Cert.AdamSmallRefIdeal.Read.val_main_cst_2, Cert.AdamSmallRefIdeal.Read.val_main_v6, Cert.AdamSmallRefIdeal.Read.val_main_v7, Cert.AdamSmallRefIdeal.Read.val_main_v8, Cert.AdamSmallRefIdeal.Read.val_main_cst_3, Cert.AdamSmallRefIdeal.Read.val_main_v9, Cert.AdamSmallRefIdeal.Read.val_main_v10, Cert.AdamSmallRefIdeal.Read.val_main_v11, Cert.AdamSmallRefIdeal.Read.val_main_cst_4, Cert.AdamSmallRefIdeal.Read.val_main_v12, Cert.AdamSmallRefIdeal.Read.val_main_v13, Cert.AdamSmallRefIdeal.Read.val_main_cst_5, Cert.AdamSmallRefIdeal.Read.val_main_v14, Cert.AdamSmallRefIdeal.Read.val_main_v15, Cert.AdamSmallRefIdeal.Read.val_main_v16, Cert.AdamSmallRefIdeal.Read.val_main_cst_6, Cert.AdamSmallRefIdeal.Read.val_main_v17, Cert.AdamSmallRefIdeal.Read.val_main_v18, Cert.AdamSmallRefIdeal.Read.val_main_v19, Cert.AdamSmallRefIdeal.Read.val_main_cst_7, Cert.AdamSmallRefIdeal.Read.val_main_v20, Cert.AdamSmallRefIdeal.Read.val_main_v21, Cert.AdamSmallRefIdeal.Read.val_main_v22, Cert.AdamSmallRefIdeal.Read.val_main_cst_8, Cert.AdamSmallRefIdeal.Read.val_main_v23, Cert.AdamSmallRefIdeal.Read.val_main_v24]
  simp only [Cert.AdamSmallRefIdeal.Read.val_main_v0_apply, Fin.sum_univ_eight]
  pointwise [Cert.AdamSmallRefIdeal.Read.val_main_cst]
  blk_point [iblk, V, idx t]

/-- The new second moment, as the array that holds it. -/
theorem final_7 : (dats m 0 c).arrAt 7 cfg0.N
    = Cert.AdamSmallRefIdeal.Read.val_main_v11 (m ((c : Thread nD τ).loc main_arg0)) (m ((c : Thread nD τ).loc main_arg3)) := by
  refine (dats m 0 c).arrAt_eq_of_covers 7 _ (by decide +kernel) fun t hf y => ?_
  blk_simp
  rw [after0_7]
  frame_out
  pointwise [k0_pay1, k0_pay2, k0_pay3, k0_pay4, k0_pay5, k0_pay6, Cert.AdamSmallRefIdeal.Read.val_main_cst, Cert.AdamSmallRefIdeal.Read.val_main_cst_0, Cert.AdamSmallRefIdeal.Read.val_main_v1, Cert.AdamSmallRefIdeal.Read.val_main_v2, Cert.AdamSmallRefIdeal.Read.val_main_cst_1, Cert.AdamSmallRefIdeal.Read.val_main_v3, Cert.AdamSmallRefIdeal.Read.val_main_v4, Cert.AdamSmallRefIdeal.Read.val_main_v5, Cert.AdamSmallRefIdeal.Read.val_main_cst_2, Cert.AdamSmallRefIdeal.Read.val_main_v6, Cert.AdamSmallRefIdeal.Read.val_main_v7, Cert.AdamSmallRefIdeal.Read.val_main_v8, Cert.AdamSmallRefIdeal.Read.val_main_cst_3, Cert.AdamSmallRefIdeal.Read.val_main_v9, Cert.AdamSmallRefIdeal.Read.val_main_v10, Cert.AdamSmallRefIdeal.Read.val_main_v11, Cert.AdamSmallRefIdeal.Read.val_main_cst_4, Cert.AdamSmallRefIdeal.Read.val_main_v12, Cert.AdamSmallRefIdeal.Read.val_main_v13, Cert.AdamSmallRefIdeal.Read.val_main_cst_5, Cert.AdamSmallRefIdeal.Read.val_main_v14, Cert.AdamSmallRefIdeal.Read.val_main_v15, Cert.AdamSmallRefIdeal.Read.val_main_v16, Cert.AdamSmallRefIdeal.Read.val_main_cst_6, Cert.AdamSmallRefIdeal.Read.val_main_v17, Cert.AdamSmallRefIdeal.Read.val_main_v18, Cert.AdamSmallRefIdeal.Read.val_main_v19, Cert.AdamSmallRefIdeal.Read.val_main_cst_7, Cert.AdamSmallRefIdeal.Read.val_main_v20, Cert.AdamSmallRefIdeal.Read.val_main_v21, Cert.AdamSmallRefIdeal.Read.val_main_v22, Cert.AdamSmallRefIdeal.Read.val_main_cst_8, Cert.AdamSmallRefIdeal.Read.val_main_v23, Cert.AdamSmallRefIdeal.Read.val_main_v24]
  simp only [Cert.AdamSmallRefIdeal.Read.val_main_v0_apply, Fin.sum_univ_eight]
  pointwise [Cert.AdamSmallRefIdeal.Read.val_main_cst]
  blk_point [iblk, V, idx t]

theorem frame_k : Cert.quiescent_AdamSmall (hAdamSmall := Cert.AdamSmall.Gen.facts) := fun m g _ => Cert.AdamSmall.Gen.frame m g

theorem frame_i : Cert.quiescent_AdamSmallIdeal (hAdamSmallIdeal := Cert.AdamSmallIdeal.Gen.facts) := fun m g _ => Cert.AdamSmallIdeal.Gen.frame m g

theorem frame_r : Cert.quiescent_AdamSmallRefIdeal (hAdamSmallRefIdeal := Cert.AdamSmallRefIdeal.Gen.facts) := fun m g _ =>
  (θ_run Cert.AdamSmallRefIdeal.defs _ _).mono (fun r h => ⟨fun c => (h c).2.2.2.2, Idealize.ShloMosaic.sem_eq_zero_of_no_sems (by decide) r.2⟩) (Cert.AdamSmallRefIdeal.Value.run (F := Ideal) m g)

/-- The call and the reference, run from memories that agree on the arguments, leave the same results. -/
theorem algebraic : Cert.algebraic_AdamSmallIdeal_AdamSmallRefIdeal (hAdamSmallIdeal := Cert.AdamSmallIdeal.Gen.facts) (hAdamSmallRefIdeal := Cert.AdamSmallRefIdeal.Gen.facts) := by
  intro m g m' g' _ hagree
  refine ⟨fun c => Cert.AdamSmallRefIdeal.Read.val_main_v0 (m ((c : Thread nD τ).loc main_arg0)), fun c => Cert.AdamSmallRefIdeal.Read.val_main_v24 (m ((c : Thread nD τ).loc main_arg0)) (m ((c : Thread nD τ).loc main_arg1)) (m ((c : Thread nD τ).loc main_arg2)) (m ((c : Thread nD τ).loc main_arg3)), fun c => Cert.AdamSmallRefIdeal.Read.val_main_v5 (m ((c : Thread nD τ).loc main_arg0)) (m ((c : Thread nD τ).loc main_arg2)), fun c => Cert.AdamSmallRefIdeal.Read.val_main_v11 (m ((c : Thread nD τ).loc main_arg0)) (m ((c : Thread nD τ).loc main_arg3)), ?_, ?_⟩
  · refine (θ_run Cert.AdamSmallIdeal.defs _ _).mono (fun r h c => ?_) (Cert.AdamSmallIdeal.Value.run_blocks (F := Ideal) m g)
    obtain ⟨h0, h1, h2, h3, ha⟩ := h c
    exact ⟨h0.trans (final_4 m c), h1.trans (final_5 m c), h2.trans (final_6 m c), h3.trans (final_7 m c), ha⟩
  · refine (θ_run Cert.AdamSmallRefIdeal.defs _ _).mono (fun r h c => ?_) (Cert.AdamSmallRefIdeal.Value.run (F := Ideal) m' g')
    obtain ⟨h0, h1, h2, h3, ha⟩ := h c
    obtain ⟨e0, e1, e2, e3⟩ := hagree c
    exact ⟨h0.trans (by rw [Cert.AdamSmallRefIdeal.Read.val_main_v0_eq, e0]), h1.trans (by rw [Cert.AdamSmallRefIdeal.Read.val_main_v24_eq, e0, e1, e2, e3]), h2.trans (by rw [Cert.AdamSmallRefIdeal.Read.val_main_v5_eq, e0, e2]), h3.trans (by rw [Cert.AdamSmallRefIdeal.Read.val_main_v11_eq, e0, e3]), ha⟩

end Cert.AdamSmallIdeal.Val
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.RefGrad
public import proofs.«01_k».proof.Proof.Result
public import proofs.«01_k».proof.Proof.Finite
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateIdeal.Value
public import proofs.«01_k».proof.Proof.Gen.GateRefIdeal
public import proofs.«01_k».proof.Proof.Gen.GateRefIdeal.Run
public import proofs.«01_k».proof.Proof.Gen.GateRefIdeal.Read
public import proofs.«01_k».proof.Proof.Gen.Dw
public import proofs.«01_k».proof.Proof.Gen.Dw.Skeleton
public import proofs.«01_k».proof.Proof.Gen.Dw.Launch
public import proofs.«01_k».proof.Proof.Gen.Dw.Points
public import proofs.«01_k».proof.Proof.Gen.Dw.Frame
public import proofs.«01_k».proof.Proof.Gen.DwIdeal
public import proofs.«01_k».proof.Proof.Gen.DwIdeal.Skeleton
public import proofs.«01_k».proof.Proof.Gen.DwIdeal.Launch
public import proofs.«01_k».proof.Proof.Gen.DwIdeal.Points
public import proofs.«01_k».proof.Proof.Gen.DwIdeal.Frame
public import proofs.«01_k».proof.Proof.Gen.DwIdeal.Value
public import proofs.«01_k».proof.Proof.Gen.DwRefIdeal
public import proofs.«01_k».proof.Proof.Gen.DwRefIdeal.Run
public import proofs.«01_k».proof.Proof.Gen.DwRefIdeal.Read
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.UpRefIdeal.Read
public import proofs.«01_k».proof.Proof.Gen.InA
public import proofs.«01_k».proof.Proof.Gen.InA.Skeleton
public import proofs.«01_k».proof.Proof.Gen.InA.Launch
public import proofs.«01_k».proof.Proof.Gen.InA.Points
public import proofs.«01_k».proof.Proof.Gen.InA.Frame
public import proofs.«01_k».proof.Proof.Gen.InAIdeal
public import proofs.«01_k».proof.Proof.Gen.InAIdeal.Skeleton
public import proofs.«01_k».proof.Proof.Gen.InAIdeal.Launch
public import proofs.«01_k».proof.Proof.Gen.InAIdeal.Points
public import proofs.«01_k».proof.Proof.Gen.InAIdeal.Frame
public import proofs.«01_k».proof.Proof.Gen.InAIdeal.Value
public import proofs.«01_k».proof.Proof.Gen.InARefIdeal
public import proofs.«01_k».proof.Proof.Gen.InARefIdeal.Run
public import proofs.«01_k».proof.Proof.Gen.InARefIdeal.Read
public import proofs.«01_k».proof.Proof.Gen.InB
public import proofs.«01_k».proof.Proof.Gen.InB.Skeleton
public import proofs.«01_k».proof.Proof.Gen.InB.Launch
public import proofs.«01_k».proof.Proof.Gen.InB.Points
public import proofs.«01_k».proof.Proof.Gen.InB.Frame
public import proofs.«01_k».proof.Proof.Gen.InBIdeal
public import proofs.«01_k».proof.Proof.Gen.InBIdeal.Skeleton
public import proofs.«01_k».proof.Proof.Gen.InBIdeal.Launch
public import proofs.«01_k».proof.Proof.Gen.InBIdeal.Points
public import proofs.«01_k».proof.Proof.Gen.InBIdeal.Frame
public import proofs.«01_k».proof.Proof.Gen.InBIdeal.Value
public import proofs.«01_k».proof.Proof.Gen.InBRefIdeal
public import proofs.«01_k».proof.Proof.Gen.InBRefIdeal.Run
public import proofs.«01_k».proof.Proof.Gen.InBRefIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Branch
public import proofs.«01_k».proof.Proof.Gen.Branch.Skeleton
public import proofs.«01_k».proof.Proof.Gen.Branch.Launch
public import proofs.«01_k».proof.Proof.Gen.Branch.Points
public import proofs.«01_k».proof.Proof.Gen.Branch.Frame
public import proofs.«01_k».proof.Proof.Gen.BranchIdeal
public import proofs.«01_k».proof.Proof.Gen.BranchIdeal.Skeleton
public import proofs.«01_k».proof.Proof.Gen.BranchIdeal.Launch
public import proofs.«01_k».proof.Proof.Gen.BranchIdeal.Points
public import proofs.«01_k».proof.Proof.Gen.BranchIdeal.Frame
public import proofs.«01_k».proof.Proof.Gen.BranchIdeal.Value
public import proofs.«01_k».proof.Proof.Gen.BranchRefIdeal
public import proofs.«01_k».proof.Proof.Gen.BranchRefIdeal.Run
public import proofs.«01_k».proof.Proof.Gen.BranchRefIdeal.Read
public import proofs.«01_k».proof.Proof.Gen.DwBranch
public import proofs.«01_k».proof.Proof.Gen.DwBranch.Skeleton
public import proofs.«01_k».proof.Proof.Gen.DwBranch.Launch
public import proofs.«01_k».proof.Proof.Gen.DwBranch.Points
public import proofs.«01_k».proof.Proof.Gen.DwBranch.Frame
public import proofs.«01_k».proof.Proof.Gen.DwBranchIdeal
public import proofs.«01_k».proof.Proof.Gen.DwBranchIdeal.Skeleton
public import proofs.«01_k».proof.Proof.Gen.DwBranchIdeal.Launch
public import proofs.«01_k».proof.Proof.Gen.DwBranchIdeal.Points
public import proofs.«01_k».proof.Proof.Gen.DwBranchIdeal.Frame
public import proofs.«01_k».proof.Proof.Gen.DwBranchIdeal.Value
public import proofs.«01_k».proof.Proof.Gen.DwBranchRefIdeal
public import proofs.«01_k».proof.Proof.Gen.DwBranchRefIdeal.Run
public import proofs.«01_k».proof.Proof.Gen.DwBranchRefIdeal.Read
public import proofs.«01_k».proof.Proof.Gen.DwOut
public import proofs.«01_k».proof.Proof.Gen.DwOut.Skeleton
public import proofs.«01_k».proof.Proof.Gen.DwOut.Launch
public import proofs.«01_k».proof.Proof.Gen.DwOut.Points
public import proofs.«01_k».proof.Proof.Gen.DwOut.Frame
public import proofs.«01_k».proof.Proof.Gen.DwOutIdeal
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.DwOutIdeal.Value
public import proofs.«01_k».proof.Proof.Gen.DwOutRefIdeal
public import proofs.«01_k».proof.Proof.Gen.DwOutRefIdeal.Run
public import proofs.«01_k».proof.Proof.Gen.DwOutRefIdeal.Read
public import proofs.«01_k».proof.Proof.Gen.Pre
public import proofs.«01_k».proof.Proof.Gen.Pre.Skeleton
public import proofs.«01_k».proof.Proof.Gen.Pre.Launch
public import proofs.«01_k».proof.Proof.Gen.Pre.Points
public import proofs.«01_k».proof.Proof.Gen.Pre.Frame
public import proofs.«01_k».proof.Proof.Gen.PreIdeal
public import proofs.«01_k».proof.Proof.Gen.PreIdeal.Skeleton
public import proofs.«01_k».proof.Proof.Gen.PreIdeal.Launch
public import proofs.«01_k».proof.Proof.Gen.PreIdeal.Points
public import proofs.«01_k».proof.Proof.Gen.PreIdeal.Frame
public import proofs.«01_k».proof.Proof.Gen.PreIdeal.Value
public import proofs.«01_k».proof.Proof.Gen.PreRefIdeal
public import proofs.«01_k».proof.Proof.Gen.PreRefIdeal.Run
public import proofs.«01_k».proof.Proof.Gen.PreRefIdeal.Read
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Gen.Mid
public import proofs.«01_k».proof.Proof.Gen.Mid.Skeleton
public import proofs.«01_k».proof.Proof.Gen.Mid.Launch
public import proofs.«01_k».proof.Proof.Gen.Mid.Points
public import proofs.«01_k».proof.Proof.Gen.Mid.Frame
public import proofs.«01_k».proof.Proof.Gen.MidIdeal
public import proofs.«01_k».proof.Proof.Gen.MidIdeal.Skeleton
public import proofs.«01_k».proof.Proof.Gen.MidIdeal.Launch
public import proofs.«01_k».proof.Proof.Gen.MidIdeal.Points
public import proofs.«01_k».proof.Proof.Gen.MidIdeal.Frame
public import proofs.«01_k».proof.Proof.Gen.MidIdeal.Value
public import proofs.«01_k».proof.Proof.Gen.MidRefIdeal
public import proofs.«01_k».proof.Proof.Gen.MidRefIdeal.Run
public import proofs.«01_k».proof.Proof.Gen.MidRefIdeal.Read
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamInRefIdeal.Read
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Gen.AdamOutRefIdeal.Read
public import proofs.«01_k».proof.Proof.Gen.AdamBranch
public import proofs.«01_k».proof.Proof.Gen.AdamBranch.Skeleton
public import proofs.«01_k».proof.Proof.Gen.AdamBranch.Launch
public import proofs.«01_k».proof.Proof.Gen.AdamBranch.Points
public import proofs.«01_k».proof.Proof.Gen.AdamBranch.Frame
public import proofs.«01_k».proof.Proof.Gen.AdamBranchIdeal
public import proofs.«01_k».proof.Proof.Gen.AdamBranchIdeal.Skeleton
public import proofs.«01_k».proof.Proof.Gen.AdamBranchIdeal.Launch
public import proofs.«01_k».proof.Proof.Gen.AdamBranchIdeal.Points
public import proofs.«01_k».proof.Proof.Gen.AdamBranchIdeal.Frame
public import proofs.«01_k».proof.Proof.Gen.AdamBranchIdeal.Value
public import proofs.«01_k».proof.Proof.Gen.AdamBranchRefIdeal
public import proofs.«01_k».proof.Proof.Gen.AdamBranchRefIdeal.Run
public import proofs.«01_k».proof.Proof.Gen.AdamBranchRefIdeal.Read
public import proofs.«01_k».proof.Proof.Gen.AdamFfn
public import proofs.«01_k».proof.Proof.Gen.AdamFfn.Skeleton
public import proofs.«01_k».proof.Proof.Gen.AdamFfn.Launch
public import proofs.«01_k».proof.Proof.Gen.AdamFfn.Points
public import proofs.«01_k».proof.Proof.Gen.AdamFfn.Frame
public import proofs.«01_k».proof.Proof.Gen.AdamFfnIdeal
public import proofs.«01_k».proof.Proof.Gen.AdamFfnIdeal.Skeleton
public import proofs.«01_k».proof.Proof.Gen.AdamFfnIdeal.Launch
public import proofs.«01_k».proof.Proof.Gen.AdamFfnIdeal.Points
public import proofs.«01_k».proof.Proof.Gen.AdamFfnIdeal.Frame
public import proofs.«01_k».proof.Proof.Gen.AdamFfnIdeal.Value
public import proofs.«01_k».proof.Proof.Gen.AdamFfnRefIdeal
public import proofs.«01_k».proof.Proof.Gen.AdamFfnRefIdeal.Run
public import proofs.«01_k».proof.Proof.Gen.AdamFfnRefIdeal.Read
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmall.Frame
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Gen.AdamSmallRefIdeal.Read
public import proofs.«01_k».proof.Proof.GateValue
public import proofs.«01_k».proof.Proof.DwValue
public import proofs.«01_k».proof.Proof.UpValue
public import proofs.«01_k».proof.Proof.InAValue
public import proofs.«01_k».proof.Proof.InBValue
public import proofs.«01_k».proof.Proof.ProjValue
public import proofs.«01_k».proof.Proof.BranchValue
public import proofs.«01_k».proof.Proof.DwBranchValue
public import proofs.«01_k».proof.Proof.DwOutValue
public import proofs.«01_k».proof.Proof.PreValue
public import proofs.«01_k».proof.Proof.DownValue
public import proofs.«01_k».proof.Proof.MidValue
public import proofs.«01_k».proof.Proof.LossValue
public import proofs.«01_k».proof.Proof.AdamInValue
public import proofs.«01_k».proof.Proof.AdamOutValue
public import proofs.«01_k».proof.Proof.AdamBranchValue
public import proofs.«01_k».proof.Proof.AdamFfnValue
public import proofs.«01_k».proof.Proof.AdamSmallValue
public import Idealize.ShloMosaic.Adequacy
public import Idealize.ShloMosaic.Init

@[expose] public section

noncomputable section

namespace Cert.Proof

open Idealize.ShloMosaic Idealize.ShloMosaic.TcCoe Idealize.SL Idealize.SL.Sem

theorem frame_k : Cert.quiescent_Kernel (hKernel := Cert.Kernel.Gen.facts) := fun m g _ => Cert.Kernel.Gen.frame m g

theorem frame_ki : Cert.quiescent_KernelIdeal (hKernelIdeal := Cert.KernelIdeal.Gen.facts) := fun m g _ => Cert.KernelIdeal.Gen.frame m g

theorem frame_ki_pre : Cert.quiescent_KernelIdeal_pre_finite_inputs (hKernelIdeal := Cert.KernelIdeal.Gen.facts) (hPre_finite_inputs := Cert.Finite.facts) :=
  fun m g _ => Cert.KernelIdeal.Gen.frame m g

theorem frame_r : Cert.quiescent_ReferenceIdeal (hReferenceIdeal := Cert.ReferenceIdeal.Gen.facts) := fun m g _ =>
  (θ_run Cert.ReferenceIdeal.defs _ _).mono (fun r h => ⟨fun c => (h c).2.2.2, Idealize.ShloMosaic.sem_eq_zero_of_no_sems (by decide) r.2⟩) (Cert.ReferenceIdeal.Value.run (F := Ideal) m g)

theorem frame_r_pre : Cert.quiescent_ReferenceIdeal_pre_finite_inputs (hReferenceIdeal := Cert.ReferenceIdeal.Gen.facts) (hPre_finite_inputs := Cert.Finite.facts) :=
  fun m g _ => frame_r m g trivial

section Values

variable (m : (ℓ : Loc Cert.KernelIdeal.nD Cert.KernelIdeal.τ Cert.KernelIdeal.sig) → Buf (Elt Ideal) ℓ)
  (hpre : Cert.Pre_KernelIdeal_finite_inputs (hPre_finite_inputs := Cert.Finite.facts) m) (c : Dev Cert.KernelIdeal.nD)

/-- The kernel's first argument and its second. -/
abbrev X : (⟨Cert.KernelIdeal.S4096x5888, .bf16⟩ : BufTy).Contents (Elt Ideal) := m ((c : Thread Cert.KernelIdeal.nD Cert.KernelIdeal.τ).loc Cert.KernelIdeal.main_arg0)
abbrev D : (⟨Cert.KernelIdeal.S4096x512, .bf16⟩ : BufTy).Contents (Elt Ideal) := m ((c : Thread Cert.KernelIdeal.nD Cert.KernelIdeal.τ).loc Cert.KernelIdeal.main_arg1)

/-- Both as real matrices. -/
abbrev pr : ℕ → ℕ → ℝ := Cert.Finite.nat2 (m := 4096) (n := 5888) (X m c)
abbrev dr : ℕ → ℕ → ℝ := Cert.Finite.nat2 (m := 4096) (n := 512) (D m c)

include hpre

theorem X_R (j : Cert.KernelIdeal.S4096x5888.Idx) (h0 : 768 ≤ (j 1).val) (h1 : (j 1).val < 2304) :
    X m c j = ((pr m c (j 0).val (j 1).val : ℝ) : EReal) :=
  (Cert.Finite.proj_real (X m c) (D m c) (hpre c).1 j h0 h1).trans (congrArg Real.toEReal (Cert.Finite.nat2_at (m := 4096) (n := 5888) (X m c) j).symm)

theorem D_R (j : Cert.KernelIdeal.S4096x512.Idx) : D m c j = ((dr m c (j 0).val (j 1).val : ℝ) : EReal) :=
  (Cert.Finite.dy_real (X m c) (D m c) (hpre c).2 j).trans (congrArg Real.toEReal (Cert.Finite.nat2_at (m := 4096) (n := 512) (D m c) j).symm)

theorem ref_q : Cert.ReferenceIdeal.Read.val_main_v55 (F := Ideal) (X m c) (D m c) = Cert.KernelIdeal.Sb.DQ (pr m c) (dr m c) :=
  funext fun i => Cert.ReferenceIdeal.Sb.v55_R (Cert.KernelIdeal.Sb.slice_q (X_R m hpre c)) (Cert.KernelIdeal.Sb.slice_k (X_R m hpre c))
    (Cert.KernelIdeal.Sb.slice_v (X_R m hpre c)) (D_R m hpre c) i

theorem ref_k : Cert.ReferenceIdeal.Read.val_main_v56 (F := Ideal) (X m c) (D m c) = Cert.KernelIdeal.Sb.DK (pr m c) (dr m c) :=
  funext fun i => Cert.ReferenceIdeal.Sb.v56_R (Cert.KernelIdeal.Sb.slice_q (X_R m hpre c)) (Cert.KernelIdeal.Sb.slice_k (X_R m hpre c))
    (Cert.KernelIdeal.Sb.slice_v (X_R m hpre c)) (D_R m hpre c) i

theorem ref_v : Cert.ReferenceIdeal.Read.val_main_v57 (F := Ideal) (X m c) (D m c) = Cert.KernelIdeal.Sb.DV (pr m c) (dr m c) :=
  funext fun i => Cert.ReferenceIdeal.Sb.v57_R (Cert.KernelIdeal.Sb.slice_q (X_R m hpre c)) (Cert.KernelIdeal.Sb.slice_k (X_R m hpre c))
    (Cert.KernelIdeal.Sb.slice_v (X_R m hpre c)) (D_R m hpre c) i

end Values

theorem algebraic : Cert.algebraic_KernelIdeal_ReferenceIdeal_pre_finite_inputs (hKernelIdeal := Cert.KernelIdeal.Gen.facts)
    (hReferenceIdeal := Cert.ReferenceIdeal.Gen.facts) (hPre_finite_inputs := Cert.Finite.facts) := by
  intro m g m' g' hpre hagree
  refine ⟨fun c => Cert.KernelIdeal.Sb.DQ (pr m c) (dr m c), fun c => Cert.KernelIdeal.Sb.DK (pr m c) (dr m c),
    fun c => Cert.KernelIdeal.Sb.DV (pr m c) (dr m c), ?_, ?_⟩
  · refine (θ_run Cert.KernelIdeal.defs _ _).mono (fun r h c => ?_) (Cert.KernelIdeal.Value.run_blocks (F := Ideal) m g)
    obtain ⟨h0, h1, h2, ha⟩ := h c
    exact ⟨h0.trans (Cert.KernelIdeal.Sb.final_8 m c (X_R m hpre c) (D_R m hpre c)),
      h1.trans (Cert.KernelIdeal.Sb.final_9 m c (X_R m hpre c) (D_R m hpre c)),
      h2.trans (Cert.KernelIdeal.Sb.final_10 m c (X_R m hpre c) (D_R m hpre c)), ha⟩
  · refine (θ_run Cert.ReferenceIdeal.defs _ _).mono (fun r h c => ?_) (Cert.ReferenceIdeal.Value.run (F := Ideal) m' g')
    obtain ⟨h0, h1, h2, ha⟩ := h c
    obtain ⟨e0, e1⟩ := hagree c
    refine ⟨h0.trans ?_, h1.trans ?_, h2.trans ?_, ha⟩
    · rw [Cert.ReferenceIdeal.Read.val_main_v55_eq, e0, e1]; exact ref_q m hpre c
    · rw [Cert.ReferenceIdeal.Read.val_main_v56_eq, e0, e1]; exact ref_k m hpre c
    · rw [Cert.ReferenceIdeal.Read.val_main_v57_eq, e0, e1]; exact ref_v m hpre c

theorem claim : Cert.Claim := ⟨
  Cert.Kernel.Gen.facts, Cert.KernelIdeal.Gen.facts, Cert.ReferenceIdeal.Gen.facts, Cert.Gate.Gen.facts,
  Cert.GateIdeal.Gen.facts, Cert.GateRefIdeal.Gen.facts, Cert.Dw.Gen.facts, Cert.DwIdeal.Gen.facts,
  Cert.DwRefIdeal.Gen.facts, Cert.Up.Gen.facts, Cert.UpIdeal.Gen.facts, Cert.UpRefIdeal.Gen.facts, Cert.InA.Gen.facts,
  Cert.InAIdeal.Gen.facts, Cert.InARefIdeal.Gen.facts, Cert.InB.Gen.facts, Cert.InBIdeal.Gen.facts,
  Cert.InBRefIdeal.Gen.facts, Cert.Proj.Gen.facts, Cert.ProjIdeal.Gen.facts, Cert.ProjRefIdeal.Gen.facts,
  Cert.Branch.Gen.facts, Cert.BranchIdeal.Gen.facts, Cert.BranchRefIdeal.Gen.facts, Cert.DwBranch.Gen.facts,
  Cert.DwBranchIdeal.Gen.facts, Cert.DwBranchRefIdeal.Gen.facts, Cert.DwOut.Gen.facts, Cert.DwOutIdeal.Gen.facts,
  Cert.DwOutRefIdeal.Gen.facts, Cert.Pre.Gen.facts, Cert.PreIdeal.Gen.facts, Cert.PreRefIdeal.Gen.facts,
  Cert.Down.Gen.facts, Cert.DownIdeal.Gen.facts, Cert.DownRefIdeal.Gen.facts, Cert.Mid.Gen.facts,
  Cert.MidIdeal.Gen.facts, Cert.MidRefIdeal.Gen.facts, Cert.Loss.Gen.facts, Cert.LossIdeal.Gen.facts,
  Cert.LossRefIdeal.Gen.facts, Cert.AdamIn.Gen.facts, Cert.AdamInIdeal.Gen.facts, Cert.AdamInRefIdeal.Gen.facts,
  Cert.AdamOut.Gen.facts, Cert.AdamOutIdeal.Gen.facts, Cert.AdamOutRefIdeal.Gen.facts, Cert.AdamBranch.Gen.facts,
  Cert.AdamBranchIdeal.Gen.facts, Cert.AdamBranchRefIdeal.Gen.facts, Cert.AdamFfn.Gen.facts,
  Cert.AdamFfnIdeal.Gen.facts, Cert.AdamFfnRefIdeal.Gen.facts, Cert.AdamSmall.Gen.facts, Cert.AdamSmallIdeal.Gen.facts,
  Cert.AdamSmallRefIdeal.Gen.facts, Cert.Finite.facts, Cert.DownIdeal.Val.pre_facts,
  frame_k, frame_ki, frame_ki_pre, frame_r, frame_r_pre, Cert.GateIdeal.Val.frame_k, Cert.GateIdeal.Val.frame_i,
  Cert.GateIdeal.Val.frame_r, Cert.DwIdeal.Val.frame_k, Cert.DwIdeal.Val.frame_i, Cert.DwIdeal.Val.frame_r,
  Cert.UpIdeal.Val.frame_k, Cert.UpIdeal.Val.frame_i, Cert.UpIdeal.Val.frame_r, Cert.InAIdeal.Val.frame_k,
  Cert.InAIdeal.Val.frame_i, Cert.InAIdeal.Val.frame_r, Cert.InBIdeal.Val.frame_k, Cert.InBIdeal.Val.frame_i,
  Cert.InBIdeal.Val.frame_r, Cert.ProjIdeal.Val.frame_k, Cert.ProjIdeal.Val.frame_i, Cert.ProjIdeal.Val.frame_r,
  Cert.BranchIdeal.Val.frame_k, Cert.BranchIdeal.Val.frame_i, Cert.BranchIdeal.Val.frame_r,
  Cert.DwBranchIdeal.Val.frame_k, Cert.DwBranchIdeal.Val.frame_i, Cert.DwBranchIdeal.Val.frame_r,
  Cert.DwOutIdeal.Val.frame_k, Cert.DwOutIdeal.Val.frame_i, Cert.DwOutIdeal.Val.frame_r, Cert.PreIdeal.Val.frame_k,
  Cert.PreIdeal.Val.frame_i, Cert.PreIdeal.Val.frame_r, Cert.DownIdeal.Val.frame_k, Cert.DownIdeal.Val.frame_i,
  Cert.DownIdeal.Val.frame_i_pre, Cert.DownIdeal.Val.frame_r, Cert.DownIdeal.Val.frame_r_pre, Cert.MidIdeal.Val.frame_k,
  Cert.MidIdeal.Val.frame_i, Cert.MidIdeal.Val.frame_r, Cert.LossIdeal.Val.frame_k, Cert.LossIdeal.Val.frame_i,
  Cert.LossIdeal.Val.frame_r, Cert.AdamInIdeal.Val.frame_k, Cert.AdamInIdeal.Val.frame_i, Cert.AdamInIdeal.Val.frame_r,
  Cert.AdamOutIdeal.Val.frame_k, Cert.AdamOutIdeal.Val.frame_i, Cert.AdamOutIdeal.Val.frame_r,
  Cert.AdamBranchIdeal.Val.frame_k, Cert.AdamBranchIdeal.Val.frame_i, Cert.AdamBranchIdeal.Val.frame_r,
  Cert.AdamFfnIdeal.Val.frame_k, Cert.AdamFfnIdeal.Val.frame_i, Cert.AdamFfnIdeal.Val.frame_r,
  Cert.AdamSmallIdeal.Val.frame_k, Cert.AdamSmallIdeal.Val.frame_i, Cert.AdamSmallIdeal.Val.frame_r,
  trivial, algebraic, trivial, Cert.GateIdeal.Val.algebraic, trivial, Cert.DwIdeal.Val.algebraic, trivial,
  Cert.UpIdeal.Val.algebraic, trivial, Cert.InAIdeal.Val.algebraic, trivial, Cert.InBIdeal.Val.algebraic, trivial,
  Cert.ProjIdeal.Val.algebraic, trivial, Cert.BranchIdeal.Val.algebraic, trivial, Cert.DwBranchIdeal.Val.algebraic,
  trivial, Cert.DwOutIdeal.Val.algebraic, trivial, Cert.PreIdeal.Val.algebraic, trivial, Cert.DownIdeal.Val.algebraic,
  trivial, Cert.MidIdeal.Val.algebraic, trivial, Cert.LossIdeal.Val.algebraic, trivial, Cert.AdamInIdeal.Val.algebraic,
  trivial, Cert.AdamOutIdeal.Val.algebraic, trivial, Cert.AdamBranchIdeal.Val.algebraic, trivial,
  Cert.AdamFfnIdeal.Val.algebraic, trivial, Cert.AdamSmallIdeal.Val.algebraic⟩

end Cert.Proof

end
